-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_scan_finite [hPre_scan_finite : Cert.Pre_scan_finite.Facts] (m : (ℓ : Loc Cert.ScanIdeal.nD Cert.ScanIdeal.τ Cert.ScanIdeal.sig) → Buf (Elt Ideal) ℓ) : Prop :=
  ∀ c : Dev Cert.ScanIdeal.nD,
    (Cert.Pre_scan_finite.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_scan_finite [hPre_scan_finite : Cert.Pre_scan_finite.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_scan_finite.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideRefIdeal (m : (ℓ : Loc Cert.WideRefIdeal.nD Cert.WideRefIdeal.τ Cert.WideRefIdeal.sig) → Buf (Elt Ideal) ℓ) : Prop :=
  True

def Pre_Group (m : (ℓ : Loc Cert.Group.nD Cert.Group.τ Cert.Group.sig) → Buf (Elt Bits) ℓ) : Prop :=
  True

def Pre_GroupIdeal (m : (ℓ : Loc Cert.GroupIdeal.nD Cert.GroupIdeal.τ Cert.GroupIdeal.sig) → Buf (Elt Ideal) ℓ) : Prop :=
  True

def Pre_GroupRefIdeal (m : (ℓ : Loc Cert.GroupRefIdeal.nD Cert.GroupRefIdeal.τ Cert.GroupRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsIdeal_heads_finite [hPre_heads_finite : Cert.Pre_heads_finite.Facts] (m : (ℓ : Loc Cert.HeadsIdeal.nD Cert.HeadsIdeal.τ Cert.HeadsIdeal.sig) → Buf (Elt Ideal) ℓ) : Prop :=
  ∀ c : Dev Cert.HeadsIdeal.nD,
    (Cert.Pre_heads_finite.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1))) = (fun _ => 1#1)

def Pre_HeadsRefIdeal (m : (ℓ : Loc Cert.HeadsRefIdeal.nD Cert.HeadsRefIdeal.τ Cert.HeadsRefIdeal.sig) → Buf (Elt Ideal) ℓ) : Prop :=
  True

def Pre_HeadsRefIdeal_heads_finite [hPre_heads_finite : Cert.Pre_heads_finite.Facts] (m : (ℓ : Loc Cert.HeadsRefIdeal.nD Cert.HeadsRefIdeal.τ Cert.HeadsRefIdeal.sig) → Buf (Elt Ideal) ℓ) : Prop :=
  ∀ c : Dev Cert.HeadsRefIdeal.nD,
    (Cert.Pre_heads_finite.fn (F := Ideal) (m ((c.tc : Thread Cert.HeadsRefIdeal.nD Cert.HeadsRefIdeal.τ).loc Cert.HeadsRefIdeal.main_arg0)) (m ((c.tc : Thread Cert.HeadsRefIdeal.nD Cert.HeadsRefIdeal.τ).loc Cert.HeadsRefIdeal.main_arg1))) = (fun _ => 1#1)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanIdeal_pre_scan_finite [hScanIdeal : Cert.ScanIdeal.Facts] [hPre_scan_finite : Cert.Pre_scan_finite.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_scan_finite m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5))
      ∧ r.2.sem = fun _ => 0)

def quiescent_ScanRefIdeal_pre_scan_finite [hScanRefIdeal : Cert.ScanRefIdeal.Facts] [hPre_scan_finite : Cert.Pre_scan_finite.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_scan_finite m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ r.2.sem = fun _ => 0)

def quiescent_WideRefIdeal [hWideRefIdeal : Cert.WideRefIdeal.Facts] : Prop :=
  ∀ (m : (ℓ : Loc Cert.WideRefIdeal.nD Cert.WideRefIdeal.τ Cert.WideRefIdeal.sig) → Buf (Elt Ideal) ℓ) (g : Dev Cert.WideRefIdeal.nD → PrngReg), Pre_WideRefIdeal m →
    θ_run (Cert.WideRefIdeal.defs (F := Ideal)) (onTc (τ := Cert.WideRefIdeal.τ) (Cert.WideRefIdeal.main (F := Ideal))) ⟨m, fun _ => 0, g⟩ (fun r => (∀ c : Dev Cert.WideRefIdeal.nD,
      r.2.mem ((c.tc : Thread Cert.WideRefIdeal.nD Cert.WideRefIdeal.τ).loc Cert.WideRefIdeal.main_arg0) = m ((c.tc : Thread Cert.WideRefIdeal.nD Cert.WideRefIdeal.τ).loc Cert.WideRefIdeal.main_arg0)
      ∧ r.2.mem ((c.tc : Thread Cert.WideRefIdeal.nD Cert.WideRefIdeal.τ).loc Cert.WideRefIdeal.main_arg1) = m ((c.tc : Thread Cert.WideRefIdeal.nD Cert.WideRefIdeal.τ).loc Cert.WideRefIdeal.main_arg1))
      ∧ r.2.sem = fun _ => 0)

def quiescent_Group [hGroup : Cert.Group.Facts] : Prop :=
  ∀ (m : (ℓ : Loc Cert.Group.nD Cert.Group.τ Cert.Group.sig) → Buf (Elt Bits) ℓ) (g : Dev Cert.Group.nD → PrngReg), Pre_Group m →
    θ_run (Cert.Group.defs (F := Bits)) (onTc (τ := Cert.Group.τ) (Cert.Group.main (F := Bits))) ⟨m, fun _ => 0, g⟩ (fun r => (∀ c : Dev Cert.Group.nD,
      r.2.mem ((c.tc : Thread Cert.Group.nD Cert.Group.τ).loc Cert.Group.main_arg0) = m ((c.tc : Thread Cert.Group.nD Cert.Group.τ).loc Cert.Group.main_arg0)
      ∧ r.2.mem ((c.tc : Thread Cert.Group.nD Cert.Group.τ).loc Cert.Group.main_arg1) = m ((c.tc : Thread Cert.Group.nD Cert.Group.τ).loc Cert.Group.main_arg1))
      ∧ r.2.sem = fun _ => 0)

def quiescent_GroupIdeal [hGroupIdeal : Cert.GroupIdeal.Facts] : Prop :=
  ∀ (m : (ℓ : Loc Cert.GroupIdeal.nD Cert.GroupIdeal.τ Cert.GroupIdeal.sig) → Buf (Elt Ideal) ℓ) (g : Dev Cert.GroupIdeal.nD → PrngReg), Pre_GroupIdeal m →
    θ_run (Cert.GroupIdeal.defs (F := Ideal)) (onTc (τ := Cert.GroupIdeal.τ) (Cert.GroupIdeal.main (F := Ideal))) ⟨m, fun _ => 0, g⟩ (fun r => (∀ c : Dev Cert.GroupIdeal.nD,
      r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
      ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1))
      ∧ r.2.sem = fun _ => 0)

def quiescent_GroupRefIdeal [hGroupRefIdeal : Cert.GroupRefIdeal.Facts] : Prop :=
  ∀ (m : (ℓ : Loc Cert.GroupRefIdeal.nD Cert.GroupRefIdeal.τ Cert.GroupRefIdeal.sig) → Buf (Elt Ideal) ℓ) (g : Dev Cert.GroupRefIdeal.nD → PrngReg), Pre_GroupRefIdeal m →
    θ_run (Cert.GroupRefIdeal.defs (F := Ideal)) (onTc (τ := Cert.GroupRefIdeal.τ) (Cert.GroupRefIdeal.main (F := Ideal))) ⟨m, fun _ => 0, g⟩ (fun r => (∀ c : Dev Cert.GroupRefIdeal.nD,
      r.2.mem ((c.tc : Thread Cert.GroupRefIdeal.nD Cert.GroupRefIdeal.τ).loc Cert.GroupRefIdeal.main_arg0) = m ((c.tc : Thread Cert.GroupRefIdeal.nD Cert.GroupRefIdeal.τ).loc Cert.GroupRefIdeal.main_arg0)
      ∧ r.2.mem ((c.tc : Thread Cert.GroupRefIdeal.nD Cert.GroupRefIdeal.τ).loc Cert.GroupRefIdeal.main_arg1) = m ((c.tc : Thread Cert.GroupRefIdeal.nD Cert.GroupRefIdeal.τ).loc Cert.GroupRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ r.2.sem = fun _ => 0)

def quiescent_HeadsIdeal_pre_heads_finite [hHeadsIdeal : Cert.HeadsIdeal.Facts] [hPre_heads_finite : Cert.Pre_heads_finite.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal_heads_finite m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ r.2.sem = fun _ => 0)

def quiescent_HeadsRefIdeal [hHeadsRefIdeal : Cert.HeadsRefIdeal.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1))
      ∧ r.2.sem = fun _ => 0)

def quiescent_HeadsRefIdeal_pre_heads_finite [hHeadsRefIdeal : Cert.HeadsRefIdeal.Facts] [hPre_heads_finite : Cert.Pre_heads_finite.Facts] : Prop :=
  ∀ (m : (ℓ : Loc Cert.HeadsRefIdeal.nD Cert.HeadsRefIdeal.τ Cert.HeadsRefIdeal.sig) → Buf (Elt Ideal) ℓ) (g : Dev Cert.HeadsRefIdeal.nD → PrngReg), Pre_HeadsRefIdeal_heads_finite m →
    θ_run (Cert.HeadsRefIdeal.defs (F := Ideal)) (onTc (τ := Cert.HeadsRefIdeal.τ) (Cert.HeadsRefIdeal.main (F := Ideal))) ⟨m, fun _ => 0, g⟩ (fun r => (∀ c : Dev Cert.HeadsRefIdeal.nD,
      r.2.mem ((c.tc : Thread Cert.HeadsRefIdeal.nD Cert.HeadsRefIdeal.τ).loc Cert.HeadsRefIdeal.main_arg0) = m ((c.tc : Thread Cert.HeadsRefIdeal.nD Cert.HeadsRefIdeal.τ).loc Cert.HeadsRefIdeal.main_arg0)
      ∧ r.2.mem ((c.tc : Thread Cert.HeadsRefIdeal.nD Cert.HeadsRefIdeal.τ).loc Cert.HeadsRefIdeal.main_arg1) = m ((c.tc : Thread Cert.HeadsRefIdeal.nD Cert.HeadsRefIdeal.τ).loc Cert.HeadsRefIdeal.main_arg1))
      ∧ r.2.sem = fun _ => 0)

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v40) = v0 c
          ∧ r.2.mem ((c.tc : Thread Cert.NormRefIdeal.nD Cert.NormRefIdeal.τ).loc Cert.NormRefIdeal.main_v38) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v167) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v8_0)) (v1 : (c : Dev Cert.ConvIdeal.nD) → Buf (Elt Ideal) ((c.tc : Thread Cert.ConvIdeal.nD Cert.ConvIdeal.τ).loc Cert.ConvIdeal.main_v8_1)) (v2 : (c : Dev Cert.ConvIdeal.nD) → Buf (Elt Ideal) ((c.tc : Thread Cert.ConvIdeal.nD Cert.ConvIdeal.τ).loc Cert.ConvIdeal.main_v8_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v8_0) = v0 c
          ∧ r.2.mem ((c.tc : Thread Cert.ConvIdeal.nD Cert.ConvIdeal.τ).loc Cert.ConvIdeal.main_v8_1) = v1 c
          ∧ r.2.mem ((c.tc : Thread Cert.ConvIdeal.nD Cert.ConvIdeal.τ).loc Cert.ConvIdeal.main_v8_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v70) = v0 c
          ∧ r.2.mem ((c.tc : Thread Cert.ConvRefIdeal.nD Cert.ConvRefIdeal.τ).loc Cert.ConvRefIdeal.main_v62) = v1 c
          ∧ r.2.mem ((c.tc : Thread Cert.ConvRefIdeal.nD Cert.ConvRefIdeal.τ).loc Cert.ConvRefIdeal.main_v30) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v16_0)) (v1 : (c : Dev Cert.GateIdeal.nD) → Buf (Elt Ideal) ((c.tc : Thread Cert.GateIdeal.nD Cert.GateIdeal.τ).loc Cert.GateIdeal.main_v16_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v16_0) = v0 c
          ∧ r.2.mem ((c.tc : Thread Cert.GateIdeal.nD Cert.GateIdeal.τ).loc Cert.GateIdeal.main_v16_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v13) = v0 c
          ∧ r.2.mem ((c.tc : Thread Cert.GateRefIdeal.nD Cert.GateRefIdeal.τ).loc Cert.GateRefIdeal.main_v16) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v8_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v8_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v13) = v0 c
          ∧ r.2.mem ((c.tc : Thread Cert.MixRefIdeal.nD Cert.MixRefIdeal.τ).loc Cert.MixRefIdeal.main_v18) = v1 c
          ∧ r.2.mem ((c.tc : Thread Cert.MixRefIdeal.nD Cert.MixRefIdeal.τ).loc Cert.MixRefIdeal.main_v10) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_Scan_ScanIdeal : Prop :=
  IdealRules.named_const.Statement Cert.ScanIdeal.κ "mask" .f32 0xF149F2CA#32 ⊥

def algebraic_ScanIdeal_ScanRefIdeal_pre_scan_finite [hScanIdeal : Cert.ScanIdeal.Facts] [hScanRefIdeal : Cert.ScanRefIdeal.Facts] [hPre_scan_finite : Cert.Pre_scan_finite.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_scan_finite m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)) →
    ∃ (v0 : (c : Dev Cert.ScanIdeal.nD) → Buf (Elt Ideal) ((c.tc : Thread Cert.ScanIdeal.nD Cert.ScanIdeal.τ).loc Cert.ScanIdeal.main_v16_0)) (v1 : (c : Dev Cert.ScanIdeal.nD) → Buf (Elt Ideal) ((c.tc : Thread Cert.ScanIdeal.nD Cert.ScanIdeal.τ).loc Cert.ScanIdeal.main_v16_1)) (v2 : (c : Dev Cert.ScanIdeal.nD) → Buf (Elt Ideal) ((c.tc : Thread Cert.ScanIdeal.nD Cert.ScanIdeal.τ).loc Cert.ScanIdeal.main_v16_2)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v16_0) = v0 c
          ∧ r.2.mem ((c.tc : Thread Cert.ScanIdeal.nD Cert.ScanIdeal.τ).loc Cert.ScanIdeal.main_v16_1) = v1 c
          ∧ r.2.mem ((c.tc : Thread Cert.ScanIdeal.nD Cert.ScanIdeal.τ).loc Cert.ScanIdeal.main_v16_2) = v2 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v366) = v0 c
          ∧ r.2.mem ((c.tc : Thread Cert.ScanRefIdeal.nD Cert.ScanRefIdeal.τ).loc Cert.ScanRefIdeal.main_v368) = v1 c
          ∧ r.2.mem ((c.tc : Thread Cert.ScanRefIdeal.nD Cert.ScanRefIdeal.τ).loc Cert.ScanRefIdeal.main_v385) = v2 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v6)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v6) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v24) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)) →
    ∃ (v0 : (c : Dev Cert.PoolFwdIdeal.nD) → Buf (Elt Ideal) ((c.tc : Thread Cert.PoolFwdIdeal.nD Cert.PoolFwdIdeal.τ).loc Cert.PoolFwdIdeal.main_v6)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v6) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v110) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)) →
    ∃ (v0 : (c : Dev Cert.MixFwdIdeal.nD) → Buf (Elt Ideal) ((c.tc : Thread Cert.MixFwdIdeal.nD Cert.MixFwdIdeal.τ).loc Cert.MixFwdIdeal.main_v1_0)) (v1 : (c : Dev Cert.MixFwdIdeal.nD) → Buf (Elt Ideal) ((c.tc : Thread Cert.MixFwdIdeal.nD Cert.MixFwdIdeal.τ).loc Cert.MixFwdIdeal.main_v1_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v1_0) = v0 c
          ∧ r.2.mem ((c.tc : Thread Cert.MixFwdIdeal.nD Cert.MixFwdIdeal.τ).loc Cert.MixFwdIdeal.main_v1_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v4) = v0 c
          ∧ r.2.mem ((c.tc : Thread Cert.MixFwdRefIdeal.nD Cert.MixFwdRefIdeal.τ).loc Cert.MixFwdRefIdeal.main_v9) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v6_0)) (v1 : (c : Dev Cert.GateFwdIdeal.nD) → Buf (Elt Ideal) ((c.tc : Thread Cert.GateFwdIdeal.nD Cert.GateFwdIdeal.τ).loc Cert.GateFwdIdeal.main_v6_1)) (v2 : (c : Dev Cert.GateFwdIdeal.nD) → Buf (Elt Ideal) ((c.tc : Thread Cert.GateFwdIdeal.nD Cert.GateFwdIdeal.τ).loc Cert.GateFwdIdeal.main_v6_2)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v6_0) = v0 c
          ∧ r.2.mem ((c.tc : Thread Cert.GateFwdIdeal.nD Cert.GateFwdIdeal.τ).loc Cert.GateFwdIdeal.main_v6_1) = v1 c
          ∧ r.2.mem ((c.tc : Thread Cert.GateFwdIdeal.nD Cert.GateFwdIdeal.τ).loc Cert.GateFwdIdeal.main_v6_2) = v2 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v4) = v0 c
          ∧ r.2.mem ((c.tc : Thread Cert.GateFwdRefIdeal.nD Cert.GateFwdRefIdeal.τ).loc Cert.GateFwdRefIdeal.main_v6) = v1 c
          ∧ r.2.mem ((c.tc : Thread Cert.GateFwdRefIdeal.nD Cert.GateFwdRefIdeal.τ).loc Cert.GateFwdRefIdeal.main_v11) = v2 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v3) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Wide_WideIdeal : Prop :=
  True

def algebraic_WideIdeal_WideRefIdeal [hWideIdeal : Cert.WideIdeal.Facts] [hWideRefIdeal : Cert.WideRefIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideRefIdeal.nD Cert.WideRefIdeal.τ Cert.WideRefIdeal.sig) → Buf (Elt Ideal) ℓ) (g' : Dev Cert.WideRefIdeal.nD → PrngReg), Pre_WideIdeal m →
    (∀ c : Dev Cert.WideIdeal.nD,
      m' ((c.tc : Thread Cert.WideRefIdeal.nD Cert.WideRefIdeal.τ).loc Cert.WideRefIdeal.main_arg0) = m ((c.tc : Thread Cert.WideIdeal.nD Cert.WideIdeal.τ).loc Cert.WideIdeal.main_arg0)
      ∧ m' ((c.tc : Thread Cert.WideRefIdeal.nD Cert.WideRefIdeal.τ).loc Cert.WideRefIdeal.main_arg1) = m ((c.tc : Thread Cert.WideIdeal.nD Cert.WideIdeal.τ).loc Cert.WideIdeal.main_arg1)) →
    ∃ (v0 : (c : Dev Cert.WideIdeal.nD) → Buf (Elt Ideal) ((c.tc : Thread Cert.WideIdeal.nD Cert.WideIdeal.τ).loc Cert.WideIdeal.main_v0)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v0) = v0 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ θ_run (Cert.WideRefIdeal.defs (F := Ideal)) (onTc (τ := Cert.WideRefIdeal.τ) (Cert.WideRefIdeal.main (F := Ideal))) ⟨m', fun _ => 0, g'⟩ (fun r => ∀ c : Dev Cert.WideRefIdeal.nD,
          r.2.mem ((c.tc : Thread Cert.WideRefIdeal.nD Cert.WideRefIdeal.τ).loc Cert.WideRefIdeal.main_v3) = v0 c
          ∧ r.2.mem ((c.tc : Thread Cert.WideRefIdeal.nD Cert.WideRefIdeal.τ).loc Cert.WideRefIdeal.main_arg0) = m' ((c.tc : Thread Cert.WideRefIdeal.nD Cert.WideRefIdeal.τ).loc Cert.WideRefIdeal.main_arg0)
          ∧ r.2.mem ((c.tc : Thread Cert.WideRefIdeal.nD Cert.WideRefIdeal.τ).loc Cert.WideRefIdeal.main_arg1) = m' ((c.tc : Thread Cert.WideRefIdeal.nD Cert.WideRefIdeal.τ).loc Cert.WideRefIdeal.main_arg1))

def preserves_Group_GroupIdeal : Prop :=
  True

def algebraic_GroupIdeal_GroupRefIdeal [hGroupIdeal : Cert.GroupIdeal.Facts] [hGroupRefIdeal : Cert.GroupRefIdeal.Facts] : Prop :=
  ∀ (m : (ℓ : Loc Cert.GroupIdeal.nD Cert.GroupIdeal.τ Cert.GroupIdeal.sig) → Buf (Elt Ideal) ℓ) (g : Dev Cert.GroupIdeal.nD → PrngReg)
    (m' : (ℓ : Loc Cert.GroupRefIdeal.nD Cert.GroupRefIdeal.τ Cert.GroupRefIdeal.sig) → Buf (Elt Ideal) ℓ) (g' : Dev Cert.GroupRefIdeal.nD → PrngReg), Pre_GroupIdeal m →
    (∀ c : Dev Cert.GroupIdeal.nD,
      m' ((c.tc : Thread Cert.GroupRefIdeal.nD Cert.GroupRefIdeal.τ).loc Cert.GroupRefIdeal.main_arg0) = m ((c.tc : Thread Cert.GroupIdeal.nD Cert.GroupIdeal.τ).loc Cert.GroupIdeal.main_arg0)
      ∧ m' ((c.tc : Thread Cert.GroupRefIdeal.nD Cert.GroupRefIdeal.τ).loc Cert.GroupRefIdeal.main_arg1) = m ((c.tc : Thread Cert.GroupIdeal.nD Cert.GroupIdeal.τ).loc Cert.GroupIdeal.main_arg1)) →
    ∃ (v0 : (c : Dev Cert.GroupIdeal.nD) → Buf (Elt Ideal) ((c.tc : Thread Cert.GroupIdeal.nD Cert.GroupIdeal.τ).loc Cert.GroupIdeal.main_v0)),
      θ_run (Cert.GroupIdeal.defs (F := Ideal)) (onTc (τ := Cert.GroupIdeal.τ) (Cert.GroupIdeal.main (F := Ideal))) ⟨m, fun _ => 0, g⟩ (fun r => ∀ c : Dev Cert.GroupIdeal.nD,
          r.2.mem ((c.tc : Thread Cert.GroupIdeal.nD Cert.GroupIdeal.τ).loc Cert.GroupIdeal.main_v0) = v0 c
          ∧ r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
          ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1))
      ∧ θ_run (Cert.GroupRefIdeal.defs (F := Ideal)) (onTc (τ := Cert.GroupRefIdeal.τ) (Cert.GroupRefIdeal.main (F := Ideal))) ⟨m', fun _ => 0, g'⟩ (fun r => ∀ c : Dev Cert.GroupRefIdeal.nD,
          r.2.mem ((c.tc : Thread Cert.GroupRefIdeal.nD Cert.GroupRefIdeal.τ).loc Cert.GroupRefIdeal.main_v4) = v0 c
          ∧ r.2.mem ((c.tc : Thread Cert.GroupRefIdeal.nD Cert.GroupRefIdeal.τ).loc Cert.GroupRefIdeal.main_arg0) = m' ((c.tc : Thread Cert.GroupRefIdeal.nD Cert.GroupRefIdeal.τ).loc Cert.GroupRefIdeal.main_arg0)
          ∧ r.2.mem ((c.tc : Thread Cert.GroupRefIdeal.nD Cert.GroupRefIdeal.τ).loc Cert.GroupRefIdeal.main_arg1) = m' ((c.tc : Thread Cert.GroupRefIdeal.nD Cert.GroupRefIdeal.τ).loc Cert.GroupRefIdeal.main_arg1))

def preserves_Adam_AdamIdeal : Prop :=
  IdealRules.named_const.Statement Cert.AdamIdeal.κ "c1" .f32 0x3FC48605#32 ((8388608 / 5463681 : ℝ) : EReal)
  ∧ IdealRules.named_const.Statement Cert.AdamIdeal.κ "c2" .f32 0x42C8E6D3#32 ((268435456 / 2672307 : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v2) = v0 c
          ∧ r.2.mem ((c.tc : Thread Cert.AdamRefIdeal.nD Cert.AdamRefIdeal.τ).loc Cert.AdamRefIdeal.main_v26) = v1 c
          ∧ r.2.mem ((c.tc : Thread Cert.AdamRefIdeal.nD Cert.AdamRefIdeal.τ).loc Cert.AdamRefIdeal.main_v7) = v2 c
          ∧ r.2.mem ((c.tc : Thread Cert.AdamRefIdeal.nD Cert.AdamRefIdeal.τ).loc Cert.AdamRefIdeal.main_v13) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Heads_HeadsIdeal : Prop :=
  True

def algebraic_HeadsIdeal_HeadsRefIdeal_pre_heads_finite [hHeadsIdeal : Cert.HeadsIdeal.Facts] [hHeadsRefIdeal : Cert.HeadsRefIdeal.Facts] [hPre_heads_finite : Cert.Pre_heads_finite.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsRefIdeal.nD Cert.HeadsRefIdeal.τ Cert.HeadsRefIdeal.sig) → Buf (Elt Ideal) ℓ) (g' : Dev Cert.HeadsRefIdeal.nD → PrngReg), Pre_HeadsIdeal_heads_finite m →
    (∀ c : Dev Cert.HeadsIdeal.nD,
      m' ((c.tc : Thread Cert.HeadsRefIdeal.nD Cert.HeadsRefIdeal.τ).loc Cert.HeadsRefIdeal.main_arg0) = m ((c.tc : Thread Cert.HeadsIdeal.nD Cert.HeadsIdeal.τ).loc Cert.HeadsIdeal.main_arg0)
      ∧ m' ((c.tc : Thread Cert.HeadsRefIdeal.nD Cert.HeadsRefIdeal.τ).loc Cert.HeadsRefIdeal.main_arg1) = m ((c.tc : Thread Cert.HeadsIdeal.nD Cert.HeadsIdeal.τ).loc Cert.HeadsIdeal.main_arg1)) →
    ∃ (v0 : (c : Dev Cert.HeadsIdeal.nD) → Buf (Elt Ideal) ((c.tc : Thread Cert.HeadsIdeal.nD Cert.HeadsIdeal.τ).loc Cert.HeadsIdeal.main_v0)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v0) = v0 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ θ_run (Cert.HeadsRefIdeal.defs (F := Ideal)) (onTc (τ := Cert.HeadsRefIdeal.τ) (Cert.HeadsRefIdeal.main (F := Ideal))) ⟨m', fun _ => 0, g'⟩ (fun r => ∀ c : Dev Cert.HeadsRefIdeal.nD,
          r.2.mem ((c.tc : Thread Cert.HeadsRefIdeal.nD Cert.HeadsRefIdeal.τ).loc Cert.HeadsRefIdeal.main_v4) = v0 c
          ∧ r.2.mem ((c.tc : Thread Cert.HeadsRefIdeal.nD Cert.HeadsRefIdeal.τ).loc Cert.HeadsRefIdeal.main_arg0) = m' ((c.tc : Thread Cert.HeadsRefIdeal.nD Cert.HeadsRefIdeal.τ).loc Cert.HeadsRefIdeal.main_arg0)
          ∧ r.2.mem ((c.tc : Thread Cert.HeadsRefIdeal.nD Cert.HeadsRefIdeal.τ).loc Cert.HeadsRefIdeal.main_arg1) = m' ((c.tc : Thread Cert.HeadsRefIdeal.nD Cert.HeadsRefIdeal.τ).loc Cert.HeadsRefIdeal.main_arg1))

def Claim : Prop :=
  ∃ (hNorm : Cert.Norm.Facts) (hNormIdeal : Cert.NormIdeal.Facts) (hNormRefIdeal : Cert.NormRefIdeal.Facts) (hPool : Cert.Pool.Facts) (hPoolIdeal : Cert.PoolIdeal.Facts) (hPoolRefIdeal : Cert.PoolRefIdeal.Facts) (hConv : Cert.Conv.Facts) (hConvIdeal : Cert.ConvIdeal.Facts) (hConvRefIdeal : Cert.ConvRefIdeal.Facts) (hLoss : Cert.Loss.Facts) (hLossIdeal : Cert.LossIdeal.Facts) (hLossRefIdeal : Cert.LossRefIdeal.Facts) (hGate : Cert.Gate.Facts) (hGateIdeal : Cert.GateIdeal.Facts) (hGateRefIdeal : Cert.GateRefIdeal.Facts) (hMix : Cert.Mix.Facts) (hMixIdeal : Cert.MixIdeal.Facts) (hMixRefIdeal : Cert.MixRefIdeal.Facts) (hScan : Cert.Scan.Facts) (hScanIdeal : Cert.ScanIdeal.Facts) (hScanRefIdeal : Cert.ScanRefIdeal.Facts) (hNormFwd : Cert.NormFwd.Facts) (hNormFwdIdeal : Cert.NormFwdIdeal.Facts) (hNormFwdRefIdeal : Cert.NormFwdRefIdeal.Facts) (hConvFwd : Cert.ConvFwd.Facts) (hConvFwdIdeal : Cert.ConvFwdIdeal.Facts) (hConvFwdRefIdeal : Cert.ConvFwdRefIdeal.Facts) (hPoolFwd : Cert.PoolFwd.Facts) (hPoolFwdIdeal : Cert.PoolFwdIdeal.Facts) (hPoolFwdRefIdeal : Cert.PoolFwdRefIdeal.Facts) (hMixFwd : Cert.MixFwd.Facts) (hMixFwdIdeal : Cert.MixFwdIdeal.Facts) (hMixFwdRefIdeal : Cert.MixFwdRefIdeal.Facts) (hGateFwd : Cert.GateFwd.Facts) (hGateFwdIdeal : Cert.GateFwdIdeal.Facts) (hGateFwdRefIdeal : Cert.GateFwdRefIdeal.Facts) (hWin : Cert.Win.Facts) (hWinIdeal : Cert.WinIdeal.Facts) (hWinRefIdeal : Cert.WinRefIdeal.Facts) (hDown : Cert.Down.Facts) (hDownIdeal : Cert.DownIdeal.Facts) (hDownRefIdeal : Cert.DownRefIdeal.Facts) (hWide : Cert.Wide.Facts) (hWideIdeal : Cert.WideIdeal.Facts) (hWideRefIdeal : Cert.WideRefIdeal.Facts) (hGroup : Cert.Group.Facts) (hGroupIdeal : Cert.GroupIdeal.Facts) (hGroupRefIdeal : Cert.GroupRefIdeal.Facts) (hAdam : Cert.Adam.Facts) (hAdamIdeal : Cert.AdamIdeal.Facts) (hAdamRefIdeal : Cert.AdamRefIdeal.Facts) (hHeads : Cert.Heads.Facts) (hHeadsIdeal : Cert.HeadsIdeal.Facts) (hHeadsRefIdeal : Cert.HeadsRefIdeal.Facts) (hPre_norm_finite : Cert.Pre_norm_finite.Facts) (hPre_pool_finite : Cert.Pre_pool_finite.Facts) (hPre_conv_finite : Cert.Pre_conv_finite.Facts) (hPre_loss_finite : Cert.Pre_loss_finite.Facts) (hPre_gate_finite : Cert.Pre_gate_finite.Facts) (hPre_scan_finite : Cert.Pre_scan_finite.Facts) (hPre_pool_fwd_finite : Cert.Pre_pool_fwd_finite.Facts) (hPre_heads_finite : Cert.Pre_heads_finite.Facts),
    quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Mix (hMix := hMix)
    ∧ quiescent_MixIdeal (hMixIdeal := hMixIdeal)
    ∧ quiescent_MixRefIdeal (hMixRefIdeal := hMixRefIdeal)
    ∧ quiescent_Scan (hScan := hScan)
    ∧ quiescent_ScanIdeal (hScanIdeal := hScanIdeal)
    ∧ quiescent_ScanIdeal_pre_scan_finite (hScanIdeal := hScanIdeal) (hPre_scan_finite := hPre_scan_finite)
    ∧ quiescent_ScanRefIdeal (hScanRefIdeal := hScanRefIdeal)
    ∧ quiescent_ScanRefIdeal_pre_scan_finite (hScanRefIdeal := hScanRefIdeal) (hPre_scan_finite := hPre_scan_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_Win (hWin := hWin)
    ∧ quiescent_WinIdeal (hWinIdeal := hWinIdeal)
    ∧ quiescent_WinRefIdeal (hWinRefIdeal := hWinRefIdeal)
    ∧ quiescent_Down (hDown := hDown)
    ∧ quiescent_DownIdeal (hDownIdeal := hDownIdeal)
    ∧ quiescent_DownRefIdeal (hDownRefIdeal := hDownRefIdeal)
    ∧ quiescent_Wide (hWide := hWide)
    ∧ quiescent_WideIdeal (hWideIdeal := hWideIdeal)
    ∧ quiescent_WideRefIdeal (hWideRefIdeal := hWideRefIdeal)
    ∧ quiescent_Group (hGroup := hGroup)
    ∧ quiescent_GroupIdeal (hGroupIdeal := hGroupIdeal)
    ∧ quiescent_GroupRefIdeal (hGroupRefIdeal := hGroupRefIdeal)
    ∧ quiescent_Adam (hAdam := hAdam)
    ∧ quiescent_AdamIdeal (hAdamIdeal := hAdamIdeal)
    ∧ quiescent_AdamRefIdeal (hAdamRefIdeal := hAdamRefIdeal)
    ∧ quiescent_Heads (hHeads := hHeads)
    ∧ quiescent_HeadsIdeal (hHeadsIdeal := hHeadsIdeal)
    ∧ quiescent_HeadsIdeal_pre_heads_finite (hHeadsIdeal := hHeadsIdeal) (hPre_heads_finite := hPre_heads_finite)
    ∧ quiescent_HeadsRefIdeal (hHeadsRefIdeal := hHeadsRefIdeal)
    ∧ quiescent_HeadsRefIdeal_pre_heads_finite (hHeadsRefIdeal := hHeadsRefIdeal) (hPre_heads_finite := hPre_heads_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Mix_MixIdeal
    ∧ algebraic_MixIdeal_MixRefIdeal (hMixIdeal := hMixIdeal) (hMixRefIdeal := hMixRefIdeal)
    ∧ preserves_Scan_ScanIdeal
    ∧ algebraic_ScanIdeal_ScanRefIdeal_pre_scan_finite (hScanIdeal := hScanIdeal) (hScanRefIdeal := hScanRefIdeal) (hPre_scan_finite := hPre_scan_finite)
    ∧ preserves_NormFwd_NormFwdIdeal
    ∧ algebraic_NormFwdIdeal_NormFwdRefIdeal (hNormFwdIdeal := hNormFwdIdeal) (hNormFwdRefIdeal := hNormFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
    ∧ preserves_MixFwd_MixFwdIdeal
    ∧ algebraic_MixFwdIdeal_MixFwdRefIdeal (hMixFwdIdeal := hMixFwdIdeal) (hMixFwdRefIdeal := hMixFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_Win_WinIdeal
    ∧ algebraic_WinIdeal_WinRefIdeal (hWinIdeal := hWinIdeal) (hWinRefIdeal := hWinRefIdeal)
    ∧ preserves_Down_DownIdeal
    ∧ algebraic_DownIdeal_DownRefIdeal (hDownIdeal := hDownIdeal) (hDownRefIdeal := hDownRefIdeal)
    ∧ preserves_Wide_WideIdeal
    ∧ algebraic_WideIdeal_WideRefIdeal (hWideIdeal := hWideIdeal) (hWideRefIdeal := hWideRefIdeal)
    ∧ preserves_Group_GroupIdeal
    ∧ algebraic_GroupIdeal_GroupRefIdeal (hGroupIdeal := hGroupIdeal) (hGroupRefIdeal := hGroupRefIdeal)
    ∧ preserves_Adam_AdamIdeal
    ∧ algebraic_AdamIdeal_AdamRefIdeal (hAdamIdeal := hAdamIdeal) (hAdamRefIdeal := hAdamRefIdeal)
    ∧ preserves_Heads_HeadsIdeal
    ∧ algebraic_HeadsIdeal_HeadsRefIdeal_pre_heads_finite (hHeadsIdeal := hHeadsIdeal) (hHeadsRefIdeal := hHeadsRefIdeal) (hPre_heads_finite := hPre_heads_finite)
-- ==== Pre_conv_finite.lean ====
abbrev S8192x7200 : Shape := ⟨2, ![8192, 7200]⟩
abbrev S4x3072 : Shape := ⟨2, ![4, 3072]⟩
abbrev S1x3072 : Shape := ⟨2, ![1, 3072]⟩
abbrev S8192x2048 : Shape := ⟨2, ![8192, 2048]⟩
abbrev S8192x7296 : Shape := ⟨2, ![8192, 7296]⟩
abbrev S_ : Shape := ⟨0, ![]⟩
abbrev S8192x1x2048 : Shape := ⟨3, ![8192, 1, 2048]⟩
abbrev S4x2048 : Shape := ⟨2, ![4, 2048]⟩
abbrev S1x4x2048 : Shape := ⟨3, ![1, 4, 2048]⟩
abbrev S8192x4x2048 : Shape := ⟨3, ![8192, 4, 2048]⟩
abbrev S1x2048 : Shape := ⟨2, ![1, 2048]⟩
abbrev S1x1x2048 : Shape := ⟨3, ![1, 1, 2048]⟩

class Facts : Prop where
  slices_S8192x7200_S8192x2048_0_2048 : S8192x7200.Slices ![0, 2048] S8192x2048
  bcast_S_S8192x2048 : S_.BroadcastsInDim S8192x2048 (![] : Fin 0 → Fin S8192x2048.rank)
  bcast_S8192x2048_S8192x1x2048_0_2 : S8192x2048.BroadcastsInDim S8192x1x2048 (![0, 2] : Fin 2 → Fin S8192x1x2048.rank)
  slices_S4x3072_S4x2048_0_0 : S4x3072.Slices ![0, 0] S4x2048
  bcast_S_S4x2048 : S_.BroadcastsInDim S4x2048 (![] : Fin 0 → Fin S4x2048.rank)
  bcast_S4x2048_S1x4x2048_1_2 : S4x2048.BroadcastsInDim S1x4x2048 (![1, 2] : Fin 2 → Fin S1x4x2048.rank)
  bcast_S8192x1x2048_S8192x4x2048_0_1_2 : S8192x1x2048.BroadcastsInDim S8192x4x2048 (![0, 1, 2] : Fin 3 → Fin S8192x4x2048.rank)
  bcast_S1x4x2048_S8192x4x2048_0_1_2 : S1x4x2048.BroadcastsInDim S8192x4x2048 (![0, 1, 2] : Fin 3 → Fin S8192x4x2048.rank)
  slices_S1x3072_S1x2048_0_0 : S1x3072.Slices ![0, 0] S1x2048
  bcast_S_S1x2048 : S_.BroadcastsInDim S1x2048 (![] : Fin 0 → Fin S1x2048.rank)
  bcast_S1x2048_S1x1x2048_1_2 : S1x2048.BroadcastsInDim S1x1x2048 (![1, 2] : Fin 2 → Fin S1x1x2048.rank)
  bcast_S1x1x2048_S8192x4x2048_0_1_2 : S1x1x2048.BroadcastsInDim S8192x4x2048 (![0, 1, 2] : Fin 3 → Fin S8192x4x2048.rank)

variable [Facts]

def fn_part1 {F : FTy → Type} [FloatOps F] (main_v19 : IVec S8192x4x2048 1) (main_v20 : FVec F S8192x2048 .f32) : IVec S8192x4x2048 1 :=
  let main_cst_2 : FVec F S_ .f32 := constant S_ .f32 0x7F800000#32
  let main_v21 : FVec F S8192x2048 .f32 := broadcastInDim S8192x2048 ![] bcast_S_S8192x2048 main_cst_2
  let main_v22 : IVec S8192x2048 1 := cmpf .olt main_v20 main_v21
  let main_v23 : IVec S8192x1x2048 1 := broadcastInDim S8192x1x2048 ![0, 2] bcast_S8192x2048_S8192x1x2048_0_2 main_v22
  let main_v24 : IVec S8192x4x2048 1 := broadcastInDim S8192x4x2048 ![0, 1, 2] bcast_S8192x1x2048_S8192x4x2048_0_1_2 main_v23
  let main_v25 : IVec S8192x4x2048 1 := andi main_v19 main_v24
  main_v25

def fn {F : FTy → Type} [FloatOps F] (main_arg0 : FVec F S8192x7200 .f32) (main_arg1 : FVec F S4x3072 .f32) (main_arg2 : FVec F S1x3072 .f32) (main_arg3 : FVec F S8192x2048 .f32) (main_arg4 : FVec F S8192x7296 .bf16) : IVec S8192x4x2048 1 :=
  let main_v0 : FVec F S8192x2048 .f32 := (extractStridedSlice S8192x2048 ![0, 2048] · slices_S8192x7200_S8192x2048_0_2048) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : IVec S8192x1x2048 1 := broadcastInDim S8192x1x2048 ![0, 2] bcast_S8192x2048_S8192x1x2048_0_2 main_v3
  let main_v5 : FVec F S4x2048 .f32 := (extractStridedSlice S4x2048 ![0, 0] · slices_S4x3072_S4x2048_0_0) main_arg1
  let main_v6 : FVec F S4x2048 .f32 := Host.absf main_v5
  let main_cst_0 : FVec F S_ .f32 := constant S_ .f32 0x7F800000#32
  let main_v7 : FVec F S4x2048 .f32 := broadcastInDim S4x2048 ![] bcast_S_S4x2048 main_cst_0
  let main_v8 : IVec S4x2048 1 := cmpf .olt main_v6 main_v7
  let main_v9 : IVec S1x4x2048 1 := broadcastInDim S1x4x2048 ![1, 2] bcast_S4x2048_S1x4x2048_1_2 main_v8
  let main_v10 : IVec S8192x4x2048 1 := broadcastInDim S8192x4x2048 ![0, 1, 2] bcast_S8192x1x2048_S8192x4x2048_0_1_2 main_v4
  let main_v11 : IVec S8192x4x2048 1 := broadcastInDim S8192x4x2048 ![0, 1, 2] bcast_S1x4x2048_S8192x4x2048_0_1_2 main_v9
  let main_v12 : IVec S8192x4x2048 1 := andi main_v10 main_v11
  let main_v13 : FVec F S1x2048 .f32 := (extractStridedSlice S1x2048 ![0, 0] · slices_S1x3072_S1x2048_0_0) main_arg2
  let main_v14 : FVec F S1x2048 .f32 := Host.absf main_v13
  let main_cst_1 : FVec F S_ .f32 := constant S_ .f32 0x7F800000#32
  let main_v15 : FVec F S1x2048 .f32 := broadcastInDim S1x2048 ![] bcast_S_S1x2048 main_cst_1
  let main_v16 : IVec S1x2048 1 := cmpf .olt main_v14 main_v15
  let main_v17 : IVec S1x1x2048 1 := broadcastInDim S1x1x2048 ![1, 2] bcast_S1x2048_S1x1x2048_1_2 main_v16
  let main_v18 : IVec S8192x4x2048 1 := broadcastInDim S8192x4x2048 ![0, 1, 2] bcast_S1x1x2048_S8192x4x2048_0_1_2 main_v17
  let main_v19 : IVec S8192x4x2048 1 := andi main_v12 main_v18
  let main_v20 : FVec F S8192x2048 .f32 := Host.absf main_arg3
  fn_part1 (F := F) main_v19 main_v20
-- ==== Pre_gate_finite.lean ====
abbrev S8192x2048 : Shape := ⟨2, ![8192, 2048]⟩
abbrev S2048x5632 : Shape := ⟨2, ![2048, 5632]⟩
abbrev S5632x2048 : Shape := ⟨2, ![5632, 2048]⟩
abbrev S33280x2048 : Shape := ⟨2, ![33280, 2048]⟩
abbrev S_ : Shape := ⟨0, ![]⟩

class Facts : Prop where
  bitsLt_bf16_f32 : FTy.bits .bf16 < FTy.bits .f32
  transposes_S2048x5632_S5632x2048_1_0 : S2048x5632.Transposes [1, 0] S5632x2048
  concatenates_S8192x2048_S8192x2048_S5632x2048_S5632x2048_S5632x2048_S33280x2048_d0 : Shape.Concatenates [S8192x2048, S8192x2048, S5632x2048, S5632x2048, S5632x2048] S33280x2048 0
  bcast_S_S33280x2048 : S_.BroadcastsInDim S33280x2048 (![] : Fin 0 → Fin S33280x2048.rank)

variable [Facts]

def fn {F : FTy → Type} [FloatOps F] (main_arg0 : FVec F S8192x2048 .bf16) (main_arg1 : FVec F S2048x5632 .f32) (main_arg2 : FVec F S2048x5632 .f32) (main_arg3 : FVec F S5632x2048 .f32) (main_arg4 : FVec F S8192x2048 .bf16) : IVec S33280x2048 1 :=
  let main_v0 : FVec F S8192x2048 .f32 := (extf .f32 · bitsLt_bf16_f32) main_arg0
  let main_v1 : FVec F S8192x2048 .f32 := (extf .f32 · bitsLt_bf16_f32) main_arg4
  let main_v2 : FVec F S5632x2048 .f32 := (transpose S5632x2048 [1, 0] · transposes_S2048x5632_S5632x2048_1_0) main_arg1
  let main_v3 : FVec F S5632x2048 .f32 := (transpose S5632x2048 [1, 0] · transposes_S2048x5632_S5632x2048_1_0) main_arg2
  let main_v4 : FVec F S33280x2048 .f32 := concatenate S33280x2048 0 [⟨S8192x2048, main_v0⟩, ⟨S8192x2048, main_v1⟩, ⟨S5632x2048, main_v2⟩, ⟨S5632x2048, main_v3⟩, ⟨S5632x2048, main_arg3⟩] concatenates_S8192x2048_S8192x2048_S5632x2048_S5632x2048_S5632x2048_S33280x2048_d0
  let main_v5 : FVec F S33280x2048 .f32 := Host.absf main_v4
  let main_cst : FVec F S_ .f32 := constant S_ .f32 0x7F800000#32
  let main_v6 : FVec F S33280x2048 .f32 := broadcastInDim S33280x2048 ![] bcast_S_S33280x2048 main_cst
  let main_v7 : IVec S33280x2048 1 := cmpf .olt main_v5 main_v6
  main_v7
-- ==== Pre_heads_finite.lean ====
abbrev S8192x2048 : Shape := ⟨2, ![8192, 2048]⟩
abbrev S8192x7296 : Shape := ⟨2, ![8192, 7296]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x7296 .bf16) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  main_v2
-- ==== Pre_loss_finite.lean ====
abbrev S8192x2048 : Shape := ⟨2, ![8192, 2048]⟩
abbrev S2048 : Shape := ⟨1, ![2048]⟩
abbrev S_ : Shape := ⟨0, ![]⟩
abbrev S1x2048 : Shape := ⟨2, ![1, 2048]⟩

class Facts : Prop where
  bcast_S_S8192x2048 : S_.BroadcastsInDim S8192x2048 (![] : Fin 0 → Fin S8192x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)

variable [Facts]

def fn {F : FTy → Type} [FloatOps F] (main_arg0 : FVec F S8192x2048 .f32) (main_arg1 : FVec F S2048 .f32) (main_arg2 : FVec F S8192x2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : IVec S1x2048 1 := broadcastInDim S1x2048 ![1] bcast_S2048_S1x2048_1 main_v5
  let main_v7 : IVec S8192x2048 1 := broadcastInDim S8192x2048 ![0, 1] bcast_S1x2048_S8192x2048_0_1 main_v6
  let main_v8 : IVec S8192x2048 1 := andi main_v2 main_v7
  let main_v9 : FVec F S8192x2048 .f32 := Host.absf main_arg2
  let main_cst_1 : FVec F S_ .f32 := constant S_ .f32 0x7F800000#32
  let main_v10 : FVec F S8192x2048 .f32 := broadcastInDim S8192x2048 ![] bcast_S_S8192x2048 main_cst_1
  let main_v11 : IVec S8192x2048 1 := cmpf .olt main_v9 main_v10
  let main_v12 : IVec S8192x2048 1 := andi main_v8 main_v11
  main_v12
-- ==== Pre_norm_finite.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  bcast_S1x2048_S8192x2048_0_1 : S1x2048.BroadcastsInDim S8192x2048 (![0, 1] : Fin 2 → Fin S8192x2048.rank)
  bitsLt_bf16_f32 : FTy.bits .bf16 < FTy.bits .f32

variable [Facts]

def fn {F : FTy → Type} [FloatOps F] (main_arg0 : FVec F S8192x2048 .f32) (main_arg1 : FVec F S1x2048 .f32) (main_arg2 : FVec F S8192x2048 .bf16) (main_arg3 : FVec F S8192x2048 .bf16) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : IVec S8192x2048 1 := broadcastInDim S8192x2048 ![0, 1] bcast_S1x2048_S8192x2048_0_1 main_v5
  let main_v7 : IVec S8192x2048 1 := andi main_v2 main_v6
  let main_v8 : FVec F S8192x2048 .f32 := (extf .f32 · bitsLt_bf16_f32) main_arg2
  let main_v9 : FVec F S8192x2048 .f32 := Host.absf main_v8
  let main_cst_1 : FVec F S_ .f32 := constant S_ .f32 0x7F800000#32
  let main_v10 : FVec F S8192x2048 .f32 := broadcastInDim S8192x2048 ![] bcast_S_S8192x2048 main_cst_1
  let main_v11 : IVec S8192x2048 1 := cmpf .olt main_v9 main_v10
  let main_v12 : IVec S8192x2048 1 := andi main_v7 main_v11
  main_v12
-- ==== Pre_pool_finite.lean ====
abbrev S8192x2048 : Shape := ⟨2, ![8192, 2048]⟩
abbrev S8192x7296 : Shape := ⟨2, ![8192, 7296]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .f32) (main_arg2 : FVec F S8192x7296 .bf16) : IVec S8192x2048 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  main_v2
-- ==== Pre_pool_fwd_finite.lean ====
abbrev S8192x7200 : Shape := ⟨2, ![8192, 7200]⟩
abbrev S8192x2048 : Shape := ⟨2, ![8192, 2048]⟩
abbrev S_ : Shape := ⟨0, ![]⟩

class Facts : Prop where
  slices_S8192x7200_S8192x2048_0_5152 : S8192x7200.Slices ![0, 5152] S8192x2048
  bcast_S_S8192x2048 : S_.BroadcastsInDim S8192x2048 (![] : Fin 0 → Fin S8192x2048.rank)

variable [Facts]

def fn {F : FTy → Type} [FloatOps F] (main_arg0 : FVec F S8192x7200 .f32) : IVec S8192x2048 1 :=
  let main_v0 : FVec F S8192x2048 .f32 := (extractStridedSlice S8192x2048 ![0, 5152] · slices_S8192x7200_S8192x2048_0_5152) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  main_v3
-- ==== Pre_scan_finite.lean ====
abbrev S8192x7200 : Shape := ⟨2, ![8192, 7200]⟩
abbrev S8192x3072 : Shape := ⟨2, ![8192, 3072]⟩
abbrev S1x32 : Shape := ⟨2, ![1, 32]⟩
abbrev S1x2048 : Shape := ⟨2, ![1, 2048]⟩
abbrev S8192x32 : Shape := ⟨2, ![8192, 32]⟩
abbrev S8194x32 : Shape := ⟨2, ![8194, 32]⟩
abbrev S_ : Shape := ⟨0, ![]⟩

class Facts : Prop where
  slices_S8192x7200_S8192x32_0_5120 : S8192x7200.Slices ![0, 5120] S8192x32
  concatenates_S8192x32_S1x32_S1x32_S8194x32_d0 : Shape.Concatenates [S8192x32, S1x32, S1x32] S8194x32 0
  bcast_S_S8194x32 : S_.BroadcastsInDim S8194x32 (![] : Fin 0 → Fin S8194x32.rank)

variable [Facts]

def fn {F : FTy → Type} [FloatOps F] (main_arg0 : FVec F S8192x7200 .f32) (main_arg1 : FVec F S8192x3072 .f32) (main_arg2 : FVec F S1x32 .f32) (main_arg3 : FVec F S1x32 .f32) (main_arg4 : FVec F S1x32 .f32) (main_arg5 : FVec F S1x2048 .f32) : IVec S8194x32 1 :=
  let main_v0 : FVec F S8192x32 .f32 := (extractStridedSlice S8192x32 ![0, 5120] · slices_S8192x7200_S8192x32_0_5120) main_arg0
  let main_v1 : FVec F S8194x32 .f32 := concatenate S8194x32 0 [⟨S8192x32, main_v0⟩, ⟨S1x32, main_arg2⟩, ⟨S1x32, main_arg3⟩] concatenates_S8192x32_S1x32_S1x32_S8194x32_d0
  let main_v2 : FVec F S8194x32 .f32 := Host.absf main_v1
  let main_cst : FVec F S_ .f32 := constant S_ .f32 0x7F800000#32
  let main_v3 : FVec F S8194x32 .f32 := broadcastInDim S8194x32 ![] bcast_S_S8194x32 main_cst
  let main_v4 : IVec S8194x32 1 := cmpf .olt main_v2 main_v3
  main_v4
-- ==== Norm.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_14 : BitVec 32 := 0#32
  let v35 : BitVec 1 := Scalar.cmpi .ne v34 c0_i32_14
  v35

def k0_cond2 (i : grid0.Coords) : BitVec 1 :=
  let arg0 : BitVec 32 := BitVec.ofNat 32 (i 0).val
  let c0_i32_15 : BitVec 32 := 0#32
  let v36 : BitVec 1 := Scalar.cmpi .sgt arg0 c0_i32_15
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .bf16⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | .hbm, ⟨52, _⟩ => ⟨S8192x2048, .f32⟩
  | .hbm, ⟨53, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Pool.lean ====
abbrev S8192x2048 : Shape := ⟨2, ![8192, 2048]⟩
abbrev S8192x7296 : Shape := ⟨2, ![8192, 7296]⟩
abbrev S256x2048 : Shape := ⟨2, ![256, 2048]⟩
abbrev S16x2048 : Shape := ⟨2, ![16, 2048]⟩
abbrev S272x2048 : Shape := ⟨2, ![272, 2048]⟩
abbrev S272x1 : Shape := ⟨2, ![272, 1]⟩
abbrev S272x512 : Shape := ⟨2, ![272, 512]⟩
abbrev S256x512 : Shape := ⟨2, ![256, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x7296, .bf16⟩
  | .hbm, ⟨3, _⟩ => ⟨S8192x7296, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S256x2048, .bf16⟩
  | .local _ .vmem, ⟨5, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolRefIdeal.lean ====
abbrev S8192x2048 : Shape := ⟨2, ![8192, 2048]⟩
abbrev S8192x7296 : Shape := ⟨2, ![8192, 7296]⟩
abbrev S_ : Shape := ⟨0, ![]⟩
abbrev S1x2048 : Shape := ⟨2, ![1, 2048]⟩
abbrev S8193x2048 : Shape := ⟨2, ![8193, 2048]⟩
abbrev S8192 : Shape := ⟨1, ![8192]⟩
abbrev S8193x512 : Shape := ⟨2, ![8193, 512]⟩
abbrev S8192x512 : Shape := ⟨2, ![8192, 512]⟩
abbrev S8192x1 : Shape := ⟨2, ![8192, 1]⟩
abbrev S8192x3200 : Shape := ⟨2, ![8192, 3200]⟩

abbrev nBuf : Space → Nat
  | .hbm => 221
  | .vmem => 0
  | .smem => 0
  | _ => 0

abbrev hbmTy0_0 (i : Nat) : BufTy := match i % 128 with
  | 0 => ⟨S8192x2048, .f32⟩
  | 1 => ⟨S8192x2048, .f32⟩
  | 2 => ⟨S8192x7296, .bf16⟩
  | 3 => ⟨S_, .f32⟩
  | 4 => ⟨S1x2048, .f32⟩
  | 5 => ⟨S_, .f32⟩
  | 6 => ⟨S_, .f32⟩
  | 7 => ⟨S8192x2048, .f32⟩
  | 8 => ⟨S8193x2048, .f32⟩
  | 9 => ⟨S_, .f32⟩
  | 10 => ⟨S1x2048, .f32⟩
  | 11 => ⟨S8192, .i32⟩
  | 12 => ⟨S8193x512, .f32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S8192x512, .f32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x512, .f32⟩
  | 32 => ⟨S8192x512, .f32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S8192, .f32⟩
  | 40 => ⟨S8192x1, .f32⟩
  | 41 => ⟨S8192x512, .f32⟩
  | 42 => ⟨S8192x512, .f32⟩
  | 43 => ⟨S8192x512, .f32⟩
  | 44 => ⟨S8192x512, .f32⟩
  | 45 => ⟨S8193x512, .f32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192x512, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S8192x512, .f32⟩
  | 65 => ⟨S8192x512, .f32⟩
  | 66 => ⟨S_, .i32⟩
  | 67 => ⟨S8192, .i32⟩
  | 68 => ⟨S8192, .i32⟩
  | 69 => ⟨S_, .i32⟩
  | 70 => ⟨S8192, .i32⟩
  | 71 => ⟨S8192, .i32⟩
  | 72 => ⟨S8192, .f32⟩
  | 73 => ⟨S8192x1, .f32⟩
  | 74 => ⟨S8192x512, .f32⟩
  | 75 => ⟨S8192x512, .f32⟩
  | 76 => ⟨S8192x512, .f32⟩
  | 77 => ⟨S8192x512, .f32⟩
  | 78 => ⟨S8193x512, .f32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192x512, .f32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S8192x512, .f32⟩
  | 98 => ⟨S8192x512, .f32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .f32⟩
  | 106 => ⟨S8192x1, .f32⟩
  | 107 => ⟨S8192x512, .f32⟩
  | 108 => ⟨S8192x512, .f32⟩
  | 109 => ⟨S8192x512, .f32⟩
  | 110 => ⟨S8192x512, .f32⟩
  | 111 => ⟨S8193x512, .f32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192x512, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x2048, .f32⟩

abbrev hbmTy0_1 (i : Nat) : BufTy := match i % 128 with
  | 0 => ⟨S8192, .i32⟩
  | 1 => ⟨S8192x1, .i32⟩
  | 2 => ⟨S8192x512, .f32⟩
  | 3 => ⟨S8192x512, .f32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S8192, .f32⟩
  | 11 => ⟨S8192x1, .f32⟩
  | 12 => ⟨S8192x512, .f32⟩
  | 13 => ⟨S8192x512, .f32⟩
  | 14 => ⟨S8192x512, .f32⟩
  | 15 => ⟨S8192x512, .f32⟩
  | 16 => ⟨S8192x2048, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S_, .f32⟩
  | 23 => ⟨S8192x2048, .f32⟩
  | 24 => ⟨S8192x512, .f32⟩
  | 25 => ⟨S8192x512, .f32⟩
  | 26 => ⟨S8192x512, .f32⟩
  | 27 => ⟨S_, .f32⟩
  | 28 => ⟨S8193x512, .f32⟩
  | 29 => ⟨S8193x512, .f32⟩
  | 30 => ⟨S_, .f32⟩
  | 31 => ⟨S8193x512, .f32⟩
  | 32 => ⟨S8193x512, .f32⟩
  | 33 => ⟨S_, .f32⟩
  | 34 => ⟨S8193x2048, .f32⟩
  | 35 => ⟨S8192x512, .f32⟩
  | 36 => ⟨S_, .f32⟩
  | 37 => ⟨S8192x2048, .f32⟩
  | 38 => ⟨S8192x2048, .f32⟩
  | 39 => ⟨S8192x512, .f32⟩
  | 40 => ⟨S8192x512, .f32⟩
  | 41 => ⟨S8192x512, .f32⟩
  | 42 => ⟨S_, .f32⟩
  | 43 => ⟨S8193x512, .f32⟩
  | 44 => ⟨S8193x512, .f32⟩
  | 45 => ⟨S_, .f32⟩
  | 46 => ⟨S8193x512, .f32⟩
  | 47 => ⟨S8193x512, .f32⟩
  | 48 => ⟨S_, .f32⟩
  | 49 => ⟨S8193x2048, .f32⟩
  | 50 => ⟨S8193x2048, .f32⟩
  | 51 => ⟨S8192x512, .f32⟩
  | 52 => ⟨S_, .f32⟩
  | 53 => ⟨S8192x2048, .f32⟩
  | 54 => ⟨S8192x2048, .f32⟩
  | 55 => ⟨S8192x512, .f32⟩
  | 56 => ⟨S8192x512, .f32⟩
  | 57 => ⟨S8192x512, .f32⟩
  | 58 => ⟨S_, .f32⟩
  | 59 => ⟨S8193x512, .f32⟩
  | 60 => ⟨S8193x512, .f32⟩
  | 61 => ⟨S_, .f32⟩
  | 62 => ⟨S8193x512, .f32⟩
  | 63 => ⟨S8193x512, .f32⟩
  | 64 => ⟨S_, .f32⟩
  | 65 => ⟨S8193x2048, .f32⟩
  | 66 => ⟨S8193x2048, .f32⟩
  | 67 => ⟨S8192x512, .f32⟩
  | 68 => ⟨S_, .f32⟩
  | 69 => ⟨S8192x2048, .f32⟩
  | 70 => ⟨S8192x2048, .f32⟩
  | 71 => ⟨S8192x512, .f32⟩
  | 72 => ⟨S8192x512, .f32⟩
  | 73 => ⟨S8192x512, .f32⟩
  | 74 => ⟨S_, .f32⟩
  | 75 => ⟨S8193x512, .f32⟩
  | 76 => ⟨S8193x512, .f32⟩
  | 77 => ⟨S_, .f32⟩
  | 78 => ⟨S8193x512, .f32⟩
  | 79 => ⟨S8193x512, .f32⟩
  | 80 => ⟨S_, .f32⟩
  | 81 => ⟨S8193x2048, .f32⟩
  | 82 => ⟨S8193x2048, .f32⟩
  | 83 => ⟨S1x2048, .f32⟩
  | 84 => ⟨S8192x2048, .f32⟩
  | 85 => ⟨S_, .f32⟩
  | 86 => ⟨S_, .f32⟩
  | 87 => ⟨S8192x2048, .f32⟩
  | 88 => ⟨S8192x2048, .f32⟩
  | 89 => ⟨S8192x2048, .bf16⟩
  | 90 => ⟨S8192x2048, .bf16⟩
  | 91 => ⟨S8192x3200, .bf16⟩
  | 92 => ⟨S8192x7296, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_10 : Ref sig .tc := ⟨.hbm, 56, rfl⟩
abbrev main_v39 : Ref sig .tc := ⟨.hbm, 57, rfl⟩
abbrev main_v40 : Ref sig .tc := ⟨.hbm, 58, rfl⟩
abbrev main_c_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_12 : Ref sig .tc := ⟨.hbm, 66, rfl⟩
abbrev main_v47 : Ref sig .tc := ⟨.hbm, 67, rfl⟩
abbrev main_v48 : Ref sig .tc := ⟨.hbm, 68, rfl⟩
abbrev main_c_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_14 : Ref sig .tc := ⟨.hbm, 79, rfl⟩
abbrev main_v58 : Ref sig .tc := ⟨.hbm, 80, rfl⟩
abbrev main_v59 : Ref sig .tc := ⟨.hbm, 81, rfl⟩
abbrev main_c_15 : Ref sig .tc := ⟨.hbm, 82, rfl⟩
abbrev main_v60 : Ref sig .tc := ⟨.hbm, 83, rfl⟩
abbrev main_v61 : Ref sig .tc := ⟨.hbm, 84, rfl⟩
abbrev main_c_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_17 : Ref sig .tc := ⟨.hbm, 89, rfl⟩
abbrev main_v65 : Ref sig .tc := ⟨.hbm, 90, rfl⟩
abbrev main_v66 : Ref sig .tc := ⟨.hbm, 91, rfl⟩
abbrev main_c_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_19 : Ref sig .tc := ⟨.hbm, 99, rfl⟩
abbrev main_v73 : Ref sig .tc := ⟨.hbm, 100, rfl⟩
abbrev main_v74 : Ref sig .tc := ⟨.hbm, 101, rfl⟩
abbrev main_c_20 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_21 : Ref sig .tc := ⟨.hbm, 112, rfl⟩
abbrev main_v84 : Ref sig .tc := ⟨.hbm, 113, rfl⟩
abbrev main_v85 : Ref sig .tc := ⟨.hbm, 114, rfl⟩
abbrev main_c_22 : Ref sig .tc := ⟨.hbm, 115, rfl⟩
abbrev main_v86 : Ref sig .tc := ⟨.hbm, 116, rfl⟩
abbrev main_v87 : Ref sig .tc := ⟨.hbm, 117, rfl⟩
abbrev main_c_23 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_24 : Ref sig .tc := ⟨.hbm, 122, rfl⟩
abbrev main_v91 : Ref sig .tc := ⟨.hbm, 123, rfl⟩
abbrev main_v92 : Ref sig .tc := ⟨.hbm, 124, rfl⟩
abbrev main_c_25 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_26 : Ref sig .tc := ⟨.hbm, 132, rfl⟩
abbrev main_v99 : Ref sig .tc := ⟨.hbm, 133, rfl⟩
abbrev main_v100 : Ref sig .tc := ⟨.hbm, 134, rfl⟩
abbrev main_c_27 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_28 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_29 : Ref sig .tc := ⟨.hbm, 155, rfl⟩
abbrev main_v119 : Ref sig .tc := ⟨.hbm, 156, rfl⟩
abbrev main_v120 : Ref sig .tc := ⟨.hbm, 157, rfl⟩
abbrev main_cst_30 : Ref sig .tc := ⟨.hbm, 158, rfl⟩
abbrev main_v121 : Ref sig .tc := ⟨.hbm, 159, rfl⟩
abbrev main_v122 : Ref sig .tc := ⟨.hbm, 160, rfl⟩
abbrev main_cst_31 : Ref sig .tc := ⟨.hbm, 161, rfl⟩
abbrev main_v123 : Ref sig .tc := ⟨.hbm, 162, rfl⟩
abbrev main_v124 : Ref sig .tc := ⟨.hbm, 163, rfl⟩
abbrev main_cst_32 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_33 : Ref sig .tc := ⟨.hbm, 170, rfl⟩
abbrev main_v130 : Ref sig .tc := ⟨.hbm, 171, rfl⟩
abbrev main_v131 : Ref sig .tc := ⟨.hbm, 172, rfl⟩
abbrev main_cst_34 : Ref sig .tc := ⟨.hbm, 173, rfl⟩
abbrev main_v132 : Ref sig .tc := ⟨.hbm, 174, rfl⟩
abbrev main_v133 : Ref sig .tc := ⟨.hbm, 175, rfl⟩
abbrev main_cst_35 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_36 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_37 : Ref sig .tc := ⟨.hbm, 186, rfl⟩
abbrev main_v142 : Ref sig .tc := ⟨.hbm, 187, rfl⟩
abbrev main_v143 : Ref sig .tc := ⟨.hbm, 188, rfl⟩
abbrev main_cst_38 : Ref sig .tc := ⟨.hbm, 189, rfl⟩
abbrev main_v144 : Ref sig .tc := ⟨.hbm, 190, rfl⟩
abbrev main_v145 : Ref sig .tc := ⟨.hbm, 191, rfl⟩
abbrev main_cst_39 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_40 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_cst_41 : Ref sig .tc := ⟨.hbm, 202, rfl⟩
abbrev main_v154 : Ref sig .tc := ⟨.hbm, 203, rfl⟩
abbrev main_v155 : Ref sig .tc := ⟨.hbm, 204, rfl⟩
abbrev main_cst_42 : Ref sig .tc := ⟨.hbm, 205, rfl⟩
abbrev main_v156 : Ref sig .tc := ⟨.hbm, 206, rfl⟩
abbrev main_v157 : Ref sig .tc := ⟨.hbm, 207, rfl⟩
abbrev main_cst_43 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_call1_call0_cst : Ref sig .tc := ⟨.hbm, 213, rfl⟩
abbrev main_call1_call0_v0 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩

abbrev nD : Nat := 1
abbrev τ : Topo := Topo.v7x

variable {F : FTy → Type} [FloatOps F]
-- ==== Conv.lean ====
abbrev S8192x7200 : Shape := ⟨2, ![8192, 7200]⟩
abbrev S4x3072 : Shape := ⟨2, ![4, 3072]⟩
abbrev S1x3072 : Shape := ⟨2, ![1, 3072]⟩
abbrev S8192x2048 : Shape := ⟨2, ![8192, 2048]⟩
abbrev S8192x7296 : Shape := ⟨2, ![8192, 7296]⟩
abbrev S8192x3072 : Shape := ⟨2, ![8192, 3072]⟩
abbrev S8192x32 : Shape := ⟨2, ![8192, 32]⟩
abbrev S_ : Shape := ⟨0, ![]⟩
abbrev S8192x96 : Shape := ⟨2, ![8192, 96]⟩
abbrev S4x2048 : Shape := ⟨2, ![4, 2048]⟩
abbrev S1x2048 : Shape := ⟨2, ![1, 2048]⟩
abbrev S512x1024 : Shape := ⟨2, ![512, 1024]⟩
abbrev S8x1024 : Shape := ⟨2, ![8, 1024]⟩
abbrev S4x1024 : Shape := ⟨2, ![4, 1024]⟩
abbrev S1x1024 : Shape := ⟨2, ![1, 1024]⟩
abbrev S528x1024 : Shape := ⟨2, ![528, 1024]⟩
abbrev S520x1024 : Shape := ⟨2, ![520, 1024]⟩
abbrev S1024 : Shape := ⟨1, ![1024]⟩

abbrev nBuf : Space → Nat
  | .hbm => 17
  | .vmem => 20
  | .smem => 0
  | _ => 0

abbrev bufTy : (tb : Table) → Fin (tcTables nBuf tb) → BufTy
  | .hbm, ⟨0, _⟩ => ⟨S8192x7200, .f32⟩
  | .hbm, ⟨1, _⟩ => ⟨S4x3072, .f32⟩
  | .hbm, ⟨2, _⟩ => ⟨S1x3072, .f32⟩
  | .hbm, ⟨3, _⟩ => ⟨S8192x2048, .f32⟩
  | .hbm, ⟨4, _⟩ => ⟨S8192x7296, .bf16⟩
  | .hbm, ⟨5, _⟩ => ⟨S8192x2048, .f32⟩
  | .hbm, ⟨6, _⟩ => ⟨S8192x2048, .f32⟩
  | .hbm, ⟨7, _⟩ => ⟨S8192x3072, .f32⟩
  | .hbm, ⟨8, _⟩ => ⟨S8192x32, .f32⟩
  | .hbm, ⟨9, _⟩ => ⟨S_, .f32⟩
  | .hbm, ⟨10, _⟩ => ⟨S8192x96, .f32⟩
  | .hbm, ⟨11, _⟩ => ⟨S8192x7296, .f32⟩
  | .hbm, ⟨12, _⟩ => ⟨S4x2048, .f32⟩
  | .hbm, ⟨13, _⟩ => ⟨S1x2048, .f32⟩
  | .hbm, ⟨14, _⟩ => ⟨S8192x7296, .bf16⟩
  | .hbm, ⟨15, _⟩ => ⟨S4x2048, .f32⟩
  | .hbm, ⟨16, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S4x1024, .f32⟩
  | .local _ .vmem, ⟨11, _⟩ => ⟨S4x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S4x1024, .f32⟩
  | .local _ .vmem, ⟨17, _⟩ => ⟨S4x1024, .f32⟩
  | .local _ .vmem, ⟨18, _⟩ => ⟨S1x1024, .f32⟩
  | .local _ .vmem, ⟨19, _⟩ => ⟨S1x1024, .f32⟩
  | _, _ => ⟨S8192x7200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32_40 : BitVec 32 := 0#32
  let v105 : BitVec 1 := Scalar.cmpi .eq arg1 c0_i32_40
  let v106 : BitVec 32 := Scalar.extui v105
  let c0_i32_41 : BitVec 32 := 0#32
  let v107 : BitVec 1 := Scalar.cmpi .ne v106 c0_i32_41
  v107

def k0_cond2 (i : grid0.Coords) : BitVec 1 :=
  let arg1 : BitVec 32 := BitVec.ofNat 32 (i 1).val
  let c0_i32_42 : BitVec 32 := 0#32
  let v108 : BitVec 1 := Scalar.cmpi .sgt arg1 c0_i32_42
  let v109 : BitVec 32 := Scalar.extui v108
  let c0_i32_43 : BitVec 32 := 0#32
  let v110 : BitVec 1 := Scalar.cmpi .ne v109 c0_i32_43
  v110

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c4_i32 : BitVec 32 := 4#32
  let v3 : BitVec 32 := Scalar.addi c4_i32 arg0
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvRefIdeal.lean ====
abbrev S8192x7200 : Shape := ⟨2, ![8192, 7200]⟩
abbrev S4x3072 : Shape := ⟨2, ![4, 3072]⟩
abbrev S1x3072 : Shape := ⟨2, ![1, 3072]⟩
abbrev S8192x2048 : Shape := ⟨2, ![8192, 2048]⟩
abbrev S8192x7296 : Shape := ⟨2, ![8192, 7296]⟩
abbrev S4x2048 : Shape := ⟨2, ![4, 2048]⟩
abbrev S1x2048 : Shape := ⟨2, ![1, 2048]⟩
abbrev S_ : Shape := ⟨0, ![]⟩
abbrev S3x2048 : Shape := ⟨2, ![3, 2048]⟩
abbrev S8195x2048 : Shape := ⟨2, ![8195, 2048]⟩
abbrev S2048 : Shape := ⟨1, ![2048]⟩
abbrev S8192x4096 : Shape := ⟨2, ![8192, 4096]⟩
abbrev S8192x1152 : Shape := ⟨2, ![8192, 1152]⟩

abbrev nBuf : Space → Nat
  | .hbm => 106
  | .vmem => 0
  | .smem => 0
  | _ => 0

abbrev bufTy : (tb : Table) → Fin (tcTables nBuf tb) → BufTy
  | .hbm, ⟨0, _⟩ => ⟨S8192x7200, .f32⟩
  | .hbm, ⟨1, _⟩ => ⟨S4x3072, .f32⟩
  | .hbm, ⟨2, _⟩ => ⟨S1x3072, .f32⟩
  | .hbm, ⟨3, _⟩ => ⟨S8192x2048, .f32⟩
  | .hbm, ⟨4, _⟩ => ⟨S8192x7296, .bf16⟩
  | .hbm, ⟨5, _⟩ => ⟨S8192x2048, .f32⟩
  | .hbm, ⟨6, _⟩ => ⟨S4x2048, .f32⟩
  | .hbm, ⟨7, _⟩ => ⟨S1x2048, .f32⟩
  | .hbm, ⟨8, _⟩ => ⟨S_, .f32⟩
  | .hbm, ⟨9, _⟩ => ⟨S3x2048, .f32⟩
  | .hbm, ⟨10, _⟩ => ⟨S8195x2048, .f32⟩
  | .hbm, ⟨11, _⟩ => ⟨S_, .f32⟩
  | .hbm, ⟨12, _⟩ => ⟨S3x2048, .f32⟩
  | .hbm, ⟨13, _⟩ => ⟨S8192x2048, .f32⟩
  | .hbm, ⟨14, _⟩ => ⟨S1x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S4x2048, .f32⟩
  | .hbm, ⟨62, _⟩ => ⟨S_, .f32⟩
  | .hbm, ⟨63, _⟩ => ⟨S8195x2048, .f32⟩
  | .hbm, ⟨64, _⟩ => ⟨S8192x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S4x2048, .f32⟩
  | .hbm, ⟨72, _⟩ => ⟨S4x2048, .f32⟩
  | .hbm, ⟨73, _⟩ => ⟨S_, .f32⟩
  | .hbm, ⟨74, _⟩ => ⟨S8195x2048, .f32⟩
  | .hbm, ⟨75, _⟩ => ⟨S8195x2048, .f32⟩
  | .hbm, ⟨76, _⟩ => ⟨S8192x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S4x2048, .f32⟩
  | .hbm, ⟨84, _⟩ => ⟨S4x2048, .f32⟩
  | .hbm, ⟨85, _⟩ => ⟨S_, .f32⟩
  | .hbm, ⟨86, _⟩ => ⟨S8195x2048, .f32⟩
  | .hbm, ⟨87, _⟩ => ⟨S8195x2048, .f32⟩
  | .hbm, ⟨88, _⟩ => ⟨S8192x2048, .f32⟩
  | .hbm, ⟨89, _⟩ => ⟨S_, .f32⟩
  | .hbm, ⟨90, _⟩ => ⟨S2048, .f32⟩
  | .hbm, ⟨91, _⟩ => ⟨S1x2048, .f32⟩
  | .hbm, ⟨92, _⟩ => ⟨S8192x2048, .f32⟩
  | .hbm, ⟨93, _⟩ => ⟨S8192x2048, .f32⟩
  | .hbm, ⟨94, _⟩ => ⟨S_, .f32⟩
  | .hbm, ⟨95, _⟩ => ⟨S4x2048, .f32⟩
  | .hbm, ⟨96, _⟩ => ⟨S4x2048, .f32⟩
  | .hbm, ⟨97, _⟩ => ⟨S_, .f32⟩
  | .hbm, ⟨98, _⟩ => ⟨S8195x2048, .f32⟩
  | .hbm, ⟨99, _⟩ => ⟨S8195x2048, .f32⟩
  | .hbm, ⟨100, _⟩ => ⟨S3x2048, .f32⟩
  | .hbm, ⟨101, _⟩ => ⟨S8192x2048, .f32⟩
  | .hbm, ⟨102, _⟩ => ⟨S8192x4096, .bf16⟩
  | .hbm, ⟨103, _⟩ => ⟨S8192x2048, .bf16⟩
  | .hbm, ⟨104, _⟩ => ⟨S8192x1152, .bf16⟩
  | .hbm, ⟨105, _⟩ => ⟨S8192x7296, .bf16⟩
  | _, _ => ⟨S8192x7200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v27_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v27_1 : Ref sig .tc := ⟨.hbm, 45, rfl⟩
abbrev main_v27_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]
-- ==== Loss.lean ====
abbrev S8192x2048 : Shape := ⟨2, ![8192, 2048]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S1x1, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_17 : BitVec 32 := 0#32
  let v47 : BitVec 1 := Scalar.cmpi .ne v46 c0_i32_17
  v47

def k0_cond2 (i : grid0.Coords) : BitVec 1 :=
  let arg0 : BitVec 32 := BitVec.ofNat 32 (i 0).val
  let c0_i32_18 : BitVec 32 := 0#32
  let v48 : BitVec 1 := Scalar.cmpi .sgt arg0 c0_i32_18
  let v49 : BitVec 32 := Scalar.extui v48
  let c0_i32_19 : BitVec 32 := 0#32
  let v50 : BitVec 1 := Scalar.cmpi .ne v49 c0_i32_19
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x1, .f32⟩
  | .hbm, ⟨72, _⟩ => ⟨S8192x2048, .bf16⟩
  | .hbm, ⟨73, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Gate.lean ====
abbrev S8192x2048 : Shape := ⟨2, ![8192, 2048]⟩
abbrev S2048x5632 : Shape := ⟨2, ![2048, 5632]⟩
abbrev S5632x2048 : Shape := ⟨2, ![5632, 2048]⟩
abbrev S2x2816x2048 : Shape := ⟨3, ![2, 2816, 2048]⟩
abbrev S2x2816x8192 : Shape := ⟨3, ![2, 2816, 8192]⟩
abbrev S2x8192x2816 : Shape := ⟨3, ![2, 8192, 2816]⟩
abbrev S256x2048 : Shape := ⟨2, ![256, 2048]⟩
abbrev S1x2816x2048 : Shape := ⟨3, ![1, 2816, 2048]⟩
abbrev S1x256x2816 : Shape := ⟨3, ![1, 256, 2816]⟩
abbrev S2816x2048 : Shape := ⟨2, ![2816, 2048]⟩
abbrev S256x2816 : Shape := ⟨2, ![256, 2816]⟩

abbrev nBuf : Space → Nat
  | .hbm => 23
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .bf16⟩
  | .hbm, ⟨5, _⟩ => ⟨S5632x2048, .bf16⟩
  | .hbm, ⟨6, _⟩ => ⟨S2x2816x2048, .bf16⟩
  | .hbm, ⟨7, _⟩ => ⟨S8192x2048, .f32⟩
  | .hbm, ⟨8, _⟩ => ⟨S5632x2048, .f32⟩
  | .hbm, ⟨9, _⟩ => ⟨S5632x2048, .bf16⟩
  | .hbm, ⟨10, _⟩ => ⟨S2x2816x2048, .bf16⟩
  | .hbm, ⟨11, _⟩ => ⟨S2x2816x2048, .f32⟩
  | .hbm, ⟨12, _⟩ => ⟨S2x2816x8192, .f32⟩
  | .hbm, ⟨13, _⟩ => ⟨S2x8192x2816, .f32⟩
  | .hbm, ⟨14, _⟩ => ⟨S8192x2048, .f32⟩
  | .hbm, ⟨15, _⟩ => ⟨S5632x2048, .f32⟩
  | .hbm, ⟨16, _⟩ => ⟨S5632x2048, .bf16⟩
  | .hbm, ⟨17, _⟩ => ⟨S2x2816x2048, .bf16⟩
  | .hbm, ⟨18, _⟩ => ⟨S2x2816x2048, .f32⟩
  | .hbm, ⟨19, _⟩ => ⟨S2x2816x8192, .f32⟩
  | .hbm, ⟨20, _⟩ => ⟨S2x8192x2816, .f32⟩
  | .hbm, ⟨21, _⟩ => ⟨S2x8192x2816, .bf16⟩
  | .hbm, ⟨22, _⟩ => ⟨S2x8192x2816, .bf16⟩
  | .local _ .vmem, ⟨0, _⟩ => ⟨S256x2048, .bf16⟩
  | .local _ .vmem, ⟨1, _⟩ => ⟨S256x2048, .bf16⟩
  | .local _ .vmem, ⟨2, _⟩ => ⟨S1x2816x2048, .bf16⟩
  | .local _ .vmem, ⟨3, _⟩ => ⟨S1x256x2816, .f32⟩
  | .local _ .vmem, ⟨4, _⟩ => ⟨S1x256x2816, .f32⟩
  | .local _ .vmem, ⟨5, _⟩ => ⟨S1x256x2816, .f32⟩
  | .local _ .vmem, ⟨6, _⟩ => ⟨S1x256x2816, .f32⟩
  | .local _ .vmem, ⟨7, _⟩ => ⟨S1x256x2816, .bf16⟩
  | .local _ .vmem, ⟨8, _⟩ => ⟨S1x256x2816, .bf16⟩
  | .local _ .vmem, ⟨9, _⟩ => ⟨S1x256x2816, .bf16⟩
  | .local _ .vmem, ⟨10, _⟩ => ⟨S1x256x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2816x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩
abbrev S8192x2x2816 : Shape := ⟨3, ![8192, 2, 2816]⟩
abbrev S2x8192x2816 : Shape := ⟨3, ![2, 8192, 2816]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .bf16⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x2x2816, .f32⟩
  | .hbm, ⟨32, _⟩ => ⟨S2x8192x2816, .f32⟩
  | .hbm, ⟨33, _⟩ => ⟨S2x8192x2816, .bf16⟩
  | .hbm, ⟨34, _⟩ => ⟨S8192x2x2816, .f32⟩
  | .hbm, ⟨35, _⟩ => ⟨S2x8192x2816, .f32⟩
  | .hbm, ⟨36, _⟩ => ⟨S2x8192x2816, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Mix.lean ====
abbrev S8192x2048 : Shape := ⟨2, ![8192, 2048]⟩
abbrev S4x512x512 : Shape := ⟨3, ![4, 512, 512]⟩
abbrev S1x2048 : Shape := ⟨2, ![1, 2048]⟩
abbrev S8192x4096 : Shape := ⟨2, ![8192, 4096]⟩
abbrev S8192x4x512 : Shape := ⟨3, ![8192, 4, 512]⟩
abbrev S4x512x8192 : Shape := ⟨3, ![4, 512, 8192]⟩
abbrev S1024x512 : Shape := ⟨2, ![1024, 512]⟩
abbrev S1x512 : Shape := ⟨2, ![1, 512]⟩
abbrev S1x512x512 : Shape := ⟨3, ![1, 512, 512]⟩
abbrev S512x512 : Shape := ⟨2, ![512, 512]⟩
abbrev S512 : Shape := ⟨1, ![512]⟩

abbrev nBuf : Space → Nat
  | .hbm => 15
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .f32⟩
  | .hbm, ⟨2, _⟩ => ⟨S1x2048, .f32⟩
  | .hbm, ⟨3, _⟩ => ⟨S8192x4096, .f32⟩
  | .hbm, ⟨4, _⟩ => ⟨S8192x2048, .f32⟩
  | .hbm, ⟨5, _⟩ => ⟨S4x512x512, .bf16⟩
  | .hbm, ⟨6, _⟩ => ⟨S4x512x512, .f32⟩
  | .hbm, ⟨7, _⟩ => ⟨S8192x4x512, .f32⟩
  | .hbm, ⟨8, _⟩ => ⟨S4x512x8192, .f32⟩
  | .hbm, ⟨9, _⟩ => ⟨S8192x4x512, .f32⟩
  | .hbm, ⟨10, _⟩ => ⟨S8192x2048, .f32⟩
  | .hbm, ⟨11, _⟩ => ⟨S4x512x512, .bf16⟩
  | .hbm, ⟨12, _⟩ => ⟨S8192x2048, .bf16⟩
  | .hbm, ⟨13, _⟩ => ⟨S8192x2048, .f32⟩
  | .hbm, ⟨14, _⟩ => ⟨S1x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_13 : BitVec 32 := 0#32
  let v17 : BitVec 1 := Scalar.cmpi .ne v16 c0_i32_13
  v17

def k0_cond2 (i : grid0.Coords) : BitVec 1 :=
  let arg1 : BitVec 32 := BitVec.ofNat 32 (i 1).val
  let c0_i32_14 : BitVec 32 := 0#32
  let v18 : BitVec 1 := Scalar.cmpi .sgt arg1 c0_i32_14
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MixRefIdeal.lean ====
abbrev S8192x2048 : Shape := ⟨2, ![8192, 2048]⟩
abbrev S4x512x512 : Shape := ⟨3, ![4, 512, 512]⟩
abbrev S1x2048 : Shape := ⟨2, ![1, 2048]⟩
abbrev S8192x4096 : Shape := ⟨2, ![8192, 4096]⟩
abbrev S8192x4x512 : Shape := ⟨3, ![8192, 4, 512]⟩
abbrev S4x512x8192 : Shape := ⟨3, ![4, 512, 8192]⟩
abbrev S_ : Shape := ⟨0, ![]⟩
abbrev S2048 : Shape := ⟨1, ![2048]⟩
abbrev S4x8192x512 : Shape := ⟨3, ![4, 8192, 512]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .f32⟩
  | .hbm, ⟨2, _⟩ => ⟨S1x2048, .f32⟩
  | .hbm, ⟨3, _⟩ => ⟨S8192x4096, .f32⟩
  | .hbm, ⟨4, _⟩ => ⟨S8192x2048, .f32⟩
  | .hbm, ⟨5, _⟩ => ⟨S8192x4x512, .f32⟩
  | .hbm, ⟨6, _⟩ => ⟨S4x512x8192, .f32⟩
  | .hbm, ⟨7, _⟩ => ⟨S8192x4x512, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S8192x4x512, .f32⟩
  | .hbm, ⟨20, _⟩ => ⟨S4x512x8192, .f32⟩
  | .hbm, ⟨21, _⟩ => ⟨S4x8192x512, .f32⟩
  | .hbm, ⟨22, _⟩ => ⟨S8192x4x512, .f32⟩
  | .hbm, ⟨23, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Scan.lean ====
abbrev S8192x7200 : Shape := ⟨2, ![8192, 7200]⟩
abbrev S8192x3072 : Shape := ⟨2, ![8192, 3072]⟩
abbrev S1x32 : Shape := ⟨2, ![1, 32]⟩
abbrev S1x2048 : Shape := ⟨2, ![1, 2048]⟩
abbrev S8192x2048 : Shape := ⟨2, ![8192, 2048]⟩
abbrev S8192x32 : Shape := ⟨2, ![8192, 32]⟩
abbrev S_ : Shape := ⟨0, ![]⟩
abbrev S8192x96 : Shape := ⟨2, ![8192, 96]⟩
abbrev S8192x7296 : Shape := ⟨2, ![8192, 7296]⟩
abbrev S1x128 : Shape := ⟨2, ![1, 128]⟩
abbrev S4x8x1 : Shape := ⟨3, ![4, 8, 1]⟩
abbrev S8192x4x8 : Shape := ⟨3, ![8192, 4, 8]⟩
abbrev S4x8x8192 : Shape := ⟨3, ![4, 8, 8192]⟩
abbrev S1x32x64 : Shape := ⟨3, ![1, 32, 64]⟩
abbrev S4x32x128x512 : Shape := ⟨4, ![4, 32, 128, 512]⟩
abbrev S1024x512 : Shape := ⟨2, ![1024, 512]⟩
abbrev S1024x128 : Shape := ⟨2, ![1024, 128]⟩
abbrev S1x8x1024 : Shape := ⟨3, ![1, 8, 1024]⟩
abbrev S1x8x1 : Shape := ⟨3, ![1, 8, 1]⟩
abbrev S1x512 : Shape := ⟨2, ![1, 512]⟩
abbrev S1x4x128x512 : Shape := ⟨4, ![1, 4, 128, 512]⟩
abbrev S128x512 : Shape := ⟨2, ![128, 512]⟩
abbrev S256x128 : Shape := ⟨2, ![256, 128]⟩
abbrev S1x8x256 : Shape := ⟨3, ![1, 8, 256]⟩
abbrev S8x256 : Shape := ⟨2, ![8, 256]⟩
abbrev S8x1 : Shape := ⟨2, ![8, 1]⟩
abbrev S256x512 : Shape := ⟨2, ![256, 512]⟩
abbrev S256x256 : Shape := ⟨2, ![256, 256]⟩
abbrev S1x1x128x512 : Shape := ⟨4, ![1, 1, 128, 512]⟩
abbrev S256x1 : Shape := ⟨2, ![256, 1]⟩
abbrev S1x256 : Shape := ⟨2, ![1, 256]⟩
abbrev S256 : Shape := ⟨1, ![256]⟩

abbrev nBuf : Space → Nat
  | .hbm => 28
  | .vmem => 30
  | .smem => 0
  | _ => 0

abbrev bufTy : (tb : Table) → Fin (tcTables nBuf tb) → BufTy
  | .hbm, ⟨0, _⟩ => ⟨S8192x7200, .f32⟩
  | .hbm, ⟨1, _⟩ => ⟨S8192x3072, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x3072, .f32⟩
  | .hbm, ⟨9, _⟩ => ⟨S8192x32, .f32⟩
  | .hbm, ⟨10, _⟩ => ⟨S_, .f32⟩
  | .hbm, ⟨11, _⟩ => ⟨S8192x96, .f32⟩
  | .hbm, ⟨12, _⟩ => ⟨S8192x7296, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S4x8x1, .f32⟩
  | .hbm, ⟨17, _⟩ => ⟨S4x8x1, .f32⟩
  | .hbm, ⟨18, _⟩ => ⟨S8192x32, .f32⟩
  | .hbm, ⟨19, _⟩ => ⟨S8192x4x8, .f32⟩
  | .hbm, ⟨20, _⟩ => ⟨S4x8x8192, .f32⟩
  | .hbm, ⟨21, _⟩ => ⟨S1x32x64, .f32⟩
  | .hbm, ⟨22, _⟩ => ⟨S1x2048, .f32⟩
  | .hbm, ⟨23, _⟩ => ⟨S1x32x64, .f32⟩
  | .hbm, ⟨24, _⟩ => ⟨S1x2048, .f32⟩
  | .hbm, ⟨25, _⟩ => ⟨S8192x2048, .f32⟩
  | .hbm, ⟨26, _⟩ => ⟨S4x32x128x512, .f32⟩
  | .hbm, ⟨27, _⟩ => ⟨S8192x2048, .bf16⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x8x1024, .f32⟩
  | .local _ .vmem, ⟨9, _⟩ => ⟨S1x8x1024, .f32⟩
  | .local _ .vmem, ⟨10, _⟩ => ⟨S1x128, .f32⟩
  | .local _ .vmem, ⟨11, _⟩ => ⟨S1x8x1, .f32⟩
  | .local _ .vmem, ⟨12, _⟩ => ⟨S1x8x1, .f32⟩
  | .local _ .vmem, ⟨13, _⟩ => ⟨S1x512, .f32⟩
  | .local _ .vmem, ⟨14, _⟩ => ⟨S1x512, .f32⟩
  | .local _ .vmem, ⟨15, _⟩ => ⟨S1x8x1, .f32⟩
  | .local _ .vmem, ⟨16, _⟩ => ⟨S1x8x1, .f32⟩
  | .local _ .vmem, ⟨17, _⟩ => ⟨S1x512, .f32⟩
  | .local _ .vmem, ⟨18, _⟩ => ⟨S1x512, .f32⟩
  | .local _ .vmem, ⟨19, _⟩ => ⟨S1024x512, .f32⟩
  | .local _ .vmem, ⟨20, _⟩ => ⟨S1024x512, .f32⟩
  | .local _ .vmem, ⟨21, _⟩ => ⟨S1x512, .f32⟩
  | .local _ .vmem, ⟨22, _⟩ => ⟨S1x512, .f32⟩
  | .local _ .vmem, ⟨23, _⟩ => ⟨S1024x512, .f32⟩
  | .local _ .vmem, ⟨24, _⟩ => ⟨S1024x512, .f32⟩
  | .local _ .vmem, ⟨25, _⟩ => ⟨S1x4x128x512, .f32⟩
  | .local _ .vmem, ⟨26, _⟩ => ⟨S1x4x128x512, .f32⟩
  | .local _ .vmem, ⟨27, _⟩ => ⟨S1024x512, .bf16⟩
  | .local _ .vmem, ⟨28, _⟩ => ⟨S1024x512, .bf16⟩
  | .local _ .vmem, ⟨29, _⟩ => ⟨S128x512, .f32⟩
  | _, _ => ⟨S8192x7200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c56_i32 : BitVec 32 := 56#32
  let c0_i32 : BitVec 32 := 0#32
  ![arg1.toNat, c56_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ScanIdeal.lean ====
variable {F : FTy → Type} [FloatOps F] [Named F]
def κ : String → Option EReal := fun
  | "mask" => some ⊥
  | _ => none
-- ==== ScanRefIdeal.lean ====
abbrev S8192x7200 : Shape := ⟨2, ![8192, 7200]⟩
abbrev S8192x3072 : Shape := ⟨2, ![8192, 3072]⟩
abbrev S1x32 : Shape := ⟨2, ![1, 32]⟩
abbrev S1x2048 : Shape := ⟨2, ![1, 2048]⟩
abbrev S8192x2048 : Shape := ⟨2, ![8192, 2048]⟩
abbrev S8192x32 : Shape := ⟨2, ![8192, 32]⟩
abbrev S8192x512 : Shape := ⟨2, ![8192, 512]⟩
abbrev S_ : Shape := ⟨0, ![]⟩
abbrev S8192x4x8x64 : Shape := ⟨4, ![8192, 4, 8, 64]⟩
abbrev S8192x4x8 : Shape := ⟨3, ![8192, 4, 8]⟩
abbrev S4x8 : Shape := ⟨2, ![4, 8]⟩
abbrev S8192x4x128 : Shape := ⟨3, ![8192, 4, 128]⟩
abbrev S32x256x4x8x64 : Shape := ⟨5, ![32, 256, 4, 8, 64]⟩
abbrev S32x256x4x8 : Shape := ⟨4, ![32, 256, 4, 8]⟩
abbrev S32x256x4x128 : Shape := ⟨4, ![32, 256, 4, 128]⟩
abbrev S1x1x4x8 : Shape := ⟨4, ![1, 1, 4, 8]⟩
abbrev S32x256x4x8x1 : Shape := ⟨5, ![32, 256, 4, 8, 1]⟩
abbrev S32x256x1x4x8 : Shape := ⟨5, ![32, 256, 1, 4, 8]⟩
abbrev S32x1x256x4x8 : Shape := ⟨5, ![32, 1, 256, 4, 8]⟩
abbrev S32x256x256x4x8 : Shape := ⟨5, ![32, 256, 256, 4, 8]⟩
abbrev S256x256 : Shape := ⟨2, ![256, 256]⟩
abbrev S256x256x1x1 : Shape := ⟨4, ![256, 256, 1, 1]⟩
abbrev S32x4x256x256 : Shape := ⟨4, ![32, 4, 256, 256]⟩
abbrev S32x256x256x4 : Shape := ⟨4, ![32, 256, 256, 4]⟩
abbrev S32x256x256x4x1 : Shape := ⟨5, ![32, 256, 256, 4, 1]⟩
abbrev S32x4x8x64x256 : Shape := ⟨5, ![32, 4, 8, 64, 256]⟩
abbrev S32x1x4x8 : Shape := ⟨4, ![32, 1, 4, 8]⟩
abbrev S32x4x8x64x128 : Shape := ⟨5, ![32, 4, 8, 64, 128]⟩
abbrev S32x4x8 : Shape := ⟨3, ![32, 4, 8]⟩
abbrev S4x8x64x128 : Shape := ⟨4, ![4, 8, 64, 128]⟩
abbrev S0x4x8x64x128 : Shape := ⟨5, ![0, 4, 8, 64, 128]⟩
abbrev S0x4x8 : Shape := ⟨3, ![0, 4, 8]⟩
abbrev S1x4x8x64x128 : Shape := ⟨5, ![1, 4, 8, 64, 128]⟩
abbrev S1x4x8 : Shape := ⟨3, ![1, 4, 8]⟩
abbrev S4x8x1x1 : Shape := ⟨4, ![4, 8, 1, 1]⟩
abbrev S16x4x8x64x128 : Shape := ⟨5, ![16, 4, 8, 64, 128]⟩
abbrev S4x8x1 : Shape := ⟨3, ![4, 8, 1]⟩
abbrev S1x4x8x1 : Shape := ⟨4, ![1, 4, 8, 1]⟩
abbrev S4x32x128x8x64 : Shape := ⟨5, ![4, 32, 128, 8, 64]⟩
abbrev S4x32x128x512 : Shape := ⟨4, ![4, 32, 128, 512]⟩
abbrev S8192x4x512 : Shape := ⟨3, ![8192, 4, 512]⟩
abbrev S8192x4 : Shape := ⟨2, ![8192, 4]⟩
abbrev S8192x4x1 : Shape := ⟨3, ![8192, 4, 1]⟩

abbrev nBuf : Space → Nat
  | .hbm => 433
  | .vmem => 0
  | .smem => 0
  | _ => 0

abbrev hbmTy0_0 (i : Nat) : BufTy := match i % 128 with
  | 0 => ⟨S8192x7200, .f32⟩
  | 1 => ⟨S8192x3072, .f32⟩
  | 2 => ⟨S1x32, .f32⟩
  | 3 => ⟨S1x32, .f32⟩
  | 4 => ⟨S1x32, .f32⟩
  | 5 => ⟨S1x2048, .f32⟩
  | 6 => ⟨S8192x2048, .f32⟩
  | 7 => ⟨S8192x32, .f32⟩
  | 8 => ⟨S8192x2048, .f32⟩
  | 9 => ⟨S8192x512, .f32⟩
  | 10 => ⟨S8192x512, .f32⟩
  | 11 => ⟨S8192x32, .f32⟩
  | 12 => ⟨S8192x32, .f32⟩
  | 13 => ⟨S_, .f32⟩
  | 14 => ⟨S8192x32, .f32⟩
  | 15 => ⟨S8192x32, .f32⟩
  | 16 => ⟨S8192x32, .f32⟩
  | 17 => ⟨S8192x32, .f32⟩
  | 18 => ⟨S8192x32, .i1⟩
  | 19 => ⟨S8192x32, .f32⟩
  | 20 => ⟨S8192x32, .f32⟩
  | 21 => ⟨S8192x32, .f32⟩
  | 22 => ⟨S8192x32, .f32⟩
  | 23 => ⟨S8192x32, .f32⟩
  | 24 => ⟨S8192x32, .f32⟩
  | 25 => ⟨S8192x32, .f32⟩
  | 26 => ⟨S8192x32, .f32⟩
  | 27 => ⟨S1x32, .f32⟩
  | 28 => ⟨S1x32, .f32⟩
  | 29 => ⟨S8192x4x8x64, .f32⟩
  | 30 => ⟨S8192x4x8, .f32⟩
  | 31 => ⟨S4x8, .f32⟩
  | 32 => ⟨S8192x4x128, .f32⟩
  | 33 => ⟨S8192x4x128, .f32⟩
  | 34 => ⟨S32x256x4x8x64, .f32⟩
  | 35 => ⟨S32x256x4x8, .f32⟩
  | 36 => ⟨S32x256x4x128, .f32⟩
  | 37 => ⟨S32x256x4x128, .f32⟩
  | 38 => ⟨S1x1x4x8, .f32⟩
  | 39 => ⟨S32x256x4x8, .f32⟩
  | 40 => ⟨S32x256x4x8, .f32⟩
  | 41 => ⟨S_, .f32⟩
  | 42 => ⟨S_, .f32⟩
  | 43 => ⟨S32x256x4x8, .f32⟩
  | 44 => ⟨S32x256x4x8x1, .f32⟩
  | 45 => ⟨S32x256x4x8x64, .f32⟩
  | 46 => ⟨S32x256x4x8x64, .f32⟩
  | 47 => ⟨S32x256x1x4x8, .f32⟩
  | 48 => ⟨S32x1x256x4x8, .f32⟩
  | 49 => ⟨S32x256x256x4x8, .f32⟩
  | 50 => ⟨S32x256x256x4x8, .f32⟩
  | 51 => ⟨S32x256x256x4x8, .f32⟩
  | 52 => ⟨S_, .i1⟩
  | 53 => ⟨S256x256, .i1⟩
  | 54 => ⟨S256x256, .i32⟩
  | 55 => ⟨S_, .i32⟩
  | 56 => ⟨S256x256, .i32⟩
  | 57 => ⟨S256x256, .i32⟩
  | 58 => ⟨S256x256, .i32⟩
  | 59 => ⟨S256x256, .i1⟩
  | 60 => ⟨S_, .i1⟩
  | 61 => ⟨S256x256, .i1⟩
  | 62 => ⟨S256x256, .i1⟩
  | 63 => ⟨S256x256x1x1, .i1⟩
  | 64 => ⟨S_, .f32⟩
  | 65 => ⟨S_, .f32⟩
  | 66 => ⟨S32x256x256x4x8, .i1⟩
  | 67 => ⟨S32x256x256x4x8, .f32⟩
  | 68 => ⟨S32x256x256x4x8, .f32⟩
  | 69 => ⟨S32x256x256x4x8, .f32⟩
  | 70 => ⟨S32x4x256x256, .f32⟩
  | 71 => ⟨S32x256x256x4, .f32⟩
  | 72 => ⟨S32x256x256x4x1, .f32⟩
  | 73 => ⟨S32x256x256x4x8, .f32⟩
  | 74 => ⟨S32x256x256x4x8, .f32⟩
  | 75 => ⟨S32x4x8x64x256, .f32⟩
  | 76 => ⟨S32x256x4x8x64, .f32⟩
  | 77 => ⟨S32x1x4x8, .f32⟩
  | 78 => ⟨S32x256x4x8, .f32⟩
  | 79 => ⟨S32x256x4x8, .f32⟩
  | 80 => ⟨S32x256x4x8, .f32⟩
  | 81 => ⟨S32x256x4x8x1, .f32⟩
  | 82 => ⟨S32x256x4x8x64, .f32⟩
  | 83 => ⟨S32x256x4x8x64, .f32⟩
  | 84 => ⟨S32x4x8x64x128, .f32⟩
  | 85 => ⟨S32x1x4x8, .f32⟩
  | 86 => ⟨S32x4x8, .f32⟩
  | 87 => ⟨S32x4x8, .f32⟩
  | 88 => ⟨S_, .f32⟩
  | 89 => ⟨S4x8x64x128, .f32⟩
  | 90 => ⟨S0x4x8x64x128, .f32⟩
  | 91 => ⟨S32x4x8x64x128, .f32⟩
  | 92 => ⟨S0x4x8, .f32⟩
  | 93 => ⟨S32x4x8, .f32⟩
  | 94 => ⟨S_, .f32⟩
  | 95 => ⟨S0x4x8x64x128, .f32⟩
  | 96 => ⟨S1x4x8x64x128, .f32⟩
  | 97 => ⟨S4x8x64x128, .f32⟩
  | 98 => ⟨S1x4x8, .f32⟩
  | 99 => ⟨S4x8, .f32⟩
  | 100 => ⟨S4x8x1x1, .f32⟩
  | 101 => ⟨S4x8x64x128, .f32⟩
  | 102 => ⟨S4x8x64x128, .f32⟩
  | 103 => ⟨S4x8x64x128, .f32⟩
  | 104 => ⟨S1x4x8x64x128, .f32⟩
  | 105 => ⟨S4x8x64x128, .f32⟩
  | 106 => ⟨S1x4x8, .f32⟩
  | 107 => ⟨S4x8, .f32⟩
  | 108 => ⟨S4x8x1x1, .f32⟩
  | 109 => ⟨S4x8x64x128, .f32⟩
  | 110 => ⟨S4x8x64x128, .f32⟩
  | 111 => ⟨S4x8x64x128, .f32⟩
  | 112 => ⟨S1x4x8x64x128, .f32⟩
  | 113 => ⟨S4x8x64x128, .f32⟩
  | 114 => ⟨S1x4x8, .f32⟩
  | 115 => ⟨S4x8, .f32⟩
  | 116 => ⟨S4x8x1x1, .f32⟩
  | 117 => ⟨S4x8x64x128, .f32⟩
  | 118 => ⟨S4x8x64x128, .f32⟩
  | 119 => ⟨S4x8x64x128, .f32⟩
  | 120 => ⟨S1x4x8x64x128, .f32⟩
  | 121 => ⟨S4x8x64x128, .f32⟩
  | 122 => ⟨S1x4x8, .f32⟩
  | 123 => ⟨S4x8, .f32⟩
  | 124 => ⟨S4x8x1x1, .f32⟩
  | 125 => ⟨S4x8x64x128, .f32⟩
  | 126 => ⟨S4x8x64x128, .f32⟩
  | 127 => ⟨S4x8x64x128, .f32⟩
  | _ => ⟨S8192x7200, .f32⟩

abbrev hbmTy0_1 (i : Nat) : BufTy := match i % 128 with
  | 0 => ⟨S1x4x8x64x128, .f32⟩
  | 1 => ⟨S4x8x64x128, .f32⟩
  | 2 => ⟨S1x4x8, .f32⟩
  | 3 => ⟨S4x8, .f32⟩
  | 4 => ⟨S4x8x1x1, .f32⟩
  | 5 => ⟨S4x8x64x128, .f32⟩
  | 6 => ⟨S4x8x64x128, .f32⟩
  | 7 => ⟨S4x8x64x128, .f32⟩
  | 8 => ⟨S1x4x8x64x128, .f32⟩
  | 9 => ⟨S4x8x64x128, .f32⟩
  | 10 => ⟨S1x4x8, .f32⟩
  | 11 => ⟨S4x8, .f32⟩
  | 12 => ⟨S4x8x1x1, .f32⟩
  | 13 => ⟨S4x8x64x128, .f32⟩
  | 14 => ⟨S4x8x64x128, .f32⟩
  | 15 => ⟨S4x8x64x128, .f32⟩
  | 16 => ⟨S1x4x8x64x128, .f32⟩
  | 17 => ⟨S4x8x64x128, .f32⟩
  | 18 => ⟨S1x4x8, .f32⟩
  | 19 => ⟨S4x8, .f32⟩
  | 20 => ⟨S4x8x1x1, .f32⟩
  | 21 => ⟨S4x8x64x128, .f32⟩
  | 22 => ⟨S4x8x64x128, .f32⟩
  | 23 => ⟨S4x8x64x128, .f32⟩
  | 24 => ⟨S1x4x8x64x128, .f32⟩
  | 25 => ⟨S4x8x64x128, .f32⟩
  | 26 => ⟨S1x4x8, .f32⟩
  | 27 => ⟨S4x8, .f32⟩
  | 28 => ⟨S4x8x1x1, .f32⟩
  | 29 => ⟨S4x8x64x128, .f32⟩
  | 30 => ⟨S4x8x64x128, .f32⟩
  | 31 => ⟨S4x8x64x128, .f32⟩
  | 32 => ⟨S1x4x8x64x128, .f32⟩
  | 33 => ⟨S4x8x64x128, .f32⟩
  | 34 => ⟨S1x4x8, .f32⟩
  | 35 => ⟨S4x8, .f32⟩
  | 36 => ⟨S4x8x1x1, .f32⟩
  | 37 => ⟨S4x8x64x128, .f32⟩
  | 38 => ⟨S4x8x64x128, .f32⟩
  | 39 => ⟨S4x8x64x128, .f32⟩
  | 40 => ⟨S1x4x8x64x128, .f32⟩
  | 41 => ⟨S4x8x64x128, .f32⟩
  | 42 => ⟨S1x4x8, .f32⟩
  | 43 => ⟨S4x8, .f32⟩
  | 44 => ⟨S4x8x1x1, .f32⟩
  | 45 => ⟨S4x8x64x128, .f32⟩
  | 46 => ⟨S4x8x64x128, .f32⟩
  | 47 => ⟨S4x8x64x128, .f32⟩
  | 48 => ⟨S1x4x8x64x128, .f32⟩
  | 49 => ⟨S4x8x64x128, .f32⟩
  | 50 => ⟨S1x4x8, .f32⟩
  | 51 => ⟨S4x8, .f32⟩
  | 52 => ⟨S4x8x1x1, .f32⟩
  | 53 => ⟨S4x8x64x128, .f32⟩
  | 54 => ⟨S4x8x64x128, .f32⟩
  | 55 => ⟨S4x8x64x128, .f32⟩
  | 56 => ⟨S1x4x8x64x128, .f32⟩
  | 57 => ⟨S4x8x64x128, .f32⟩
  | 58 => ⟨S1x4x8, .f32⟩
  | 59 => ⟨S4x8, .f32⟩
  | 60 => ⟨S4x8x1x1, .f32⟩
  | 61 => ⟨S4x8x64x128, .f32⟩
  | 62 => ⟨S4x8x64x128, .f32⟩
  | 63 => ⟨S4x8x64x128, .f32⟩
  | 64 => ⟨S1x4x8x64x128, .f32⟩
  | 65 => ⟨S4x8x64x128, .f32⟩
  | 66 => ⟨S1x4x8, .f32⟩
  | 67 => ⟨S4x8, .f32⟩
  | 68 => ⟨S4x8x1x1, .f32⟩
  | 69 => ⟨S4x8x64x128, .f32⟩
  | 70 => ⟨S4x8x64x128, .f32⟩
  | 71 => ⟨S4x8x64x128, .f32⟩
  | 72 => ⟨S1x4x8x64x128, .f32⟩
  | 73 => ⟨S4x8x64x128, .f32⟩
  | 74 => ⟨S1x4x8, .f32⟩
  | 75 => ⟨S4x8, .f32⟩
  | 76 => ⟨S4x8x1x1, .f32⟩
  | 77 => ⟨S4x8x64x128, .f32⟩
  | 78 => ⟨S4x8x64x128, .f32⟩
  | 79 => ⟨S4x8x64x128, .f32⟩
  | 80 => ⟨S1x4x8x64x128, .f32⟩
  | 81 => ⟨S4x8x64x128, .f32⟩
  | 82 => ⟨S1x4x8, .f32⟩
  | 83 => ⟨S4x8, .f32⟩
  | 84 => ⟨S4x8x1x1, .f32⟩
  | 85 => ⟨S4x8x64x128, .f32⟩
  | 86 => ⟨S4x8x64x128, .f32⟩
  | 87 => ⟨S4x8x64x128, .f32⟩
  | 88 => ⟨S1x4x8x64x128, .f32⟩
  | 89 => ⟨S4x8x64x128, .f32⟩
  | 90 => ⟨S1x4x8, .f32⟩
  | 91 => ⟨S4x8, .f32⟩
  | 92 => ⟨S4x8x1x1, .f32⟩
  | 93 => ⟨S4x8x64x128, .f32⟩
  | 94 => ⟨S4x8x64x128, .f32⟩
  | 95 => ⟨S4x8x64x128, .f32⟩
  | 96 => ⟨S1x4x8x64x128, .f32⟩
  | 97 => ⟨S4x8x64x128, .f32⟩
  | 98 => ⟨S1x4x8, .f32⟩
  | 99 => ⟨S4x8, .f32⟩
  | 100 => ⟨S4x8x1x1, .f32⟩
  | 101 => ⟨S4x8x64x128, .f32⟩
  | 102 => ⟨S4x8x64x128, .f32⟩
  | 103 => ⟨S4x8x64x128, .f32⟩
  | 104 => ⟨S1x4x8x64x128, .f32⟩
  | 105 => ⟨S4x8x64x128, .f32⟩
  | 106 => ⟨S1x4x8, .f32⟩
  | 107 => ⟨S4x8, .f32⟩
  | 108 => ⟨S4x8x1x1, .f32⟩
  | 109 => ⟨S4x8x64x128, .f32⟩
  | 110 => ⟨S4x8x64x128, .f32⟩
  | 111 => ⟨S4x8x64x128, .f32⟩
  | 112 => ⟨S1x4x8x64x128, .f32⟩
  | 113 => ⟨S4x8x64x128, .f32⟩
  | 114 => ⟨S1x4x8, .f32⟩
  | 115 => ⟨S4x8, .f32⟩
  | 116 => ⟨S4x8x1x1, .f32⟩
  | 117 => ⟨S4x8x64x128, .f32⟩
  | 118 => ⟨S4x8x64x128, .f32⟩
  | 119 => ⟨S4x8x64x128, .f32⟩
  | 120 => ⟨S1x4x8x64x128, .f32⟩
  | 121 => ⟨S4x8x64x128, .f32⟩
  | 122 => ⟨S1x4x8, .f32⟩
  | 123 => ⟨S4x8, .f32⟩
  | 124 => ⟨S4x8x1x1, .f32⟩
  | 125 => ⟨S4x8x64x128, .f32⟩
  | 126 => ⟨S4x8x64x128, .f32⟩
  | 127 => ⟨S4x8x64x128, .f32⟩
  | _ => ⟨S8192x7200, .f32⟩

abbrev hbmTy0_2 (i : Nat) : BufTy := match i % 128 with
  | 0 => ⟨S1x4x8x64x128, .f32⟩
  | 1 => ⟨S4x8x64x128, .f32⟩
  | 2 => ⟨S1x4x8, .f32⟩
  | 3 => ⟨S4x8, .f32⟩
  | 4 => ⟨S4x8x1x1, .f32⟩
  | 5 => ⟨S4x8x64x128, .f32⟩
  | 6 => ⟨S4x8x64x128, .f32⟩
  | 7 => ⟨S4x8x64x128, .f32⟩
  | 8 => ⟨S1x4x8x64x128, .f32⟩
  | 9 => ⟨S4x8x64x128, .f32⟩
  | 10 => ⟨S1x4x8, .f32⟩
  | 11 => ⟨S4x8, .f32⟩
  | 12 => ⟨S4x8x1x1, .f32⟩
  | 13 => ⟨S4x8x64x128, .f32⟩
  | 14 => ⟨S4x8x64x128, .f32⟩
  | 15 => ⟨S4x8x64x128, .f32⟩
  | 16 => ⟨S1x4x8x64x128, .f32⟩
  | 17 => ⟨S4x8x64x128, .f32⟩
  | 18 => ⟨S1x4x8, .f32⟩
  | 19 => ⟨S4x8, .f32⟩
  | 20 => ⟨S4x8x1x1, .f32⟩
  | 21 => ⟨S4x8x64x128, .f32⟩
  | 22 => ⟨S4x8x64x128, .f32⟩
  | 23 => ⟨S4x8x64x128, .f32⟩
  | 24 => ⟨S1x4x8x64x128, .f32⟩
  | 25 => ⟨S4x8x64x128, .f32⟩
  | 26 => ⟨S1x4x8, .f32⟩
  | 27 => ⟨S4x8, .f32⟩
  | 28 => ⟨S4x8x1x1, .f32⟩
  | 29 => ⟨S4x8x64x128, .f32⟩
  | 30 => ⟨S4x8x64x128, .f32⟩
  | 31 => ⟨S4x8x64x128, .f32⟩
  | 32 => ⟨S1x4x8x64x128, .f32⟩
  | 33 => ⟨S4x8x64x128, .f32⟩
  | 34 => ⟨S1x4x8, .f32⟩
  | 35 => ⟨S4x8, .f32⟩
  | 36 => ⟨S4x8x1x1, .f32⟩
  | 37 => ⟨S4x8x64x128, .f32⟩
  | 38 => ⟨S4x8x64x128, .f32⟩
  | 39 => ⟨S4x8x64x128, .f32⟩
  | 40 => ⟨S1x4x8x64x128, .f32⟩
  | 41 => ⟨S4x8x64x128, .f32⟩
  | 42 => ⟨S1x4x8, .f32⟩
  | 43 => ⟨S4x8, .f32⟩
  | 44 => ⟨S4x8x1x1, .f32⟩
  | 45 => ⟨S4x8x64x128, .f32⟩
  | 46 => ⟨S4x8x64x128, .f32⟩
  | 47 => ⟨S4x8x64x128, .f32⟩
  | 48 => ⟨S1x4x8x64x128, .f32⟩
  | 49 => ⟨S4x8x64x128, .f32⟩
  | 50 => ⟨S1x4x8, .f32⟩
  | 51 => ⟨S4x8, .f32⟩
  | 52 => ⟨S4x8x1x1, .f32⟩
  | 53 => ⟨S4x8x64x128, .f32⟩
  | 54 => ⟨S4x8x64x128, .f32⟩
  | 55 => ⟨S4x8x64x128, .f32⟩
  | 56 => ⟨S1x4x8x64x128, .f32⟩
  | 57 => ⟨S4x8x64x128, .f32⟩
  | 58 => ⟨S1x4x8, .f32⟩
  | 59 => ⟨S4x8, .f32⟩
  | 60 => ⟨S4x8x1x1, .f32⟩
  | 61 => ⟨S4x8x64x128, .f32⟩
  | 62 => ⟨S4x8x64x128, .f32⟩
  | 63 => ⟨S4x8x64x128, .f32⟩
  | 64 => ⟨S1x4x8x64x128, .f32⟩
  | 65 => ⟨S4x8x64x128, .f32⟩
  | 66 => ⟨S1x4x8, .f32⟩
  | 67 => ⟨S4x8, .f32⟩
  | 68 => ⟨S4x8x1x1, .f32⟩
  | 69 => ⟨S4x8x64x128, .f32⟩
  | 70 => ⟨S4x8x64x128, .f32⟩
  | 71 => ⟨S4x8x64x128, .f32⟩
  | 72 => ⟨S1x4x8x64x128, .f32⟩
  | 73 => ⟨S4x8x64x128, .f32⟩
  | 74 => ⟨S1x4x8, .f32⟩
  | 75 => ⟨S4x8, .f32⟩
  | 76 => ⟨S4x8x1x1, .f32⟩
  | 77 => ⟨S4x8x64x128, .f32⟩
  | 78 => ⟨S4x8x64x128, .f32⟩
  | 79 => ⟨S4x8x64x128, .f32⟩
  | 80 => ⟨S1x4x8x64x128, .f32⟩
  | 81 => ⟨S4x8x64x128, .f32⟩
  | 82 => ⟨S1x4x8, .f32⟩
  | 83 => ⟨S4x8, .f32⟩
  | 84 => ⟨S4x8x1x1, .f32⟩
  | 85 => ⟨S4x8x64x128, .f32⟩
  | 86 => ⟨S4x8x64x128, .f32⟩
  | 87 => ⟨S4x8x64x128, .f32⟩
  | 88 => ⟨S1x4x8x64x128, .f32⟩
  | 89 => ⟨S4x8x64x128, .f32⟩
  | 90 => ⟨S1x4x8, .f32⟩
  | 91 => ⟨S4x8, .f32⟩
  | 92 => ⟨S4x8x1x1, .f32⟩
  | 93 => ⟨S4x8x64x128, .f32⟩
  | 94 => ⟨S4x8x64x128, .f32⟩
  | 95 => ⟨S4x8x64x128, .f32⟩
  | 96 => ⟨S1x4x8x64x128, .f32⟩
  | 97 => ⟨S1x4x8x64x128, .f32⟩
  | 98 => ⟨S1x4x8x64x128, .f32⟩
  | 99 => ⟨S1x4x8x64x128, .f32⟩
  | 100 => ⟨S1x4x8x64x128, .f32⟩
  | 101 => ⟨S1x4x8x64x128, .f32⟩
  | 102 => ⟨S1x4x8x64x128, .f32⟩
  | 103 => ⟨S1x4x8x64x128, .f32⟩
  | 104 => ⟨S1x4x8x64x128, .f32⟩
  | 105 => ⟨S1x4x8x64x128, .f32⟩
  | 106 => ⟨S1x4x8x64x128, .f32⟩
  | 107 => ⟨S1x4x8x64x128, .f32⟩
  | 108 => ⟨S1x4x8x64x128, .f32⟩
  | 109 => ⟨S1x4x8x64x128, .f32⟩
  | 110 => ⟨S1x4x8x64x128, .f32⟩
  | 111 => ⟨S1x4x8x64x128, .f32⟩
  | 112 => ⟨S1x4x8x64x128, .f32⟩
  | 113 => ⟨S1x4x8x64x128, .f32⟩
  | 114 => ⟨S1x4x8x64x128, .f32⟩
  | 115 => ⟨S1x4x8x64x128, .f32⟩
  | 116 => ⟨S1x4x8x64x128, .f32⟩
  | 117 => ⟨S1x4x8x64x128, .f32⟩
  | 118 => ⟨S1x4x8x64x128, .f32⟩
  | 119 => ⟨S1x4x8x64x128, .f32⟩
  | 120 => ⟨S1x4x8x64x128, .f32⟩
  | 121 => ⟨S1x4x8x64x128, .f32⟩
  | 122 => ⟨S1x4x8x64x128, .f32⟩
  | 123 => ⟨S1x4x8x64x128, .f32⟩
  | 124 => ⟨S1x4x8x64x128, .f32⟩
  | 125 => ⟨S1x4x8x64x128, .f32⟩
  | 126 => ⟨S1x4x8x64x128, .f32⟩
  | 127 => ⟨S1x4x8x64x128, .f32⟩
  | _ => ⟨S8192x7200, .f32⟩

abbrev hbmTy0_3 (i : Nat) : BufTy := match i % 128 with
  | 0 => ⟨S16x4x8x64x128, .f32⟩
  | 1 => ⟨S16x4x8x64x128, .f32⟩
  | 2 => ⟨S32x4x8x64x128, .f32⟩
  | 3 => ⟨S32x4x8x64x128, .f32⟩
  | 4 => ⟨S32x4x8x64x256, .f32⟩
  | 5 => ⟨S32x256x4x8x64, .f32⟩
  | 6 => ⟨S32x256x4x8, .f32⟩
  | 7 => ⟨S32x256x4x8x1, .f32⟩
  | 8 => ⟨S32x256x4x8x64, .f32⟩
  | 9 => ⟨S32x256x4x8x64, .f32⟩
  | 10 => ⟨S32x256x4x8x64, .f32⟩
  | 11 => ⟨S8192x4x8x64, .f32⟩
  | 12 => ⟨S4x8, .f32⟩
  | 13 => ⟨S4x8x1, .f32⟩
  | 14 => ⟨S1x4x8x1, .f32⟩
  | 15 => ⟨S8192x4x8x64, .f32⟩
  | 16 => ⟨S8192x4x8x64, .f32⟩
  | 17 => ⟨S8192x4x8x64, .f32⟩
  | 18 => ⟨S8192x2048, .f32⟩
  | 19 => ⟨S4x32x128x8x64, .f32⟩
  | 20 => ⟨S4x32x128x512, .f32⟩
  | 21 => ⟨S8192x2048, .f32⟩
  | 22 => ⟨S8192x2048, .f32⟩
  | 23 => ⟨S_, .f32⟩
  | 24 => ⟨S8192x2048, .f32⟩
  | 25 => ⟨S8192x2048, .f32⟩
  | 26 => ⟨S_, .f32⟩
  | 27 => ⟨S8192x2048, .f32⟩
  | 28 => ⟨S8192x2048, .f32⟩
  | 29 => ⟨S8192x2048, .f32⟩
  | 30 => ⟨S8192x2048, .f32⟩
  | 31 => ⟨S8192x4x512, .f32⟩
  | 32 => ⟨S8192x4x512, .f32⟩
  | 33 => ⟨S_, .f32⟩
  | 34 => ⟨S8192x4, .f32⟩
  | 35 => ⟨S8192x4x1, .f32⟩
  | 36 => ⟨S_, .f32⟩
  | 37 => ⟨S8192x4x1, .f32⟩
  | 38 => ⟨S8192x4x1, .f32⟩
  | 39 => ⟨S_, .f32⟩
  | 40 => ⟨S8192x4x1, .f32⟩
  | 41 => ⟨S8192x4x1, .f32⟩
  | 42 => ⟨S8192x4x1, .f32⟩
  | 43 => ⟨S8192x4x512, .f32⟩
  | 44 => ⟨S8192x4x512, .f32⟩
  | 45 => ⟨S8192x2048, .f32⟩
  | 46 => ⟨S8192x2048, .f32⟩
  | 47 => ⟨S8192x2048, .f32⟩
  | 48 => ⟨S8192x2048, .bf16⟩
  | _ => ⟨S8192x7200, .f32⟩

abbrev hbmTy (i : Nat) : BufTy := match i / 128 with
  | 0 => hbmTy0_0 i
  | 1 => hbmTy0_1 i
  | 2 => hbmTy0_2 i
  | 3 => hbmTy0_3 i
  | _ => ⟨S8192x7200, .f32⟩

abbrev bufTy : (tb : Table) → Fin (tcTables nBuf tb) → BufTy
  | .hbm, ⟨i, _⟩ => hbmTy i
  | _, _ => ⟨S8192x7200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call1_call0_cst : Ref sig .tc := ⟨.hbm, 41, rfl⟩
abbrev main_call1_call0_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c : Ref sig .tc := ⟨.hbm, 52, rfl⟩
abbrev main_v31 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_0 : Ref sig .tc := ⟨.hbm, 60, rfl⟩
abbrev main_call2_v5 : Ref sig .tc := ⟨.hbm, 61, rfl⟩
abbrev main_v32 : Ref sig .tc := ⟨.hbm, 62, rfl⟩
abbrev main_v33 : Ref sig .tc := ⟨.hbm, 63, rfl⟩
abbrev main_cst : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_1 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_v318 : Ref sig .tc := ⟨.hbm, 354, rfl⟩
abbrev main_v319 : Ref sig .tc := ⟨.hbm, 355, rfl⟩
abbrev main_v320 : Ref sig .tc := ⟨.hbm, 356, rfl⟩
abbrev main_v321 : Ref sig .tc := ⟨.hbm, 357, rfl⟩
abbrev main_v322 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_v329 : Ref sig .tc := ⟨.hbm, 365, rfl⟩
abbrev main_v330 : Ref sig .tc := ⟨.hbm, 366, rfl⟩
abbrev main_v331 : Ref sig .tc := ⟨.hbm, 367, rfl⟩
abbrev main_v332 : Ref sig .tc := ⟨.hbm, 368, rfl⟩
abbrev main_v333 : Ref sig .tc := ⟨.hbm, 369, rfl⟩
abbrev main_v334 : Ref sig .tc := ⟨.hbm, 370, rfl⟩
abbrev main_v335 : Ref sig .tc := ⟨.hbm, 371, rfl⟩
abbrev main_v336 : Ref sig .tc := ⟨.hbm, 372, rfl⟩
abbrev main_v337 : Ref sig .tc := ⟨.hbm, 373, rfl⟩
abbrev main_v338 : Ref sig .tc := ⟨.hbm, 374, rfl⟩
abbrev main_v339 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_v343 : Ref sig .tc := ⟨.hbm, 379, rfl⟩
abbrev main_v344 : Ref sig .tc := ⟨.hbm, 380, rfl⟩
abbrev main_v345 : Ref sig .tc := ⟨.hbm, 381, rfl⟩
abbrev main_v346 : Ref sig .tc := ⟨.hbm, 382, rfl⟩
abbrev main_v347 : Ref sig .tc := ⟨.hbm, 383, rfl⟩
abbrev main_v348 : Ref sig .tc := ⟨.hbm, 384, rfl⟩
abbrev main_v349 : Ref sig .tc := ⟨.hbm, 385, rfl⟩
abbrev main_v350 : Ref sig .tc := ⟨.hbm, 386, rfl⟩
abbrev main_v351 : Ref sig .tc := ⟨.hbm, 387, rfl⟩
abbrev main_v352 : Ref sig .tc := ⟨.hbm, 388, rfl⟩
abbrev main_v353 : Ref sig .tc := ⟨.hbm, 389, rfl⟩
abbrev main_v354 : Ref sig .tc := ⟨.hbm, 390, rfl⟩
abbrev main_v355 : Ref sig .tc := ⟨.hbm, 391, rfl⟩
abbrev main_v356 : Ref sig .tc := ⟨.hbm, 392, rfl⟩
abbrev main_v357 : Ref sig .tc := ⟨.hbm, 393, rfl⟩
abbrev main_v358 : Ref sig .tc := ⟨.hbm, 394, rfl⟩
abbrev main_v359 : Ref sig .tc := ⟨.hbm, 395, rfl⟩
abbrev main_v360 : Ref sig .tc := ⟨.hbm, 396, rfl⟩
abbrev main_v361 : Ref sig .tc := ⟨.hbm, 397, rfl⟩
abbrev main_v362 : Ref sig .tc := ⟨.hbm, 398, rfl⟩
abbrev main_v363 : Ref sig .tc := ⟨.hbm, 399, rfl⟩
abbrev main_v364 : Ref sig .tc := ⟨.hbm, 400, rfl⟩
abbrev main_v365 : Ref sig .tc := ⟨.hbm, 401, rfl⟩
abbrev main_v366 : Ref sig .tc := ⟨.hbm, 402, rfl⟩
abbrev main_v367 : Ref sig .tc := ⟨.hbm, 403, rfl⟩
abbrev main_v368 : Ref sig .tc := ⟨.hbm, 404, rfl⟩
abbrev main_call4_v0 : Ref sig .tc := ⟨.hbm, 405, rfl⟩
abbrev main_call4_v1 : Ref sig .tc := ⟨.hbm, 406, rfl⟩
abbrev main_call4_cst : Ref sig .tc := ⟨.hbm, 407, rfl⟩
abbrev main_call4_v2 : Ref sig .tc := ⟨.hbm, 408, rfl⟩
abbrev main_call4_v3 : Ref sig .tc := ⟨.hbm, 409, rfl⟩
abbrev main_call4_cst_0 : Ref sig .tc := ⟨.hbm, 410, rfl⟩
abbrev main_call4_v4 : Ref sig .tc := ⟨.hbm, 411, rfl⟩
abbrev main_call4_v5 : Ref sig .tc := ⟨.hbm, 412, rfl⟩
abbrev main_v369 : Ref sig .tc := ⟨.hbm, 413, rfl⟩
abbrev main_v370 : Ref sig .tc := ⟨.hbm, 414, rfl⟩
abbrev main_v371 : Ref sig .tc := ⟨.hbm, 415, rfl⟩
abbrev main_v372 : Ref sig .tc := ⟨.hbm, 416, rfl⟩
abbrev main_cst_2 : Ref sig .tc := ⟨.hbm, 417, rfl⟩
abbrev main_v373 : Ref sig .tc := ⟨.hbm, 418, rfl⟩
abbrev main_v374 : Ref sig .tc := ⟨.hbm, 419, rfl⟩
abbrev main_cst_3 : Ref sig .tc := ⟨.hbm, 420, rfl⟩
abbrev main_v375 : Ref sig .tc := ⟨.hbm, 421, rfl⟩
abbrev main_v376 : Ref sig .tc := ⟨.hbm, 422, rfl⟩
abbrev main_cst_4 : Ref sig .tc := ⟨.hbm, 423, rfl⟩
abbrev main_v377 : Ref sig .tc := ⟨.hbm, 424, rfl⟩
abbrev main_v378 : Ref sig .tc := ⟨.hbm, 425, rfl⟩
abbrev main_v379 : Ref sig .tc := ⟨.hbm, 426, rfl⟩
abbrev main_v380 : Ref sig .tc := ⟨.hbm, 427, rfl⟩
abbrev main_v381 : Ref sig .tc := ⟨.hbm, 428, rfl⟩
abbrev main_v382 : Ref sig .tc := ⟨.hbm, 429, rfl⟩
abbrev main_v383 : Ref sig .tc := ⟨.hbm, 430, rfl⟩
abbrev main_v384 : Ref sig .tc := ⟨.hbm, 431, rfl⟩
abbrev main_v385 : Ref sig .tc := ⟨.hbm, 432, rfl⟩

abbrev nD : Nat := 1
abbrev τ : Topo := Topo.v7x

variable {F : FTy → Type} [FloatOps F]
-- ==== NormFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ConvFwd.lean ====
abbrev S8192x7200 : Shape := ⟨2, ![8192, 7200]⟩
abbrev S4x3072 : Shape := ⟨2, ![4, 3072]⟩
abbrev S1x3072 : Shape := ⟨2, ![1, 3072]⟩
abbrev S8192x2048 : Shape := ⟨2, ![8192, 2048]⟩
abbrev S8192x3072 : Shape := ⟨2, ![8192, 3072]⟩
abbrev S8192x32 : Shape := ⟨2, ![8192, 32]⟩
abbrev S_ : Shape := ⟨0, ![]⟩
abbrev S8192x96 : Shape := ⟨2, ![8192, 96]⟩
abbrev S8192x7296 : Shape := ⟨2, ![8192, 7296]⟩
abbrev S512x1024 : Shape := ⟨2, ![512, 1024]⟩
abbrev S8x1024 : Shape := ⟨2, ![8, 1024]⟩
abbrev S4x1024 : Shape := ⟨2, ![4, 1024]⟩
abbrev S1x1024 : Shape := ⟨2, ![1, 1024]⟩
abbrev S520x1024 : Shape := ⟨2, ![520, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8192x7200, .f32⟩
  | .hbm, ⟨1, _⟩ => ⟨S4x3072, .f32⟩
  | .hbm, ⟨2, _⟩ => ⟨S1x3072, .f32⟩
  | .hbm, ⟨3, _⟩ => ⟨S8192x2048, .f32⟩
  | .hbm, ⟨4, _⟩ => ⟨S8192x2048, .f32⟩
  | .hbm, ⟨5, _⟩ => ⟨S8192x3072, .f32⟩
  | .hbm, ⟨6, _⟩ => ⟨S8192x32, .f32⟩
  | .hbm, ⟨7, _⟩ => ⟨S_, .f32⟩
  | .hbm, ⟨8, _⟩ => ⟨S8192x96, .f32⟩
  | .hbm, ⟨9, _⟩ => ⟨S8192x7296, .f32⟩
  | .hbm, ⟨10, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x7200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvFwdRefIdeal.lean ====
abbrev S8192x7200 : Shape := ⟨2, ![8192, 7200]⟩
abbrev S4x3072 : Shape := ⟨2, ![4, 3072]⟩
abbrev S1x3072 : Shape := ⟨2, ![1, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩

abbrev nBuf : Space → Nat
  | .hbm => 37
  | .vmem => 0
  | .smem => 0
  | _ => 0

abbrev bufTy : (tb : Table) → Fin (tcTables nBuf tb) → BufTy
  | .hbm, ⟨0, _⟩ => ⟨S8192x7200, .f32⟩
  | .hbm, ⟨1, _⟩ => ⟨S4x3072, .f32⟩
  | .hbm, ⟨2, _⟩ => ⟨S1x3072, .f32⟩
  | .hbm, ⟨3, _⟩ => ⟨S8192x3072, .f32⟩
  | .hbm, ⟨4, _⟩ => ⟨S_, .f32⟩
  | .hbm, ⟨5, _⟩ => ⟨S3x3072, .f32⟩
  | .hbm, ⟨6, _⟩ => ⟨S8195x3072, .f32⟩
  | .hbm, ⟨7, _⟩ => ⟨S8192x3072, .f32⟩
  | .hbm, ⟨8, _⟩ => ⟨S1x3072, .f32⟩
  | .hbm, ⟨9, _⟩ => ⟨S8192x3072, .f32⟩
  | .hbm, ⟨10, _⟩ => ⟨S8192x3072, .f32⟩
  | .hbm, ⟨11, _⟩ => ⟨S8192x3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S_, .f32⟩
  | .hbm, ⟨34, _⟩ => ⟨S8192x3072, .f32⟩
  | .hbm, ⟨35, _⟩ => ⟨S8192x3072, .f32⟩
  | .hbm, ⟨36, _⟩ => ⟨S8192x3072, .f32⟩
  | _, _ => ⟨S8192x7200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== PoolFwd.lean ====
abbrev S8192x7200 : Shape := ⟨2, ![8192, 7200]⟩
abbrev S8192x2048 : Shape := ⟨2, ![8192, 2048]⟩
abbrev S8192x3072 : Shape := ⟨2, ![8192, 3072]⟩
abbrev S8192x32 : Shape := ⟨2, ![8192, 32]⟩
abbrev S_ : Shape := ⟨0, ![]⟩
abbrev S8192x96 : Shape := ⟨2, ![8192, 96]⟩
abbrev S8192x7296 : Shape := ⟨2, ![8192, 7296]⟩
abbrev S256x2048 : Shape := ⟨2, ![256, 2048]⟩
abbrev S16x2048 : Shape := ⟨2, ![16, 2048]⟩
abbrev S272x2048 : Shape := ⟨2, ![272, 2048]⟩
abbrev S256x1 : Shape := ⟨2, ![256, 1]⟩
abbrev S256x512 : Shape := ⟨2, ![256, 512]⟩

abbrev nBuf : Space → Nat
  | .hbm => 9
  | .vmem => 6
  | .smem => 0
  | _ => 0

abbrev bufTy : (tb : Table) → Fin (tcTables nBuf tb) → BufTy
  | .hbm, ⟨0, _⟩ => ⟨S8192x7200, .f32⟩
  | .hbm, ⟨1, _⟩ => ⟨S8192x2048, .f32⟩
  | .hbm, ⟨2, _⟩ => ⟨S8192x2048, .f32⟩
  | .hbm, ⟨3, _⟩ => ⟨S8192x3072, .f32⟩
  | .hbm, ⟨4, _⟩ => ⟨S8192x32, .f32⟩
  | .hbm, ⟨5, _⟩ => ⟨S_, .f32⟩
  | .hbm, ⟨6, _⟩ => ⟨S8192x96, .f32⟩
  | .hbm, ⟨7, _⟩ => ⟨S8192x7296, .f32⟩
  | .hbm, ⟨8, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S256x2048, .bf16⟩
  | .local _ .vmem, ⟨5, _⟩ => ⟨S256x2048, .bf16⟩
  | _, _ => ⟨S8192x7200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolFwdRefIdeal.lean ====
abbrev S8192x7200 : Shape := ⟨2, ![8192, 7200]⟩
abbrev S8192x2048 : Shape := ⟨2, ![8192, 2048]⟩
abbrev S_ : Shape := ⟨0, ![]⟩
abbrev S1x2048 : Shape := ⟨2, ![1, 2048]⟩
abbrev S8193x2048 : Shape := ⟨2, ![8193, 2048]⟩
abbrev S8192 : Shape := ⟨1, ![8192]⟩
abbrev S8193x512 : Shape := ⟨2, ![8193, 512]⟩
abbrev S8192x512 : Shape := ⟨2, ![8192, 512]⟩
abbrev S8192x1 : Shape := ⟨2, ![8192, 1]⟩

abbrev nBuf : Space → Nat
  | .hbm => 143
  | .vmem => 0
  | .smem => 0
  | _ => 0

abbrev hbmTy0_0 (i : Nat) : BufTy := match i % 128 with
  | 0 => ⟨S8192x7200, .f32⟩
  | 1 => ⟨S8192x2048, .f32⟩
  | 2 => ⟨S_, .f32⟩
  | 3 => ⟨S1x2048, .f32⟩
  | 4 => ⟨S_, .f32⟩
  | 5 => ⟨S_, .f32⟩
  | 6 => ⟨S8192x2048, .f32⟩
  | 7 => ⟨S8193x2048, .f32⟩
  | 8 => ⟨S8192, .i32⟩
  | 9 => ⟨S8193x512, .f32⟩
  | 10 => ⟨S_, .i32⟩
  | 11 => ⟨S8192, .i32⟩
  | 12 => ⟨S8192, .i32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S8192x512, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x512, .f32⟩
  | 29 => ⟨S8192x512, .f32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .f32⟩
  | 37 => ⟨S8192x1, .f32⟩
  | 38 => ⟨S8192x512, .f32⟩
  | 39 => ⟨S8192x512, .f32⟩
  | 40 => ⟨S8192x512, .f32⟩
  | 41 => ⟨S8192x512, .f32⟩
  | 42 => ⟨S8193x512, .f32⟩
  | 43 => ⟨S_, .i32⟩
  | 44 => ⟨S8192, .i32⟩
  | 45 => ⟨S8192, .i32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S8192x512, .f32⟩
  | 53 => ⟨S_, .i32⟩
  | 54 => ⟨S8192, .i32⟩
  | 55 => ⟨S8192, .i1⟩
  | 56 => ⟨S_, .i32⟩
  | 57 => ⟨S8192, .i32⟩
  | 58 => ⟨S8192, .i32⟩
  | 59 => ⟨S8192, .i32⟩
  | 60 => ⟨S8192x1, .i32⟩
  | 61 => ⟨S8192x512, .f32⟩
  | 62 => ⟨S8192x512, .f32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192, .f32⟩
  | 70 => ⟨S8192x1, .f32⟩
  | 71 => ⟨S8192x512, .f32⟩
  | 72 => ⟨S8192x512, .f32⟩
  | 73 => ⟨S8192x512, .f32⟩
  | 74 => ⟨S8192x512, .f32⟩
  | 75 => ⟨S8193x512, .f32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S8192x512, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x512, .f32⟩
  | 95 => ⟨S8192x512, .f32⟩
  | 96 => ⟨S_, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192, .f32⟩
  | 103 => ⟨S8192x1, .f32⟩
  | 104 => ⟨S8192x512, .f32⟩
  | 105 => ⟨S8192x512, .f32⟩
  | 106 => ⟨S8192x512, .f32⟩
  | 107 => ⟨S8192x512, .f32⟩
  | 108 => ⟨S8193x512, .f32⟩
  | 109 => ⟨S_, .i32⟩
  | 110 => ⟨S8192, .i32⟩
  | 111 => ⟨S8192, .i32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S8192x512, .f32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S8192x1, .i32⟩
  | 127 => ⟨S8192x512, .f32⟩
  | _ => ⟨S8192x7200, .f32⟩

abbrev hbmTy0_1 (i : Nat) : BufTy := match i % 128 with
  | 0 => ⟨S8192x512, .f32⟩
  | 1 => ⟨S_, .i32⟩
  | 2 => ⟨S8192, .i32⟩
  | 3 => ⟨S8192, .i32⟩
  | 4 => ⟨S_, .i32⟩
  | 5 => ⟨S8192, .i32⟩
  | 6 => ⟨S8192, .i32⟩
  | 7 => ⟨S8192, .f32⟩
  | 8 => ⟨S8192x1, .f32⟩
  | 9 => ⟨S8192x512, .f32⟩
  | 10 => ⟨S8192x512, .f32⟩
  | 11 => ⟨S8192x512, .f32⟩
  | 12 => ⟨S8192x512, .f32⟩
  | 13 => ⟨S8192x2048, .f32⟩
  | 14 => ⟨S8192x2048, .bf16⟩
  | _ => ⟨S8192x7200, .f32⟩

abbrev hbmTy (i : Nat) : BufTy := match i / 128 with
  | 0 => hbmTy0_0 i
  | 1 => hbmTy0_1 i
  | _ => ⟨S8192x7200, .f32⟩

abbrev bufTy : (tb : Table) → Fin (tcTables nBuf tb) → BufTy
  | .hbm, ⟨i, _⟩ => hbmTy i
  | _, _ => ⟨S8192x7200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_call0_cst : Ref sig .tc := ⟨.hbm, 4, rfl⟩
abbrev main_call0_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_c_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_11 : Ref sig .tc := ⟨.hbm, 63, rfl⟩
abbrev main_v47 : Ref sig .tc := ⟨.hbm, 64, rfl⟩
abbrev main_v48 : Ref sig .tc := ⟨.hbm, 65, rfl⟩
abbrev main_c_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_13 : Ref sig .tc := ⟨.hbm, 76, rfl⟩
abbrev main_v58 : Ref sig .tc := ⟨.hbm, 77, rfl⟩
abbrev main_v59 : Ref sig .tc := ⟨.hbm, 78, rfl⟩
abbrev main_c_14 : Ref sig .tc := ⟨.hbm, 79, rfl⟩
abbrev main_v60 : Ref sig .tc := ⟨.hbm, 80, rfl⟩
abbrev main_v61 : Ref sig .tc := ⟨.hbm, 81, rfl⟩
abbrev main_c_15 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_16 : Ref sig .tc := ⟨.hbm, 86, rfl⟩
abbrev main_v65 : Ref sig .tc := ⟨.hbm, 87, rfl⟩
abbrev main_v66 : Ref sig .tc := ⟨.hbm, 88, rfl⟩
abbrev main_c_17 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_18 : Ref sig .tc := ⟨.hbm, 96, rfl⟩
abbrev main_v73 : Ref sig .tc := ⟨.hbm, 97, rfl⟩
abbrev main_v74 : Ref sig .tc := ⟨.hbm, 98, rfl⟩
abbrev main_c_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_20 : Ref sig .tc := ⟨.hbm, 109, rfl⟩
abbrev main_v84 : Ref sig .tc := ⟨.hbm, 110, rfl⟩
abbrev main_v85 : Ref sig .tc := ⟨.hbm, 111, rfl⟩
abbrev main_c_21 : Ref sig .tc := ⟨.hbm, 112, rfl⟩
abbrev main_v86 : Ref sig .tc := ⟨.hbm, 113, rfl⟩
abbrev main_v87 : Ref sig .tc := ⟨.hbm, 114, rfl⟩
abbrev main_c_22 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_23 : Ref sig .tc := ⟨.hbm, 119, rfl⟩
abbrev main_v91 : Ref sig .tc := ⟨.hbm, 120, rfl⟩
abbrev main_v92 : Ref sig .tc := ⟨.hbm, 121, rfl⟩
abbrev main_c_24 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_25 : Ref sig .tc := ⟨.hbm, 129, rfl⟩
abbrev main_v99 : Ref sig .tc := ⟨.hbm, 130, rfl⟩
abbrev main_v100 : Ref sig .tc := ⟨.hbm, 131, rfl⟩
abbrev main_c_26 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩

abbrev nD : Nat := 1
abbrev τ : Topo := Topo.v7x

variable {F : FTy → Type} [FloatOps F]
-- ==== MixFwd.lean ====
abbrev S8192x2048 : Shape := ⟨2, ![8192, 2048]⟩
abbrev S4x512x512 : Shape := ⟨3, ![4, 512, 512]⟩
abbrev S1x2048 : Shape := ⟨2, ![1, 2048]⟩
abbrev S8192x4096 : Shape := ⟨2, ![8192, 4096]⟩
abbrev S1024x512 : Shape := ⟨2, ![1024, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .f32⟩
  | .hbm, ⟨2, _⟩ => ⟨S1x2048, .f32⟩
  | .hbm, ⟨3, _⟩ => ⟨S8192x4096, .bf16⟩
  | .hbm, ⟨4, _⟩ => ⟨S4x512x512, .bf16⟩
  | .hbm, ⟨5, _⟩ => ⟨S8192x2048, .f32⟩
  | .hbm, ⟨6, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixFwdRefIdeal.lean ====
abbrev S8192x2048 : Shape := ⟨2, ![8192, 2048]⟩
abbrev S4x512x512 : Shape := ⟨3, ![4, 512, 512]⟩
abbrev S1x2048 : Shape := ⟨2, ![1, 2048]⟩
abbrev S8192x4096 : Shape := ⟨2, ![8192, 4096]⟩
abbrev S8192x4x512 : Shape := ⟨3, ![8192, 4, 512]⟩
abbrev S4x512x8192 : Shape := ⟨3, ![4, 512, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .f32⟩
  | .hbm, ⟨2, _⟩ => ⟨S1x2048, .f32⟩
  | .hbm, ⟨3, _⟩ => ⟨S8192x4096, .bf16⟩
  | .hbm, ⟨4, _⟩ => ⟨S8192x2048, .f32⟩
  | .hbm, ⟨5, _⟩ => ⟨S8192x4x512, .f32⟩
  | .hbm, ⟨6, _⟩ => ⟨S4x512x8192, .f32⟩
  | .hbm, ⟨7, _⟩ => ⟨S8192x4x512, .f32⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== GateFwd.lean ====
abbrev S8192x2048 : Shape := ⟨2, ![8192, 2048]⟩
abbrev S2048x5632 : Shape := ⟨2, ![2048, 5632]⟩
abbrev S5632x2048 : Shape := ⟨2, ![5632, 2048]⟩
abbrev S2x2816x2048 : Shape := ⟨3, ![2, 2816, 2048]⟩
abbrev S2x8192x2816 : Shape := ⟨3, ![2, 8192, 2816]⟩
abbrev S256x2048 : Shape := ⟨2, ![256, 2048]⟩
abbrev S1x2816x2048 : Shape := ⟨3, ![1, 2816, 2048]⟩
abbrev S1x256x2816 : Shape := ⟨3, ![1, 256, 2816]⟩
abbrev S2816x2048 : Shape := ⟨2, ![2816, 2048]⟩
abbrev S256x2816 : Shape := ⟨2, ![256, 2816]⟩

abbrev nBuf : Space → Nat
  | .hbm => 12
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S5632x2048, .bf16⟩
  | .hbm, ⟨5, _⟩ => ⟨S2x2816x2048, .bf16⟩
  | .hbm, ⟨6, _⟩ => ⟨S5632x2048, .f32⟩
  | .hbm, ⟨7, _⟩ => ⟨S5632x2048, .bf16⟩
  | .hbm, ⟨8, _⟩ => ⟨S2x2816x2048, .bf16⟩
  | .hbm, ⟨9, _⟩ => ⟨S2x8192x2816, .f32⟩
  | .hbm, ⟨10, _⟩ => ⟨S2x8192x2816, .f32⟩
  | .hbm, ⟨11, _⟩ => ⟨S2x8192x2816, .bf16⟩
  | .local _ .vmem, ⟨0, _⟩ => ⟨S256x2048, .bf16⟩
  | .local _ .vmem, ⟨1, _⟩ => ⟨S256x2048, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S1x256x2816, .f32⟩
  | .local _ .vmem, ⟨5, _⟩ => ⟨S1x256x2816, .f32⟩
  | .local _ .vmem, ⟨6, _⟩ => ⟨S1x256x2816, .f32⟩
  | .local _ .vmem, ⟨7, _⟩ => ⟨S1x256x2816, .f32⟩
  | .local _ .vmem, ⟨8, _⟩ => ⟨S1x256x2816, .bf16⟩
  | .local _ .vmem, ⟨9, _⟩ => ⟨S1x256x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2816x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2816x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateFwdRefIdeal.lean ====
abbrev S8192x2048 : Shape := ⟨2, ![8192, 2048]⟩
abbrev S2048x5632 : Shape := ⟨2, ![2048, 5632]⟩
abbrev S8192x5632 : Shape := ⟨2, ![8192, 5632]⟩
abbrev S8192x2x2816 : Shape := ⟨3, ![8192, 2, 2816]⟩
abbrev S2x8192x2816 : Shape := ⟨3, ![2, 8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S8192x2x2816, .f32⟩
  | .hbm, ⟨7, _⟩ => ⟨S2x8192x2816, .f32⟩
  | .hbm, ⟨8, _⟩ => ⟨S8192x2x2816, .f32⟩
  | .hbm, ⟨9, _⟩ => ⟨S2x8192x2816, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x2x2816, .f32⟩
  | .hbm, ⟨21, _⟩ => ⟨S2x8192x2816, .f32⟩
  | .hbm, ⟨22, _⟩ => ⟨S2x8192x2816, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Win.lean ====
abbrev S8192x7296 : Shape := ⟨2, ![8192, 7296]⟩
abbrev S8192x2048 : Shape := ⟨2, ![8192, 2048]⟩
abbrev S7296x2048 : Shape := ⟨2, ![7296, 2048]⟩
abbrev S2048x384 : Shape := ⟨2, ![2048, 384]⟩
abbrev S2048x2048 : Shape := ⟨2, ![2048, 2048]⟩
abbrev S384x2048 : Shape := ⟨2, ![384, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x7296, .bf16⟩
  | .hbm, ⟨1, _⟩ => ⟨S8192x2048, .bf16⟩
  | .hbm, ⟨2, _⟩ => ⟨S7296x2048, .bf16⟩
  | .local _ .vmem, ⟨0, _⟩ => ⟨S2048x384, .bf16⟩
  | .local _ .vmem, ⟨1, _⟩ => ⟨S2048x384, .bf16⟩
  | .local _ .vmem, ⟨2, _⟩ => ⟨S2048x2048, .bf16⟩
  | .local _ .vmem, ⟨3, _⟩ => ⟨S2048x2048, .bf16⟩
  | .local _ .vmem, ⟨4, _⟩ => ⟨S384x2048, .bf16⟩
  | .local _ .vmem, ⟨5, _⟩ => ⟨S384x2048, .bf16⟩
  | .local _ .vmem, ⟨6, _⟩ => ⟨S384x2048, .f32⟩
  | _, _ => ⟨S8192x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![19, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S8192x7296 : Shape := ⟨2, ![8192, 7296]⟩
abbrev S8192x2048 : Shape := ⟨2, ![8192, 2048]⟩
abbrev S7296x2048 : Shape := ⟨2, ![7296, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x7296, .bf16⟩
  | .hbm, ⟨1, _⟩ => ⟨S8192x2048, .bf16⟩
  | .hbm, ⟨2, _⟩ => ⟨S8192x7296, .f32⟩
  | .hbm, ⟨3, _⟩ => ⟨S8192x2048, .f32⟩
  | .hbm, ⟨4, _⟩ => ⟨S7296x2048, .f32⟩
  | .hbm, ⟨5, _⟩ => ⟨S7296x2048, .bf16⟩
  | _, _ => ⟨S8192x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S2x8192x2816 : Shape := ⟨3, ![2, 8192, 2816]⟩
abbrev S5632x2048 : Shape := ⟨2, ![5632, 2048]⟩
abbrev S8192x2048 : Shape := ⟨2, ![8192, 2048]⟩
abbrev S2x2816x2048 : Shape := ⟨3, ![2, 2816, 2048]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x2816, .bf16⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S2x2816x2048, .bf16⟩
  | .hbm, ⟨5, _⟩ => ⟨S8192x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2x8192x2816 : Shape := ⟨3, ![2, 8192, 2816]⟩
abbrev S5632x2048 : Shape := ⟨2, ![5632, 2048]⟩
abbrev S8192x2048 : Shape := ⟨2, ![8192, 2048]⟩
abbrev S1x8192x2816 : Shape := ⟨3, ![1, 8192, 2816]⟩
abbrev S8192x2816 : Shape := ⟨2, ![8192, 2816]⟩
abbrev S8192x5632 : Shape := ⟨2, ![8192, 5632]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S5632x2048, .f32⟩
  | .hbm, ⟨2, _⟩ => ⟨S8192x2048, .f32⟩
  | .hbm, ⟨3, _⟩ => ⟨S1x8192x2816, .bf16⟩
  | .hbm, ⟨4, _⟩ => ⟨S8192x2816, .bf16⟩
  | .hbm, ⟨5, _⟩ => ⟨S1x8192x2816, .bf16⟩
  | .hbm, ⟨6, _⟩ => ⟨S8192x2816, .bf16⟩
  | .hbm, ⟨7, _⟩ => ⟨S8192x5632, .bf16⟩
  | .hbm, ⟨8, _⟩ => ⟨S8192x5632, .f32⟩
  | .hbm, ⟨9, _⟩ => ⟨S8192x2048, .f32⟩
  | .hbm, ⟨10, _⟩ => ⟨S8192x2048, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Wide.lean ====
abbrev S2x8192x2816 : Shape := ⟨3, ![2, 8192, 2816]⟩
abbrev S8192x2048 : Shape := ⟨2, ![8192, 2048]⟩
abbrev S2x2816x2048 : Shape := ⟨3, ![2, 2816, 2048]⟩
abbrev S1x2048x1408 : Shape := ⟨3, ![1, 2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S8192x2048, .bf16⟩
  | .hbm, ⟨2, _⟩ => ⟨S2x2816x2048, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 2, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== WideRefIdeal.lean ====
abbrev S2x8192x2816 : Shape := ⟨3, ![2, 8192, 2816]⟩
abbrev S8192x2048 : Shape := ⟨2, ![8192, 2048]⟩
abbrev S2x2816x2048 : Shape := ⟨3, ![2, 2816, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S8192x2048, .bf16⟩
  | .hbm, ⟨2, _⟩ => ⟨S2x8192x2816, .f32⟩
  | .hbm, ⟨3, _⟩ => ⟨S8192x2048, .f32⟩
  | .hbm, ⟨4, _⟩ => ⟨S2x2816x2048, .f32⟩
  | .hbm, ⟨5, _⟩ => ⟨S2x2816x2048, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Group.lean ====
abbrev S8192x2048 : Shape := ⟨2, ![8192, 2048]⟩
abbrev S4x512x512 : Shape := ⟨3, ![4, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x512x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x512, .f32⟩
  | .local _ .vmem, ⟨5, _⟩ => ⟨S1x512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GroupRefIdeal.lean ====
abbrev S8192x2048 : Shape := ⟨2, ![8192, 2048]⟩
abbrev S8192x4x512 : Shape := ⟨3, ![8192, 4, 512]⟩
abbrev S4x512x512 : Shape := ⟨3, ![4, 512, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x4x512, .f32⟩
  | .hbm, ⟨4, _⟩ => ⟨S8192x2048, .f32⟩
  | .hbm, ⟨5, _⟩ => ⟨S8192x4x512, .f32⟩
  | .hbm, ⟨6, _⟩ => ⟨S4x512x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Adam.lean ====
abbrev S8x704x2048 : Shape := ⟨3, ![8, 704, 2048]⟩
abbrev S1x704x2048 : Shape := ⟨3, ![1, 704, 2048]⟩
abbrev S8x176x2048 : Shape := ⟨3, ![8, 176, 2048]⟩
abbrev S1x176x2048 : Shape := ⟨3, ![1, 176, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x704x2048, .bf16⟩
  | .hbm, ⟨1, _⟩ => ⟨S1x704x2048, .f32⟩
  | .hbm, ⟨2, _⟩ => ⟨S1x704x2048, .f32⟩
  | .hbm, ⟨3, _⟩ => ⟨S1x704x2048, .f32⟩
  | .hbm, ⟨4, _⟩ => ⟨S1x704x2048, .f32⟩
  | .hbm, ⟨5, _⟩ => ⟨S1x704x2048, .f32⟩
  | .hbm, ⟨6, _⟩ => ⟨S1x704x2048, .f32⟩
  | .hbm, ⟨7, _⟩ => ⟨S1x704x2048, .f32⟩
  | .local _ .vmem, ⟨0, _⟩ => ⟨S8x176x2048, .bf16⟩
  | .local _ .vmem, ⟨1, _⟩ => ⟨S8x176x2048, .bf16⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamRefIdeal.lean ====
abbrev S8x704x2048 : Shape := ⟨3, ![8, 704, 2048]⟩
abbrev S1x704x2048 : Shape := ⟨3, ![1, 704, 2048]⟩
abbrev S_ : Shape := ⟨0, ![]⟩
abbrev S704x2048 : Shape := ⟨2, ![704, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S1x704x2048, .f32⟩
  | .hbm, ⟨2, _⟩ => ⟨S1x704x2048, .f32⟩
  | .hbm, ⟨3, _⟩ => ⟨S1x704x2048, .f32⟩
  | .hbm, ⟨4, _⟩ => ⟨S8x704x2048, .f32⟩
  | .hbm, ⟨5, _⟩ => ⟨S_, .f32⟩
  | .hbm, ⟨6, _⟩ => ⟨S704x2048, .f32⟩
  | .hbm, ⟨7, _⟩ => ⟨S1x704x2048, .f32⟩
  | .hbm, ⟨8, _⟩ => ⟨S_, .f32⟩
  | .hbm, ⟨9, _⟩ => ⟨S1x704x2048, .f32⟩
  | .hbm, ⟨10, _⟩ => ⟨S1x704x2048, .f32⟩
  | .hbm, ⟨11, _⟩ => ⟨S_, .f32⟩
  | .hbm, ⟨12, _⟩ => ⟨S1x704x2048, .f32⟩
  | .hbm, ⟨13, _⟩ => ⟨S1x704x2048, .f32⟩
  | .hbm, ⟨14, _⟩ => ⟨S1x704x2048, .f32⟩
  | .hbm, ⟨15, _⟩ => ⟨S_, .f32⟩
  | .hbm, ⟨16, _⟩ => ⟨S1x704x2048, .f32⟩
  | .hbm, ⟨17, _⟩ => ⟨S1x704x2048, .f32⟩
  | .hbm, ⟨18, _⟩ => ⟨S1x704x2048, .f32⟩
  | .hbm, ⟨19, _⟩ => ⟨S_, .f32⟩
  | .hbm, ⟨20, _⟩ => ⟨S1x704x2048, .f32⟩
  | .hbm, ⟨21, _⟩ => ⟨S1x704x2048, .f32⟩
  | .hbm, ⟨22, _⟩ => ⟨S1x704x2048, .f32⟩
  | .hbm, ⟨23, _⟩ => ⟨S_, .f32⟩
  | .hbm, ⟨24, _⟩ => ⟨S1x704x2048, .f32⟩
  | .hbm, ⟨25, _⟩ => ⟨S1x704x2048, .f32⟩
  | .hbm, ⟨26, _⟩ => ⟨S_, .f32⟩
  | .hbm, ⟨27, _⟩ => ⟨S1x704x2048, .f32⟩
  | .hbm, ⟨28, _⟩ => ⟨S1x704x2048, .f32⟩
  | .hbm, ⟨29, _⟩ => ⟨S1x704x2048, .f32⟩
  | .hbm, ⟨30, _⟩ => ⟨S_, .f32⟩
  | .hbm, ⟨31, _⟩ => ⟨S1x704x2048, .f32⟩
  | .hbm, ⟨32, _⟩ => ⟨S1x704x2048, .f32⟩
  | .hbm, ⟨33, _⟩ => ⟨S1x704x2048, .f32⟩
  | .hbm, ⟨34, _⟩ => ⟨S_, .f32⟩
  | .hbm, ⟨35, _⟩ => ⟨S1x704x2048, .f32⟩
  | .hbm, ⟨36, _⟩ => ⟨S1x704x2048, .f32⟩
  | .hbm, ⟨37, _⟩ => ⟨S1x704x2048, .f32⟩
  | .hbm, ⟨38, _⟩ => ⟨S_, .f32⟩
  | .hbm, ⟨39, _⟩ => ⟨S1x704x2048, .f32⟩
  | .hbm, ⟨40, _⟩ => ⟨S1x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Heads.lean ====
abbrev S8192x2048 : Shape := ⟨2, ![8192, 2048]⟩
abbrev S8192x7296 : Shape := ⟨2, ![8192, 7296]⟩
abbrev S512x2048 : Shape := ⟨2, ![512, 2048]⟩
abbrev S512x128 : Shape := ⟨2, ![512, 128]⟩
abbrev S2048x128 : Shape := ⟨2, ![2048, 128]⟩

abbrev nBuf : Space → Nat
  | .hbm => 3
  | .vmem => 4
  | .smem => 0
  | _ => 0

abbrev bufTy : (tb : Table) → Fin (tcTables nBuf tb) → BufTy
  | .hbm, ⟨0, _⟩ => ⟨S8192x2048, .f32⟩
  | .hbm, ⟨1, _⟩ => ⟨S8192x7296, .bf16⟩
  | .hbm, ⟨2, _⟩ => ⟨S8192x7296, .bf16⟩
  | .local _ .vmem, ⟨0, _⟩ => ⟨S512x2048, .f32⟩
  | .local _ .vmem, ⟨1, _⟩ => ⟨S512x2048, .f32⟩
  | .local _ .vmem, ⟨2, _⟩ => ⟨S512x128, .bf16⟩
  | .local _ .vmem, ⟨3, _⟩ => ⟨S512x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c56_i32 : BitVec 32 := 56#32
  let c0_i32 : BitVec 32 := 0#32
  ![arg0.toNat, c56_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== HeadsRefIdeal.lean ====
abbrev S8192x2048 : Shape := ⟨2, ![8192, 2048]⟩
abbrev S8192x7296 : Shape := ⟨2, ![8192, 7296]⟩
abbrev S8192x7168 : Shape := ⟨2, ![8192, 7168]⟩
abbrev S8192x32 : Shape := ⟨2, ![8192, 32]⟩
abbrev S_ : Shape := ⟨0, ![]⟩
abbrev S8192x96 : Shape := ⟨2, ![8192, 96]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x7296, .bf16⟩
  | .hbm, ⟨2, _⟩ => ⟨S8192x7168, .bf16⟩
  | .hbm, ⟨3, _⟩ => ⟨S8192x32, .f32⟩
  | .hbm, ⟨4, _⟩ => ⟨S8192x32, .bf16⟩
  | .hbm, ⟨5, _⟩ => ⟨S_, .bf16⟩
  | .hbm, ⟨6, _⟩ => ⟨S8192x96, .bf16⟩
  | .hbm, ⟨7, _⟩ => ⟨S8192x7296, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.RealLift.lean ====
/-
  Extended reals that are reals: each float operation of the ideal reading, on operands that are images of real
  numbers, is the image of the real operation. The value proofs of this directory first name the real arrays their
  arguments hold (the precondition says that they are finite) and then compute with real numbers only.
-/
module

public import Idealize.ShloMosaic.PureOps.Ideal
public import Idealize.ShloMosaic.PureOps.Ideal.Laws
public import Idealize.ShloMosaic.Lib.IdealHost

@[expose] public section

noncomputable section

namespace Cert.Lift

open Idealize.ShloMosaic

/-- A sum of images of reals is the image of the sum. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe {a b : ℝ} (hb : b ≠ 0) : Ideal.div (a : EReal) (b : EReal) = ((a / b : ℝ) : EReal) := by
  unfold Ideal.div
  rw [if_neg (by exact_mod_cast hb), div_eq_mul_inv, EReal.coe_mul, EReal.coe_inv]

theorem rsqrt_coe {a : ℝ} (ha : 0 < a) : Ideal.rsqrt (a : EReal) = (((Real.sqrt a)⁻¹ : ℝ) : EReal) := by
  rw [Ideal.rsqrt_coe, if_neg (not_lt.mpr ha.le), if_neg ha.ne']

theorem logistic_coe (a : ℝ) : Ideal.logistic (a : EReal) = ((1 / (1 + Real.exp (-a)) : ℝ) : EReal) := by
  unfold Ideal.logistic
  rw [← EReal.coe_neg, Ideal.exp_coe, ← EReal.coe_one, ← EReal.coe_add, div_coe (by positivity)]

theorem log1p_coe {a : ℝ} (ha : 0 < 1 + a) : Ideal.log1p (a : EReal) = ((Real.log (1 + a) : ℝ) : EReal) := by
  unfold Ideal.log1p
  rw [← EReal.coe_one, ← EReal.coe_add, Ideal.log_coe, if_neg (not_le.mpr ha)]

theorem max_coe (a b : ℝ) : max (a : EReal) (b : EReal) = ((max a b : ℝ) : EReal) :=
  (EReal.coe_strictMono.monotone.map_max (a := (a : ℝ)) (b := (b : ℝ))).symm

theorem min_coe (a b : ℝ) : min (a : EReal) (b : EReal) = ((min a b : ℝ) : EReal) :=
  (EReal.coe_strictMono.monotone.map_min (a := (a : ℝ)) (b := (b : ℝ))).symm

theorem if_coe (p : Prop) [Decidable p] (a b : ℝ) : (if p then (a : EReal) else (b : EReal)) = ((if p then a else b : ℝ) : EReal) := by
  split <;> rfl

/-- What an extended real is when its absolute value is below infinity. -/
theorem real_of_abs_lt {x : EReal} (h : max x (-x) < ⊤) : ((x.toReal : ℝ) : EReal) = x := by
  refine EReal.coe_toReal ?_ ?_
  · rintro rfl; simp at h
  · rintro rfl; simp at h

theorem ofBits_inf : Ideal.ofBits .f32 0x7F800000#32 = ⊤ := by simp [Ideal.ofBits, Ideal.ieee]

theorem ofBits_neg_inf : Ideal.ofBits .f32 0xFF800000#32 = ⊥ := by simp [Ideal.ofBits, Ideal.ieee]

theorem ofBits_half : Ideal.ofBits .f32 0x3F000000#32 = (((1 / 2 : ℝ)) : EReal) := by
  simp [Ideal.ofBits, Ideal.ieee, -EReal.coe_mul]; norm_num

theorem ofBits_neg_half : Ideal.ofBits .f32 0xBF000000#32 = (((-1 / 2 : ℝ)) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

/-- The small number that keeps a mean of squares away from zero, as its float word has it. -/
def eps : ℝ := 10995116 / 2 ^ 40

theorem eps_pos : 0 < eps := by unfold eps; positivity

theorem ofBits_eps : Ideal.ofBits .f32 0x3727C5AC#32 = (eps : EReal) := by
  unfold eps
  simp [Ideal.ofBits, Ideal.ieee, -EReal.coe_mul]; norm_num

theorem zero_coe : (0 : EReal) = ((0 : ℝ) : EReal) := rfl
theorem one_coe : (1 : EReal) = ((1 : ℝ) : EReal) := rfl

/-- The conjunction of two truth values is true when both are. -/
theorem and_ofBool {p q : Bool} : IntOp.andi (BitVec.ofBool p) (BitVec.ofBool q) = BitVec.ofBool (p && q) := by
  cases p <;> cases q <;> rfl

/-- A number whose absolute value was tested to be below the largest one is a real number. -/
theorem real_of_test {x : EReal} (h : max x (-x) < Ideal.ofBits .f32 0x7F800000#32) : x = ((x.toReal : ℝ) : EReal) :=
  (real_of_abs_lt (ofBits_inf ▸ h)).symm

end Cert.Lift

end
-- ==== Proof.RowNorm.lean ====
/-
  A row divided by the root of the mean of its squares, and the row's gradient, over real numbers.
-/
module

public import proofs.«01_k».proof.Proof.RealLift
public import Idealize.ShloMosaic.Lib.Pointwise

@[expose] public section

set_option maxRecDepth 16384

noncomputable section

namespace Cert.NormValue

open Idealize.ShloMosaic Cert.Lift

theorem hz : (![0, 0] : Fin 2 → Nat) = fun _ => 0 := funext fun a => by fin_cases a <;> rfl

/-- The mean of a row's squares, plus the small number. -/
def meanSq (x : Fin 2048 → ℝ) : ℝ := (∑ k, x k * x k) / 2048 + eps

theorem meanSq_pos (x : Fin 2048 → ℝ) : 0 < meanSq x := by
  have h : 0 ≤ ∑ k, x k * x k := Finset.sum_nonneg fun k _ => mul_self_nonneg _
  have := eps_pos
  unfold meanSq
  positivity

/-- The factor that normalises the row. -/
def scale (x : Fin 2048 → ℝ) : ℝ := (Real.sqrt (meanSq x))⁻¹

/-- The row's gradient from the row, the weight and the row's cotangent. -/
def rowGrad (x w dy : Fin 2048 → ℝ) (k : Fin 2048) : ℝ :=
  scale x * (dy k * w k - x k * scale x * ((∑ j, dy j * w j * (x j * scale x)) / 2048))

/-- The two forms of a row's gradient are one. -/
theorem rowGrad_eq (x w dy : Fin 2048 → ℝ) (k : Fin 2048) :
    dy k * w k * scale x + x k * ((∑ j, x j * (dy j * w j)) * (-1 / 2 * (scale x / meanSq x)) / 2048)
      + (∑ j, x j * (dy j * w j)) * (-1 / 2 * (scale x / meanSq x)) / 2048 * x k = rowGrad x w dy k := by
  have hm := meanSq_pos x
  have hs : scale x / meanSq x = scale x * (scale x * scale x) := by
    unfold scale
    rw [div_eq_mul_inv, ← mul_inv (Real.sqrt _) (Real.sqrt _), Real.mul_self_sqrt hm.le]
  have ht : ∑ j, dy j * w j * (x j * scale x) = (∑ j, x j * (dy j * w j)) * scale x := by
    rw [Finset.sum_mul]
    exact Finset.sum_congr rfl fun j _ => by ring
  unfold rowGrad
  rw [hs, ht]
  ring

/-- The rows of the array, numbered by point and row within the point's block. -/
theorem sum_rows (f : Fin 8192 → ℝ) :
    ∑ t : Fin 32, ∑ r : Fin 256, f ⟨256 * t.val + r.val, by omega⟩ = ∑ r, f r := by
  rw [← Fintype.sum_prod_type', ← Equiv.sum_comp (finProdFinEquiv (m := 32) (n := 256))]
  refine Finset.sum_congr rfl fun p _ => congrArg f (Fin.ext ?_)
  show 256 * p.1.val + p.2.val = p.2.val + 256 * p.1.val
  omega

end Cert.NormValue

end
-- ==== Proof.NormBlock.lean ====
/-
  What one grid point of the norm's backward kernel computes, over real numbers: from 256 rows of the input, of the
  weight and of the cotangent, the 256 rows of the input's gradient, and the rows' share of the weight's gradient.
-/
module

public import proofs.«01_k».proof.Proof.Gen.NormIdeal.Skeleton
public import proofs.«01_k».proof.Proof.RowNorm
public import Idealize.ShloMosaic.Lib.Pointwise

@[expose] public section

set_option maxRecDepth 16384

noncomputable section

namespace Cert.NormValue

open Idealize.ShloMosaic Idealize.ShloMosaic.TcCoe Idealize.SL.Sem Cert.Lift

open Cert.NormIdeal Cert.NormIdeal.Gen

variable {v0 : Vec Ideal S256x2048 .f32} {v11 : Vec Ideal S256x2048 .bf16} {v13 : Vec Ideal S1x2048 .f32}
  {x dy : Fin 256 → Fin 2048 → ℝ} {w : Fin 2048 → ℝ}

theorem scale_apply (hx : ∀ r k, v0 (ix2 r k) = (x r k : EReal)) (r : Fin 256) :
    k0_pay2 (F := Ideal) v0 (ix2 r 0) = (scale (x r) : EReal) := by
  pointwise [k0_pay2]
  simp only [hx, Ideal.mulf_def, Ideal.addf_def, Ideal.divf_def, Ideal.rsqrt_def, Ideal.ofBits_def, ofBits_2048, ofBits_eps, ← EReal.coe_mul, sum_coe]
  rw [div_coe (by norm_num), ← EReal.coe_add]
  exact rsqrt_coe (meanSq_pos (x r))

theorem unit_apply (hx : ∀ r k, v0 (ix2 r k) = (x r k : EReal)) (r : Fin 256) (k : Fin 2048) :
    k0_pay3 (F := Ideal) v0 (ix2 r k) = ((x r k * scale (x r) : ℝ) : EReal) := by
  pointwise [k0_pay3]
  simp only [scale_apply hx, hx, Ideal.mulf_def, ← EReal.coe_mul]

theorem grad_apply (hx : ∀ r k, v0 (ix2 r k) = (x r k : EReal)) (hdy : ∀ r k, v11 (ix2 r k) = (dy r k : EReal))
    (hw : ∀ k, v13 (ix2 0 k) = (w k : EReal)) (v26 : Vec Ideal S256x2048 .bf16) (r : Fin 256) (k : Fin 2048) :
    k0_pay5 (F := Ideal) v0 v11 v13 v26 (ix2 r k) = (rowGrad (x r) w (dy r) k : EReal) + v26 (ix2 r k) := by
  pointwise [k0_pay5, k0_pay4]
  simp only [scale_apply hx, unit_apply hx, hx, hdy, hw, Ideal.mulf_def, Ideal.addf_def, Ideal.subf_def, Ideal.divf_def, Ideal.extf_def,
    Ideal.ofBits_def, ofBits_2048, ← EReal.coe_mul, sum_coe]
  rw [div_coe (by norm_num), ← EReal.coe_mul, ← EReal.coe_sub, ← EReal.coe_mul]
  rfl

theorem share_apply (hx : ∀ r k, v0 (ix2 r k) = (x r k : EReal)) (hdy : ∀ r k, v11 (ix2 r k) = (dy r k : EReal)) (k : Fin 2048) :
    k0_pay6 (F := Ideal) v0 v11 (ix2 0 k) = ((∑ r, dy r k * (x r k * scale (x r)) : ℝ) : EReal) := by
  pointwise [k0_pay6, k0_pay4]
  simp only [unit_apply hx, hdy, Ideal.mulf_def, Ideal.extf_def, ← EReal.coe_mul, sum_coe]

end Cert.NormValue

end
-- ==== Proof.NormArray.lean ====
/-
  What the two result arrays of the norm's backward kernel hold after its grid: the input's gradient block by block, and
  the weight's gradient, the sum over the grid's points of each point's rows.
-/
module

public import proofs.«01_k».proof.Proof.Gen.NormIdeal.Value
public import proofs.«01_k».proof.Proof.NormBlock

@[expose] public section

set_option maxRecDepth 16384

noncomputable section

namespace Cert.NormValue

open Idealize.ShloMosaic Idealize.ShloMosaic.TcCoe Idealize.SL.Sem Cert.Lift
open Idealize.ShloMosaic.Pipeline (Dat)
open Cert.NormIdeal Cert.NormIdeal.Gen

section
variable {F : FTy → Type} [FloatOps F] (m : (ℓ : Loc nD τ sig) → Buf (Elt F) ℓ)

/-- At the first point the body leaves the gradient's block and the rows' share. -/
theorem outs_first (c : Dev nD) (t : Fin cfg0.N) (h0 : t.val % 32 = 0) (h1 : ¬1 ≤ t.val) :
    outsAt0 m c t.val t.isLt = (k0_pay5 (iblk m c 0 t) (iblk m c 2 t) (iblk m c 1 t) (iblk m c 3 t), k0_pay6 (iblk m c 0 t) (iblk m c 2 t)) := by
  rw [outsAt0_A m c t h0 h1]
  refine Prod.ext ?_ ?_
  · dsimp only
    unfold out0_A_4
    rw [View.read_writes_eq_canon _ _ _ (fun y => cover0_A_4 (y := y) ..)]
    unfold kernelRun0_A
    dsimp only
    rw [View.canon_unit_zero hz]
    simp only [View.readAt_eq_ld, (hs0_0 t).read_unread, (hs0_1 t).read_unread, (hs0_2 t).read_unread, (hs0_3 t).read_unread,
      View.ld_unit_zero (S := S256x2048) hz, View.ld_unit_zero (S := S1x2048) hz]
  · dsimp only
    unfold out0_A_5
    rw [View.read_writes_eq_canon _ _ _ (fun y => cover0_A_5 (y := y) ..)]
    unfold kernelRun0_A
    dsimp only
    rw [View.canon_unit_zero hz]
    simp only [View.readAt_eq_ld, (hs0_0 t).read_unread, (hs0_2 t).read_unread, View.ld_unit_zero (S := S256x2048) hz]

/-- At every later point the share is added to what the point before left. -/
theorem outs_next (c : Dev nD) (n : Nat) (h : n + 1 < cfg0.N) :
    outsAt0 m c (n + 1) h
      = (k0_pay5 (iblk m c 0 ⟨n + 1, h⟩) (iblk m c 2 ⟨n + 1, h⟩) (iblk m c 1 ⟨n + 1, h⟩) (iblk m c 3 ⟨n + 1, h⟩),
        k0_pay1 (k0_pay6 (iblk m c 0 ⟨n + 1, h⟩) (iblk m c 2 ⟨n + 1, h⟩)) (outsAt0 m c n (Nat.lt_of_succ_lt h)).2) := by
  have hN : cfg0.N = 32 := N_0
  have hB : ¬(⟨n + 1, h⟩ : Fin cfg0.N).val % 32 = 0 := by dsimp only; omega
  rw [outsAt0_B m c ⟨n + 1, h⟩ hB (Nat.le_add_left 1 n)]
  refine Prod.ext ?_ ?_
  · dsimp only
    unfold out0_B_4
    rw [View.read_writes_eq_canon _ _ _ (fun y => cover0_B_4 (y := y) ..)]
    unfold kernelRun0_B
    dsimp only
    rw [View.canon_unit_zero hz]
    simp only [View.readAt_eq_ld, (hs0_0 _).read_unread, (hs0_1 _).read_unread, (hs0_2 _).read_unread, (hs0_3 _).read_unread,
      View.ld_unit_zero (S := S256x2048) hz, View.ld_unit_zero (S := S1x2048) hz]
  · dsimp only
    unfold out0_B_5
    rw [View.read_writes_eq_canon _ _ _ (fun y => cover0_B_5 (y := y) ..)]
    unfold kernelRun0_B
    dsimp only
    sl_unfold_words
    rw [View.canon_unit_zero hz]
    simp only [View.readAt_eq_ld, (hs0_0 _).read_unread, (hs0_2 _).read_unread, (hs0_5 _).read_unread, View.ld_unit_zero (S := S256x2048) hz,
      View.ld_unit_zero (S := S1x2048) hz]
    rfl

theorem index_row : ∀ t : Fin cfg0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_1.index t 0 = 0 ∧ win0_1.index t 1 = 0) ∧ (win0_5.index t 0 = 0 ∧ win0_5.index t 1 = 0) :=
  (by decide +kernel : ∀ t : Fin grid0.N, (win0_0.index t 0 = t.val ∧ win0_0.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_1.index t 0 = 0 ∧ win0_1.index t 1 = 0) ∧ (win0_5.index t 0 = 0 ∧ win0_5.index t 1 = 0))

/-- Row `r` of point `t`'s block is this row of the array. -/
def rowAt (t : Fin cfg0.N) (r : Fin 256) : Fin 8192 :=
  ⟨256 * t.val + r.val, by have := t.isLt; have hN : cfg0.N = 32 := N_0; have := r.isLt; omega⟩

theorem block_x (c : Dev nD) (t : Fin cfg0.N) (r : Fin 256) (k : Fin 2048) :
    (iblk m c 0 t : Vec F S256x2048 .f32) (ix2 r k) = m ((c : Thread nD τ).loc main_arg0) (ix2 (rowAt t r) k) := by
  unfold iblk
  rw [View.read_apply]
  show V m c main_arg0 _ = m (c.tc.loc main_arg0) _
  unfold V
  congr 1
  funext a
  apply Fin.ext
  match a with
  | ⟨0, _⟩ => show win0_0.index t 0 * 256 + 1 * r.val = 256 * t.val + r.val; rw [(index_row t).1.1]; omega
  | ⟨1, _⟩ => show win0_0.index t 1 * 2048 + 1 * k.val = k.val; rw [(index_row t).1.2]; omega

theorem block_dy (c : Dev nD) (t : Fin cfg0.N) (r : Fin 256) (k : Fin 2048) :
    (iblk m c 2 t : Vec F S256x2048 .bf16) (ix2 r k) = m ((c : Thread nD τ).loc main_arg2) (ix2 (rowAt t r) k) := by
  unfold iblk
  rw [View.read_apply]
  show V m c main_arg2 _ = m (c.tc.loc main_arg2) _
  unfold V
  congr 1
  funext a
  apply Fin.ext
  match a with
  | ⟨0, _⟩ => show win0_2.index t 0 * 256 + 1 * r.val = 256 * t.val + r.val; rw [(index_row t).2.1.1]; omega
  | ⟨1, _⟩ => show win0_2.index t 1 * 2048 + 1 * k.val = k.val; rw [(index_row t).2.1.2]; omega

theorem block_add (c : Dev nD) (t : Fin cfg0.N) (r : Fin 256) (k : Fin 2048) :
    (iblk m c 3 t : Vec F S256x2048 .bf16) (ix2 r k) = m ((c : Thread nD τ).loc main_arg3) (ix2 (rowAt t r) k) := by
  unfold iblk
  rw [View.read_apply]
  show V m c main_arg3 _ = m (c.tc.loc main_arg3) _
  unfold V
  congr 1
  funext a
  apply Fin.ext
  match a with
  | ⟨0, _⟩ => show win0_3.index t 0 * 256 + 1 * r.val = 256 * t.val + r.val; rw [(index_row t).2.2.1.1]; omega
  | ⟨1, _⟩ => show win0_3.index t 1 * 2048 + 1 * k.val = k.val; rw [(index_row t).2.2.1.2]; omega

theorem block_w (c : Dev nD) (t : Fin cfg0.N) (k : Fin 2048) :
    (iblk m c 1 t : Vec F S1x2048 .f32) (ix2 0 k) = m ((c : Thread nD τ).loc main_arg1) (ix2 0 k) := by
  unfold iblk
  rw [View.read_apply]
  show V m c main_arg1 _ = m (c.tc.loc main_arg1) _
  unfold V
  congr 1
  funext a
  apply Fin.ext
  match a with
  | ⟨0, _⟩ => show win0_1.index t 0 * 1 + 1 * 0 = 0; rw [(index_row t).2.2.2.2.1.1]
  | ⟨1, _⟩ => show win0_1.index t 1 * 2048 + 1 * k.val = k.val; rw [(index_row t).2.2.2.2.1.2]; omega

end

section
variable (m : (ℓ : Loc nD τ sig) → Buf (Elt Ideal) ℓ) {c : Dev nD} {x dy : Fin 8192 → Fin 2048 → ℝ} {w : Fin 2048 → ℝ}

/-- The input's gradient, as contents of its array. -/
def gradArray (c : Dev nD) (x dy : Fin 8192 → Fin 2048 → ℝ) (w : Fin 2048 → ℝ) : Buf (Elt Ideal) ((c : Thread nD τ).loc main_v0_0) :=
  fun i : S8192x2048.Idx => (rowGrad (x (i 0)) w (dy (i 0)) (i 1) : EReal) + (m ((c : Thread nD τ).loc main_arg3) i : EReal)

theorem grad_flushed (hx : ∀ r k, m ((c : Thread nD τ).loc main_arg0) (ix2 r k) = (x r k : EReal))
    (hdy : ∀ r k, m ((c : Thread nD τ).loc main_arg2) (ix2 r k) = (dy r k : EReal))
    (hw : ∀ k, m ((c : Thread nD τ).loc main_arg1) (ix2 0 k) = (w k : EReal)) (t : Fin cfg0.N) (_ : (cfg0.win 4).flush t = true) :
    (dats m 0 c).flushed 4 t = ((cfg0.win 4).blk t).view.read (Elt Ideal) (gradArray m c x dy w) := by
  rw [Value.flushed4]
  have h : (outsAt0 m c t.val t.isLt).1 = k0_pay5 (iblk m c 0 t) (iblk m c 2 t) (iblk m c 1 t) (iblk m c 3 t) := by
    obtain ⟨n, hn⟩ := t
    cases n with
    | zero => exact congrArg Prod.fst (outs_first m c ⟨0, hn⟩ rfl (by simp))
    | succ n => exact congrArg Prod.fst (outs_next m c n hn)
  rw [h]
  funext j
  obtain ⟨r, k, rfl⟩ : ∃ (r : Fin 256) (k : Fin 2048), j = ix2 r k := ⟨j 0, j 1, eq_ix2 j⟩
  show k0_pay5 (iblk m c 0 t) (iblk m c 2 t) (iblk m c 1 t) (iblk m c 3 t) (ix2 r k) = _
  rw [grad_apply (x := fun r => x (rowAt t r)) (dy := fun r => dy (rowAt t r)) (w := w) (fun r k => by rw [block_x, hx]) (fun r k => by rw [block_dy, hdy])
    (fun k => by rw [block_w, hw]), block_add, View.read_apply]
  have he : ((cfg0.win 4).blk t).view.emb (ix2 r k) = (ix2 (rowAt t r) k : S8192x2048.Idx) := by
    funext a
    apply Fin.ext
    match a with
    | ⟨0, _⟩ => show win0_4.index t 0 * 256 + 1 * r.val = 256 * t.val + r.val; rw [(index_row t).2.2.2.1.1]; omega
    | ⟨1, _⟩ => show win0_4.index t 1 * 2048 + 1 * k.val = k.val; rw [(index_row t).2.2.2.1.2]; omega
  rw [he]
  rfl

/-- The array of the input's gradient after the grid. -/
theorem grad_final (hx : ∀ r k, m ((c : Thread nD τ).loc main_arg0) (ix2 r k) = (x r k : EReal))
    (hdy : ∀ r k, m ((c : Thread nD τ).loc main_arg2) (ix2 r k) = (dy r k : EReal))
    (hw : ∀ k, m ((c : Thread nD τ).loc main_arg1) (ix2 0 k) = (w k : EReal)) :
    (dats m 0 c).arrAt 4 cfg0.N = gradArray m c x dy w :=
  (dats m 0 c).arrAt_eq_of_cover 4 _ (grad_flushed m hx hdy hw) fun i => by
    have h0 : (i 0 : Nat) < 8192 := (i 0).isLt
    have h1 : (i 1 : Nat) < 2048 := (i 1).isLt
    have hN : cfg0.N = 32 := N_0
    obtain ⟨t, ht⟩ : ∃ t : Fin cfg0.N, t.val = (i 0 : Nat) / 256 := ⟨⟨(i 0 : Nat) / 256, by omega⟩, rfl⟩
    refine ⟨t, flush0_4 t, ?_⟩
    show i ∈ ((View.whole main_v0_0).slice (win0_4.rect t)).set
    rw [View.set_slice_whole, Rect.mem_set_unit]
    have hi := (index_row t).2.2.2.1
    intro a
    match a with
    | ⟨0, _⟩ => show win0_4.index t 0 * 256 ≤ (i 0 : Nat) ∧ (i 0 : Nat) < win0_4.index t 0 * 256 + 256
                rw [hi.1]; omega
    | ⟨1, _⟩ => show win0_4.index t 1 * 2048 ≤ (i 1 : Nat) ∧ (i 1 : Nat) < win0_4.index t 1 * 2048 + 2048
                rw [hi.2]; omega

/-- A row's term of the weight's gradient. -/
def term (x dy : Fin 8192 → Fin 2048 → ℝ) (k : Fin 2048) (r : Fin 8192) : ℝ := dy r k * (x r k * scale (x r))

theorem share_point (hx : ∀ r k, m ((c : Thread nD τ).loc main_arg0) (ix2 r k) = (x r k : EReal))
    (hdy : ∀ r k, m ((c : Thread nD τ).loc main_arg2) (ix2 r k) = (dy r k : EReal)) (t : Fin cfg0.N) (k : Fin 2048) :
    k0_pay6 (iblk m c 0 t) (iblk m c 2 t) (ix2 0 k) = ((∑ r, term x dy k (rowAt t r) : ℝ) : EReal) :=
  share_apply (x := fun r => x (rowAt t r)) (dy := fun r => dy (rowAt t r)) (fun r k => by rw [block_x, hx]) (fun r k => by rw [block_dy, hdy]) k

/-- What the accumulator holds after point `n`: the terms of the rows so far. -/
theorem sum_upto (hx : ∀ r k, m ((c : Thread nD τ).loc main_arg0) (ix2 r k) = (x r k : EReal))
    (hdy : ∀ r k, m ((c : Thread nD τ).loc main_arg2) (ix2 r k) = (dy r k : EReal)) (k : Fin 2048) :
    ∀ (n : Nat) (h : n < cfg0.N), (outsAt0 m c n h).2 (ix2 0 k)
      = ((∑ t : Fin (n + 1), ∑ r, term x dy k (rowAt ⟨t.val, lt_of_lt_of_le t.isLt h⟩ r) : ℝ) : EReal)
  | 0, h => by
    rw [show (outsAt0 m c 0 h).2 = _ from congrArg Prod.snd (outs_first m c ⟨0, h⟩ rfl (by simp)), Fin.sum_univ_one]
    exact share_point m hx hdy ⟨0, h⟩ k
  | n + 1, h => by
    rw [outs_next, Fin.sum_univ_castSucc, EReal.coe_add]
    pointwise [k0_pay1]
    rw [sum_upto hx hdy k n, share_point m hx hdy]
    rfl

/-- The weight's gradient, as contents of its array. -/
def shareArray (c : Dev nD) (x dy : Fin 8192 → Fin 2048 → ℝ) : Buf (Elt Ideal) ((c : Thread nD τ).loc main_v0_1) :=
  fun i : S1x2048.Idx => ((∑ r, term x dy (i 1) r : ℝ) : EReal)

theorem share_flushed (hx : ∀ r k, m ((c : Thread nD τ).loc main_arg0) (ix2 r k) = (x r k : EReal))
    (hdy : ∀ r k, m ((c : Thread nD τ).loc main_arg2) (ix2 r k) = (dy r k : EReal)) (t : Fin cfg0.N) (hf : (cfg0.win 5).flush t = true) :
    (dats m 0 c).flushed 5 t = ((cfg0.win 5).blk t).view.read (Elt Ideal) (shareArray c x dy) := by
  rw [Value.flushed5]
  have hN : cfg0.N = 32 := N_0
  have hl : t.val = 31 := by have := (flush0_5 t).mp hf; have := t.isLt; omega
  funext j
  obtain ⟨r, k, rfl⟩ : ∃ (r : Fin 1) (k : Fin 2048), j = ix2 r k := ⟨j 0, j 1, eq_ix2 j⟩
  obtain rfl : r = 0 := Subsingleton.elim _ _
  show (outsAt0 m c t.val t.isLt).2 (ix2 0 k) = _
  rw [sum_upto m hx hdy, View.read_apply]
  have he : ((cfg0.win 5).blk t).view.emb (ix2 0 k) = (ix2 0 k : S1x2048.Idx) := by
    funext a
    apply Fin.ext
    match a with
    | ⟨0, _⟩ => show win0_5.index t 0 * 1 + 1 * 0 = 0; rw [(index_row t).2.2.2.2.2.1]
    | ⟨1, _⟩ => show win0_5.index t 1 * 2048 + 1 * k.val = k.val; rw [(index_row t).2.2.2.2.2.2]; omega
  rw [he]
  obtain ⟨n, hn⟩ := t
  obtain rfl : n = 31 := hl
  exact congrArg _ (sum_rows (term x dy k))

/-- The array of the weight's gradient after the grid. -/
theorem share_final (hx : ∀ r k, m ((c : Thread nD τ).loc main_arg0) (ix2 r k) = (x r k : EReal))
    (hdy : ∀ r k, m ((c : Thread nD τ).loc main_arg2) (ix2 r k) = (dy r k : EReal)) :
    (dats m 0 c).arrAt 5 cfg0.N = shareArray c x dy :=
  (dats m 0 c).arrAt_eq_of_cover 5 _ (share_flushed m hx hdy) fun i => by
    have h0 : (i 0 : Nat) < 1 := (i 0).isLt
    have h1 : (i 1 : Nat) < 2048 := (i 1).isLt
    have hN : cfg0.N = 32 := N_0
    obtain ⟨t, ht⟩ : ∃ t : Fin cfg0.N, t.val % 32 = 31 := ⟨⟨31, by omega⟩, rfl⟩
    refine ⟨t, (flush0_5 t).mpr ht, ?_⟩
    show i ∈ ((View.whole main_v0_1).slice (win0_5.rect t)).set
    rw [View.set_slice_whole, Rect.mem_set_unit]
    have hi := (index_row t).2.2.2.2.2
    intro a
    match a with
    | ⟨0, _⟩ => show win0_5.index t 0 * 1 ≤ (i 0 : Nat) ∧ (i 0 : Nat) < win0_5.index t 0 * 1 + 1
                rw [hi.1]; omega
    | ⟨1, _⟩ => show win0_5.index t 1 * 2048 ≤ (i 1 : Nat) ∧ (i 1 : Nat) < win0_5.index t 1 * 2048 + 2048
                rw [hi.2]; omega

end

end Cert.NormValue

end
-- ==== Proof.NormRef.lean ====
/-
  What the norm's reference gradient holds, over real numbers, and that it is the kernel's formula: the reference
  differentiates `x * rsqrt(mean(x * x) + eps) * w`, so the factor's own derivative `-1/2 * r / (mean + eps)` stands where
  the kernel has `r ^ 3`.
-/
module

public import proofs.«01_k».proof.Proof.Gen.NormRefIdeal.Read
public import proofs.«01_k».proof.Proof.NormBlock

@[expose] public section

set_option maxRecDepth 16384

noncomputable section

namespace Cert.NormValue

open Idealize.ShloMosaic Idealize.ShloMosaic.TcCoe Idealize.SL.Sem Cert.Lift
open Cert.NormRefIdeal Cert.NormRefIdeal.Read

variable {x0 : (⟨S8192x2048, .f32⟩ : BufTy).Contents (Elt Ideal)} {x1 : (⟨S1x2048, .f32⟩ : BufTy).Contents (Elt Ideal)}
  {x2 x3 : (⟨S8192x2048, .bf16⟩ : BufTy).Contents (Elt Ideal)} {x dy : Fin 8192 → Fin 2048 → ℝ} {w : Fin 2048 → ℝ}

theorem refMean_apply (hx : ∀ r k, x0 (ix2 r k) = (x r k : EReal)) (r : Fin 8192) :
    val_main_v7 (F := Ideal) x0 (ix2 r 0) = (meanSq (x r) : EReal) := by
  pointwise [val_main_v7, val_main_v6, val_main_v5, val_main_v4, val_main_v3, val_main_v2, val_main_v1, val_main_cst, val_main_cst_0, val_main_cst_1]
  simp only [hx, Ideal.mulf_def, Ideal.addf_def, Ideal.hostDivf_def, Ideal.ofBits_def, ofBits_2048, ofBits_eps, ← EReal.coe_mul, sum_coe]
  rw [div_coe (by norm_num), ← EReal.coe_add]
  rfl

theorem refScale_apply (hx : ∀ r k, x0 (ix2 r k) = (x r k : EReal)) (r : Fin 8192) :
    val_main_v8 (F := Ideal) x0 (ix2 r 0) = (scale (x r) : EReal) := by
  pointwise [val_main_v8]
  simp only [refMean_apply hx, Ideal.hostUnary_rsqrt_def]
  exact rsqrt_coe (meanSq_pos (x r))

/-- The derivative of the factor along the mean of squares. -/
theorem refSlope_apply (hx : ∀ r k, x0 (ix2 r k) = (x r k : EReal)) (r : Fin 8192) :
    val_main_v11 (F := Ideal) x0 (ix2 r 0) = ((-1 / 2 * (scale (x r) / meanSq (x r)) : ℝ) : EReal) := by
  pointwise [val_main_v11, val_main_v10, val_main_v9, val_main_cst_2]
  simp only [refScale_apply hx, refMean_apply hx, Ideal.mulf_def, Ideal.hostDivf_def, Ideal.ofBits_def, ofBits_neg_half]
  rw [div_coe (meanSq_pos _).ne', ← EReal.coe_mul]

theorem refUnit_apply (hx : ∀ r k, x0 (ix2 r k) = (x r k : EReal)) (r : Fin 8192) (k : Fin 2048) :
    val_main_v13 (F := Ideal) x0 (ix2 r k) = ((x r k * scale (x r) : ℝ) : EReal) := by
  pointwise [val_main_v13, val_main_v12]
  simp only [refScale_apply hx, hx, Ideal.mulf_def, ← EReal.coe_mul]

/-- The cotangent of the normalised row. -/
theorem refCot_apply (hdy : ∀ r k, x2 (ix2 r k) = (dy r k : EReal)) (hw : ∀ k, x1 (ix2 0 k) = (w k : EReal)) (r : Fin 8192) (k : Fin 2048) :
    val_main_v22 (F := Ideal) x1 x2 (ix2 r k) = ((dy r k * w k : ℝ) : EReal) := by
  pointwise [val_main_v22, val_main_v21, val_main_v17, val_main_v14, val_main_v0]
  simp only [hdy, hw, Ideal.mulf_def, Ideal.extf_def, ← EReal.coe_mul]

/-- The cotangent of the row's mean of squares, spread over the row. -/
theorem refSpread_apply (hx : ∀ r k, x0 (ix2 r k) = (x r k : EReal)) (hdy : ∀ r k, x2 (ix2 r k) = (dy r k : EReal))
    (hw : ∀ k, x1 (ix2 0 k) = (w k : EReal)) (r : Fin 8192) (k : Fin 2048) :
    val_main_v33 (F := Ideal) x0 x1 x2 (ix2 r k)
      = (((∑ j, x r j * (dy r j * w j)) * (-1 / 2 * (scale (x r) / meanSq (x r))) / 2048 : ℝ) : EReal) := by
  pointwise [val_main_v33, val_main_v32, val_main_v31, val_main_v30, val_main_v29, val_main_v26, val_main_v25, val_main_v24, val_main_cst_5,
    val_main_cst_6, val_main_cst_7]
  rw [Fin.sum_univ_one]
  simp only [hx, refCot_apply hdy hw, refSlope_apply hx, Ideal.mulf_def, Ideal.hostDivf_def, Ideal.ofBits_def, ofBits_2048, ← EReal.coe_mul, sum_coe]
  rw [div_coe (by norm_num)]

theorem refShare_apply (hx : ∀ r k, x0 (ix2 r k) = (x r k : EReal)) (hdy : ∀ r k, x2 (ix2 r k) = (dy r k : EReal)) (k : Fin 2048) :
    val_main_v38 (F := Ideal) x0 x2 (ix2 0 k) = ((∑ r, dy r k * (x r k * scale (x r)) : ℝ) : EReal) := by
  pointwise [val_main_v38, val_main_v23, val_main_v20, val_main_v19, val_main_v18, val_main_v17, val_main_cst_3, val_main_cst_4]
  rw [Fin.sum_univ_one]
  simp only [refUnit_apply hx, hdy, Ideal.mulf_def, Ideal.extf_def, ← EReal.coe_mul, sum_coe, mul_comm]

theorem refGrad_apply (hx : ∀ r k, x0 (ix2 r k) = (x r k : EReal)) (hdy : ∀ r k, x2 (ix2 r k) = (dy r k : EReal))
    (hw : ∀ k, x1 (ix2 0 k) = (w k : EReal)) (r : Fin 8192) (k : Fin 2048) :
    val_main_v40 (F := Ideal) x0 x1 x2 x3 (ix2 r k) = (rowGrad (x r) w (dy r) k : EReal) + x3 (ix2 r k) := by
  pointwise [val_main_v40, val_main_v39, val_main_v37, val_main_v36, val_main_v35, val_main_v34, val_main_v28, val_main_v27]
  simp only [refSpread_apply hx hdy hw, refCot_apply hdy hw, refScale_apply hx, hx, Ideal.mulf_def, Ideal.addf_def, Ideal.extf_def, ← EReal.coe_mul,
    ← EReal.coe_add]
  rw [rowGrad_eq]

end Cert.NormValue

end
-- ==== Proof.NormClaim.lean ====
/-
  The claims of the norm's backward call: the kernel's frame, the reference's frame, and that the two programs' results
  are equal over the extended reals where the row, the weight and the cotangent are finite.
-/
module

public import proofs.«01_k».proof.Defs
public import proofs.«01_k».proof.Proof.Gen.Norm.Frame
public import proofs.«01_k».proof.Proof.Gen.NormRefIdeal.Run
public import proofs.«01_k».proof.Proof.Gen.Pre_norm_finite
public import proofs.«01_k».proof.Proof.NormArray
public import proofs.«01_k».proof.Proof.NormRef
public import Idealize.ShloMosaic.Lib.Claim

@[expose] public section

set_option maxRecDepth 16384

noncomputable section

namespace Cert.NormValue

open Idealize.ShloMosaic Idealize.ShloMosaic.TcCoe Idealize.SL.Sem Cert.Lift

/-- The precondition says of each of the three arrays that every element is a real number. -/
theorem real_of_pre {a0 : FVec Ideal Cert.NormIdeal.S8192x2048 .f32} {a1 : FVec Ideal Cert.NormIdeal.S1x2048 .f32}
    {a2 a3 : FVec Ideal Cert.NormIdeal.S8192x2048 .bf16} (h : Cert.Pre_norm_finite.fn (F := Ideal) a0 a1 a2 a3 = fun _ => 1#1) :
    ∃ (x dy : Fin 8192 → Fin 2048 → ℝ) (w : Fin 2048 → ℝ), (∀ r k, a0 (ix2 r k) = (x r k : EReal)) ∧ (∀ k, a1 (ix2 0 k) = (w k : EReal))
      ∧ ∀ r k, a2 (ix2 r k) = (dy r k : EReal) := by
  have key : ∀ r k, (a0 (ix2 r k) = (((a0 (ix2 r k) : EReal).toReal : ℝ) : EReal)) ∧ (a1 (ix2 0 k) = (((a1 (ix2 0 k) : EReal).toReal : ℝ) : EReal))
      ∧ a2 (ix2 r k) = (((a2 (ix2 r k) : EReal).toReal : ℝ) : EReal) := by
    intro r k
    have h' := congrFun h (ix2 r k)
    pointwise [Cert.Pre_norm_finite.fn] at h'
    rw [and_ofBool, and_ofBool] at h'
    have h3 := (BitVec.ofBool_eq_iff_eq (b' := true)).mp h'
    simp only [Bool.and_eq_true, decide_eq_true_eq] at h3
    exact ⟨real_of_test h3.1.1, real_of_test h3.1.2, real_of_test h3.2⟩
  exact ⟨_, _, _, fun r k => (key r k).1, fun k => (key 0 k).2.1, fun r k => (key r k).2.2⟩

/-- The reference runs on every memory: its arguments end as they began, and it has no counters. -/
theorem frame_ref : Cert.quiescent_NormRefIdeal := fun m g _ =>
  (θ_run Cert.NormRefIdeal.defs _ _).mono (fun r h => ⟨fun c => (h c).2.2, sem_eq_zero_of_no_sems (by decide) r.2⟩)
    (Cert.NormRefIdeal.Value.run m g)

theorem value : Cert.algebraic_NormIdeal_NormRefIdeal_pre_norm_finite := by
  intro m g m' g' hp hag
  refine ⟨fun c => (Cert.NormIdeal.Gen.dats m 0 c).arrAt 4 Cert.NormIdeal.cfg0.N, fun c => (Cert.NormIdeal.Gen.dats m 0 c).arrAt 5 Cert.NormIdeal.cfg0.N,
    Cert.NormIdeal.Value.run_blocks m g, ?_⟩
  refine (θ_run Cert.NormRefIdeal.defs _ _).mono (fun r h c => ?_) (Cert.NormRefIdeal.Value.run m' g')
  obtain ⟨hr0, hr1, ha⟩ := h c
  obtain ⟨x, dy, w, hx, hw, hdy⟩ := real_of_pre (hp c)
  obtain ⟨e0, e1, e2, e3⟩ := hag c
  refine ⟨hr0.trans ?_, hr1.trans ?_, ha⟩
  · rw [Cert.NormRefIdeal.Read.val_main_v40_eq, e0, e1, e2, e3]
    refine Eq.trans ?_ (grad_final m hx hdy hw).symm
    funext i
    obtain ⟨r, k, rfl⟩ : ∃ (r : Fin 8192) (k : Fin 2048), i = ix2 r k := ⟨i 0, i 1, eq_ix2 i⟩
    exact refGrad_apply hx hdy hw r k
  · refine (Cert.NormRefIdeal.Read.val_main_v38_eq _ _).trans ?_
    rw [e0, e2]
    refine Eq.trans ?_ (share_final m hx hdy).symm
    funext i
    obtain ⟨r, k, rfl⟩ : ∃ (r : Fin 1) (k : Fin 2048), i = ix2 r k := ⟨i 0, i 1, eq_ix2 i⟩
    obtain rfl : r = 0 := Subsingleton.elim _ _
    exact refShare_apply hx hdy k

end Cert.NormValue

end
-- ==== Proof.PoolSums.lean ====
/-
  Sums along the rows of an array, as the windowed mean's derivative takes them: the sums of the rows from one row to the
  last and up to one row, a scatter of rows that are then added, the number of rows a window holds, and the same sums by repeated doubling.
-/
module

public import proofs.«01_k».proof.Proof.RealLift
public import proofs.«01_k».proof.Proof.Gen.PoolRefIdeal
public import Idealize.ShloMosaic.Lib.Routing.BitFacts
public import Idealize.ShloMosaic.Lib.Routing.OpsOne
public import Idealize.ShloMosaic.Lib.Pointwise

@[expose] public section

set_option maxRecDepth 16384

noncomputable section

namespace Cert.PoolValue

open Idealize.ShloMosaic Idealize.ShloMosaic.TcCoe Cert.Lift

/-! ## Real numbers -/

/-- Rows `t` to `L` of `q` less `q` moved by `w` rows are the `w` rows from `t`, where `q` is zero from row `L` on. -/
theorem window_of_suffix (q : ℕ → ℝ) {L w t : ℕ} (hq : ∀ n, L ≤ n → q n = 0) (ht : t ≤ L) :
    ∑ n ∈ Finset.Ico t L, (q n - q (n + w)) = ∑ j ∈ Finset.range w, q (t + j) := by
  have h1 : ∑ n ∈ Finset.Ico t L, q (n + w) = ∑ n ∈ Finset.Ico (t + w) (L + w), q n := Finset.sum_Ico_add' q t L w
  have h2 : ∑ n ∈ Finset.Ico t L, q n = ∑ n ∈ Finset.Ico t (L + w), q n := by
    rw [← Finset.sum_Ico_consecutive q ht (Nat.le_add_right L w)]
    rw [Finset.sum_eq_zero (s := Finset.Ico L (L + w)) fun n hn => hq n (Finset.mem_Ico.1 hn).1, add_zero]
  rw [Finset.sum_sub_distrib, h1, h2, ← Finset.sum_Ico_consecutive q (Nat.le_add_right t w) (Nat.add_le_add_right ht w), add_sub_cancel_right,
    Finset.sum_Ico_eq_sum_range, Nat.add_sub_cancel_left]

/-! ## Sums of an array's rows -/

theorem foldl_sum {N : ℕ} (g : Fin N → EReal) (f : Fin N → ℝ) (h : ∀ n, g n = (f n : EReal)) :
    (List.finRange N).foldl (fun r n => r + g n) 0 = ((∑ n, f n : ℝ) : EReal) := by
  have hl : ∀ (l : List (Fin N)) (a : ℝ), l.foldl (fun r n => r + g n) (a : EReal) = ((a + (l.map f).sum : ℝ) : EReal) := by
    intro l
    induction l with
    | nil => intro a; simp
    | cons n l ih => intro a; rw [List.foldl_cons, h, ← EReal.coe_add, ih, List.map_cons, List.sum_cons, add_assoc]
  rw [zero_coe, hl, zero_add, ← List.ofFn_eq_map, List.sum_ofFn]

/-- The sum of a window's rows, the array being padded with `P` rows above it. -/
theorem window_rows {R P Q C : ℕ} (x : (⟨2, ![R, C]⟩ : Shape).Idx → EReal) (f : ℕ → ℝ) (c : Fin C)
    (hx : ∀ i : Fin R, x (ix2 i c) = (f i.val : EReal))
    (h : (⟨2, ![R, C]⟩ : Shape).ReduceWindows (![R, 1] : Fin 2 → ℕ) ![1, 1] ![P, 0] ![Q, 0] ⟨2, ![R, C]⟩) (j : Fin R) :
    Ideal.hostReduceWindowAdd ![R, 1] ![1, 1] ![P, 0] ![Q, 0] h x 0 (ix2 j c)
      = ((∑ n ∈ (Finset.range R).filter (fun n => P ≤ j.val + n ∧ j.val + n - P < R), f (j.val + n - P) : ℝ) : EReal) := by
  have hj := j.isLt
  have hc := c.isLt
  unfold Ideal.hostReduceWindowAdd Host.reduceWindow
  refine (foldl_sum _ (fun n => if P ≤ j.val + n.val ∧ j.val + n.val - P < R then f (j.val + n.val - P) else 0) fun n => ?_).trans ?_
  · have hw0 : ((⟨2, ![R, 1]⟩ : Shape).rowMajor.symm n 0).val = n.val := by rw [Routing.symm_col]; rfl
    have hw1 : ((⟨2, ![R, 1]⟩ : Shape).rowMajor.symm n 1).val = 0 := by rw [Routing.symm_col]; rfl
    dsimp only
    split
    · next hin =>
      have h0 := hin 0
      change P ≤ j.val * 1 + ((⟨2, ![R, 1]⟩ : Shape).rowMajor.symm n 0).val
        ∧ j.val * 1 + ((⟨2, ![R, 1]⟩ : Shape).rowMajor.symm n 0).val - P < R at h0
      rw [hw0] at h0
      rw [if_pos (by omega)]
      refine (congrArg x (funext fun a => Fin.ext ?_)).trans (hx ⟨j.val + n.val - P, by omega⟩)
      match a with
      | ⟨0, _⟩ => show j.val * 1 + ((⟨2, ![R, 1]⟩ : Shape).rowMajor.symm n 0).val - P = j.val + n.val - P; rw [hw0]; omega
      | ⟨1, _⟩ => show c.val * 1 + ((⟨2, ![R, 1]⟩ : Shape).rowMajor.symm n 1).val - 0 = c.val; rw [hw1]; omega
    · next hin =>
      rw [if_neg fun hle => hin fun a => by
        match a with
        | ⟨0, _⟩ =>
          show P ≤ j.val * 1 + ((⟨2, ![R, 1]⟩ : Shape).rowMajor.symm n 0).val
            ∧ j.val * 1 + ((⟨2, ![R, 1]⟩ : Shape).rowMajor.symm n 0).val - P < R
          rw [hw0]; omega
        | ⟨1, _⟩ =>
          show 0 ≤ c.val * 1 + ((⟨2, ![R, 1]⟩ : Shape).rowMajor.symm n 1).val
            ∧ c.val * 1 + ((⟨2, ![R, 1]⟩ : Shape).rowMajor.symm n 1).val - 0 < C
          rw [hw1]; omega]
      rfl
  · refine congrArg _ ?_
    have hnum : (⟨2, ![R, 1]⟩ : Shape).numel = R := Routing.numel_col R
    rw [Fin.sum_univ_eq_sum_range (fun n : ℕ => if P ≤ j.val + n ∧ j.val + n - P < R then f (j.val + n - P) else 0), hnum, ← Finset.sum_filter]

section
variable {R Rm1 C : ℕ} (hR : Rm1 + 1 = R) (x : (⟨2, ![R, C]⟩ : Shape).Idx → EReal) (f : ℕ → ℝ) (c : Fin C)
  (hx : ∀ i : Fin R, x (ix2 i c) = (f i.val : EReal))
include hR hx

/-- The sum of the rows from row `j` on. -/
theorem suffix_rows (h : (⟨2, ![R, C]⟩ : Shape).ReduceWindows (![R, 1] : Fin 2 → ℕ) ![1, 1] ![0, 0] ![Rm1, 0] ⟨2, ![R, C]⟩) (j : Fin R) :
    Ideal.hostReduceWindowAdd ![R, 1] ![1, 1] ![0, 0] ![Rm1, 0] h x 0 (ix2 j c) = ((∑ n ∈ Finset.Ico j.val R, f n : ℝ) : EReal) := by
  refine (window_rows x f c hx h j).trans (congrArg _ ?_)
  have hj := j.isLt
  rw [Finset.sum_Ico_eq_sum_range]
  refine Finset.sum_congr (Finset.ext fun n => ?_) fun _ _ => rfl
  rw [Finset.mem_filter, Finset.mem_range, Finset.mem_range]
  omega

/-- The sum of the rows up to row `j`. -/
theorem prefix_rows (h : (⟨2, ![R, C]⟩ : Shape).ReduceWindows (![R, 1] : Fin 2 → ℕ) ![1, 1] ![Rm1, 0] ![0, 0] ⟨2, ![R, C]⟩) (j : Fin R) :
    Ideal.hostReduceWindowAdd ![R, 1] ![1, 1] ![Rm1, 0] ![0, 0] h x 0 (ix2 j c) = ((∑ n ∈ Finset.range (j.val + 1), f n : ℝ) : EReal) := by
  refine (window_rows x f c hx h j).trans (congrArg _ ?_)
  have hj := j.isLt
  have hs : (Finset.range R).filter (fun n => Rm1 ≤ j.val + n ∧ j.val + n - Rm1 < R) = Finset.Ico (Rm1 - j.val) R := Finset.ext fun n => by
    rw [Finset.mem_filter, Finset.mem_range, Finset.mem_Ico]
    omega
  rw [hs, Finset.sum_Ico_eq_sum_range, show R - (Rm1 - j.val) = j.val + 1 by omega]
  exact Finset.sum_congr rfl fun n _ => congrArg f (by omega)

end

section
open Cert.PoolRefIdeal Cert.PoolRefIdeal.Gen

/-- Where a row of the updates lands. -/
theorem lands (idx : IVec S8192x1 32) (t : Fin 8192) (c' c : Fin 512) (r : Fin 8193) :
    scatter_S8193x512_S8192x1_S8192x512_1_0_0_1.resultIdx? (ix2 t c') idx = some (ix2 r c) ↔ (idx (ix2 t 0)).toInt = r.val ∧ c' = c := by
  have e0 : scatter_S8193x512_S8192x1_S8192x512_1_0_0_1.start (ix2 t c') idx 0 = (idx (ix2 t 0)).toInt := by
    show (idx _).toInt = _
    refine congrArg (fun i => (idx i).toInt) (funext fun b => ?_)
    match b with
    | ⟨0, _⟩ => rfl
    | ⟨1, _⟩ => rfl
  have e1 : scatter_S8193x512_S8192x1_S8192x512_1_0_0_1.start (ix2 t c') idx 1 = 0 := rfl
  have w0 : scatter_S8193x512_S8192x1_S8192x512_1_0_0_1.window (ix2 t c') 0 = 0 := rfl
  have w1 : scatter_S8193x512_S8192x1_S8192x512_1_0_0_1.window (ix2 t c') 1 = c'.val := rfl
  rw [Routing.resultIdx?_eq_some]
  constructor
  · intro h
    have h0 : _ = (r.val : Int) := h 0
    have h1 : _ = (c.val : Int) := h 1
    rw [e0, w0] at h0
    rw [e1, w1] at h1
    exact ⟨by simpa using h0, Fin.ext (by omega)⟩
  · rintro ⟨h0, rfl⟩ a
    match a with
    | ⟨0, _⟩ => show scatter_S8193x512_S8192x1_S8192x512_1_0_0_1.start (ix2 t c') idx 0 + _ = (r.val : Int); rw [e0, h0]; exact Int.add_zero _
    | ⟨1, _⟩ => show (0 : Int) + (c'.val : Int) = _; exact Int.zero_add _

/-- Rows added at the first row of each window: row `n + 1` of the result gets the row `n + w`, where there is one. -/
theorem scatter_apply (z : FVec Ideal S8193x512 .f32) (idx : IVec S8192x1 32) (upd : FVec Ideal S8192x512 .f32) (c : Fin 512) {w : ℕ} {q : ℕ → ℝ}
    (hz : ∀ i, z i = 0) (hidx : ∀ t : Fin 8192, (idx (ix2 t 0)).toInt = ((t.val + 1 - w : ℕ) : Int)) (hu : ∀ t : Fin 8192, upd (ix2 t c) = ((-q t.val : ℝ) : EReal))
    (hq : ∀ n, 8192 ≤ n → q n = 0) (n : Fin 8192) (hn : n.val + 1 < 8193) :
    Ideal.hostScatterAdd scatter_S8193x512_S8192x1_S8192x512_1_0_0_1 z idx upd (ix2 ⟨n.val + 1, hn⟩ c) = ((-q (n.val + w) : ℝ) : EReal) := by
  unfold Ideal.hostScatterAdd
  rw [hz, zero_add]
  have hl : ∀ j : S8192x512.Idx, scatter_S8193x512_S8192x1_S8192x512_1_0_0_1.resultIdx? j idx = some (ix2 (⟨n.val + 1, hn⟩ : Fin 8193) c)
      ↔ (j 0).val = n.val + w ∧ j 1 = c := fun j => by
    obtain ⟨t, c', rfl⟩ : ∃ (t : Fin 8192) (c' : Fin 512), j = ix2 t c' := ⟨j 0, j 1, eq_ix2 j⟩
    rw [lands, hidx]
    show _ ↔ t.val = n.val + w ∧ c' = c
    refine and_congr_left fun _ => ?_
    show ((t.val + 1 - w : ℕ) : Int) = ((n.val + 1 : ℕ) : Int) ↔ _
    omega
  by_cases hw : n.val + w < 8192
  · rw [Finset.sum_eq_single (ix2 (⟨n.val + w, hw⟩ : Fin 8192) c)]
    · exact hu ⟨n.val + w, hw⟩
    · intro j hj hne
      obtain ⟨h0, h1⟩ := (hl j).1 (Finset.mem_filter.1 hj).2
      refine absurd ((eq_ix2 j).trans ?_) hne
      exact congrArg₂ ix2 (Fin.ext h0) h1
    · intro h
      refine absurd ?_ h
      rw [Finset.mem_filter]
      exact ⟨Finset.mem_univ _, (hl (ix2 (⟨n.val + w, hw⟩ : Fin 8192) c)).2 ⟨rfl, rfl⟩⟩
  · rw [hq _ (not_lt.1 hw), neg_zero, Finset.sum_eq_zero]
    · rfl
    · intro j hj
      have h0 := ((hl j).1 (Finset.mem_filter.1 hj).2).1
      have := (j 0).isLt
      exact absurd (show (j 0).val < 8192 from this) (by omega)

end

/-! ## The number of rows a window holds -/

theorem toInt_word {t : ℕ} (ht : t < 2 ^ 30) : (BitVec.ofNat 32 t).toInt = t := by
  rw [BitVec.toInt_ofNat', Int.bmod_def]; omega

theorem next_row {t : ℕ} (ht : t < 2 ^ 20) : IntOp.addi (BitVec.ofNat 32 t) 1#32 = BitVec.ofNat 32 (t + 1) := by
  show BitVec.ofNat 32 t + BitVec.ofNat 32 1 = _
  rw [BitVec.ofNat_add]

theorem min_word {t w : ℕ} (ht : t < 2 ^ 20) (hw : w < 2 ^ 20) : (IntOp.minsi (BitVec.ofNat 32 t) (BitVec.ofNat 32 w)).toInt = ((min t w : ℕ) : Int) := by
  unfold IntOp.minsi
  rw [Routing.slt_ofNat32 (by omega) (by omega)]
  by_cases h : t < w
  · rw [if_pos (by simpa using h), toInt_word (by omega), Nat.min_eq_left h.le]
  · rw [if_neg (by simpa using h), toInt_word (by omega), Nat.min_eq_right (not_lt.1 h)]

/-- The first row of the window of `w` rows that ends at row `t`. -/
theorem start_word {t w : ℕ} (ht : t < 2 ^ 20) (hw : w < 2 ^ 20) (a : BitVec 32) :
    (Scalar.select (IntOp.cmpi .slt (IntOp.maxsi (IntOp.subi (BitVec.ofNat 32 t) (BitVec.ofNat 32 w)) 0#32) 0#32) a
      (IntOp.maxsi (IntOp.subi (BitVec.ofNat 32 t) (BitVec.ofNat 32 w)) 0#32)).toInt = ((t - w : ℕ) : Int) := by
  have hm : IntOp.maxsi (IntOp.subi (BitVec.ofNat 32 t) (BitVec.ofNat 32 w)) 0#32 = BitVec.ofNat 32 (t - w) := by
    unfold IntOp.maxsi IntOp.subi
    by_cases h : w ≤ t
    · rw [Routing.ofNat32_sub h, show (0#32 : BitVec 32) = BitVec.ofNat 32 0 from rfl, Routing.slt_ofNat32 (by omega) (by omega)]
      by_cases h0 : 0 < t - w
      · rw [if_pos (by simpa using h0)]
      · rw [if_neg (by simpa using h0), show t - w = 0 by omega]
    · have hlt : (0#32).slt (BitVec.ofNat 32 t - BitVec.ofNat 32 w) = false := by
        rw [BitVec.slt_eq_decide, BitVec.toInt_sub, toInt_word (t := t) (by omega), toInt_word (t := w) (by omega), Int.bmod_def]
        simp
        omega
      rw [hlt, show t - w = 0 by omega]
      rfl
  rw [hm, Routing.wrap_of_lt, toInt_word (by omega)]
  rw [BitVec.toNat_ofNat]
  omega

end Cert.PoolValue

end
-- ==== Proof.PoolBlock.lean ====
/-
  What one grid point of the multi-scale pool's backward pass computes, over real numbers: from 256 rows of the output's
  gradient and the 16 rows that follow them, the input's gradient of the 256 rows.
-/
module

public import proofs.«01_k».proof.Proof.Gen.PoolIdeal.Skeleton
public import proofs.«01_k».proof.Proof.PoolSums
public import Idealize.ShloMosaic.Lib.KernelVsHost

@[expose] public section

set_option maxRecDepth 16384

noncomputable section

namespace Cert.PoolValue

open Idealize.ShloMosaic Idealize.ShloMosaic.TcCoe Idealize.SL.Sem Cert.Lift

/-- Row `n` of the output's gradient: zero below the last row. -/
def row (d : Fin 8192 → Fin 2048 → ℝ) (k : Fin 2048) (n : ℕ) : ℝ := if h : n < 8192 then d ⟨n, h⟩ k else 0

/-- The window's length of a column: each quarter of the columns has twice the one before. -/
def span (k : Fin 2048) : ℕ := 2 ^ (k.val / 512 + 1)

/-- Row `n` over the number of rows that its window of at most `w` rows holds. -/
def share (d : Fin 8192 → Fin 2048 → ℝ) (w : ℕ) (k : Fin 2048) (n : ℕ) : ℝ := row d k n / ((min (n + 1) w : ℕ) : ℝ)

/-- The input's gradient: the shares of the windows that hold the row, less the row itself. -/
def pulled (d : Fin 8192 → Fin 2048 → ℝ) (t : ℕ) (k : Fin 2048) : ℝ := ∑ j ∈ Finset.range (span k), share d (span k) k (t + j) - row d k t

theorem share_zero (d : Fin 8192 → Fin 2048 → ℝ) (w : ℕ) (k : Fin 2048) (n : ℕ) (h : 8192 ≤ n) : share d w k n = 0 := by
  unfold share row
  rw [dif_neg (not_lt.2 h), zero_div]

theorem count_ne {n w : ℕ} (hw : 0 < w) : ((min (n + 1) w : ℕ) : ℝ) ≠ 0 := by
  have : 0 < min (n + 1) w := lt_min (Nat.succ_pos n) hw
  exact_mod_cast this.ne'

open Cert.PoolIdeal Cert.PoolIdeal.Gen

/-! ## Sums of rows by doubling -/

/-- Column `q` of `z` holds, where `m` rows are left, the sum of the `m` values of `f` from the row on. -/
def Sums (m : ℕ) (z : FVec Ideal S272x512 .f32) (f : ℕ → ℝ) (q : Fin 512) : Prop :=
  ∀ r : Fin 272, r.val + m ≤ 272 → z (ix2 r q) = ((∑ j ∈ Finset.range m, f (r.val + j) : ℝ) : EReal)

/-- Adding the rows `m` further on doubles the number of rows summed. -/
theorem Sums.double {m : ℕ} {z : FVec Ideal S272x512 .f32} {f : ℕ → ℝ} {q : Fin 512} (h : Sums m z f q) (n : BitVec 32) (hn : n.toNat = 272 - m)
    (hm : 0 < m) (hm' : m ≤ 272) : Sums (m + m) (addf z (dynamicRotate 0 n none z rotates_S272x512_d0)) f q := by
  intro r hr
  have hk : dynamicRotate 0 n none z rotates_S272x512_d0 (ix2 r q) = z (ix2 ⟨r.val + m, by omega⟩ q) :=
    dynamicRotate_apply 0 n z _ _ _ fun b => by
      match b with
      | ⟨0, _⟩ => show r.val + m = (r.val + 272 - n.toNat % 272) % 272; rw [hn]; omega
      | ⟨1, _⟩ => rfl
  show z (ix2 r q) + dynamicRotate 0 n none z rotates_S272x512_d0 (ix2 r q) = _
  rw [hk, h r (by omega), h ⟨r.val + m, by omega⟩ (by show r.val + m + m ≤ 272; omega), ← EReal.coe_add, Finset.sum_range_add]
  simp only [add_assoc]

/-- The first 256 rows of the sums, less the first 256 rows of `x`. -/
theorem less_apply {m : ℕ} {z x : FVec Ideal S272x512 .f32} {f : ℕ → ℝ} {q : Fin 512} (h : Sums m z f q) (hm : m ≤ 16) {g : ℝ} (r : Fin 256)
    (hx : x (ix2 ⟨r.val, by omega⟩ q) = (g : EReal)) :
    (truncf .bf16 (subf (extractStridedSlice S256x512 ![0, 0] z slices_S272x512_o0_0_S256x512) (extractStridedSlice S256x512 ![0, 0] x slices_S272x512_o0_0_S256x512)) bitsLt_bf16_f32
      : FVec Ideal S256x512 .bf16) (ix2 r q) = ((∑ j ∈ Finset.range m, f (r.val + j) - g : ℝ) : EReal) := by
  have h' := h ⟨r.val, by omega⟩ (by show r.val + m ≤ 272; omega)
  pointwise []
  simp only [Ideal.subf_def, Ideal.truncf_def, Nat.zero_add] at *
  rw [h', hx, ← EReal.coe_sub]

/-! ## The grid point's rows -/

section
variable {i : grid0.Coords} {v0 : Vec Ideal S256x2048 .f32} {v2 : Vec Ideal S16x2048 .f32} {d : Fin 8192 → Fin 2048 → ℝ}

/-- The rows and the ones that follow them, zero after the last point's. -/
theorem rows_apply (h0 : ∀ (r : Fin 256) k, v0 (ix2 r k) = (row d k (256 * (i 0).val + r.val) : EReal))
    (h2 : (i 0).val ≠ 31 → ∀ (r : Fin 16) k, v2 (ix2 r k) = (row d k (256 * (i 0).val + (256 + r.val)) : EReal)) (r : Fin 272) (k : Fin 2048) :
    k0_pay1 i v0 v2 (ix2 r k) = (row d k (256 * (i 0).val + r.val) : EReal) := by
  have hi : (i 0).val < 32 := (i 0).isLt
  by_cases hr : r.val < 256
  · pointwise [k0_pay1]
    rw [dif_pos hr]
    exact h0 ⟨r.val, hr⟩ k
  · pointwise [k0_pay1]
    rw [dif_neg hr]
    by_cases h31 : (i 0).val = 31
    · rw [h31]
      show (0 : EReal) = _
      unfold row
      rw [dif_neg (by omega)]
      rfl
    · have hne : ¬BitVec.ofNat 32 (i 0).val = 31#32 := fun h => h31 (by have := congrArg BitVec.toNat h; rwa [BitVec.toNat_ofNat, Nat.mod_eq_of_lt (by omega)] at this)
      have hc : Scalar.cmpi .eq (BitVec.ofNat 32 (i 0).val) 31#32 = 0#1 := by
        show BitVec.ofBool (BitVec.ofNat 32 (i 0).val == 31#32) = _
        rw [beq_eq_false_iff_ne.2 hne]
        rfl
      rw [hc]
      refine (h2 h31 ⟨r.val - 256, by omega⟩ k).trans ?_
      rw [show 256 + (r.val - 256) = r.val by omega]

/-- The number of rows in the window of at most `w` rows that ends at row `r` of the point. -/
theorem count_apply {w : ℕ} (hw : w < 2 ^ 20) (r : Fin 272) :
    (sitofp .f32 (minsi (addi (k0_pay2 i) (broadcast S272x1 1#32)) (broadcast S272x1 (BitVec.ofNat 32 w))) : FVec Ideal S272x1 .f32) (ix2 r 0)
      = (((min (256 * (i 0).val + r.val + 1) w : ℕ) : ℝ) : EReal) := by
  have hi : (i 0).val < 32 := (i 0).isLt
  have hb : k0_pay2 i (ix2 r 0) = BitVec.ofNat 32 (256 * (i 0).val + r.val) := by
    pointwise [k0_pay2]
    show BitVec.ofNat 32 (i 0).val * BitVec.ofNat 32 256 + BitVec.ofNat 32 r.val = _
    rw [← BitVec.ofNat_mul, ← BitVec.ofNat_add, Nat.mul_comm]
  show (Scalar.sitofp .f32 (IntOp.minsi (IntOp.addi (k0_pay2 i (ix2 r 0)) 1#32) (BitVec.ofNat 32 w)) : Ideal .f32) = _
  rw [hb, next_row (by omega), Ideal.scalar_sitofp_def, min_word (by omega) hw]
  simp

/-- Column `q` of the quarter that begins at column `lo`. -/
def colAt (lo : ℕ) (q : Fin 512) (h : lo ≤ 1536 := by norm_num) : Fin 2048 := ⟨lo + q.val, by omega⟩

theorem quotient_apply {x : FVec Ideal S272x512 .f32} {k : Fin 2048} {q : Fin 512} {w : ℕ} (hw : 0 < w) (hw' : w < 2 ^ 20)
    (hx : ∀ r : Fin 272, x (ix2 r q) = (row d k (256 * (i 0).val + r.val) : EReal)) :
    Sums 1 (divf x (broadcastTo S272x512 (sitofp .f32 (minsi (addi (k0_pay2 i) (broadcast S272x1 1#32)) (broadcast S272x1 (BitVec.ofNat 32 w)))) broadcasts_S272x1_S272x512))
      (fun n => share d w k (256 * (i 0).val + n)) q := by
  intro r _
  have hc := count_apply (i := i) hw' r
  generalize (sitofp .f32 (minsi (addi (k0_pay2 i) (broadcast S272x1 1#32)) (broadcast S272x1 (BitVec.ofNat 32 w))) : FVec Ideal S272x1 .f32) = y at hc ⊢
  pointwise []
  rw [hx, hc, div_coe (count_ne hw), Finset.sum_range_one]
  rfl

theorem span_colAt {g lo : ℕ} (q : Fin 512) (h : lo ≤ 1536) (hg : lo = 512 * g) : span (colAt lo q h) = 2 ^ (g + 1) := by
  unfold span
  rw [show (colAt lo q h).val / 512 = g from by show (lo + q.val) / 512 = g; omega]

theorem pulled_of {k : Fin 2048} {w : ℕ} (hw : span k = w) (n r : ℕ) :
    ((∑ j ∈ Finset.range w, share d w k (n + (r + j)) - row d k (n + r) : ℝ) : EReal) = (pulled d (n + r) k : EReal) := by
  subst hw
  simp only [pulled, add_assoc]

variable (h0 : ∀ (r : Fin 256) k, v0 (ix2 r k) = (row d k (256 * (i 0).val + r.val) : EReal))
  (h2 : (i 0).val ≠ 31 → ∀ (r : Fin 16) k, v2 (ix2 r k) = (row d k (256 * (i 0).val + (256 + r.val)) : EReal)) (r : Fin 256) (q : Fin 512)
include h0 h2

/-- A quarter's columns of the point's rows. -/
theorem quarter_apply (lo : ℕ) (h : lo ≤ 1536) (hs : S272x2048.Slices ![0, lo] S272x512) (r : Fin 272) :
    extractStridedSlice S272x512 ![0, lo] (k0_pay1 i v0 v2) hs (ix2 r q) = (row d (colAt lo q h) (256 * (i 0).val + r.val) : EReal) := by
  rw [← rows_apply h0 h2]
  exact extractStridedSlice_apply ![0, lo] _ hs (ix2 r q) (ix2 r (colAt lo q h)) fun a => by
    match a with
    | ⟨0, _⟩ => show r.val = 0 + r.val; omega
    | ⟨1, _⟩ => rfl

theorem first_apply : k0_pay3 i v0 v2 (ix2 r q) = (pulled d (256 * (i 0).val + r.val) (colAt 0 q) : EReal) := by
  have hx := quarter_apply h0 h2 q 0 (by norm_num) slices_S272x2048_o0_0_S272x512
  exact (less_apply ((quotient_apply (w := 2) (by norm_num) (by norm_num) hx).double 271#32 rfl (by norm_num) (by norm_num)) (by norm_num) r (hx _)).trans
    (pulled_of (span_colAt q _ (g := 0) rfl) _ _)

theorem second_apply : k0_pay4 i v0 v2 (ix2 r q) = (pulled d (256 * (i 0).val + r.val) (colAt 512 q) : EReal) := by
  have hx := quarter_apply h0 h2 q 512 (by norm_num) slices_S272x2048_o0_512_S272x512
  have h1 := (quotient_apply (w := 4) (by norm_num) (by norm_num) hx).double 271#32 rfl (by norm_num) (by norm_num)
  exact (less_apply (h1.double 270#32 rfl (by norm_num) (by norm_num)) (by norm_num) r (hx _)).trans (pulled_of (span_colAt q _ (g := 1) rfl) _ _)

theorem third_apply : k0_pay5 (k0_pay1 i v0 v2) (k0_pay2 i) (ix2 r q) = (pulled d (256 * (i 0).val + r.val) (colAt 1024 q) : EReal) := by
  have hx := quarter_apply h0 h2 q 1024 (by norm_num) slices_S272x2048_o0_1024_S272x512
  have h1 := (quotient_apply (w := 8) (by norm_num) (by norm_num) hx).double 271#32 rfl (by norm_num) (by norm_num)
  have h2 := h1.double 270#32 rfl (by norm_num) (by norm_num)
  exact (less_apply (h2.double 268#32 rfl (by norm_num) (by norm_num)) (by norm_num) r (hx _)).trans (pulled_of (span_colAt q _ (g := 2) rfl) _ _)

theorem fourth_apply : k0_pay6 (k0_pay1 i v0 v2) (k0_pay2 i) (ix2 r q) = (pulled d (256 * (i 0).val + r.val) (colAt 1536 q) : EReal) := by
  have hx := quarter_apply h0 h2 q 1536 (by norm_num) slices_S272x2048_o0_1536_S272x512
  have h1 := (quotient_apply (w := 16) (by norm_num) (by norm_num) hx).double 271#32 rfl (by norm_num) (by norm_num)
  have h2 := h1.double 270#32 rfl (by norm_num) (by norm_num)
  have h3 := h2.double 268#32 rfl (by norm_num) (by norm_num)
  exact (less_apply (h3.double 264#32 rfl (by norm_num) (by norm_num)) (by norm_num) r (hx _)).trans (pulled_of (span_colAt q _ (g := 3) rfl) _ _)

end

end Cert.PoolValue

end
-- ==== Proof.PoolArray.lean ====
/-
  What the pool's result array holds after the kernel's grid: the input's gradient in its own columns, what the array held
  before in the others.
-/
module

public import proofs.«01_k».proof.Proof.Gen.PoolIdeal.Value
public import proofs.«01_k».proof.Proof.PoolBlock
public import Idealize.ShloMosaic.Lib.Pipeline.ValueKit.Tiles
public import Idealize.ShloMosaic.Lib.Pipeline.ValueKit.Partial

@[expose] public section

set_option maxRecDepth 16384

noncomputable section

namespace Cert.PoolValue

open Idealize.ShloMosaic Idealize.ShloMosaic.TcCoe Idealize.SL.Sem Cert.Lift
open Idealize.ShloMosaic.Pipeline (Dat)
open Cert.PoolIdeal Cert.PoolIdeal.Gen

section
variable {F : FTy → Type} [FloatOps F] (m : (ℓ : Loc nD τ sig) → Buf (Elt F) ℓ)

theorem index_at : ∀ t : Fin cfg0.N, (∀ a, win0_0.index t a = ![t.val, 0] a) ∧ (∀ a, win0_1.index t a = ![min ((t.val + 1) * 16) 511, 0] a)
    ∧ (∀ a, win0_2.index t a = ![t.val, 1] a) ∧ (grid0.coords t 0).val = t.val :=
  (by decide +kernel : ∀ t : Fin grid0.N, (∀ a, win0_0.index t a = ![t.val, 0] a) ∧ (∀ a, win0_1.index t a = ![min ((t.val + 1) * 16) 511, 0] a)
    ∧ (∀ a, win0_2.index t a = ![t.val, 1] a) ∧ (grid0.coords t 0).val = t.val)

theorem hz : (![0, 0] : Fin 2 → Nat) = fun _ => 0 := by decide

theorem points : ∀ t : Fin cfg0.N, t.val < 32 := fun t => by have := t.isLt; have hN : cfg0.N = 32 := N_0; omega

/-- Element `(r, k)` of a point's first block is the array's of row `256 t + r`. -/
theorem block_rows (c : Dev nD) (t : Fin cfg0.N) (r : Fin 256) (k : Fin 2048) (n : Fin 8192) (hn : n.val = 256 * t.val + r.val) :
    (iblk m c 0 t : Vec F S256x2048 .f32) (ix2 r k) = m ((c : Thread nD τ).loc main_arg1) (ix2 n k) := by
  unfold iblk
  rw [View.read_apply]
  refine (congrFun (V_main_arg1 m c) _).trans (congrArg _ (funext fun a => Fin.ext ?_))
  have e0 : win0_0.index t 0 = t.val := (index_at t).1 0
  have e1 : win0_0.index t 1 = 0 := (index_at t).1 1
  match a with
  | ⟨0, _⟩ => show win0_0.index t 0 * 256 + 1 * r.val = n.val; rw [e0]; omega
  | ⟨1, _⟩ => show win0_0.index t 1 * 2048 + 1 * k.val = k.val; rw [e1]; omega

/-- Element `(r, k)` of a point's second block is the array's of row `256 (t + 1) + r`, but at the last point. -/
theorem block_next (c : Dev nD) (t : Fin cfg0.N) (ht : t.val ≠ 31) (r : Fin 16) (k : Fin 2048) (n : Fin 8192) (hn : n.val = 256 * t.val + (256 + r.val)) :
    (iblk m c 1 t : Vec F S16x2048 .f32) (ix2 r k) = m ((c : Thread nD τ).loc main_arg1) (ix2 n k) := by
  unfold iblk
  rw [View.read_apply]
  refine (congrFun (V_main_arg1 m c) _).trans (congrArg _ (funext fun a => Fin.ext ?_))
  have e0 : win0_1.index t 0 = min ((t.val + 1) * 16) 511 := (index_at t).2.1 0
  have e1 : win0_1.index t 1 = 0 := (index_at t).2.1 1
  have := points t
  match a with
  | ⟨0, _⟩ => show win0_1.index t 0 * 16 + 1 * r.val = n.val; rw [e0]; omega
  | ⟨1, _⟩ => show win0_1.index t 1 * 2048 + 1 * k.val = k.val; rw [e1]; omega

end

section
variable (m : (ℓ : Loc nD τ sig) → Buf (Elt Ideal) ℓ) {c : Dev nD} {d : Fin 8192 → Fin 2048 → ℝ}

/-- The result array: the gradient in columns 2048 to 4095, the array's former contents in the others. -/
def pulledArray (c : Dev nD) (d : Fin 8192 → Fin 2048 → ℝ) : Buf (Elt Ideal) ((c : Thread nD τ).loc main_v0) :=
  fun i : S8192x7296.Idx => if h : 2048 ≤ (i 1).val ∧ (i 1).val - 2048 < 2048 then (pulled d (i 0).val ⟨(i 1).val - 2048, h.2⟩ : EReal)
    else m ((c : Thread nD τ).loc main_arg2) i

variable (hd : ∀ n k, m ((c : Thread nD τ).loc main_arg1) (ix2 n k) = (d n k : EReal))
include hd

/-- What a point leaves in its block: the gradient of its rows. -/
theorem point_apply (t : Fin cfg0.N) (r : Fin 256) (k : Fin 2048) : outsAt0 m c t (ix2 r k) = (pulled d (256 * t.val + r.val) k : EReal) := by
  have hc : (grid0.coords t 0).val = t.val := (index_at t).2.2.2
  have ht := points t
  have h0 : ∀ (r : Fin 256) k, (iblk m c 0 t : Vec Ideal S256x2048 .f32) (ix2 r k) = (row d k (256 * (grid0.coords t 0).val + r.val) : EReal) := fun r k => by
    have hr := r.isLt
    rw [hc, block_rows m c t r k ⟨256 * t.val + r.val, by omega⟩ rfl, hd]
    unfold row
    rw [dif_pos]
  have h2 : (grid0.coords t 0).val ≠ 31 → ∀ (r : Fin 16) k, (iblk m c 1 t : Vec Ideal S16x2048 .f32) (ix2 r k) = (row d k (256 * (grid0.coords t 0).val + (256 + r.val)) : EReal) :=
    fun hne r k => by
      rw [hc] at hne ⊢
      have hr := r.isLt
      rw [block_next m c t hne r k ⟨256 * t.val + (256 + r.val), by omega⟩ rfl, hd]
      unfold row
      rw [dif_pos]
  rw [← hc]
  unfold outsAt0 out0_A_2
  rw [View.read_writes_eq_canon _ _ _ (fun y => cover0_A_2 (y := y) ..)]
  refine View.canon_eq_of_allAt _ _ _ (cover0_A_2 (y := ix2 r k) ..) ?_
  unfold kernelRun0_A
  dsimp only
  sl_unfold_words
  simp only [View.readAt_eq_ld, (hs0_0 _).read_unread, (hs0_1 _).read_unread, View.ld_unit_zero (S := S256x2048) hz, View.ld_unit_zero (S := S16x2048) hz]
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals
    intro x hx
    obtain ⟨r', q, rfl⟩ : ∃ (r' : Fin 256) (q : Fin 512), x = ix2 r' q := ⟨x 0, x 1, eq_ix2 x⟩
    have e0 : r.val = 0 + r'.val := hx 0
    obtain rfl : r' = r := Fin.ext (by omega)
    have e1 := hx 1
  · obtain rfl : k = colAt 1536 q := Fin.ext e1
    exact fourth_apply h0 h2 _ _
  · obtain rfl : k = colAt 1024 q := Fin.ext e1
    exact third_apply h0 h2 _ _
  · obtain rfl : k = colAt 512 q := Fin.ext e1
    exact second_apply h0 h2 _ _
  · obtain rfl : k = colAt 0 q := Fin.ext e1
    exact first_apply h0 h2 _ _

/-- After the grid the result array holds the gradient in its columns and its former contents in the others. -/
theorem pulled_final : (dats m 0 c).arrAt 2 cfg0.N = pulledArray m c d := by
  refine (dats m 0 c).arrAt_eq_of_coversWhere_of_agree 2 _ (fun β => β (1 : Fin 2) = 1) (by decide +kernel) (fun t hf y => ?_) (fun j hj => ?_)
  · obtain ⟨r, k, hx⟩ : ∃ (r : Fin 256) (k : Fin 2048), ((cfg0.win 2).xinj (cfg0.grid.coords t) y : S256x2048.Idx) = ix2 r k := ⟨_, _, eq_ix2 _⟩
    have hr : (y (0 : Fin 2) : Nat) = r.val := congrArg Fin.val (congrFun hx 0)
    have hk : (y (1 : Fin 2) : Nat) = k.val := congrArg Fin.val (congrFun hx 1)
    have e0 : win0_2.index t 0 = t.val := (index_at t).2.2.1 0
    have e1 : win0_2.index t 1 = 1 := (index_at t).2.2.1 1
    have h0 : ((((cfg0.win 2).blk t).view.emb y : S8192x7296.Idx) 0 : Nat) = 256 * t.val + r.val := by
      show win0_2.index t 0 * 256 + 1 * (y (0 : Fin 2) : Nat) = _; rw [e0, hr]; omega
    have h1 : ((((cfg0.win 2).blk t).view.emb y : S8192x7296.Idx) 1 : Nat) = 2048 + k.val := by
      show win0_2.index t 1 * 2048 + 1 * (y (1 : Fin 2) : Nat) = _; rw [e1, hk]; omega
    have hkl := k.isLt
    rw [after0_2]
    refine (cast_eq _ _).trans ?_
    refine (congrArg (outsAt0 m c t) hx).trans ((point_apply m hd t r k).trans ?_)
    unfold pulledArray
    rw [dif_pos ⟨by omega, by omega⟩, h0]
    exact congrArg (fun k => (pulled d (256 * t.val + r.val) k : EReal)) (Fin.ext (by show k.val = _ - 2048; omega))
  · have hc : ¬((j (1 : Fin 2) : Nat) / 2048 = 1) := hj
    unfold pulledArray
    rw [dif_neg fun h => hc (by have h' : 2048 ≤ (j (1 : Fin 2) : Nat) ∧ (j (1 : Fin 2) : Nat) - 2048 < 2048 := h; omega)]
    refine (congrFun (A_eq m c 2) _).trans ?_
    show StableHlo.after hostOps0 _ (Proc.devRef .tc main_v0) j = _
    after_results_simp
    rfl

end

end Cert.PoolValue

end
-- ==== Proof.PoolRef.lean ====
/-
  What the pool's reference computes, over real numbers: the derivative of the windowed means, in the terms of the
  kernel's block.
-/
module

public import proofs.«01_k».proof.Proof.Gen.PoolRefIdeal.Read
public import proofs.«01_k».proof.Proof.PoolBlock

@[expose] public section

set_option maxRecDepth 16384

noncomputable section

namespace Cert.PoolValue

open Idealize.ShloMosaic Idealize.ShloMosaic.TcCoe Idealize.SL.Sem Cert.Lift
open Cert.PoolRefIdeal Cert.PoolRefIdeal.Gen Cert.PoolRefIdeal.Read

variable {x1 : (⟨S8192x2048, .f32⟩ : BufTy).Contents (Elt Ideal)} {d : Fin 8192 → Fin 2048 → ℝ}

/-! ## The windows' first rows and lengths -/

theorem starts_apply (t : Fin 8192) : (val_main_v18 (F := Ideal) (ix2 t 0)).toInt = ((t.val + 1 - 2 : ℕ) : Int)
    ∧ (val_main_v44 (F := Ideal) (ix2 t 0)).toInt = ((t.val + 1 - 4 : ℕ) : Int) ∧ (val_main_v70 (F := Ideal) (ix2 t 0)).toInt = ((t.val + 1 - 8 : ℕ) : Int)
    ∧ (val_main_v96 (F := Ideal) (ix2 t 0)).toInt = ((t.val + 1 - 16 : ℕ) : Int) := by
  have ht := t.isLt
  refine ⟨?_, ?_, ?_, ?_⟩
  · pointwise [val_main_v18, val_main_v17, val_main_v14, val_main_v13, val_main_v11, val_main_v10, val_main_v9, val_main_v8, val_main_v7, val_main_v6, val_main_v4,
      val_main_c, val_main_c_1, val_main_c_2, val_main_c_3]
    rw [next_row (by omega)]
    exact start_word (by omega) (by norm_num) _
  · pointwise [val_main_v44, val_main_v43, val_main_v40, val_main_v39, val_main_v37, val_main_v36, val_main_v35, val_main_v34, val_main_v33, val_main_v32, val_main_v4,
      val_main_c_7, val_main_c_8, val_main_c_9, val_main_c_10]
    rw [next_row (by omega)]
    exact start_word (by omega) (by norm_num) _
  · pointwise [val_main_v70, val_main_v69, val_main_v66, val_main_v65, val_main_v63, val_main_v62, val_main_v61, val_main_v60, val_main_v59, val_main_v58, val_main_v4,
      val_main_c_14, val_main_c_15, val_main_c_16, val_main_c_17]
    rw [next_row (by omega)]
    exact start_word (by omega) (by norm_num) _
  · pointwise [val_main_v96, val_main_v95, val_main_v92, val_main_v91, val_main_v89, val_main_v88, val_main_v87, val_main_v86, val_main_v85, val_main_v84, val_main_v4,
      val_main_c_21, val_main_c_22, val_main_c_23, val_main_c_24]
    rw [next_row (by omega)]
    exact start_word (by omega) (by norm_num) _

theorem counts_apply (t : Fin 8192) : val_main_v26 (F := Ideal) (ix2 t 0) = (((min (t.val + 1) 2 : ℕ) : ℝ) : EReal)
    ∧ val_main_v52 (F := Ideal) (ix2 t 0) = (((min (t.val + 1) 4 : ℕ) : ℝ) : EReal) ∧ val_main_v78 (F := Ideal) (ix2 t 0) = (((min (t.val + 1) 8 : ℕ) : ℝ) : EReal)
    ∧ val_main_v104 (F := Ideal) (ix2 t 0) = (((min (t.val + 1) 16 : ℕ) : ℝ) : EReal) := by
  have ht := t.isLt
  have key : ∀ w : ℕ, w < 2 ^ 20 → (Scalar.sitofp .f32 (IntOp.minsi (IntOp.addi (BitVec.ofNat 32 t.val) 1#32) (BitVec.ofNat 32 w)) : Ideal .f32)
      = (((min (t.val + 1) w : ℕ) : ℝ) : EReal) := fun w hw => by
    rw [next_row (by omega), Ideal.scalar_sitofp_def, min_word (by omega) hw]
    simp
  refine ⟨?_, ?_, ?_, ?_⟩
  · pointwise [val_main_v26, val_main_v25, val_main_v24, val_main_v23, val_main_v22, val_main_v21, val_main_v4, val_main_c_5, val_main_c_6]
    exact key 2 (by norm_num)
  · pointwise [val_main_v52, val_main_v51, val_main_v50, val_main_v49, val_main_v48, val_main_v47, val_main_v4, val_main_c_12, val_main_c_13]
    exact key 4 (by norm_num)
  · pointwise [val_main_v78, val_main_v77, val_main_v76, val_main_v75, val_main_v74, val_main_v73, val_main_v4, val_main_c_19, val_main_c_20]
    exact key 8 (by norm_num)
  · pointwise [val_main_v104, val_main_v103, val_main_v102, val_main_v101, val_main_v100, val_main_v99, val_main_v4, val_main_c_26, val_main_c_27]
    exact key 16 (by norm_num)

/-! ## One quarter of the columns -/

/-- The rows that a quarter's scatter and its moved rows leave, below the first. -/
theorem spread_apply (z : FVec Ideal S8193x512 .f32) (idx : IVec S8192x1 32) (y : FVec Ideal S8192x512 .f32) (e : FVec Ideal S_ .f32) (q : Fin 512) {w : ℕ} {k : Fin 2048}
    (hz : ∀ i, z i = 0) (hidx : ∀ t : Fin 8192, (idx (ix2 t 0)).toInt = ((t.val + 1 - w : ℕ) : Int)) (hy : ∀ t : Fin 8192, y (ix2 t q) = (share d w k t.val : EReal))
    (n : Fin 8192) (hn : n.val + 1 < 8193) :
    addf (Host.scatterAdd scatter_S8193x512_S8192x1_S8192x512_1_0_0_1 z idx (Host.negf y)) (pad S8193x512 ![1, 0] ![0, 0] ![0, 0] y e pads_S8192x512_S8193x512_100_000 h_S_)
      (ix2 ⟨n.val + 1, hn⟩ q) = ((share d w k n.val - share d w k (n.val + w) : ℝ) : EReal) := by
  have hs : Host.scatterAdd scatter_S8193x512_S8192x1_S8192x512_1_0_0_1 z idx (Host.negf y) (ix2 (⟨n.val + 1, hn⟩ : Fin 8193) q) = ((-share d w k (n.val + w) : ℝ) : EReal) :=
    scatter_apply z idx (Host.negf y) q hz hidx (fun t => by pointwise []; simp only [hy, Ideal.hostNegf_def, EReal.coe_neg]) (share_zero d w k) n hn
  have hp : pad S8193x512 ![1, 0] ![0, 0] ![0, 0] y e pads_S8192x512_S8193x512_100_000 h_S_ (ix2 (⟨n.val + 1, hn⟩ : Fin 8193) q) = y (ix2 n q) :=
    pad_apply_of_inside _ _ _ _ _ _ _ _ _ fun a => by
      match a with
      | ⟨0, _⟩ => show n.val + 1 = 1 + n.val * 1; omega
      | ⟨1, _⟩ => show q.val = 0 + q.val * 1; omega
  show Host.scatterAdd scatter_S8193x512_S8192x1_S8192x512_1_0_0_1 z idx (Host.negf y) _ + _ = _
  rw [hs, hp, hy, ← EReal.coe_add, neg_add_eq_sub]

section
variable (hd : ∀ t k, x1 (ix2 t k) = (d t k : EReal))
include hd

theorem slices_apply (t : Fin 8192) (q : Fin 512) : val_main_v110 (F := Ideal) x1 (ix2 t q) = (row d (colAt 0 q) t.val : EReal)
    ∧ val_main_v111 (F := Ideal) x1 (ix2 t q) = (row d (colAt 512 q) t.val : EReal) ∧ val_main_v112 (F := Ideal) x1 (ix2 t q) = (row d (colAt 1024 q) t.val : EReal)
    ∧ val_main_v113 (F := Ideal) x1 (ix2 t q) = (row d (colAt 1536 q) t.val : EReal) := by
  have key : ∀ k, (row d k t.val : EReal) = x1 (ix2 t k) := fun k => by unfold row; rw [dif_pos t.isLt, hd]
  simp only [key]
  refine ⟨?_, ?_, ?_, ?_⟩
  · pointwise [val_main_v110]
    exact congrArg (fun k => x1 (ix2 t k)) (Fin.ext (Nat.zero_add _).symm)
  · pointwise [val_main_v111]
    rfl
  · pointwise [val_main_v112]
    rfl
  · pointwise [val_main_v113]
    rfl

theorem shares_apply (t : Fin 8192) (q : Fin 512) : val_main_v152 (F := Ideal) x1 (ix2 t q) = (share d 2 (colAt 0 q) t.val : EReal)
    ∧ val_main_v140 (F := Ideal) x1 (ix2 t q) = (share d 4 (colAt 512 q) t.val : EReal) ∧ val_main_v128 (F := Ideal) x1 (ix2 t q) = (share d 8 (colAt 1024 q) t.val : EReal)
    ∧ val_main_v117 (F := Ideal) x1 (ix2 t q) = (share d 16 (colAt 1536 q) t.val : EReal) := by
  obtain ⟨s0, s1, s2, s3⟩ := slices_apply hd t q
  obtain ⟨c0, c1, c2, c3⟩ := counts_apply t
  refine ⟨?_, ?_, ?_, ?_⟩
  · pointwise [val_main_v152, val_main_v151]
    simp only [s0, c0, Ideal.hostDivf_def]
    exact div_coe (count_ne (by norm_num))
  · pointwise [val_main_v140, val_main_v139]
    simp only [s1, c1, Ideal.hostDivf_def]
    exact div_coe (count_ne (by norm_num))
  · pointwise [val_main_v128, val_main_v127]
    simp only [s2, c2, Ideal.hostDivf_def]
    exact div_coe (count_ne (by norm_num))
  · pointwise [val_main_v117, val_main_v116]
    simp only [s3, c3, Ideal.hostDivf_def]
    exact div_coe (count_ne (by norm_num))

theorem spreads_apply (n : Fin 8192) (hn : n.val + 1 < 8193) (q : Fin 512) :
    val_main_v157 (F := Ideal) x1 (ix2 ⟨n.val + 1, hn⟩ q) = ((share d 2 (colAt 0 q) n.val - share d 2 (colAt 0 q) (n.val + 2) : ℝ) : EReal)
    ∧ val_main_v145 (F := Ideal) x1 (ix2 ⟨n.val + 1, hn⟩ q) = ((share d 4 (colAt 512 q) n.val - share d 4 (colAt 512 q) (n.val + 4) : ℝ) : EReal)
    ∧ val_main_v133 (F := Ideal) x1 (ix2 ⟨n.val + 1, hn⟩ q) = ((share d 8 (colAt 1024 q) n.val - share d 8 (colAt 1024 q) (n.val + 8) : ℝ) : EReal)
    ∧ val_main_v122 (F := Ideal) x1 (ix2 ⟨n.val + 1, hn⟩ q) = ((share d 16 (colAt 1536 q) n.val - share d 16 (colAt 1536 q) (n.val + 16) : ℝ) : EReal) := by
  have hz : ∀ i : S8193x512.Idx, val_main_v119 (F := Ideal) i = 0 := fun i => by
    pointwise [val_main_v119, val_main_cst_29]
  exact ⟨spread_apply _ _ _ _ q hz (fun t => (starts_apply t).1) (fun t => (shares_apply hd t q).1) n hn,
    spread_apply _ _ _ _ q hz (fun t => (starts_apply t).2.1) (fun t => (shares_apply hd t q).2.1) n hn,
    spread_apply _ _ _ _ q hz (fun t => (starts_apply t).2.2.1) (fun t => (shares_apply hd t q).2.2.1) n hn,
    spread_apply _ _ _ _ q hz (fun t => (starts_apply t).2.2.2) (fun t => (shares_apply hd t q).2.2.2) n hn⟩

/-! ## All the columns -/

omit hd in
/-- Four arrays of a quarter's columns, each padded to all the columns and added, hold each its own quarter. -/
theorem quarters_add (y0 y1 y2 y3 : Fin 512 → EReal) {g : Fin 2048 → ℝ} (h0 : ∀ q, y0 q = (g (colAt 0 q) : EReal)) (h1 : ∀ q, y1 q = (g (colAt 512 q) : EReal))
    (h2 : ∀ q, y2 q = (g (colAt 1024 q) : EReal)) (h3 : ∀ q, y3 q = (g (colAt 1536 q) : EReal)) (k : Fin 2048) :
    ((((if h : 1536 ≤ k.val ∧ k.val - 1536 < 512 then y3 ⟨k.val - 1536, h.2⟩ else 0) + if h : 1024 ≤ k.val ∧ k.val - 1024 < 512 then y2 ⟨k.val - 1024, h.2⟩ else 0)
      + if h : 512 ≤ k.val ∧ k.val - 512 < 512 then y1 ⟨k.val - 512, h.2⟩ else 0) + if h : k.val < 512 then y0 ⟨k.val, h⟩ else 0) = (g k : EReal) := by
  have hk := k.isLt
  simp only [h0, h1, h2, h3]
  have hat : ∀ (lo : ℕ) (hlo : lo ≤ 1536) (h : k.val - lo < 512), lo ≤ k.val → colAt lo ⟨k.val - lo, h⟩ hlo = k := fun lo hlo h hle => Fin.ext (by show lo + (k.val - lo) = k.val; omega)
  rcases Nat.lt_or_ge k.val 512 with hlt | hge
  · rw [dif_neg (by omega), dif_neg (by omega), dif_neg (by omega), dif_pos hlt]
    simp only [add_zero, zero_add]
    exact congrArg (fun k => (g k : EReal)) (hat 0 _ hlt (Nat.zero_le _))
  rcases Nat.lt_or_ge k.val 1024 with hlt | hge1
  · rw [dif_neg (by omega), dif_neg (by omega), dif_pos ⟨hge, by omega⟩, dif_neg (by omega)]
    simp only [add_zero, zero_add, hat 512 _ _ hge]
  rcases Nat.lt_or_ge k.val 1536 with hlt | hge2
  · rw [dif_neg (by omega), dif_pos ⟨hge1, by omega⟩, dif_neg (by omega), dif_neg (by omega)]
    simp only [add_zero, zero_add, hat 1024 _ _ hge1]
  · rw [dif_pos ⟨hge2, by omega⟩, dif_neg (by omega), dif_neg (by omega), dif_neg (by omega)]
    simp only [add_zero, zero_add, hat 1536 _ _ hge2]

theorem steps_apply (n : Fin 8192) (k : Fin 2048) :
    val_main_v161 (F := Ideal) x1 (ix2 n k) = ((share d (span k) k n.val - share d (span k) k (n.val + span k) : ℝ) : EReal) := by
  have hn : n.val + 1 < 8193 := by have := n.isLt; omega
  have h159 : val_main_v161 (F := Ideal) x1 (ix2 n k) = val_main_v159 (F := Ideal) x1 (ix2 ⟨n.val + 1, hn⟩ k) := by
    pointwise [val_main_v161]
    exact congrArg (fun r => val_main_v159 (F := Ideal) x1 (ix2 r k)) (Fin.ext (Nat.add_comm _ _))
  rw [h159]
  generalize hr : (⟨n.val + 1, hn⟩ : Fin 8193) = r
  pointwise [val_main_v159, val_main_v147, val_main_v135, val_main_v123, val_main_v134, val_main_v146, val_main_v158,
    val_main_cst_31, val_main_cst_35, val_main_cst_39, val_main_cst_43]
  subst hr
  have hs := spreads_apply hd n hn
  exact quarters_add (fun q => val_main_v157 (F := Ideal) x1 (ix2 ⟨n.val + 1, hn⟩ q)) (fun q => val_main_v145 (F := Ideal) x1 (ix2 ⟨n.val + 1, hn⟩ q))
    (fun q => val_main_v133 (F := Ideal) x1 (ix2 ⟨n.val + 1, hn⟩ q)) (fun q => val_main_v122 (F := Ideal) x1 (ix2 ⟨n.val + 1, hn⟩ q))
    (g := fun k => share d (span k) k n.val - share d (span k) k (n.val + span k))
    (fun q => by simp only [span_colAt q _ (g := 0) rfl]; exact (hs q).1) (fun q => by simp only [span_colAt q _ (g := 1) rfl]; exact (hs q).2.1)
    (fun q => by simp only [span_colAt q _ (g := 2) rfl]; exact (hs q).2.2.1) (fun q => by simp only [span_colAt q _ (g := 3) rfl]; exact (hs q).2.2.2) k

theorem minus_apply (t : Fin 8192) (k : Fin 2048) : val_main_v150 (F := Ideal) x1 (ix2 t k) = ((-row d k t.val : ℝ) : EReal) := by
  pointwise [val_main_v150, val_main_v138, val_main_v126, val_main_v115, val_main_v125, val_main_v137, val_main_v149, val_main_v114, val_main_v124, val_main_v136, val_main_v148,
    val_main_cst_28, val_main_cst_32, val_main_cst_36, val_main_cst_40]
  have hs := slices_apply hd t
  exact quarters_add (fun q => -val_main_v110 (F := Ideal) x1 (ix2 t q)) (fun q => -val_main_v111 (F := Ideal) x1 (ix2 t q)) (fun q => -val_main_v112 (F := Ideal) x1 (ix2 t q))
    (fun q => -val_main_v113 (F := Ideal) x1 (ix2 t q)) (g := fun k => -row d k t.val) (fun q => by simp only [EReal.coe_neg, (hs q).1]) (fun q => by simp only [EReal.coe_neg, (hs q).2.1])
    (fun q => by simp only [EReal.coe_neg, (hs q).2.2.1]) (fun q => by simp only [EReal.coe_neg, (hs q).2.2.2]) k

theorem refPulled_apply (t : Fin 8192) (k : Fin 2048) : val_main_v165 (F := Ideal) x1 (ix2 t k) = (pulled d t.val k : EReal) := by
  have h := suffix_rows (R := 8192) (Rm1 := 8191) (C := 2048) rfl (val_main_v161 (F := Ideal) x1) (fun n => share d (span k) k n - share d (span k) k (n + span k)) k
    (fun n => steps_apply hd n k) reduceWindows_S8192x2048_S8192x2048_w8192s1p0_8191_w1s1p0_0 t
  have hw : _ = ∑ j ∈ Finset.range (span k), share d (span k) k (t.val + j) :=
    window_of_suffix (share d (span k) k) (L := 8192) (w := span k) (t := t.val) (share_zero d (span k) k) (Nat.le_of_lt t.isLt)
  rw [hw] at h
  have hz : ∀ i, val_main_call1_call0_v0 (F := Ideal) i = 0 := fun i => by
    pointwise [val_main_call1_call0_v0, val_main_call1_call0_cst]
  have h162 : val_main_v162 (F := Ideal) x1 (ix2 t k) = ((∑ j ∈ Finset.range (span k), share d (span k) k (t.val + j) : ℝ) : EReal) := by
    unfold val_main_v162 Host.reduceWindowAdd
    rw [Ideal.hostReduceWindowAdd_def, hz]
    exact h
  pointwise [val_main_v165, val_main_v163]
  rw [minus_apply hd, h162, ← EReal.coe_add, neg_add_eq_sub]
  rfl

end

end Cert.PoolValue

end
-- ==== Proof.PoolClaim.lean ====
/-
  The claims of the pool's backward call: the reference's frame, and that the two programs' results are equal over the
  extended reals where the gradient of the pooled rows is finite.
-/
module

public import proofs.«01_k».proof.Defs
public import proofs.«01_k».proof.Proof.Gen.Pool.Frame
public import proofs.«01_k».proof.Proof.Gen.PoolRefIdeal.Run
public import proofs.«01_k».proof.Proof.Gen.Pre_pool_finite
public import proofs.«01_k».proof.Proof.PoolArray
public import proofs.«01_k».proof.Proof.PoolRef
public import Idealize.ShloMosaic.Lib.Claim

@[expose] public section

set_option maxRecDepth 16384

noncomputable section

namespace Cert.PoolValue

open Idealize.ShloMosaic Idealize.ShloMosaic.TcCoe Idealize.SL.Sem Cert.Lift
open Cert.PoolRefIdeal Cert.PoolRefIdeal.Gen Cert.PoolRefIdeal.Read

/-- Where the precondition holds, the pooled rows' gradient is an array of real numbers. -/
theorem real_of_pre {p x : FVec Ideal Cert.PoolIdeal.S8192x2048 .f32} {b : FVec Ideal Cert.PoolIdeal.S8192x7296 .bf16}
    (hp : Cert.Pre_pool_finite.fn (F := Ideal) p x b = fun _ => 1#1) :
    ∃ d : Fin 8192 → Fin 2048 → ℝ, ∀ r k, x (ix2 r k) = (d r k : EReal) :=
  ⟨fun r k => (x (ix2 r k) : EReal).toReal, fun r k => by
    have hp' := congrFun hp (ix2 r k)
    pointwise [Cert.Pre_pool_finite.fn] at hp'
    exact real_of_test (of_decide_eq_true ((BitVec.ofBool_eq_iff_eq (b' := true)).mp hp'))⟩

theorem frame_ref : Cert.quiescent_PoolRefIdeal := fun m g _ =>
  (θ_run Cert.PoolRefIdeal.defs _ _).mono (fun r h => ⟨fun c => (h c).2, sem_eq_zero_of_no_sems (by decide) r.2⟩)
    (Cert.PoolRefIdeal.Value.run m g)

/-- The reference's result: the gradient between the two kept parts of the array it goes into. -/
theorem refArray_apply {d : Fin 8192 → Fin 2048 → ℝ} {x1 : FVec Ideal S8192x2048 .f32} {x2 : FVec Ideal S8192x7296 .bf16}
    (hd : ∀ r k, x1 (ix2 r k) = (d r k : EReal)) (r : Fin 8192) (k : Fin 7296) :
    val_main_v167 (F := Ideal) x1 x2 (ix2 r k) = if h : 2048 ≤ k.val ∧ k.val - 2048 < 2048 then (pulled d r.val ⟨k.val - 2048, h.2⟩ : EReal) else x2 (ix2 r k) := by
  pointwise [val_main_v167, val_main_v164, val_main_v166]
  by_cases h0 : k.val < 2048
  · rw [dif_pos h0, dif_neg fun h => by omega]
  · rw [dif_neg h0]
    by_cases h1 : k.val - 2048 < 2048
    · rw [dif_pos h1, dif_pos ⟨by omega, h1⟩]
      exact refPulled_apply hd r _
    · rw [dif_neg h1, dif_neg fun h => h1 h.2]
      exact congrArg (fun k => x2 (ix2 r k)) (Fin.ext (by show 4096 + (k.val - 2048 - 2048) = k.val; omega))

theorem value : Cert.algebraic_PoolIdeal_PoolRefIdeal_pre_pool_finite := by
  intro m g m' g' hp hag
  refine ⟨_, Cert.PoolIdeal.Value.run_blocks m g, (θ_run Cert.PoolRefIdeal.defs _ _).mono (fun r h c => ?_) (Cert.PoolRefIdeal.Value.run m' g')⟩
  obtain ⟨hr, ha⟩ := h c
  obtain ⟨d, hd⟩ := real_of_pre (hp c)
  obtain ⟨e0, e1, e2⟩ := hag c
  refine ⟨hr.trans ?_, ha⟩
  refine (val_main_v167_eq _).trans ?_
  refine (congrArg₂ (val_main_v167 (F := Ideal)) e1 e2).trans ?_
  rw [pulled_final m hd]
  funext i
  obtain ⟨r, k, rfl⟩ : ∃ (r : Fin 8192) (k : Fin 7296), i = ix2 r k := ⟨i 0, i 1, eq_ix2 i⟩
  exact refArray_apply hd r k

end Cert.PoolValue

end
-- ==== Proof.ConvBlock.lean ====
/-
  What one grid point of the convolution's backward pass computes, over real numbers: from 512 rows of the signal with 8
  rows before and 8 after, and 512 rows of the result's gradient with 8 after, the signal's gradient of the 512 rows and
  their terms of the weight's and the bias's gradients.
-/
module

public import proofs.«01_k».proof.Proof.Gen.ConvIdeal.Skeleton
public import proofs.«01_k».proof.Proof.RealLift
public import Idealize.ShloMosaic.Lib.Pointwise
public import Idealize.ShloMosaic.Lib.KernelVsHost

@[expose] public section

set_option maxRecDepth 16384

noncomputable section

namespace Cert.ConvValue

open Idealize.ShloMosaic Idealize.ShloMosaic.TcCoe Idealize.SL.Sem Cert.Lift

/-- The logistic function, and the derivative of `p ↦ p * sigmoid p`. -/
def sigmoid (p : ℝ) : ℝ := 1 / (1 + Real.exp (-p))
def rise (p : ℝ) : ℝ := sigmoid p * (1 + p * (1 - sigmoid p))

theorem sigmoid_ne (p : ℝ) : 1 + Real.exp (-p) ≠ 0 := (add_pos one_pos (Real.exp_pos _)).ne'

/-- The signal, the result's gradient, the weights and the bias. -/
structure Data where
  x : Fin 8192 → Fin 2048 → ℝ
  d : Fin 8192 → Fin 2048 → ℝ
  w : Fin 4 → Fin 2048 → ℝ
  b : Fin 2048 → ℝ

namespace Data
variable (D : Data) (k : Fin 2048)

/-- Row `n - 3` of the signal: zero above its first row and below its last. -/
def lag (n : ℕ) : ℝ := if h : 3 ≤ n ∧ n - 3 < 8192 then D.x ⟨n - 3, h.2⟩ k else 0

/-- Row `n` of the convolution, and of its gradient. -/
def pre (n : ℕ) : ℝ := D.lag k n * D.w 0 k + D.lag k (n + 1) * D.w 1 k + D.lag k (n + 2) * D.w 2 k + D.lag k (n + 3) * D.w 3 k + D.b k
def dpre (n : ℕ) : ℝ := if h : n < 8192 then D.d ⟨n, h⟩ k * rise (D.pre k n) else 0

/-- The gradients of the signal's row `n`, of the weight `j` and of the bias. -/
def dx (n : ℕ) : ℝ := D.dpre k n * D.w 3 k + D.dpre k (n + 1) * D.w 2 k + D.dpre k (n + 2) * D.w 1 k + D.dpre k (n + 3) * D.w 0 k
def dw (j : Fin 4) : ℝ := ∑ n : Fin 8192, D.dpre k n.val * D.lag k (n.val + j.val)
def db : ℝ := ∑ n : Fin 8192, D.dpre k n.val
end Data

open Cert.ConvIdeal Cert.ConvIdeal.Gen

section
variable {i : grid0.Coords} {v2 v8 : Vec Ideal S8x1024 .f32} {v6 : Vec Ideal S512x1024 .f32} {q : Fin 1024} {E : ℕ → ℝ} {a : Fin 4 → ℝ} {β : ℝ}

/-- The four shifted products of the rows. -/
theorem sums_apply (hE : ∀ e : Fin 528, k0_pay7 (F := Ideal) i v2 v6 v8 (ix2 e q) = (E e.val : EReal)) {v11 v16 v22 v28 : Vec Ideal S1x1024 .f32}
    (h0 : v16 (ix2 0 q) = (a 0 : EReal)) (h1 : v22 (ix2 0 q) = (a 1 : EReal)) (h2 : v28 (ix2 0 q) = (a 2 : EReal)) (h3 : v11 (ix2 0 q) = (a 3 : EReal)) (f : Fin 520) :
    k0_pay8 (F := Ideal) i v2 v6 v8 v11 v16 v22 v28 (ix2 f q)
      = ((E (f.val + 5) * a 0 + E (f.val + 6) * a 1 + E (f.val + 7) * a 2 + E (f.val + 8) * a 3 : ℝ) : EReal) := by
  pointwise [k0_pay8]
  simp only [hE, h0, h1, h2, h3, ← EReal.coe_mul, ← EReal.coe_add]
  have hf := f.isLt
  rw [show (8 + f.val + 528 - 3) % 528 = f.val + 5 by omega, show (8 + f.val + 528 - 2) % 528 = f.val + 6 by omega,
    show (8 + f.val + 528 - 1) % 528 = f.val + 7 by omega, Nat.add_comm 8]
  congr 1
  ring

/-- The convolution's gradient: the result's gradient times the derivative of the activation. -/
theorem dpre_apply {v0 : BitVec 1} {v33 : FVec Ideal S520x1024 .f32} {v34 : Vec Ideal S1x1024 .f32} {v38 : Vec Ideal S512x1024 .f32} {v39 : Vec Ideal S8x1024 .f32}
    (f : Fin 520) {p g : ℝ} (h33 : v33 (ix2 f q) = (p : EReal)) (h34 : v34 (ix2 0 q) = (β : EReal))
    (hg : (if h : f.val < 512 then v38 (ix2 ⟨f.val, h⟩ q) else Scalar.select v0 0 (v39 (ix2 ⟨f.val - 512, by omega⟩ q)) : EReal) = (g : EReal)) :
    k0_pay10 v0 v33 (k0_pay9 v34) v38 v39 (ix2 f q) = ((g * rise (p + β) : ℝ) : EReal) := by
  pointwise [k0_pay10, k0_pay9]
  rw [hg, h33, h34, ← EReal.coe_add, zero_sub, ← EReal.coe_neg]
  rw [Ideal.exp_coe]
  simp only [one_coe, ← EReal.coe_add]
  rw [div_coe (sigmoid_ne _)]
  rfl

section
variable {v0 : BitVec 1} {v33 : FVec Ideal S520x1024 .f32} {v35 : FVec Ideal S1x1024 .f32} {v38 : Vec Ideal S512x1024 .f32} {v39 : Vec Ideal S8x1024 .f32} {Z : ℕ → ℝ}
  (hZ : ∀ f : Fin 520, k0_pay10 (F := Ideal) v0 v33 v35 v38 v39 (ix2 f q) = (Z f.val : EReal))
include hZ

theorem dx_apply {v57 v62 v68 v74 : Vec Ideal S1x1024 .f32}
    (h0 : v62 (ix2 0 q) = (a 0 : EReal)) (h1 : v68 (ix2 0 q) = (a 1 : EReal)) (h2 : v74 (ix2 0 q) = (a 2 : EReal)) (h3 : v57 (ix2 0 q) = (a 3 : EReal)) (r : Fin 512) :
    k0_pay1 (k0_pay11 v0 v33 v35 v38 v39 v57 v62 v68) (k0_pay12 v0 v33 v35 v38 v39) v74 (ix2 r q)
      = ((Z r.val * a 3 + Z (r.val + 1) * a 2 + Z (r.val + 2) * a 1 + Z (r.val + 3) * a 0 : ℝ) : EReal) := by
  pointwise [k0_pay1, k0_pay11, k0_pay12]
  simp only [hZ, h0, h1, h2, h3, ← EReal.coe_mul, ← EReal.coe_add]
  have hr := r.isLt
  rw [show (r.val + 520 - 517) % 520 = r.val + 3 by omega, show (r.val + 520 - 518) % 520 = r.val + 2 by omega,
    show (r.val + 520 - 519) % 520 = r.val + 1 by omega]
  congr 1
  ring

theorem dw_apply (hE : ∀ e : Fin 528, k0_pay7 (F := Ideal) i v2 v6 v8 (ix2 e q) = (E e.val : EReal)) (j : Fin 4) :
    k0_pay3 (k0_pay7 i v2 v6 v8) (k0_pay10 v0 v33 v35 v38 v39) (ix2 j q) = ((∑ r : Fin 512, Z r.val * E (r.val + j.val + 5) : ℝ) : EReal) := by
  pointwise [k0_pay3, k0_pay2]
  simp only [hZ, hE, ← EReal.coe_mul, sum_coe]
  have hr : ∀ r : Fin 512, (r.val + 3 + 5 + 528 - 3) % 528 = r.val + 0 + 5 ∧ (r.val + 3 + 5 + 528 - 2) % 528 = r.val + 1 + 5
    ∧ (r.val + 3 + 5 + 528 - 1) % 528 = r.val + 2 + 5 ∧ 8 + r.val = r.val + 3 + 5 := fun r => by have := r.isLt; omega
  simp only [hr]
  have same (n : ℕ) (h : n = j.val) : ((∑ r : Fin 512, Z r.val * E (r.val + n + 5) : ℝ) : EReal) = ((∑ r : Fin 512, Z r.val * E (r.val + j.val + 5) : ℝ) : EReal) := by
    rw [h]
  split_ifs
  · exact same 0 (by omega)
  · exact same 1 (by omega)
  · exact same 2 (by omega)
  · exact same 3 (by omega)

theorem db_apply : k0_pay4 (k0_pay10 (F := Ideal) v0 v33 v35 v38 v39) (ix2 0 q) = ((∑ r : Fin 512, Z r.val : ℝ) : EReal) := by
  pointwise [k0_pay4, k0_pay2]
  simp only [hZ, sum_coe]

end
end

end Cert.ConvValue

end
-- ==== Proof.ConvArray.lean ====
/-
  What the convolution's three result arrays hold after the kernel's grid: the signal's gradient in its own columns of the
  wide array, and the weight's and the bias's gradients, summed over the 16 points of each half of the columns.
-/
module

public import proofs.«01_k».proof.Proof.Gen.ConvIdeal.Value
public import proofs.«01_k».proof.Proof.ConvBlock
public import Idealize.ShloMosaic.Lib.Pipeline.ValueKit.Tiles
public import Idealize.ShloMosaic.Lib.Pipeline.ValueKit.Partial

@[expose] public section

set_option maxRecDepth 16384

noncomputable section

namespace Cert.ConvValue

open Idealize.ShloMosaic Idealize.ShloMosaic.TcCoe Idealize.SL.Sem Cert.Lift
open Idealize.ShloMosaic.Pipeline (Dat)
open Cert.ConvIdeal Cert.ConvIdeal.Gen

section
variable {F : FTy → Type} [FloatOps F] (m : (ℓ : Loc nD τ sig) → Buf (Elt F) ℓ)

theorem hz : (![0, 0] : Fin 2 → Nat) = fun _ => 0 := by decide

/-- The rows of the weight's block. -/
def tap0 (c : Dev nD) (t : Fin cfg0.N) : Vec F S1x1024 .f32 := View.ld (iblk m c 5 t) (Rect.unit ![0, 0] ![1, 1024] inb_S4x1024_S1x1024_0_0)
def tap1 (c : Dev nD) (t : Fin cfg0.N) : Vec F S1x1024 .f32 := View.ld (iblk m c 5 t) (Rect.unit ![1, 0] ![1, 1024] inb_S4x1024_S1x1024_1_0)
def tap2 (c : Dev nD) (t : Fin cfg0.N) : Vec F S1x1024 .f32 := View.ld (iblk m c 5 t) (Rect.unit ![2, 0] ![1, 1024] inb_S4x1024_S1x1024_2_0)
def tap3 (c : Dev nD) (t : Fin cfg0.N) : Vec F S1x1024 .f32 := View.ld (iblk m c 5 t) (Rect.unit ![3, 0] ![1, 1024] inb_S4x1024_S1x1024_3_0)

/-- A point's rows of the signal, their shifted products, and the convolution's gradient. -/
def rows (c : Dev nD) (t : Fin cfg0.N) : FVec F S528x1024 .f32 := k0_pay7 (grid0.coords t) (X0_1 m c t) (X0_0 m c t) (X0_2 m c t)
def sums (c : Dev nD) (t : Fin cfg0.N) : FVec F S520x1024 .f32 :=
  k0_pay8 (grid0.coords t) (X0_1 m c t) (X0_0 m c t) (X0_2 m c t) (tap3 m c t) (tap0 m c t) (tap1 m c t) (tap2 m c t)
abbrev last (t : Fin cfg0.N) : BitVec 1 := Scalar.cmpi .eq (BitVec.ofNat 32 (grid0.coords t 1).val) 15#32
def grads (c : Dev nD) (t : Fin cfg0.N) : FVec F S520x1024 .f32 := k0_pay10 (last t) (sums m c t) (k0_pay9 (iblk m c 6 t)) (iblk m c 3 t) (iblk m c 4 t)

/-- The three results of one point, from its input blocks. -/
def own (c : Dev nD) (t : Fin cfg0.N) : Vec F S512x1024 .bf16 × Vec F S4x1024 .f32 × Vec F S1x1024 .f32 :=
  (k0_pay1 (k0_pay11 (last t) (sums m c t) (k0_pay9 (iblk m c 6 t)) (iblk m c 3 t) (iblk m c 4 t) (tap3 m c t) (tap0 m c t) (tap1 m c t))
      (k0_pay12 (last t) (sums m c t) (k0_pay9 (iblk m c 6 t)) (iblk m c 3 t) (iblk m c 4 t)) (tap2 m c t),
    k0_pay3 (rows m c t) (grads m c t), k0_pay4 (grads m c t))

theorem outs_first (c : Dev nD) (t : Fin cfg0.N) (h0 : t.val % 16 = 0) : outsAt0 m c t.val t.isLt = own m c t := by
  rw [outsAt0_A m c t h0 (by omega)]
  unfold out0_A_7 out0_A_8 out0_A_9
  rw [View.read_writes_eq_canon _ _ _ (fun y => cover0_A_7 (y := y) ..), View.read_writes_eq_canon _ _ _ (fun y => cover0_A_8 (y := y) ..),
    View.read_writes_eq_canon _ _ _ (fun y => cover0_A_9 (y := y) ..)]
  unfold kernelRun0_A
  dsimp only
  sl_unfold_words
  rw [View.canon_unit_zero hz, View.canon_unit_zero hz, View.canon_unit_zero hz]
  simp only [View.readAt_eq_ld, (hs0_0 _).read_unread, (hs0_1 _).read_unread, (hs0_2 _).read_unread, (hs0_3 _).read_unread, (hs0_4 _).read_unread, (hs0_5 _).read_unread,
    (hs0_6 _).read_unread, View.ld_unit_zero (S := S512x1024) hz, View.ld_unit_zero (S := S8x1024) hz, View.ld_unit_zero (S := S1x1024) hz]
  rfl

/-- At the later points of a half the two gradients are added to what the point before left. -/
theorem outs_next (c : Dev nD) (t : Fin cfg0.N) (h0 : ¬t.val % 16 = 0) :
    outsAt0 m c t.val t.isLt = ((own m c t).1, k0_pay5 (rows m c t) (grads m c t) (outsAt0 m c (t.val - 1) (lt_of_le_of_lt (Nat.sub_le _ _) t.isLt)).2.1,
        k0_pay6 (grads m c t) (outsAt0 m c (t.val - 1) (lt_of_le_of_lt (Nat.sub_le _ _) t.isLt)).2.2) := by
  rw [outsAt0_B m c t h0 (Nat.pos_of_ne_zero h0)]
  generalize outsAt0 m c (t.val - 1) _ = o
  unfold out0_B_7 out0_B_8 out0_B_9
  rw [View.read_writes_eq_canon _ _ _ (fun y => cover0_B_7 (y := y) ..), View.read_writes_eq_canon _ _ _ (fun y => cover0_B_8 (y := y) ..),
    View.read_writes_eq_canon _ _ _ (fun y => cover0_B_9 (y := y) ..)]
  unfold kernelRun0_B
  dsimp only
  sl_unfold_words
  rw [View.canon_unit_zero hz, View.canon_unit_zero hz, View.canon_unit_zero hz]
  simp only [View.readAt_eq_ld, (hs0_0 _).read_unread, (hs0_1 _).read_unread, (hs0_2 _).read_unread, (hs0_3 _).read_unread, (hs0_4 _).read_unread, (hs0_5 _).read_unread,
    (hs0_6 _).read_unread, (hs0_8 _).read_unread, (hs0_9 _).read_unread, View.ld_unit_zero (S := S512x1024) hz, View.ld_unit_zero (S := S8x1024) hz,
    View.ld_unit_zero (S := S1x1024) hz, View.ld_unit_zero (S := S4x1024) hz]
  rfl

/-! ## The blocks of a point -/

theorem points : ∀ t : Fin cfg0.N, t.val < 32 := fun t => by have := t.isLt; have hN : cfg0.N = 32 := N_0; omega

theorem index_at : ∀ t : Fin cfg0.N, (∀ a, win0_0.index t a = ![t.val % 16, 4 + t.val / 16] a) ∧ (∀ a, win0_1.index t a = ![64 * (t.val % 16) - 1, 4 + t.val / 16] a)
    ∧ (∀ a, win0_2.index t a = ![min (64 * (t.val % 16 + 1)) 1023, 4 + t.val / 16] a) ∧ (∀ a, win0_3.index t a = ![t.val % 16, t.val / 16] a)
    ∧ (∀ a, win0_4.index t a = ![min (64 * (t.val % 16 + 1)) 1023, t.val / 16] a) ∧ (∀ a, win0_5.index t a = ![0, t.val / 16] a)
    ∧ (∀ a, win0_6.index t a = ![0, t.val / 16] a) ∧ (∀ a, win0_7.index t a = ![t.val % 16, 4 + t.val / 16] a) ∧ (∀ a, win0_8.index t a = ![0, t.val / 16] a)
    ∧ (∀ a, win0_9.index t a = ![0, t.val / 16] a) ∧ (grid0.coords t 1).val = t.val % 16 :=
  (by decide +kernel : ∀ t : Fin grid0.N, (∀ a, win0_0.index t a = ![t.val % 16, 4 + t.val / 16] a) ∧ (∀ a, win0_1.index t a = ![64 * (t.val % 16) - 1, 4 + t.val / 16] a)
    ∧ (∀ a, win0_2.index t a = ![min (64 * (t.val % 16 + 1)) 1023, 4 + t.val / 16] a) ∧ (∀ a, win0_3.index t a = ![t.val % 16, t.val / 16] a)
    ∧ (∀ a, win0_4.index t a = ![min (64 * (t.val % 16 + 1)) 1023, t.val / 16] a) ∧ (∀ a, win0_5.index t a = ![0, t.val / 16] a)
    ∧ (∀ a, win0_6.index t a = ![0, t.val / 16] a) ∧ (∀ a, win0_7.index t a = ![t.val % 16, 4 + t.val / 16] a) ∧ (∀ a, win0_8.index t a = ![0, t.val / 16] a)
    ∧ (∀ a, win0_9.index t a = ![0, t.val / 16] a) ∧ (grid0.coords t 1).val = t.val % 16)

/-- Column `q` of point `t`'s blocks is this column of the convolution's. -/
def col (t : Fin cfg0.N) (q : Fin 1024) : Fin 2048 := ⟨1024 * (t.val / 16) + q.val, by have := points t; have := q.isLt; omega⟩

/-- The signal's columns of the reordered projection are those of the projection it was made from. -/
theorem V_signal (c : Dev nD) (n : Fin 8192) (k : Fin 2048) (j : S8192x7296.Idx) (hj : j = ix2 n ⟨4096 + k.val, by omega⟩) :
    V m c main_v5 j = m ((c : Thread nD τ).loc main_arg0) (ix2 n ⟨2048 + k.val, by omega⟩) := by
  subst hj
  show StableHlo.after hostOps0 _ (Proc.devRef .tc main_v5) _ = _
  after_results_simp
  pointwise []
  have hk := k.isLt
  rw [dif_neg (by omega), dif_neg (by omega), dif_pos (by omega)]
  after_results_simp
  pointwise []
  exact congrArg (fun k => m ((c : Thread nD τ).loc main_arg0) (ix2 n k)) (Fin.ext (by show 2048 + (4096 + k.val - 2048 - 2048) = 2048 + k.val; omega))

theorem V_weight (c : Dev nD) (j : Fin 4) (k : Fin 2048) : V m c main_v6 (ix2 j k) = m ((c : Thread nD τ).loc main_arg1) (ix2 j ⟨k.val, by omega⟩) := by
  show StableHlo.after hostOps0 _ (Proc.devRef .tc main_v6) _ = _
  after_results_simp
  pointwise []

theorem V_bias (c : Dev nD) (k : Fin 2048) : V m c main_v7 (ix2 0 k) = m ((c : Thread nD τ).loc main_arg2) (ix2 0 ⟨k.val, by omega⟩) := by
  show StableHlo.after hostOps0 _ (Proc.devRef .tc main_v7) _ = _
  after_results_simp
  pointwise []

theorem block_x (c : Dev nD) (t : Fin cfg0.N) (r : Fin 512) (q : Fin 1024) (n : Fin 8192) (hn : n.val = 512 * (t.val % 16) + r.val) :
    (X0_0 m c t : Vec F S512x1024 .f32) (ix2 r q) = m ((c : Thread nD τ).loc main_arg0) (ix2 n ⟨2048 + (col t q).val, by omega⟩) := by
  unfold X0_0 Pipeline.Window.fill
  rw [dif_pos (moved0_0 t (ix2 r q))]
  unfold iblk
  rw [View.read_apply]
  refine V_signal m c n (col t q) _ (funext fun a => Fin.ext ?_)
  have e0 : win0_0.index t 0 = t.val % 16 := (index_at t).1 0
  have e1 : win0_0.index t 1 = 4 + t.val / 16 := (index_at t).1 1
  match a with
  | ⟨0, _⟩ => show win0_0.index t 0 * 512 + 1 * r.val = n.val; rw [e0]; omega
  | ⟨1, _⟩ => show win0_0.index t 1 * 1024 + 1 * q.val = 4096 + (1024 * (t.val / 16) + q.val); rw [e1]; omega

/-- The 8 rows before, and the 8 after, a point's rows. -/
theorem block_prev (c : Dev nD) (t : Fin cfg0.N) (r : Fin 8) (q : Fin 1024) (n : Fin 8192) (hn : n.val = 8 * (64 * (t.val % 16) - 1) + r.val) :
    (X0_1 m c t : Vec F S8x1024 .f32) (ix2 r q) = m ((c : Thread nD τ).loc main_arg0) (ix2 n ⟨2048 + (col t q).val, by omega⟩) := by
  unfold X0_1 Pipeline.Window.fill
  rw [dif_pos (moved0_1 t (ix2 r q))]
  unfold iblk
  rw [View.read_apply]
  refine V_signal m c n (col t q) _ (funext fun a => Fin.ext ?_)
  have e0 : win0_1.index t 0 = 64 * (t.val % 16) - 1 := (index_at t).2.1 0
  have e1 : win0_1.index t 1 = 4 + t.val / 16 := (index_at t).2.1 1
  match a with
  | ⟨0, _⟩ => show win0_1.index t 0 * 8 + 1 * r.val = n.val; rw [e0]; omega
  | ⟨1, _⟩ => show win0_1.index t 1 * 1024 + 1 * q.val = 4096 + (1024 * (t.val / 16) + q.val); rw [e1]; omega

theorem block_next (c : Dev nD) (t : Fin cfg0.N) (r : Fin 8) (q : Fin 1024) (n : Fin 8192) (hn : n.val = 8 * min (64 * (t.val % 16 + 1)) 1023 + r.val) :
    (X0_2 m c t : Vec F S8x1024 .f32) (ix2 r q) = m ((c : Thread nD τ).loc main_arg0) (ix2 n ⟨2048 + (col t q).val, by omega⟩) := by
  unfold X0_2 Pipeline.Window.fill
  rw [dif_pos (moved0_2 t (ix2 r q))]
  unfold iblk
  rw [View.read_apply]
  refine V_signal m c n (col t q) _ (funext fun a => Fin.ext ?_)
  have e0 : win0_2.index t 0 = min (64 * (t.val % 16 + 1)) 1023 := (index_at t).2.2.1 0
  have e1 : win0_2.index t 1 = 4 + t.val / 16 := (index_at t).2.2.1 1
  match a with
  | ⟨0, _⟩ => show win0_2.index t 0 * 8 + 1 * r.val = n.val; rw [e0]; omega
  | ⟨1, _⟩ => show win0_2.index t 1 * 1024 + 1 * q.val = 4096 + (1024 * (t.val / 16) + q.val); rw [e1]; omega

/-- The result's gradient at a point's rows, and at the 8 after. -/
theorem block_d (c : Dev nD) (t : Fin cfg0.N) (r : Fin 512) (q : Fin 1024) (n : Fin 8192) (hn : n.val = 512 * (t.val % 16) + r.val) :
    (iblk m c 3 t : Vec F S512x1024 .f32) (ix2 r q) = m ((c : Thread nD τ).loc main_arg3) (ix2 n (col t q)) := by
  unfold iblk
  rw [View.read_apply]
  refine (congrFun (V_main_arg3 m c) _).trans (congrArg _ (funext fun a => Fin.ext ?_))
  have e0 : win0_3.index t 0 = t.val % 16 := (index_at t).2.2.2.1 0
  have e1 : win0_3.index t 1 = t.val / 16 := (index_at t).2.2.2.1 1
  match a with
  | ⟨0, _⟩ => show win0_3.index t 0 * 512 + 1 * r.val = n.val; rw [e0]; omega
  | ⟨1, _⟩ => show win0_3.index t 1 * 1024 + 1 * q.val = 1024 * (t.val / 16) + q.val; rw [e1]; omega

theorem block_dnext (c : Dev nD) (t : Fin cfg0.N) (r : Fin 8) (q : Fin 1024) (n : Fin 8192) (hn : n.val = 8 * min (64 * (t.val % 16 + 1)) 1023 + r.val) :
    (iblk m c 4 t : Vec F S8x1024 .f32) (ix2 r q) = m ((c : Thread nD τ).loc main_arg3) (ix2 n (col t q)) := by
  unfold iblk
  rw [View.read_apply]
  refine (congrFun (V_main_arg3 m c) _).trans (congrArg _ (funext fun a => Fin.ext ?_))
  have e0 : win0_4.index t 0 = min (64 * (t.val % 16 + 1)) 1023 := (index_at t).2.2.2.2.1 0
  have e1 : win0_4.index t 1 = t.val / 16 := (index_at t).2.2.2.2.1 1
  match a with
  | ⟨0, _⟩ => show win0_4.index t 0 * 8 + 1 * r.val = n.val; rw [e0]; omega
  | ⟨1, _⟩ => show win0_4.index t 1 * 1024 + 1 * q.val = 1024 * (t.val / 16) + q.val; rw [e1]; omega

theorem block_w (c : Dev nD) (t : Fin cfg0.N) (j : Fin 4) (q : Fin 1024) :
    (iblk m c 5 t : Vec F S4x1024 .f32) (ix2 j q) = m ((c : Thread nD τ).loc main_arg1) (ix2 j ⟨(col t q).val, by omega⟩) := by
  unfold iblk
  rw [View.read_apply]
  refine Eq.trans (congrArg (V m c main_v6) (funext fun a => Fin.ext ?_)) (V_weight m c j (col t q))
  have e0 : win0_5.index t 0 = 0 := (index_at t).2.2.2.2.2.1 0
  have e1 : win0_5.index t 1 = t.val / 16 := (index_at t).2.2.2.2.2.1 1
  match a with
  | ⟨0, _⟩ => show win0_5.index t 0 * 4 + 1 * j.val = j.val; rw [e0]; omega
  | ⟨1, _⟩ => show win0_5.index t 1 * 1024 + 1 * q.val = 1024 * (t.val / 16) + q.val; rw [e1]; omega

theorem block_b (c : Dev nD) (t : Fin cfg0.N) (q : Fin 1024) :
    (iblk m c 6 t : Vec F S1x1024 .f32) (ix2 0 q) = m ((c : Thread nD τ).loc main_arg2) (ix2 0 ⟨(col t q).val, by omega⟩) := by
  unfold iblk
  rw [View.read_apply]
  refine Eq.trans (congrArg (V m c main_v7) (funext fun a => Fin.ext ?_)) (V_bias m c (col t q))
  have e0 : win0_6.index t 0 = 0 := (index_at t).2.2.2.2.2.2.1 0
  have e1 : win0_6.index t 1 = t.val / 16 := (index_at t).2.2.2.2.2.2.1 1
  match a with
  | ⟨0, _⟩ => show win0_6.index t 0 * 1 + 1 * 0 = 0; rw [e0]
  | ⟨1, _⟩ => show win0_6.index t 1 * 1024 + 1 * q.val = 1024 * (t.val / 16) + q.val; rw [e1]; omega

/-- The rows of the weight's block, read one by one. -/
theorem tap_apply (c : Dev nD) (t : Fin cfg0.N) (q : Fin 1024) :
    tap0 m c t (ix2 0 q) = (iblk m c 5 t : Vec F S4x1024 .f32) (ix2 0 q) ∧ tap1 m c t (ix2 0 q) = (iblk m c 5 t : Vec F S4x1024 .f32) (ix2 1 q)
      ∧ tap2 m c t (ix2 0 q) = (iblk m c 5 t : Vec F S4x1024 .f32) (ix2 2 q) ∧ tap3 m c t (ix2 0 q) = (iblk m c 5 t : Vec F S4x1024 .f32) (ix2 3 q) := by
  refine ⟨?_, ?_, ?_, ?_⟩ <;> refine View.ld_unit_apply_of _ _ _ _ _ _ fun a => ?_ <;>
    match a with
    | ⟨0, _⟩ => rfl
    | ⟨1, _⟩ => show q.val = 0 + q.val; omega

end

/-! ## The results of a point -/

section
variable (m : (ℓ : Loc nD τ sig) → Buf (Elt Ideal) ℓ) {c : Dev nD} {D : Data}
  (hx : ∀ r (k : Fin 2048), m ((c : Thread nD τ).loc main_arg0) (ix2 r ⟨2048 + k.val, by omega⟩) = (D.x r k : EReal))
  (hw : ∀ j (k : Fin 2048), m ((c : Thread nD τ).loc main_arg1) (ix2 j ⟨k.val, by omega⟩) = (D.w j k : EReal))
  (hb : ∀ k : Fin 2048, m ((c : Thread nD τ).loc main_arg2) (ix2 0 ⟨k.val, by omega⟩) = (D.b k : EReal))
  (hd : ∀ r (k : Fin 2048), m ((c : Thread nD τ).loc main_arg3) (ix2 r k) = (D.d r k : EReal))

theorem lag_row {k : Fin 2048} (n : Fin 8192) : D.x n k = D.lag k (n.val + 3) := by
  have := n.isLt
  unfold Data.lag
  rw [dif_pos ⟨by omega, by omega⟩]
  rfl

/-- The words the kernel tests for the first and the last block. -/
theorem first_word : ∀ n : Fin 16, Scalar.cmpi .sgt (BitVec.ofNat 32 n.val) 0#32 = if n.val = 0 then 0#1 else 1#1 := by decide
theorem last_word : ∀ n : Fin 16, Scalar.cmpi .eq (BitVec.ofNat 32 n.val) 15#32 = if n.val = 15 then 1#1 else 0#1 := by decide

include hx in
/-- A point's extended rows are the signal's, with zero rows above the first; what stands below the last is not used. -/
theorem rows_apply (t : Fin cfg0.N) (q : Fin 1024) : ∃ E : ℕ → ℝ, (∀ e : Fin 528, rows m c t (ix2 e q) = (E e.val : EReal))
    ∧ ∀ e, 5 ≤ e → (e < 520 ∨ (t.val % 16 ≠ 15 ∧ e < 528)) → E e = D.lag (col t q) (512 * (t.val % 16) + e - 5) := by
  have hi : (grid0.coords t 1).val = t.val % 16 := (index_at t).2.2.2.2.2.2.2.2.2.2
  have hl : t.val % 16 < 16 := Nat.mod_lt _ (by norm_num)
  refine ⟨fun e => if e < 8 then (if t.val % 16 = 0 then 0 else D.lag (col t q) (8 * (64 * (t.val % 16) - 1) + e + 3))
    else if e - 8 < 512 then D.lag (col t q) (512 * (t.val % 16) + (e - 8) + 3)
    else D.lag (col t q) (8 * min (64 * (t.val % 16 + 1)) 1023 + (e - 520) + 3), fun e => ?_, fun e h5 he => ?_⟩
  · have hel := e.isLt
    unfold rows
    pointwise [k0_pay7]
    rw [hi, first_word ⟨t.val % 16, hl⟩]
    dsimp only
    by_cases h : e.val < 8
    · rw [dif_pos h, if_pos h]
      by_cases h0 : t.val % 16 = 0
      · rw [if_pos h0, if_pos h0]
        rfl
      · rw [if_neg h0, if_neg h0]
        refine (block_prev m c t ⟨e.val, h⟩ q ⟨8 * (64 * (t.val % 16) - 1) + e.val, by omega⟩ rfl).trans ?_
        rw [hx, lag_row]
    · rw [dif_neg h, if_neg h]
      by_cases h' : e.val - 8 < 512
      · rw [dif_pos h', if_pos h', block_x m c t _ q ⟨512 * (t.val % 16) + (e.val - 8), by omega⟩ rfl, hx, lag_row]
      · rw [dif_neg h', if_neg h', block_next m c t _ q ⟨8 * min (64 * (t.val % 16 + 1)) 1023 + (e.val - 520), by omega⟩ (by
          show 8 * min (64 * (t.val % 16 + 1)) 1023 + (e.val - 520) = 8 * min (64 * (t.val % 16 + 1)) 1023 + (e.val - 8 - 512); omega), hx, lag_row]
  · dsimp only
    split_ifs with h h0 h'
    · unfold Data.lag
      rw [dif_neg (by omega)]
    · congr 1
      omega
    · congr 1
      omega
    · congr 1
      omega

include hx hw hb hd

/-- The convolution's gradient at a point's 520 rows. -/
theorem grads_apply (t : Fin cfg0.N) (q : Fin 1024) (f : Fin 520) : grads m c t (ix2 f q) = (D.dpre (col t q) (512 * (t.val % 16) + f.val) : EReal) := by
  have hi : (grid0.coords t 1).val = t.val % 16 := (index_at t).2.2.2.2.2.2.2.2.2.2
  have hl : t.val % 16 < 16 := Nat.mod_lt _ (by norm_num)
  have hf := f.isLt
  obtain ⟨E, hE, hE'⟩ := rows_apply m hx t q
  obtain ⟨t0, t1, t2, t3⟩ := tap_apply m c t q
  have hs := sums_apply (a := fun j => D.w j (col t q)) hE (t0.trans (by rw [block_w, hw])) (t1.trans (by rw [block_w, hw])) (t2.trans (by rw [block_w, hw]))
    (t3.trans (by rw [block_w, hw])) f
  have hg : (if h : f.val < 512 then (iblk m c 3 t : Vec Ideal S512x1024 .f32) (ix2 ⟨f.val, h⟩ q)
      else Scalar.select (last t) 0 ((iblk m c 4 t : Vec Ideal S8x1024 .f32) (ix2 ⟨f.val - 512, by omega⟩ q)) : EReal)
      = ((if h : 512 * (t.val % 16) + f.val < 8192 then D.d ⟨512 * (t.val % 16) + f.val, h⟩ (col t q) else 0 : ℝ) : EReal) := by
    unfold last
    rw [hi, last_word ⟨t.val % 16, hl⟩]
    dsimp only
    by_cases h : f.val < 512
    · rw [dif_pos h, dif_pos (by omega), block_d m c t _ q ⟨512 * (t.val % 16) + f.val, by omega⟩ rfl, hd]
    · rw [dif_neg h]
      by_cases h15 : t.val % 16 = 15
      · rw [if_pos h15, dif_neg (by omega)]
        rfl
      · rw [if_neg h15, dif_pos (by omega)]
        refine (block_dnext m c t _ q ⟨512 * (t.val % 16) + f.val, by omega⟩ ?_).trans (hd _ _)
        show 512 * (t.val % 16) + f.val = 8 * min (64 * (t.val % 16 + 1)) 1023 + (f.val - 512)
        omega
  refine (dpre_apply (β := D.b (col t q)) f hs (by rw [block_b, hb]) hg).trans ?_
  unfold Data.dpre
  by_cases h : 512 * (t.val % 16) + f.val < 8192
  · rw [dif_pos h, dif_pos h]
    unfold Data.pre
    rw [hE' (f.val + 5) (by omega) (by omega), hE' (f.val + 6) (by omega) (by omega), hE' (f.val + 7) (by omega) (by omega), hE' (f.val + 8) (by omega) (by omega)]
    rfl
  · rw [dif_neg h, dif_neg h, zero_mul]

theorem own_dx (t : Fin cfg0.N) (r : Fin 512) (q : Fin 1024) : (own m c t).1 (ix2 r q) = (D.dx (col t q) (512 * (t.val % 16) + r.val) : EReal) := by
  obtain ⟨t0, t1, t2, t3⟩ := tap_apply m c t q
  exact dx_apply (a := fun j => D.w j (col t q)) (Z := fun f => D.dpre (col t q) (512 * (t.val % 16) + f)) (grads_apply m hx hw hb hd t q)
    (t0.trans (by rw [block_w, hw])) (t1.trans (by rw [block_w, hw])) (t2.trans (by rw [block_w, hw])) (t3.trans (by rw [block_w, hw])) r

theorem own_dw (t : Fin cfg0.N) (j : Fin 4) (q : Fin 1024) : (own m c t).2.1 (ix2 j q)
    = ((∑ r : Fin 512, D.dpre (col t q) (512 * (t.val % 16) + r.val) * D.lag (col t q) (512 * (t.val % 16) + r.val + j.val) : ℝ) : EReal) := by
  obtain ⟨E, hE, hE'⟩ := rows_apply m hx t q
  refine (dw_apply (Z := fun f => D.dpre (col t q) (512 * (t.val % 16) + f)) (grads_apply m hx hw hb hd t q) hE j).trans ?_
  refine congrArg _ (Finset.sum_congr rfl fun r _ => ?_)
  have hr := r.isLt
  have hj := j.isLt
  rw [hE' _ (by omega) (by omega)]
  congr 2
  omega

theorem own_db (t : Fin cfg0.N) (q : Fin 1024) : (own m c t).2.2 (ix2 0 q) = ((∑ r : Fin 512, D.dpre (col t q) (512 * (t.val % 16) + r.val) : ℝ) : EReal) :=
  db_apply (Z := fun f => D.dpre (col t q) (512 * (t.val % 16) + f)) (grads_apply m hx hw hb hd t q)

/-- What the two accumulators hold after point `n`: the terms of the rows so far, in the point's columns. -/
theorem sums_upto : ∀ (n : Nat) (h : n < cfg0.N) (q : Fin 1024),
    (∀ j : Fin 4, (outsAt0 m c n h).2.1 (ix2 j q) = ((∑ s ∈ Finset.range (n % 16 + 1), ∑ r : Fin 512, D.dpre (col ⟨n, h⟩ q) (512 * s + r.val)
      * D.lag (col ⟨n, h⟩ q) (512 * s + r.val + j.val) : ℝ) : EReal))
    ∧ (outsAt0 m c n h).2.2 (ix2 0 q) = ((∑ s ∈ Finset.range (n % 16 + 1), ∑ r : Fin 512, D.dpre (col ⟨n, h⟩ q) (512 * s + r.val) : ℝ) : EReal) := by
  intro n
  induction n with
  | zero =>
    intro h q
    rw [show outsAt0 m c 0 h = _ from outs_first m c ⟨0, h⟩ rfl]
    refine ⟨fun j => ?_, ?_⟩ <;> rw [show 0 % 16 + 1 = 1 from rfl, Finset.sum_range_one]
    · exact own_dw m hx hw hb hd ⟨0, h⟩ j q
    · exact own_db m hx hw hb hd ⟨0, h⟩ q
  | succ n ih =>
    intro h q
    by_cases h0 : (n + 1) % 16 = 0
    · rw [show outsAt0 m c (n + 1) h = _ from outs_first m c ⟨n + 1, h⟩ h0]
      refine ⟨fun j => (own_dw m hx hw hb hd ⟨n + 1, h⟩ j q).trans ?_, (own_db m hx hw hb hd ⟨n + 1, h⟩ q).trans ?_⟩ <;>
        rw [show (⟨n + 1, h⟩ : Fin cfg0.N).val % 16 = 0 from h0, Finset.sum_range_one]
    · obtain ⟨i1, i2⟩ := ih (Nat.lt_of_succ_lt h) q
      have hc : col ⟨n, Nat.lt_of_succ_lt h⟩ q = col ⟨n + 1, h⟩ q := Fin.ext (by show 1024 * (n / 16) + q.val = 1024 * ((n + 1) / 16) + q.val; omega)
      have hs : n % 16 + 1 = (n + 1) % 16 := by omega
      rw [hc, hs] at i2
      simp only [hc, hs] at i1
      rw [show outsAt0 m c (n + 1) h = _ from outs_next m c ⟨n + 1, h⟩ h0]
      refine ⟨fun j => ?_, ?_⟩ <;> rw [Finset.sum_range_succ, EReal.coe_add]
      · refine Eq.trans (b := (outsAt0 m c n (Nat.lt_of_succ_lt h)).2.1 (ix2 j q) + (own m c ⟨n + 1, h⟩).2.1 (ix2 j q)) ?_ ?_
        · pointwise [k0_pay5]
          rfl
        · rw [i1 j, own_dw m hx hw hb hd]
      · refine Eq.trans (b := (outsAt0 m c n (Nat.lt_of_succ_lt h)).2.2 (ix2 0 q) + (own m c ⟨n + 1, h⟩).2.2 (ix2 0 q)) ?_ ?_
        · pointwise [k0_pay6]
          rfl
        · rw [i2, own_db m hx hw hb hd]

omit hx hw hb hd in
/-- Sixteen blocks of 512 rows are the 8192 rows. -/
theorem sum_blocks (T : ℕ → ℝ) : ∑ s ∈ Finset.range 16, ∑ r : Fin 512, T (512 * s + r.val) = ∑ n : Fin 8192, T n.val := by
  have step : ∀ S, ∑ s ∈ Finset.range S, ∑ r : Fin 512, T (512 * s + r.val) = ∑ n ∈ Finset.range (512 * S), T n := fun S => by
    induction S with
    | zero => rfl
    | succ S ih => rw [Finset.sum_range_succ, ih, Nat.mul_succ, Finset.sum_range_add, Fin.sum_univ_eq_sum_range (fun r => T (512 * S + r))]
  rw [step, Fin.sum_univ_eq_sum_range]

end

/-! ## The final arrays -/

section
variable (m : (ℓ : Loc nD τ sig) → Buf (Elt Ideal) ℓ)

/-- The signal's gradient in columns 4096 to 6143, the array's former contents in the others; the two summed gradients. -/
def dxArray (c : Dev nD) (D : Data) : Buf (Elt Ideal) ((c : Thread nD τ).loc main_v8_0) :=
  fun i : S8192x7296.Idx => if h : 4096 ≤ (i 1).val ∧ (i 1).val - 4096 < 2048 then (D.dx ⟨(i 1).val - 4096, h.2⟩ (i 0).val : EReal)
    else m ((c : Thread nD τ).loc main_arg4) i
def dwArray (c : Dev nD) (D : Data) : Buf (Elt Ideal) ((c : Thread nD τ).loc main_v8_1) := fun i : S4x2048.Idx => (D.dw (i 1) (i 0) : EReal)
def dbArray (c : Dev nD) (D : Data) : Buf (Elt Ideal) ((c : Thread nD τ).loc main_v8_2) := fun i : S1x2048.Idx => (D.db (i 1) : EReal)

variable {c : Dev nD} {D : Data}
  (hx : ∀ r (k : Fin 2048), m ((c : Thread nD τ).loc main_arg0) (ix2 r ⟨2048 + k.val, by omega⟩) = (D.x r k : EReal))
  (hw : ∀ j (k : Fin 2048), m ((c : Thread nD τ).loc main_arg1) (ix2 j ⟨k.val, by omega⟩) = (D.w j k : EReal))
  (hb : ∀ k : Fin 2048, m ((c : Thread nD τ).loc main_arg2) (ix2 0 ⟨k.val, by omega⟩) = (D.b k : EReal))
  (hd : ∀ r (k : Fin 2048), m ((c : Thread nD τ).loc main_arg3) (ix2 r k) = (D.d r k : EReal))
include hx hw hb hd

theorem flushed_dw (t : Fin cfg0.N) (hf : (cfg0.win 8).flush t = true) :
    (dats m 0 c).flushed 8 t = ((cfg0.win 8).blk t).view.read (Elt Ideal) (dwArray c D) := by
  rw [Value.flushed8]
  have hl : t.val % 16 = 15 := (flush0_8 t).mp hf
  funext y
  obtain ⟨j, q, rfl⟩ : ∃ (j : Fin 4) (q : Fin 1024), y = ix2 j q := ⟨y 0, y 1, eq_ix2 y⟩
  show (outsAt0 m c t.val t.isLt).2.1 (ix2 j q) = _
  rw [(sums_upto m hx hw hb hd _ _ _).1, View.read_apply, hl]
  have he : (((cfg0.win 8).blk t).view.emb (ix2 j q) : S4x2048.Idx) = ix2 j (col t q) := funext fun a => Fin.ext (by
    have e0 : win0_8.index t 0 = 0 := (index_at t).2.2.2.2.2.2.2.2.1 0
    have e1 : win0_8.index t 1 = t.val / 16 := (index_at t).2.2.2.2.2.2.2.2.1 1
    match a with
    | ⟨0, _⟩ => show win0_8.index t 0 * 4 + 1 * j.val = j.val; rw [e0]; omega
    | ⟨1, _⟩ => show win0_8.index t 1 * 1024 + 1 * q.val = 1024 * (t.val / 16) + q.val; rw [e1]; omega)
  refine Eq.trans ?_ (congrArg (dwArray c D) he).symm
  exact congrArg _ (sum_blocks fun n => D.dpre (col t q) n * D.lag (col t q) (n + j.val))

theorem flushed_db (t : Fin cfg0.N) (hf : (cfg0.win 9).flush t = true) :
    (dats m 0 c).flushed 9 t = ((cfg0.win 9).blk t).view.read (Elt Ideal) (dbArray c D) := by
  rw [Value.flushed9]
  have hl : t.val % 16 = 15 := (flush0_9 t).mp hf
  funext y
  obtain ⟨j, q, rfl⟩ : ∃ (j : Fin 1) (q : Fin 1024), y = ix2 j q := ⟨y 0, y 1, eq_ix2 y⟩
  obtain rfl : j = 0 := Subsingleton.elim _ _
  show (outsAt0 m c t.val t.isLt).2.2 (ix2 0 q) = _
  rw [(sums_upto m hx hw hb hd _ _ _).2, View.read_apply, hl]
  have he : (((cfg0.win 9).blk t).view.emb (ix2 0 q) : S1x2048.Idx) 1 = col t q := Fin.ext (by
    have e1 : win0_9.index t 1 = t.val / 16 := (index_at t).2.2.2.2.2.2.2.2.2.1 1
    show win0_9.index t 1 * 1024 + 1 * q.val = 1024 * (t.val / 16) + q.val; rw [e1]; omega)
  show _ = (D.db ((((cfg0.win 9).blk t).view.emb (ix2 0 q) : S1x2048.Idx) 1) : EReal)
  rw [he]
  exact congrArg _ (sum_blocks fun n => D.dpre (col t q) n)

/-- The last point of the half that holds a column. -/
theorem half (k : ℕ) (hk : k < 2048) : ∃ t : Fin cfg0.N, t.val % 16 = 15 ∧ t.val / 16 = k / 1024 := by
  have hN : cfg0.N = 32 := N_0
  exact ⟨⟨16 * (k / 1024) + 15, by omega⟩, by dsimp only; omega, by dsimp only; omega⟩

theorem dw_final : (dats m 0 c).arrAt 8 cfg0.N = dwArray c D :=
  (dats m 0 c).arrAt_eq_of_cover 8 _ (flushed_dw m hx hw hb hd) fun i => by
    have h0 : (i 0 : Nat) < 4 := (i 0).isLt
    have h1 : (i 1 : Nat) < 2048 := (i 1).isLt
    obtain ⟨t, ht, hq⟩ := half m hx hw hb hd _ h1
    refine ⟨t, (flush0_8 t).mpr ht, ?_⟩
    show i ∈ ((View.whole main_v8_1).slice (win0_8.rect t)).set
    rw [View.set_slice_whole, Rect.mem_set_unit]
    have e0 : win0_8.index t 0 = 0 := (index_at t).2.2.2.2.2.2.2.2.1 0
    have e1 : win0_8.index t 1 = t.val / 16 := (index_at t).2.2.2.2.2.2.2.2.1 1
    intro a
    match a with
    | ⟨0, _⟩ => show win0_8.index t 0 * 4 ≤ (i 0 : Nat) ∧ (i 0 : Nat) < win0_8.index t 0 * 4 + 4; rw [e0]; omega
    | ⟨1, _⟩ => show win0_8.index t 1 * 1024 ≤ (i 1 : Nat) ∧ (i 1 : Nat) < win0_8.index t 1 * 1024 + 1024; rw [e1, hq]; omega

theorem db_final : (dats m 0 c).arrAt 9 cfg0.N = dbArray c D :=
  (dats m 0 c).arrAt_eq_of_cover 9 _ (flushed_db m hx hw hb hd) fun i => by
    have h0 : (i 0 : Nat) < 1 := (i 0).isLt
    have h1 : (i 1 : Nat) < 2048 := (i 1).isLt
    obtain ⟨t, ht, hq⟩ := half m hx hw hb hd _ h1
    refine ⟨t, (flush0_9 t).mpr ht, ?_⟩
    show i ∈ ((View.whole main_v8_2).slice (win0_9.rect t)).set
    rw [View.set_slice_whole, Rect.mem_set_unit]
    have e0 : win0_9.index t 0 = 0 := (index_at t).2.2.2.2.2.2.2.2.2.1 0
    have e1 : win0_9.index t 1 = t.val / 16 := (index_at t).2.2.2.2.2.2.2.2.2.1 1
    intro a
    match a with
    | ⟨0, _⟩ => show win0_9.index t 0 * 1 ≤ (i 0 : Nat) ∧ (i 0 : Nat) < win0_9.index t 0 * 1 + 1; rw [e0]; omega
    | ⟨1, _⟩ => show win0_9.index t 1 * 1024 ≤ (i 1 : Nat) ∧ (i 1 : Nat) < win0_9.index t 1 * 1024 + 1024; rw [e1, hq]; omega

theorem dx_final : (dats m 0 c).arrAt 7 cfg0.N = dxArray m c D := by
  refine (dats m 0 c).arrAt_eq_of_coversWhere_of_agree 7 _ (fun β => β (1 : Fin 2) = 4 ∨ β (1 : Fin 2) = 5) (by decide +kernel) (fun t hf y => ?_) (fun j hj => ?_)
  · obtain ⟨r, q, hx'⟩ : ∃ (r : Fin 512) (q : Fin 1024), ((cfg0.win 7).xinj (cfg0.grid.coords t) y : S512x1024.Idx) = ix2 r q := ⟨_, _, eq_ix2 _⟩
    have hr : (y (0 : Fin 2) : Nat) = r.val := congrArg Fin.val (congrFun hx' 0)
    have hk : (y (1 : Fin 2) : Nat) = q.val := congrArg Fin.val (congrFun hx' 1)
    have e0 : win0_7.index t 0 = t.val % 16 := (index_at t).2.2.2.2.2.2.2.1 0
    have e1 : win0_7.index t 1 = 4 + t.val / 16 := (index_at t).2.2.2.2.2.2.2.1 1
    have h0 : ((((cfg0.win 7).blk t).view.emb y : S8192x7296.Idx) 0 : Nat) = 512 * (t.val % 16) + r.val := by
      show win0_7.index t 0 * 512 + 1 * (y (0 : Fin 2) : Nat) = _; rw [e0, hr]; omega
    have h1 : ((((cfg0.win 7).blk t).view.emb y : S8192x7296.Idx) 1 : Nat) = 4096 + (col t q).val := by
      show win0_7.index t 1 * 1024 + 1 * (y (1 : Fin 2) : Nat) = 4096 + (1024 * (t.val / 16) + q.val); rw [e1, hk]; omega
    have hkl := (col t q).isLt
    have hown : (outsAt0 m c t.val t.isLt).1 = (own m c t).1 := by
      by_cases h : t.val % 16 = 0
      · rw [outs_first m c t h]
      · rw [outs_next m c t h]
    rw [after0_7, hown]
    refine (cast_eq _ _).trans ?_
    refine (congrArg (own m c t).1 hx').trans ((own_dx m hx hw hb hd t r q).trans ?_)
    unfold dxArray
    rw [dif_pos ⟨by omega, by omega⟩, h0]
    exact congrArg (fun k => (D.dx k (512 * (t.val % 16) + r.val) : EReal)) (Fin.ext (by show (col t q).val = _ - 4096; omega))
  · have hc : ¬((j (1 : Fin 2) : Nat) / 1024 = 4 ∨ (j (1 : Fin 2) : Nat) / 1024 = 5) := hj
    unfold dxArray
    rw [dif_neg fun h => hc (by have h' : 4096 ≤ (j (1 : Fin 2) : Nat) ∧ (j (1 : Fin 2) : Nat) - 4096 < 2048 := h; omega)]
    refine (congrFun (A_eq m c 7) _).trans ?_
    show StableHlo.after hostOps0 _ (Proc.devRef .tc main_v8_0) j = _
    after_results_simp
    rfl

end

end Cert.ConvValue

end
-- ==== Proof.ConvRef.lean ====
/-
  What the convolution's reference computes, over real numbers: the derivative of the activated convolution, in the terms
  of the kernel's block.
-/
module

public import proofs.«01_k».proof.Proof.Gen.ConvRefIdeal.Read
public import proofs.«01_k».proof.Proof.ConvBlock

@[expose] public section

set_option maxRecDepth 16384

noncomputable section

namespace Cert.ConvValue

open Idealize.ShloMosaic Idealize.ShloMosaic.TcCoe Idealize.SL.Sem Cert.Lift
open Cert.ConvRefIdeal Cert.ConvRefIdeal.Gen Cert.ConvRefIdeal.Read

variable {D : Data} {x0 : (⟨S8192x7200, .f32⟩ : BufTy).Contents (Elt Ideal)} {x1 : (⟨S4x3072, .f32⟩ : BufTy).Contents (Elt Ideal)}
  {x2 : (⟨S1x3072, .f32⟩ : BufTy).Contents (Elt Ideal)} {x3 : (⟨S8192x2048, .f32⟩ : BufTy).Contents (Elt Ideal)} {x4 : (⟨S8192x7296, .bf16⟩ : BufTy).Contents (Elt Ideal)}

/-- The arguments, read as the real numbers of `D`. -/
structure Reads (D : Data) (x0 : (⟨S8192x7200, .f32⟩ : BufTy).Contents (Elt Ideal)) (x1 : (⟨S4x3072, .f32⟩ : BufTy).Contents (Elt Ideal))
    (x2 : (⟨S1x3072, .f32⟩ : BufTy).Contents (Elt Ideal)) (x3 : (⟨S8192x2048, .f32⟩ : BufTy).Contents (Elt Ideal)) : Prop where
  x (r : Fin 8192) (k : Fin 2048) : x0 (ix2 r ⟨2048 + k.val, by omega⟩) = (D.x r k : EReal)
  w (j : Fin 4) (k : Fin 2048) : x1 (ix2 j ⟨k.val, by omega⟩) = (D.w j k : EReal)
  b (k : Fin 2048) : x2 (ix2 0 ⟨k.val, by omega⟩) = (D.b k : EReal)
  d (r : Fin 8192) (k : Fin 2048) : x3 (ix2 r k) = (D.d r k : EReal)

variable (H : Reads D x0 x1 x2 x3)
include H

theorem lag_apply (n : Fin 8195) (k : Fin 2048) : val_main_v4 x0 (ix2 n k) = (D.lag k n.val : EReal) := by
  have hn := n.isLt
  pointwise [val_main_v4, val_main_v3, val_main_v0, val_main_cst]
  unfold Data.lag
  by_cases h : n.val < 3
  · rw [dif_pos h, dif_neg (by omega)]
    rfl
  · rw [dif_neg h, dif_pos ⟨by omega, by omega⟩, H.x]

theorem weight_apply (k : Fin 2048) : (∀ n, val_main_v8 x1 (ix2 n k) = (D.w 0 k : EReal)) ∧ (∀ n, val_main_v12 x1 (ix2 n k) = (D.w 1 k : EReal))
    ∧ (∀ n, val_main_v17 x1 (ix2 n k) = (D.w 2 k : EReal)) ∧ ∀ n, val_main_v22 x1 (ix2 n k) = (D.w 3 k : EReal) := by
  refine ⟨fun n => ?_, fun n => ?_, fun n => ?_, fun n => ?_⟩
  · pointwise [val_main_v8, val_main_v7, val_main_v1]
    exact H.w 0 k
  · pointwise [val_main_v12, val_main_v11, val_main_v1]
    exact H.w 1 k
  · pointwise [val_main_v17, val_main_v16, val_main_v1]
    exact H.w 2 k
  · pointwise [val_main_v22, val_main_v21, val_main_v1]
    exact H.w 3 k

theorem pre_apply (n : Fin 8192) (k : Fin 2048) : val_main_v26 x0 x1 x2 (ix2 n k) = (D.pre k n.val : EReal) := by
  pointwise [val_main_v26, val_main_v25, val_main_v24, val_main_v23, val_main_v20, val_main_v19, val_main_v18, val_main_v15, val_main_v14, val_main_v13,
    val_main_v10, val_main_v9, val_main_v6, val_main_v2]
  obtain ⟨w0, w1, w2, w3⟩ := weight_apply H k
  simp only [lag_apply H, w0, w1, w2, w3, H.b, ← EReal.coe_mul, ← EReal.coe_add, Nat.add_comm _ n.val]
  rfl

theorem dpre_eq (n : Fin 8192) (k : Fin 2048) : val_main_v28 x0 x1 x2 x3 (ix2 n k) = (D.dpre k n.val : EReal) := by
  pointwise [val_main_v28, val_main_call1_v2, val_main_call1_v1, val_main_call1_v0, val_main_v27_1, val_main_call0_v7, val_main_call0_v6, val_main_call0_cst_1, val_main_v27_2, val_main_call0_v4,
    val_main_call0_cst_0, val_main_call0_v3, val_main_call0_v2, val_main_call0_cst, val_main_call0_v1, val_main_call0_v0]
  rw [pre_apply H, H.d, ← EReal.coe_neg, Ideal.exp_coe]
  simp only [one_coe, ← EReal.coe_add]
  rw [div_coe (sigmoid_ne _)]
  simp only [← EReal.coe_sub, ← EReal.coe_mul, ← EReal.coe_add]
  unfold Data.dpre
  rw [dif_pos n.isLt]
  congr 1
  show _ = D.d n k * (sigmoid _ * (1 + _ * (1 - sigmoid _)))
  unfold sigmoid
  ring

theorem db_eq (k : Fin 2048) : val_main_v30 x0 x1 x2 x3 (ix2 0 k) = (D.db k : EReal) := by
  pointwise [val_main_v30, val_main_v29, val_main_cst_1]
  simp only [dpre_eq H, sum_coe]
  rfl

theorem dw_eq (j : Fin 4) (k : Fin 2048) : val_main_v62 x0 x1 x2 x3 (ix2 j k) = (D.dw k j : EReal) := by
  pointwise [val_main_v62, val_main_v53, val_main_v44, val_main_v36, val_main_v43, val_main_v52, val_main_v61, val_main_v33, val_main_v32, val_main_v31, val_main_v40, val_main_v39,
    val_main_v38, val_main_v49, val_main_v48, val_main_v47, val_main_v58, val_main_v57, val_main_v56, val_main_cst_2, val_main_cst_3, val_main_cst_5, val_main_cst_6, val_main_cst_8,
    val_main_cst_9, val_main_cst_11, val_main_cst_12, val_main_v20, val_main_v15, val_main_v10, val_main_v6]
  simp only [dpre_eq H, lag_apply H, ← EReal.coe_mul, sum_coe]
  have same (n : ℕ) (h : n = j.val) : ((∑ x : Fin 8192, D.lag k (n + x.val) * D.dpre k x.val : ℝ) : EReal) = (D.dw k j : EReal) := by
    subst h
    exact congrArg _ (Finset.sum_congr rfl fun x _ => by rw [mul_comm, Nat.add_comm])
  have hj := j.isLt
  rcases (by omega : j.val = 0 ∨ j.val = 1 ∨ j.val = 2 ∨ j.val = 3) with h | h | h | h
  · rw [dif_neg (by omega), dif_neg (by omega), dif_neg (by omega), dif_pos (by omega), add_zero, add_zero, zero_add, ← same 0 h.symm]
    simp only [Nat.zero_add]
  · rw [dif_neg (by omega), dif_neg (by omega), dif_pos (by omega), dif_neg (by omega), add_zero, add_zero, zero_add, same 1 h.symm]
  · rw [dif_neg (by omega), dif_pos (by omega), dif_neg (by omega), dif_neg (by omega), add_zero, add_zero, zero_add, same 2 h.symm]
  · rw [dif_pos (by omega), dif_neg (by omega), dif_neg (by omega), dif_neg (by omega), add_zero, add_zero, add_zero, same 3 h.symm]

/-- A row of the gradient moved up by `s`, times its weight: zero below the last row. -/
theorem moved (k : Fin 2048) {v : Vec Ideal S8192x2048 .f32} {w : ℝ} (hv : ∀ n, v (ix2 n k) = (w : EReal)) {c : Prop} [Decidable c] {m n : ℕ} (hc : c ↔ n < 8192) (hm : c → m = n)
    (hb : c → m < 8192) :
    (if h : c then val_main_v28 x0 x1 x2 x3 (ix2 ⟨m, hb h⟩ k) * v (ix2 ⟨m, hb h⟩ k) else 0 : EReal) = ((D.dpre k n * w : ℝ) : EReal) := by
  split_ifs with h
  · rw [dpre_eq H, hv, ← EReal.coe_mul]
    show ((D.dpre k m * w : ℝ) : EReal) = _
    rw [hm h]
  · unfold Data.dpre
    rw [dif_neg fun h' => h (hc.mpr h'), zero_mul]
    rfl

theorem weights_apply (k : Fin 2048) : (∀ n, val_main_v59 x1 (ix2 n k) = (D.w 0 k : EReal)) ∧ (∀ n, val_main_v50 x1 (ix2 n k) = (D.w 1 k : EReal))
    ∧ (∀ n, val_main_v41 x1 (ix2 n k) = (D.w 2 k : EReal)) ∧ ∀ n, val_main_v34 x1 (ix2 n k) = (D.w 3 k : EReal) := weight_apply H k

theorem dx_eq (n : Fin 8192) (k : Fin 2048) : val_main_v66 x0 x1 x2 x3 (ix2 n k) = (D.dx k n.val : EReal) := by
  have hn := n.isLt
  obtain ⟨w0, w1, w2, w3⟩ := weights_apply H k
  pointwise [val_main_v66, val_main_v64, val_main_v55, val_main_v46, val_main_v37, val_main_v35, val_main_v45, val_main_v42, val_main_v54, val_main_v51, val_main_v63, val_main_v60,
    val_main_cst_4, val_main_cst_7, val_main_cst_10, val_main_cst_13]
  rw [moved H k w2 (n := n.val + 1) (by omega) (by omega), moved H k w1 (n := n.val + 2) (by omega) (by omega), moved H k w0 (n := n.val + 3) (by omega) (by omega),
    dpre_eq H, w3]
  simp only [← EReal.coe_mul, ← EReal.coe_add]
  rfl

theorem result_apply (n : Fin 8192) (k : Fin 7296) : val_main_v70 x0 x1 x2 x3 x4 (ix2 n k)
    = (if h : 4096 ≤ k.val ∧ k.val - 4096 < 2048 then (D.dx ⟨k.val - 4096, h.2⟩ n.val : EReal) else x4 (ix2 n k)) := by
  have hk := k.isLt
  pointwise [val_main_v70, val_main_v69, val_main_v68, val_main_v67]
  by_cases h : k.val < 4096
  · rw [dif_pos h, dif_neg (by omega)]
  · by_cases h' : k.val - 4096 < 2048
    · rw [dif_neg h, dif_pos h', dif_pos ⟨by omega, h'⟩]
      exact dx_eq H _ _
    · rw [dif_neg h, dif_neg h', dif_neg (by omega)]
      exact congrArg (fun k => x4 (ix2 n k)) (Fin.ext (by show 6144 + (k.val - 4096 - 2048) = k.val; omega))

end Cert.ConvValue

end
-- ==== Proof.ConvClaim.lean ====
/-
  The claims of the convolution's backward call: the reference's frame, and that the two programs' results are equal over
  the extended reals where the signal, the weight, the bias and the result's gradient are finite.
-/
module

public import proofs.«01_k».proof.Defs
public import proofs.«01_k».proof.Proof.Gen.Conv.Frame
public import proofs.«01_k».proof.Proof.Gen.ConvRefIdeal.Run
public import proofs.«01_k».proof.Proof.Gen.Pre_conv_finite
public import proofs.«01_k».proof.Proof.ConvArray
public import proofs.«01_k».proof.Proof.ConvRef
public import Idealize.ShloMosaic.Lib.Claim

@[expose] public section

set_option maxRecDepth 16384

noncomputable section

namespace Cert.ConvValue

open Idealize.ShloMosaic Idealize.ShloMosaic.TcCoe Idealize.SL.Sem Cert.Lift

/-- Where the precondition holds, what the convolution reads are arrays of real numbers. -/
theorem real_of_pre {x0 : FVec Ideal Cert.ConvIdeal.S8192x7200 .f32} {x1 : FVec Ideal Cert.ConvIdeal.S4x3072 .f32} {x2 : FVec Ideal Cert.ConvIdeal.S1x3072 .f32}
    {x3 : FVec Ideal Cert.ConvIdeal.S8192x2048 .f32} {x4 : FVec Ideal Cert.ConvIdeal.S8192x7296 .bf16}
    (hp : Cert.Pre_conv_finite.fn (F := Ideal) x0 x1 x2 x3 x4 = fun _ => 1#1) : ∃ D : Data, Reads D x0 x1 x2 x3 := by
  have key : ∀ r j (k : Fin 2048), x0 (ix2 r ⟨2048 + k.val, by omega⟩) = (((x0 (ix2 r ⟨2048 + k.val, by omega⟩) : EReal).toReal : ℝ) : EReal)
      ∧ x1 (ix2 j ⟨k.val, by omega⟩) = (((x1 (ix2 j ⟨k.val, by omega⟩) : EReal).toReal : ℝ) : EReal)
      ∧ x2 (ix2 0 ⟨k.val, by omega⟩) = (((x2 (ix2 0 ⟨k.val, by omega⟩) : EReal).toReal : ℝ) : EReal)
      ∧ x3 (ix2 r k) = (((x3 (ix2 r k) : EReal).toReal : ℝ) : EReal) := fun r j k => by
    have hp' := congrFun hp (ix3 r j k)
    pointwise [Cert.Pre_conv_finite.fn, Cert.Pre_conv_finite.fn_part1] at hp'
    rw [and_ofBool, and_ofBool, and_ofBool] at hp'
    obtain ⟨⟨⟨p, q⟩, s⟩, u⟩ := by simpa only [Bool.and_eq_true, decide_eq_true_eq] using (BitVec.ofBool_eq_iff_eq (b' := true)).mp hp'
    exact ⟨real_of_test p, real_of_test q, real_of_test s, real_of_test u⟩
  exact ⟨⟨_, _, _, _⟩, fun r k => (key r 0 k).1, fun j k => (key 0 j k).2.1, fun k => (key 0 0 k).2.2.1, fun r k => (key r 0 k).2.2.2⟩

theorem frame_ref : Cert.quiescent_ConvRefIdeal := fun m g _ =>
  (θ_run Cert.ConvRefIdeal.defs _ _).mono (fun r h => ⟨fun c => (h c).2.2.2, sem_eq_zero_of_no_sems (by decide) r.2⟩)
    (Cert.ConvRefIdeal.Value.run m g)

theorem value : Cert.algebraic_ConvIdeal_ConvRefIdeal_pre_conv_finite := by
  intro m g m' g' hp hag
  refine ⟨_, _, _, Cert.ConvIdeal.Value.run_blocks m g, (θ_run Cert.ConvRefIdeal.defs _ _).mono (fun r h c => ?_) (Cert.ConvRefIdeal.Value.run m' g')⟩
  obtain ⟨hr0, hr1, hr2, ha⟩ := h c
  obtain ⟨D, H⟩ := real_of_pre (hp c)
  obtain ⟨e0, e1, e2, e3, e4⟩ := hag c
  have H' : Reads D _ _ _ _ := ⟨fun r k => (congrFun e0 _).trans (H.x r k), fun j k => (congrFun e1 _).trans (H.w j k), fun k => (congrFun e2 _).trans (H.b k),
    fun r k => (congrFun e3 _).trans (H.d r k)⟩
  refine ⟨hr0.trans ?_, hr1.trans ?_, hr2.trans ?_, ha⟩
  · refine (Cert.ConvRefIdeal.Read.val_main_v70_eq _ _).trans ?_
    rw [dx_final m H.x H.w H.b H.d]
    funext i
    obtain ⟨r, k, rfl⟩ : ∃ (r : Fin 8192) (k : Fin 7296), i = ix2 r k := ⟨i 0, i 1, eq_ix2 i⟩
    refine (result_apply H' r k).trans ?_
    unfold dxArray
    rw [e4]
    rfl
  · refine (Cert.ConvRefIdeal.Read.val_main_v62_eq _ _).trans ?_
    rw [dw_final m H.x H.w H.b H.d]
    funext i
    obtain ⟨j, k, rfl⟩ : ∃ (j : Fin 4) (k : Fin 2048), i = ix2 j k := ⟨i 0, i 1, eq_ix2 i⟩
    exact dw_eq H' j k
  · refine (Cert.ConvRefIdeal.Read.val_main_v30_eq _ _).trans ?_
    rw [db_final m H.x H.w H.b H.d]
    funext i
    obtain ⟨r, k, rfl⟩ : ∃ (r : Fin 1) (k : Fin 2048), i = ix2 r k := ⟨i 0, i 1, eq_ix2 i⟩
    obtain rfl : r = 0 := Subsingleton.elim _ _
    exact db_eq H' k

end Cert.ConvValue

end
-- ==== Proof.LossBlock.lean ====
/-
  What one grid point of the loss head computes, over real numbers: from 256 rows of the last layer's output, of the weight
  and of the target, the rows' gradient, the rows' loss and the rows' share of the weight's gradient.
-/
module

public import proofs.«01_k».proof.Proof.Gen.LossIdeal.Skeleton
public import proofs.«01_k».proof.Proof.RowNorm

@[expose] public section

set_option maxRecDepth 16384

noncomputable section

namespace Cert.LossValue

open Idealize.ShloMosaic Idealize.ShloMosaic.TcCoe Idealize.SL.Sem Cert.Lift Cert.NormValue

/-- The normalised, weighted row less the target. -/
def miss (x w y : Fin 2048 → ℝ) (k : Fin 2048) : ℝ := x k * scale x * w k - y k

/-- The row's loss. -/
def rowLoss (x w y : Fin 2048 → ℝ) : ℝ := (∑ k, miss x w y k * miss x w y k) / 2048

/-- The loss's derivative along the normalised, weighted row. -/
def slope (x w y : Fin 2048 → ℝ) (k : Fin 2048) : ℝ := miss x w y k * (1 / 2048)

open Cert.LossIdeal Cert.LossIdeal.Gen

variable {v0 v15 : Vec Ideal S256x2048 .f32} {v11 : Vec Ideal S1x2048 .f32} {x y : Fin 256 → Fin 2048 → ℝ} {w : Fin 2048 → ℝ}

theorem scale_apply (hx : ∀ r k, v0 (ix2 r k) = (x r k : EReal)) (r : Fin 256) :
    k0_pay4 (F := Ideal) v0 (ix2 r 0) = (scale (x r) : EReal) := by
  pointwise [k0_pay4]
  simp only [hx, Ideal.mulf_def, Ideal.addf_def, Ideal.divf_def, Ideal.rsqrt_def, Ideal.ofBits_def, ofBits_2048, ofBits_eps, ← EReal.coe_mul, sum_coe]
  rw [div_coe (by norm_num), ← EReal.coe_add]
  exact rsqrt_coe (meanSq_pos (x r))

theorem unit_apply (hx : ∀ r k, v0 (ix2 r k) = (x r k : EReal)) (r : Fin 256) (k : Fin 2048) :
    k0_pay5 (F := Ideal) v0 (ix2 r k) = ((x r k * scale (x r) : ℝ) : EReal) := by
  pointwise [k0_pay5]
  simp only [scale_apply hx, hx, Ideal.mulf_def, ← EReal.coe_mul]

theorem miss_apply (hx : ∀ r k, v0 (ix2 r k) = (x r k : EReal)) (hw : ∀ k, v11 (ix2 0 k) = (w k : EReal))
    (hy : ∀ r k, v15 (ix2 r k) = (y r k : EReal)) (r : Fin 256) (k : Fin 2048) :
    k0_pay7 (F := Ideal) v0 v11 v15 (ix2 r k) = (miss (x r) w (y r) k : EReal) := by
  pointwise [k0_pay7, k0_pay6]
  simp only [unit_apply hx, hw, hy, Ideal.mulf_def, Ideal.subf_def, ← EReal.coe_mul, ← EReal.coe_sub]
  rfl

theorem loss_apply (hx : ∀ r k, v0 (ix2 r k) = (x r k : EReal)) (hw : ∀ k, v11 (ix2 0 k) = (w k : EReal))
    (hy : ∀ r k, v15 (ix2 r k) = (y r k : EReal)) :
    k0_pay8 (F := Ideal) v0 v11 v15 (ix2 0 0) = ((1 / 2 * ∑ r, rowLoss (x r) w (y r) : ℝ) : EReal) := by
  pointwise [k0_pay8]
  simp only [miss_apply hx hw hy, Ideal.mulf_def, Ideal.divf_def, Ideal.ofBits_def, ofBits_2048, ofBits_half, ← EReal.coe_mul, sum_coe]
  simp only [div_coe (show (2048 : ℝ) ≠ 0 by norm_num), sum_coe, ← EReal.coe_mul]
  rfl

theorem slope_apply (hx : ∀ r k, v0 (ix2 r k) = (x r k : EReal)) (hw : ∀ k, v11 (ix2 0 k) = (w k : EReal))
    (hy : ∀ r k, v15 (ix2 r k) = (y r k : EReal)) (r : Fin 256) (k : Fin 2048) :
    k0_pay9 (F := Ideal) v0 v11 v15 (ix2 r k) = (slope (x r) w (y r) k : EReal) := by
  pointwise [k0_pay9]
  simp only [miss_apply hx hw hy, Ideal.mulf_def, Ideal.ofBits_def, ofBits_inv_2048, ← EReal.coe_mul]
  rfl

theorem grad_apply (hx : ∀ r k, v0 (ix2 r k) = (x r k : EReal)) (hw : ∀ k, v11 (ix2 0 k) = (w k : EReal))
    (hy : ∀ r k, v15 (ix2 r k) = (y r k : EReal)) (r : Fin 256) (k : Fin 2048) :
    k0_pay10 (F := Ideal) v0 v11 v15 (ix2 r k) = (rowGrad (x r) w (slope (x r) w (y r)) k : EReal) := by
  pointwise [k0_pay10, k0_pay6]
  simp only [scale_apply hx, unit_apply hx, slope_apply hx hw hy, hw, Ideal.mulf_def, Ideal.subf_def, Ideal.divf_def, Ideal.truncf_def,
    Ideal.ofBits_def, ofBits_2048, ← EReal.coe_mul, sum_coe]
  rw [div_coe (by norm_num), ← EReal.coe_mul, ← EReal.coe_sub, ← EReal.coe_mul]
  rfl

theorem share_apply (hx : ∀ r k, v0 (ix2 r k) = (x r k : EReal)) (hw : ∀ k, v11 (ix2 0 k) = (w k : EReal))
    (hy : ∀ r k, v15 (ix2 r k) = (y r k : EReal)) (k : Fin 2048) :
    k0_pay1 (F := Ideal) (k0_pay5 v0) (k0_pay9 v0 v11 v15) (ix2 0 k) = ((∑ r, slope (x r) w (y r) k * (x r k * scale (x r)) : ℝ) : EReal) := by
  pointwise [k0_pay1]
  simp only [unit_apply hx, slope_apply hx hw hy, Ideal.mulf_def, ← EReal.coe_mul, sum_coe]

end Cert.LossValue

end
-- ==== Proof.LossArray.lean ====
/-
  What the three result arrays of the loss head hold after its grid: the loss and the weight's gradient, summed over the
  grid's points, and the gradient of the layer's output, block by block.
-/
module

public import proofs.«01_k».proof.Proof.Gen.LossIdeal.Value
public import proofs.«01_k».proof.Proof.LossBlock

@[expose] public section

set_option maxRecDepth 16384

noncomputable section

namespace Cert.LossValue

open Idealize.ShloMosaic Idealize.ShloMosaic.TcCoe Idealize.SL.Sem Cert.Lift Cert.NormValue
open Idealize.ShloMosaic.Pipeline (Dat)
open Cert.LossIdeal Cert.LossIdeal.Gen

section
variable {F : FTy → Type} [FloatOps F] (m : (ℓ : Loc nD τ sig) → Buf (Elt F) ℓ)

/-- The three results of one point, from its input blocks: the rows' loss, their gradient, their share. -/
def own (c : Dev nD) (t : Fin cfg0.N) : Vec F S1x1 .f32 × Vec F S256x2048 .bf16 × Vec F S1x2048 .f32 :=
  (k0_pay8 (iblk m c 0 t) (iblk m c 1 t) (iblk m c 2 t), k0_pay10 (iblk m c 0 t) (iblk m c 1 t) (iblk m c 2 t),
    k0_pay1 (k0_pay5 (iblk m c 0 t)) (k0_pay9 (iblk m c 0 t) (iblk m c 1 t) (iblk m c 2 t)))

theorem outs_first (c : Dev nD) (t : Fin cfg0.N) (h0 : t.val % 32 = 0) (h1 : ¬1 ≤ t.val) : outsAt0 m c t.val t.isLt = own m c t := by
  rw [outsAt0_A m c t h0 h1]
  unfold out0_A_3 out0_A_4 out0_A_5
  rw [View.read_writes_eq_canon _ _ _ (fun y => cover0_A_3 (y := y) ..), View.read_writes_eq_canon _ _ _ (fun y => cover0_A_4 (y := y) ..),
    View.read_writes_eq_canon _ _ _ (fun y => cover0_A_5 (y := y) ..)]
  unfold kernelRun0_A own
  dsimp only
  sl_unfold_words
  rw [View.canon_unit_zero hz, View.canon_unit_zero hz, View.canon_unit_zero hz]
  simp only [View.readAt_eq_ld, (hs0_0 _).read_unread, (hs0_1 _).read_unread, (hs0_2 _).read_unread,
    View.ld_unit_zero (S := S256x2048) hz, View.ld_unit_zero (S := S1x2048) hz]

/-- At every later point the loss and the share are added to what the point before left. -/
theorem outs_next (c : Dev nD) (n : Nat) (h : n + 1 < cfg0.N) :
    outsAt0 m c (n + 1) h
      = (k0_pay3 (own m c ⟨n + 1, h⟩).1 (outsAt0 m c n (Nat.lt_of_succ_lt h)).1, (own m c ⟨n + 1, h⟩).2.1,
        k0_pay2 (k0_pay5 (iblk m c 0 ⟨n + 1, h⟩)) (k0_pay9 (iblk m c 0 ⟨n + 1, h⟩) (iblk m c 1 ⟨n + 1, h⟩) (iblk m c 2 ⟨n + 1, h⟩))
          (outsAt0 m c n (Nat.lt_of_succ_lt h)).2.2) := by
  have hN : cfg0.N = 32 := N_0
  have hB : ¬(⟨n + 1, h⟩ : Fin cfg0.N).val % 32 = 0 := by dsimp only; omega
  rw [outsAt0_B m c ⟨n + 1, h⟩ hB (Nat.le_add_left 1 n)]
  unfold out0_B_3 out0_B_4 out0_B_5
  rw [View.read_writes_eq_canon _ _ _ (fun y => cover0_B_3 (y := y) ..), View.read_writes_eq_canon _ _ _ (fun y => cover0_B_4 (y := y) ..),
    View.read_writes_eq_canon _ _ _ (fun y => cover0_B_5 (y := y) ..)]
  unfold kernelRun0_B own
  dsimp only
  sl_unfold_words
  rw [View.canon_unit_zero hz, View.canon_unit_zero hz, View.canon_unit_zero hz]
  simp only [View.readAt_eq_ld, (hs0_0 _).read_unread, (hs0_1 _).read_unread, (hs0_2 _).read_unread,
    (hs0_3 _).read_unread, (hs0_5 _).read_unread,
    View.ld_unit_zero (S := S256x2048) hz, View.ld_unit_zero (S := S1x2048) hz, View.ld_unit_zero (S := S1x1) hz]
  rfl

theorem index_at : ∀ t : Fin cfg0.N, (∀ a, win0_0.index t a = ![t.val, 0] a) ∧ (∀ a, win0_1.index t a = 0) ∧ (∀ a, win0_2.index t a = ![t.val, 0] a)
    ∧ (∀ a, win0_3.index t a = 0) ∧ (∀ a, win0_4.index t a = ![t.val, 0] a) ∧ ∀ a, win0_5.index t a = 0 :=
  (by decide +kernel : ∀ t : Fin grid0.N, (∀ a, win0_0.index t a = ![t.val, 0] a) ∧ (∀ a, win0_1.index t a = 0)
    ∧ (∀ a, win0_2.index t a = ![t.val, 0] a) ∧ (∀ a, win0_3.index t a = 0) ∧ (∀ a, win0_4.index t a = ![t.val, 0] a) ∧ ∀ a, win0_5.index t a = 0)

/-- Row `r` of point `t`'s block is this row of the array. -/
def rowAt (t : Fin cfg0.N) (r : Fin 256) : Fin 8192 :=
  ⟨256 * t.val + r.val, by have := t.isLt; have hN : cfg0.N = 32 := N_0; have := r.isLt; omega⟩

/-- A block's element of a 256-row window at the point's own index is the array's element of the row. -/
theorem row_index {p : Fin 2 → Nat} {t : Fin cfg0.N} (hp : ∀ a, p a = ![t.val, 0] a) {j : S8192x2048.Idx} (r : Fin 256) (k : Fin 2048)
    (h0 : (j 0 : Nat) = p 0 * 256 + 1 * r.val) (h1 : (j 1 : Nat) = p 1 * 2048 + 1 * k.val) : j = ix2 (rowAt t r) k := by
  have e0 : p 0 = t.val := hp 0
  have e1 : p 1 = 0 := hp 1
  funext a
  apply Fin.ext
  match a with
  | ⟨0, _⟩ => show (j 0 : Nat) = 256 * t.val + r.val; rw [h0, e0]; omega
  | ⟨1, _⟩ => show (j 1 : Nat) = k.val; rw [h1, e1]; omega

theorem block_h (c : Dev nD) (t : Fin cfg0.N) (r : Fin 256) (k : Fin 2048) :
    (iblk m c 0 t : Vec F S256x2048 .f32) (ix2 r k) = m ((c : Thread nD τ).loc main_arg0) (ix2 (rowAt t r) k) := by
  unfold iblk
  rw [View.read_apply]
  exact (congrFun (V_main_arg0 m c) _).trans (congrArg _ (row_index (index_at t).1 r k rfl rfl))

theorem block_target (c : Dev nD) (t : Fin cfg0.N) (r : Fin 256) (k : Fin 2048) :
    (iblk m c 2 t : Vec F S256x2048 .f32) (ix2 r k) = m ((c : Thread nD τ).loc main_arg2) (ix2 (rowAt t r) k) := by
  unfold iblk
  rw [View.read_apply]
  exact (congrFun (V_main_arg2 m c) _).trans (congrArg _ (row_index (index_at t).2.2.1 r k rfl rfl))

theorem V_weight (c : Dev nD) : V m c main_v0 = shapeCast S1x2048 (m ((c : Thread nD τ).loc main_arg1) : Vec F S2048 .f32) shapeCasts_S2048_S1x2048 := by
  show StableHlo.after hostOps0 _ (Proc.devRef .tc main_v0) = _
  after_results_simp
  rfl

theorem block_w (c : Dev nD) (t : Fin cfg0.N) (k : Fin 2048) :
    (iblk m c 1 t : Vec F S1x2048 .f32) (ix2 0 k) = m ((c : Thread nD τ).loc main_arg1) (ix1 k) := by
  unfold iblk
  rw [View.read_apply]
  refine (congrFun (V_weight m c) _).trans ?_
  have he : ((cfg0.win 1).blk t).view.emb (ix2 0 k) = (ix2 0 k : S1x2048.Idx) := by
    funext a
    apply Fin.ext
    match a with
    | ⟨0, _⟩ => show win0_1.index t 0 * 1 + 1 * 0 = 0; rw [(index_at t).2.1]
    | ⟨1, _⟩ => show win0_1.index t 1 * 2048 + 1 * k.val = k.val; rw [(index_at t).2.1]; omega
  rw [he]
  pointwise []

end

section
variable (m : (ℓ : Loc nD τ sig) → Buf (Elt Ideal) ℓ) {c : Dev nD} {x y : Fin 8192 → Fin 2048 → ℝ} {w : Fin 2048 → ℝ}

/-- A row's loss, and its term of the weight's gradient. -/
def lossTerm (x y : Fin 8192 → Fin 2048 → ℝ) (w : Fin 2048 → ℝ) (r : Fin 8192) : ℝ := rowLoss (x r) w (y r)
def shareTerm (x y : Fin 8192 → Fin 2048 → ℝ) (w : Fin 2048 → ℝ) (k : Fin 2048) (r : Fin 8192) : ℝ :=
  slope (x r) w (y r) k * (x r k * scale (x r))

/-- The loss, the output's gradient and the weight's gradient, as contents of their arrays. -/
def lossArray (c : Dev nD) (x y : Fin 8192 → Fin 2048 → ℝ) (w : Fin 2048 → ℝ) : Buf (Elt Ideal) ((c : Thread nD τ).loc main_v1_0) :=
  fun _ : S1x1.Idx => ((1 / 2 * ∑ r, lossTerm x y w r : ℝ) : EReal)
def gradArray (c : Dev nD) (x y : Fin 8192 → Fin 2048 → ℝ) (w : Fin 2048 → ℝ) : Buf (Elt Ideal) ((c : Thread nD τ).loc main_v1_1) :=
  fun i : S8192x2048.Idx => (rowGrad (x (i 0)) w (slope (x (i 0)) w (y (i 0))) (i 1) : EReal)
def shareArray (c : Dev nD) (x y : Fin 8192 → Fin 2048 → ℝ) (w : Fin 2048 → ℝ) : Buf (Elt Ideal) ((c : Thread nD τ).loc main_v1_2) :=
  fun i : S1x2048.Idx => ((∑ r, shareTerm x y w (i 1) r : ℝ) : EReal)

variable (hx : ∀ r k, m ((c : Thread nD τ).loc main_arg0) (ix2 r k) = (x r k : EReal))
  (hw : ∀ k, m ((c : Thread nD τ).loc main_arg1) (ix1 k) = (w k : EReal))
  (hy : ∀ r k, m ((c : Thread nD τ).loc main_arg2) (ix2 r k) = (y r k : EReal))
include hx hw hy

theorem own_loss (t : Fin cfg0.N) : (own m c t).1 (ix2 0 0) = ((1 / 2 * ∑ r, lossTerm x y w (rowAt t r) : ℝ) : EReal) :=
  loss_apply (x := fun r => x (rowAt t r)) (y := fun r => y (rowAt t r)) (w := w) (fun r k => by rw [block_h, hx]) (fun k => by rw [block_w, hw])
    fun r k => by rw [block_target, hy]

theorem own_grad (t : Fin cfg0.N) (r : Fin 256) (k : Fin 2048) :
    (own m c t).2.1 (ix2 r k) = (rowGrad (x (rowAt t r)) w (slope (x (rowAt t r)) w (y (rowAt t r))) k : EReal) :=
  grad_apply (x := fun r => x (rowAt t r)) (y := fun r => y (rowAt t r)) (w := w) (fun r k => by rw [block_h, hx]) (fun k => by rw [block_w, hw])
    (fun r k => by rw [block_target, hy]) r k

theorem own_share (t : Fin cfg0.N) (k : Fin 2048) : (own m c t).2.2 (ix2 0 k) = ((∑ r, shareTerm x y w k (rowAt t r) : ℝ) : EReal) :=
  share_apply (x := fun r => x (rowAt t r)) (y := fun r => y (rowAt t r)) (w := w) (fun r k => by rw [block_h, hx]) (fun k => by rw [block_w, hw])
    (fun r k => by rw [block_target, hy]) k

/-- What the two accumulators hold after point `n`: the terms of the rows so far. -/
theorem sums_upto : ∀ (n : Nat) (h : n < cfg0.N),
    (outsAt0 m c n h).1 (ix2 0 0) = ((1 / 2 * ∑ t : Fin (n + 1), ∑ r, lossTerm x y w (rowAt ⟨t.val, lt_of_lt_of_le t.isLt h⟩ r) : ℝ) : EReal)
    ∧ ∀ k, (outsAt0 m c n h).2.2 (ix2 0 k) = ((∑ t : Fin (n + 1), ∑ r, shareTerm x y w k (rowAt ⟨t.val, lt_of_lt_of_le t.isLt h⟩ r) : ℝ) : EReal)
  | 0, h => by
    rw [show outsAt0 m c 0 h = _ from outs_first m c ⟨0, h⟩ rfl (by simp)]
    refine ⟨?_, fun k => ?_⟩ <;> rw [Fin.sum_univ_one]
    · exact own_loss m hx hw hy ⟨0, h⟩
    · exact own_share m hx hw hy ⟨0, h⟩ k
  | n + 1, h => by
    have ih := sums_upto n (Nat.lt_of_succ_lt h)
    rw [outs_next]
    refine ⟨?_, fun k => ?_⟩ <;> rw [Fin.sum_univ_castSucc]
    · pointwise [k0_pay3]
      rw [ih.1, own_loss m hx hw hy, mul_add, EReal.coe_add]
      rfl
    · pointwise [k0_pay2]
      rw [ih.2 k, EReal.coe_add]
      exact congrArg _ (own_share m hx hw hy ⟨n + 1, h⟩ k)

theorem flushed_loss (t : Fin cfg0.N) (hf : (cfg0.win 3).flush t = true) :
    (dats m 0 c).flushed 3 t = ((cfg0.win 3).blk t).view.read (Elt Ideal) (lossArray c x y w) := by
  rw [Value.flushed3]
  have hN : cfg0.N = 32 := N_0
  have hl : t.val = 31 := by have := (flush0_3 t).mp hf; have := t.isLt; omega
  funext j
  obtain ⟨r, k, rfl⟩ : ∃ r k : Fin 1, j = ix2 r k := ⟨j 0, j 1, eq_ix2 j⟩
  obtain rfl : r = 0 := Subsingleton.elim _ _
  obtain rfl : k = 0 := Subsingleton.elim _ _
  show (outsAt0 m c t.val t.isLt).1 (ix2 0 0) = _
  rw [(sums_upto m hx hw hy _ _).1, View.read_apply]
  obtain ⟨n, hn⟩ := t
  obtain rfl : n = 31 := hl
  exact congrArg (fun s : ℝ => ((1 / 2 * s : ℝ) : EReal)) (sum_rows (lossTerm x y w))

theorem flushed_grad (t : Fin cfg0.N) (_ : (cfg0.win 4).flush t = true) :
    (dats m 0 c).flushed 4 t = ((cfg0.win 4).blk t).view.read (Elt Ideal) (gradArray c x y w) := by
  rw [Value.flushed4]
  have h : (outsAt0 m c t.val t.isLt).2.1 = (own m c t).2.1 := by
    obtain ⟨n, hn⟩ := t
    cases n with
    | zero => rw [outs_first m c ⟨0, hn⟩ rfl (by simp)]
    | succ n => rw [outs_next m c n hn]
  rw [h]
  funext j
  obtain ⟨r, k, rfl⟩ : ∃ (r : Fin 256) (k : Fin 2048), j = ix2 r k := ⟨j 0, j 1, eq_ix2 j⟩
  rw [View.read_apply]
  exact (own_grad m hx hw hy t r k).trans (congrArg (gradArray c x y w) (row_index (index_at t).2.2.2.2.1 r k rfl rfl).symm)

theorem flushed_share (t : Fin cfg0.N) (hf : (cfg0.win 5).flush t = true) :
    (dats m 0 c).flushed 5 t = ((cfg0.win 5).blk t).view.read (Elt Ideal) (shareArray c x y w) := by
  rw [Value.flushed5]
  have hN : cfg0.N = 32 := N_0
  have hl : t.val = 31 := by have := (flush0_5 t).mp hf; have := t.isLt; omega
  funext j
  obtain ⟨r, k, rfl⟩ : ∃ (r : Fin 1) (k : Fin 2048), j = ix2 r k := ⟨j 0, j 1, eq_ix2 j⟩
  obtain rfl : r = 0 := Subsingleton.elim _ _
  show (outsAt0 m c t.val t.isLt).2.2 (ix2 0 k) = _
  rw [(sums_upto m hx hw hy _ _).2, View.read_apply]
  have he : (((cfg0.win 5).blk t).view.emb (ix2 0 k) : S1x2048.Idx) 1 = k :=
    Fin.ext (by show win0_5.index t 1 * 2048 + 1 * k.val = k.val; rw [(index_at t).2.2.2.2.2]; omega)
  show _ = ((∑ r, shareTerm x y w ((((cfg0.win 5).blk t).view.emb (ix2 0 k) : S1x2048.Idx) 1) r : ℝ) : EReal)
  rw [he]
  obtain ⟨n, hn⟩ := t
  obtain rfl : n = 31 := hl
  exact congrArg _ (sum_rows (shareTerm x y w k))

theorem loss_final : (dats m 0 c).arrAt 3 cfg0.N = lossArray c x y w :=
  (dats m 0 c).arrAt_eq_of_cover 3 _ (flushed_loss m hx hw hy) fun i => by
    have hN : cfg0.N = 32 := N_0
    obtain ⟨t, ht⟩ : ∃ t : Fin cfg0.N, t.val % 32 = 31 := ⟨⟨31, by omega⟩, rfl⟩
    refine ⟨t, (flush0_3 t).mpr ht, ?_⟩
    show i ∈ ((View.whole main_v1_0).slice (win0_3.rect t)).set
    rw [View.set_slice_whole, Rect.mem_set_unit]
    intro a
    have ha : (i a : Nat) < 1 := by match a with | ⟨0, _⟩ => exact (i 0).isLt | ⟨1, _⟩ => exact (i 1).isLt
    have hi := (index_at t).2.2.2.1
    match a with
    | ⟨0, _⟩ => show win0_3.index t 0 * 1 ≤ _ ∧ _ < win0_3.index t 0 * 1 + 1; rw [hi]; omega
    | ⟨1, _⟩ => show win0_3.index t 1 * 1 ≤ _ ∧ _ < win0_3.index t 1 * 1 + 1; rw [hi]; omega

theorem grad_final : (dats m 0 c).arrAt 4 cfg0.N = gradArray c x y w :=
  (dats m 0 c).arrAt_eq_of_cover 4 _ (flushed_grad m hx hw hy) fun i => by
    have h0 : (i 0 : Nat) < 8192 := (i 0).isLt
    have h1 : (i 1 : Nat) < 2048 := (i 1).isLt
    have hN : cfg0.N = 32 := N_0
    obtain ⟨t, ht⟩ : ∃ t : Fin cfg0.N, t.val = (i 0 : Nat) / 256 := ⟨⟨(i 0 : Nat) / 256, by omega⟩, rfl⟩
    refine ⟨t, flush0_4 t, ?_⟩
    show i ∈ ((View.whole main_v1_1).slice (win0_4.rect t)).set
    rw [View.set_slice_whole, Rect.mem_set_unit]
    have e0 : win0_4.index t 0 = t.val := (index_at t).2.2.2.2.1 0
    have e1 : win0_4.index t 1 = 0 := (index_at t).2.2.2.2.1 1
    intro a
    match a with
    | ⟨0, _⟩ => show win0_4.index t 0 * 256 ≤ (i 0 : Nat) ∧ (i 0 : Nat) < win0_4.index t 0 * 256 + 256; rw [e0]; omega
    | ⟨1, _⟩ => show win0_4.index t 1 * 2048 ≤ (i 1 : Nat) ∧ (i 1 : Nat) < win0_4.index t 1 * 2048 + 2048; rw [e1]; omega

theorem share_final : (dats m 0 c).arrAt 5 cfg0.N = shareArray c x y w :=
  (dats m 0 c).arrAt_eq_of_cover 5 _ (flushed_share m hx hw hy) fun i => by
    have h0 : (i 0 : Nat) < 1 := (i 0).isLt
    have h1 : (i 1 : Nat) < 2048 := (i 1).isLt
    have hN : cfg0.N = 32 := N_0
    obtain ⟨t, ht⟩ : ∃ t : Fin cfg0.N, t.val % 32 = 31 := ⟨⟨31, by omega⟩, rfl⟩
    refine ⟨t, (flush0_5 t).mpr ht, ?_⟩
    show i ∈ ((View.whole main_v1_2).slice (win0_5.rect t)).set
    rw [View.set_slice_whole, Rect.mem_set_unit]
    have hi := (index_at t).2.2.2.2.2
    intro a
    match a with
    | ⟨0, _⟩ => show win0_5.index t 0 * 1 ≤ (i 0 : Nat) ∧ (i 0 : Nat) < win0_5.index t 0 * 1 + 1; rw [hi]; omega
    | ⟨1, _⟩ => show win0_5.index t 1 * 2048 ≤ (i 1 : Nat) ∧ (i 1 : Nat) < win0_5.index t 1 * 2048 + 2048; rw [hi]; omega

end

end Cert.LossValue

end
-- ==== Proof.LossRef.lean ====
/-
  What the loss's reference computes, over real numbers: the loss and its gradient, in the terms of the kernel's block.
-/
module

public import proofs.«01_k».proof.Proof.Gen.LossRefIdeal.Read
public import proofs.«01_k».proof.Proof.LossBlock

@[expose] public section

set_option maxRecDepth 16384

noncomputable section

namespace Cert.LossValue

open Idealize.ShloMosaic Idealize.ShloMosaic.TcCoe Idealize.SL.Sem Cert.Lift Cert.NormValue
open Cert.LossRefIdeal Cert.LossRefIdeal.Read

variable {x0 x2 : (⟨S8192x2048, .f32⟩ : BufTy).Contents (Elt Ideal)} {x1 : (⟨S2048, .f32⟩ : BufTy).Contents (Elt Ideal)}
  {x y : Fin 8192 → Fin 2048 → ℝ} {w : Fin 2048 → ℝ}

theorem refMean_apply (hx : ∀ r k, x0 (ix2 r k) = (x r k : EReal)) (r : Fin 8192) :
    val_main_v6 (F := Ideal) x0 (ix2 r 0) = (meanSq (x r) : EReal) := by
  pointwise [val_main_v6, val_main_v5, val_main_v4, val_main_v3, val_main_v2, val_main_v1, val_main_v0, val_main_cst, val_main_cst_0, val_main_cst_1]
  simp only [hx, Ideal.mulf_def, Ideal.addf_def, Ideal.hostDivf_def, Ideal.ofBits_def, ofBits_2048, ofBits_eps, ← EReal.coe_mul, sum_coe]
  rw [div_coe (by norm_num), ← EReal.coe_add]
  rfl

theorem refScale_apply (hx : ∀ r k, x0 (ix2 r k) = (x r k : EReal)) (r : Fin 8192) :
    val_main_v7 (F := Ideal) x0 (ix2 r 0) = (scale (x r) : EReal) := by
  pointwise [val_main_v7]
  simp only [refMean_apply hx, Ideal.hostUnary_rsqrt_def]
  exact rsqrt_coe (meanSq_pos (x r))

/-- The derivative of the factor along the mean of squares. -/
theorem refSlope_apply (hx : ∀ r k, x0 (ix2 r k) = (x r k : EReal)) (r : Fin 8192) :
    val_main_v10 (F := Ideal) x0 (ix2 r 0) = ((-1 / 2 * (scale (x r) / meanSq (x r)) : ℝ) : EReal) := by
  pointwise [val_main_v10, val_main_v9, val_main_v8, val_main_cst_2]
  simp only [refScale_apply hx, refMean_apply hx, Ideal.mulf_def, Ideal.hostDivf_def, Ideal.ofBits_def, ofBits_neg_half]
  rw [div_coe (meanSq_pos _).ne', ← EReal.coe_mul]

theorem refUnit_apply (hx : ∀ r k, x0 (ix2 r k) = (x r k : EReal)) (r : Fin 8192) (k : Fin 2048) :
    val_main_v12 (F := Ideal) x0 (ix2 r k) = ((x r k * scale (x r) : ℝ) : EReal) := by
  pointwise [val_main_v12, val_main_v11]
  simp only [refScale_apply hx, hx, Ideal.mulf_def, ← EReal.coe_mul]

theorem refMiss_apply (hx : ∀ r k, x0 (ix2 r k) = (x r k : EReal)) (hw : ∀ k, x1 (ix1 k) = (w k : EReal))
    (hy : ∀ r k, x2 (ix2 r k) = (y r k : EReal)) (r : Fin 8192) (k : Fin 2048) :
    val_main_v16 (F := Ideal) x0 x1 x2 (ix2 r k) = (miss (x r) w (y r) k : EReal) := by
  pointwise [val_main_v16, val_main_v15, val_main_v14, val_main_v13]
  simp only [refUnit_apply hx, hw, hy, Ideal.mulf_def, Ideal.subf_def, ← EReal.coe_mul, ← EReal.coe_sub]
  rfl

theorem refLoss_apply (hx : ∀ r k, x0 (ix2 r k) = (x r k : EReal)) (hw : ∀ k, x1 (ix1 k) = (w k : EReal))
    (hy : ∀ r k, x2 (ix2 r k) = (y r k : EReal)) :
    val_main_v51 (F := Ideal) x0 x1 x2 (ix2 0 0) = ((1 / 2 * ∑ r, rowLoss (x r) w (y r) : ℝ) : EReal) := by
  pointwise [val_main_v51, val_main_v24, val_main_v23, val_main_v22, val_main_v21, val_main_v20, val_main_v17, val_main_cst_3, val_main_cst_4, val_main_cst_5,
    val_main_cst_6, val_main_cst_7]
  simp only [refMiss_apply hx hw hy, Ideal.mulf_def, Ideal.hostDivf_def, Ideal.ofBits_def, ofBits_2048, ofBits_half, ← EReal.coe_mul, sum_coe]
  simp only [div_coe (show (2048 : ℝ) ≠ 0 by norm_num), sum_coe, ← EReal.coe_mul]
  rfl

theorem refCot_apply (hx : ∀ r k, x0 (ix2 r k) = (x r k : EReal)) (hw : ∀ k, x1 (ix1 k) = (w k : EReal))
    (hy : ∀ r k, x2 (ix2 r k) = (y r k : EReal)) (r : Fin 8192) (k : Fin 2048) :
    val_main_v30 (F := Ideal) x0 x1 x2 (ix2 r k) = (slope (x r) w (y r) k : EReal) := by
  pointwise [val_main_v30, val_main_v29, val_main_v28, val_main_v27, val_main_v26, val_main_v25, val_main_v19, val_main_v18, val_main_cst_3, val_main_cst_8,
    val_main_cst_9, val_main_cst_10]
  simp only [refMiss_apply hx hw hy, Ideal.mulf_def, Ideal.hostDivf_def, Ideal.ofBits_def, ofBits_2048, ofBits_half, ofBits_two, ofBits_one, ← EReal.coe_mul]
  rw [div_coe (by norm_num), ← EReal.coe_mul]
  congr 1
  unfold slope
  ring

theorem refSpread_apply (hx : ∀ r k, x0 (ix2 r k) = (x r k : EReal)) (hw : ∀ k, x1 (ix1 k) = (w k : EReal))
    (hy : ∀ r k, x2 (ix2 r k) = (y r k : EReal)) (r : Fin 8192) (k : Fin 2048) :
    val_main_v46 (F := Ideal) x0 x1 x2 (ix2 r k)
      = (((∑ j, x r j * (slope (x r) w (y r) j * w j)) * (-1 / 2 * (scale (x r) / meanSq (x r))) / 2048 : ℝ) : EReal) := by
  pointwise [val_main_v46, val_main_v45, val_main_v44, val_main_v43, val_main_v42, val_main_v39, val_main_v38, val_main_v37, val_main_v35, val_main_v34,
    val_main_v13, val_main_cst_13, val_main_cst_14, val_main_cst_15]
  rw [Fin.sum_univ_one]
  simp only [hx, hw, refCot_apply hx hw hy, refSlope_apply hx, Ideal.mulf_def, Ideal.hostDivf_def, Ideal.ofBits_def, ofBits_2048, ← EReal.coe_mul, sum_coe]
  rw [div_coe (by norm_num)]

theorem refShare_apply (hx : ∀ r k, x0 (ix2 r k) = (x r k : EReal)) (hw : ∀ k, x1 (ix1 k) = (w k : EReal))
    (hy : ∀ r k, x2 (ix2 r k) = (y r k : EReal)) (k : Fin 2048) :
    val_main_v53 (F := Ideal) x0 x1 x2 (ix2 0 k) = ((∑ r, slope (x r) w (y r) k * (x r k * scale (x r)) : ℝ) : EReal) := by
  pointwise [val_main_v53, val_main_v36, val_main_v33, val_main_v32, val_main_v31, val_main_cst_11, val_main_cst_12]
  rw [Fin.sum_univ_one]
  simp only [refUnit_apply hx, refCot_apply hx hw hy, Ideal.mulf_def, ← EReal.coe_mul, sum_coe, mul_comm]

theorem refGrad_apply (hx : ∀ r k, x0 (ix2 r k) = (x r k : EReal)) (hw : ∀ k, x1 (ix1 k) = (w k : EReal))
    (hy : ∀ r k, x2 (ix2 r k) = (y r k : EReal)) (r : Fin 8192) (k : Fin 2048) :
    val_main_v52 (F := Ideal) x0 x1 x2 (ix2 r k) = (rowGrad (x r) w (slope (x r) w (y r)) k : EReal) := by
  pointwise [val_main_v52, val_main_v50, val_main_v49, val_main_v48, val_main_v47, val_main_v41, val_main_v40, val_main_v35, val_main_v34, val_main_v13]
  simp only [refSpread_apply hx hw hy, refCot_apply hx hw hy, refScale_apply hx, hx, hw, Ideal.mulf_def, Ideal.addf_def, Ideal.truncf_def, ← EReal.coe_mul,
    ← EReal.coe_add]
  rw [rowGrad_eq]

end Cert.LossValue

end
-- ==== Proof.LossClaim.lean ====
/-
  The claims of the loss head: the reference's frame, and that the two programs' results are equal over the extended
  reals where the layer's output, the weight and the target are finite.
-/
module

public import proofs.«01_k».proof.Defs
public import proofs.«01_k».proof.Proof.Gen.Loss.Frame
public import proofs.«01_k».proof.Proof.Gen.LossRefIdeal.Run
public import proofs.«01_k».proof.Proof.Gen.Pre_loss_finite
public import proofs.«01_k».proof.Proof.LossArray
public import proofs.«01_k».proof.Proof.LossRef
public import Idealize.ShloMosaic.Lib.Claim

@[expose] public section

set_option maxRecDepth 16384

noncomputable section

namespace Cert.LossValue

open Idealize.ShloMosaic Idealize.ShloMosaic.TcCoe Idealize.SL.Sem Cert.Lift

/-- Where the precondition holds, the three arrays are arrays of real numbers. -/
theorem real_of_pre {h y : FVec Ideal Cert.LossIdeal.S8192x2048 .f32} {w : FVec Ideal Cert.LossIdeal.S2048 .f32}
    (hp : Cert.Pre_loss_finite.fn (F := Ideal) h w y = fun _ => 1#1) :
    ∃ (h' y' : Fin 8192 → Fin 2048 → ℝ) (w' : Fin 2048 → ℝ), (∀ r k, h (ix2 r k) = (h' r k : EReal)) ∧ (∀ k, w (ix1 k) = (w' k : EReal))
      ∧ ∀ r k, y (ix2 r k) = (y' r k : EReal) := by
  have key : ∀ r k, h (ix2 r k) = (((h (ix2 r k) : EReal).toReal : ℝ) : EReal) ∧ w (ix1 k) = (((w (ix1 k) : EReal).toReal : ℝ) : EReal)
      ∧ y (ix2 r k) = (((y (ix2 r k) : EReal).toReal : ℝ) : EReal) := fun r k => by
    have hp' := congrFun hp (ix2 r k)
    pointwise [Cert.Pre_loss_finite.fn] at hp'
    rw [and_ofBool, and_ofBool] at hp'
    obtain ⟨⟨p, q⟩, s⟩ := by simpa only [Bool.and_eq_true, decide_eq_true_eq] using (BitVec.ofBool_eq_iff_eq (b' := true)).mp hp'
    exact ⟨real_of_test p, real_of_test q, real_of_test s⟩
  exact ⟨_, _, _, fun r k => (key r k).1, fun k => (key 0 k).2.1, fun r k => (key r k).2.2⟩

theorem frame_ref : Cert.quiescent_LossRefIdeal := fun m g _ =>
  (θ_run Cert.LossRefIdeal.defs _ _).mono (fun r h => ⟨fun c => (h c).2.2.2, sem_eq_zero_of_no_sems (by decide) r.2⟩)
    (Cert.LossRefIdeal.Value.run m g)

theorem value : Cert.algebraic_LossIdeal_LossRefIdeal_pre_loss_finite := by
  intro m g m' g' hp hag
  refine ⟨_, _, _, Cert.LossIdeal.Value.run_blocks m g, (θ_run Cert.LossRefIdeal.defs _ _).mono (fun r h c => ?_) (Cert.LossRefIdeal.Value.run m' g')⟩
  obtain ⟨hr0, hr1, hr2, ha⟩ := h c
  obtain ⟨x, y, w, hx, hw, hy⟩ := real_of_pre (hp c)
  obtain ⟨e0, e1, e2⟩ := hag c
  refine ⟨hr0.trans ?_, hr1.trans ?_, hr2.trans ?_, ha⟩
  · refine (Cert.LossRefIdeal.Read.val_main_v51_eq _ _ _).trans ?_
    rw [e0, e1, e2]
    refine Eq.trans ?_ (loss_final m hx hw hy).symm
    funext i
    obtain ⟨r, k, rfl⟩ : ∃ r k : Fin 1, i = ix2 r k := ⟨i 0, i 1, eq_ix2 i⟩
    obtain rfl : r = 0 := Subsingleton.elim _ _
    obtain rfl : k = 0 := Subsingleton.elim _ _
    exact refLoss_apply hx hw hy
  · rw [Cert.LossRefIdeal.Read.val_main_v52_eq, e0, e1, e2]
    refine Eq.trans ?_ (grad_final m hx hw hy).symm
    funext i
    obtain ⟨r, k, rfl⟩ : ∃ (r : Fin 8192) (k : Fin 2048), i = ix2 r k := ⟨i 0, i 1, eq_ix2 i⟩
    exact refGrad_apply hx hw hy r k
  · refine (Cert.LossRefIdeal.Read.val_main_v53_eq _ _ _).trans ?_
    rw [e0, e1, e2]
    refine Eq.trans ?_ (share_final m hx hw hy).symm
    funext i
    obtain ⟨r, k, rfl⟩ : ∃ (r : Fin 1) (k : Fin 2048), i = ix2 r k := ⟨i 0, i 1, eq_ix2 i⟩
    obtain rfl : r = 0 := Subsingleton.elim _ _
    exact refShare_apply hx hw hy k

end Cert.LossValue

end
-- ==== Proof.GateBlock.lean ====
/-
  What one grid point of the gate's backward kernel computes, over real numbers: from 256 rows of the result's gradient, half of
  the last weight's rows and the saved gate and up values, the gradients along the gate and along up.
-/
module

public import proofs.«01_k».proof.Proof.Gen.GateIdeal.Skeleton
public import proofs.«01_k».proof.Proof.ConvBlock

@[expose] public section

set_option maxRecDepth 16384

noncomputable section

namespace Cert.GateValue

open Idealize.ShloMosaic Idealize.ShloMosaic.TcCoe Idealize.SL.Sem Cert.Lift
open Cert.ConvValue (sigmoid rise sigmoid_ne)

/-- The normalised input, the three weights, and the gradient of the result. -/
structure Data where
  h : Fin 8192 → Fin 2048 → ℝ
  wg : Fin 2048 → Fin 5632 → ℝ
  wu : Fin 2048 → Fin 5632 → ℝ
  wd : Fin 5632 → Fin 2048 → ℝ
  d : Fin 8192 → Fin 2048 → ℝ

namespace Data
variable (D : Data) (r : Fin 8192) (n : Fin 5632)

/-- The gate, the up values, and the gradient of their product. -/
def gate : ℝ := ∑ k, D.h r k * D.wg k n
def up : ℝ := ∑ k, D.h r k * D.wu k n
def act : ℝ := ∑ k, D.d r k * D.wd n k

/-- The gradients along the gate and along up. -/
def dgate : ℝ := D.act r n * D.up r n * rise (D.gate r n)
def dup : ℝ := D.act r n * (D.gate r n * sigmoid (D.gate r n))
end Data

open Cert.GateIdeal Cert.GateIdeal.Gen

variable {v0 : Vec Ideal S256x2048 .bf16} {v1 : Vec Ideal S1x2816x2048 .bf16} {v4 v13 : Vec Ideal S1x256x2816 .f32} {r : Fin 256} {k : Fin 2816} {a b : Fin 2048 → ℝ} {g u : ℝ}

theorem act_apply (h0 : ∀ j, v0 (ix2 r j) = (a j : EReal)) (h1 : ∀ j, v1 (ix3 0 k j) = (b j : EReal)) :
    k0_pay1 (F := Ideal) v0 v1 (ix2 r k) = ((∑ j, a j * b j : ℝ) : EReal) := by
  pointwise [k0_pay1]
  simp only [h0, h1, ← EReal.coe_mul, sum_coe]

theorem sigmoid_apply (h4 : v4 (ix3 0 r k) = (g : EReal)) : k0_pay3 (F := Ideal) v4 (ix2 r k) = (sigmoid g : EReal) := by
  pointwise [k0_pay3, k0_pay2]
  simp only [h4, zero_coe, one_coe, ← EReal.coe_sub, Ideal.exp_coe, ← EReal.coe_add]
  rw [zero_sub, div_coe (sigmoid_ne g)]
  rfl

theorem dgate_apply (h0 : ∀ j, v0 (ix2 r j) = (a j : EReal)) (h1 : ∀ j, v1 (ix3 0 k j) = (b j : EReal)) (h4 : v4 (ix3 0 r k) = (g : EReal))
    (h13 : v13 (ix3 0 r k) = (u : EReal)) : k0_pay4 (F := Ideal) v0 v1 v4 v13 (ix3 0 r k) = (((∑ j, a j * b j) * u * rise g : ℝ) : EReal) := by
  pointwise [k0_pay4, k0_pay2]
  simp only [act_apply h0 h1, sigmoid_apply h4, h4, h13, one_coe, ← EReal.coe_sub, ← EReal.coe_mul, ← EReal.coe_add]
  rfl

theorem dup_apply (h0 : ∀ j, v0 (ix2 r j) = (a j : EReal)) (h1 : ∀ j, v1 (ix3 0 k j) = (b j : EReal)) (h4 : v4 (ix3 0 r k) = (g : EReal)) :
    k0_pay5 (F := Ideal) v0 v1 v4 (ix3 0 r k) = (((∑ j, a j * b j) * (g * sigmoid g) : ℝ) : EReal) := by
  pointwise [k0_pay5, k0_pay2]
  simp only [act_apply h0 h1, sigmoid_apply h4, h4, ← EReal.coe_mul]

end Cert.GateValue

end
-- ==== Proof.GateRef.lean ====
/-
  What the gate's reference gradient holds, over real numbers, and that it is the kernel's formula: the derivative of
  `g * sigmoid g` is met as two terms, where the kernel has one factor.
-/
module

public import proofs.«01_k».proof.Proof.Gen.GateRefIdeal.Read
public import proofs.«01_k».proof.Proof.GateBlock

@[expose] public section

set_option maxRecDepth 16384

noncomputable section

namespace Cert.GateValue

open Idealize.ShloMosaic Idealize.ShloMosaic.TcCoe Idealize.SL.Sem Cert.Lift
open Cert.ConvValue (sigmoid rise sigmoid_ne)
open Cert.GateRefIdeal Cert.GateRefIdeal.Read

/-- The arguments hold these real numbers. -/
structure Reads (D : Data) (x0 : FVec Ideal S8192x2048 .bf16) (x1 x2 : FVec Ideal S2048x5632 .f32) (x3 : FVec Ideal S5632x2048 .f32)
    (x4 : FVec Ideal S8192x2048 .bf16) : Prop where
  h : ∀ r k, x0 (ix2 r k) = (D.h r k : EReal)
  wg : ∀ k n, x1 (ix2 k n) = (D.wg k n : EReal)
  wu : ∀ k n, x2 (ix2 k n) = (D.wu k n : EReal)
  wd : ∀ n k, x3 (ix2 n k) = (D.wd n k : EReal)
  d : ∀ r k, x4 (ix2 r k) = (D.d r k : EReal)

/-- Column `k` of half `s` is this column of the whole width. -/
def colAt (s : Fin 2) (k : Fin 2816) : Fin 5632 := ⟨s.val * 2816 + k.val, by omega⟩

variable {D : Data} {x0 : FVec Ideal S8192x2048 .bf16} {x1 x2 : FVec Ideal S2048x5632 .f32} {x3 : FVec Ideal S5632x2048 .f32}
  {x4 : FVec Ideal S8192x2048 .bf16} (H : Reads D x0 x1 x2 x3 x4) (r : Fin 8192) (n : Fin 5632)
include H

theorem refGate_apply : val_main_v1 (F := Ideal) x0 x1 (ix2 r n) = (D.gate r n : EReal) := by
  pointwise [val_main_v1, val_main_v0]
  simp only [H.h, H.wg, Ideal.extf_def, ← EReal.coe_mul, sum_coe]
  rfl

theorem refUp_apply : val_main_v2 (F := Ideal) x0 x2 (ix2 r n) = (D.up r n : EReal) := by
  pointwise [val_main_v2, val_main_v0]
  simp only [H.h, H.wu, Ideal.extf_def, ← EReal.coe_mul, sum_coe]
  rfl

theorem refAct_apply : val_main_v7 (F := Ideal) x3 x4 (ix2 r n) = (D.act r n : EReal) := by
  pointwise [val_main_v7, val_main_v6]
  simp only [H.d, H.wd, Ideal.extf_def, ← EReal.coe_mul, sum_coe]
  rfl

/-- The two products, with the factors the other way round. -/
theorem gate_sum : (∑ k, (x1 (ix2 k n) * x0 (ix2 r k) : EReal)) = (D.gate r n : EReal) := by
  simp only [H.h, H.wg, ← EReal.coe_mul, sum_coe, mul_comm (D.wg _ _)]
  rfl

theorem up_sum : (∑ k, (x2 (ix2 k n) * x0 (ix2 r k) : EReal)) = (D.up r n : EReal) := by
  simp only [H.h, H.wu, ← EReal.coe_mul, sum_coe, mul_comm (D.wu _ _)]
  rfl

theorem refSigmoid_apply : val_main_v3_2 (F := Ideal) x0 x1 (ix2 r n) = (sigmoid (D.gate r n) : EReal) := by
  pointwise [val_main_v3_2, val_main_call0_v4, val_main_call0_v3, val_main_call0_v2, val_main_call0_v1, val_main_call0_v0, val_main_call0_cst, val_main_call0_cst_0]
  simp only [refGate_apply H, Ideal.hostDivf_def, Ideal.addf_def, Ideal.ofBits_def, ofBits_one, one_coe, ← EReal.coe_neg, Ideal.exp_coe, ← EReal.coe_add]
  rw [div_coe (sigmoid_ne _)]
  rfl

theorem refDgate_apply : val_main_v10 (F := Ideal) x0 x1 x2 x3 x4 (ix2 r n) = (D.dgate r n : EReal) := by
  pointwise [val_main_v10, val_main_call1_v2, val_main_call1_v1, val_main_call1_v0, val_main_v9, val_main_v3_1, val_main_call0_v7, val_main_call0_v6, val_main_call0_cst_1]
  simp only [refGate_apply H, refUp_apply H, refAct_apply H, refSigmoid_apply H, Ideal.mulf_def, Ideal.addf_def, Ideal.subf_def, Ideal.ofBits_def, ofBits_one, one_coe,
    ← EReal.coe_sub, ← EReal.coe_mul, ← EReal.coe_add]
  congr 1
  unfold Data.dgate rise
  ring

theorem refDup_apply : val_main_v8 (F := Ideal) x0 x1 x3 x4 (ix2 r n) = (D.dup r n : EReal) := by
  pointwise [val_main_v8, val_main_v3_0]
  simp only [refGate_apply H, refAct_apply H, refSigmoid_apply H, Ideal.mulf_def, ← EReal.coe_mul]
  congr 1
  unfold Data.dup
  ring

theorem dgate_eq (s : Fin 2) (k : Fin 2816) : val_main_v13 (F := Ideal) x0 x1 x2 x3 x4 (ix3 s r k) = (D.dgate r (colAt s k) : EReal) := by
  pointwise [val_main_v13, val_main_v12, val_main_v11]
  exact refDgate_apply H r _

theorem dup_eq (s : Fin 2) (k : Fin 2816) : val_main_v16 (F := Ideal) x0 x1 x3 x4 (ix3 s r k) = (D.dup r (colAt s k) : EReal) := by
  pointwise [val_main_v16, val_main_v15, val_main_v14]
  exact refDup_apply H r _

end Cert.GateValue

end
-- ==== Proof.GateArray.lean ====
/-
  What the two result arrays of the gate's backward kernel hold after its grid: the gradients along the gate and along up.
-/
module

public import proofs.«01_k».proof.Proof.Gen.GateIdeal.Value
public import proofs.«01_k».proof.Proof.GateRef
public import proofs.«01_k».proof.Proof.RowNorm

@[expose] public section

set_option maxRecDepth 16384

noncomputable section

namespace Cert.GateValue

open Idealize.ShloMosaic Idealize.ShloMosaic.TcCoe Idealize.SL.Sem Cert.Lift
open Cert.NormValue (hz)
open Cert.ConvValue (sigmoid rise)
open Cert.GateIdeal Cert.GateIdeal.Gen

variable (m : (ℓ : Loc nD τ sig) → Buf (Elt Ideal) ℓ) {c : Dev nD} {D : Data}

/-- The kernel's arguments in one memory hold these real numbers. -/
abbrev Holds (D : Data) (m : (ℓ : Loc nD τ sig) → Buf (Elt Ideal) ℓ) (c : Dev nD) : Prop :=
  Reads D (m ((c : Thread nD τ).loc main_arg0)) (m ((c : Thread nD τ).loc main_arg1)) (m ((c : Thread nD τ).loc main_arg2))
    (m ((c : Thread nD τ).loc main_arg3)) (m ((c : Thread nD τ).loc main_arg4))

/-! ## The host operations before the kernel -/

theorem V_down (H : Holds D m c) (s : Fin 2) (k : Fin 2816) (j : Fin 2048) : V m c main_v1 (ix3 s k j) = (D.wd (colAt s k) j : EReal) := by
  show StableHlo.after hostOps0 _ (Proc.devRef .tc main_v1) _ = _
  after_results_simp
  pointwise []
  exact H.wd (colAt s k) j

theorem V_gate (H : Holds D m c) (s : Fin 2) (r : Fin 8192) (k : Fin 2816) : V m c main_v8 (ix3 s r k) = (D.gate r (colAt s k) : EReal) := by
  show StableHlo.after hostOps0 _ (Proc.devRef .tc main_v8) _ = _
  after_results_simp
  pointwise []
  exact gate_sum H r (colAt s k)

theorem V_up (H : Holds D m c) (s : Fin 2) (r : Fin 8192) (k : Fin 2816) : V m c main_v15 (ix3 s r k) = (D.up r (colAt s k) : EReal) := by
  show StableHlo.after hostOps0 _ (Proc.devRef .tc main_v15) _ = _
  after_results_simp
  pointwise []
  exact up_sum H r (colAt s k)

/-! ## The blocks of one grid point -/

theorem index_at : ∀ t : Fin cfg0.N, (win0_0.index t 0 = t.val % 32 ∧ win0_0.index t 1 = 0)
    ∧ (win0_1.index t 0 = t.val / 32 ∧ win0_1.index t 1 = 0 ∧ win0_1.index t 2 = 0)
    ∧ (win0_2.index t 0 = t.val / 32 ∧ win0_2.index t 1 = t.val % 32 ∧ win0_2.index t 2 = 0)
    ∧ (win0_3.index t 0 = t.val / 32 ∧ win0_3.index t 1 = t.val % 32 ∧ win0_3.index t 2 = 0)
    ∧ (win0_4.index t 0 = t.val / 32 ∧ win0_4.index t 1 = t.val % 32 ∧ win0_4.index t 2 = 0)
    ∧ (win0_5.index t 0 = t.val / 32 ∧ win0_5.index t 1 = t.val % 32 ∧ win0_5.index t 2 = 0) :=
  (by decide +kernel : ∀ t : Fin grid0.N, (win0_0.index t 0 = t.val % 32 ∧ win0_0.index t 1 = 0)
    ∧ (win0_1.index t 0 = t.val / 32 ∧ win0_1.index t 1 = 0 ∧ win0_1.index t 2 = 0)
    ∧ (win0_2.index t 0 = t.val / 32 ∧ win0_2.index t 1 = t.val % 32 ∧ win0_2.index t 2 = 0)
    ∧ (win0_3.index t 0 = t.val / 32 ∧ win0_3.index t 1 = t.val % 32 ∧ win0_3.index t 2 = 0)
    ∧ (win0_4.index t 0 = t.val / 32 ∧ win0_4.index t 1 = t.val % 32 ∧ win0_4.index t 2 = 0)
    ∧ (win0_5.index t 0 = t.val / 32 ∧ win0_5.index t 1 = t.val % 32 ∧ win0_5.index t 2 = 0))

/-- The half of point `t`, and the array's row that is row `r` of its blocks. -/
def halfAt (t : Fin cfg0.N) : Fin 2 := ⟨t.val / 32, by have := t.isLt; have hN : cfg0.N = 64 := N_0; omega⟩
def rowAt (t : Fin cfg0.N) (r : Fin 256) : Fin 8192 := ⟨256 * (t.val % 32) + r.val, by omega⟩

theorem block_d (H : Holds D m c) (t : Fin cfg0.N) (r : Fin 256) (j : Fin 2048) :
    (iblk m c 0 t : Vec Ideal S256x2048 .bf16) (ix2 r j) = (D.d (rowAt t r) j : EReal) := by
  unfold iblk
  rw [View.read_apply]
  refine (congrFun (V_main_arg4 m c) _).trans ((congrArg _ (funext fun a => Fin.ext ?_)).trans (H.d (rowAt t r) j))
  have e := (index_at t).1
  match a with
  | ⟨0, _⟩ => show win0_0.index t 0 * 256 + 1 * r.val = 256 * (t.val % 32) + r.val; rw [e.1]; omega
  | ⟨1, _⟩ => show win0_0.index t 1 * 2048 + 1 * j.val = j.val; rw [e.2]; omega

theorem block_down (H : Holds D m c) (t : Fin cfg0.N) (k : Fin 2816) (j : Fin 2048) :
    (iblk m c 1 t : Vec Ideal S1x2816x2048 .bf16) (ix3 0 k j) = (D.wd (colAt (halfAt t) k) j : EReal) := by
  unfold iblk
  rw [View.read_apply]
  refine (congrArg (V m c main_v1) (funext fun a => Fin.ext ?_)).trans (V_down m H (halfAt t) k j)
  have e := (index_at t).2.1
  match a with
  | ⟨0, _⟩ => show win0_1.index t 0 * 1 + 1 * 0 = t.val / 32; rw [e.1]; omega
  | ⟨1, _⟩ => show win0_1.index t 1 * 2816 + 1 * k.val = k.val; rw [e.2.1]; omega
  | ⟨2, _⟩ => show win0_1.index t 2 * 2048 + 1 * j.val = j.val; rw [e.2.2]; omega

theorem block_gate (H : Holds D m c) (t : Fin cfg0.N) (r : Fin 256) (k : Fin 2816) :
    (iblk m c 2 t : Vec Ideal S1x256x2816 .f32) (ix3 0 r k) = (D.gate (rowAt t r) (colAt (halfAt t) k) : EReal) := by
  unfold iblk
  rw [View.read_apply]
  refine (congrArg (V m c main_v8) (funext fun a => Fin.ext ?_)).trans (V_gate m H (halfAt t) (rowAt t r) k)
  have e := (index_at t).2.2.1
  match a with
  | ⟨0, _⟩ => show win0_2.index t 0 * 1 + 1 * 0 = t.val / 32; rw [e.1]; omega
  | ⟨1, _⟩ => show win0_2.index t 1 * 256 + 1 * r.val = 256 * (t.val % 32) + r.val; rw [e.2.1]; omega
  | ⟨2, _⟩ => show win0_2.index t 2 * 2816 + 1 * k.val = k.val; rw [e.2.2]; omega

theorem block_up (H : Holds D m c) (t : Fin cfg0.N) (r : Fin 256) (k : Fin 2816) :
    (iblk m c 3 t : Vec Ideal S1x256x2816 .f32) (ix3 0 r k) = (D.up (rowAt t r) (colAt (halfAt t) k) : EReal) := by
  unfold iblk
  rw [View.read_apply]
  refine (congrArg (V m c main_v15) (funext fun a => Fin.ext ?_)).trans (V_up m H (halfAt t) (rowAt t r) k)
  have e := (index_at t).2.2.2.1
  match a with
  | ⟨0, _⟩ => show win0_3.index t 0 * 1 + 1 * 0 = t.val / 32; rw [e.1]; omega
  | ⟨1, _⟩ => show win0_3.index t 1 * 256 + 1 * r.val = 256 * (t.val % 32) + r.val; rw [e.2.1]; omega
  | ⟨2, _⟩ => show win0_3.index t 2 * 2816 + 1 * k.val = k.val; rw [e.2.2]; omega

/-! ## The result arrays -/

/-- The two results, as contents of their arrays. -/
def gateArray (D : Data) : FVec Ideal S2x8192x2816 .bf16 := fun i => (D.dgate (i 1) (colAt (i 0) (i 2)) : EReal)
def upArray (D : Data) : FVec Ideal S2x8192x2816 .bf16 := fun i => (D.dup (i 1) (colAt (i 0) (i 2)) : EReal)

theorem zero3 : (![0, 0, 0] : Fin 3 → Nat) = fun _ => 0 := by
  funext a
  match a with | ⟨0, _⟩ => rfl | ⟨1, _⟩ => rfl | ⟨2, _⟩ => rfl

/-- The array's index under index `(0, r, k)` of point `t`'s block. -/
theorem under (t : Fin cfg0.N) (i : Fin 3 → Nat) (e : i 0 = t.val / 32 ∧ i 1 = t.val % 32 ∧ i 2 = 0) (r : Fin 256) (k : Fin 2816)
    (j : S2x8192x2816.Idx) (h0 : (j 0 : Nat) = i 0 * 1 + 1 * 0) (h1 : (j 1 : Nat) = i 1 * 256 + 1 * r.val) (h2 : (j 2 : Nat) = i 2 * 2816 + 1 * k.val) :
    j = ix3 (halfAt t) (rowAt t r) k := by
  obtain ⟨e0, e1, e2⟩ := e
  funext a
  apply Fin.ext
  match a with
  | ⟨0, _⟩ => show (j 0 : Nat) = t.val / 32; omega
  | ⟨1, _⟩ => show (j 1 : Nat) = 256 * (t.val % 32) + r.val; omega
  | ⟨2, _⟩ => show (j 2 : Nat) = k.val; omega

theorem gate_flushed (H : Holds D m c) (t : Fin cfg0.N) (_ : (cfg0.win 4).flush t = true) :
    (dats m 0 c).flushed 4 t = ((cfg0.win 4).blk t).view.read (Elt Ideal) (gateArray D) := by
  rw [Value.flushed4]
  funext j
  obtain ⟨z, r, k, rfl⟩ : ∃ (z : Fin 1) (r : Fin 256) (k : Fin 2816), j = ix3 z r k := ⟨j 0, j 1, j 2, eq_ix3 j⟩
  obtain rfl : z = 0 := Subsingleton.elim _ _
  show out0_4 (iblk m c 0 t) (iblk m c 1 t) (iblk m c 2 t) (iblk m c 3 t) (ix3 0 r k) = _
  unfold out0_4
  rw [View.canon_unit_zero zero3, View.ld_unit_zero (S := S256x2048) hz, View.ld_unit_zero (S := S1x2816x2048) zero3, View.ld_unit_zero (S := S1x256x2816) zero3,
    View.ld_unit_zero (S := S1x256x2816) zero3, View.read_apply]
  refine (dgate_apply (block_d m H t r) (block_down m H t k) (block_gate m H t r k) (block_up m H t r k)).trans ?_
  exact (congrArg (gateArray D) (under t (win0_4.index t) (index_at t).2.2.2.2.1 r k _ rfl rfl rfl)).symm

theorem up_flushed (H : Holds D m c) (t : Fin cfg0.N) (_ : (cfg0.win 5).flush t = true) :
    (dats m 0 c).flushed 5 t = ((cfg0.win 5).blk t).view.read (Elt Ideal) (upArray D) := by
  rw [Value.flushed5]
  funext j
  obtain ⟨z, r, k, rfl⟩ : ∃ (z : Fin 1) (r : Fin 256) (k : Fin 2816), j = ix3 z r k := ⟨j 0, j 1, j 2, eq_ix3 j⟩
  obtain rfl : z = 0 := Subsingleton.elim _ _
  show out0_5 (iblk m c 0 t) (iblk m c 1 t) (iblk m c 2 t) (iblk m c 3 t) (ix3 0 r k) = _
  unfold out0_5
  rw [View.canon_unit_zero zero3, View.ld_unit_zero (S := S256x2048) hz, View.ld_unit_zero (S := S1x2816x2048) zero3, View.ld_unit_zero (S := S1x256x2816) zero3,
    View.read_apply]
  refine (dup_apply (block_d m H t r) (block_down m H t k) (block_gate m H t r k)).trans ?_
  exact (congrArg (upArray D) (under t (win0_5.index t) (index_at t).2.2.2.2.2 r k _ rfl rfl rfl)).symm

/-- Every index of the array lies in some point's block. -/
theorem point_of (i : S2x8192x2816.Idx) : ∃ t : Fin cfg0.N, t.val / 32 = (i 0 : Nat) ∧ t.val % 32 = (i 1 : Nat) / 256 := by
  have h0 : (i 0 : Nat) < 2 := (i 0).isLt
  have h1 : (i 1 : Nat) < 8192 := (i 1).isLt
  have hN : cfg0.N = 64 := N_0
  exact ⟨⟨32 * (i 0 : Nat) + (i 1 : Nat) / 256, by omega⟩, by show (32 * (i 0 : Nat) + (i 1 : Nat) / 256) / 32 = _; omega,
    by show (32 * (i 0 : Nat) + (i 1 : Nat) / 256) % 32 = _; omega⟩

theorem gate_final (H : Holds D m c) : (dats m 0 c).arrAt 4 cfg0.N = gateArray D :=
  (dats m 0 c).arrAt_eq_of_cover 4 _ (gate_flushed m H) fun i => by
    have h2 : (i 2 : Nat) < 2816 := (i 2).isLt
    obtain ⟨t, p, q⟩ := point_of i
    refine ⟨t, flush0_4 t, ?_⟩
    show i ∈ ((View.whole main_v16_0).slice (win0_4.rect t)).set
    rw [View.set_slice_whole, Rect.mem_set_unit]
    obtain ⟨e0, e1, e2⟩ := (index_at t).2.2.2.2.1
    intro a
    match a with
    | ⟨0, _⟩ => show win0_4.index t 0 * 1 ≤ (i 0 : Nat) ∧ (i 0 : Nat) < win0_4.index t 0 * 1 + 1; omega
    | ⟨1, _⟩ => show win0_4.index t 1 * 256 ≤ (i 1 : Nat) ∧ (i 1 : Nat) < win0_4.index t 1 * 256 + 256; omega
    | ⟨2, _⟩ => show win0_4.index t 2 * 2816 ≤ (i 2 : Nat) ∧ (i 2 : Nat) < win0_4.index t 2 * 2816 + 2816; omega

theorem up_final (H : Holds D m c) : (dats m 0 c).arrAt 5 cfg0.N = upArray D :=
  (dats m 0 c).arrAt_eq_of_cover 5 _ (up_flushed m H) fun i => by
    have h2 : (i 2 : Nat) < 2816 := (i 2).isLt
    obtain ⟨t, p, q⟩ := point_of i
    refine ⟨t, flush0_5 t, ?_⟩
    show i ∈ ((View.whole main_v16_1).slice (win0_5.rect t)).set
    rw [View.set_slice_whole, Rect.mem_set_unit]
    obtain ⟨e0, e1, e2⟩ := (index_at t).2.2.2.2.2
    intro a
    match a with
    | ⟨0, _⟩ => show win0_5.index t 0 * 1 ≤ (i 0 : Nat) ∧ (i 0 : Nat) < win0_5.index t 0 * 1 + 1; omega
    | ⟨1, _⟩ => show win0_5.index t 1 * 256 ≤ (i 1 : Nat) ∧ (i 1 : Nat) < win0_5.index t 1 * 256 + 256; omega
    | ⟨2, _⟩ => show win0_5.index t 2 * 2816 ≤ (i 2 : Nat) ∧ (i 2 : Nat) < win0_5.index t 2 * 2816 + 2816; omega

end Cert.GateValue

end
-- ==== Proof.GateClaim.lean ====
/-
  The claims of the gate's backward call: the reference's frame, and that the two programs' results are equal over the
  extended reals where the input, the weights and the result's gradient are finite.
-/
module

public import proofs.«01_k».proof.Defs
public import proofs.«01_k».proof.Proof.Gen.Gate.Frame
public import proofs.«01_k».proof.Proof.Gen.GateRefIdeal.Run
public import proofs.«01_k».proof.Proof.Gen.Pre_gate_finite
public import proofs.«01_k».proof.Proof.GateArray
public import Idealize.ShloMosaic.Lib.Claim

@[expose] public section

set_option maxRecDepth 16384

noncomputable section

namespace Cert.GateValue

open Idealize.ShloMosaic Idealize.ShloMosaic.TcCoe Idealize.SL.Sem Cert.Lift
open Cert.GateRefIdeal

/-- Where the precondition holds, the arguments are arrays of real numbers. -/
theorem real_of_pre {x0 : FVec Ideal S8192x2048 .bf16} {x1 x2 : FVec Ideal S2048x5632 .f32} {x3 : FVec Ideal S5632x2048 .f32} {x4 : FVec Ideal S8192x2048 .bf16}
    (hp : Cert.Pre_gate_finite.fn (F := Ideal) x0 x1 x2 x3 x4 = fun _ => 1#1) : ∃ D : Data, Reads D x0 x1 x2 x3 x4 := by
  have real : ∀ (R : Fin 33280) (k : Fin 2048) (v : EReal), Cert.Pre_gate_finite.fn (F := Ideal) x0 x1 x2 x3 x4 (ix2 R k) = BitVec.ofBool (decide (max v (-v) < Ideal.ofBits .f32 0x7F800000#32)) →
      v = ((v.toReal : ℝ) : EReal) := fun R k v h => by
    rw [hp] at h
    exact real_of_test (of_decide_eq_true ((BitVec.ofBool_eq_iff_eq (b' := true)).mp h.symm))
  exact ⟨⟨_, _, _, _, _⟩,
    fun r k => real ⟨r.val, by omega⟩ k _ (by pointwise [Cert.Pre_gate_finite.fn]; rfl),
    fun k n => real ⟨16384 + n.val, by omega⟩ k _ (by
      pointwise [Cert.Pre_gate_finite.fn]
      rw [dif_neg (by omega), dif_neg (by omega), dif_pos (by omega), show (⟨16384 + n.val - 8192 - 8192, by omega⟩ : Fin 5632) = n from Fin.ext (by dsimp only; omega)]
      rfl),
    fun k n => real ⟨22016 + n.val, by omega⟩ k _ (by
      pointwise [Cert.Pre_gate_finite.fn]
      rw [dif_neg (by omega), dif_neg (by omega), dif_neg (by omega), dif_pos (by omega),
        show (⟨22016 + n.val - 8192 - 8192 - 5632, by omega⟩ : Fin 5632) = n from Fin.ext (by dsimp only; omega)]
      rfl),
    fun n k => real ⟨27648 + n.val, by omega⟩ k _ (by
      pointwise [Cert.Pre_gate_finite.fn]
      rw [dif_neg (by omega), dif_neg (by omega), dif_neg (by omega), dif_neg (by omega),
        show (⟨27648 + n.val - 8192 - 8192 - 5632 - 5632, by omega⟩ : Fin 5632) = n from Fin.ext (by dsimp only; omega)]
      rfl),
    fun r k => real ⟨8192 + r.val, by omega⟩ k _ (by pointwise [Cert.Pre_gate_finite.fn]; rfl)⟩

theorem frame_ref : Cert.quiescent_GateRefIdeal := fun m g _ =>
  (θ_run Cert.GateRefIdeal.defs _ _).mono (fun r h => ⟨fun c => (h c).2.2, sem_eq_zero_of_no_sems (by decide) r.2⟩)
    (Cert.GateRefIdeal.Value.run m g)

theorem value : Cert.algebraic_GateIdeal_GateRefIdeal_pre_gate_finite := by
  intro m g m' g' hp hag
  refine ⟨_, _, Cert.GateIdeal.Value.run_blocks m g, (θ_run Cert.GateRefIdeal.defs _ _).mono (fun r h c => ?_) (Cert.GateRefIdeal.Value.run m' g')⟩
  obtain ⟨hr0, hr1, ha⟩ := h c
  obtain ⟨D, H⟩ := real_of_pre (hp c)
  obtain ⟨e0, e1, e2, e3, e4⟩ := hag c
  have H' : Reads D _ _ _ _ _ := ⟨fun r k => (congrFun e0 _).trans (H.h r k), fun k n => (congrFun e1 _).trans (H.wg k n), fun k n => (congrFun e2 _).trans (H.wu k n),
    fun n k => (congrFun e3 _).trans (H.wd n k), fun r k => (congrFun e4 _).trans (H.d r k)⟩
  refine ⟨hr0.trans ?_, hr1.trans ?_, ha⟩
  · refine (Cert.GateRefIdeal.Read.val_main_v13_eq _ _ _ _ _).trans ?_
    rw [gate_final m H]
    funext i
    obtain ⟨s, r, k, rfl⟩ : ∃ (s : Fin 2) (r : Fin 8192) (k : Fin 2816), i = ix3 s r k := ⟨i 0, i 1, i 2, eq_ix3 i⟩
    exact dgate_eq H' r s k
  · refine (Cert.GateRefIdeal.Read.val_main_v16_eq _ _ _ _).trans ?_
    rw [up_final m H]
    funext i
    obtain ⟨s, r, k, rfl⟩ : ∃ (s : Fin 2) (r : Fin 8192) (k : Fin 2816), i = ix3 s r k := ⟨i 0, i 1, i 2, eq_ix3 i⟩
    exact dup_eq H' r s k

end Cert.GateValue

end
-- ==== Proof.MixBlock.lean ====
/-
  What one grid point of the mixing's backward kernel computes, over the extended reals.
-/
module

public import proofs.«01_k».proof.Proof.Gen.MixIdeal.Skeleton
public import Idealize.ShloMosaic.Lib.Pointwise
public import proofs.«01_k».proof.Proof.RealLift

@[expose] public section

set_option maxRecDepth 16384

noncomputable section

namespace Cert.MixValue

open Idealize.ShloMosaic Idealize.ShloMosaic.TcCoe Idealize.SL.Sem Cert.Lift
open Cert.MixIdeal Cert.MixIdeal.Gen

variable (v0 v10 : Vec Ideal S1024x512 .f32) (v1 v21 : Vec Ideal S1x512 .f32) (v6 : Vec Ideal S1x512x512 .bf16) (r : Fin 1024) (q : Fin 512)

theorem scaled_apply : k0_pay1 (F := Ideal) v0 v1 (ix2 r q) = (v0 (ix2 r q) * v1 (ix2 0 q) : EReal) := by
  pointwise [k0_pay1]

theorem pooled_apply : k0_pay2 (F := Ideal) v0 v1 v6 (ix2 r q) = ∑ k, ((v0 (ix2 r k) * v1 (ix2 0 k)) * v6 (ix3 0 q k) : EReal) := by
  pointwise [k0_pay2]
  simp only [scaled_apply]

theorem share_apply : k0_pay3 (F := Ideal) v0 v10 (ix2 0 q) = ∑ r, (v0 (ix2 r q) * v10 (ix2 r q) : EReal) := by
  pointwise [k0_pay3]

theorem add_apply : k0_pay4 (F := Ideal) v0 v10 v21 (ix2 0 q) = (v21 (ix2 0 q) : EReal) + k0_pay3 (F := Ideal) v0 v10 (ix2 0 q) := by
  pointwise [k0_pay4]

end Cert.MixValue

end
-- ==== Proof.MixRef.lean ====
/-
  The derivative of the pooled signal's mixing, over the extended reals: in each of four groups of 512 columns the pooled signal
  is multiplied with the group's weight, then every column with its own scale.
-/
module

public import proofs.«01_k».proof.Proof.Gen.MixRefIdeal.Read
public import Idealize.ShloMosaic.Lib.Pointwise
public import proofs.«01_k».proof.Proof.RealLift

@[expose] public section

set_option maxRecDepth 16384

noncomputable section

namespace Cert.MixValue

open Idealize.ShloMosaic Idealize.ShloMosaic.TcCoe Idealize.SL.Sem Cert.Lift
open Cert.MixRefIdeal Cert.MixRefIdeal.Read

/-- Column `k` of group `g` is this column of the whole width, and of the gradient's second half. -/
def colAt (g : Fin 4) (k : Fin 512) : Fin 2048 := ⟨g.val * 512 + k.val, by omega⟩
def colUp (n : Fin 2048) : Fin 4096 := ⟨2048 + n.val, by omega⟩

theorem colAt_div (g : Fin 4) (k : Fin 512) : (colAt g k).val / 512 = g.val := by show (g.val * 512 + k.val) / 512 = _; omega
theorem colAt_mod (g : Fin 4) (k : Fin 512) : (colAt g k).val % 512 = k.val := by show (g.val * 512 + k.val) % 512 = _; omega

variable (x0 : FVec Ideal S8192x2048 .bf16) (x1 : FVec Ideal S4x512x512 .f32) (x2 : FVec Ideal S1x2048 .f32) (x3 : FVec Ideal S8192x4096 .f32)

/-- The mixed signal. -/
def mixed (r : Fin 8192) (g : Fin 4) (q : Fin 512) : EReal := ∑ k, (x1 (ix3 g k q) * x0 (ix2 r (colAt g k)) : EReal)

/-- The gradient along the mixed signal, and along the pooled one. -/
def dmix (r : Fin 8192) (n : Fin 2048) : EReal := (x3 (ix2 r (colUp n)) * x2 (ix2 0 n) : EReal)
def dpool (r : Fin 8192) (g : Fin 4) (k : Fin 512) : EReal := ∑ q, dmix x2 x3 r (colAt g q) * (x1 (ix3 g k q) : EReal)

/-- A row's term of the scale's gradient. -/
def term (g : Fin 4) (q : Fin 512) (r : Fin 8192) : EReal := (x3 (ix2 r (colUp (colAt g q))) : EReal) * mixed x0 x1 r g q

theorem refMixed_apply (r : Fin 8192) (g : Fin 4) (q : Fin 512) : val_main_v4 (F := Ideal) x0 x1 (ix2 r (colAt g q)) = mixed x0 x1 r g q := by
  pointwise [val_main_v4, val_main_v3, val_main_v2, val_main_v1, val_main_v0]
  simp only [colAt_div, colAt_mod]
  rfl

theorem refDmix_apply (r : Fin 8192) (n : Fin 2048) : val_main_v12 (F := Ideal) x2 x3 (ix2 r n) = dmix x2 x3 r n := by
  pointwise [val_main_v12, val_main_v11, val_main_v7]
  rfl

theorem refDpool_apply (r : Fin 8192) (g : Fin 4) (k : Fin 512) : val_main_v18 (F := Ideal) x1 x2 x3 (ix2 r (colAt g k)) = dpool x1 x2 x3 r g k := by
  pointwise [val_main_v18, val_main_v17, val_main_v16, val_main_v15, val_main_v14]
  simp only [colAt_div, colAt_mod]
  exact Finset.sum_congr rfl fun q _ => congrArg (· * _) (refDmix_apply x2 x3 r (colAt g q))

theorem refScale_apply (g : Fin 4) (q : Fin 512) : val_main_v10 (F := Ideal) x0 x1 x3 (ix2 0 (colAt g q)) = ∑ r, term x0 x1 x3 g q r := by
  pointwise [val_main_v10, val_main_v9, val_main_v8, val_main_v7, val_main_cst]
  exact Finset.sum_congr rfl fun r _ => (congrArg (· * _) (refMixed_apply x0 x1 r g q)).trans (mul_comm _ _)

end Cert.MixValue

end
-- ==== Proof.MixArray.lean ====
/-
  What the three result arrays of the mixing's backward kernel hold after its grid: two of them block by block, and the
  scale's gradient, which every group of columns sums over its eight points.
-/
module

public import proofs.«01_k».proof.Proof.Gen.MixIdeal.Value
public import proofs.«01_k».proof.Proof.MixBlock
public import proofs.«01_k».proof.Proof.MixRef
public import proofs.«01_k».proof.Proof.RowNorm

@[expose] public section

set_option maxRecDepth 16384

noncomputable section

namespace Cert.MixValue

open Idealize.ShloMosaic Idealize.ShloMosaic.TcCoe Idealize.SL.Sem Cert.Lift
open Cert.NormValue (hz)
open Cert.MixIdeal Cert.MixIdeal.Gen

theorem zero3 : (![0, 0, 0] : Fin 3 → Nat) = fun _ => 0 := by
  funext a
  match a with | ⟨0, _⟩ => rfl | ⟨1, _⟩ => rfl | ⟨2, _⟩ => rfl

section
variable {F : FTy → Type} [FloatOps F] (m : (ℓ : Loc nD τ sig) → Buf (Elt F) ℓ) (c : Dev nD)

/-- What a point computes of its own blocks. -/
def own (t : Fin cfg0.N) : Vec F S1024x512 .bf16 × Vec F S1024x512 .f32 × Vec F S1x512 .f32 :=
  (k0_pay1 (iblk m c 0 t) (iblk m c 2 t), k0_pay2 (iblk m c 0 t) (iblk m c 2 t) (iblk m c 3 t), k0_pay3 (iblk m c 0 t) (iblk m c 1 t))

theorem outs_first (t : Fin cfg0.N) (h0 : t.val % 8 = 0) : outsAt0 m c t.val t.isLt = own m c t := by
  rw [outsAt0_A m c t h0 (by omega)]
  unfold out0_A_4 out0_A_5 out0_A_6
  rw [View.read_writes_eq_canon _ _ _ (fun y => cover0_A_4 (y := y) ..), View.read_writes_eq_canon _ _ _ (fun y => cover0_A_5 (y := y) ..),
    View.read_writes_eq_canon _ _ _ (fun y => cover0_A_6 (y := y) ..)]
  unfold kernelRun0_A
  dsimp only
  rw [View.canon_unit_zero hz, View.canon_unit_zero hz, View.canon_unit_zero hz]
  simp only [View.readAt_eq_ld, (hs0_0 _).read_unread, (hs0_1 _).read_unread, (hs0_2 _).read_unread, (hs0_3 _).read_unread,
    View.ld_unit_zero (S := S1024x512) hz, View.ld_unit_zero (S := S1x512) hz, View.ld_unit_zero (S := S1x512x512) zero3]
  rfl

/-- At the later points of a group the scale's gradient is added to what the point before left. -/
theorem outs_next (t : Fin cfg0.N) (h0 : ¬t.val % 8 = 0) :
    outsAt0 m c t.val t.isLt = ((own m c t).1, (own m c t).2.1,
      k0_pay4 (iblk m c 0 t) (iblk m c 1 t) (outsAt0 m c (t.val - 1) (lt_of_le_of_lt (Nat.sub_le _ _) t.isLt)).2.2) := by
  rw [outsAt0_B m c t h0 (Nat.pos_of_ne_zero h0)]
  generalize outsAt0 m c (t.val - 1) _ = o
  unfold out0_B_4 out0_B_5 out0_B_6
  rw [View.read_writes_eq_canon _ _ _ (fun y => cover0_B_4 (y := y) ..), View.read_writes_eq_canon _ _ _ (fun y => cover0_B_5 (y := y) ..),
    View.read_writes_eq_canon _ _ _ (fun y => cover0_B_6 (y := y) ..)]
  unfold kernelRun0_B
  dsimp only
  sl_unfold_words
  rw [View.canon_unit_zero hz, View.canon_unit_zero hz, View.canon_unit_zero hz]
  simp only [View.readAt_eq_ld, (hs0_0 _).read_unread, (hs0_1 _).read_unread, (hs0_2 _).read_unread, (hs0_3 _).read_unread, (hs0_6 _).read_unread,
    View.ld_unit_zero (S := S1024x512) hz, View.ld_unit_zero (S := S1x512) hz, View.ld_unit_zero (S := S1x512x512) zero3]
  rfl

theorem own_first (t : Fin cfg0.N) : (outsAt0 m c t.val t.isLt).1 = (own m c t).1 ∧ (outsAt0 m c t.val t.isLt).2.1 = (own m c t).2.1 := by
  by_cases h0 : t.val % 8 = 0
  · rw [outs_first m c t h0]; exact ⟨rfl, rfl⟩
  · rw [outs_next m c t h0]; exact ⟨rfl, rfl⟩

theorem index_at : ∀ t : Fin cfg0.N, (∀ a, win0_0.index t a = ![t.val % 8, 4 + t.val / 8] a) ∧ (∀ a, win0_1.index t a = ![t.val % 8, t.val / 8] a)
    ∧ (∀ a, win0_2.index t a = ![0, t.val / 8] a) ∧ (∀ a, win0_3.index t a = ![t.val / 8, 0, 0] a) ∧ (∀ a, win0_4.index t a = ![t.val % 8, t.val / 8] a)
    ∧ (∀ a, win0_5.index t a = ![t.val % 8, t.val / 8] a) ∧ (∀ a, win0_6.index t a = ![0, t.val / 8] a) :=
  (by decide +kernel : ∀ t : Fin grid0.N, (∀ a, win0_0.index t a = ![t.val % 8, 4 + t.val / 8] a) ∧ (∀ a, win0_1.index t a = ![t.val % 8, t.val / 8] a)
    ∧ (∀ a, win0_2.index t a = ![0, t.val / 8] a) ∧ (∀ a, win0_3.index t a = ![t.val / 8, 0, 0] a) ∧ (∀ a, win0_4.index t a = ![t.val % 8, t.val / 8] a)
    ∧ (∀ a, win0_5.index t a = ![t.val % 8, t.val / 8] a) ∧ (∀ a, win0_6.index t a = ![0, t.val / 8] a))

end

/-- The group of point `t`, and the array's row that is row `r` of its blocks. -/
def groupAt (t : Fin cfg0.N) : Fin 4 := ⟨t.val / 8, by have := t.isLt; have hN : cfg0.N = 32 := N_0; omega⟩
def rowAt (s : ℕ) (r : Fin 1024) : Fin 8192 := ⟨1024 * (s % 8) + r.val, by omega⟩

theorem sum_blocks (f : Fin 8192 → EReal) : ∑ s ∈ Finset.range 8, ∑ r, f (rowAt s r) = ∑ r, f r := by
  rw [Finset.sum_range, ← Fintype.sum_prod_type', ← Equiv.sum_comp (finProdFinEquiv (m := 8) (n := 1024))]
  refine Finset.sum_congr rfl fun p _ => congrArg f (Fin.ext ?_)
  show 1024 * (p.1.val % 8) + p.2.val = p.2.val + 1024 * p.1.val
  omega

variable (m : (ℓ : Loc nD τ sig) → Buf (Elt Ideal) ℓ) (c : Dev nD)

/-- The arguments. -/
abbrev pooled : FVec Ideal S8192x2048 .bf16 := m ((c : Thread nD τ).loc main_arg0)
abbrev weight : FVec Ideal S4x512x512 .f32 := m ((c : Thread nD τ).loc main_arg1)
abbrev factor : FVec Ideal S1x2048 .f32 := m ((c : Thread nD τ).loc main_arg2)
abbrev grad : FVec Ideal S8192x4096 .f32 := m ((c : Thread nD τ).loc main_arg3)

theorem V_mixed (r : Fin 8192) (g : Fin 4) (q : Fin 512) : V m c main_v6 (ix2 r (colAt g q)) = mixed (pooled m c) (weight m c) r g q := by
  show StableHlo.after hostOps0 _ (Proc.devRef .tc main_v6) _ = _
  after_results_simp
  pointwise []
  simp only [colAt_div, colAt_mod]
  rfl

theorem V_weight (g : Fin 4) (k q : Fin 512) : V m c main_v7 (ix3 g k q) = weight m c (ix3 g k q) := by
  show StableHlo.after hostOps0 _ (Proc.devRef .tc main_v7) _ = _
  after_results_simp
  rfl

/-! ## The blocks of one grid point -/

theorem block_grad (t : Fin cfg0.N) (r : Fin 1024) (q : Fin 512) :
    (iblk m c 0 t : Vec Ideal S1024x512 .f32) (ix2 r q) = grad m c (ix2 (rowAt t.val r) (colUp (colAt (groupAt t) q))) := by
  unfold iblk
  rw [View.read_apply]
  refine (congrFun (V_main_arg3 m c) _).trans (congrArg (grad m c) (funext fun a => Fin.ext ?_))
  have e0 : win0_0.index t 0 = t.val % 8 := (index_at t).1 0
  have e1 : win0_0.index t 1 = 4 + t.val / 8 := (index_at t).1 1
  match a with
  | ⟨0, _⟩ => show win0_0.index t 0 * 1024 + 1 * r.val = 1024 * (t.val % 8) + r.val; omega
  | ⟨1, _⟩ => show win0_0.index t 1 * 512 + 1 * q.val = 2048 + (t.val / 8 * 512 + q.val); omega

theorem block_mixed (t : Fin cfg0.N) (r : Fin 1024) (q : Fin 512) :
    (iblk m c 1 t : Vec Ideal S1024x512 .f32) (ix2 r q) = mixed (pooled m c) (weight m c) (rowAt t.val r) (groupAt t) q := by
  unfold iblk
  rw [View.read_apply]
  refine (congrArg (V m c main_v6) (funext fun a => Fin.ext ?_)).trans (V_mixed m c (rowAt t.val r) (groupAt t) q)
  have e0 : win0_1.index t 0 = t.val % 8 := (index_at t).2.1 0
  have e1 : win0_1.index t 1 = t.val / 8 := (index_at t).2.1 1
  match a with
  | ⟨0, _⟩ => show win0_1.index t 0 * 1024 + 1 * r.val = 1024 * (t.val % 8) + r.val; omega
  | ⟨1, _⟩ => show win0_1.index t 1 * 512 + 1 * q.val = t.val / 8 * 512 + q.val; omega

theorem block_factor (t : Fin cfg0.N) (q : Fin 512) : (iblk m c 2 t : Vec Ideal S1x512 .f32) (ix2 0 q) = factor m c (ix2 0 (colAt (groupAt t) q)) := by
  unfold iblk
  rw [View.read_apply]
  refine (congrFun (V_main_arg2 m c) _).trans (congrArg (factor m c) (funext fun a => Fin.ext ?_))
  have e0 : win0_2.index t 0 = 0 := (index_at t).2.2.1 0
  have e1 : win0_2.index t 1 = t.val / 8 := (index_at t).2.2.1 1
  match a with
  | ⟨0, _⟩ => show win0_2.index t 0 * 1 + 1 * 0 = 0; omega
  | ⟨1, _⟩ => show win0_2.index t 1 * 512 + 1 * q.val = t.val / 8 * 512 + q.val; omega

theorem block_weight (t : Fin cfg0.N) (k q : Fin 512) : (iblk m c 3 t : Vec Ideal S1x512x512 .bf16) (ix3 0 k q) = weight m c (ix3 (groupAt t) k q) := by
  unfold iblk
  rw [View.read_apply]
  refine (congrArg (V m c main_v7) (funext fun a => Fin.ext ?_)).trans (V_weight m c (groupAt t) k q)
  have e0 : win0_3.index t 0 = t.val / 8 := (index_at t).2.2.2.1 0
  have e1 : win0_3.index t 1 = 0 := (index_at t).2.2.2.1 1
  have e2 : win0_3.index t 2 = 0 := (index_at t).2.2.2.1 2
  match a with
  | ⟨0, _⟩ => show win0_3.index t 0 * 1 + 1 * 0 = t.val / 8; omega
  | ⟨1, _⟩ => show win0_3.index t 1 * 512 + 1 * k.val = k.val; omega
  | ⟨2, _⟩ => show win0_3.index t 2 * 512 + 1 * q.val = q.val; omega

/-! ## What a point leaves -/

theorem own_dmix (t : Fin cfg0.N) (r : Fin 1024) (q : Fin 512) :
    (own m c t).1 (ix2 r q) = dmix (factor m c) (grad m c) (rowAt t.val r) (colAt (groupAt t) q) := by
  refine (scaled_apply _ _ r q).trans ?_
  rw [block_grad, block_factor]
  rfl

theorem own_dpool (t : Fin cfg0.N) (r : Fin 1024) (k : Fin 512) :
    (own m c t).2.1 (ix2 r k) = dpool (weight m c) (factor m c) (grad m c) (rowAt t.val r) (groupAt t) k := by
  refine (pooled_apply _ _ _ r k).trans (Finset.sum_congr rfl fun q _ => ?_)
  rw [block_grad, block_factor, block_weight]
  rfl

theorem own_share (t : Fin cfg0.N) (q : Fin 512) :
    (own m c t).2.2 (ix2 0 q) = ∑ r, term (pooled m c) (weight m c) (grad m c) (groupAt t) q (rowAt t.val r) := by
  refine (share_apply _ _ q).trans (Finset.sum_congr rfl fun r _ => ?_)
  rw [block_grad, block_mixed]
  rfl

theorem sums_upto : ∀ (n : Nat) (h : n < cfg0.N) (q : Fin 512), (outsAt0 m c n h).2.2 (ix2 0 q)
    = ∑ s ∈ Finset.range (n % 8 + 1), ∑ r, term (pooled m c) (weight m c) (grad m c) (groupAt ⟨n, h⟩) q (rowAt s r) := by
  have same : ∀ (n : Nat) (r : Fin 1024), rowAt (n % 8) r = rowAt n r := fun n r => Fin.ext (by show 1024 * (n % 8 % 8) + r.val = 1024 * (n % 8) + r.val; omega)
  have first : ∀ (n : Nat) (h : n < cfg0.N) (q : Fin 512), n % 8 = 0 → (outsAt0 m c n h).2.2 (ix2 0 q)
      = ∑ s ∈ Finset.range (n % 8 + 1), ∑ r, term (pooled m c) (weight m c) (grad m c) (groupAt ⟨n, h⟩) q (rowAt s r) := fun n h q h0 => by
    rw [show outsAt0 m c n h = _ from outs_first m c ⟨n, h⟩ h0, own_share, h0, Finset.sum_range_one]
    exact Finset.sum_congr rfl fun r _ => congrArg _ ((same n r).symm.trans (congrArg (rowAt · r) h0))
  intro n
  induction n with
  | zero => exact fun h q => first 0 h q rfl
  | succ n ih =>
    intro h q
    by_cases h0 : (n + 1) % 8 = 0
    · exact first (n + 1) h q h0
    · have hg : groupAt ⟨n, Nat.lt_of_succ_lt h⟩ = groupAt ⟨n + 1, h⟩ := Fin.ext (by show n / 8 = (n + 1) / 8; omega)
      have i := ih (Nat.lt_of_succ_lt h) q
      rw [hg, show n % 8 + 1 = (n + 1) % 8 by omega] at i
      rw [show outsAt0 m c (n + 1) h = _ from outs_next m c ⟨n + 1, h⟩ h0, Finset.sum_range_succ]
      refine (add_apply _ _ _ q).trans (congrArg₂ (· + ·) i ((own_share m c ⟨n + 1, h⟩ q).trans ?_))
      exact Finset.sum_congr rfl fun r _ => congrArg _ (same (n + 1) r).symm

/-! ## The result arrays -/

/-- The group of a column, and its place there. -/
def groupOf (n : Fin 2048) : Fin 4 := ⟨n.val / 512, by omega⟩
def placeOf (n : Fin 2048) : Fin 512 := ⟨n.val % 512, by omega⟩

theorem colAt_of (n : Fin 2048) : colAt (groupOf n) (placeOf n) = n := Fin.ext (by show n.val / 512 * 512 + n.val % 512 = n.val; omega)
theorem groupOf_col (g : Fin 4) (q : Fin 512) : groupOf (colAt g q) = g := Fin.ext (colAt_div g q)
theorem placeOf_col (g : Fin 4) (q : Fin 512) : placeOf (colAt g q) = q := Fin.ext (colAt_mod g q)

def dmixArray : FVec Ideal S8192x2048 .bf16 := fun i => dmix (factor m c) (grad m c) (i 0) (i 1)
def dpoolArray : FVec Ideal S8192x2048 .f32 := fun i => dpool (weight m c) (factor m c) (grad m c) (i 0) (groupOf (i 1)) (placeOf (i 1))
def scaleArray : FVec Ideal S1x2048 .f32 := fun i => ∑ r, term (pooled m c) (weight m c) (grad m c) (groupOf (i 1)) (placeOf (i 1)) r

theorem dmix_flushed (t : Fin cfg0.N) (_ : (cfg0.win 4).flush t = true) :
    (dats m 0 c).flushed 4 t = ((cfg0.win 4).blk t).view.read (Elt Ideal) (dmixArray m c) := by
  rw [Value.flushed4, (own_first m c t).1]
  funext j
  obtain ⟨r, q, rfl⟩ : ∃ (r : Fin 1024) (q : Fin 512), j = ix2 r q := ⟨j 0, j 1, eq_ix2 j⟩
  show (own m c t).1 (ix2 r q) = _
  rw [own_dmix, View.read_apply]
  have e0 : win0_4.index t 0 = t.val % 8 := (index_at t).2.2.2.2.1 0
  have e1 : win0_4.index t 1 = t.val / 8 := (index_at t).2.2.2.2.1 1
  refine Eq.trans (b := dmixArray m c (ix2 (rowAt t.val r) (colAt (groupAt t) q))) rfl (congrArg (dmixArray m c) (funext fun a => Fin.ext ?_)).symm
  match a with
  | ⟨0, _⟩ => show win0_4.index t 0 * 1024 + 1 * r.val = 1024 * (t.val % 8) + r.val; omega
  | ⟨1, _⟩ => show win0_4.index t 1 * 512 + 1 * q.val = t.val / 8 * 512 + q.val; omega

theorem dpool_flushed (t : Fin cfg0.N) (_ : (cfg0.win 5).flush t = true) :
    (dats m 0 c).flushed 5 t = ((cfg0.win 5).blk t).view.read (Elt Ideal) (dpoolArray m c) := by
  rw [Value.flushed5, (own_first m c t).2]
  funext j
  obtain ⟨r, q, rfl⟩ : ∃ (r : Fin 1024) (q : Fin 512), j = ix2 r q := ⟨j 0, j 1, eq_ix2 j⟩
  show (own m c t).2.1 (ix2 r q) = _
  rw [own_dpool, View.read_apply]
  have e0 : win0_5.index t 0 = t.val % 8 := (index_at t).2.2.2.2.2.1 0
  have e1 : win0_5.index t 1 = t.val / 8 := (index_at t).2.2.2.2.2.1 1
  refine Eq.trans (b := dpoolArray m c (ix2 (rowAt t.val r) (colAt (groupAt t) q))) ?_ (congrArg (dpoolArray m c) (funext fun a => Fin.ext ?_)).symm
  · show _ = dpool _ _ _ (rowAt t.val r) (groupOf (colAt (groupAt t) q)) (placeOf (colAt (groupAt t) q))
    rw [groupOf_col, placeOf_col]
  match a with
  | ⟨0, _⟩ => show win0_5.index t 0 * 1024 + 1 * r.val = 1024 * (t.val % 8) + r.val; omega
  | ⟨1, _⟩ => show win0_5.index t 1 * 512 + 1 * q.val = t.val / 8 * 512 + q.val; omega

theorem scale_flushed (t : Fin cfg0.N) (hf : (cfg0.win 6).flush t = true) :
    (dats m 0 c).flushed 6 t = ((cfg0.win 6).blk t).view.read (Elt Ideal) (scaleArray m c) := by
  rw [Value.flushed6]
  have hl : t.val % 8 = 7 := (flush0_6 t).mp hf
  funext j
  obtain ⟨r, q, rfl⟩ : ∃ (r : Fin 1) (q : Fin 512), j = ix2 r q := ⟨j 0, j 1, eq_ix2 j⟩
  obtain rfl : r = 0 := Subsingleton.elim _ _
  show (outsAt0 m c t.val t.isLt).2.2 (ix2 0 q) = _
  rw [sums_upto, hl, sum_blocks, View.read_apply]
  have e0 : win0_6.index t 0 = 0 := (index_at t).2.2.2.2.2.2 0
  have e1 : win0_6.index t 1 = t.val / 8 := (index_at t).2.2.2.2.2.2 1
  refine Eq.trans (b := scaleArray m c (ix2 0 (colAt (groupAt t) q))) ?_ (congrArg (scaleArray m c) (funext fun a => Fin.ext ?_)).symm
  · show _ = ∑ r, term _ _ _ (groupOf (colAt (groupAt t) q)) (placeOf (colAt (groupAt t) q)) r
    rw [groupOf_col, placeOf_col]
  match a with
  | ⟨0, _⟩ => show win0_6.index t 0 * 1 + 1 * 0 = 0; omega
  | ⟨1, _⟩ => show win0_6.index t 1 * 512 + 1 * q.val = t.val / 8 * 512 + q.val; omega

/-- Every row and column lies in some point's block. -/
theorem point_of (r n : ℕ) (hr : r < 8192) (hn : n < 2048) : ∃ t : Fin cfg0.N, t.val / 8 = n / 512 ∧ t.val % 8 = r / 1024 := by
  have hN : cfg0.N = 32 := N_0
  exact ⟨⟨8 * (n / 512) + r / 1024, by omega⟩, by show (8 * (n / 512) + r / 1024) / 8 = _; omega, by show (8 * (n / 512) + r / 1024) % 8 = _; omega⟩

theorem dmix_final : (dats m 0 c).arrAt 4 cfg0.N = dmixArray m c :=
  (dats m 0 c).arrAt_eq_of_cover 4 _ (dmix_flushed m c) fun i => by
    obtain ⟨t, p, q⟩ := point_of (i 0 : Nat) (i 1 : Nat) (i 0).isLt (i 1).isLt
    refine ⟨t, flush0_4 t, ?_⟩
    show i ∈ ((View.whole main_v8_0).slice (win0_4.rect t)).set
    rw [View.set_slice_whole, Rect.mem_set_unit]
    have e0 : win0_4.index t 0 = t.val % 8 := (index_at t).2.2.2.2.1 0
    have e1 : win0_4.index t 1 = t.val / 8 := (index_at t).2.2.2.2.1 1
    intro a
    match a with
    | ⟨0, _⟩ => show win0_4.index t 0 * 1024 ≤ (i 0 : Nat) ∧ (i 0 : Nat) < win0_4.index t 0 * 1024 + 1024; omega
    | ⟨1, _⟩ => show win0_4.index t 1 * 512 ≤ (i 1 : Nat) ∧ (i 1 : Nat) < win0_4.index t 1 * 512 + 512; omega

theorem dpool_final : (dats m 0 c).arrAt 5 cfg0.N = dpoolArray m c :=
  (dats m 0 c).arrAt_eq_of_cover 5 _ (dpool_flushed m c) fun i => by
    obtain ⟨t, p, q⟩ := point_of (i 0 : Nat) (i 1 : Nat) (i 0).isLt (i 1).isLt
    refine ⟨t, flush0_5 t, ?_⟩
    show i ∈ ((View.whole main_v8_1).slice (win0_5.rect t)).set
    rw [View.set_slice_whole, Rect.mem_set_unit]
    have e0 : win0_5.index t 0 = t.val % 8 := (index_at t).2.2.2.2.2.1 0
    have e1 : win0_5.index t 1 = t.val / 8 := (index_at t).2.2.2.2.2.1 1
    intro a
    match a with
    | ⟨0, _⟩ => show win0_5.index t 0 * 1024 ≤ (i 0 : Nat) ∧ (i 0 : Nat) < win0_5.index t 0 * 1024 + 1024; omega
    | ⟨1, _⟩ => show win0_5.index t 1 * 512 ≤ (i 1 : Nat) ∧ (i 1 : Nat) < win0_5.index t 1 * 512 + 512; omega

theorem scale_final : (dats m 0 c).arrAt 6 cfg0.N = scaleArray m c :=
  (dats m 0 c).arrAt_eq_of_cover 6 _ (scale_flushed m c) fun i => by
    have h0 : (i 0 : Nat) < 1 := (i 0).isLt
    obtain ⟨t, p, q⟩ := point_of 8191 (i 1 : Nat) (by omega) (i 1).isLt
    refine ⟨t, (flush0_6 t).mpr q, ?_⟩
    show i ∈ ((View.whole main_v8_2).slice (win0_6.rect t)).set
    rw [View.set_slice_whole, Rect.mem_set_unit]
    have e0 : win0_6.index t 0 = 0 := (index_at t).2.2.2.2.2.2 0
    have e1 : win0_6.index t 1 = t.val / 8 := (index_at t).2.2.2.2.2.2 1
    intro a
    match a with
    | ⟨0, _⟩ => show win0_6.index t 0 * 1 ≤ (i 0 : Nat) ∧ (i 0 : Nat) < win0_6.index t 0 * 1 + 1; omega
    | ⟨1, _⟩ => show win0_6.index t 1 * 512 ≤ (i 1 : Nat) ∧ (i 1 : Nat) < win0_6.index t 1 * 512 + 512; omega

end Cert.MixValue

end
-- ==== Proof.MixClaim.lean ====
/-
  The claims of the mixing's backward call: the reference's frame, and that the two programs' results are equal over the
  extended reals, whatever the arguments hold.
-/
module

public import proofs.«01_k».proof.Defs
public import proofs.«01_k».proof.Proof.Gen.Mix.Frame
public import proofs.«01_k».proof.Proof.Gen.MixRefIdeal.Run
public import proofs.«01_k».proof.Proof.MixArray
public import Idealize.ShloMosaic.Lib.Claim

@[expose] public section

set_option maxRecDepth 16384

noncomputable section

namespace Cert.MixValue

open Idealize.ShloMosaic Idealize.ShloMosaic.TcCoe Idealize.SL.Sem

theorem frame_ref : Cert.quiescent_MixRefIdeal := fun m g _ =>
  (θ_run Cert.MixRefIdeal.defs _ _).mono (fun r h => ⟨fun c => (h c).2.2.2, sem_eq_zero_of_no_sems (by decide) r.2⟩)
    (Cert.MixRefIdeal.Value.run m g)

theorem value : Cert.algebraic_MixIdeal_MixRefIdeal := by
  intro m g m' g' _ hag
  refine ⟨_, _, _, Cert.MixIdeal.Value.run_blocks m g, (θ_run Cert.MixRefIdeal.defs _ _).mono (fun r h c => ?_) (Cert.MixRefIdeal.Value.run m' g')⟩
  obtain ⟨hr0, hr1, hr2, ha⟩ := h c
  obtain ⟨e0, e1, e2, e3⟩ := hag c
  refine ⟨hr0.trans ?_, hr1.trans ?_, hr2.trans ?_, ha⟩
  · rw [e2, e3]
    refine (Cert.MixRefIdeal.Read.val_main_v13_eq _ _).trans ?_
    rw [dmix_final m c]
    funext i
    obtain ⟨r, n, rfl⟩ : ∃ (r : Fin 8192) (n : Fin 2048), i = ix2 r n := ⟨i 0, i 1, eq_ix2 i⟩
    exact refDmix_apply (factor m c) (grad m c) r n
  · rw [e1, e2, e3]
    refine (Cert.MixRefIdeal.Read.val_main_v18_eq _ _ _).trans ?_
    rw [dpool_final m c]
    funext i
    obtain ⟨r, n, rfl⟩ : ∃ (r : Fin 8192) (n : Fin 2048), i = ix2 r n := ⟨i 0, i 1, eq_ix2 i⟩
    exact (congrArg (fun n => Cert.MixRefIdeal.Read.val_main_v18 (F := Ideal) (weight m c) (factor m c) (grad m c) (ix2 r n)) (colAt_of n).symm).trans
      (refDpool_apply (weight m c) (factor m c) (grad m c) r (groupOf n) (placeOf n))
  · rw [e0, e1, e3]
    refine (Cert.MixRefIdeal.Read.val_main_v10_eq _ _ _).trans ?_
    rw [scale_final m c]
    funext i
    obtain ⟨r, n, rfl⟩ : ∃ (r : Fin 1) (n : Fin 2048), i = ix2 r n := ⟨i 0, i 1, eq_ix2 i⟩
    obtain rfl : r = 0 := Subsingleton.elim _ _
    exact (congrArg (fun n => Cert.MixRefIdeal.Read.val_main_v10 (F := Ideal) (pooled m c) (weight m c) (grad m c) (ix2 0 n)) (colAt_of n).symm).trans
      (refScale_apply (pooled m c) (weight m c) (grad m c) (groupOf n) (placeOf n))

end Cert.MixValue

end
-- ==== Proof.ScanBlock.lean ====
/-
  One chunk of 256 rows of the scan, as the kernel computes it for the eight heads of a group: the operations in their own
  text, in which the four chunks of a grid point are the same function of their rows.
-/
module

public import proofs.«01_k».proof.Proof.Gen.ScanIdeal.Skeleton

@[expose] public section

set_option maxRecDepth 16384

noncomputable section

namespace Cert.ScanValue

open Idealize.ShloMosaic Idealize.ShloMosaic.TcCoe Idealize.SL.Sem
open Cert.ScanIdeal Cert.ScanIdeal.Gen

variable {F : FTy → Type} [FloatOps F] [Named F]

/-- The logarithm of one plus the exponential, formed without overflow. -/
def soft {S : Shape} (v : FVec F S .f32) : FVec F S .f32 :=
  addf (maximumf v (broadcast S (Scalar.ofBits .f32 0x00000000#32)))
    (log (addf (broadcast S (Scalar.ofBits .f32 0x3F800000#32)) (exp (subf (broadcast S (Scalar.ofBits .f32 0x00000000#32)) (absf v)))))

/-- A number's nearest short float, and what that leaves out. -/
def short {S : Shape} (v : FVec F S .f32) : FVec F S .bf16 := truncf .bf16 v bitsLt_bf16_f32
def left {S : Shape} (v : FVec F S .f32) : FVec F S .f32 := subf v (extf .f32 (short v) bitsLt_bf16_f32)

/-- Minus the exponential. -/
def rate {S : Shape} (v : FVec F S .f32) : FVec F S .f32 := subf (broadcast S (Scalar.ofBits .f32 0x00000000#32)) (exp v)

/-- The number of the head of each of a group's 512 columns, counted from the group's first. -/
def headOf : IVec S128x512 32 :=
  select (andi (cmpi .ne k0_pay8 (broadcast S128x512 (Scalar.subi (Scalar.extui (Scalar.cmpi .sgt 64#32 0#32)) (Scalar.extui (Scalar.cmpi .slt 64#32 0#32)))))
      (cmpi .ne (remsi (iota .tc S128x512 32 [1] iota_S128x512_d1_w32) (broadcast S128x512 64#32)) (broadcast S128x512 0#32)))
    (subi k0_pay7 (broadcast S128x512 1#32)) k0_pay7

/-- Ones where a row's number is that of the column's head. -/
def spread (j : BitVec 32) : FVec F S128x512 .bf16 :=
  short (sitofp .f32 (extui 32 (cmpi .eq (iota .tc S128x512 32 [0] iota_S128x512_d0_w32) (addi (broadcast S128x512 (Scalar.muli 8#32 j)) headOf)) natLt_1_32))

/-- A row's step size at each of the columns. -/
def dt (j : BitVec 32) (raw : FVec F S256x128 .f32) : FVec F S256x512 .f32 :=
  addf (addf (matmul dot_S256x128_S128x512_S256x512_1_0_0_1_n_n none (short (soft raw)) (spread j) (constant S256x512 .f32 0x00000000#32))
      (matmul dot_S256x128_S128x512_S256x512_1_0_0_1_n_n none (short (left (soft raw))) (spread j) (constant S256x512 .f32 0x00000000#32)))
    (matmul dot_S256x128_S128x512_S256x512_1_0_0_1_n_n none (short (left (left (soft raw)))) (spread j) (constant S256x512 .f32 0x00000000#32))

def rowNo : IVec S256x256 32 := iota .tc S256x256 32 [0] iota_S256x256_d0_w32
def colNo : IVec S256x256 32 := iota .tc S256x256 32 [1] iota_S256x256_d1_w32
def causal : IVec S256x256 1 := cmpi .sge rowNo colNo
def lower : FVec F S256x256 .bf16 := short (sitofp .f32 (extui 32 causal natLt_1_32))
def upper : FVec F S256x256 .bf16 := short (sitofp .f32 (extui 32 (cmpi .sle rowNo colNo) natLt_1_32))

/-- The sums of the decays up to each row: by columns, … -/
def sums (v : FVec F S256x512 .f32) : FVec F S256x512 .f32 :=
  addf (addf (matmul dot_S256x256_S256x512_S256x512_1_0_0_1_n_n none lower (short v) (constant S256x512 .f32 0x00000000#32))
      (matmul dot_S256x256_S256x512_S256x512_1_0_0_1_n_n none lower (short (left v)) (constant S256x512 .f32 0x00000000#32)))
    (matmul dot_S256x256_S256x512_S256x512_1_0_0_1_n_n none lower (short (left (left v))) (constant S256x512 .f32 0x00000000#32))
def acum (d : FVec F S256x512 .f32) (al : FVec F S1x512 .f32) : FVec F S256x512 .f32 :=
  sums (mulf d (broadcastTo S256x512 (rate al) broadcasts_S1x512_S256x512))

/-- … and with the rows along the second axis. -/
def sumsT (v : FVec F S8x256 .f32) : FVec F S8x256 .f32 :=
  addf (addf (matmul dot_S8x256_S256x256_S8x256_1_0_0_1_n_n none (short v) upper (constant S8x256 .f32 0x00000000#32))
      (matmul dot_S8x256_S256x256_S8x256_1_0_0_1_n_n none (short (left v)) upper (constant S8x256 .f32 0x00000000#32)))
    (matmul dot_S8x256_S256x256_S8x256_1_0_0_1_n_n none (short (left (left v))) upper (constant S8x256 .f32 0x00000000#32))
def acumT (raw : FVec F S8x256 .f32) (al : FVec F S8x1 .f32) : FVec F S8x256 .f32 :=
  sumsT (mulf (soft raw) (broadcastTo S8x256 (rate al) broadcasts_S8x1_S8x256))

/-- One head's share of the rows' outputs: the products of the rows with those before them, weighed by the decay between them. -/
def head (a : FVec F S256x1 .f32) (b : FVec F S1x256 .f32) (cb : FVec F S256x256 .f32) (x : FVec F S256x128 .bf16) : FVec F S256x128 .f32 :=
  matmul dot_S256x256_S256x128_S256x128_1_0_0_1_n_n none
    (short (mulf cb (exp (select causal (subf (broadcastTo S256x256 a broadcasts_S256x1_S256x256) (broadcastTo S256x256 b broadcasts_S1x256_S256x256))
      (broadcast S256x256 (Named.named κ "mask" 0xF149F2CA#32)))))) x (constant S256x128 .f32 0x00000000#32)

/-- Two heads side by side. -/
def pair (a₀ : FVec F S256x1 .f32) (b₀ : FVec F S1x256 .f32) (a₁ : FVec F S256x1 .f32) (b₁ : FVec F S1x256 .f32) (cb : FVec F S256x256 .f32) (x : FVec F S256x128 .bf16) :
    FVec F S256x128 .f32 := select k0_pay21 (head a₀ b₀ cb x) (head a₁ b₁ cb x)

/-- The chunk's outputs: two heads in each of four blocks of columns. -/
def output (a : FVec F S256x512 .f32) (b : FVec F S8x256 .f32) (cb : FVec F S256x256 .f32) (x : FVec F S256x512 .bf16) (rest : FVec F S256x512 .f32) : FVec F S256x512 .f32 :=
  addf (concatenate S256x512 1
    [⟨S256x128, pair (extractStridedSlice S256x1 ![0, 0] a slices_S256x512_o0_0_S256x1) (extractStridedSlice S1x256 ![0, 0] b slices_S8x256_o0_0_S1x256) (extractStridedSlice S256x1 ![0, 64] a slices_S256x512_o0_64_S256x1) (extractStridedSlice S1x256 ![1, 0] b slices_S8x256_o1_0_S1x256)
        cb (extractStridedSlice S256x128 ![0, 0] x slices_S256x512_o0_0_S256x128)⟩,
      ⟨S256x128, pair (extractStridedSlice S256x1 ![0, 128] a slices_S256x512_o0_128_S256x1) (extractStridedSlice S1x256 ![2, 0] b slices_S8x256_o2_0_S1x256) (extractStridedSlice S256x1 ![0, 192] a slices_S256x512_o0_192_S256x1) (extractStridedSlice S1x256 ![3, 0] b slices_S8x256_o3_0_S1x256)
        cb (extractStridedSlice S256x128 ![0, 128] x slices_S256x512_o0_128_S256x128)⟩,
      ⟨S256x128, pair (extractStridedSlice S256x1 ![0, 256] a slices_S256x512_o0_256_S256x1) (extractStridedSlice S1x256 ![4, 0] b slices_S8x256_o4_0_S1x256) (extractStridedSlice S256x1 ![0, 320] a slices_S256x512_o0_320_S256x1) (extractStridedSlice S1x256 ![5, 0] b slices_S8x256_o5_0_S1x256)
        cb (extractStridedSlice S256x128 ![0, 256] x slices_S256x512_o0_256_S256x128)⟩,
      ⟨S256x128, pair (extractStridedSlice S256x1 ![0, 384] a slices_S256x512_o0_384_S256x1) (extractStridedSlice S1x256 ![6, 0] b slices_S8x256_o6_0_S1x256) (extractStridedSlice S256x1 ![0, 448] a slices_S256x512_o0_448_S256x1) (extractStridedSlice S1x256 ![7, 0] b slices_S8x256_o7_0_S1x256)
        cb (extractStridedSlice S256x128 ![0, 384] x slices_S256x512_o0_384_S256x128)⟩]
    concatenates_S256x128_S256x128_S256x128_S256x128_S256x512_d1) rest

/-- The output times the gate, and its normalisation over the group's columns. -/
def gated (y z : FVec F S256x512 .f32) : FVec F S256x512 .f32 :=
  mulf y (mulf z (divf (broadcast S256x512 (Scalar.ofBits .f32 0x3F800000#32))
    (addf (broadcast S256x512 (Scalar.ofBits .f32 0x3F800000#32)) (exp (subf (broadcast S256x512 (Scalar.ofBits .f32 0x00000000#32)) z)))))
def normed (g : FVec F S256x512 .f32) (w : FVec F S1x512 .f32) : FVec F S256x512 .bf16 :=
  short (mulf (mulf g (broadcastTo S256x512 (rsqrt (addf (divf (shapeCast S256x1 (multiReduction .add [1] S256 (mulf g g) 0x00000000#32 reduces_S256x512_S256 (.inl rfl) rfl)
      shapeCasts_S256_S256x1) (broadcast S256x1 (Scalar.ofBits .f32 0x44000000#32))) (broadcast S256x1 (Scalar.ofBits .f32 0x3727C5AC#32)))) broadcasts_S256x1_S256x512))
    (broadcastTo S256x512 w broadcasts_S1x512_S256x512))

/-- The rows of one chunk, and what all chunks of a group share. -/
structure Rows (F : FTy → Type) where
  d : Vec F S256x128 .f32
  dT : Vec F S1x8x256 .f32
  xs : Vec F S256x512 .f32
  b : Vec F S256x128 .f32
  c : Vec F S256x128 .f32
  z : Vec F S256x512 .f32

structure Shared (F : FTy → Type) where
  j : BitVec 32
  bw : Vec F S1x128 .f32
  bc : Vec F S1x8x1 .f32
  al : Vec F S1x512 .f32
  alT : Vec F S1x8x1 .f32
  ds : Vec F S1x512 .f32
  w : Vec F S1x512 .f32

variable (p : Shared F) (r : Rows F) (h : Vec F S128x512 .f32)

def chunkDt : FVec F S256x512 .f32 := dt p.j (k0_pay3 r.d p.bw)
def chunkSums : FVec F S256x512 .f32 := acum (chunkDt p r) (k0_pay5 p.al)
def chunkSumsT : FVec F S8x256 .f32 := acumT (k0_pay4 r.dT p.bc) (k0_pay6 p.alT)
/-- The chunk's outputs, the mixed outputs, and the state after it. -/
def chunkOut : FVec F S256x512 .f32 :=
  output (chunkSums p r) (chunkSumsT p r) (k0_pay18 r.b r.c) (k0_pay17 (chunkDt p r) r.xs) (k0_pay20 h (chunkSums p r) r.xs r.c p.ds)
def chunkMixed : FVec F S256x512 .bf16 := normed (gated (chunkOut p r h) (shapeCast S256x512 r.z shapeCasts_S256x512_S256x512)) p.w
def chunkNext : FVec F S128x512 .f32 := k0_pay35 h (chunkSums p r) (k0_pay16 (chunkDt p r) r.xs) r.b

end Cert.ScanValue

end
-- ==== Proof.ScanRuns.lean ====
/-
  What one grid point of the scan's kernel leaves: its four chunks, one after the other, from the state that enters the first.
-/
module

public import proofs.«01_k».proof.Proof.Gen.ScanIdeal.Value
public import proofs.«01_k».proof.Proof.ScanBlock

@[expose] public section

set_option maxRecDepth 16384

noncomputable section

namespace Cert.ScanValue

open Idealize.ShloMosaic Idealize.ShloMosaic.TcCoe Idealize.ShloMosaic.Tactic Idealize.SL.Sem
open Cert.ScanIdeal Cert.ScanIdeal.Gen

variable {F : FTy → Type} [FloatOps F] [Named F] (m : (ℓ : Loc nD τ sig) → Buf (Elt F) ℓ)

theorem zero2 : (![0, 0] : Fin 2 → Nat) = fun _ => 0 := by decide
theorem zero3 : (![0, 0, 0] : Fin 3 → Nat) = fun _ => 0 := by decide

section
variable (x0 : Vec F S1024x512 .f32) (x1 x2 x3 : Vec F S1024x128 .f32) (x4 : Vec F S1x8x1024 .f32) (x10 : Vec F S1024x512 .f32)

/-- A point's four chunks of rows. -/
def rows0 : Rows F :=
  ⟨View.ld x3 (Rect.unit ![0, 0] ![256, 128] inb_S1024x128_S256x128_0_0), View.ld x4 (Rect.unit ![0, 0, 0] ![1, 8, 256] inb_S1x8x1024_S1x8x256_0_0_0),
    View.ld x0 (Rect.unit ![0, 0] ![256, 512] inb_S1024x512_S256x512_0_0), View.ld x1 (Rect.unit ![0, 0] ![256, 128] inb_S1024x128_S256x128_0_0),
    View.ld x2 (Rect.unit ![0, 0] ![256, 128] inb_S1024x128_S256x128_0_0), View.ld x10 (Rect.unit ![0, 0] ![256, 512] inb_S1024x512_S256x512_0_0)⟩
def rows1 : Rows F :=
  ⟨View.ld x3 (Rect.unit ![256, 0] ![256, 128] inb_S1024x128_S256x128_256_0), View.ld x4 (Rect.unit ![0, 0, 256] ![1, 8, 256] inb_S1x8x1024_S1x8x256_0_0_256),
    View.ld x0 (Rect.unit ![256, 0] ![256, 512] inb_S1024x512_S256x512_256_0), View.ld x1 (Rect.unit ![256, 0] ![256, 128] inb_S1024x128_S256x128_256_0),
    View.ld x2 (Rect.unit ![256, 0] ![256, 128] inb_S1024x128_S256x128_256_0), View.ld x10 (Rect.unit ![256, 0] ![256, 512] inb_S1024x512_S256x512_256_0)⟩
def rows2 : Rows F :=
  ⟨View.ld x3 (Rect.unit ![512, 0] ![256, 128] inb_S1024x128_S256x128_512_0), View.ld x4 (Rect.unit ![0, 0, 512] ![1, 8, 256] inb_S1x8x1024_S1x8x256_0_0_512),
    View.ld x0 (Rect.unit ![512, 0] ![256, 512] inb_S1024x512_S256x512_512_0), View.ld x1 (Rect.unit ![512, 0] ![256, 128] inb_S1024x128_S256x128_512_0),
    View.ld x2 (Rect.unit ![512, 0] ![256, 128] inb_S1024x128_S256x128_512_0), View.ld x10 (Rect.unit ![512, 0] ![256, 512] inb_S1024x512_S256x512_512_0)⟩
def rows3 : Rows F :=
  ⟨View.ld x3 (Rect.unit ![768, 0] ![256, 128] inb_S1024x128_S256x128_768_0), View.ld x4 (Rect.unit ![0, 0, 768] ![1, 8, 256] inb_S1x8x1024_S1x8x256_0_0_768),
    View.ld x0 (Rect.unit ![768, 0] ![256, 512] inb_S1024x512_S256x512_768_0), View.ld x1 (Rect.unit ![768, 0] ![256, 128] inb_S1024x128_S256x128_768_0),
    View.ld x2 (Rect.unit ![768, 0] ![256, 128] inb_S1024x128_S256x128_768_0), View.ld x10 (Rect.unit ![768, 0] ![256, 512] inb_S1024x512_S256x512_768_0)⟩
end

section
variable (p : Shared F) (r0 r1 r2 r3 : Rows F) (h : Vec F S128x512 .f32)

/-- The states after the first two, three and four chunks. -/
def next2 : Vec F S128x512 .f32 := chunkNext p r1 (chunkNext p r0 h)
def next3 : Vec F S128x512 .f32 := chunkNext p r2 (next2 p r0 r1 h)
def next4 : Vec F S128x512 .f32 := shapeCast S128x512 (chunkNext p r3 (next3 p r0 r1 r2 h)) shapeCasts_S128x512_S128x512

/-- A point's outputs, the states that enter its chunks, and its mixed outputs. -/
def outputs : Vec F S1024x512 .f32 :=
  View.canon [⟨Rect.unit ![768, 0] ![256, 512] inb_S1024x512_S256x512_768_0, chunkOut p r3 (next3 p r0 r1 r2 h)⟩,
    ⟨Rect.unit ![512, 0] ![256, 512] inb_S1024x512_S256x512_512_0, chunkOut p r2 (next2 p r0 r1 h)⟩,
    ⟨Rect.unit ![256, 0] ![256, 512] inb_S1024x512_S256x512_256_0, chunkOut p r1 (chunkNext p r0 h)⟩,
    ⟨Rect.unit ![0, 0] ![256, 512] inb_S1024x512_S256x512_0_0, chunkOut p r0 h⟩]
def entering : Vec F S1x4x128x512 .f32 :=
  View.canon [⟨Rect.unit ![0, 3, 0, 0] ![1, 1, 128, 512] inb_S1x4x128x512_S1x1x128x512_0_3_0_0, k0_pay19 (next3 p r0 r1 r2 h)⟩,
    ⟨Rect.unit ![0, 2, 0, 0] ![1, 1, 128, 512] inb_S1x4x128x512_S1x1x128x512_0_2_0_0, k0_pay19 (next2 p r0 r1 h)⟩,
    ⟨Rect.unit ![0, 1, 0, 0] ![1, 1, 128, 512] inb_S1x4x128x512_S1x1x128x512_0_1_0_0, k0_pay19 (chunkNext p r0 h)⟩,
    ⟨Rect.unit ![0, 0, 0, 0] ![1, 1, 128, 512] inb_S1x4x128x512_S1x1x128x512_0_0_0_0, k0_pay19 h⟩]
def mixed : Vec F S1024x512 .bf16 :=
  View.canon [⟨Rect.unit ![768, 0] ![256, 512] inb_S1024x512_S256x512_768_0, chunkMixed p r3 (next3 p r0 r1 r2 h)⟩,
    ⟨Rect.unit ![512, 0] ![256, 512] inb_S1024x512_S256x512_512_0, chunkMixed p r2 (next2 p r0 r1 h)⟩,
    ⟨Rect.unit ![256, 0] ![256, 512] inb_S1024x512_S256x512_256_0, chunkMixed p r1 (chunkNext p r0 h)⟩,
    ⟨Rect.unit ![0, 0] ![256, 512] inb_S1024x512_S256x512_0_0, chunkMixed p r0 h⟩]
end

section
variable (c : Dev nD) (i : grid0.Coords) (arg2 : Memref sig .tc .vmem S1024x512 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x8x1024 .f32) (harg6 : arg6.IsWhole) (arg7 : Memref sig .tc .vmem S1x128 .f32) (harg7 : arg7.IsWhole) (arg8 : Memref sig .tc .vmem S1x8x1 .f32) (harg8 : arg8.IsWhole) (arg9 : Memref sig .tc .vmem S1x512 .f32) (harg9 : arg9.IsWhole) (arg10 : Memref sig .tc .vmem S1x8x1 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1x512 .f32) (harg13 : arg13.IsWhole) (arg14 : Memref sig .tc .vmem S1024x512 .f32) (harg14 : arg14.IsWhole) (arg15 : Memref sig .tc .vmem S1x4x128x512 .f32) (harg15 : arg15.IsWhole) (arg16 : Memref sig .tc .vmem S1024x512 .bf16) (harg16 : arg16.IsWhole) (arg17 : Memref sig .tc .vmem S128x512 .f32) (harg17 : arg17.IsWhole)
  (x0 : Vec F S1024x512 .f32) (x1 : Vec F S1024x128 .f32) (x2 : Vec F S1024x128 .f32) (x3 : Vec F S1024x128 .f32) (x4 : Vec F S1x8x1024 .f32) (x5 : Vec F S1x128 .f32) (x6 : Vec F S1x8x1 .f32) (x7 : Vec F S1x512 .f32) (x8 : Vec F S1x8x1 .f32) (x9 : Vec F S1x512 .f32) (x10 : Vec F S1024x512 .f32) (x11 : Vec F S1x512 .f32) (h : Vec F S128x512 .f32)

/-- A point's three results and the state it hands on, from its blocks and the state that enters it. -/
def leaves : Vec F S1024x512 .f32 × Vec F S1x4x128x512 .f32 × Vec F S1024x512 .bf16 × Vec F S128x512 .f32 :=
  (outputs ⟨BitVec.ofNat 32 (i 0).val, x5, x6, x7, x8, x9, x11⟩ (rows0 x0 x1 x2 x3 x4 x10) (rows1 x0 x1 x2 x3 x4 x10) (rows2 x0 x1 x2 x3 x4 x10) (rows3 x0 x1 x2 x3 x4 x10) h,
    entering ⟨BitVec.ofNat 32 (i 0).val, x5, x6, x7, x8, x9, x11⟩ (rows0 x0 x1 x2 x3 x4 x10) (rows1 x0 x1 x2 x3 x4 x10) (rows2 x0 x1 x2 x3 x4 x10) h,
    mixed ⟨BitVec.ofNat 32 (i 0).val, x5, x6, x7, x8, x9, x11⟩ (rows0 x0 x1 x2 x3 x4 x10) (rows1 x0 x1 x2 x3 x4 x10) (rows2 x0 x1 x2 x3 x4 x10) (rows3 x0 x1 x2 x3 x4 x10) h,
    next4 ⟨BitVec.ofNat 32 (i 0).val, x5, x6, x7, x8, x9, x11⟩ (rows0 x0 x1 x2 x3 x4 x10) (rows1 x0 x1 x2 x3 x4 x10) (rows2 x0 x1 x2 x3 x4 x10) (rows3 x0 x1 x2 x3 x4 x10) h)

/-! A later point of a group runs on from the state before it. -/

set_option maxHeartbeats 4000000 in
theorem out0_B_12_eq (hc0 : ¬cond0_0 i) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 h =
    (leaves i x0 x1 x2 x3 x4 x5 x6 x7 x8 x9 x10 x11 h).1 := by
  unfold out0_B_12
  rw [View.read_writes_eq_canon _ _ _ (fun y => cover0_B_12 (y := y) ..)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S128x512) zero2,
    View.ld_unit_zero (S := S1x128) zero2, View.ld_unit_zero (S := S1x512) zero2, View.ld_unit_zero (S := S1x8x1) zero3]
  sl_kernel_rfl

set_option maxHeartbeats 4000000 in
theorem out0_B_13_eq (hc0 : ¬cond0_0 i) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 h =
    (leaves i x0 x1 x2 x3 x4 x5 x6 x7 x8 x9 x10 x11 h).2.1 := by
  unfold out0_B_13
  rw [View.read_writes_eq_canon _ _ _ (fun y => cover0_B_13 (y := y) ..)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S128x512) zero2,
    View.ld_unit_zero (S := S1x128) zero2, View.ld_unit_zero (S := S1x512) zero2, View.ld_unit_zero (S := S1x8x1) zero3]
  sl_kernel_rfl

set_option maxHeartbeats 4000000 in
theorem out0_B_14_eq (hc0 : ¬cond0_0 i) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 h =
    (leaves i x0 x1 x2 x3 x4 x5 x6 x7 x8 x9 x10 x11 h).2.2.1 := by
  unfold out0_B_14
  rw [View.read_writes_eq_canon _ _ _ (fun y => cover0_B_14 (y := y) ..)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S128x512) zero2,
    View.ld_unit_zero (S := S1x128) zero2, View.ld_unit_zero (S := S1x512) zero2, View.ld_unit_zero (S := S1x8x1) zero3]
  sl_kernel_rfl

set_option maxHeartbeats 4000000 in
theorem sout0_B_0_eq (hc0 : ¬cond0_0 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 h =
    (leaves i x0 x1 x2 x3 x4 x5 x6 x7 x8 x9 x10 x11 h).2.2.2 := by
  unfold sout0_B_0
  rw [View.read_writes_eq_canon _ _ _ (fun y => scover0_B_0 (y := y) ..)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S128x512) zero2,
    View.ld_unit_zero (S := S1x128) zero2, View.ld_unit_zero (S := S1x512) zero2, View.ld_unit_zero (S := S1x8x1) zero3, View.canon_unit_zero (S := S128x512) zero2]
  sl_kernel_rfl

/-! The first point of a group starts from the zero state. -/

set_option maxHeartbeats 4000000 in
theorem out0_A_12_eq (hc0 : cond0_0 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 =
    (leaves i x0 x1 x2 x3 x4 x5 x6 x7 x8 x9 x10 x11 k0_pay2).1 := by
  unfold out0_A_12
  rw [View.read_writes_eq_canon _ _ _ (fun y => cover0_A_12 (y := y) ..)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S128x512) zero2,
    View.ld_unit_zero (S := S1x128) zero2, View.ld_unit_zero (S := S1x512) zero2, View.ld_unit_zero (S := S1x8x1) zero3, View.canon_cons_unit_zero (S := S128x512) zero2, View.readCov_unit_zero (S := S128x512) _ zero2]
  sl_kernel_rfl

set_option maxHeartbeats 4000000 in
theorem out0_A_13_eq (hc0 : cond0_0 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 =
    (leaves i x0 x1 x2 x3 x4 x5 x6 x7 x8 x9 x10 x11 k0_pay2).2.1 := by
  unfold out0_A_13
  rw [View.read_writes_eq_canon _ _ _ (fun y => cover0_A_13 (y := y) ..)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S128x512) zero2,
    View.ld_unit_zero (S := S1x128) zero2, View.ld_unit_zero (S := S1x512) zero2, View.ld_unit_zero (S := S1x8x1) zero3, View.canon_cons_unit_zero (S := S128x512) zero2, View.readCov_unit_zero (S := S128x512) _ zero2]
  sl_kernel_rfl

set_option maxHeartbeats 4000000 in
theorem out0_A_14_eq (hc0 : cond0_0 i) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 =
    (leaves i x0 x1 x2 x3 x4 x5 x6 x7 x8 x9 x10 x11 k0_pay2).2.2.1 := by
  unfold out0_A_14
  rw [View.read_writes_eq_canon _ _ _ (fun y => cover0_A_14 (y := y) ..)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S128x512) zero2,
    View.ld_unit_zero (S := S1x128) zero2, View.ld_unit_zero (S := S1x512) zero2, View.ld_unit_zero (S := S1x8x1) zero3, View.canon_cons_unit_zero (S := S128x512) zero2, View.readCov_unit_zero (S := S128x512) _ zero2]
  sl_kernel_rfl

set_option maxHeartbeats 4000000 in
theorem sout0_A_0_eq (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 =
    (leaves i x0 x1 x2 x3 x4 x5 x6 x7 x8 x9 x10 x11 k0_pay2).2.2.2 := by
  unfold sout0_A_0
  rw [View.read_writes_eq_canon _ _ _ (fun y => scover0_A_0 (y := y) ..)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S128x512) zero2,
    View.ld_unit_zero (S := S1x128) zero2, View.ld_unit_zero (S := S1x512) zero2, View.ld_unit_zero (S := S1x8x1) zero3, View.canon_cons_unit_zero (S := S128x512) zero2, View.readCov_unit_zero (S := S128x512) _ zero2]
  sl_kernel_rfl
end

section
variable (c : Dev nD) (t : Fin cfg0.N)

/-- What point `t` leaves when the state `h` enters it. -/
def left0 (h : Vec F S128x512 .f32) : Vec F S1024x512 .f32 × Vec F S1x4x128x512 .f32 × Vec F S1024x512 .bf16 × Vec F S128x512 .f32 :=
  leaves (grid0.coords t) (iblk m c 0 t) (iblk m c 1 t) (iblk m c 2 t) (iblk m c 3 t) (iblk m c 4 t) (iblk m c 5 t) (iblk m c 6 t) (iblk m c 7 t) (iblk m c 8 t)
    (iblk m c 9 t) (X0_10 m c t) (iblk m c 11 t) h

theorem outs_first (h0 : t.val % 8 = 0) : outsAt0 m c t.val t.isLt = left0 m c t k0_pay2 := by
  refine (outsAt0_A m c t h0).trans ?_
  unfold left0
  rw [out0_A_12_eq, out0_A_13_eq, out0_A_14_eq, sout0_A_0_eq]

theorem outs_next (h0 : ¬t.val % 8 = 0) :
    outsAt0 m c t.val t.isLt = left0 m c t (outsAt0 m c (t.val - 1) (lt_of_le_of_lt (Nat.sub_le _ _) t.isLt)).2.2.2 := by
  refine (outsAt0_B m c t h0).trans ?_
  generalize outsAt0 m c (t.val - 1) _ = q
  unfold left0
  rw [out0_B_12_eq, out0_B_13_eq, out0_B_14_eq, sout0_B_0_eq]

end

end Cert.ScanValue

end
-- ==== Proof.ScanSpec.lean ====
/-
  One chunk of 256 rows of one group of the scan, as mathematics: the step sizes, the sums of the decays, the outputs and the
  state left, from the rows of the arguments.
-/
module

public import proofs.«01_k».proof.Proof.RealLift

@[expose] public section

noncomputable section

namespace Cert.ScanValue

open Idealize.ShloMosaic

/-- What a chunk's results depend on: the step sizes before their function is applied, the decays' logarithms, the inputs, the
    two projections onto the state, the factor of the skip connection, the gate and the normalisation's weights. -/
structure Chunk where
  d : Fin 256 → Fin 8 → ℝ
  al : Fin 8 → ℝ
  x : Fin 256 → Fin 512 → EReal
  b : Fin 256 → Fin 128 → EReal
  c : Fin 256 → Fin 128 → EReal
  ds : Fin 512 → EReal
  z : Fin 256 → Fin 512 → EReal
  w : Fin 512 → EReal

/-- The head, among the group's eight, to which a column belongs. -/
def headAt (c : Fin 512) : Fin 8 := ⟨c.val / 64, by omega⟩

/-- The logarithm of one plus the exponential. -/
def softplus (x : ℝ) : ℝ := max x 0 + Real.log (1 + Real.exp (-|x|))

namespace Chunk
variable (u : Chunk) (h : Fin 128 → Fin 512 → EReal)

def step (s : Fin 256) (e : Fin 8) : ℝ := softplus (u.d s e)
def fall (s : Fin 256) (e : Fin 8) : ℝ := u.step s e * -Real.exp (u.al e)
def cum (s : Fin 256) (e : Fin 8) : ℝ := ∑ t : Fin 256, if t ≤ s then u.fall t e else 0

/-- How much of row `t` is left at row `s`. -/
def decay (s t : Fin 256) (e : Fin 8) : EReal := Ideal.exp (if t ≤ s then ((u.cum s e - u.cum t e : ℝ) : EReal) else ⊥)
def xdt (s : Fin 256) (c : Fin 512) : EReal := u.x s c * (u.step s (headAt c) : EReal)
def cb (s t : Fin 256) : EReal := ∑ n : Fin 128, u.c s n * u.b t n

/-- The outputs, where `h` is the state that enters the chunk, … -/
def out (s : Fin 256) (c : Fin 512) : EReal :=
  (∑ t : Fin 256, u.cb s t * u.decay s t (headAt c) * u.xdt t c) +
    ((∑ n : Fin 128, u.c s n * h n c) * ((Real.exp (u.cum s (headAt c)) : ℝ) : EReal) + u.ds c * u.x s c)
/-- … the state that leaves it, … -/
def next (n : Fin 128) (c : Fin 512) : EReal :=
  ((Real.exp (u.cum 255 (headAt c)) : ℝ) : EReal) * h n c +
    ∑ s : Fin 256, u.b s n * (u.xdt s c * ((Real.exp (u.cum 255 (headAt c) - u.cum s (headAt c)) : ℝ) : EReal))
/-- … and the outputs after the gate and the normalisation. -/
def gate (s : Fin 256) (c : Fin 512) : EReal := u.out h s c * (u.z s c * Ideal.div 1 (1 + Ideal.exp (-u.z s c)))
def mixed (s : Fin 256) (c : Fin 512) : EReal :=
  u.gate h s c * Ideal.rsqrt (Ideal.div (∑ k : Fin 512, u.gate h s k * u.gate h s k) ((512 : ℝ) : EReal) + (Cert.Lift.eps : EReal)) * u.w c
end Chunk

end Cert.ScanValue

end
-- ==== Proof.ScanPieces.lean ====
/-
  The pieces of a chunk at an index, over the extended reals: the products that carry a row's step sizes and sums to the columns
  pick out single numbers, since what a number's nearest short float leaves out of a real number is zero there.
-/
module

public import proofs.«01_k».proof.Proof.ScanBlock
public import proofs.«01_k».proof.Proof.ScanSpec
public import Idealize.ShloMosaic.Lib.Pointwise
public import Idealize.ShloMosaic.Lib.WordCmp

@[expose] public section

set_option maxRecDepth 16384

noncomputable section

namespace Cert.ScanValue

open Idealize.ShloMosaic Idealize.ShloMosaic.TcCoe Idealize.SL.Sem
open Cert.ScanIdeal Cert.ScanIdeal.Gen Cert.Lift

variable {S : Shape}

theorem short_apply (v : FVec Ideal S .f32) (i : S.Idx) : short v i = v i := rfl

theorem left_apply {v : FVec Ideal S .f32} {i : S.Idx} {x : ℝ} (hv : v i = (x : EReal)) : left v i = ((0 : ℝ) : EReal) := by
  show v i - v i = _
  rw [hv, ← EReal.coe_sub, sub_self]

theorem soft_apply {v : FVec Ideal S .f32} {i : S.Idx} {x : ℝ} (hv : v i = (x : EReal)) : soft v i = ((softplus x : ℝ) : EReal) := by
  pointwise [soft]
  rw [hv, Ideal.absf_def, ← EReal.coe_neg, max_coe, zero_coe, max_coe, ← EReal.coe_sub, Ideal.exp_coe, one_coe, ← EReal.coe_add, Ideal.log_coe,
    if_neg (not_le.mpr (by positivity)), ← EReal.coe_add, zero_sub]
  rfl

theorem rate_apply {v : FVec Ideal S .f32} {i : S.Idx} {x : ℝ} (hv : v i = (x : EReal)) : rate v i = ((-Real.exp x : ℝ) : EReal) := by
  pointwise [rate]
  rw [hv, Ideal.exp_coe, zero_coe, ← EReal.coe_sub, zero_sub]

/-- A truth value as a number. -/
theorem bit_apply (p : Bool) : (FloatOps.sitofp .f32 (BitVec.setWidth 32 (BitVec.ofBool p)) : Ideal .f32) = if p then (1 : EReal) else 0 := by
  show (((BitVec.setWidth 32 (BitVec.ofBool p)).toInt : ℝ) : EReal) = _
  cases p <;> simp

theorem headOf_apply (k : Fin 128) (c : Fin 512) : headOf (ix2 k c) = BitVec.ofNat 32 (c.val / 64) := by
  pointwise [headOf, k0_pay7, k0_pay8]
  revert c
  decide +kernel

theorem spread_apply (g : Fin 4) (k : Fin 128) (c : Fin 512) :
    spread (F := Ideal) (BitVec.ofNat 32 g.val) (ix2 k c) = if k.val = 8 * g.val + (headAt c).val then (1 : EReal) else 0 := by
  pointwise [spread, short]
  rw [headOf_apply, show c.val / 64 = (headAt c).val from rfl]
  generalize headAt c = e
  rw [show IntOp.cmpi .eq (BitVec.ofNat 32 k.val) (IntOp.addi (Scalar.muli (8#32) (BitVec.ofNat 32 g.val)) (BitVec.ofNat 32 e.val)) =
      BitVec.ofBool (decide (k.val = 8 * g.val + e.val)) from
    (by decide +kernel : ∀ (k : Fin 128) (g : Fin 4) (e : Fin 8), IntOp.cmpi .eq (BitVec.ofNat 32 k.val) (IntOp.addi (Scalar.muli (8#32) (BitVec.ofNat 32 g.val)) (BitVec.ofNat 32 e.val)) =
      BitVec.ofBool (decide (k.val = 8 * g.val + e.val))) k g e]
  simp only [bit_apply, decide_eq_true_eq]

theorem sge_eq (s t : Fin 256) : IntOp.cmpi .sge (BitVec.ofNat 32 s.val) (BitVec.ofNat 32 t.val) = BitVec.ofBool (decide (t ≤ s)) :=
  WordCmp.cmpi_sge_ofNat (by omega) (by omega)
theorem sle_eq (s t : Fin 256) : IntOp.cmpi .sle (BitVec.ofNat 32 s.val) (BitVec.ofNat 32 t.val) = BitVec.ofBool (decide (s ≤ t)) :=
  WordCmp.cmpi_sle_ofNat (by omega) (by omega)

theorem causal_apply (s t : Fin 256) : causal (ix2 s t) = BitVec.ofBool (decide (t ≤ s)) := by
  pointwise [causal, rowNo, colNo]
  exact sge_eq s t

theorem lower_apply (s t : Fin 256) : lower (F := Ideal) (ix2 s t) = if t ≤ s then (1 : EReal) else 0 := by
  pointwise [lower, short]
  rw [causal_apply, bit_apply]
  simp only [decide_eq_true_eq]

theorem upper_apply (s t : Fin 256) : upper (F := Ideal) (ix2 s t) = if s ≤ t then (1 : EReal) else 0 := by
  pointwise [upper, short, rowNo, colNo]
  rw [sle_eq, bit_apply]
  simp only [decide_eq_true_eq]

/-- The step sizes at the columns. -/
theorem dt_apply {g : Fin 4} {raw : FVec Ideal S256x128 .f32} {s : Fin 256} {c : Fin 512} {x : ℝ}
    (hx : raw (ix2 s ⟨8 * g.val + (headAt c).val, by omega⟩) = (x : EReal)) : dt (BitVec.ofNat 32 g.val) raw (ix2 s c) = ((softplus x : ℝ) : EReal) := by
  have pick : ∀ f : Fin 128 → EReal, ∑ k : Fin 128, f k * (if k.val = 8 * g.val + (headAt c).val then (1 : EReal) else 0) = f ⟨8 * g.val + (headAt c).val, by omega⟩ := fun f => by
    rw [Finset.sum_eq_single (⟨8 * g.val + (headAt c).val, by omega⟩ : Fin 128) (fun k _ hk => by rw [if_neg fun h => hk (Fin.ext h), mul_zero]) (fun h => absurd (Finset.mem_univ _) h),
      if_pos rfl, mul_one]
  have h0 := soft_apply hx
  have h1 := left_apply h0
  pointwise [dt]
  simp only [spread_apply, pick, short_apply]
  rw [h0, h1, left_apply h1, ← EReal.coe_add, ← EReal.coe_add, add_zero, add_zero]

/-- The sums of the rows up to a row, over columns … -/
theorem sums_apply {v : FVec Ideal S256x512 .f32} {c : Fin 512} {f : Fin 256 → ℝ} (hv : ∀ t, v (ix2 t c) = (f t : EReal)) (s : Fin 256) :
    sums v (ix2 s c) = ((∑ t : Fin 256, if t ≤ s then f t else 0 : ℝ) : EReal) := by
  have h1 := fun t => left_apply (hv t)
  have h2 := fun t => left_apply (h1 t)
  pointwise [sums]
  simp only [lower_apply, short_apply, hv, h1, h2, EReal.coe_zero, mul_zero, Finset.sum_const_zero, add_zero, ite_mul, one_mul, zero_mul]
  simp only [zero_coe, if_coe, sum_coe]

/-- … and over the heads of the transposed rows. -/
theorem sumsT_apply {v : FVec Ideal S8x256 .f32} {e : Fin 8} {f : Fin 256 → ℝ} (hv : ∀ t, v (ix2 e t) = (f t : EReal)) (s : Fin 256) :
    sumsT v (ix2 e s) = ((∑ t : Fin 256, if t ≤ s then f t else 0 : ℝ) : EReal) := by
  have h1 := fun t => left_apply (hv t)
  have h2 := fun t => left_apply (h1 t)
  pointwise [sumsT]
  simp only [upper_apply, short_apply, hv, h1, h2, EReal.coe_zero, zero_mul, Finset.sum_const_zero, add_zero, mul_ite, mul_one, mul_zero, ite_self]
  simp only [zero_coe, if_coe, sum_coe]

/-- One head's share of a row's outputs. -/
theorem head_apply {a : FVec Ideal S256x1 .f32} {b : FVec Ideal S1x256 .f32} {f g : Fin 256 → ℝ} (ha : ∀ s, a (ix2 s 0) = (f s : EReal))
    (hb : ∀ t, b (ix2 0 t) = (g t : EReal)) (cb : FVec Ideal S256x256 .f32) (x : FVec Ideal S256x128 .bf16) (s : Fin 256) (c : Fin 128) :
    head a b cb x (ix2 s c) = ∑ t : Fin 256, (cb (ix2 s t) : EReal) * Ideal.exp (if t ≤ s then ((f s - g t : ℝ) : EReal) else ⊥) * x (ix2 t c) := by
  pointwise [head]
  simp only [short_apply]
  refine Finset.sum_congr rfl fun t _ => ?_
  pointwise []
  rw [causal_apply, ha, hb, ← EReal.coe_sub, IdealRules.named_const.ideal_named_scalar κ "mask" _ _ rfl]
  by_cases h : t ≤ s
  · simp only [h, decide_true, if_true]; rfl
  · simp only [h, decide_false, if_false]; rfl

theorem pair_apply {a₀ a₁ : FVec Ideal S256x1 .f32} {b₀ b₁ : FVec Ideal S1x256 .f32} {f : Fin 256 → ℝ} {k : Fin 128} {y : Fin 256 → EReal}
    (h₀ : k.val < 64 → (∀ s, a₀ (ix2 s 0) = (f s : EReal)) ∧ ∀ t, b₀ (ix2 0 t) = (f t : EReal))
    (h₁ : 64 ≤ k.val → (∀ s, a₁ (ix2 s 0) = (f s : EReal)) ∧ ∀ t, b₁ (ix2 0 t) = (f t : EReal)) (cb : FVec Ideal S256x256 .f32)
    {x : FVec Ideal S256x128 .bf16} (hx : ∀ t, x (ix2 t k) = y t) (s : Fin 256) :
    pair a₀ b₀ a₁ b₁ cb x (ix2 s k) = ∑ t : Fin 256, (cb (ix2 s t) : EReal) * Ideal.exp (if t ≤ s then ((f s - f t : ℝ) : EReal) else ⊥) * y t := by
  pointwise [pair, k0_pay21]
  rw [show IntOp.cmpi .slt (BitVec.ofNat 32 k.val) 64#32 = BitVec.ofBool (decide (k.val < 64)) from WordCmp.cmpi_slt_ofNat (by omega) (by omega)]
  by_cases h : k.val < 64
  · simp only [h, decide_true]
    exact (head_apply (h₀ h).1 (h₀ h).2 cb x s k).trans (by simp only [hx])
  · simp only [h, decide_false]
    exact (head_apply (h₁ (not_lt.1 h)).1 (h₁ (not_lt.1 h)).2 cb x s k).trans (by simp only [hx])

end Cert.ScanValue

end
-- ==== Proof.ScanOut.lean ====
/-
  A chunk's results at an index, over the extended reals.
-/
module

public import proofs.«01_k».proof.Proof.ScanPieces

@[expose] public section

set_option maxRecDepth 16384

noncomputable section

namespace Cert.ScanValue

open Idealize.ShloMosaic Idealize.ShloMosaic.TcCoe Idealize.SL.Sem
open Cert.ScanIdeal Cert.ScanIdeal.Gen Cert.Lift

/-- A column of the sums, and a row of the transposed ones, read at a head of which a column is one. -/
theorem head_reads {a : FVec Ideal S256x512 .f32} {b : FVec Ideal S8x256 .f32} {f : Fin 256 → Fin 8 → ℝ} (ha : ∀ s c, a (ix2 s c) = (f s (headAt c) : EReal))
    (hb : ∀ e s, b (ix2 e s) = (f s e : EReal)) {c k : Fin 512} {e : Fin 8} (hk : headAt k = headAt c) (he : e = headAt c)
    {a' : FVec Ideal S256x1 .f32} {b' : FVec Ideal S1x256 .f32} (h : ∀ s, a' (ix2 s 0) = a (ix2 s k)) (h' : ∀ t, b' (ix2 0 t) = b (ix2 e t)) :
    (∀ s, a' (ix2 s 0) = (f s (headAt c) : EReal)) ∧ ∀ t, b' (ix2 0 t) = (f t (headAt c) : EReal) :=
  ⟨fun s => (h s).trans ((ha s k).trans (by rw [hk])), fun t => (h' t).trans ((hb e t).trans (by rw [he]))⟩

theorem headAt_eq {c k : Fin 512} (h : c.val / 64 = k.val / 64) : headAt c = headAt k := Fin.ext h

/-- The chunk's outputs at a column. -/
theorem output_apply {a : FVec Ideal S256x512 .f32} {b : FVec Ideal S8x256 .f32} {f : Fin 256 → Fin 8 → ℝ} (ha : ∀ s c, a (ix2 s c) = (f s (headAt c) : EReal))
    (hb : ∀ e s, b (ix2 e s) = (f s e : EReal)) (cb : FVec Ideal S256x256 .f32) (x : FVec Ideal S256x512 .bf16) (rest : FVec Ideal S256x512 .f32) (s : Fin 256) (c : Fin 512) :
    output a b cb x rest (ix2 s c) =
      (∑ t : Fin 256, (cb (ix2 s t) : EReal) * Ideal.exp (if t ≤ s then ((f s (headAt c) - f t (headAt c) : ℝ) : EReal) else ⊥) * x (ix2 t c)) + rest (ix2 s c) := by
  pointwise [output]
  refine congrArg (fun v : EReal => v + rest (ix2 s c)) ?_
  by_cases h0 : c.val < 128
  · rw [dif_pos h0]
    exact pair_apply (fun h => head_reads ha hb (k := 0) (e := 0) (Fin.ext (by show 0 / 64 = c.val / 64; dsimp only at h; omega)) (Fin.ext (by show 0 = c.val / 64; dsimp only at h; omega)) (fun s => by pointwise []) (fun t => by pointwise []))
      (fun h => head_reads ha hb (k := 64) (e := 1) (Fin.ext (by show 64 / 64 = c.val / 64; dsimp only at h; omega)) (Fin.ext (by show 1 = c.val / 64; dsimp only at h; omega)) (fun s => by pointwise []) (fun t => by pointwise []))
      cb (fun t => by pointwise []) s
  rw [dif_neg h0]
  by_cases h1 : c.val - 128 < 128
  · rw [dif_pos h1]
    exact pair_apply (fun h => head_reads ha hb (k := 128) (e := 2) (Fin.ext (by show 128 / 64 = c.val / 64; dsimp only at h; omega)) (Fin.ext (by show 2 = c.val / 64; dsimp only at h; omega)) (fun s => by pointwise []) (fun t => by pointwise []))
      (fun h => head_reads ha hb (k := 192) (e := 3) (Fin.ext (by show 192 / 64 = c.val / 64; dsimp only at h; omega)) (Fin.ext (by show 3 = c.val / 64; dsimp only at h; omega)) (fun s => by pointwise []) (fun t => by pointwise []))
      cb (fun t => by pointwise []; exact congrArg (fun k => x (ix2 t k)) (Fin.ext (by dsimp only; omega))) s
  rw [dif_neg h1]
  by_cases h2 : c.val - 128 - 128 < 128
  · rw [dif_pos h2]
    exact pair_apply (fun h => head_reads ha hb (k := 256) (e := 4) (Fin.ext (by show 256 / 64 = c.val / 64; dsimp only at h; omega)) (Fin.ext (by show 4 = c.val / 64; dsimp only at h; omega)) (fun s => by pointwise []) (fun t => by pointwise []))
      (fun h => head_reads ha hb (k := 320) (e := 5) (Fin.ext (by show 320 / 64 = c.val / 64; dsimp only at h; omega)) (Fin.ext (by show 5 = c.val / 64; dsimp only at h; omega)) (fun s => by pointwise []) (fun t => by pointwise []))
      cb (fun t => by pointwise []; exact congrArg (fun k => x (ix2 t k)) (Fin.ext (by dsimp only; omega))) s
  rw [dif_neg h2]
  exact pair_apply (fun h => head_reads ha hb (k := 384) (e := 6) (Fin.ext (by show 384 / 64 = c.val / 64; dsimp only at h; omega)) (Fin.ext (by show 6 = c.val / 64; dsimp only at h; omega)) (fun s => by pointwise []) (fun t => by pointwise []))
    (fun h => head_reads ha hb (k := 448) (e := 7) (Fin.ext (by show 448 / 64 = c.val / 64; dsimp only at h; omega)) (Fin.ext (by show 7 = c.val / 64; dsimp only at h; omega)) (fun s => by pointwise []) (fun t => by pointwise []))
    cb (fun t => by pointwise []; exact congrArg (fun k => x (ix2 t k)) (Fin.ext (by dsimp only; omega))) s

/-- The rows of a chunk and what it shares with the others hold what `u` says. -/
structure Holds (u : Chunk) (g : Fin 4) (p : Shared Ideal) (r : Rows Ideal) : Prop where
  j : p.j = BitVec.ofNat 32 g.val
  d : ∀ s e, (r.d (ix2 s ⟨8 * g.val + Fin.val (n := 8) e, by omega⟩) + p.bw (ix2 0 ⟨8 * g.val + Fin.val (n := 8) e, by omega⟩) : EReal) = (u.d s e : EReal)
  dT : ∀ s e, (r.dT (ix3 0 e s) + p.bc (ix3 0 e 0) : EReal) = (u.d s e : EReal)
  al : ∀ c, p.al (ix2 0 c) = (u.al (headAt c) : EReal)
  alT : ∀ e, p.alT (ix3 0 e 0) = (u.al e : EReal)
  x : ∀ s c, r.xs (ix2 s c) = u.x s c
  b : ∀ s n, r.b (ix2 s n) = u.b s n
  c : ∀ s n, r.c (ix2 s n) = u.c s n
  ds : ∀ c, p.ds (ix2 0 c) = u.ds c
  z : ∀ s c, r.z (ix2 s c) = u.z s c
  w : ∀ c, p.w (ix2 0 c) = u.w c

section
variable {u : Chunk} {g : Fin 4} {p : Shared Ideal} {r : Rows Ideal} (H : Holds u g p r)
include H

theorem chunkDt_apply (s : Fin 256) (c : Fin 512) : chunkDt p r (ix2 s c) = (u.step s (headAt c) : EReal) := by
  unfold chunkDt
  rw [H.j]
  exact dt_apply (by pointwise [k0_pay3]; exact H.d s (headAt c))

theorem chunkSums_apply (s : Fin 256) (c : Fin 512) : chunkSums p r (ix2 s c) = (u.cum s (headAt c) : EReal) := by
  refine sums_apply (f := fun t => u.fall t (headAt c)) (fun t => ?_) s
  have ha : k0_pay5 p.al (ix2 0 c) = (u.al (headAt c) : EReal) := by pointwise [k0_pay5]; exact H.al c
  pointwise []
  rw [chunkDt_apply H, rate_apply ha, ← EReal.coe_mul]
  rfl

theorem chunkSumsT_apply (e : Fin 8) (s : Fin 256) : chunkSumsT p r (ix2 e s) = (u.cum s e : EReal) := by
  refine sumsT_apply (f := fun t => u.fall t e) (fun t => ?_) s
  have ha : k0_pay6 p.alT (ix2 e 0) = (u.al e : EReal) := by pointwise [k0_pay6]; exact H.alT e
  have hd : k0_pay4 r.dT p.bc (ix2 e t) = (u.d t e : EReal) := by pointwise [k0_pay4]; exact H.dT t e
  pointwise []
  rw [soft_apply hd, rate_apply ha, ← EReal.coe_mul]
  rfl

variable {v : Vec Ideal S128x512 .f32} {h : Fin 128 → Fin 512 → EReal} (hv : ∀ n c, v (ix2 n c) = h n c)
include hv

theorem chunkOut_apply (s : Fin 256) (c : Fin 512) : chunkOut p r v (ix2 s c) = u.out h s c := by
  refine (output_apply (f := u.cum) (chunkSums_apply H) (chunkSumsT_apply H) _ _ _ s c).trans ?_
  have hcb : ∀ t, k0_pay18 r.b r.c (ix2 s t) = u.cb s t := fun t => by
    pointwise [k0_pay18]
    simp only [H.b, H.c]
    rfl
  have hx : ∀ t, k0_pay17 (chunkDt p r) r.xs (ix2 t c) = u.xdt t c := fun t => by
    pointwise [k0_pay17, k0_pay16]
    rw [H.x, chunkDt_apply H]
    rfl
  have hr : k0_pay20 v (chunkSums p r) r.xs r.c p.ds (ix2 s c) =
      (∑ n : Fin 128, u.c s n * h n c) * ((Real.exp (u.cum s (headAt c)) : ℝ) : EReal) + u.ds c * u.x s c := by
    pointwise [k0_pay20]
    rw [chunkSums_apply H, Ideal.exp_coe, H.ds, H.x]
    simp only [H.c, hv]
  rw [hr]
  simp only [hcb, hx]
  rfl

theorem chunkNext_apply (n : Fin 128) (c : Fin 512) : chunkNext p r v (ix2 n c) = u.next h n c := by
  unfold chunkNext
  pointwise [k0_pay35, k0_pay16]
  simp only [chunkSums_apply H, chunkDt_apply H, Ideal.exp_coe, ← EReal.coe_sub, H.b, H.x, hv]
  rfl

theorem chunkMixed_apply (s : Fin 256) (c : Fin 512) : chunkMixed p r v (ix2 s c) = u.mixed h s c := by
  have hg : ∀ k, gated (chunkOut p r v) (shapeCast S256x512 r.z shapeCasts_S256x512_S256x512) (ix2 s k) = u.gate h s k := fun k => by
    pointwise [gated]
    rw [chunkOut_apply H hv, H.z, zero_sub]
    rfl
  unfold chunkMixed
  generalize gated (chunkOut p r v) (shapeCast S256x512 r.z shapeCasts_S256x512_S256x512) = q at hg
  pointwise [normed, short]
  simp only [hg, H.w, ofBits_512, ofBits_eps]
  rfl
end

end Cert.ScanValue

end
-- ==== Proof.ScanChunk.lean ====
/-
  The chunks of the scan's arguments, and the states that enter them.
-/
module

public import proofs.«01_k».proof.Proof.ScanSpec
public import Idealize.ShloMosaic.Lib.Pointwise

@[expose] public section

noncomputable section

namespace Cert.ScanValue

open Idealize.ShloMosaic

/-- Row `s` of chunk `q`, and the columns of group `g`: its heads', its inputs', its projections'. -/
def row (q : ℕ) (s : Fin 256) : Fin 8192 := ⟨(256 * q + s.val) % 8192, Nat.mod_lt _ (by norm_num)⟩
def headCol (g : Fin 4) (e : Fin 8) : Fin 32 := ⟨8 * g.val + e.val, by omega⟩
def inCol (g : Fin 4) (c : Fin 512) : Fin 2048 := ⟨512 * g.val + c.val, by omega⟩
def projCol (g : Fin 4) (n : Fin 128) : Fin 512 := ⟨128 * g.val + n.val, by omega⟩

theorem row_val (q : Fin 32) (s : Fin 256) : (row q.val s).val = 256 * q.val + s.val := Nat.mod_eq_of_lt (by omega)

/-- An array of rank two is read at equal positions. -/
theorem at2 {a b : ℕ} {α : Type} (x : (⟨2, ![a, b]⟩ : Shape).Idx → α) {i i' : Fin a} {j j' : Fin b} (hi : i.val = i'.val) (hj : j.val = j'.val) : x (ix2 i j) = x (ix2 i' j') := by
  rw [Fin.ext hi, Fin.ext hj]

/-- The arguments: the projections' outputs, the convolution's, the step sizes' biases, the decays' logarithms, the skip
    connection's factors and the normalisation's weights. -/
structure Args where
  x0 : FVec Ideal ⟨2, ![8192, 7200]⟩ .f32
  x1 : FVec Ideal ⟨2, ![8192, 3072]⟩ .f32
  x2 : FVec Ideal ⟨2, ![1, 32]⟩ .f32
  x3 : FVec Ideal ⟨2, ![1, 32]⟩ .f32
  x4 : FVec Ideal ⟨2, ![1, 32]⟩ .f32
  x5 : FVec Ideal ⟨2, ![1, 2048]⟩ .f32

namespace Args
variable (X : Args)

def raw (n : Fin 8192) (k : Fin 32) : EReal := X.x0 (ix2 n ⟨5120 + k.val, by omega⟩) + X.x2 (ix2 0 k)

/-- Chunk `q` of group `g`. -/
def chunk (g : Fin 4) (q : ℕ) : Chunk where
  d s e := (X.raw (row q s) (headCol g e)).toReal
  al e := EReal.toReal (X.x3 (ix2 0 (headCol g e)))
  x s c := X.x1 (ix2 (row q s) ⟨(inCol g c).val, by omega⟩)
  b s n := X.x1 (ix2 (row q s) ⟨2048 + (projCol g n).val, by omega⟩)
  c s n := X.x1 (ix2 (row q s) ⟨2560 + (projCol g n).val, by omega⟩)
  ds c := X.x4 (ix2 0 (headCol g (headAt c)))
  z s c := X.x0 (ix2 (row q s) ⟨(inCol g c).val, by omega⟩)
  w c := X.x5 (ix2 0 (inCol g c))

/-- The state that enters chunk `q`: zero at the first. -/
def enter (g : Fin 4) : ℕ → Fin 128 → Fin 512 → EReal
  | 0 => fun _ _ => 0
  | q + 1 => (X.chunk g q).next (enter g q)

/-- The step sizes' arguments and the decays' logarithms are real numbers. -/
structure Real : Prop where
  raw : ∀ n k, X.raw n k = ((X.raw n k).toReal : EReal)
  al : ∀ k, X.x3 (ix2 0 k) = ((EReal.toReal (X.x3 (ix2 0 k)) : ℝ) : EReal)

end Args

end Cert.ScanValue

end
-- ==== Proof.ScanHost.lean ====
/-
  The scan's arguments, and the arrays that the host prepares of them for the kernel, at an index.
-/
module

public import proofs.«01_k».proof.Proof.Gen.ScanIdeal.Value
public import proofs.«01_k».proof.Proof.ScanChunk

@[expose] public section

set_option maxRecDepth 16384

noncomputable section

namespace Cert.ScanValue

open Idealize.ShloMosaic Idealize.ShloMosaic.TcCoe Idealize.SL.Sem
open Cert.ScanIdeal Cert.ScanIdeal.Gen

variable (m : (ℓ : Loc nD τ sig) → Buf (Elt Ideal) ℓ) (c : Dev nD)

def args : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)

/-- The gate's columns stay in their places, … -/
theorem V_gate (r : Fin 8192) (k : Fin 2048) : V m c main_v5 (ix2 r ⟨k.val, by omega⟩) = (args m c).x0 (ix2 r ⟨k.val, by omega⟩) := by
  show StableHlo.after (List.flatten [hostOps0, hostOps0_1, hostOps0_2]) _ (Proc.devRef .tc main_v5) _ = _
  simp only [hostOps0, hostOps0_1, hostOps0_2, List.flatten_cons, List.flatten_nil, List.append_nil, List.cons_append, List.nil_append]
  after_results_simp
  pointwise []
  after_results_simp
  pointwise []
  rfl

/-- … and the step sizes' columns are moved to the end. -/
theorem V_step (r : Fin 8192) (k : Fin 32) : V m c main_v5 (ix2 r ⟨7168 + k.val, by omega⟩) = (args m c).x0 (ix2 r ⟨5120 + k.val, by omega⟩) := by
  show StableHlo.after (List.flatten [hostOps0, hostOps0_1, hostOps0_2]) _ (Proc.devRef .tc main_v5) _ = _
  simp only [hostOps0, hostOps0_1, hostOps0_2, List.flatten_cons, List.flatten_nil, List.append_nil, List.cons_append, List.nil_append]
  after_results_simp
  pointwise []
  have hk := k.isLt
  rw [dif_neg (by omega), dif_neg (by omega), dif_neg (by omega), dif_pos (by omega)]
  after_results_simp
  pointwise []
  exact at2 (args m c).x0 rfl (by dsimp only; omega)

theorem V_stepT (g : Fin 4) (e : Fin 8) (r : Fin 8192) : V m c main_v11 (ix3 g e r) = (args m c).x0 (ix2 r ⟨5120 + (headCol g e).val, by omega⟩) := by
  show StableHlo.after (List.flatten [hostOps0, hostOps0_1, hostOps0_2]) _ (Proc.devRef .tc main_v11) _ = _
  simp only [hostOps0, hostOps0_1, hostOps0_2, List.flatten_cons, List.flatten_nil, List.append_nil, List.cons_append, List.nil_append]
  after_results_simp
  pointwise []
  rw [dif_neg (by omega), dif_neg (by omega), dif_neg (by omega), dif_pos (by omega)]
  after_results_simp
  pointwise []
  refine at2 (args m c).x0 rfl ?_
  show _ = 5120 + (8 * g.val + e.val)
  dsimp only
  omega

theorem V_bias (k : Fin 32) : V m c main_v6 (ix2 0 ⟨k.val, by omega⟩) = (args m c).x2 (ix2 0 k) := by
  show StableHlo.after (List.flatten [hostOps0, hostOps0_1, hostOps0_2]) _ (Proc.devRef .tc main_v6) _ = _
  simp only [hostOps0, hostOps0_1, hostOps0_2, List.flatten_cons, List.flatten_nil, List.append_nil, List.cons_append, List.nil_append]
  after_results_simp
  pointwise []
  show (pad S1x128 ![0, 0] ![0, 96] ![0, 0] (args m c).x2 (sitofp .f32 (constantI S_ 32 0#32)) pads_S1x32_S1x128_000_0960 h_S_ : FVec Ideal S1x128 .f32) (ix2 0 ⟨k.val, by omega⟩) = _
  pointwise []

theorem V_biasT (g : Fin 4) (e : Fin 8) : V m c main_v7 (ix3 g e 0) = (args m c).x2 (ix2 0 (headCol g e)) := by
  show StableHlo.after (List.flatten [hostOps0, hostOps0_1, hostOps0_2]) _ (Proc.devRef .tc main_v7) _ = _
  simp only [hostOps0, hostOps0_1, hostOps0_2, List.flatten_cons, List.flatten_nil, List.append_nil, List.cons_append, List.nil_append]
  after_results_simp
  pointwise []
  refine at2 (args m c).x2 rfl ?_
  show _ = 8 * g.val + e.val
  dsimp only
  omega

theorem V_rateT (g : Fin 4) (e : Fin 8) : V m c main_v8 (ix3 g e 0) = (args m c).x3 (ix2 0 (headCol g e)) := by
  show StableHlo.after (List.flatten [hostOps0, hostOps0_1, hostOps0_2]) _ (Proc.devRef .tc main_v8) _ = _
  simp only [hostOps0, hostOps0_1, hostOps0_2, List.flatten_cons, List.flatten_nil, List.append_nil, List.cons_append, List.nil_append]
  after_results_simp
  pointwise []
  refine at2 (args m c).x3 rfl ?_
  show _ = 8 * g.val + e.val
  dsimp only
  omega

theorem V_rate (g : Fin 4) (k : Fin 512) : V m c main_v13 (ix2 0 (inCol g k)) = (args m c).x3 (ix2 0 (headCol g (headAt k))) := by
  show StableHlo.after (List.flatten [hostOps0, hostOps0_1, hostOps0_2]) _ (Proc.devRef .tc main_v13) _ = _
  simp only [hostOps0, hostOps0_1, hostOps0_2, List.flatten_cons, List.flatten_nil, List.append_nil, List.cons_append, List.nil_append]
  after_results_simp
  pointwise []
  refine at2 (args m c).x3 rfl ?_
  show (512 * g.val + k.val) / 64 = 8 * g.val + k.val / 64
  omega

theorem V_skip (g : Fin 4) (k : Fin 512) : V m c main_v15 (ix2 0 (inCol g k)) = (args m c).x4 (ix2 0 (headCol g (headAt k))) := by
  show StableHlo.after (List.flatten [hostOps0, hostOps0_1, hostOps0_2]) _ (Proc.devRef .tc main_v15) _ = _
  simp only [hostOps0, hostOps0_1, hostOps0_2, List.flatten_cons, List.flatten_nil, List.append_nil, List.cons_append, List.nil_append]
  after_results_simp
  pointwise []
  refine at2 (args m c).x4 rfl ?_
  show (512 * g.val + k.val) / 64 = 8 * g.val + k.val / 64
  omega

end Cert.ScanValue

end
-- ==== Proof.ScanRows.lean ====
/-
  The blocks of one grid point of the scan's kernel, in the terms of the arguments' chunks.
-/
module

public import proofs.«01_k».proof.Proof.ScanRuns
public import proofs.«01_k».proof.Proof.ScanOut
public import proofs.«01_k».proof.Proof.ScanHost

@[expose] public section

set_option maxRecDepth 16384

noncomputable section

namespace Cert.ScanValue

open Idealize.ShloMosaic Idealize.ShloMosaic.TcCoe Idealize.SL.Sem
open Cert.ScanIdeal Cert.ScanIdeal.Gen

variable (m : (ℓ : Loc nD τ sig) → Buf (Elt Ideal) ℓ) (c : Dev nD)

theorem index_at : ∀ t : Fin cfg0.N, ((∀ a, win0_0.index t a = ![t.val % 8, t.val / 8] a) ∧ (∀ a, win0_1.index t a = ![t.val % 8, 16 + t.val / 8] a)
    ∧ (∀ a, win0_2.index t a = ![t.val % 8, 20 + t.val / 8] a) ∧ (∀ a, win0_3.index t a = ![t.val % 8, 56] a) ∧ (∀ a, win0_4.index t a = ![t.val / 8, 0, t.val % 8] a)
    ∧ (∀ a, win0_5.index t a = ![0, 0] a)) ∧ (∀ a, win0_6.index t a = ![t.val / 8, 0, 0] a) ∧ (∀ a, win0_7.index t a = ![0, t.val / 8] a)
    ∧ (∀ a, win0_8.index t a = ![t.val / 8, 0, 0] a) ∧ (∀ a, win0_9.index t a = ![0, t.val / 8] a) ∧ (∀ a, win0_10.index t a = ![t.val % 8, t.val / 8] a)
    ∧ (∀ a, win0_11.index t a = ![0, t.val / 8] a) ∧ (grid0.coords t 0).val = t.val / 8 :=
  (by decide +kernel : ∀ t : Fin grid0.N, ((∀ a, win0_0.index t a = ![t.val % 8, t.val / 8] a) ∧ (∀ a, win0_1.index t a = ![t.val % 8, 16 + t.val / 8] a)
    ∧ (∀ a, win0_2.index t a = ![t.val % 8, 20 + t.val / 8] a) ∧ (∀ a, win0_3.index t a = ![t.val % 8, 56] a) ∧ (∀ a, win0_4.index t a = ![t.val / 8, 0, t.val % 8] a)
    ∧ (∀ a, win0_5.index t a = ![0, 0] a)) ∧ (∀ a, win0_6.index t a = ![t.val / 8, 0, 0] a) ∧ (∀ a, win0_7.index t a = ![0, t.val / 8] a)
    ∧ (∀ a, win0_8.index t a = ![t.val / 8, 0, 0] a) ∧ (∀ a, win0_9.index t a = ![0, t.val / 8] a) ∧ (∀ a, win0_10.index t a = ![t.val % 8, t.val / 8] a)
    ∧ (∀ a, win0_11.index t a = ![0, t.val / 8] a) ∧ (grid0.coords t 0).val = t.val / 8)

/-- The group of point `t`, and the array's row that is row `r` of its blocks. -/
def groupAt (t : Fin cfg0.N) : Fin 4 := ⟨t.val / 8, by have := t.isLt; have hN : cfg0.N = 32 := N_0; omega⟩
def rowAt (t : Fin cfg0.N) (r : Fin 1024) : Fin 8192 := ⟨1024 * (t.val % 8) + r.val, by omega⟩

section
variable (t : Fin cfg0.N)

theorem block_x (r : Fin 1024) (k : Fin 512) : (iblk m c 0 t : Vec Ideal S1024x512 .f32) (ix2 r k) = (args m c).x1 (ix2 (rowAt t r) ⟨(inCol (groupAt t) k).val, by omega⟩) := by
  unfold iblk
  rw [View.read_apply]
  refine (congrFun (V_main_arg1 m c) _).trans (congrArg (args m c).x1 (funext fun a => Fin.ext ?_))
  have e0 : win0_0.index t 0 = t.val % 8 := (index_at t).1.1 0
  have e1 : win0_0.index t 1 = t.val / 8 := (index_at t).1.1 1
  match a with
  | ⟨0, _⟩ => show win0_0.index t 0 * 1024 + 1 * r.val = 1024 * (t.val % 8) + r.val; omega
  | ⟨1, _⟩ => show win0_0.index t 1 * 512 + 1 * k.val = 512 * (t.val / 8) + k.val; omega

theorem block_b (r : Fin 1024) (n : Fin 128) : (iblk m c 1 t : Vec Ideal S1024x128 .f32) (ix2 r n) = (args m c).x1 (ix2 (rowAt t r) ⟨2048 + (projCol (groupAt t) n).val, by omega⟩) := by
  unfold iblk
  rw [View.read_apply]
  refine (congrFun (V_main_arg1 m c) _).trans (congrArg (args m c).x1 (funext fun a => Fin.ext ?_))
  have e0 : win0_1.index t 0 = t.val % 8 := (index_at t).1.2.1 0
  have e1 : win0_1.index t 1 = 16 + t.val / 8 := (index_at t).1.2.1 1
  match a with
  | ⟨0, _⟩ => show win0_1.index t 0 * 1024 + 1 * r.val = 1024 * (t.val % 8) + r.val; omega
  | ⟨1, _⟩ => show win0_1.index t 1 * 128 + 1 * n.val = 2048 + (128 * (t.val / 8) + n.val); omega

theorem block_c (r : Fin 1024) (n : Fin 128) : (iblk m c 2 t : Vec Ideal S1024x128 .f32) (ix2 r n) = (args m c).x1 (ix2 (rowAt t r) ⟨2560 + (projCol (groupAt t) n).val, by omega⟩) := by
  unfold iblk
  rw [View.read_apply]
  refine (congrFun (V_main_arg1 m c) _).trans (congrArg (args m c).x1 (funext fun a => Fin.ext ?_))
  have e0 : win0_2.index t 0 = t.val % 8 := (index_at t).1.2.2.1 0
  have e1 : win0_2.index t 1 = 20 + t.val / 8 := (index_at t).1.2.2.1 1
  match a with
  | ⟨0, _⟩ => show win0_2.index t 0 * 1024 + 1 * r.val = 1024 * (t.val % 8) + r.val; omega
  | ⟨1, _⟩ => show win0_2.index t 1 * 128 + 1 * n.val = 2560 + (128 * (t.val / 8) + n.val); omega

theorem block_step (r : Fin 1024) (k : Fin 32) : (iblk m c 3 t : Vec Ideal S1024x128 .f32) (ix2 r ⟨k.val, by omega⟩) = (args m c).x0 (ix2 (rowAt t r) ⟨5120 + k.val, by omega⟩) := by
  unfold iblk
  rw [View.read_apply]
  refine (congrArg (V m c main_v5) (funext fun a => Fin.ext ?_)).trans (V_step m c (rowAt t r) k)
  have e0 : win0_3.index t 0 = t.val % 8 := (index_at t).1.2.2.2.1 0
  have e1 : win0_3.index t 1 = 56 := (index_at t).1.2.2.2.1 1
  match a with
  | ⟨0, _⟩ => show win0_3.index t 0 * 1024 + 1 * r.val = 1024 * (t.val % 8) + r.val; omega
  | ⟨1, _⟩ => show win0_3.index t 1 * 128 + 1 * k.val = 7168 + k.val; omega

theorem block_stepT (e : Fin 8) (r : Fin 1024) :
    (iblk m c 4 t : Vec Ideal S1x8x1024 .f32) (ix3 0 e r) = (args m c).x0 (ix2 (rowAt t r) ⟨5120 + (headCol (groupAt t) e).val, by omega⟩) := by
  unfold iblk
  rw [View.read_apply]
  refine (congrArg (V m c main_v11) (funext fun a => Fin.ext ?_)).trans (V_stepT m c (groupAt t) e (rowAt t r))
  have e0 : win0_4.index t 0 = t.val / 8 := (index_at t).1.2.2.2.2.1 0
  have e1 : win0_4.index t 1 = 0 := (index_at t).1.2.2.2.2.1 1
  have e2 : win0_4.index t 2 = t.val % 8 := (index_at t).1.2.2.2.2.1 2
  match a with
  | ⟨0, _⟩ => show win0_4.index t 0 * 1 + 1 * 0 = t.val / 8; omega
  | ⟨1, _⟩ => show win0_4.index t 1 * 8 + 1 * e.val = e.val; omega
  | ⟨2, _⟩ => show win0_4.index t 2 * 1024 + 1 * r.val = 1024 * (t.val % 8) + r.val; omega

theorem block_bias (k : Fin 32) : (iblk m c 5 t : Vec Ideal S1x128 .f32) (ix2 0 ⟨k.val, by omega⟩) = (args m c).x2 (ix2 0 k) := by
  unfold iblk
  rw [View.read_apply]
  refine (congrArg (V m c main_v6) (funext fun a => Fin.ext ?_)).trans (V_bias m c k)
  have e0 : win0_5.index t 0 = 0 := (index_at t).1.2.2.2.2.2 0
  have e1 : win0_5.index t 1 = 0 := (index_at t).1.2.2.2.2.2 1
  match a with
  | ⟨0, _⟩ => show win0_5.index t 0 * 1 + 1 * 0 = 0; omega
  | ⟨1, _⟩ => show win0_5.index t 1 * 128 + 1 * k.val = k.val; omega

theorem block_biasT (e : Fin 8) : (iblk m c 6 t : Vec Ideal S1x8x1 .f32) (ix3 0 e 0) = (args m c).x2 (ix2 0 (headCol (groupAt t) e)) := by
  unfold iblk
  rw [View.read_apply]
  refine (congrArg (V m c main_v7) (funext fun a => Fin.ext ?_)).trans (V_biasT m c (groupAt t) e)
  have e0 : win0_6.index t 0 = t.val / 8 := (index_at t).2.1 0
  have e1 : win0_6.index t 1 = 0 := (index_at t).2.1 1
  have e2 : win0_6.index t 2 = 0 := (index_at t).2.1 2
  match a with
  | ⟨0, _⟩ => show win0_6.index t 0 * 1 + 1 * 0 = t.val / 8; omega
  | ⟨1, _⟩ => show win0_6.index t 1 * 8 + 1 * e.val = e.val; omega
  | ⟨2, _⟩ => show win0_6.index t 2 * 1 + 1 * 0 = 0; omega

theorem block_rateT (e : Fin 8) : (iblk m c 8 t : Vec Ideal S1x8x1 .f32) (ix3 0 e 0) = (args m c).x3 (ix2 0 (headCol (groupAt t) e)) := by
  unfold iblk
  rw [View.read_apply]
  refine (congrArg (V m c main_v8) (funext fun a => Fin.ext ?_)).trans (V_rateT m c (groupAt t) e)
  have e0 : win0_8.index t 0 = t.val / 8 := (index_at t).2.2.2.1 0
  have e1 : win0_8.index t 1 = 0 := (index_at t).2.2.2.1 1
  have e2 : win0_8.index t 2 = 0 := (index_at t).2.2.2.1 2
  match a with
  | ⟨0, _⟩ => show win0_8.index t 0 * 1 + 1 * 0 = t.val / 8; omega
  | ⟨1, _⟩ => show win0_8.index t 1 * 8 + 1 * e.val = e.val; omega
  | ⟨2, _⟩ => show win0_8.index t 2 * 1 + 1 * 0 = 0; omega

theorem block_rate (k : Fin 512) : (iblk m c 7 t : Vec Ideal S1x512 .f32) (ix2 0 k) = (args m c).x3 (ix2 0 (headCol (groupAt t) (headAt k))) := by
  unfold iblk
  rw [View.read_apply]
  refine (congrArg (V m c main_v13) (funext fun a => Fin.ext ?_)).trans (V_rate m c (groupAt t) k)
  have e0 : win0_7.index t 0 = 0 := (index_at t).2.2.1 0
  have e1 : win0_7.index t 1 = t.val / 8 := (index_at t).2.2.1 1
  match a with
  | ⟨0, _⟩ => show win0_7.index t 0 * 1 + 1 * 0 = 0; omega
  | ⟨1, _⟩ => show win0_7.index t 1 * 512 + 1 * k.val = 512 * (t.val / 8) + k.val; omega

theorem block_skip (k : Fin 512) : (iblk m c 9 t : Vec Ideal S1x512 .f32) (ix2 0 k) = (args m c).x4 (ix2 0 (headCol (groupAt t) (headAt k))) := by
  unfold iblk
  rw [View.read_apply]
  refine (congrArg (V m c main_v15) (funext fun a => Fin.ext ?_)).trans (V_skip m c (groupAt t) k)
  have e0 : win0_9.index t 0 = 0 := (index_at t).2.2.2.2.1 0
  have e1 : win0_9.index t 1 = t.val / 8 := (index_at t).2.2.2.2.1 1
  match a with
  | ⟨0, _⟩ => show win0_9.index t 0 * 1 + 1 * 0 = 0; omega
  | ⟨1, _⟩ => show win0_9.index t 1 * 512 + 1 * k.val = 512 * (t.val / 8) + k.val; omega

theorem block_gate (r : Fin 1024) (k : Fin 512) : (X0_10 m c t : Vec Ideal S1024x512 .f32) (ix2 r k) = (args m c).x0 (ix2 (rowAt t r) ⟨(inCol (groupAt t) k).val, by omega⟩) := by
  unfold X0_10 Pipeline.Window.fill
  rw [dif_pos (moved0_10 t (ix2 r k))]
  unfold iblk
  rw [View.read_apply]
  refine (congrArg (V m c main_v5) (funext fun a => Fin.ext ?_)).trans (V_gate m c (rowAt t r) (inCol (groupAt t) k))
  have e0 : win0_10.index t 0 = t.val % 8 := (index_at t).2.2.2.2.2.1 0
  have e1 : win0_10.index t 1 = t.val / 8 := (index_at t).2.2.2.2.2.1 1
  match a with
  | ⟨0, _⟩ => show win0_10.index t 0 * 1024 + 1 * r.val = 1024 * (t.val % 8) + r.val; omega
  | ⟨1, _⟩ => show win0_10.index t 1 * 512 + 1 * k.val = 512 * (t.val / 8) + k.val; omega

theorem block_norm (k : Fin 512) : (iblk m c 11 t : Vec Ideal S1x512 .f32) (ix2 0 k) = (args m c).x5 (ix2 0 (inCol (groupAt t) k)) := by
  unfold iblk
  rw [View.read_apply]
  refine (congrFun (V_main_arg5 m c) _).trans (congrArg (args m c).x5 (funext fun a => Fin.ext ?_))
  have e0 : win0_11.index t 0 = 0 := (index_at t).2.2.2.2.2.2.1 0
  have e1 : win0_11.index t 1 = t.val / 8 := (index_at t).2.2.2.2.2.2.1 1
  match a with
  | ⟨0, _⟩ => show win0_11.index t 0 * 1 + 1 * 0 = 0; omega
  | ⟨1, _⟩ => show win0_11.index t 1 * 512 + 1 * k.val = 512 * (t.val / 8) + k.val; omega

end

end Cert.ScanValue

end
-- ==== Proof.ScanStores.lean ====
/-
  Four stores of 256 rows, and four of one state, read back at an index.
-/
module

public import proofs.«01_k».proof.Proof.ScanRuns
public import Idealize.ShloMosaic.Lib.Pipeline.ValueKit.Tiles
public import Idealize.ShloMosaic.Lib.Pointwise

@[expose] public section

set_option maxRecDepth 16384

noncomputable section

namespace Cert.ScanValue

open Idealize.ShloMosaic Idealize.ShloMosaic.TcCoe
open Cert.ScanIdeal Cert.ScanIdeal.Gen

theorem one_of_four : ∀ i : Fin 4, i = 0 ∨ i = 1 ∨ i = 2 ∨ i = 3 := by decide

/-- The store, among four, that holds a row. -/
theorem rows_of {e : EltTy} (P : Fin 4 → Vec Ideal S256x512 e) (j i : Fin 4) (x : S256x512.Idx) {s : Fin 256} {k : Fin 512} {a b : ℕ}
    (y0 : a = 256 * i.val + s.val) (y1 : b = k.val) (h0 : a = 256 * j.val + (x 0).val) (h1 : b = 0 + (x 1).val) : P j x = P i (ix2 s k) := by
  have x0 : (x 0).val < 256 := (x 0).isLt
  have hj : j = i := Fin.ext (by omega)
  subst hj
  exact congrArg (P j) (funext fun a => Fin.ext (match a with | ⟨0, _⟩ => by show (x 0).val = s.val; omega | ⟨1, _⟩ => by show (x 1).val = k.val; omega))

theorem state_of {e : EltTy} (P : Fin 4 → Vec Ideal S1x1x128x512 e) (j i : Fin 4) (x : S1x1x128x512.Idx) {n : Fin 128} {k : Fin 512} {a b d : ℕ}
    (y1 : a = i.val) (y2 : b = n.val) (y3 : d = k.val) (h1 : a = j.val + (x 1).val) (h2 : b = 0 + (x 2).val) (h3 : d = 0 + (x 3).val) :
    P j x = P i (ix4 0 0 n k) := by
  have x0 : (x 0).val < 1 := (x 0).isLt
  have x1 : (x 1).val < 1 := (x 1).isLt
  have hj : j = i := Fin.ext (by omega)
  subst hj
  exact congrArg (P j) (funext fun a => Fin.ext (match a with
    | ⟨0, _⟩ => by show (x 0).val = 0; omega
    | ⟨1, _⟩ => by show (x 1).val = 0; omega
    | ⟨2, _⟩ => by show (x 2).val = n.val; omega
    | ⟨3, _⟩ => by show (x 3).val = k.val; omega))

theorem read_rows {e : EltTy} (P0 P1 P2 P3 : Vec Ideal S256x512 e) (i : Fin 4) (s : Fin 256) (k : Fin 512) (y : S1024x512.Idx) (y0 : (y 0 : Nat) = 256 * i.val + s.val)
    (y1 : (y 1 : Nat) = k.val) :
    View.canon [⟨Rect.unit ![768, 0] ![256, 512] inb_S1024x512_S256x512_768_0, P3⟩, ⟨Rect.unit ![512, 0] ![256, 512] inb_S1024x512_S256x512_512_0, P2⟩,
      ⟨Rect.unit ![256, 0] ![256, 512] inb_S1024x512_S256x512_256_0, P1⟩, ⟨Rect.unit ![0, 0] ![256, 512] inb_S1024x512_S256x512_0_0, P0⟩] y =
      (![P0, P1, P2, P3] i) (ix2 s k) := by
  canon_tiles x h
  · exact rows_of ![P0, P1, P2, P3] 3 i x y0 y1 h0 (by omega)
  · exact rows_of ![P0, P1, P2, P3] 2 i x y0 y1 h0 (by omega)
  · exact rows_of ![P0, P1, P2, P3] 1 i x y0 y1 h0 (by omega)
  · exact rows_of ![P0, P1, P2, P3] 0 i x y0 y1 (h0.trans (Nat.zero_add _).symm) (by omega)

theorem read_states {e : EltTy} (P0 P1 P2 P3 : Vec Ideal S1x1x128x512 e) (i : Fin 4) (n : Fin 128) (k : Fin 512) (y : S1x4x128x512.Idx) (y1 : (y 1 : Nat) = i.val)
    (y2 : (y 2 : Nat) = n.val) (y3 : (y 3 : Nat) = k.val) :
    View.canon [⟨Rect.unit ![0, 3, 0, 0] ![1, 1, 128, 512] inb_S1x4x128x512_S1x1x128x512_0_3_0_0, P3⟩, ⟨Rect.unit ![0, 2, 0, 0] ![1, 1, 128, 512] inb_S1x4x128x512_S1x1x128x512_0_2_0_0, P2⟩,
      ⟨Rect.unit ![0, 1, 0, 0] ![1, 1, 128, 512] inb_S1x4x128x512_S1x1x128x512_0_1_0_0, P1⟩, ⟨Rect.unit ![0, 0, 0, 0] ![1, 1, 128, 512] inb_S1x4x128x512_S1x1x128x512_0_0_0_0, P0⟩] y =
      (![P0, P1, P2, P3] i) (ix4 0 0 n k) := by
  canon_tiles x h
  · exact state_of ![P0, P1, P2, P3] 3 i x y1 y2 y3 h1 (by omega) (by omega)
  · exact state_of ![P0, P1, P2, P3] 2 i x y1 y2 y3 h1 (by omega) (by omega)
  · exact state_of ![P0, P1, P2, P3] 1 i x y1 y2 y3 h1 (by omega) (by omega)
  · exact state_of ![P0, P1, P2, P3] 0 i x y1 y2 y3 (h1.trans (Nat.zero_add _).symm) (by omega) (by omega)

section
variable (p : Shared Ideal) (r0 r1 r2 r3 : Rows Ideal) (h : Vec Ideal S128x512 .f32)

theorem outputs_read (i : Fin 4) (s : Fin 256) (k : Fin 512) (y : S1024x512.Idx) (y0 : (y 0 : Nat) = 256 * i.val + s.val) (y1 : (y 1 : Nat) = k.val) :
    outputs p r0 r1 r2 r3 h y =
      (![chunkOut p r0 h, chunkOut p r1 (chunkNext p r0 h), chunkOut p r2 (next2 p r0 r1 h), chunkOut p r3 (next3 p r0 r1 r2 h)] i) (ix2 s k) := by
  unfold outputs
  exact read_rows _ _ _ _ i s k y y0 y1

theorem mixed_read (i : Fin 4) (s : Fin 256) (k : Fin 512) (y : S1024x512.Idx) (y0 : (y 0 : Nat) = 256 * i.val + s.val) (y1 : (y 1 : Nat) = k.val) :
    mixed p r0 r1 r2 r3 h y =
      (![chunkMixed p r0 h, chunkMixed p r1 (chunkNext p r0 h), chunkMixed p r2 (next2 p r0 r1 h), chunkMixed p r3 (next3 p r0 r1 r2 h)] i) (ix2 s k) := by
  unfold mixed
  exact read_rows _ _ _ _ i s k y y0 y1

theorem entering_read (i : Fin 4) (n : Fin 128) (k : Fin 512) (y : S1x4x128x512.Idx) (y1 : (y 1 : Nat) = i.val) (y2 : (y 2 : Nat) = n.val) (y3 : (y 3 : Nat) = k.val) :
    entering p r0 r1 r2 h y = (![k0_pay19 h, k0_pay19 (chunkNext p r0 h), k0_pay19 (next2 p r0 r1 h), k0_pay19 (next3 p r0 r1 r2 h)] i) (ix4 0 0 n k) := by
  unfold entering
  exact read_states _ _ _ _ i n k y y1 y2 y3
end

end Cert.ScanValue

end
-- ==== Proof.ScanArray.lean ====
/-
  The scan's three result arrays: a point's chunks hold their arguments' rows, the state handed from point to point is the one
  that enters the next chunk, and so each result is the chunk's.
-/
module

public import proofs.«01_k».proof.Proof.ScanRows
public import proofs.«01_k».proof.Proof.ScanStores

@[expose] public section

set_option maxRecDepth 16384

noncomputable section

namespace Cert.ScanValue

open Idealize.ShloMosaic Idealize.ShloMosaic.TcCoe Idealize.SL.Sem
open Cert.ScanIdeal Cert.ScanIdeal.Gen Cert.ScanIdeal.Value

/-- The rows of a point's blocks from row `o` on. -/
def rowsAt (x0 : Vec Ideal S1024x512 .f32) (x1 x2 x3 : Vec Ideal S1024x128 .f32) (x4 : Vec Ideal S1x8x1024 .f32) (x10 : Vec Ideal S1024x512 .f32) (o : ℕ)
    (ho : o + 256 ≤ 1024) : Rows Ideal :=
  have wide : ∀ a, (![o, 0] : Fin 2 → Nat) a + (![256, 512] : Fin 2 → Nat) a ≤ S1024x512.size a := fun a => match a with | ⟨0, _⟩ => ho | ⟨1, _⟩ => le_refl 512
  have thin : ∀ a, (![o, 0] : Fin 2 → Nat) a + (![256, 128] : Fin 2 → Nat) a ≤ S1024x128.size a := fun a => match a with | ⟨0, _⟩ => ho | ⟨1, _⟩ => le_refl 128
  have flat : ∀ a, (![0, 0, o] : Fin 3 → Nat) a + (![1, 8, 256] : Fin 3 → Nat) a ≤ S1x8x1024.size a := fun a => match a with | ⟨0, _⟩ => le_refl 1 | ⟨1, _⟩ => le_refl 8 | ⟨2, _⟩ => ho
  ⟨View.ld x3 (Rect.unit ![o, 0] ![256, 128] thin), View.ld x4 (Rect.unit ![0, 0, o] ![1, 8, 256] flat), View.ld x0 (Rect.unit ![o, 0] ![256, 512] wide),
    View.ld x1 (Rect.unit ![o, 0] ![256, 128] thin), View.ld x2 (Rect.unit ![o, 0] ![256, 128] thin), View.ld x10 (Rect.unit ![o, 0] ![256, 512] wide)⟩

/-- A load of rows, at an index. -/
theorem ld_rows {a b n : ℕ} (X : Vec Ideal ⟨2, ![a, b]⟩ .f32) (o : ℕ) (inb) (s : Fin n) (k : Fin b) (h : o + s.val < a) :
    View.ld X (Rect.unit ![o, 0] ![n, b] inb) (ix2 s k) = X (ix2 ⟨o + s.val, h⟩ k) :=
  View.ld_unit_apply_of X _ _ _ _ _ fun a => match a with
    | ⟨0, _⟩ => rfl
    | ⟨1, _⟩ => by show k.val = 0 + k.val; omega

section
variable (x0 : Vec Ideal S1024x512 .f32) (x1 x2 x3 : Vec Ideal S1024x128 .f32) (x4 : Vec Ideal S1x8x1024 .f32) (x10 : Vec Ideal S1024x512 .f32) (o : ℕ) (ho : o + 256 ≤ 1024)
  (s : Fin 256)

theorem rowsAt_d (k : Fin 128) : (rowsAt x0 x1 x2 x3 x4 x10 o ho).d (ix2 s k) = x3 (ix2 ⟨o + s.val, by omega⟩ k) := ld_rows _ _ _ _ _ _
theorem rowsAt_dT (e : Fin 8) : (rowsAt x0 x1 x2 x3 x4 x10 o ho).dT (ix3 0 e s) = x4 (ix3 0 e ⟨o + s.val, by omega⟩) :=
  View.ld_unit_apply_of _ _ _ _ _ _ fun a => match a with
    | ⟨0, _⟩ => rfl
    | ⟨1, _⟩ => by show e.val = 0 + e.val; omega
    | ⟨2, _⟩ => rfl
theorem rowsAt_x (k : Fin 512) : (rowsAt x0 x1 x2 x3 x4 x10 o ho).xs (ix2 s k) = x0 (ix2 ⟨o + s.val, by omega⟩ k) := ld_rows _ _ _ _ _ _
theorem rowsAt_b (k : Fin 128) : (rowsAt x0 x1 x2 x3 x4 x10 o ho).b (ix2 s k) = x1 (ix2 ⟨o + s.val, by omega⟩ k) := ld_rows _ _ _ _ _ _
theorem rowsAt_c (k : Fin 128) : (rowsAt x0 x1 x2 x3 x4 x10 o ho).c (ix2 s k) = x2 (ix2 ⟨o + s.val, by omega⟩ k) := ld_rows _ _ _ _ _ _
theorem rowsAt_z (k : Fin 512) : (rowsAt x0 x1 x2 x3 x4 x10 o ho).z (ix2 s k) = x10 (ix2 ⟨o + s.val, by omega⟩ k) := ld_rows _ _ _ _ _ _
end

/-- What a point leaves, from what its chunks share and their rows. -/
theorem leaves_eq (i : grid0.Coords) (x0 : Vec Ideal S1024x512 .f32) (x1 x2 x3 : Vec Ideal S1024x128 .f32) (x4 : Vec Ideal S1x8x1024 .f32) (x5 : Vec Ideal S1x128 .f32)
    (x6 : Vec Ideal S1x8x1 .f32) (x7 : Vec Ideal S1x512 .f32) (x8 : Vec Ideal S1x8x1 .f32) (x9 : Vec Ideal S1x512 .f32) (x10 : Vec Ideal S1024x512 .f32) (x11 : Vec Ideal S1x512 .f32)
    (h : Vec Ideal S128x512 .f32) {p : Shared Ideal} (hp : (⟨BitVec.ofNat 32 (i 0).val, x5, x6, x7, x8, x9, x11⟩ : Shared Ideal) = p) {r : Fin 4 → Rows Ideal}
    (hr : ∀ i : Fin 4, rowsAt x0 x1 x2 x3 x4 x10 (256 * i.val) (by omega) = r i) :
    leaves i x0 x1 x2 x3 x4 x5 x6 x7 x8 x9 x10 x11 h =
      (outputs p (r 0) (r 1) (r 2) (r 3) h, entering p (r 0) (r 1) (r 2) h, mixed p (r 0) (r 1) (r 2) (r 3) h, next4 p (r 0) (r 1) (r 2) (r 3) h) := by
  rw [← hp, ← hr 0, ← hr 1, ← hr 2, ← hr 3]
  rfl

variable (m : (ℓ : Loc nD τ sig) → Buf (Elt Ideal) ℓ) (c : Dev nD) (R : (args m c).Real) (t : Fin cfg0.N)

/-- The chunk of rows number `i` of point `t`, and what the point's chunks share. -/
def pointRows (i : Fin 4) : Rows Ideal :=
  rowsAt (iblk m c 0 t) (iblk m c 1 t) (iblk m c 2 t) (iblk m c 3 t) (iblk m c 4 t) (X0_10 m c t) (256 * i.val) (by omega)
def pointShared : Shared Ideal :=
  ⟨BitVec.ofNat 32 ((grid0.coords t) 0).val, iblk m c 5 t, iblk m c 6 t, iblk m c 7 t, iblk m c 8 t, iblk m c 9 t, iblk m c 11 t⟩

/-- The number of that chunk in its group. -/
def number (i : Fin 4) : ℕ := 4 * (t.val % 8) + i.val

theorem row_number (i : Fin 4) (s : Fin 256) : rowAt t ⟨256 * i.val + s.val, by omega⟩ = row (number t i) s :=
  Fin.ext (by show 1024 * (t.val % 8) + (256 * i.val + s.val) = (256 * (4 * (t.val % 8) + i.val) + s.val) % 8192; omega)

theorem left_eq (h : Vec Ideal S128x512 .f32) : left0 m c t h =
    (outputs (pointShared m c t) (pointRows m c t 0) (pointRows m c t 1) (pointRows m c t 2) (pointRows m c t 3) h,
      entering (pointShared m c t) (pointRows m c t 0) (pointRows m c t 1) (pointRows m c t 2) h,
      mixed (pointShared m c t) (pointRows m c t 0) (pointRows m c t 1) (pointRows m c t 2) (pointRows m c t 3) h,
      next4 (pointShared m c t) (pointRows m c t 0) (pointRows m c t 1) (pointRows m c t 2) (pointRows m c t 3) h) :=
  leaves_eq _ _ _ _ _ _ _ _ _ _ _ _ _ h (p := pointShared m c t) rfl (r := pointRows m c t) fun _ => rfl

include R

theorem holds (i : Fin 4) : Holds ((args m c).chunk (groupAt t) (number t i)) (groupAt t) (pointShared m c t) (pointRows m c t i) where
  j := congrArg (BitVec.ofNat 32) (index_at t).2.2.2.2.2.2.2
  d s e := by
    unfold pointRows
    rw [rowsAt_d]
    refine Eq.trans (congrArg₂ (fun u v : EReal => u + v) (block_step m c t ⟨256 * i.val + s.val, by omega⟩ (headCol (groupAt t) e)) (block_bias m c t (headCol (groupAt t) e))) ?_
    rw [row_number]
    exact R.raw _ _
  dT s e := by
    unfold pointRows
    rw [rowsAt_dT]
    refine Eq.trans (congrArg₂ (fun u v : EReal => u + v) (block_stepT m c t e ⟨256 * i.val + s.val, by omega⟩) (block_biasT m c t e)) ?_
    rw [row_number]
    exact R.raw _ _
  al k := (block_rate m c t k).trans (R.al _)
  alT e := (block_rateT m c t e).trans (R.al _)
  x s k := by
    unfold pointRows
    rw [rowsAt_x]
    refine (block_x m c t ⟨256 * i.val + s.val, by omega⟩ k).trans ?_
    rw [row_number]
    rfl
  b s n := by
    unfold pointRows
    rw [rowsAt_b]
    refine (block_b m c t ⟨256 * i.val + s.val, by omega⟩ n).trans ?_
    rw [row_number]
    rfl
  c s n := by
    unfold pointRows
    rw [rowsAt_c]
    refine (block_c m c t ⟨256 * i.val + s.val, by omega⟩ n).trans ?_
    rw [row_number]
    rfl
  ds k := block_skip m c t k
  z s k := by
    unfold pointRows
    rw [rowsAt_z]
    refine (block_gate m c t ⟨256 * i.val + s.val, by omega⟩ k).trans ?_
    rw [row_number]
    rfl
  w k := block_norm m c t k

section
variable {h : Vec Ideal S128x512 .f32} (hh : ∀ n k, h (ix2 n k) = (args m c).enter (groupAt t) (number t 0) n k)
include hh

theorem enter1 (n : Fin 128) (k : Fin 512) : chunkNext (pointShared m c t) (pointRows m c t 0) h (ix2 n k) = (args m c).enter (groupAt t) (number t 1) n k :=
  chunkNext_apply (holds m c R t 0) hh n k
theorem enter2 (n : Fin 128) (k : Fin 512) : next2 (pointShared m c t) (pointRows m c t 0) (pointRows m c t 1) h (ix2 n k) = (args m c).enter (groupAt t) (number t 2) n k :=
  chunkNext_apply (holds m c R t 1) (enter1 m c R t hh) n k
theorem enter3 (n : Fin 128) (k : Fin 512) :
    next3 (pointShared m c t) (pointRows m c t 0) (pointRows m c t 1) (pointRows m c t 2) h (ix2 n k) = (args m c).enter (groupAt t) (number t 3) n k :=
  chunkNext_apply (holds m c R t 2) (enter2 m c R t hh) n k

/-- The state the point hands on. -/
theorem left_state (n : Fin 128) (k : Fin 512) : (left0 m c t h).2.2.2 (ix2 n k) = (args m c).enter (groupAt t) (4 * (t.val % 8) + 4) n k := by
  rw [left_eq]
  pointwise [next4]
  exact chunkNext_apply (holds m c R t 3) (enter3 m c R t hh) n k

theorem left_out (i : Fin 4) (s : Fin 256) (k : Fin 512) (y : S1024x512.Idx) (y0 : (y 0 : Nat) = 256 * i.val + s.val) (y1 : (y 1 : Nat) = k.val) :
    (left0 m c t h).1 y = ((args m c).chunk (groupAt t) (number t i)).out ((args m c).enter (groupAt t) (number t i)) s k := by
  rw [left_eq]
  refine (outputs_read _ _ _ _ _ _ i s k y y0 y1).trans ?_
  obtain rfl | rfl | rfl | rfl := one_of_four i
  · exact chunkOut_apply (holds m c R t 0) (v := h) hh s k
  · exact chunkOut_apply (holds m c R t 1) (v := (chunkNext (pointShared m c t) (pointRows m c t 0) h)) (enter1 m c R t hh) s k
  · exact chunkOut_apply (holds m c R t 2) (v := (next2 (pointShared m c t) (pointRows m c t 0) (pointRows m c t 1) h)) (enter2 m c R t hh) s k
  · exact chunkOut_apply (holds m c R t 3) (v := (next3 (pointShared m c t) (pointRows m c t 0) (pointRows m c t 1) (pointRows m c t 2) h)) (enter3 m c R t hh) s k

theorem left_mixed (i : Fin 4) (s : Fin 256) (k : Fin 512) (y : S1024x512.Idx) (y0 : (y 0 : Nat) = 256 * i.val + s.val) (y1 : (y 1 : Nat) = k.val) :
    (left0 m c t h).2.2.1 y = ((args m c).chunk (groupAt t) (number t i)).mixed ((args m c).enter (groupAt t) (number t i)) s k := by
  rw [left_eq]
  refine (mixed_read _ _ _ _ _ _ i s k y y0 y1).trans ?_
  obtain rfl | rfl | rfl | rfl := one_of_four i
  · exact chunkMixed_apply (holds m c R t 0) (v := h) hh s k
  · exact chunkMixed_apply (holds m c R t 1) (v := (chunkNext (pointShared m c t) (pointRows m c t 0) h)) (enter1 m c R t hh) s k
  · exact chunkMixed_apply (holds m c R t 2) (v := (next2 (pointShared m c t) (pointRows m c t 0) (pointRows m c t 1) h)) (enter2 m c R t hh) s k
  · exact chunkMixed_apply (holds m c R t 3) (v := (next3 (pointShared m c t) (pointRows m c t 0) (pointRows m c t 1) (pointRows m c t 2) h)) (enter3 m c R t hh) s k

omit R hh in
theorem kept (v : Vec Ideal S128x512 .f32) (n : Fin 128) (k : Fin 512) : k0_pay19 v (ix4 0 0 n k) = v (ix2 n k) := by
  pointwise [k0_pay19]

theorem left_enter (i : Fin 4) (n : Fin 128) (k : Fin 512) (y : S1x4x128x512.Idx) (y1 : (y 1 : Nat) = i.val) (y2 : (y 2 : Nat) = n.val) (y3 : (y 3 : Nat) = k.val) :
    (left0 m c t h).2.1 y = (args m c).enter (groupAt t) (number t i) n k := by
  rw [left_eq]
  dsimp only
  rw [entering_read _ _ _ _ _ i n k y y1 y2 y3]
  obtain rfl | rfl | rfl | rfl := one_of_four i
  · exact (kept h n k).trans (hh n k)
  · exact (kept (chunkNext (pointShared m c t) (pointRows m c t 0) h) n k).trans (enter1 m c R t hh n k)
  · exact (kept (next2 (pointShared m c t) (pointRows m c t 0) (pointRows m c t 1) h) n k).trans (enter2 m c R t hh n k)
  · exact (kept (next3 (pointShared m c t) (pointRows m c t 0) (pointRows m c t 1) (pointRows m c t 2) h) n k).trans (enter3 m c R t hh n k)
end

/-- Every point runs from the state that enters its first chunk. -/
theorem point_runs : ∀ n (hn : n < cfg0.N), ∃ h : Vec Ideal S128x512 .f32, outsAt0 m c n hn = left0 m c ⟨n, hn⟩ h ∧
    ∀ i k, h (ix2 i k) = (args m c).enter (groupAt ⟨n, hn⟩) (number ⟨n, hn⟩ 0) i k := by
  intro n
  induction n with
  | zero =>
    intro hn
    exact ⟨_, outs_first m c ⟨0, hn⟩ rfl, fun i k => by pointwise [k0_pay2]; exact Cert.Lift.zero_coe⟩
  | succ n ih =>
    intro hn
    by_cases h0 : (n + 1) % 8 = 0
    · refine ⟨_, outs_first m c ⟨n + 1, hn⟩ h0, fun i k => ?_⟩
      pointwise [k0_pay2]
      rw [show number ⟨n + 1, hn⟩ 0 = 0 from by show 4 * ((n + 1) % 8) + 0 = 0; omega]
      exact Cert.Lift.zero_coe
    · refine ⟨_, outs_next m c ⟨n + 1, hn⟩ h0, fun i k => ?_⟩
      obtain ⟨h, e, hh⟩ := ih (by omega)
      show (outsAt0 m c n _).2.2.2 (ix2 i k) = _
      rw [e, left_state m c R ⟨n, _⟩ hh i k, show groupAt ⟨n + 1, hn⟩ = groupAt ⟨n, by omega⟩ from Fin.ext (by show (n + 1) / 8 = n / 8; omega),
        show number ⟨n + 1, hn⟩ 0 = 4 * (n % 8) + 4 from by show 4 * ((n + 1) % 8) + 0 = 4 * (n % 8) + 4; omega]

section
variable (q : Fin 32) (g : Fin 4)

omit R in
theorem point_lt : 8 * g.val + q.val / 4 < cfg0.N := by have hN : cfg0.N = 32 := N_0; omega

omit R in
theorem group_point : groupAt ⟨8 * g.val + q.val / 4, point_lt q g⟩ = g := Fin.ext (by show (8 * g.val + q.val / 4) / 8 = g.val; omega)
omit R in
theorem number_point : number ⟨8 * g.val + q.val / 4, point_lt q g⟩ ⟨q.val % 4, by omega⟩ = q.val := by
  show 4 * ((8 * g.val + q.val / 4) % 8) + q.val % 4 = q.val
  omega

/-- The first result: the outputs. -/
theorem outputs_final (s : Fin 256) (k : Fin 512) : G12 m c (ix2 (row q.val s) (inCol g k)) = ((args m c).chunk g q.val).out ((args m c).enter g q.val) s k := by
  have hr := row_val q s
  obtain ⟨h, e, hh⟩ := point_runs m c R (8 * g.val + q.val / 4) (point_lt q g)
  have hp : pt12Of (ix2 (row q.val s) (inCol g k)) = 8 * g.val + q.val / 4 := by
    show 1 * ((row q.val s).val / 1024 - 0) + 8 * ((512 * g.val + k.val) / 512 - 0) = _
    omega
  unfold G12
  simp only [hp]
  rw [dif_pos (point_lt q g), ← outsAt0_sweep m c _ (point_lt q g), e]
  refine (left_out m c R _ hh ⟨q.val % 4, by omega⟩ s k _ ?_ ?_).trans (by rw [group_point, number_point])
  · show (row q.val s).val % 1024 = 256 * (q.val % 4) + s.val
    omega
  · show (512 * g.val + k.val) % 512 = k.val
    omega

/-- The second: the states that enter the chunks. -/
theorem states_final (n : Fin 128) (k : Fin 512) : G13 m c (ix4 g q n k) = (args m c).enter g q.val n k := by
  obtain ⟨h, e, hh⟩ := point_runs m c R (8 * g.val + q.val / 4) (point_lt q g)
  have hp : pt13Of (ix4 g q n k) = 8 * g.val + q.val / 4 := by
    show 8 * (g.val / 1 - 0) + 1 * (q.val / 4 - 0) + 1 * (n.val / 128 - 0) + 1 * (k.val / 512 - 0) = _
    omega
  unfold G13
  simp only [hp]
  rw [dif_pos (point_lt q g), ← outsAt0_sweep m c _ (point_lt q g), e]
  refine (left_enter m c R _ hh ⟨q.val % 4, by omega⟩ n k _ rfl ?_ ?_).trans (by rw [group_point, number_point])
  · show n.val % 128 = n.val
    omega
  · show k.val % 512 = k.val
    omega

/-- The third: the outputs after the gate and the normalisation. -/
theorem mixed_final (s : Fin 256) (k : Fin 512) : G14 m c (ix2 (row q.val s) (inCol g k)) = ((args m c).chunk g q.val).mixed ((args m c).enter g q.val) s k := by
  have hr := row_val q s
  obtain ⟨h, e, hh⟩ := point_runs m c R (8 * g.val + q.val / 4) (point_lt q g)
  have hp : pt14Of (ix2 (row q.val s) (inCol g k)) = 8 * g.val + q.val / 4 := by
    show 1 * ((row q.val s).val / 1024 - 0) + 8 * ((512 * g.val + k.val) / 512 - 0) = _
    omega
  unfold G14
  simp only [hp]
  rw [dif_pos (point_lt q g), ← outsAt0_sweep m c _ (point_lt q g), e]
  refine (left_mixed m c R _ hh ⟨q.val % 4, by omega⟩ s k _ ?_ ?_).trans (by rw [group_point, number_point])
  · show (row q.val s).val % 1024 = 256 * (q.val % 4) + s.val
    omega
  · show (512 * g.val + k.val) % 512 = k.val
    omega
end

end Cert.ScanValue

end
-- ==== Proof.ScanSums.lean ====
/-
  The running sum along the second axis of an array of rank four, as a sum over the entries up to a position.
-/
module

public import proofs.«01_k».proof.Proof.PoolSums
public import Idealize.ShloMosaic.Lib.Pointwise

@[expose] public section

set_option maxRecDepth 16384

noncomputable section

namespace Cert.ScanValue

open Idealize.ShloMosaic Idealize.ShloMosaic.TcCoe Idealize.SL.Sem Cert.Lift

/-- The window of one column of 256 rows, by its rows. -/
theorem column_index (n : Fin (⟨4, ![1, 256, 1, 1]⟩ : Shape).numel) (hn : n.val < 256) :
    (⟨4, ![1, 256, 1, 1]⟩ : Shape).rowMajor.symm n = ix4 (0 : Fin 1) (⟨n.val, hn⟩ : Fin 256) (0 : Fin 1) (0 : Fin 1) := by
  rw [Equiv.symm_apply_eq]
  refine Fin.ext ?_
  rw [rowMajor_val4 _ 256 1 1 rfl rfl rfl]
  show n.val = 0 * 256 + n.val * 1 + 0 * 1 + 0
  omega

/-- The entries at which a window of 256 rows, shifted so that it ends at row `s`, meets the array. -/
theorem window_sum (f : Fin 256 → ℝ) (s : Fin 256) :
    (∑ n : Fin 256, if h : 255 ≤ s.val + n.val then f ⟨s.val + n.val - 255, by omega⟩ else 0) = ∑ t : Fin 256, if t ≤ s then f t else 0 := by
  have h : ∀ g : ℕ → ℝ, (∑ n ∈ Finset.range 256, if 255 ≤ s.val + n then g (s.val + n - 255) else 0) = ∑ t ∈ Finset.range 256, if t ≤ s.val then g t else 0 := fun g => by
    rw [← Finset.sum_filter, ← Finset.sum_filter]
    refine Finset.sum_bij' (fun n _ => s.val + n - 255) (fun t _ => t + 255 - s.val) (fun n hn => ?_) (fun t ht => ?_) (fun n hn => ?_) (fun t ht => ?_) (fun n hn => rfl)
    all_goals simp only [Finset.mem_filter, Finset.mem_range] at *; omega
  have hf : ∀ t : Fin 256, (fun n : ℕ => if h : n < 256 then f ⟨n, h⟩ else 0) t.val = f t := fun t => dif_pos t.isLt
  have h' := h fun n => if h : n < 256 then f ⟨n, h⟩ else 0
  rw [← Fin.sum_univ_eq_sum_range (fun n : ℕ => if 255 ≤ s.val + n then _ else 0), ← Fin.sum_univ_eq_sum_range (fun n : ℕ => if n ≤ s.val then _ else 0)] at h'
  refine Eq.trans (Finset.sum_congr rfl fun n _ => ?_) (h'.trans (Finset.sum_congr rfl fun t _ => ?_))
  · by_cases hn : 255 ≤ s.val + n.val
    · rw [dif_pos hn, if_pos hn, dif_pos (by omega)]
    · rw [dif_neg hn, if_neg hn]
  · rw [dif_pos t.isLt]
    rfl

theorem running_sum (x : (⟨4, ![32, 256, 4, 8]⟩ : Shape).Idx → EReal) (f : Fin 256 → ℝ) (q : Fin 32) (g : Fin 4) (e : Fin 8) (hx : ∀ t, x (ix4 q t g e) = (f t : EReal))
    (h : (⟨4, ![32, 256, 4, 8]⟩ : Shape).ReduceWindows (![1, 256, 1, 1] : Fin 4 → ℕ) ![1, 1, 1, 1] ![0, 255, 0, 0] ![0, 0, 0, 0] ⟨4, ![32, 256, 4, 8]⟩) (s : Fin 256) :
    Ideal.hostReduceWindowAdd ![1, 256, 1, 1] ![1, 1, 1, 1] ![0, 255, 0, 0] ![0, 0, 0, 0] h x 0 (ix4 q s g e) = ((∑ t : Fin 256, if t ≤ s then f t else 0 : ℝ) : EReal) := by
  have hs := s.isLt
  have hq := q.isLt
  have hg := g.isLt
  have he := e.isLt
  have hnum : (⟨4, ![1, 256, 1, 1]⟩ : Shape).numel = 256 := by decide
  unfold Ideal.hostReduceWindowAdd Host.reduceWindow
  refine (Cert.PoolValue.foldl_sum _ (fun n => if h : 255 ≤ s.val + n.val then f ⟨s.val + n.val - 255, by have := n.isLt.trans_eq hnum; omega⟩ else 0) fun n => ?_).trans ?_
  · have hn : n.val < 256 := n.isLt.trans_eq hnum
    have hw := column_index n hn
    dsimp only
    have inside : (∀ a : Fin 4, (![0, 255, 0, 0] : Fin 4 → ℕ) a ≤ ((ix4 q s g e : (⟨4, ![32, 256, 4, 8]⟩ : Shape).Idx) a).val * (![1, 1, 1, 1] : Fin 4 → ℕ) a + ((⟨4, ![1, 256, 1, 1]⟩ : Shape).rowMajor.symm n a).val
        ∧ ((ix4 q s g e : (⟨4, ![32, 256, 4, 8]⟩ : Shape).Idx) a).val * (![1, 1, 1, 1] : Fin 4 → ℕ) a + ((⟨4, ![1, 256, 1, 1]⟩ : Shape).rowMajor.symm n a).val - (![0, 255, 0, 0] : Fin 4 → ℕ) a < (⟨4, ![32, 256, 4, 8]⟩ : Shape).size a) ↔ 255 ≤ s.val + n.val := by
      rw [hw]
      constructor
      · intro h
        have h1 : 255 ≤ s.val * 1 + n.val ∧ s.val * 1 + n.val - 255 < 256 := h 1
        omega
      · intro h a
        match a with
        | ⟨0, _⟩ => show 0 ≤ q.val * 1 + 0 ∧ q.val * 1 + 0 - 0 < 32; omega
        | ⟨1, _⟩ => show 255 ≤ s.val * 1 + n.val ∧ s.val * 1 + n.val - 255 < 256; omega
        | ⟨2, _⟩ => show 0 ≤ g.val * 1 + 0 ∧ g.val * 1 + 0 - 0 < 4; omega
        | ⟨3, _⟩ => show 0 ≤ e.val * 1 + 0 ∧ e.val * 1 + 0 - 0 < 8; omega
    split
    · next hin =>
      have h1 := inside.1 hin
      rw [dif_pos h1]
      refine (congrArg x (funext fun a => Fin.ext ?_)).trans (hx _)
      match a with
      | ⟨0, _⟩ => show q.val * 1 + ((⟨4, ![1, 256, 1, 1]⟩ : Shape).rowMajor.symm n 0).val - 0 = q.val; rw [hw]; show q.val * 1 + 0 - 0 = q.val; omega
      | ⟨1, _⟩ => show s.val * 1 + ((⟨4, ![1, 256, 1, 1]⟩ : Shape).rowMajor.symm n 1).val - 255 = s.val + n.val - 255; rw [hw]; show s.val * 1 + n.val - 255 = _; omega
      | ⟨2, _⟩ => show g.val * 1 + ((⟨4, ![1, 256, 1, 1]⟩ : Shape).rowMajor.symm n 2).val - 0 = g.val; rw [hw]; show g.val * 1 + 0 - 0 = g.val; omega
      | ⟨3, _⟩ => show e.val * 1 + ((⟨4, ![1, 256, 1, 1]⟩ : Shape).rowMajor.symm n 3).val - 0 = e.val; rw [hw]; show e.val * 1 + 0 - 0 = e.val; omega
    · next hin =>
      rw [dif_neg fun h1 => hin (inside.2 h1)]
      rfl
  · refine congrArg _ (Eq.trans ?_ (window_sum f s))
    exact Fintype.sum_equiv (finCongr hnum) _ _ fun n => rfl

end Cert.ScanValue

end
-- ==== Proof.ScanRef.lean ====
/-
  What the scan's reference computes up to the state that each chunk adds, in the terms of the chunks.
-/
module

public import proofs.«01_k».proof.Proof.Gen.ScanRefIdeal.Read
public import proofs.«01_k».proof.Proof.ScanChunk
public import proofs.«01_k».proof.Proof.ScanSums
public import Idealize.ShloMosaic.Lib.WordCmp

@[expose] public section

set_option maxRecDepth 16384

noncomputable section

namespace Cert.ScanValue

open Idealize.ShloMosaic Idealize.ShloMosaic.TcCoe Idealize.SL.Sem Cert.Lift
open Cert.ScanRefIdeal Cert.ScanRefIdeal.Gen Cert.ScanRefIdeal.Read

variable {X : Args} (R : X.Real)

theorem raw_ref (n : Fin 8192) (k : Fin 32) : val_main_v6 (F := Ideal) X.x0 X.x2 (ix2 n k) = X.raw n k := by
  pointwise [val_main_v6, val_main_v5, val_main_v1]
  rfl

section
include R

theorem softplus_ref (n : Fin 8192) (k : Fin 32) : val_main_v7 (F := Ideal) X.x0 X.x2 (ix2 n k) = ((softplus (X.raw n k).toReal : ℝ) : EReal) := by
  pointwise [val_main_v7, val_main_call0_v4, val_main_call0_v6, val_main_call0_v11, val_main_call0_v10, val_main_call0_v9, val_main_call0_v8, val_main_call0_v7,
    val_main_call0_v3, val_main_call0_v1, val_main_call0_v0, val_main_call0_v2, val_main_call0_v5, val_main_call0_cst]
  rw [raw_ref]
  have hx := R.raw n k
  generalize (X.raw n k).toReal = x at hx ⊢
  rw [hx, if_neg (not_not.mpr rfl), Ideal.absf_def, ← EReal.coe_neg, max_coe, zero_coe, max_coe, ← EReal.coe_neg, Ideal.exp_coe, log1p_coe (by positivity), ← EReal.coe_add]
  rfl

theorem step_ref (q : Fin 32) (s : Fin 256) (g : Fin 4) (e : Fin 8) :
    val_main_v16 (F := Ideal) X.x0 X.x2 (ix4 q s g e) = ((X.chunk g q.val).step s e : EReal) := by
  pointwise [val_main_v16, val_main_v11]
  exact (at2 _ (i' := row q.val s) (j' := headCol g e) (by rw [row_val]; dsimp only; omega) (by show _ = 8 * g.val + e.val; dsimp only; omega)).trans (softplus_ref R _ _)

theorem fall_ref (q : Fin 32) (s : Fin 256) (g : Fin 4) (e : Fin 8) :
    val_main_v21 (F := Ideal) X.x0 X.x2 X.x3 (ix4 q s g e) = ((X.chunk g q.val).fall s e : EReal) := by
  pointwise [val_main_v21, val_main_v20, val_main_v19, val_main_v12, val_main_v9, val_main_v8]
  rw [step_ref R, at2 X.x3 (i' := 0) (j' := headCol g e) rfl (by show _ = 8 * g.val + e.val; dsimp only; omega), R.al, Ideal.exp_coe, ← EReal.coe_neg, ← EReal.coe_mul]
  rfl

theorem cum_ref (q : Fin 32) (s : Fin 256) (g : Fin 4) (e : Fin 8) :
    val_main_v22 (F := Ideal) X.x0 X.x2 X.x3 (ix4 q s g e) = ((X.chunk g q.val).cum s e : EReal) := by
  have hz : ∀ i, val_main_call1_call0_v0 (F := Ideal) i = 0 := fun i => by
    pointwise [val_main_call1_call0_v0, val_main_call1_call0_cst]
  unfold val_main_v22 Host.reduceWindowAdd
  rw [Ideal.hostReduceWindowAdd_def, hz]
  exact running_sum _ (fun t => (X.chunk g q.val).fall t e) q g e (fun t => fall_ref R q t g e) _ s

/-- The column of head `e`, place `p`. -/
def place (e : Fin 8) (p : Fin 64) : Fin 512 := ⟨64 * e.val + p.val, by omega⟩

omit R in
theorem headAt_place (e : Fin 8) (p : Fin 64) : headAt (place e p) = e := Fin.ext (by show (64 * e.val + p.val) / 64 = e.val; omega)

theorem xdt_ref (q : Fin 32) (s : Fin 256) (g : Fin 4) (e : Fin 8) (p : Fin 64) :
    val_main_v25 (F := Ideal) X.x0 X.x1 X.x2 (ix5 q s g e p) = (X.chunk g q.val).xdt s (place e p) := by
  pointwise [val_main_v25, val_main_v24, val_main_v23, val_main_v15, val_main_v10, val_main_v2]
  rw [step_ref R, at2 X.x1 (i' := row q.val s) (j' := ⟨(inCol g (place e p)).val, by omega⟩) (by rw [row_val]; dsimp only; omega)
    (by show _ = 512 * g.val + (64 * e.val + p.val); dsimp only; omega)]
  unfold Chunk.xdt
  rw [headAt_place]
  rfl

theorem decay_ref (q : Fin 32) (s t : Fin 256) (g : Fin 4) (e : Fin 8) :
    val_main_v35 (F := Ideal) X.x0 X.x2 X.x3 (ix5 q s t g e) = (X.chunk g q.val).decay s t e := by
  pointwise [val_main_v35, val_main_v34, val_main_call3_v1, val_main_call3_v2, val_main_call3_v0, val_main_v33, val_main_v32, val_main_v31, val_main_c, val_main_call2_v0,
    val_main_call2_c, val_main_call2_v1, val_main_call2_v2, val_main_call2_v3, val_main_call2_v4, val_main_call2_v5, val_main_call2_c_0, val_main_cst, val_main_v30, val_main_v28,
    val_main_v29, val_main_v26, val_main_v27]
  rw [cum_ref R, cum_ref R, ← EReal.coe_sub, show IntOp.addi (BitVec.ofNat 32 s.val) 0#32 = BitVec.ofNat 32 s.val from BitVec.add_zero _,
    WordCmp.cmpi_sge_ofNat (by omega) (by omega), show (id (constant (F := Ideal) S_ .f32 0xFF800000#32) : FVec Ideal S_ .f32) ix0 = ⊥ from ofBits_neg_inf]
  unfold Chunk.decay
  by_cases h : t ≤ s
  · simp only [if_pos h, show decide (t.val ≤ s.val) = true from decide_eq_true h]
    rfl
  · simp only [if_neg h, show decide (t.val ≤ s.val) = false from decide_eq_false h]
    rfl

end

theorem cb_ref (q : Fin 32) (s t : Fin 256) (g : Fin 4) : val_main_v36 (F := Ideal) X.x1 (ix4 q g t s) = (X.chunk g q.val).cb s t := by
  pointwise [val_main_v36, val_main_v17, val_main_v18, val_main_v13, val_main_v14, val_main_v3, val_main_v4]
  refine Finset.sum_congr rfl fun n _ => ?_
  refine Eq.trans (congrArg₂ (fun u v : EReal => u * v) (at2 X.x1 (i' := row q.val t) (j' := ⟨2048 + (projCol g n).val, by omega⟩) ?_ ?_)
    (at2 X.x1 (i' := row q.val s) (j' := ⟨2560 + (projCol g n).val, by omega⟩) ?_ ?_)) (mul_comm (G := EReal) _ _)
  · rw [row_val]; dsimp only; omega
  · show _ = 2048 + (128 * g.val + n.val); dsimp only; omega
  · rw [row_val]; dsimp only; omega
  · show _ = 2560 + (128 * g.val + n.val); dsimp only; omega

include R in
theorem diag_ref (q : Fin 32) (s : Fin 256) (g : Fin 4) (e : Fin 8) (p : Fin 64) :
    val_main_v42 (F := Ideal) X.x0 X.x1 X.x2 X.x3 (ix5 q s g e p) =
      ∑ t : Fin 256, (X.chunk g q.val).cb s t * (X.chunk g q.val).decay s t e * (X.chunk g q.val).xdt t (place e p) := by
  pointwise [val_main_v42, val_main_v41, val_main_v40, val_main_v39, val_main_v38, val_main_v37]
  refine Finset.sum_congr rfl fun t _ => ?_
  rw [xdt_ref R, cb_ref, decay_ref R]
  exact mul_comm (G := EReal) _ _

include R in
/-- What a chunk adds to the state, at each of its states … -/
theorem added_ref (q : Fin 32) (g : Fin 4) (e : Fin 8) (p : Fin 64) (n : Fin 128) :
    val_main_v50 (F := Ideal) X.x0 X.x1 X.x2 X.x3 (ix5 q g e p n) =
      ∑ s : Fin 256, (X.chunk g q.val).b s n * ((X.chunk g q.val).xdt s (place e p) * ((Real.exp ((X.chunk g q.val).cum 255 e - (X.chunk g q.val).cum s e) : ℝ) : EReal)) := by
  pointwise [val_main_v50, val_main_v49, val_main_v48, val_main_v47, val_main_v46, val_main_v45, val_main_v44, val_main_v43, val_main_v17, val_main_v13, val_main_v3]
  refine Finset.sum_congr rfl fun s _ => ?_
  rw [xdt_ref R, cum_ref R, cum_ref R, ← EReal.coe_sub, Ideal.exp_coe,
    at2 X.x1 (i' := row q.val s) (j' := ⟨2048 + (projCol g n).val, by omega⟩) (by rw [row_val]; dsimp only; omega) (by show _ = 2048 + (128 * g.val + n.val); dsimp only; omega)]
  refine Eq.trans ?_ (mul_comm (G := EReal) _ _)
  refine congrArg (fun v : EReal => v * _) ?_
  exact mul_comm (G := EReal) _ _

include R in
/-- … and what it leaves of it. -/
theorem kept_ref (q : Fin 32) (g : Fin 4) (e : Fin 8) :
    val_main_v53 (F := Ideal) X.x0 X.x2 X.x3 (ix3 q g e) = ((Real.exp ((X.chunk g q.val).cum 255 e) : ℝ) : EReal) := by
  pointwise [val_main_v53, val_main_v52, val_main_v51]
  exact (congrArg Ideal.exp (cum_ref R q 255 g e)).trans (Ideal.exp_coe _)

end Cert.ScanValue

end
-- ==== Proof.ScanRefState.lean ====
/-
  The states that the scan's reference carries from chunk to chunk.
-/
module

public import proofs.«01_k».proof.Proof.ScanRef
public import Idealize.ShloMosaic.Lib.Pipeline.ValueKit.Tiles

@[expose] public section

set_option maxRecDepth 16384

noncomputable section

namespace Cert.ScanValue

open Idealize.ShloMosaic Idealize.ShloMosaic.TcCoe Idealize.SL.Sem Cert.Lift
open Cert.ScanRefIdeal Cert.ScanRefIdeal.Gen Cert.ScanRefIdeal.Read

variable {X : Args}

/-- The array holds, for every group, the state that enters chunk `k`. -/
def Enters (X : Args) (k : ℕ) (v : FVec Ideal S4x8x64x128 .f32) : Prop :=
  ∀ (g : Fin 4) (e : Fin 8) (p : Fin 64) (n : Fin 128), v (ix4 g e p n) = X.enter g k n (place e p)

theorem enters_first : Enters X 0 (val_main_v54 (F := Ideal)) := fun g e p n => by
  pointwise [val_main_v54, val_main_cst_0]
  rfl

/-- One step of the recursion. -/
theorem Enters.step (R : X.Real) {k : ℕ} (hk : k < 32) {v : FVec Ideal S4x8x64x128 .f32} (hv : Enters X k v)
    (hs : S32x4x8x64x128.Slices ![k, 0, 0, 0, 0] S1x4x8x64x128) (hd : S32x4x8.Slices ![k, 0, 0] S1x4x8) :
    Enters X (k + 1) (addf (mulf v (broadcastInDim S4x8x64x128 ![0, 1, 2, 3] bcast_S4x8x1x1_S4x8x64x128_0_1_2_3
      (broadcastInDim S4x8x1x1 ![0, 1] bcast_S4x8_S4x8x1x1_0_1
        (shapeCast S4x8 (extractStridedSlice S1x4x8 ![k, 0, 0] (val_main_v58 (F := Ideal) X.x0 X.x2 X.x3) hd) shapeCasts_S1x4x8_S4x8))))
      (shapeCast S4x8x64x128 (extractStridedSlice S1x4x8x64x128 ![k, 0, 0, 0, 0] (val_main_v56 (F := Ideal) X.x0 X.x1 X.x2 X.x3) hs)
        shapeCasts_S1x4x8x64x128_S4x8x64x128)) := fun g e p n => by
  have hA := kept_ref R ⟨k, hk⟩ g e
  have hB := added_ref R ⟨k, hk⟩ g e p n
  have hC := hv g e p n
  pointwise [val_main_v58, val_main_v56]
  rw [hA, hB, hC]
  show _ = (X.chunk g k).next (X.enter g k) n (place e p)
  unfold Chunk.next
  rw [headAt_place]
  exact congrArg (fun v : EReal => v + _) (mul_comm (G := EReal) _ _)

/-- A state as one layer of a half of the stacked array. -/
theorem Enters.layer {k b : ℕ} {v : FVec Ideal S4x8x64x128 .f32} (hv : Enters X (k + b) v) {q : Fin 16} {g : Fin 4} {e : Fin 8} {p : Fin 64} {n : Fin 128}
    (i : S1x4x8x64x128.Idx) (hq : q.val = k) (h1 : (i 1).val = g.val) (h2 : (i 2).val = e.val) (h3 : (i 3).val = p.val) (h4 : (i 4).val = n.val) :
    broadcastInDim S1x4x8x64x128 ![1, 2, 3, 4] bcast_S4x8x64x128_S1x4x8x64x128_1_2_3_4 v i = X.enter g (q.val + b) n (place e p) := by
  have hi' : i = ix5 0 g e p n := by
    funext a
    match a with
    | ⟨0, _⟩ => exact Subsingleton.elim (α := Fin 1) _ _
    | ⟨1, _⟩ => exact Fin.ext h1
    | ⟨2, _⟩ => exact Fin.ext h2
    | ⟨3, _⟩ => exact Fin.ext h3
    | ⟨4, _⟩ => exact Fin.ext h4
  subst hi'
  subst hq
  pointwise []
  exact hv g e p n

/-- The two halves of the stacked array: the states that enter the first sixteen chunks, and the last sixteen. -/
theorem halves_ref (R : X.Real) (q : Fin 16) (g : Fin 4) (e : Fin 8) (p : Fin 64) (n : Fin 128) :
    val_main_v348 (F := Ideal) X.x0 X.x1 X.x2 X.x3 (ix5 q g e p n) = X.enter g q.val n (place e p) ∧
      val_main_v349 (F := Ideal) X.x0 X.x1 X.x2 X.x3 (ix5 q g e p n) = X.enter g (q.val + 16) n (place e p) := by
  have s0 := enters_first (X := X)
  have s1 : Enters X 1 (val_main_v67 (F := Ideal) X.x0 X.x1 X.x2 X.x3) := s0.step R (by norm_num) _ _
  have s2 : Enters X 2 (val_main_v75 (F := Ideal) X.x0 X.x1 X.x2 X.x3) := s1.step R (by norm_num) _ _
  have s3 : Enters X 3 (val_main_v83 (F := Ideal) X.x0 X.x1 X.x2 X.x3) := s2.step R (by norm_num) _ _
  have s4 : Enters X 4 (val_main_v91 (F := Ideal) X.x0 X.x1 X.x2 X.x3) := s3.step R (by norm_num) _ _
  have s5 : Enters X 5 (val_main_v99 (F := Ideal) X.x0 X.x1 X.x2 X.x3) := s4.step R (by norm_num) _ _
  have s6 : Enters X 6 (val_main_v107 (F := Ideal) X.x0 X.x1 X.x2 X.x3) := s5.step R (by norm_num) _ _
  have s7 : Enters X 7 (val_main_v115 (F := Ideal) X.x0 X.x1 X.x2 X.x3) := s6.step R (by norm_num) _ _
  have s8 : Enters X 8 (val_main_v123 (F := Ideal) X.x0 X.x1 X.x2 X.x3) := s7.step R (by norm_num) _ _
  have s9 : Enters X 9 (val_main_v131 (F := Ideal) X.x0 X.x1 X.x2 X.x3) := s8.step R (by norm_num) _ _
  have s10 : Enters X 10 (val_main_v139 (F := Ideal) X.x0 X.x1 X.x2 X.x3) := s9.step R (by norm_num) _ _
  have s11 : Enters X 11 (val_main_v147 (F := Ideal) X.x0 X.x1 X.x2 X.x3) := s10.step R (by norm_num) _ _
  have s12 : Enters X 12 (val_main_v155 (F := Ideal) X.x0 X.x1 X.x2 X.x3) := s11.step R (by norm_num) _ _
  have s13 : Enters X 13 (val_main_v163 (F := Ideal) X.x0 X.x1 X.x2 X.x3) := s12.step R (by norm_num) _ _
  have s14 : Enters X 14 (val_main_v171 (F := Ideal) X.x0 X.x1 X.x2 X.x3) := s13.step R (by norm_num) _ _
  have s15 : Enters X 15 (val_main_v179 (F := Ideal) X.x0 X.x1 X.x2 X.x3) := s14.step R (by norm_num) _ _
  have s16 : Enters X 16 (val_main_v187 (F := Ideal) X.x0 X.x1 X.x2 X.x3) := s15.step R (by norm_num) _ _
  have s17 : Enters X 17 (val_main_v195 (F := Ideal) X.x0 X.x1 X.x2 X.x3) := s16.step R (by norm_num) _ _
  have s18 : Enters X 18 (val_main_v203 (F := Ideal) X.x0 X.x1 X.x2 X.x3) := s17.step R (by norm_num) _ _
  have s19 : Enters X 19 (val_main_v211 (F := Ideal) X.x0 X.x1 X.x2 X.x3) := s18.step R (by norm_num) _ _
  have s20 : Enters X 20 (val_main_v219 (F := Ideal) X.x0 X.x1 X.x2 X.x3) := s19.step R (by norm_num) _ _
  have s21 : Enters X 21 (val_main_v227 (F := Ideal) X.x0 X.x1 X.x2 X.x3) := s20.step R (by norm_num) _ _
  have s22 : Enters X 22 (val_main_v235 (F := Ideal) X.x0 X.x1 X.x2 X.x3) := s21.step R (by norm_num) _ _
  have s23 : Enters X 23 (val_main_v243 (F := Ideal) X.x0 X.x1 X.x2 X.x3) := s22.step R (by norm_num) _ _
  have s24 : Enters X 24 (val_main_v251 (F := Ideal) X.x0 X.x1 X.x2 X.x3) := s23.step R (by norm_num) _ _
  have s25 : Enters X 25 (val_main_v259 (F := Ideal) X.x0 X.x1 X.x2 X.x3) := s24.step R (by norm_num) _ _
  have s26 : Enters X 26 (val_main_v267 (F := Ideal) X.x0 X.x1 X.x2 X.x3) := s25.step R (by norm_num) _ _
  have s27 : Enters X 27 (val_main_v275 (F := Ideal) X.x0 X.x1 X.x2 X.x3) := s26.step R (by norm_num) _ _
  have s28 : Enters X 28 (val_main_v283 (F := Ideal) X.x0 X.x1 X.x2 X.x3) := s27.step R (by norm_num) _ _
  have s29 : Enters X 29 (val_main_v291 (F := Ideal) X.x0 X.x1 X.x2 X.x3) := s28.step R (by norm_num) _ _
  have s30 : Enters X 30 (val_main_v299 (F := Ideal) X.x0 X.x1 X.x2 X.x3) := s29.step R (by norm_num) _ _
  have s31 : Enters X 31 (val_main_v307 (F := Ideal) X.x0 X.x1 X.x2 X.x3) := s30.step R (by norm_num) _ _
  unfold val_main_v348 val_main_v349
  constructor
  · concat_tiles i h
    · exact s0.layer (k := 0) (b := 0) i h h1 h2 h3 h4
    · exact s1.layer (k := 1) (b := 0) i h h1 h2 h3 h4
    · exact s2.layer (k := 2) (b := 0) i h h1 h2 h3 h4
    · exact s3.layer (k := 3) (b := 0) i h h1 h2 h3 h4
    · exact s4.layer (k := 4) (b := 0) i h h1 h2 h3 h4
    · exact s5.layer (k := 5) (b := 0) i h h1 h2 h3 h4
    · exact s6.layer (k := 6) (b := 0) i h h1 h2 h3 h4
    · exact s7.layer (k := 7) (b := 0) i h h1 h2 h3 h4
    · exact s8.layer (k := 8) (b := 0) i h h1 h2 h3 h4
    · exact s9.layer (k := 9) (b := 0) i h h1 h2 h3 h4
    · exact s10.layer (k := 10) (b := 0) i h h1 h2 h3 h4
    · exact s11.layer (k := 11) (b := 0) i h h1 h2 h3 h4
    · exact s12.layer (k := 12) (b := 0) i h h1 h2 h3 h4
    · exact s13.layer (k := 13) (b := 0) i h h1 h2 h3 h4
    · exact s14.layer (k := 14) (b := 0) i h h1 h2 h3 h4
    · exact s15.layer (k := 15) (b := 0) i h h1 h2 h3 h4
  · concat_tiles i h
    · exact s16.layer (k := 0) (b := 16) i h h1 h2 h3 h4
    · exact s17.layer (k := 1) (b := 16) i h h1 h2 h3 h4
    · exact s18.layer (k := 2) (b := 16) i h h1 h2 h3 h4
    · exact s19.layer (k := 3) (b := 16) i h h1 h2 h3 h4
    · exact s20.layer (k := 4) (b := 16) i h h1 h2 h3 h4
    · exact s21.layer (k := 5) (b := 16) i h h1 h2 h3 h4
    · exact s22.layer (k := 6) (b := 16) i h h1 h2 h3 h4
    · exact s23.layer (k := 7) (b := 16) i h h1 h2 h3 h4
    · exact s24.layer (k := 8) (b := 16) i h h1 h2 h3 h4
    · exact s25.layer (k := 9) (b := 16) i h h1 h2 h3 h4
    · exact s26.layer (k := 10) (b := 16) i h h1 h2 h3 h4
    · exact s27.layer (k := 11) (b := 16) i h h1 h2 h3 h4
    · exact s28.layer (k := 12) (b := 16) i h h1 h2 h3 h4
    · exact s29.layer (k := 13) (b := 16) i h h1 h2 h3 h4
    · exact s30.layer (k := 14) (b := 16) i h h1 h2 h3 h4
    · exact s31.layer (k := 15) (b := 16) i h h1 h2 h3 h4

/-- The stacked array: the states that enter the chunks. -/
theorem entering_ref (R : X.Real) (q : Fin 32) (g : Fin 4) (e : Fin 8) (p : Fin 64) (n : Fin 128) :
    val_main_v351 (F := Ideal) X.x0 X.x1 X.x2 X.x3 (ix5 q g e p n) = X.enter g q.val n (place e p) := by
  pointwise [val_main_v351]
  pointwise [val_main_v350]
  by_cases hq : q.val < 16
  · rw [dif_pos hq]
    exact (halves_ref R ⟨q.val, hq⟩ g e p n).1
  · rw [dif_neg hq]
    refine (halves_ref R ⟨q.val - 16, by omega⟩ g e p n).2.trans ?_
    rw [show q.val - 16 + 16 = q.val by omega]

end Cert.ScanValue

end
-- ==== Proof.ScanRefOut.lean ====
/-
  The scan's reference at an index: the outputs, the states that enter the chunks, the outputs after the gate and the normalisation.
-/
module

public import proofs.«01_k».proof.Proof.ScanRefState

@[expose] public section

set_option maxRecDepth 16384

noncomputable section

namespace Cert.ScanValue

open Idealize.ShloMosaic Idealize.ShloMosaic.TcCoe Idealize.SL.Sem Cert.Lift
open Cert.ScanRefIdeal Cert.ScanRefIdeal.Gen Cert.ScanRefIdeal.Read

/-- An array of rank five is read at equal positions. -/
theorem at5 {a b c d e : ℕ} {α : Type} (x : (⟨5, ![a, b, c, d, e]⟩ : Shape).Idx → α) {i i' : Fin a} {j j' : Fin b} {k k' : Fin c} {l l' : Fin d} {m m' : Fin e}
    (hi : i.val = i'.val) (hj : j.val = j'.val) (hk : k.val = k'.val) (hl : l.val = l'.val) (hm : m.val = m'.val) : x (ix5 i j k l m) = x (ix5 i' j' k' l' m') := by
  rw [Fin.ext hi, Fin.ext hj, Fin.ext hk, Fin.ext hl, Fin.ext hm]

/-- A column is the one of its head and its place there. -/
theorem place_of (c : Fin 512) : place (headAt c) ⟨c.val % 64, Nat.mod_lt _ (by norm_num)⟩ = c := Fin.ext (by show 64 * (c.val / 64) + c.val % 64 = c.val; omega)

variable {X : Args} (R : X.Real)
include R

theorem chunks_ref (q : Fin 32) (s : Fin 256) (g : Fin 4) (e : Fin 8) (p : Fin 64) :
    val_main_v358 (F := Ideal) X.x0 X.x1 X.x2 X.x3 (ix5 q s g e p) =
      (∑ t : Fin 256, (X.chunk g q.val).cb s t * (X.chunk g q.val).decay s t e * (X.chunk g q.val).xdt t (place e p)) +
        (∑ n : Fin 128, (X.chunk g q.val).c s n * X.enter g q.val n (place e p)) * ((Real.exp ((X.chunk g q.val).cum s e) : ℝ) : EReal) := by
  pointwise [val_main_v358, val_main_v357, val_main_v356, val_main_v355, val_main_v354, val_main_v353, val_main_v352]
  rw [diag_ref R, cum_ref R, Ideal.exp_coe]
  refine congrArg (fun v : EReal => _ + v * _) (Finset.sum_congr rfl fun n _ => ?_)
  rw [entering_ref R]
  pointwise [val_main_v18, val_main_v14, val_main_v4]
  refine Eq.trans (mul_comm (G := EReal) _ _) (congrArg (fun v : EReal => v * _) ?_)
  refine at2 X.x1 ?_ ?_
  · rw [row_val]; dsimp only; omega
  · show _ = 2560 + (128 * g.val + n.val); dsimp only; omega

theorem out_ref (q : Fin 32) (s : Fin 256) (g : Fin 4) (c : Fin 512) :
    val_main_v366 (F := Ideal) X.x0 X.x1 X.x2 X.x3 X.x4 (ix2 (row q.val s) (inCol g c)) = (X.chunk g q.val).out (X.enter g q.val) s c := by
  pointwise [val_main_v366, val_main_v365, val_main_v364, val_main_v363, val_main_v362, val_main_v361, val_main_v360, val_main_v359, val_main_v10]
  have hr := row_val q s
  have hc : (inCol g c).val = 512 * g.val + c.val := rfl
  rw [at5 (val_main_v358 (F := Ideal) X.x0 X.x1 X.x2 X.x3) (i' := q) (j' := s) (k' := g) (l' := headAt c) (m' := ⟨c.val % 64, Nat.mod_lt _ (by norm_num)⟩)
      (by dsimp only; omega) (by dsimp only; omega) (by dsimp only; omega) (by show _ = c.val / 64; dsimp only; omega) (by dsimp only; omega),
    chunks_ref R, place_of]
  unfold Chunk.out
  refine Eq.trans ?_ (add_assoc (G := EReal) _ _ _)
  pointwise [val_main_v2]
  refine congrArg₂ (fun u v : EReal => u + v) rfl (congrArg₂ (fun u v : EReal => u * v) (at2 X.x4 rfl ?_) (at2 X.x1 rfl rfl))
  show _ = 8 * g.val + c.val / 64
  dsimp only
  omega

theorem states_ref (q : Fin 32) (g : Fin 4) (n : Fin 128) (c : Fin 512) :
    val_main_v368 (F := Ideal) X.x0 X.x1 X.x2 X.x3 (ix4 g q n c) = X.enter g q.val n c := by
  pointwise [val_main_v368, val_main_v367]
  refine (entering_ref R q g (headAt c) ⟨c.val % 64, Nat.mod_lt _ (by norm_num)⟩ n).trans ?_
  rw [place_of]

theorem gate_ref (q : Fin 32) (s : Fin 256) (g : Fin 4) (c : Fin 512) :
    val_main_v370 (F := Ideal) X.x0 X.x1 X.x2 X.x3 X.x4 (ix2 (row q.val s) (inCol g c)) = (X.chunk g q.val).gate (X.enter g q.val) s c := by
  pointwise [val_main_v370, val_main_v369, val_main_v0, val_main_call4_v5, val_main_call4_v4, val_main_call4_v3, val_main_call4_v2, val_main_call4_v1, val_main_call4_v0, val_main_call4_cst, val_main_call4_cst_0]
  rw [out_ref R]
  rfl

theorem mixed_ref (q : Fin 32) (s : Fin 256) (g : Fin 4) (c : Fin 512) :
    val_main_v385 (F := Ideal) X.x0 X.x1 X.x2 X.x3 X.x4 X.x5 (ix2 (row q.val s) (inCol g c)) = (X.chunk g q.val).mixed (X.enter g q.val) s c := by
  pointwise [val_main_v385, val_main_v384, val_main_v383, val_main_v382, val_main_v381, val_main_v380, val_main_v379, val_main_v378, val_main_v377, val_main_v376, val_main_v375,
    val_main_v374, val_main_v373, val_main_v372, val_main_v371, val_main_cst_2, val_main_cst_3, val_main_cst_4]
  have hk : ∀ k : Fin 512, val_main_v370 (F := Ideal) X.x0 X.x1 X.x2 X.x3 X.x4 (ix2 (row q.val s) ⟨(inCol g c).val / 512 * 512 + k.val, by omega⟩) =
      (X.chunk g q.val).gate (X.enter g q.val) s k := fun k =>
    (at2 _ rfl (by show (512 * g.val + c.val) / 512 * 512 + k.val = 512 * g.val + k.val; omega)).trans (gate_ref R q s g k)
  rw [gate_ref R, ofBits_512, ofBits_eps, Finset.sum_congr rfl fun k _ => congrArg₂ (fun u v : EReal => u * v) (hk k) (hk k)]
  rfl

end Cert.ScanValue

end
-- ==== Proof.ScanClaim.lean ====
/-
  The claims of the scan's forward call: the reference's frame, and that the two programs' results are equal over the extended
  reals where the step sizes' arguments and the decays' logarithms are finite.
-/
module

public import proofs.«01_k».proof.Defs
public import proofs.«01_k».proof.Proof.Gen.Scan.Frame
public import proofs.«01_k».proof.Proof.Gen.ScanRefIdeal.Run
public import proofs.«01_k».proof.Proof.Gen.Pre_scan_finite
public import proofs.«01_k».proof.Proof.ScanArray
public import proofs.«01_k».proof.Proof.ScanRefOut
public import Idealize.ShloMosaic.Lib.Claim

@[expose] public section

set_option maxRecDepth 16384

noncomputable section

namespace Cert.ScanValue

open Idealize.ShloMosaic Idealize.ShloMosaic.TcCoe Idealize.ShloMosaic.StableHlo Idealize.SL.Sem Cert.Lift
open Cert.ScanRefIdeal

/-- Where the precondition holds, the step sizes' arguments and the decays' logarithms are real numbers. -/
theorem real_of_pre {X : Args} (hp : Cert.Pre_scan_finite.fn (F := Ideal) X.x0 X.x1 X.x2 X.x3 X.x4 X.x5 = fun _ => 1#1) : X.Real := by
  have real : ∀ (r : Fin 8194) (k : Fin 32) (v : EReal),
      Cert.Pre_scan_finite.fn (F := Ideal) X.x0 X.x1 X.x2 X.x3 X.x4 X.x5 (ix2 r k) = BitVec.ofBool (decide (max v (-v) < Ideal.ofBits .f32 0x7F800000#32)) → v = ((v.toReal : ℝ) : EReal) :=
    fun r k v h => by
      rw [hp] at h
      exact real_of_test (of_decide_eq_true ((BitVec.ofBool_eq_iff_eq (b' := true)).mp h.symm))
  have h0 : ∀ n k, (X.x0 (ix2 n ⟨5120 + Fin.val (n := 32) k, by omega⟩) : EReal) = ((EReal.toReal (X.x0 (ix2 n ⟨5120 + k.val, by omega⟩)) : ℝ) : EReal) := fun n k =>
    real ⟨n.val, by omega⟩ k _ (by pointwise [Cert.Pre_scan_finite.fn]; rfl)
  have h2 : ∀ k, (X.x2 (ix2 0 k) : EReal) = ((EReal.toReal (X.x2 (ix2 0 k)) : ℝ) : EReal) := fun k => real ⟨8192, by omega⟩ k _ (by
    pointwise [Cert.Pre_scan_finite.fn]
    rfl)
  refine ⟨fun n k => ?_, fun k => real ⟨8193, by omega⟩ k _ (by
    pointwise [Cert.Pre_scan_finite.fn]
    rfl)⟩
  unfold Args.raw
  rw [h0 n k, h2 k, ← EReal.coe_add, EReal.toReal_coe]

theorem frame_ref : Cert.quiescent_ScanRefIdeal := fun m g _ =>
  (θ_run Cert.ScanRefIdeal.defs _ _).mono (fun r h => ⟨fun c => (h c).2.2.2, sem_eq_zero_of_no_sems (by decide) r.2⟩)
    (Cert.ScanRefIdeal.Value.run m g)

/-- Every row is one of a chunk, and every column one of a group. -/
theorem split_rows (n : Fin 8192) : ∃ (q : Fin 32) (s : Fin 256), n = row q.val s :=
  ⟨⟨n.val / 256, by omega⟩, ⟨n.val % 256, by omega⟩, Fin.ext (by rw [row_val]; dsimp only; omega)⟩
theorem split_cols (n : Fin 2048) : ∃ (g : Fin 4) (k : Fin 512), n = inCol g k :=
  ⟨⟨n.val / 512, by omega⟩, ⟨n.val % 512, by omega⟩, Fin.ext (by show n.val = 512 * (n.val / 512) + n.val % 512; omega)⟩

/-- The reference's arguments. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5)⟩

theorem value : Cert.algebraic_ScanIdeal_ScanRefIdeal_pre_scan_finite := by
  intro m g m' g' hp hag
  refine ⟨_, _, _, Cert.ScanIdeal.Value.run m g, (θ_run Cert.ScanRefIdeal.defs _ _).mono (fun r h c => ?_) (Cert.ScanRefIdeal.Value.run m' g')⟩
  obtain ⟨hr0, hr1, hr2, ha⟩ := h c
  obtain ⟨e0, e1, e2, e3, e4, e5⟩ := hag c
  have e : refArgs m' c = args m c := by
    unfold refArgs args
    rw [e0, e1, e2, e3, e4, e5]
  have R : (args m c).Real := real_of_pre (hp c)
  have R' : (refArgs m' c).Real := e ▸ R
  refine ⟨hr0.trans ?_, hr1.trans ?_, hr2.trans ?_, ha⟩
  · refine (Cert.ScanRefIdeal.Read.val_main_v366_eq (launchContents m' c)).trans ?_
    funext i
    obtain ⟨n, k, rfl⟩ : ∃ (n : Fin 8192) (k : Fin 2048), i = ix2 n k := ⟨i 0, i 1, eq_ix2 i⟩
    obtain ⟨q, s, rfl⟩ := split_rows n
    obtain ⟨g, k, rfl⟩ := split_cols k
    exact (out_ref R' q s g k).trans (by rw [e]; exact (outputs_final m c R q g s k).symm)
  · refine (Cert.ScanRefIdeal.Read.val_main_v368_eq (launchContents m' c)).trans ?_
    funext i
    obtain ⟨g, q, n, k, rfl⟩ : ∃ (g : Fin 4) (q : Fin 32) (n : Fin 128) (k : Fin 512), i = ix4 g q n k := ⟨i 0, i 1, i 2, i 3, eq_ix4 i⟩
    exact (states_ref R' q g n k).trans (by rw [e]; exact (states_final m c R q g n k).symm)
  · refine (Cert.ScanRefIdeal.Read.val_main_v385_eq (launchContents m' c)).trans ?_
    funext i
    obtain ⟨n, k, rfl⟩ : ∃ (n : Fin 8192) (k : Fin 2048), i = ix2 n k := ⟨i 0, i 1, eq_ix2 i⟩
    obtain ⟨q, s, rfl⟩ := split_rows n
    obtain ⟨g, k, rfl⟩ := split_cols k
    exact (mixed_ref R' q s g k).trans (by rw [e]; exact (mixed_final m c R q g s k).symm)

end Cert.ScanValue

end
-- ==== Proof.NormFwdArray.lean ====
/-
  What the norm's forward kernel leaves in its result array: block by block, the reference's value of the whole arrays.
-/
module

public import proofs.«01_k».proof.Proof.Gen.NormFwdIdeal.Value
public import proofs.«01_k».proof.Proof.Gen.NormFwdRefIdeal.Read
public import proofs.«01_k».proof.Proof.RowNorm
public import Idealize.ShloMosaic.Lib.Pointwise

@[expose] public section

set_option maxRecDepth 16384

noncomputable section

namespace Cert.NormFwdValue

open Idealize.ShloMosaic Idealize.ShloMosaic.TcCoe Idealize.SL.Sem
open Cert.NormValue (hz)
open Cert.NormFwdIdeal Cert.NormFwdIdeal.Gen Cert.NormFwdRefIdeal.Read

/-- A row of the kernel's block is the reference's row, if the inputs' rows agree: the same sum of squares, its root and the
    two products, in the same order. -/
theorem row_apply {v0 : Vec Ideal S512x2048 .f32} {v11 : Vec Ideal S1x2048 .f32} {x : FVec Ideal S8192x2048 .f32} {w : FVec Ideal S1x2048 .f32}
    {p : Fin 512} {r : Fin 8192} (hx : ∀ k, v0 (ix2 p k) = x (ix2 r k)) (hw : ∀ k, v11 (ix2 0 k) = w (ix2 0 k)) (k : Fin 2048) :
    k0_pay1 (F := Ideal) v0 v11 (ix2 p k) = val_main_v14 (F := Ideal) x w (ix2 r k) := by
  pointwise [k0_pay1, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [hx, hw, Ideal.hostDivf_def, Ideal.divf_def, Ideal.rsqrt_def, Ideal.hostUnary_rsqrt_def]

variable (m : (ℓ : Loc nD τ sig) → Buf (Elt Ideal) ℓ) {c : Dev nD}

theorem index_at : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0))

/-- Row `p` of point `t`'s block is this row of the array. -/
def rowAt (t : Fin cfg0.N) (p : Fin 512) : Fin 8192 :=
  ⟨512 * t.val + p.val, by have := t.isLt; have hN : cfg0.N = 16 := N_0; have := p.isLt; omega⟩

theorem block_x (t : Fin cfg0.N) (p : Fin 512) (k : Fin 2048) :
    (iblk m c 0 t : Vec Ideal S512x2048 .f32) (ix2 p k) = m ((c : Thread nD τ).loc main_arg0) (ix2 (rowAt t p) k) := by
  unfold iblk
  rw [View.read_apply]
  refine (congrFun (V_main_arg0 m c) _).trans (congrArg _ (funext fun a => Fin.ext ?_))
  have e := (index_at t).1
  match a with
  | ⟨0, _⟩ => show win0_0.index t 0 * 512 + 1 * p.val = 512 * t.val + p.val; rw [e.1]; omega
  | ⟨1, _⟩ => show win0_0.index t 1 * 2048 + 1 * k.val = k.val; rw [e.2]; omega

theorem block_w (t : Fin cfg0.N) (k : Fin 2048) :
    (iblk m c 1 t : Vec Ideal S1x2048 .f32) (ix2 0 k) = m ((c : Thread nD τ).loc main_arg1) (ix2 0 k) := by
  unfold iblk
  rw [View.read_apply]
  refine (congrFun (V_main_arg1 m c) _).trans (congrArg _ (funext fun a => Fin.ext ?_))
  have e := (index_at t).2.1
  match a with
  | ⟨0, _⟩ => show win0_1.index t 0 * 1 + 1 * 0 = 0; rw [e.1]
  | ⟨1, _⟩ => show win0_1.index t 1 * 2048 + 1 * k.val = k.val; rw [e.2]; omega

/-- The reference's value of the kernel's arguments. -/
abbrev normed (c : Dev nD) : FVec Ideal S8192x2048 .bf16 :=
  val_main_v14 (F := Ideal) (m ((c : Thread nD τ).loc main_arg0)) (m ((c : Thread nD τ).loc main_arg1))

theorem normed_flushed (t : Fin cfg0.N) (_ : (cfg0.win 2).flush t = true) :
    (dats m 0 c).flushed 2 t = ((cfg0.win 2).blk t).view.read (Elt Ideal) (normed m c) := by
  rw [Value.flushed2]
  funext j
  obtain ⟨p, k, rfl⟩ : ∃ (p : Fin 512) (k : Fin 2048), j = ix2 p k := ⟨j 0, j 1, eq_ix2 j⟩
  show out0_2 (iblk m c 0 t) (iblk m c 1 t) (ix2 p k) = _
  unfold out0_2
  rw [View.canon_unit_zero hz, View.ld_unit_zero (S := S512x2048) hz, View.ld_unit_zero (S := S1x2048) hz, View.read_apply]
  refine (row_apply (block_x m t p) (block_w m t) k).trans (congrArg (normed m c) (funext fun a => Fin.ext ?_))
  have e := (index_at t).2.2
  match a with
  | ⟨0, _⟩ => show 512 * t.val + p.val = win0_2.index t 0 * 512 + 1 * p.val; rw [e.1]; omega
  | ⟨1, _⟩ => show k.val = win0_2.index t 1 * 2048 + 1 * k.val; rw [e.2]; omega

theorem normed_final : (dats m 0 c).arrAt 2 cfg0.N = normed m c :=
  (dats m 0 c).arrAt_eq_of_cover 2 _ (normed_flushed m) fun i => by
    have h0 : (i 0 : Nat) < 8192 := (i 0).isLt
    have h1 : (i 1 : Nat) < 2048 := (i 1).isLt
    have hN : cfg0.N = 16 := N_0
    obtain ⟨t, ht⟩ : ∃ t : Fin cfg0.N, t.val = (i 0 : Nat) / 512 := ⟨⟨(i 0 : Nat) / 512, by omega⟩, rfl⟩
    refine ⟨t, flush0_2 t, ?_⟩
    show i ∈ ((View.whole main_v0).slice (win0_2.rect t)).set
    rw [View.set_slice_whole, Rect.mem_set_unit]
    obtain ⟨e0, e1⟩ := (index_at t).2.2
    intro a
    match a with
    | ⟨0, _⟩ => show win0_2.index t 0 * 512 ≤ (i 0 : Nat) ∧ (i 0 : Nat) < win0_2.index t 0 * 512 + 512; omega
    | ⟨1, _⟩ => show win0_2.index t 1 * 2048 ≤ (i 1 : Nat) ∧ (i 1 : Nat) < win0_2.index t 1 * 2048 + 2048; omega

end Cert.NormFwdValue

end
-- ==== Proof.NormFwdClaim.lean ====
/-
  The claims of the norm's forward call: the reference's frame, and that the two programs' results are equal over the
  extended reals, whatever the arguments hold.
-/
module

public import proofs.«01_k».proof.Defs
public import proofs.«01_k».proof.Proof.Gen.NormFwd.Frame
public import proofs.«01_k».proof.Proof.Gen.NormFwdRefIdeal.Run
public import proofs.«01_k».proof.Proof.NormFwdArray
public import Idealize.ShloMosaic.Lib.Claim

@[expose] public section

set_option maxRecDepth 16384

noncomputable section

namespace Cert.NormFwdValue

open Idealize.ShloMosaic Idealize.ShloMosaic.TcCoe Idealize.SL.Sem

theorem frame_ref : Cert.quiescent_NormFwdRefIdeal := fun m g _ =>
  (θ_run Cert.NormFwdRefIdeal.defs _ _).mono (fun r h => ⟨fun c => (h c).2, sem_eq_zero_of_no_sems (by decide) r.2⟩)
    (Cert.NormFwdRefIdeal.Value.run m g)

theorem value : Cert.algebraic_NormFwdIdeal_NormFwdRefIdeal := by
  intro m g m' g' _ hag
  refine ⟨_, Cert.NormFwdIdeal.Value.run_blocks m g, (θ_run Cert.NormFwdRefIdeal.defs _ _).mono (fun r h c => ?_) (Cert.NormFwdRefIdeal.Value.run m' g')⟩
  obtain ⟨hr, ha⟩ := h c
  obtain ⟨e0, e1⟩ := hag c
  refine ⟨hr.trans ?_, ha⟩
  refine (Cert.NormFwdRefIdeal.Read.val_main_v14_eq _ _).trans ?_
  rw [e0, e1, normed_final m]

end Cert.NormFwdValue

end
-- ==== Proof.ConvFwdArray.lean ====
/-
  What the convolution's forward kernel leaves in its result array: the activated convolution of the signal's columns, the
  rows above a block being the 8 rows before it, or zero above the first row.
-/
module

public import proofs.«01_k».proof.Proof.Gen.ConvFwdIdeal.Value
public import proofs.«01_k».proof.Proof.Gen.ConvFwdRefIdeal.Read
public import proofs.«01_k».proof.Proof.RowNorm
public import Idealize.ShloMosaic.Lib.Pointwise
public import Idealize.ShloMosaic.Lib.Pipeline.ValueKit.Tiles

@[expose] public section

set_option maxRecDepth 16384

noncomputable section

namespace Cert.ConvFwdValue

open Idealize.ShloMosaic Idealize.ShloMosaic.TcCoe Idealize.SL.Sem
open Cert.NormValue (hz)
open Cert.ConvFwdIdeal Cert.ConvFwdIdeal.Gen Cert.ConvFwdRefIdeal.Read

/-! ## One grid point -/

section
variable {i : grid0.Coords} {v1 : Vec Ideal S8x1024 .f32} {v5 : Vec Ideal S512x1024 .f32} {v8 v12 v17 v22 v27 : Vec Ideal S1x1024 .f32}
  {x0 : FVec Ideal S8192x7200 .f32} {x1 : FVec Ideal S4x3072 .f32} {x2 : FVec Ideal S1x3072 .f32}
  {p : Fin 512} {q : Fin 1024} {r : Fin 8192} {k : Fin 3072}

/-- Row `e` of the block with the 8 rows before it. -/
def extended (i : grid0.Coords) (v1 : Vec Ideal S8x1024 .f32) (v5 : Vec Ideal S512x1024 .f32) (e : Fin 520) (q : Fin 1024) : EReal :=
  if h : e.val < 8 then Scalar.select (Scalar.cmpi .sgt (BitVec.ofNat 32 (i 0).val) 0#32) (v1 (ix2 ⟨e.val, h⟩ q)) 0
  else v5 (ix2 ⟨e.val - 8, by omega⟩ q)

/-- The reference's signal, with three zero rows above it. -/
theorem padded_apply (n : Fin 8195) :
    val_main_v2 (F := Ideal) x0 (ix2 n k) = if h : n.val < 3 then 0 else x0 (ix2 ⟨n.val - 3, by omega⟩ ⟨2048 + k.val, by omega⟩) := by
  pointwise [val_main_v2, val_main_v1, val_main_v0, val_main_cst]

/-- The kernel adds the row's own product first, the reference last. -/
theorem pre_apply (hE : ∀ (e : Fin 520) (n : Fin 8195), n.val + 5 + p.val = r.val + e.val → extended i v1 v5 e q = val_main_v2 (F := Ideal) x0 (ix2 n k))
    (h0 : v12 (ix2 0 q) = x1 (ix2 0 k)) (h1 : v17 (ix2 0 q) = x1 (ix2 1 k)) (h2 : v22 (ix2 0 q) = x1 (ix2 2 k)) (h3 : v8 (ix2 0 q) = x1 (ix2 3 k))
    (hb : v27 (ix2 0 q) = x2 (ix2 0 k)) :
    k0_pay2 (F := Ideal) i v1 v5 v8 v12 v17 v22 v27 (ix2 p q) = val_main_v23 (F := Ideal) x0 x1 x2 (ix2 r k) := by
  pointwise [k0_pay2, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3]
  have hp := p.isLt
  have hr := r.isLt
  have e3 := hE ⟨(8 + p.val + 520 - 3) % 520, by omega⟩ ⟨r.val, by omega⟩ (by dsimp only; omega)
  have e2 := hE ⟨(8 + p.val + 520 - 2) % 520, by omega⟩ ⟨1 + r.val, by omega⟩ (by dsimp only; omega)
  have e1 := hE ⟨(8 + p.val + 520 - 1) % 520, by omega⟩ ⟨2 + r.val, by omega⟩ (by dsimp only; omega)
  have e0 := hE ⟨8 + p.val, by omega⟩ ⟨3 + r.val, by omega⟩ (by dsimp only; omega)
  have own : extended i v1 v5 ⟨8 + p.val, by omega⟩ q = v5 (ix2 p q) := by
    unfold extended
    rw [dif_neg (by dsimp only; omega)]
    exact congrArg (fun p => v5 (ix2 p q)) (Fin.ext (by show 8 + p.val - 8 = _; omega))
  rw [own] at e0
  unfold extended at e1 e2 e3
  rw [e0, h0, h1, h2, h3, hb]
  refine congrArg (fun u : EReal => u + x2 (ix2 0 k)) ?_
  refine (congrArg₂ (fun u v : EReal => u + v) (congrArg₂ (fun u v : EReal => u + v) (congrArg (fun u : EReal => _ + u * x1 (ix2 0 k)) e3)
    (congrArg (fun u : EReal => u * x1 (ix2 1 k)) e2)) (congrArg (fun u : EReal => u * x1 (ix2 2 k)) e1)).trans ?_
  generalize (val_main_v2 (F := Ideal) x0 _ * x1 (ix2 3 k) : EReal) = a
  exact ((congrArg (fun u : EReal => u + _) (add_assoc a _ _)).trans (add_assoc a _ _)).trans (add_comm _ _)

theorem act_apply (e : k0_pay2 (F := Ideal) i v1 v5 v8 v12 v17 v22 v27 (ix2 p q) = val_main_v23 (F := Ideal) x0 x1 x2 (ix2 r k)) :
    k0_pay1 (k0_pay2 (F := Ideal) i v1 v5 v8 v12 v17 v22 v27) (k0_pay3 (F := Ideal) i v1 v5 v8 v12 v17 v22 v27) (k0_pay4 (F := Ideal)) (ix2 p q)
      = val_main_v24 (F := Ideal) x0 x1 x2 (ix2 r k) := by
  pointwise [k0_pay1, k0_pay3, k0_pay4, val_main_v24, val_main_call0_v5, val_main_call0_v4, val_main_call0_v3, val_main_call0_v2,
    val_main_call0_v1, val_main_call0_v0, val_main_call0_cst, val_main_call0_cst_0]
  rw [e, zero_sub]

end

/-! ## The blocks of one grid point -/

variable (m : (ℓ : Loc nD τ sig) → Buf (Elt Ideal) ℓ) {c : Dev nD}

theorem points (t : Fin cfg0.N) : t.val < 48 := by have := t.isLt; have hN : cfg0.N = 48 := N_0; omega

theorem index_at : ∀ t : Fin cfg0.N, (∀ a, win0_0.index t a = ![t.val / 3, 4 + t.val % 3] a) ∧ (∀ a, win0_1.index t a = ![64 * (t.val / 3) - 1, 4 + t.val % 3] a)
    ∧ (∀ a, win0_2.index t a = ![0, t.val % 3] a) ∧ (∀ a, win0_3.index t a = ![0, t.val % 3] a) ∧ (∀ a, win0_4.index t a = ![t.val / 3, t.val % 3] a)
    ∧ (grid0.coords t 0).val = t.val / 3 :=
  (by decide +kernel : ∀ t : Fin grid0.N, (∀ a, win0_0.index t a = ![t.val / 3, 4 + t.val % 3] a) ∧ (∀ a, win0_1.index t a = ![64 * (t.val / 3) - 1, 4 + t.val % 3] a)
    ∧ (∀ a, win0_2.index t a = ![0, t.val % 3] a) ∧ (∀ a, win0_3.index t a = ![0, t.val % 3] a) ∧ (∀ a, win0_4.index t a = ![t.val / 3, t.val % 3] a)
    ∧ (grid0.coords t 0).val = t.val / 3)

/-- The array's row and column that are row `p` and column `q` of point `t`'s blocks. -/
def rowAt (t : Fin cfg0.N) (p : Fin 512) : Fin 8192 := ⟨512 * (t.val / 3) + p.val, by have := points t; omega⟩
def colAt (t : Fin cfg0.N) (q : Fin 1024) : Fin 3072 := ⟨1024 * (t.val % 3) + q.val, by omega⟩

/-- The signal's columns of the reordered projection are those of the projection it was made from. -/
theorem V_signal (n : Fin 8192) (k : Fin 3072) : V m c main_v5 (ix2 n ⟨4096 + k.val, by omega⟩) = m ((c : Thread nD τ).loc main_arg0) (ix2 n ⟨2048 + k.val, by omega⟩) := by
  show StableHlo.after hostOps0 _ (Proc.devRef .tc main_v5) _ = _
  after_results_simp
  pointwise []
  have hk := k.isLt
  rw [dif_neg (by omega), dif_neg (by omega), dif_pos (by omega)]
  after_results_simp
  pointwise []
  exact congrArg (fun k => m ((c : Thread nD τ).loc main_arg0) (ix2 n k)) (Fin.ext (by show 2048 + (4096 + k.val - 2048 - 2048) = 2048 + k.val; omega))

theorem block_signal (t : Fin cfg0.N) (p : Fin 512) (q : Fin 1024) :
    (X0_0 m c t : Vec Ideal S512x1024 .f32) (ix2 p q) = m ((c : Thread nD τ).loc main_arg0) (ix2 (rowAt t p) ⟨2048 + (colAt t q).val, by omega⟩) := by
  unfold X0_0 Pipeline.Window.fill
  rw [dif_pos (moved0_0 t (ix2 p q))]
  unfold iblk
  rw [View.read_apply]
  refine (congrArg (V m c main_v5) (funext fun a => Fin.ext ?_)).trans (V_signal m (rowAt t p) (colAt t q))
  have e0 : win0_0.index t 0 = t.val / 3 := (index_at t).1 0
  have e1 : win0_0.index t 1 = 4 + t.val % 3 := (index_at t).1 1
  match a with
  | ⟨0, _⟩ => show win0_0.index t 0 * 512 + 1 * p.val = 512 * (t.val / 3) + p.val; omega
  | ⟨1, _⟩ => show win0_0.index t 1 * 1024 + 1 * q.val = 4096 + (1024 * (t.val % 3) + q.val); omega

/-- The 8 rows before a point's rows. -/
theorem block_before (t : Fin cfg0.N) (e : Fin 8) (q : Fin 1024) (n : Fin 8192) (hn : n.val = 8 * (64 * (t.val / 3) - 1) + e.val) :
    (X0_1 m c t : Vec Ideal S8x1024 .f32) (ix2 e q) = m ((c : Thread nD τ).loc main_arg0) (ix2 n ⟨2048 + (colAt t q).val, by omega⟩) := by
  unfold X0_1 Pipeline.Window.fill
  rw [dif_pos (moved0_1 t (ix2 e q))]
  unfold iblk
  rw [View.read_apply]
  refine (congrArg (V m c main_v5) (funext fun a => Fin.ext ?_)).trans (V_signal m n (colAt t q))
  have e0 : win0_1.index t 0 = 64 * (t.val / 3) - 1 := (index_at t).2.1 0
  have e1 : win0_1.index t 1 = 4 + t.val % 3 := (index_at t).2.1 1
  match a with
  | ⟨0, _⟩ => show win0_1.index t 0 * 8 + 1 * e.val = n.val; omega
  | ⟨1, _⟩ => show win0_1.index t 1 * 1024 + 1 * q.val = 4096 + (1024 * (t.val % 3) + q.val); omega

theorem block_weight (t : Fin cfg0.N) (j : Fin 4) (q : Fin 1024) :
    (iblk m c 2 t : Vec Ideal S4x1024 .f32) (ix2 j q) = m ((c : Thread nD τ).loc main_arg1) (ix2 j (colAt t q)) := by
  unfold iblk
  rw [View.read_apply]
  refine (congrFun (V_main_arg1 m c) _).trans (congrArg _ (funext fun a => Fin.ext ?_))
  have e0 : win0_2.index t 0 = 0 := (index_at t).2.2.1 0
  have e1 : win0_2.index t 1 = t.val % 3 := (index_at t).2.2.1 1
  match a with
  | ⟨0, _⟩ => show win0_2.index t 0 * 4 + 1 * j.val = j.val; omega
  | ⟨1, _⟩ => show win0_2.index t 1 * 1024 + 1 * q.val = 1024 * (t.val % 3) + q.val; omega

theorem block_bias (t : Fin cfg0.N) (q : Fin 1024) :
    (iblk m c 3 t : Vec Ideal S1x1024 .f32) (ix2 0 q) = m ((c : Thread nD τ).loc main_arg2) (ix2 0 (colAt t q)) := by
  unfold iblk
  rw [View.read_apply]
  refine (congrFun (V_main_arg2 m c) _).trans (congrArg _ (funext fun a => Fin.ext ?_))
  have e0 : win0_3.index t 0 = 0 := (index_at t).2.2.2.1 0
  have e1 : win0_3.index t 1 = t.val % 3 := (index_at t).2.2.2.1 1
  match a with
  | ⟨0, _⟩ => show win0_3.index t 0 * 1 + 1 * 0 = 0; omega
  | ⟨1, _⟩ => show win0_3.index t 1 * 1024 + 1 * q.val = 1024 * (t.val % 3) + q.val; omega

/-- Row `j` of the weight's block. -/
def tap (m : (ℓ : Loc nD τ sig) → Buf (Elt Ideal) ℓ) (c : Dev nD) (t : Fin cfg0.N) (j : ℕ)
    (hj : ∀ a, ![j, 0] a + ![1, 1024] a ≤ S4x1024.size a) : Vec Ideal S1x1024 .f32 :=
  View.ld (iblk m c 2 t : Vec Ideal S4x1024 .f32) (Rect.unit ![j, 0] ![1, 1024] hj)

theorem tap_apply (t : Fin cfg0.N) (j : Fin 4) (hj) (q : Fin 1024) :
    tap m c t j.val hj (ix2 0 q) = m ((c : Thread nD τ).loc main_arg1) (ix2 j (colAt t q)) := by
  refine Eq.trans (View.ld_unit_apply_of _ _ _ _ _ (ix2 j q) fun a => ?_) (block_weight m t j q)
  match a with
  | ⟨0, _⟩ => rfl
  | ⟨1, _⟩ => show q.val = 0 + q.val; omega

/-- The word the kernel tests for the first block. -/
theorem first_word : ∀ n : Fin 16, Scalar.cmpi .sgt (BitVec.ofNat 32 n.val) 0#32 = if n.val = 0 then 0#1 else 1#1 := by decide

theorem extended_apply (t : Fin cfg0.N) (p : Fin 512) (q : Fin 1024) (e : Fin 520) (n : Fin 8195) (hn : n.val + 5 + p.val = (rowAt t p).val + e.val) :
    extended (grid0.coords t) (X0_1 m c t) (X0_0 m c t) e q = val_main_v2 (F := Ideal) (m ((c : Thread nD τ).loc main_arg0)) (ix2 n (colAt t q)) := by
  have ht := points t
  have he := e.isLt
  replace hn : n.val + 5 + p.val = 512 * (t.val / 3) + p.val + e.val := hn
  rw [padded_apply]
  unfold extended
  rw [(index_at t).2.2.2.2.2, first_word ⟨t.val / 3, by omega⟩]
  by_cases h8 : e.val < 8
  · rw [dif_pos h8]
    by_cases h0 : t.val / 3 = 0
    · rw [dif_pos (by omega), if_pos h0]
      rfl
    · rw [dif_neg (by omega), if_neg h0]
      refine (block_before m t ⟨e.val, h8⟩ q ⟨n.val - 3, by omega⟩ (by dsimp only; omega)).trans rfl
  · rw [dif_neg h8, dif_neg (by omega)]
    refine (block_signal m t ⟨e.val - 8, by omega⟩ q).trans (congrArg (fun n => m ((c : Thread nD τ).loc main_arg0) (ix2 n _)) (Fin.ext ?_))
    show 512 * (t.val / 3) + (e.val - 8) = n.val - 3
    omega

/-! ## The result array -/

/-- The reference's value of the kernel's arguments. -/
abbrev acts (c : Dev nD) : FVec Ideal S8192x3072 .f32 :=
  val_main_v24 (F := Ideal) (m ((c : Thread nD τ).loc main_arg0)) (m ((c : Thread nD τ).loc main_arg1)) (m ((c : Thread nD τ).loc main_arg2))

/-- A point's convolution, the steps of its activation, and the result. -/
abbrev pre (c : Dev nD) (t : Fin cfg0.N) : FVec Ideal S512x1024 .f32 :=
  k0_pay2 (grid0.coords t) (X0_1 m c t) (X0_0 m c t) (tap m c t 3 inb_S4x1024_S1x1024_3_0) (tap m c t 0 inb_S4x1024_S1x1024_0_0)
    (tap m c t 1 inb_S4x1024_S1x1024_1_0) (tap m c t 2 inb_S4x1024_S1x1024_2_0) (iblk m c 3 t)
abbrev own (c : Dev nD) (t : Fin cfg0.N) : FVec Ideal S512x1024 .f32 :=
  k0_pay1 (pre m c t) (k0_pay3 (grid0.coords t) (X0_1 m c t) (X0_0 m c t) (tap m c t 3 inb_S4x1024_S1x1024_3_0) (tap m c t 0 inb_S4x1024_S1x1024_0_0)
    (tap m c t 1 inb_S4x1024_S1x1024_1_0) (tap m c t 2 inb_S4x1024_S1x1024_2_0) (iblk m c 3 t)) (k0_pay4 (F := Ideal))

theorem outs_at (t : Fin cfg0.N) : outsAt0 m c t = own m c t := by
  unfold outsAt0 out0_A_4
  rw [View.read_writes_eq_canon _ _ _ (fun y => cover0_A_4 (y := y) ..)]
  unfold kernelRun0_A
  dsimp only
  sl_unfold_words
  rw [View.canon_unit_zero hz]
  simp only [View.readAt_eq_ld, (hs0_0 _).read_unread, (hs0_1 _).read_unread, (hs0_2 _).read_unread, (hs0_3 _).read_unread, View.ld_unit_zero (S := S512x1024) hz,
    View.ld_unit_zero (S := S8x1024) hz, View.ld_unit_zero (S := S1x1024) hz]
  rfl

theorem acts_flushed (t : Fin cfg0.N) (_ : (cfg0.win 4).flush t = true) :
    (dats m 0 c).flushed 4 t = ((cfg0.win 4).blk t).view.read (Elt Ideal) (acts m c) := by
  rw [Value.flushed4, outs_at]
  funext j
  obtain ⟨p, q, rfl⟩ : ∃ (p : Fin 512) (q : Fin 1024), j = ix2 p q := ⟨j 0, j 1, eq_ix2 j⟩
  show own m c t (ix2 p q) = _
  rw [View.read_apply]
  have e0 : win0_4.index t 0 = t.val / 3 := (index_at t).2.2.2.2.1 0
  have e1 : win0_4.index t 1 = t.val % 3 := (index_at t).2.2.2.2.1 1
  refine (act_apply (pre_apply (fun e n => extended_apply m t p q e n) (tap_apply m t 0 _ q) (tap_apply m t 1 _ q) (tap_apply m t 2 _ q) (tap_apply m t 3 _ q)
    (block_bias m t q))).trans (congrArg (acts m c) (funext fun a => Fin.ext ?_)).symm
  match a with
  | ⟨0, _⟩ => show win0_4.index t 0 * 512 + 1 * p.val = 512 * (t.val / 3) + p.val; omega
  | ⟨1, _⟩ => show win0_4.index t 1 * 1024 + 1 * q.val = 1024 * (t.val % 3) + q.val; omega

theorem acts_final : (dats m 0 c).arrAt 4 cfg0.N = acts m c :=
  (dats m 0 c).arrAt_eq_of_cover 4 _ (acts_flushed m) fun i => by
    have h0 : (i 0 : Nat) < 8192 := (i 0).isLt
    have h1 : (i 1 : Nat) < 3072 := (i 1).isLt
    have hN : cfg0.N = 48 := N_0
    obtain ⟨t, ht0, ht1⟩ : ∃ t : Fin cfg0.N, t.val / 3 = (i 0 : Nat) / 512 ∧ t.val % 3 = (i 1 : Nat) / 1024 :=
      ⟨⟨3 * ((i 0 : Nat) / 512) + (i 1 : Nat) / 1024, by omega⟩, by dsimp only; omega, by dsimp only; omega⟩
    refine ⟨t, flush0_4 t, ?_⟩
    show i ∈ ((View.whole main_v6).slice (win0_4.rect t)).set
    rw [View.set_slice_whole, Rect.mem_set_unit]
    have e0 : win0_4.index t 0 = t.val / 3 := (index_at t).2.2.2.2.1 0
    have e1 : win0_4.index t 1 = t.val % 3 := (index_at t).2.2.2.2.1 1
    intro a
    match a with
    | ⟨0, _⟩ => show win0_4.index t 0 * 512 ≤ (i 0 : Nat) ∧ (i 0 : Nat) < win0_4.index t 0 * 512 + 512; omega
    | ⟨1, _⟩ => show win0_4.index t 1 * 1024 ≤ (i 1 : Nat) ∧ (i 1 : Nat) < win0_4.index t 1 * 1024 + 1024; omega

end Cert.ConvFwdValue

end
-- ==== Proof.ConvFwdClaim.lean ====
/-
  The claims of the convolution's forward call: the reference's frame, and that the two programs' results are equal over the
  extended reals, whatever the arguments hold.
-/
module

public import proofs.«01_k».proof.Defs
public import proofs.«01_k».proof.Proof.Gen.ConvFwd.Frame
public import proofs.«01_k».proof.Proof.Gen.ConvFwdRefIdeal.Run
public import proofs.«01_k».proof.Proof.ConvFwdArray
public import Idealize.ShloMosaic.Lib.Claim

@[expose] public section

set_option maxRecDepth 16384

noncomputable section

namespace Cert.ConvFwdValue

open Idealize.ShloMosaic Idealize.ShloMosaic.TcCoe Idealize.SL.Sem

theorem frame_ref : Cert.quiescent_ConvFwdRefIdeal := fun m g _ =>
  (θ_run Cert.ConvFwdRefIdeal.defs _ _).mono (fun r h => ⟨fun c => (h c).2, sem_eq_zero_of_no_sems (by decide) r.2⟩)
    (Cert.ConvFwdRefIdeal.Value.run m g)

theorem value : Cert.algebraic_ConvFwdIdeal_ConvFwdRefIdeal := by
  intro m g m' g' _ hag
  refine ⟨_, Cert.ConvFwdIdeal.Value.run_blocks m g, (θ_run Cert.ConvFwdRefIdeal.defs _ _).mono (fun r h c => ?_) (Cert.ConvFwdRefIdeal.Value.run m' g')⟩
  obtain ⟨hr, ha⟩ := h c
  obtain ⟨e0, e1, e2⟩ := hag c
  refine ⟨hr.trans ?_, ha⟩
  refine (Cert.ConvFwdRefIdeal.Read.val_main_v24_eq _ _).trans ?_
  rw [e0, e1, e2, acts_final m]

end Cert.ConvFwdValue

end
-- ==== Proof.PoolFwdBlock.lean ====
/-
  One grid point of the windowed mean's forward kernel: repeated doubling sums the rows up to each row, and each quarter of
  the columns is the mean of its window's rows, less the row itself.
-/
module

public import proofs.«01_k».proof.Proof.PoolBlock
public import proofs.«01_k».proof.Proof.Gen.PoolFwdIdeal.Skeleton

@[expose] public section

set_option maxRecDepth 16384

noncomputable section

namespace Cert.PoolFwdValue

open Idealize.ShloMosaic Idealize.ShloMosaic.TcCoe Idealize.SL.Sem Cert.Lift
open Cert.PoolValue (row span colAt span_colAt count_ne next_row min_word)

/-- The projection's column that is column `k` of the rows to be averaged. -/
def inCol (k : Fin 2048) : Fin 7200 := ⟨5152 + k.val, by omega⟩

/-- The sum of the rows above row `n`. -/
def total (d : Fin 8192 → Fin 2048 → ℝ) (k : Fin 2048) (n : ℕ) : ℝ := ∑ s ∈ Finset.range n, row d k s

/-- The mean of the window of at most `span k` rows that ends at row `n`, less row `n`. -/
def pooled (d : Fin 8192 → Fin 2048 → ℝ) (n : ℕ) (k : Fin 2048) : ℝ :=
  (total d k (n + 1) - total d k (n + 1 - span k)) / ((min (n + 1) (span k) : ℕ) : ℝ) - row d k n

/-- The rows with 16 zero rows above them. -/
def above (d : Fin 8192 → Fin 2048 → ℝ) (k : Fin 2048) (n : ℕ) : ℝ := if 16 ≤ n then row d k (n - 16) else 0

/-- A window's sum is the difference of two sums from the first row. -/
theorem window_total (d : Fin 8192 → Fin 2048 → ℝ) (k : Fin 2048) (n : ℕ) {w : ℕ} (hw : w ≤ 16) :
    ∑ j ∈ Finset.range w, above d k (n + 16 - j) = total d k (n + 1) - total d k (n + 1 - w) := by
  induction w with
  | zero => simp
  | succ w ih =>
    rw [Finset.sum_range_succ, ih (by omega)]
    unfold above
    by_cases h : w ≤ n
    · have hs : total d k (n + 1 - w) = total d k (n + 1 - (w + 1)) + row d k (n - w) := by
        unfold total
        rw [show n + 1 - w = n - w + 1 by omega, Finset.sum_range_succ, show n + 1 - (w + 1) = n - w by omega]
      rw [hs, if_pos (by omega), show n + 16 - w - 16 = n - w by omega]
      ring
    · rw [if_neg (by omega), show n + 1 - w = 0 by omega, show n + 1 - (w + 1) = 0 by omega, add_zero]

open Cert.PoolFwdIdeal Cert.PoolFwdIdeal.Gen

/-! ## Sums of rows by doubling -/

/-- Column `q` of `z` holds, where `m` rows are above, the sum of the `m` values of `f` up to the row. -/
def SumsTo (m : ℕ) (z : FVec Ideal S272x2048 .f32) (f : ℕ → ℝ) (q : Fin 2048) : Prop :=
  ∀ r : Fin 272, m ≤ r.val + 1 → z (ix2 r q) = ((∑ j ∈ Finset.range m, f (r.val - j) : ℝ) : EReal)

/-- Adding the rows `m` further up doubles the number of rows summed. -/
theorem SumsTo.double {m : ℕ} {z : FVec Ideal S272x2048 .f32} {f : ℕ → ℝ} {q : Fin 2048} (h : SumsTo m z f q) (n : BitVec 32) (hn : n.toNat = m)
    (hm : 0 < m) : SumsTo (m + m) (addf z (dynamicRotate 0 n none z rotates_S272x2048_d0)) f q := by
  intro r hr
  have hr' := r.isLt
  have hk : dynamicRotate 0 n none z rotates_S272x2048_d0 (ix2 r q) = z (ix2 ⟨r.val - m, by omega⟩ q) :=
    dynamicRotate_apply 0 n z _ _ _ fun b => by
      match b with
      | ⟨0, _⟩ => show r.val - m = (r.val + 272 - n.toNat % 272) % 272; rw [hn]; omega
      | ⟨1, _⟩ => rfl
  show z (ix2 r q) + dynamicRotate 0 n none z rotates_S272x2048_d0 (ix2 r q) = _
  rw [hk, h r (by omega), h ⟨r.val - m, by omega⟩ (by show m ≤ r.val - m + 1; omega), ← EReal.coe_add, Finset.sum_range_add]
  simp only [Nat.sub_sub]

/-! ## The grid point's rows -/

section
variable {i : grid0.Coords} {v1 : Vec Ideal S16x2048 .f32} {v5 : Vec Ideal S256x2048 .f32} {d : Fin 8192 → Fin 2048 → ℝ}

/-- The number of rows in the window of at most `w` rows that ends at row `r` of the point. -/
theorem count_apply {w : ℕ} (hw : w < 2 ^ 20) (r : Fin 256) :
    (sitofp .f32 (minsi (addi (k0_pay5 i) (broadcast S256x1 1#32)) (broadcast S256x1 (BitVec.ofNat 32 w))) : FVec Ideal S256x1 .f32) (ix2 r 0)
      = (((min (256 * (i 0).val + r.val + 1) w : ℕ) : ℝ) : EReal) := by
  have hi : (i 0).val < 32 := (i 0).isLt
  have hb : k0_pay5 i (ix2 r 0) = BitVec.ofNat 32 (256 * (i 0).val + r.val) := by
    pointwise [k0_pay5]
    show BitVec.ofNat 32 (i 0).val * BitVec.ofNat 32 256 + BitVec.ofNat 32 r.val = _
    rw [← BitVec.ofNat_mul, ← BitVec.ofNat_add, Nat.mul_comm]
  show (Scalar.sitofp .f32 (IntOp.minsi (IntOp.addi (k0_pay5 i (ix2 r 0)) 1#32) (BitVec.ofNat 32 w)) : Ideal .f32) = _
  rw [hb, next_row (by omega), Ideal.scalar_sitofp_def, min_word (by omega) hw]
  simp

/-- The last 256 rows of the sums, divided by the windows' lengths, less the rows themselves. -/
theorem mean_apply {z x : FVec Ideal S272x2048 .f32} {w lo : ℕ} (hlo : lo ≤ 1536) (hw : 0 < w) (hw' : w ≤ 16) (r : Fin 256) (q : Fin 512)
    (hspan : span (colAt lo q hlo) = w)
    (h : SumsTo w z (fun n => above d (colAt lo q hlo) (256 * (i 0).val + n)) (colAt lo q hlo))
    (hx : x (ix2 ⟨16 + r.val, by omega⟩ (colAt lo q hlo)) = (row d (colAt lo q hlo) (256 * (i 0).val + r.val) : EReal))
    (hs : S272x2048.Slices ![16, lo] S256x512) :
    (truncf .bf16 (subf (divf (extractStridedSlice S256x512 ![16, lo] z hs)
        (broadcastTo S256x512 (sitofp .f32 (minsi (addi (k0_pay5 i) (broadcast S256x1 1#32)) (broadcast S256x1 (BitVec.ofNat 32 w)))) broadcasts_S256x1_S256x512))
      (extractStridedSlice S256x512 ![16, lo] x hs)) bitsLt_bf16_f32 : FVec Ideal S256x512 .bf16) (ix2 r q)
      = (pooled d (256 * (i 0).val + r.val) (colAt lo q hlo) : EReal) := by
  have hr := r.isLt
  have hz := h ⟨16 + r.val, by omega⟩ (by dsimp only; omega)
  have hc := count_apply (i := i) (w := w) (by omega) r
  have hslice : ∀ y : FVec Ideal S272x2048 .f32, extractStridedSlice S256x512 ![16, lo] y hs (ix2 r q) = y (ix2 ⟨16 + r.val, by omega⟩ (colAt lo q hlo)) := fun y =>
    extractStridedSlice_apply ![16, lo] y hs _ _ fun a => by
      match a with
      | ⟨0, _⟩ => rfl
      | ⟨1, _⟩ => rfl
  have hsum : ∑ j ∈ Finset.range w, above d (colAt lo q hlo) (256 * (i 0).val + (16 + r.val - j))
      = total d (colAt lo q hlo) (256 * (i 0).val + r.val + 1) - total d (colAt lo q hlo) (256 * (i 0).val + r.val + 1 - w) := by
    rw [← window_total d _ _ hw']
    refine Finset.sum_congr rfl fun j hj => congrArg _ ?_
    have := Finset.mem_range.1 hj
    omega
  generalize (sitofp .f32 (minsi (addi (k0_pay5 i) (broadcast S256x1 1#32)) (broadcast S256x1 (BitVec.ofNat 32 w))) : FVec Ideal S256x1 .f32) = y at hc ⊢
  have hy : broadcastTo S256x512 y broadcasts_S256x1_S256x512 (ix2 r q) = y (ix2 r 0) := by pointwise []
  show Ideal.div (extractStridedSlice S256x512 ![16, lo] z hs (ix2 r q)) (broadcastTo S256x512 y broadcasts_S256x1_S256x512 (ix2 r q))
    - extractStridedSlice S256x512 ![16, lo] x hs (ix2 r q) = _
  rw [hslice, hslice, hy, hz, hx, hc]
  dsimp only
  rw [hsum, div_coe (count_ne hw), ← EReal.coe_sub]
  unfold pooled
  rw [hspan]

variable (h5 : ∀ (r : Fin 256) k, v5 (ix2 r k) = (row d k (256 * (i 0).val + r.val) : EReal))
  (h1 : (i 0).val ≠ 0 → ∀ (r : Fin 16) k, v1 (ix2 r k) = (row d k (256 * (i 0).val + r.val - 16) : EReal))
include h5 h1

omit h5 h1 in
/-- The word the kernel tests for the first point. -/
theorem first_word : ∀ n : Fin 32, Scalar.cmpi .sgt (BitVec.ofNat 32 n.val) 0#32 = if n.val = 0 then 0#1 else 1#1 := by decide

/-- The rows with the 16 before them, zero before the first point's. -/
theorem rows_apply (r : Fin 272) (k : Fin 2048) : k0_pay4 i v1 v5 (ix2 r k) = (above d k (256 * (i 0).val + r.val) : EReal) := by
  have hi : (i 0).val < 32 := (i 0).isLt
  unfold above
  by_cases hr : r.val < 16
  · pointwise [k0_pay4]
    rw [dif_pos hr]
    have hf : Scalar.cmpi .sgt (BitVec.ofNat 32 (i 0).val) 0#32 = if (i 0).val = 0 then 0#1 else 1#1 := first_word ⟨(i 0).val, hi⟩
    rw [hf]
    by_cases h0 : (i 0).val = 0
    · rw [if_pos h0, if_neg (by omega)]
      rfl
    · rw [if_neg h0, if_pos (by omega)]
      exact h1 h0 ⟨r.val, hr⟩ k
  · pointwise [k0_pay4]
    rw [dif_neg hr]
    refine (h5 ⟨r.val - 16, by omega⟩ k).trans ?_
    rw [if_pos (by omega)]
    dsimp only
    rw [show 256 * (i 0).val + (r.val - 16) = 256 * (i 0).val + r.val - 16 by omega]

theorem sums_apply (k : Fin 2048) : SumsTo 2 (k0_pay6 i v1 v5) (fun n => above d k (256 * (i 0).val + n)) k
    ∧ SumsTo 4 (k0_pay8 i v1 v5) (fun n => above d k (256 * (i 0).val + n)) k
    ∧ SumsTo 8 (k0_pay1 (k0_pay8 i v1 v5)) (fun n => above d k (256 * (i 0).val + n)) k := by
  have one : SumsTo 1 (k0_pay4 i v1 v5) (fun n => above d k (256 * (i 0).val + n)) k := fun r _ => by
    rw [rows_apply h5 h1, Finset.sum_range_one]
    rfl
  have two := one.double 1#32 rfl (by norm_num)
  have four := SumsTo.double (z := k0_pay6 i v1 v5) two 2#32 rfl (by norm_num)
  exact ⟨two, four, SumsTo.double (z := k0_pay8 i v1 v5) four 4#32 rfl (by norm_num)⟩

theorem own_row (r : Fin 256) (k : Fin 2048) : k0_pay4 i v1 v5 (ix2 ⟨16 + r.val, by omega⟩ k) = (row d k (256 * (i 0).val + r.val) : EReal) := by
  rw [rows_apply h5 h1]
  unfold above
  dsimp only
  rw [if_pos (by omega), show 256 * (i 0).val + (16 + r.val) - 16 = 256 * (i 0).val + r.val by omega]

variable (r : Fin 256) (q : Fin 512)

theorem first_apply : k0_pay7 i v1 v5 (ix2 r q) = (pooled d (256 * (i 0).val + r.val) (colAt 0 q) : EReal) :=
  mean_apply (w := 2) (by norm_num) (by norm_num) (by norm_num) r q (span_colAt q _ (g := 0) rfl) (sums_apply h5 h1 _).1 (own_row h5 h1 r _) _

theorem second_apply : k0_pay9 i v1 v5 (ix2 r q) = (pooled d (256 * (i 0).val + r.val) (colAt 512 q) : EReal) :=
  mean_apply (w := 4) (by norm_num) (by norm_num) (by norm_num) r q (span_colAt q _ (g := 1) rfl) (sums_apply h5 h1 _).2.1 (own_row h5 h1 r _) _

theorem third_apply : k0_pay2 (k0_pay4 i v1 v5) (k0_pay5 i) (k0_pay8 i v1 v5) (ix2 r q) = (pooled d (256 * (i 0).val + r.val) (colAt 1024 q) : EReal) :=
  mean_apply (w := 8) (by norm_num) (by norm_num) (by norm_num) r q (span_colAt q _ (g := 2) rfl) (sums_apply h5 h1 _).2.2 (own_row h5 h1 r _) _

theorem fourth_apply : k0_pay3 (k0_pay4 i v1 v5) (k0_pay5 i) (k0_pay8 i v1 v5) (ix2 r q) = (pooled d (256 * (i 0).val + r.val) (colAt 1536 q) : EReal) :=
  mean_apply (w := 16) (by norm_num) (by norm_num) (by norm_num) r q (span_colAt q _ (g := 3) rfl)
    (SumsTo.double (z := k0_pay1 (k0_pay8 i v1 v5)) (sums_apply h5 h1 _).2.2 8#32 rfl (by norm_num)) (own_row h5 h1 r _) _

end

end Cert.PoolFwdValue

end
-- ==== Proof.PoolFwdArray.lean ====
/-
  What the windowed mean's forward kernel leaves in its result array: each row's mean of the window that ends at it, less
  the row.
-/
module

public import proofs.«01_k».proof.Proof.Gen.PoolFwdIdeal.Value
public import proofs.«01_k».proof.Proof.PoolFwdBlock
public import proofs.«01_k».proof.Proof.RowNorm
public import Idealize.ShloMosaic.Lib.Pipeline.ValueKit.Tiles

@[expose] public section

set_option maxRecDepth 16384

noncomputable section

namespace Cert.PoolFwdValue

open Idealize.ShloMosaic Idealize.ShloMosaic.TcCoe Idealize.SL.Sem Cert.Lift
open Cert.NormValue (hz)
open Cert.PoolValue (row colAt)
open Cert.PoolFwdIdeal Cert.PoolFwdIdeal.Gen

variable (m : (ℓ : Loc nD τ sig) → Buf (Elt Ideal) ℓ) {c : Dev nD} {d : Fin 8192 → Fin 2048 → ℝ}

theorem points (t : Fin cfg0.N) : t.val < 32 := by have := t.isLt; have hN : cfg0.N = 32 := N_0; omega

theorem index_at : ∀ t : Fin cfg0.N, (∀ a, win0_0.index t a = ![t.val, 1] a) ∧ (∀ a, win0_1.index t a = ![16 * t.val - 1, 1] a)
    ∧ (∀ a, win0_2.index t a = ![t.val, 0] a) ∧ (grid0.coords t 0).val = t.val :=
  (by decide +kernel : ∀ t : Fin grid0.N, (∀ a, win0_0.index t a = ![t.val, 1] a) ∧ (∀ a, win0_1.index t a = ![16 * t.val - 1, 1] a)
    ∧ (∀ a, win0_2.index t a = ![t.val, 0] a) ∧ (grid0.coords t 0).val = t.val)

/-- The pooled columns of the reordered projection are those of the projection it was made from. -/
theorem V_columns (n : Fin 8192) (k : Fin 2048) : V m c main_v5 (ix2 n ⟨2048 + k.val, by omega⟩) = m ((c : Thread nD τ).loc main_arg0) (ix2 n (inCol k)) := by
  show StableHlo.after hostOps0 _ (Proc.devRef .tc main_v5) _ = _
  after_results_simp
  pointwise []
  after_results_simp
  pointwise []
  rfl

theorem block_rows (t : Fin cfg0.N) (r : Fin 256) (k : Fin 2048) (n : Fin 8192) (hn : n.val = 256 * t.val + r.val) :
    (X0_0 m c t : Vec Ideal S256x2048 .f32) (ix2 r k) = m ((c : Thread nD τ).loc main_arg0) (ix2 n (inCol k)) := by
  unfold X0_0 Pipeline.Window.fill
  rw [dif_pos (moved0_0 t (ix2 r k))]
  unfold iblk
  rw [View.read_apply]
  refine (congrArg (V m c main_v5) (funext fun a => Fin.ext ?_)).trans (V_columns m n k)
  have e0 : win0_0.index t 0 = t.val := (index_at t).1 0
  have e1 : win0_0.index t 1 = 1 := (index_at t).1 1
  match a with
  | ⟨0, _⟩ => show win0_0.index t 0 * 256 + 1 * r.val = n.val; omega
  | ⟨1, _⟩ => show win0_0.index t 1 * 2048 + 1 * k.val = 2048 + k.val; omega

/-- The 16 rows before a point's rows, but at the first point. -/
theorem block_before (t : Fin cfg0.N) (r : Fin 16) (k : Fin 2048) (n : Fin 8192) (ht : t.val ≠ 0) (hn : n.val + 16 = 256 * t.val + r.val) :
    (X0_1 m c t : Vec Ideal S16x2048 .f32) (ix2 r k) = m ((c : Thread nD τ).loc main_arg0) (ix2 n (inCol k)) := by
  unfold X0_1 Pipeline.Window.fill
  rw [dif_pos (moved0_1 t (ix2 r k))]
  unfold iblk
  rw [View.read_apply]
  refine (congrArg (V m c main_v5) (funext fun a => Fin.ext ?_)).trans (V_columns m n k)
  have e0 : win0_1.index t 0 = 16 * t.val - 1 := (index_at t).2.1 0
  have e1 : win0_1.index t 1 = 1 := (index_at t).2.1 1
  match a with
  | ⟨0, _⟩ => show win0_1.index t 0 * 16 + 1 * r.val = n.val; omega
  | ⟨1, _⟩ => show win0_1.index t 1 * 2048 + 1 * k.val = 2048 + k.val; omega

/-- The result array. -/
def means (d : Fin 8192 → Fin 2048 → ℝ) : FVec Ideal S8192x2048 .bf16 := fun i : S8192x2048.Idx => (pooled d (i 0).val (i 1) : EReal)

variable (hd : ∀ n k, m ((c : Thread nD τ).loc main_arg0) (ix2 n (inCol k)) = (d n k : EReal))
include hd

/-- What a point leaves in its block: the means of its rows. -/
theorem point_apply (t : Fin cfg0.N) (r : Fin 256) (k : Fin 2048) : outsAt0 m c t (ix2 r k) = (pooled d (256 * t.val + r.val) k : EReal) := by
  have hc : (grid0.coords t 0).val = t.val := (index_at t).2.2.2
  have ht := points t
  have h5 : ∀ (r : Fin 256) k, (X0_0 m c t : Vec Ideal S256x2048 .f32) (ix2 r k) = (row d k (256 * (grid0.coords t 0).val + r.val) : EReal) := fun r k => by
    have hr := r.isLt
    rw [hc, block_rows m t r k ⟨256 * t.val + r.val, by omega⟩ rfl, hd]
    unfold row
    rw [dif_pos]
  have h1 : (grid0.coords t 0).val ≠ 0 → ∀ (r : Fin 16) k, (X0_1 m c t : Vec Ideal S16x2048 .f32) (ix2 r k) = (row d k (256 * (grid0.coords t 0).val + r.val - 16) : EReal) :=
    fun hne r k => by
      rw [hc] at hne ⊢
      have hr := r.isLt
      rw [block_before m t r k ⟨256 * t.val + r.val - 16, by omega⟩ hne (by dsimp only; omega), hd]
      unfold row
      rw [dif_pos]
  rw [← hc]
  unfold outsAt0 out0_A_2
  rw [View.read_writes_eq_canon _ _ _ (fun y => cover0_A_2 (y := y) ..)]
  refine View.canon_eq_of_allAt _ _ _ (cover0_A_2 (y := ix2 r k) ..) ?_
  unfold kernelRun0_A
  dsimp only
  sl_unfold_words
  simp only [View.readAt_eq_ld, (hs0_0 _).read_unread, (hs0_1 _).read_unread, View.ld_unit_zero (S := S256x2048) hz, View.ld_unit_zero (S := S16x2048) hz]
  refine View.allAt_cons_unit _ _ _ _ _ ?_ (View.allAt_cons_unit _ _ _ _ _ ?_ (View.allAt_cons_unit _ _ _ _ _ ?_ (View.allAt_cons_unit _ _ _ _ _ ?_ (View.allAt_nil _ _))))
  all_goals
    intro x hx
    obtain ⟨r', q, rfl⟩ : ∃ (r' : Fin 256) (q : Fin 512), x = ix2 r' q := ⟨x 0, x 1, eq_ix2 x⟩
    have e0 : r.val = 0 + r'.val := hx 0
    obtain rfl : r' = r := Fin.ext (by omega)
    have e1 := hx 1
  · obtain rfl : k = colAt 1536 q := Fin.ext e1
    exact fourth_apply h5 h1 _ _
  · obtain rfl : k = colAt 1024 q := Fin.ext e1
    exact third_apply h5 h1 _ _
  · obtain rfl : k = colAt 512 q := Fin.ext e1
    exact second_apply h5 h1 _ _
  · obtain rfl : k = colAt 0 q := Fin.ext e1
    exact first_apply h5 h1 _ _

theorem means_flushed (t : Fin cfg0.N) (_ : (cfg0.win 2).flush t = true) :
    (dats m 0 c).flushed 2 t = ((cfg0.win 2).blk t).view.read (Elt Ideal) (means d) := by
  rw [Value.flushed2]
  funext j
  obtain ⟨p, q, rfl⟩ : ∃ (p : Fin 256) (q : Fin 2048), j = ix2 p q := ⟨j 0, j 1, eq_ix2 j⟩
  show outsAt0 m c t (ix2 p q) = _
  rw [View.read_apply]
  have e0 : win0_2.index t 0 = t.val := (index_at t).2.2.1 0
  have e1 : win0_2.index t 1 = 0 := (index_at t).2.2.1 1
  have ht := points t
  refine (point_apply m hd t p q).trans (congrArg (means d) (a₁ := ix2 (⟨256 * t.val + p.val, by omega⟩ : Fin 8192) q) (funext fun a => Fin.ext ?_))
  match a with
  | ⟨0, _⟩ => show 256 * t.val + p.val = win0_2.index t 0 * 256 + 1 * p.val; omega
  | ⟨1, _⟩ => show q.val = win0_2.index t 1 * 2048 + 1 * q.val; omega

theorem means_final : (dats m 0 c).arrAt 2 cfg0.N = means d :=
  (dats m 0 c).arrAt_eq_of_cover 2 _ (means_flushed m hd) fun i => by
    have h0 : (i 0 : Nat) < 8192 := (i 0).isLt
    have h1 : (i 1 : Nat) < 2048 := (i 1).isLt
    have hN : cfg0.N = 32 := N_0
    obtain ⟨t, ht⟩ : ∃ t : Fin cfg0.N, t.val = (i 0 : Nat) / 256 := ⟨⟨(i 0 : Nat) / 256, by omega⟩, rfl⟩
    refine ⟨t, flush0_2 t, ?_⟩
    show i ∈ ((View.whole main_v6).slice (win0_2.rect t)).set
    rw [View.set_slice_whole, Rect.mem_set_unit]
    have e0 : win0_2.index t 0 = t.val := (index_at t).2.2.1 0
    have e1 : win0_2.index t 1 = 0 := (index_at t).2.2.1 1
    intro a
    match a with
    | ⟨0, _⟩ => show win0_2.index t 0 * 256 ≤ (i 0 : Nat) ∧ (i 0 : Nat) < win0_2.index t 0 * 256 + 256; omega
    | ⟨1, _⟩ => show win0_2.index t 1 * 2048 ≤ (i 1 : Nat) ∧ (i 1 : Nat) < win0_2.index t 1 * 2048 + 2048; omega

end Cert.PoolFwdValue

end
-- ==== Proof.PoolFwdRef.lean ====
/-
  The windowed mean of the reference: sums from the first row, their differences at each window's two ends, divided by the
  number of rows the window holds, less the row itself.
-/
module

public import proofs.«01_k».proof.Proof.PoolFwdBlock
public import proofs.«01_k».proof.Proof.PoolRef
public import proofs.«01_k».proof.Proof.Gen.PoolFwdRefIdeal.Read

@[expose] public section

set_option maxRecDepth 16384

noncomputable section

namespace Cert.PoolFwdValue

open Idealize.ShloMosaic Idealize.ShloMosaic.TcCoe Cert.Lift
open Cert.PoolValue (row span colAt span_colAt count_ne toInt_word prefix_rows)
open Cert.PoolFwdRefIdeal Cert.PoolFwdRefIdeal.Gen Cert.PoolFwdRefIdeal.Read

variable {x0 : FVec Ideal S8192x7200 .f32} {d : Fin 8192 → Fin 2048 → ℝ}

/-- One quarter of the columns. -/
theorem quarter_apply {y : FVec Ideal S8193x512 .f32} {idx : IVec S8192x1 32} {cnt : FVec Ideal S8192x1 .f32} {u : FVec Ideal S8192x512 .f32} {k : Fin 2048} {q : Fin 512}
    {w : ℕ} (t : Fin 8192) (hspan : span k = w) (hw : 0 < w) (hy : ∀ n : Fin 8193, y (ix2 n q) = (total d k n.val : EReal))
    (hidx : (idx (ix2 t 0)).toInt = ((t.val + 1 - w : ℕ) : Int)) (hcnt : cnt (ix2 t 0) = (((min (t.val + 1) w : ℕ) : ℝ) : EReal))
    (hu : u (ix2 t q) = (row d k t.val : EReal)) :
    subf (Host.divf (subf (extractStridedSlice S8192x512 ![1, 0] y slices_S8193x512_S8192x512_1_0)
        (Host.gather gather_S8193x512_S8192x1_S8192x512_1_0_n_n_0_1_1512 y idx)) (broadcastInDim S8192x512 ![0, 1] bcast_S8192x1_S8192x512_0_1 cnt)) u (ix2 t q)
      = (pooled d t.val k : EReal) := by
  have ht := t.isLt
  have hend : extractStridedSlice S8192x512 ![1, 0] y slices_S8193x512_S8192x512_1_0 (ix2 t q) = y (ix2 ⟨t.val + 1, by omega⟩ q) :=
    extractStridedSlice_apply ![1, 0] y _ _ _ fun a => by
      match a with
      | ⟨0, _⟩ => show t.val + 1 = 1 + t.val; omega
      | ⟨1, _⟩ => show q.val = 0 + q.val; omega
  have hstart : Host.gather gather_S8193x512_S8192x1_S8192x512_1_0_n_n_0_1_1512 y idx (ix2 t q) = y (ix2 ⟨t.val + 1 - w, by omega⟩ q) :=
    Routing.gather_row _ rfl rfl rfl rfl rfl y idx t q ⟨t.val + 1 - w, by omega⟩
      (BitVec.eq_of_toInt_eq (hidx.trans (toInt_word (by omega)).symm)) (by norm_num)
  have hc : broadcastInDim S8192x512 ![0, 1] bcast_S8192x1_S8192x512_0_1 cnt (ix2 t q) = cnt (ix2 t 0) := by pointwise []
  show Ideal.div (extractStridedSlice S8192x512 ![1, 0] y slices_S8193x512_S8192x512_1_0 (ix2 t q) - Host.gather gather_S8193x512_S8192x1_S8192x512_1_0_n_n_0_1_1512 y idx (ix2 t q))
    (broadcastInDim S8192x512 ![0, 1] bcast_S8192x1_S8192x512_0_1 cnt (ix2 t q)) - u (ix2 t q) = _
  rw [hend, hstart, hc, hcnt, hu, hy, hy, ← EReal.coe_sub, div_coe (count_ne hw), ← EReal.coe_sub]
  unfold pooled
  rw [hspan]

variable (hd : ∀ t k, x0 (ix2 t (inCol k)) = (d t k : EReal))
include hd

theorem input_apply (t : Fin 8192) (k : Fin 2048) : val_main_v0 (F := Ideal) x0 (ix2 t k) = (row d k t.val : EReal) := by
  pointwise [val_main_v0]
  unfold row
  rw [dif_pos t.isLt]
  exact hd t k

/-- The sums from the first row, with a zero row above them. -/
theorem totals_apply (n : Fin 8193) (k : Fin 2048) : val_main_v3 (F := Ideal) x0 (ix2 n k) = (total d k n.val : EReal) := by
  have hn := n.isLt
  pointwise [val_main_v3, val_main_v1, val_main_cst]
  by_cases h : n.val < 1
  · rw [dif_pos h, show n.val = 0 by omega]
    unfold total
    rw [Finset.sum_range_zero]
    rfl
  · rw [dif_neg h]
    have hz : ∀ i, val_main_call0_call0_v0 (F := Ideal) i = 0 := fun i => by
      pointwise [val_main_call0_call0_v0, val_main_call0_call0_cst]
    have h2 := prefix_rows (R := 8192) (Rm1 := 8191) (C := 2048) rfl (val_main_v0 (F := Ideal) x0) (row d k) k (fun t => input_apply hd t k)
      reduceWindows_S8192x2048_S8192x2048_w8192s1p8191_0_w1s1p0_0 ⟨n.val - 1, by omega⟩
    refine Eq.trans ?_ (h2.trans ?_)
    · unfold val_main_v2 Host.reduceWindowAdd
      rw [Ideal.hostReduceWindowAdd_def, hz]
    · unfold total
      dsimp only
      rw [show n.val - 1 + 1 = n.val by omega]

theorem sums_slice (n : Fin 8193) (q : Fin 512) : val_main_v5 (F := Ideal) x0 (ix2 n q) = (total d (colAt 0 q) n.val : EReal)
    ∧ val_main_v31 (F := Ideal) x0 (ix2 n q) = (total d (colAt 512 q) n.val : EReal) ∧ val_main_v57 (F := Ideal) x0 (ix2 n q) = (total d (colAt 1024 q) n.val : EReal)
    ∧ val_main_v83 (F := Ideal) x0 (ix2 n q) = (total d (colAt 1536 q) n.val : EReal) := by
  simp only [← totals_apply hd]
  refine ⟨?_, ?_, ?_, ?_⟩
  all_goals refine extractStridedSlice_apply _ _ _ _ _ fun a => ?_
  all_goals match a with
    | ⟨0, _⟩ => exact (Nat.zero_add _).symm
    | ⟨1, _⟩ => rfl

theorem input_slice (t : Fin 8192) (q : Fin 512) : val_main_v29 (F := Ideal) x0 (ix2 t q) = (row d (colAt 0 q) t.val : EReal)
    ∧ val_main_v55 (F := Ideal) x0 (ix2 t q) = (row d (colAt 512 q) t.val : EReal) ∧ val_main_v81 (F := Ideal) x0 (ix2 t q) = (row d (colAt 1024 q) t.val : EReal)
    ∧ val_main_v107 (F := Ideal) x0 (ix2 t q) = (row d (colAt 1536 q) t.val : EReal) := by
  simp only [← input_apply hd]
  refine ⟨?_, ?_, ?_, ?_⟩
  all_goals refine extractStridedSlice_apply _ _ _ _ _ fun a => ?_
  all_goals match a with
    | ⟨0, _⟩ => exact (Nat.zero_add _).symm
    | ⟨1, _⟩ => rfl

theorem quarters_apply (t : Fin 8192) (q : Fin 512) : val_main_v30 (F := Ideal) x0 (ix2 t q) = (pooled d t.val (colAt 0 q) : EReal)
    ∧ val_main_v56 (F := Ideal) x0 (ix2 t q) = (pooled d t.val (colAt 512 q) : EReal) ∧ val_main_v82 (F := Ideal) x0 (ix2 t q) = (pooled d t.val (colAt 1024 q) : EReal)
    ∧ val_main_v108 (F := Ideal) x0 (ix2 t q) = (pooled d t.val (colAt 1536 q) : EReal) := by
  obtain ⟨i0, i1, i2, i3⟩ := Cert.PoolValue.starts_apply t
  obtain ⟨c0, c1, c2, c3⟩ := Cert.PoolValue.counts_apply t
  obtain ⟨u0, u1, u2, u3⟩ := input_slice hd t q
  have hs := fun n => sums_slice hd n q
  exact ⟨quarter_apply (w := 2) t (span_colAt q _ (g := 0) rfl) (by norm_num) (fun n => (hs n).1) i0 c0 u0,
    quarter_apply (w := 4) t (span_colAt q _ (g := 1) rfl) (by norm_num) (fun n => (hs n).2.1) i1 c1 u1,
    quarter_apply (w := 8) t (span_colAt q _ (g := 2) rfl) (by norm_num) (fun n => (hs n).2.2.1) i2 c2 u2,
    quarter_apply (w := 16) t (span_colAt q _ (g := 3) rfl) (by norm_num) (fun n => (hs n).2.2.2) i3 c3 u3⟩

theorem refPooled_apply (t : Fin 8192) (k : Fin 2048) : val_main_v110 (F := Ideal) x0 (ix2 t k) = (pooled d t.val k : EReal) := by
  have hk := k.isLt
  have hq := quarters_apply hd t
  have hat : ∀ (lo : ℕ) (hlo : lo ≤ 1536) (q : Fin 512), lo + q.val = k.val → (pooled d t.val (colAt lo q hlo) : EReal) = (pooled d t.val k : EReal) := fun lo hlo q h =>
    congrArg (fun k => (pooled d t.val k : EReal)) (Fin.ext h)
  pointwise [val_main_v110, val_main_v109]
  rcases Nat.lt_or_ge k.val 512 with h0 | h0
  · rw [dif_pos h0]
    exact ((hq _).1).trans (hat 0 _ _ (Nat.zero_add _))
  rw [dif_neg (by omega)]
  rcases Nat.lt_or_ge k.val 1024 with h1 | h1
  · rw [dif_pos (by omega)]
    exact ((hq _).2.1).trans (hat 512 _ _ (by dsimp only; omega))
  rw [dif_neg (by omega)]
  rcases Nat.lt_or_ge k.val 1536 with h2 | h2
  · rw [dif_pos (by omega)]
    exact ((hq _).2.2.1).trans (hat 1024 _ _ (by dsimp only; omega))
  · rw [dif_neg (by omega)]
    exact ((hq _).2.2.2).trans (hat 1536 _ _ (by dsimp only; omega))

end Cert.PoolFwdValue

end
-- ==== Proof.PoolFwdClaim.lean ====
/-
  The claims of the windowed mean's forward call: the reference's frame, and that the two programs' results are equal over
  the extended reals where the pooled columns of the projection are finite.
-/
module

public import proofs.«01_k».proof.Defs
public import proofs.«01_k».proof.Proof.Gen.PoolFwd.Frame
public import proofs.«01_k».proof.Proof.Gen.PoolFwdRefIdeal.Run
public import proofs.«01_k».proof.Proof.Gen.Pre_pool_fwd_finite
public import proofs.«01_k».proof.Proof.PoolFwdArray
public import proofs.«01_k».proof.Proof.PoolFwdRef
public import Idealize.ShloMosaic.Lib.Claim

@[expose] public section

set_option maxRecDepth 16384

noncomputable section

namespace Cert.PoolFwdValue

open Idealize.ShloMosaic Idealize.ShloMosaic.TcCoe Idealize.SL.Sem Cert.Lift

/-- Where the precondition holds, the pooled columns are an array of real numbers. -/
theorem real_of_pre {x : FVec Ideal Cert.PoolFwdIdeal.S8192x7200 .f32} (hp : Cert.Pre_pool_fwd_finite.fn (F := Ideal) x = fun _ => 1#1) :
    ∃ d : Fin 8192 → Fin 2048 → ℝ, ∀ n k, x (ix2 n (inCol k)) = (d n k : EReal) :=
  ⟨fun n k => (x (ix2 n (inCol k)) : EReal).toReal, fun n k => by
    have hp' := congrFun hp (ix2 n k)
    pointwise [Cert.Pre_pool_fwd_finite.fn] at hp'
    exact real_of_test (of_decide_eq_true ((BitVec.ofBool_eq_iff_eq (b' := true)).mp hp'))⟩

theorem frame_ref : Cert.quiescent_PoolFwdRefIdeal := fun m g _ =>
  (θ_run Cert.PoolFwdRefIdeal.defs _ _).mono (fun r h => ⟨fun c => (h c).2, sem_eq_zero_of_no_sems (by decide) r.2⟩)
    (Cert.PoolFwdRefIdeal.Value.run m g)

theorem value : Cert.algebraic_PoolFwdIdeal_PoolFwdRefIdeal_pre_pool_fwd_finite := by
  intro m g m' g' hp hag
  refine ⟨_, Cert.PoolFwdIdeal.Value.run_blocks m g, (θ_run Cert.PoolFwdRefIdeal.defs _ _).mono (fun r h c => ?_) (Cert.PoolFwdRefIdeal.Value.run m' g')⟩
  obtain ⟨hr, ha⟩ := h c
  obtain ⟨d, hd⟩ := real_of_pre (hp c)
  refine ⟨hr.trans ?_, ha⟩
  refine (Cert.PoolFwdRefIdeal.Read.val_main_v110_eq _ _).trans ?_
  refine (congrArg (Cert.PoolFwdRefIdeal.Read.val_main_v110 (F := Ideal)) (hag c)).trans ?_
  rw [means_final m hd]
  funext i
  obtain ⟨n, k, rfl⟩ : ∃ (n : Fin 8192) (k : Fin 2048), i = ix2 n k := ⟨i 0, i 1, eq_ix2 i⟩
  exact refPooled_apply hd n k

end Cert.PoolFwdValue

end
-- ==== Proof.MixFwdArray.lean ====
/-
  What the mixing's forward kernel leaves in its two result arrays: the pooled signal times the weight of its group, and
  the same scaled, beside the columns that the array already held.
-/
module

public import proofs.«01_k».proof.Proof.Gen.MixFwdIdeal.Value
public import proofs.«01_k».proof.Proof.Gen.MixFwdRefIdeal.Read
public import proofs.«01_k».proof.Proof.RowNorm
public import Idealize.ShloMosaic.Lib.Pointwise

@[expose] public section

set_option maxRecDepth 16384

noncomputable section

namespace Cert.MixFwdValue

open Idealize.ShloMosaic Idealize.ShloMosaic.TcCoe Idealize.SL.Sem
open Cert.NormValue (hz)
open Cert.MixFwdIdeal Cert.MixFwdIdeal.Gen Cert.MixFwdRefIdeal.Read

/-- Column `k` of group `g` is this column of the whole width, and of the concatenated array's second half. -/
def colAt (g : Fin 4) (k : Fin 512) : Fin 2048 := ⟨g.val * 512 + k.val, by omega⟩
def colUp (n : Fin 2048) : Fin 4096 := ⟨2048 + n.val, by omega⟩

theorem colAt_div (g : Fin 4) (k : Fin 512) : (colAt g k).val / 512 = g.val := by show (g.val * 512 + k.val) / 512 = _; omega
theorem colAt_mod (g : Fin 4) (k : Fin 512) : (colAt g k).val % 512 = k.val := by show (g.val * 512 + k.val) % 512 = _; omega

/-! ## One grid point -/

section
variable {v0 : Vec Ideal S1024x512 .bf16} {v1 : Vec Ideal S1x512x512 .bf16} {v5 : Vec Ideal S1x512 .f32}
  {x0 : FVec Ideal S8192x2048 .bf16} {x1 : FVec Ideal S4x512x512 .f32} {x2 : FVec Ideal S1x2048 .f32} {x3 : FVec Ideal S8192x4096 .bf16}
  {p : Fin 1024} {r : Fin 8192} {g : Fin 4} {q : Fin 512}

/-- The reference's product takes the weight first. -/
theorem raw_apply (h0 : ∀ k, v0 (ix2 p k) = x0 (ix2 r (colAt g k))) (h1 : ∀ k, v1 (ix3 0 k q) = x1 (ix3 g k q)) :
    k0_pay1 (F := Ideal) v0 v1 (ix2 p q) = val_main_v4 (F := Ideal) x0 x1 (ix2 r (colAt g q)) := by
  pointwise [k0_pay1, val_main_v4, val_main_v3, val_main_v2, val_main_v1, val_main_v0]
  simp only [colAt_div, colAt_mod]
  exact Finset.sum_congr rfl fun k _ => (congrArg₂ (fun u v : EReal => u * v) (h0 k) (h1 k)).trans (mul_comm (G := EReal) _ _)

theorem scaled_apply (h0 : ∀ k, v0 (ix2 p k) = x0 (ix2 r (colAt g k))) (h1 : ∀ k, v1 (ix3 0 k q) = x1 (ix3 g k q))
    (h2 : v5 (ix2 0 q) = x2 (ix2 0 (colAt g q))) :
    k0_pay2 (F := Ideal) v0 v1 v5 (ix2 p q) = val_main_v9 (F := Ideal) x0 x1 x2 x3 (ix2 r (colUp (colAt g q))) := by
  pointwise [k0_pay2, val_main_v9, val_main_v8, val_main_v7, val_main_v6]
  have hd : ¬(colUp (colAt g q)).val < 2048 := by show ¬2048 + _ < 2048; omega
  have he : (⟨(colUp (colAt g q)).val - 2048, by have := (colUp (colAt g q)).isLt; omega⟩ : Fin 2048) = colAt g q := Fin.ext (by show 2048 + (colAt g q).val - 2048 = _; omega)
  rw [dif_neg hd]
  exact congrArg₂ (fun u v : EReal => u * v) ((raw_apply h0 h1).trans (congrArg (fun n => val_main_v4 (F := Ideal) x0 x1 (ix2 r n)) he.symm))
    (h2.trans (congrArg (fun n => x2 (ix2 0 n)) he.symm))

/-- The first half of the concatenated array is what it held. -/
theorem kept_apply (n : Fin 4096) (hn : n.val < 2048) : val_main_v9 (F := Ideal) x0 x1 x2 x3 (ix2 r n) = x3 (ix2 r n) := by
  pointwise [val_main_v9, val_main_v5]
  exact dif_pos hn

end

/-! ## The blocks of one grid point -/

variable (m : (ℓ : Loc nD τ sig) → Buf (Elt Ideal) ℓ) {c : Dev nD}

theorem V_weight : V m c main_v0 = m ((c : Thread nD τ).loc main_arg1) := by
  show StableHlo.after hostOps0 _ (Proc.devRef .tc main_v0) = _
  after_results_simp
  rfl

theorem V_beside : V m c main_v1_1 = m ((c : Thread nD τ).loc main_arg3) := by
  show StableHlo.after hostOps0 _ (Proc.devRef .tc main_v1_1) = _
  after_results_simp
  rfl

theorem index_at : ∀ t : Fin cfg0.N, (∀ a, win0_0.index t a = ![t.val / 4, t.val % 4] a) ∧ (∀ a, win0_1.index t a = ![t.val % 4, 0, 0] a)
    ∧ (∀ a, win0_2.index t a = ![0, t.val % 4] a) ∧ (∀ a, win0_3.index t a = ![t.val / 4, t.val % 4] a) ∧ (∀ a, win0_4.index t a = ![t.val / 4, 4 + t.val % 4] a) :=
  (by decide +kernel : ∀ t : Fin grid0.N, (∀ a, win0_0.index t a = ![t.val / 4, t.val % 4] a) ∧ (∀ a, win0_1.index t a = ![t.val % 4, 0, 0] a)
    ∧ (∀ a, win0_2.index t a = ![0, t.val % 4] a) ∧ (∀ a, win0_3.index t a = ![t.val / 4, t.val % 4] a) ∧ (∀ a, win0_4.index t a = ![t.val / 4, 4 + t.val % 4] a))

/-- The group of point `t`, and the array's row that is row `p` of its blocks. -/
def groupAt (t : Fin cfg0.N) : Fin 4 := ⟨t.val % 4, by omega⟩
def rowAt (t : Fin cfg0.N) (p : Fin 1024) : Fin 8192 := ⟨1024 * (t.val / 4) + p.val, by have := t.isLt; have hN : cfg0.N = 32 := N_0; omega⟩

theorem block_pooled (t : Fin cfg0.N) (p : Fin 1024) (k : Fin 512) :
    (iblk m c 0 t : Vec Ideal S1024x512 .bf16) (ix2 p k) = m ((c : Thread nD τ).loc main_arg0) (ix2 (rowAt t p) (colAt (groupAt t) k)) := by
  unfold iblk
  rw [View.read_apply]
  refine (congrFun (V_main_arg0 m c) _).trans (congrArg _ (funext fun a => Fin.ext ?_))
  have e0 : win0_0.index t 0 = t.val / 4 := (index_at t).1 0
  have e1 : win0_0.index t 1 = t.val % 4 := (index_at t).1 1
  match a with
  | ⟨0, _⟩ => show win0_0.index t 0 * 1024 + 1 * p.val = 1024 * (t.val / 4) + p.val; omega
  | ⟨1, _⟩ => show win0_0.index t 1 * 512 + 1 * k.val = t.val % 4 * 512 + k.val; omega

theorem block_weight (t : Fin cfg0.N) (k q : Fin 512) :
    (iblk m c 1 t : Vec Ideal S1x512x512 .bf16) (ix3 0 k q) = m ((c : Thread nD τ).loc main_arg1) (ix3 (groupAt t) k q) := by
  unfold iblk
  rw [View.read_apply]
  refine (congrFun (V_weight m) _).trans (congrArg _ (funext fun a => Fin.ext ?_))
  have e0 : win0_1.index t 0 = t.val % 4 := (index_at t).2.1 0
  have e1 : win0_1.index t 1 = 0 := (index_at t).2.1 1
  have e2 : win0_1.index t 2 = 0 := (index_at t).2.1 2
  match a with
  | ⟨0, _⟩ => show win0_1.index t 0 * 1 + 1 * 0 = t.val % 4; omega
  | ⟨1, _⟩ => show win0_1.index t 1 * 512 + 1 * k.val = k.val; omega
  | ⟨2, _⟩ => show win0_1.index t 2 * 512 + 1 * q.val = q.val; omega

theorem block_scale (t : Fin cfg0.N) (q : Fin 512) :
    (iblk m c 2 t : Vec Ideal S1x512 .f32) (ix2 0 q) = m ((c : Thread nD τ).loc main_arg2) (ix2 0 (colAt (groupAt t) q)) := by
  unfold iblk
  rw [View.read_apply]
  refine (congrFun (V_main_arg2 m c) _).trans (congrArg _ (funext fun a => Fin.ext ?_))
  have e0 : win0_2.index t 0 = 0 := (index_at t).2.2.1 0
  have e1 : win0_2.index t 1 = t.val % 4 := (index_at t).2.2.1 1
  match a with
  | ⟨0, _⟩ => show win0_2.index t 0 * 1 + 1 * 0 = 0; omega
  | ⟨1, _⟩ => show win0_2.index t 1 * 512 + 1 * q.val = t.val % 4 * 512 + q.val; omega

theorem zero3 : (![0, 0, 0] : Fin 3 → Nat) = fun _ => 0 := by
  funext a
  match a with | ⟨0, _⟩ => rfl | ⟨1, _⟩ => rfl | ⟨2, _⟩ => rfl

theorem outs_at (t : Fin cfg0.N) :
    outsAt0 m c t = (k0_pay1 (F := Ideal) (iblk m c 0 t) (iblk m c 1 t), k0_pay2 (F := Ideal) (iblk m c 0 t) (iblk m c 1 t) (iblk m c 2 t)) := by
  unfold outsAt0
  refine congrArg₂ Prod.mk ?_ ?_
  · unfold out0_A_3
    rw [View.read_writes_eq_canon _ _ _ (fun y => cover0_A_3 (y := y) ..)]
    unfold kernelRun0_A
    dsimp only
    rw [View.canon_unit_zero hz]
    simp only [View.readAt_eq_ld, (hs0_0 _).read_unread, (hs0_1 _).read_unread, View.ld_unit_zero (S := S1024x512) hz, View.ld_unit_zero (S := S1x512x512) zero3]
  · unfold out0_A_4
    rw [View.read_writes_eq_canon _ _ _ (fun y => cover0_A_4 (y := y) ..)]
    unfold kernelRun0_A
    dsimp only
    rw [View.canon_unit_zero hz]
    simp only [View.readAt_eq_ld, (hs0_0 _).read_unread, (hs0_1 _).read_unread, (hs0_2 _).read_unread, View.ld_unit_zero (S := S1024x512) hz,
      View.ld_unit_zero (S := S1x512x512) zero3, View.ld_unit_zero (S := S1x512) hz]

/-! ## The result arrays -/

/-- The reference's two values of the kernel's arguments. -/
abbrev raw (c : Dev nD) : FVec Ideal S8192x2048 .f32 :=
  val_main_v4 (F := Ideal) (m ((c : Thread nD τ).loc main_arg0)) (m ((c : Thread nD τ).loc main_arg1))
abbrev scaled (c : Dev nD) : FVec Ideal S8192x4096 .bf16 :=
  val_main_v9 (F := Ideal) (m ((c : Thread nD τ).loc main_arg0)) (m ((c : Thread nD τ).loc main_arg1)) (m ((c : Thread nD τ).loc main_arg2))
    (m ((c : Thread nD τ).loc main_arg3))

theorem raw_flushed (t : Fin cfg0.N) (_ : (cfg0.win 3).flush t = true) :
    (dats m 0 c).flushed 3 t = ((cfg0.win 3).blk t).view.read (Elt Ideal) (raw m c) := by
  rw [Value.flushed3, outs_at]
  funext j
  obtain ⟨p, q, rfl⟩ : ∃ (p : Fin 1024) (q : Fin 512), j = ix2 p q := ⟨j 0, j 1, eq_ix2 j⟩
  show k0_pay1 (F := Ideal) (iblk m c 0 t) (iblk m c 1 t) (ix2 p q) = _
  rw [View.read_apply]
  have e0 : win0_3.index t 0 = t.val / 4 := (index_at t).2.2.2.1 0
  have e1 : win0_3.index t 1 = t.val % 4 := (index_at t).2.2.2.1 1
  refine (raw_apply (block_pooled m t p) (fun k => block_weight m t k q)).trans (congrArg (raw m c) (funext fun a => Fin.ext ?_)).symm
  match a with
  | ⟨0, _⟩ => show win0_3.index t 0 * 1024 + 1 * p.val = 1024 * (t.val / 4) + p.val; omega
  | ⟨1, _⟩ => show win0_3.index t 1 * 512 + 1 * q.val = t.val % 4 * 512 + q.val; omega

theorem scaled_flushed (t : Fin cfg0.N) (_ : (cfg0.win 4).flush t = true) :
    (dats m 0 c).flushed 4 t = ((cfg0.win 4).blk t).view.read (Elt Ideal) (scaled m c) := by
  rw [Value.flushed4, outs_at]
  funext j
  obtain ⟨p, q, rfl⟩ : ∃ (p : Fin 1024) (q : Fin 512), j = ix2 p q := ⟨j 0, j 1, eq_ix2 j⟩
  show k0_pay2 (F := Ideal) (iblk m c 0 t) (iblk m c 1 t) (iblk m c 2 t) (ix2 p q) = _
  rw [View.read_apply]
  have e0 : win0_4.index t 0 = t.val / 4 := (index_at t).2.2.2.2 0
  have e1 : win0_4.index t 1 = 4 + t.val % 4 := (index_at t).2.2.2.2 1
  refine (scaled_apply (block_pooled m t p) (fun k => block_weight m t k q) (block_scale m t q)).trans (congrArg (scaled m c) (funext fun a => Fin.ext ?_)).symm
  match a with
  | ⟨0, _⟩ => show win0_4.index t 0 * 1024 + 1 * p.val = 1024 * (t.val / 4) + p.val; omega
  | ⟨1, _⟩ => show win0_4.index t 1 * 512 + 1 * q.val = 2048 + (t.val % 4 * 512 + q.val); omega

/-- The point whose block holds this row and column. -/
theorem point_of (r n : ℕ) (hr : r < 8192) (hn : n < 2048) : ∃ t : Fin cfg0.N, t.val / 4 = r / 1024 ∧ t.val % 4 = n / 512 := by
  have hN : cfg0.N = 32 := N_0
  exact ⟨⟨r / 1024 * 4 + n / 512, by omega⟩, by show (r / 1024 * 4 + n / 512) / 4 = _; omega, by show (r / 1024 * 4 + n / 512) % 4 = _; omega⟩

theorem raw_final : (dats m 0 c).arrAt 3 cfg0.N = raw m c :=
  (dats m 0 c).arrAt_eq_of_cover 3 _ (raw_flushed m) fun i => by
    have h0 : (i 0 : Nat) < 8192 := (i 0).isLt
    have h1 : (i 1 : Nat) < 2048 := (i 1).isLt
    obtain ⟨t, ht0, ht1⟩ := point_of _ _ h0 h1
    refine ⟨t, flush0_3 t, ?_⟩
    show i ∈ ((View.whole main_v1_0).slice (win0_3.rect t)).set
    rw [View.set_slice_whole, Rect.mem_set_unit]
    have e0 : win0_3.index t 0 = t.val / 4 := (index_at t).2.2.2.1 0
    have e1 : win0_3.index t 1 = t.val % 4 := (index_at t).2.2.2.1 1
    intro a
    match a with
    | ⟨0, _⟩ => show win0_3.index t 0 * 1024 ≤ (i 0 : Nat) ∧ (i 0 : Nat) < win0_3.index t 0 * 1024 + 1024; omega
    | ⟨1, _⟩ => show win0_3.index t 1 * 512 ≤ (i 1 : Nat) ∧ (i 1 : Nat) < win0_3.index t 1 * 512 + 512; omega

/-- The kernel writes the second half of the columns, and leaves the first as it was. -/
theorem scaled_final : (dats m 0 c).arrAt 4 cfg0.N = scaled m c := by
  refine funext fun (i : S8192x4096.Idx) => ?_
  have h0 : (i 0 : Nat) < 8192 := (i 0).isLt
  have h1 : (i 1 : Nat) < 4096 := (i 1).isLt
  by_cases hi : (i 1 : Nat) < 2048
  · refine (Value.entry4 m c i fun t _ ht => ?_).trans ?_
    · replace ht : i ∈ ((View.whole main_v1_1).slice (win0_4.rect t)).set := ht
      rw [View.set_slice_whole, Rect.mem_set_unit] at ht
      have e1 : win0_4.index t 1 = 4 + t.val % 4 := (index_at t).2.2.2.2 1
      have h : win0_4.index t 1 * 512 ≤ (i 1 : Nat) := (ht 1).1
      omega
    · refine (congrFun (V_beside m) i).trans ?_
      rw [eq_ix2 i]
      exact (kept_apply (i 1) hi).symm
  · obtain ⟨t, ht0, ht1⟩ := point_of (i 0 : Nat) ((i 1 : Nat) - 2048) h0 (by omega)
    refine (dats m 0 c).arrAt_apply_of_mem 4 _ (scaled_flushed m) cfg0.N t i t.isLt (flush0_4 t) ?_
    show i ∈ ((View.whole main_v1_1).slice (win0_4.rect t)).set
    rw [View.set_slice_whole, Rect.mem_set_unit]
    have e0 : win0_4.index t 0 = t.val / 4 := (index_at t).2.2.2.2 0
    have e1 : win0_4.index t 1 = 4 + t.val % 4 := (index_at t).2.2.2.2 1
    intro a
    match a with
    | ⟨0, _⟩ => show win0_4.index t 0 * 1024 ≤ (i 0 : Nat) ∧ (i 0 : Nat) < win0_4.index t 0 * 1024 + 1024; omega
    | ⟨1, _⟩ => show win0_4.index t 1 * 512 ≤ (i 1 : Nat) ∧ (i 1 : Nat) < win0_4.index t 1 * 512 + 512; omega

end Cert.MixFwdValue

end
-- ==== Proof.MixFwdClaim.lean ====
/-
  The claims of the mixing's forward call: the reference's frame, and that the two programs' two results are equal over the
  extended reals, whatever the arguments hold.
-/
module

public import proofs.«01_k».proof.Defs
public import proofs.«01_k».proof.Proof.Gen.MixFwd.Frame
public import proofs.«01_k».proof.Proof.Gen.MixFwdRefIdeal.Run
public import proofs.«01_k».proof.Proof.MixFwdArray
public import Idealize.ShloMosaic.Lib.Claim

@[expose] public section

set_option maxRecDepth 16384

noncomputable section

namespace Cert.MixFwdValue

open Idealize.ShloMosaic Idealize.ShloMosaic.TcCoe Idealize.SL.Sem

theorem frame_ref : Cert.quiescent_MixFwdRefIdeal := fun m g _ =>
  (θ_run Cert.MixFwdRefIdeal.defs _ _).mono (fun r h => ⟨fun c => (h c).2.2, sem_eq_zero_of_no_sems (by decide) r.2⟩)
    (Cert.MixFwdRefIdeal.Value.run m g)

theorem value : Cert.algebraic_MixFwdIdeal_MixFwdRefIdeal := by
  intro m g m' g' _ hag
  refine ⟨_, _, Cert.MixFwdIdeal.Value.run_blocks m g,
    (θ_run Cert.MixFwdRefIdeal.defs _ _).mono (fun r h c => ?_) (Cert.MixFwdRefIdeal.Value.run m' g')⟩
  obtain ⟨hr, hs, ha⟩ := h c
  obtain ⟨e0, e1, e2, e3⟩ := hag c
  refine ⟨hr.trans ?_, hs.trans ?_, ha⟩
  · rw [e0, e1, raw_final m]
    exact Cert.MixFwdRefIdeal.Read.val_main_v4_eq _ _
  · rw [e0, e1, e2, e3, scaled_final m]
    exact Cert.MixFwdRefIdeal.Read.val_main_v9_eq _ _ _ _

end Cert.MixFwdValue

end
-- ==== Proof.GateFwdArray.lean ====
/-
  What the gate's forward kernel leaves in its three result arrays: block by block, the reference's gate, its up values and
  the product of the activated gate with them, half after half.
-/
module

public import proofs.«01_k».proof.Proof.Gen.GateFwdIdeal.Value
public import proofs.«01_k».proof.Proof.Gen.GateFwdRefIdeal.Read
public import proofs.«01_k».proof.Proof.RowNorm
public import Idealize.ShloMosaic.Lib.Pointwise

@[expose] public section

set_option maxRecDepth 16384

noncomputable section

namespace Cert.GateFwdValue

open Idealize.ShloMosaic Idealize.ShloMosaic.TcCoe Idealize.SL.Sem
open Cert.NormValue (hz)
open Cert.GateFwdIdeal Cert.GateFwdIdeal.Gen Cert.GateFwdRefIdeal.Read

/-- Column `k` of half `s` is this column of the whole width. -/
def colAt (s : Fin 2) (k : Fin 2816) : Fin 5632 := ⟨s.val * 2816 + k.val, by omega⟩

/-! ## One grid point -/

section
variable {v0 : Vec Ideal S256x2048 .bf16} {v1 v4 : Vec Ideal S1x2816x2048 .bf16} {h : FVec Ideal S8192x2048 .bf16} {wg wu : FVec Ideal S2048x5632 .f32}
  {p : Fin 256} {k : Fin 2816} {r : Fin 8192} {s : Fin 2}

theorem gate_apply (h0 : ∀ j, v0 (ix2 p j) = h (ix2 r j)) (h1 : ∀ j, v1 (ix3 0 k j) = wg (ix2 j (colAt s k))) :
    k0_pay1 (F := Ideal) v0 v1 (ix2 p k) = val_main_v1 (F := Ideal) h wg (ix2 r (colAt s k)) := by
  pointwise [k0_pay1, val_main_v1, val_main_v0]
  simp only [h0, h1]

theorem up_apply (h0 : ∀ j, v0 (ix2 p j) = h (ix2 r j)) (h4 : ∀ j, v4 (ix3 0 k j) = wu (ix2 j (colAt s k))) :
    k0_pay2 (F := Ideal) v0 v4 (ix2 p k) = val_main_v2 (F := Ideal) h wu (ix2 r (colAt s k)) := by
  pointwise [k0_pay2, val_main_v2, val_main_v0]
  simp only [h0, h4]

theorem gates_apply (h0 : ∀ j, v0 (ix2 p j) = h (ix2 r j)) (h1 : ∀ j, v1 (ix3 0 k j) = wg (ix2 j (colAt s k))) :
    k0_pay3 (F := Ideal) v0 v1 (ix3 0 p k) = val_main_v4 (F := Ideal) h wg (ix3 s r k) := by
  pointwise [k0_pay3, val_main_v4, val_main_v3]
  exact gate_apply h0 h1

theorem ups_apply (h0 : ∀ j, v0 (ix2 p j) = h (ix2 r j)) (h4 : ∀ j, v4 (ix3 0 k j) = wu (ix2 j (colAt s k))) :
    k0_pay4 (F := Ideal) v0 v4 (ix3 0 p k) = val_main_v6 (F := Ideal) h wu (ix3 s r k) := by
  pointwise [k0_pay4, val_main_v6, val_main_v5]
  exact up_apply h0 h4

/-- The activation is written with `0 - g` in the kernel and with `-g` in the reference. -/
theorem acts_apply (h0 : ∀ j, v0 (ix2 p j) = h (ix2 r j)) (h1 : ∀ j, v1 (ix3 0 k j) = wg (ix2 j (colAt s k)))
    (h4 : ∀ j, v4 (ix3 0 k j) = wu (ix2 j (colAt s k))) :
    k0_pay5 (F := Ideal) v0 v1 v4 (ix3 0 p k) = val_main_v11 (F := Ideal) h wg wu (ix3 s r k) := by
  pointwise [k0_pay5, val_main_v11, val_main_v10, val_main_v9, val_main_v8, val_main_v7, val_main_call0_v5, val_main_call0_v4, val_main_call0_v3, val_main_call0_v2,
    val_main_call0_v1, val_main_call0_v0, val_main_call0_cst, val_main_call0_cst_0]
  rw [gate_apply h0 h1, up_apply h0 h4, zero_sub]
  rfl

end

/-! ## The blocks of one grid point -/

variable (m : (ℓ : Loc nD τ sig) → Buf (Elt Ideal) ℓ) {c : Dev nD}

theorem V_gate (s : Fin 2) (k : Fin 2816) (j : Fin 2048) : V m c main_v2 (ix3 s k j) = m ((c : Thread nD τ).loc main_arg1) (ix2 j (colAt s k)) := by
  show StableHlo.after hostOps0 _ (Proc.devRef .tc main_v2) _ = _
  after_results_simp
  pointwise []
  rfl

theorem V_up (s : Fin 2) (k : Fin 2816) (j : Fin 2048) : V m c main_v5 (ix3 s k j) = m ((c : Thread nD τ).loc main_arg2) (ix2 j (colAt s k)) := by
  show StableHlo.after hostOps0 _ (Proc.devRef .tc main_v5) _ = _
  after_results_simp
  pointwise []
  rfl

theorem index_at : ∀ t : Fin cfg0.N, (∀ a, win0_0.index t a = ![t.val % 32, 0] a) ∧ (∀ a, win0_1.index t a = ![t.val / 32, 0, 0] a)
    ∧ (∀ a, win0_2.index t a = ![t.val / 32, 0, 0] a) ∧ (∀ a, win0_3.index t a = ![t.val / 32, t.val % 32, 0] a)
    ∧ (∀ a, win0_4.index t a = ![t.val / 32, t.val % 32, 0] a) ∧ (∀ a, win0_5.index t a = ![t.val / 32, t.val % 32, 0] a) :=
  (by decide +kernel : ∀ t : Fin grid0.N, (∀ a, win0_0.index t a = ![t.val % 32, 0] a) ∧ (∀ a, win0_1.index t a = ![t.val / 32, 0, 0] a)
    ∧ (∀ a, win0_2.index t a = ![t.val / 32, 0, 0] a) ∧ (∀ a, win0_3.index t a = ![t.val / 32, t.val % 32, 0] a)
    ∧ (∀ a, win0_4.index t a = ![t.val / 32, t.val % 32, 0] a) ∧ (∀ a, win0_5.index t a = ![t.val / 32, t.val % 32, 0] a))

/-- The half of point `t`, and the array's row that is row `p` of its blocks. -/
def halfAt (t : Fin cfg0.N) : Fin 2 := ⟨t.val / 32, by have := t.isLt; have hN : cfg0.N = 64 := N_0; omega⟩
def rowAt (t : Fin cfg0.N) (p : Fin 256) : Fin 8192 := ⟨256 * (t.val % 32) + p.val, by omega⟩

theorem block_h (t : Fin cfg0.N) (p : Fin 256) (j : Fin 2048) :
    (iblk m c 0 t : Vec Ideal S256x2048 .bf16) (ix2 p j) = m ((c : Thread nD τ).loc main_arg0) (ix2 (rowAt t p) j) := by
  unfold iblk
  rw [View.read_apply]
  refine (congrFun (V_main_arg0 m c) _).trans (congrArg _ (funext fun a => Fin.ext ?_))
  have e0 : win0_0.index t 0 = t.val % 32 := (index_at t).1 0
  have e1 : win0_0.index t 1 = 0 := (index_at t).1 1
  match a with
  | ⟨0, _⟩ => show win0_0.index t 0 * 256 + 1 * p.val = 256 * (t.val % 32) + p.val; omega
  | ⟨1, _⟩ => show win0_0.index t 1 * 2048 + 1 * j.val = j.val; omega

/-- The index of a weight's array under an index of point `t`'s block. -/
theorem weight_under (t : Fin cfg0.N) (i : Fin 3 → Nat) (e : ∀ a, i a = ![t.val / 32, 0, 0] a) (k : Fin 2816) (j : Fin 2048)
    (y : S2x2816x2048.Idx) (h0 : (y 0 : Nat) = i 0 * 1 + 1 * 0) (h1 : (y 1 : Nat) = i 1 * 2816 + 1 * k.val) (h2 : (y 2 : Nat) = i 2 * 2048 + 1 * j.val) :
    y = ix3 (halfAt t) k j := by
  have e0 : i 0 = t.val / 32 := e 0
  have e1 : i 1 = 0 := e 1
  have e2 : i 2 = 0 := e 2
  funext a
  apply Fin.ext
  match a with
  | ⟨0, _⟩ => show (y 0 : Nat) = t.val / 32; omega
  | ⟨1, _⟩ => show (y 1 : Nat) = k.val; omega
  | ⟨2, _⟩ => show (y 2 : Nat) = j.val; omega

theorem block_gate (t : Fin cfg0.N) (k : Fin 2816) (j : Fin 2048) :
    (iblk m c 1 t : Vec Ideal S1x2816x2048 .bf16) (ix3 0 k j) = m ((c : Thread nD τ).loc main_arg1) (ix2 j (colAt (halfAt t) k)) := by
  unfold iblk
  rw [View.read_apply]
  exact (congrArg (V m c main_v2) (weight_under t (win0_1.index t) (index_at t).2.1 k j _ rfl rfl rfl)).trans (V_gate m (halfAt t) k j)

theorem block_up (t : Fin cfg0.N) (k : Fin 2816) (j : Fin 2048) :
    (iblk m c 2 t : Vec Ideal S1x2816x2048 .bf16) (ix3 0 k j) = m ((c : Thread nD τ).loc main_arg2) (ix2 j (colAt (halfAt t) k)) := by
  unfold iblk
  rw [View.read_apply]
  exact (congrArg (V m c main_v5) (weight_under t (win0_2.index t) (index_at t).2.2.1 k j _ rfl rfl rfl)).trans (V_up m (halfAt t) k j)

/-! ## The result arrays -/

/-- The reference's three values of the kernel's arguments. -/
abbrev gates (c : Dev nD) : FVec Ideal S2x8192x2816 .f32 :=
  val_main_v4 (F := Ideal) (m ((c : Thread nD τ).loc main_arg0)) (m ((c : Thread nD τ).loc main_arg1))
abbrev ups (c : Dev nD) : FVec Ideal S2x8192x2816 .f32 :=
  val_main_v6 (F := Ideal) (m ((c : Thread nD τ).loc main_arg0)) (m ((c : Thread nD τ).loc main_arg2))
abbrev acts (c : Dev nD) : FVec Ideal S2x8192x2816 .bf16 :=
  val_main_v11 (F := Ideal) (m ((c : Thread nD τ).loc main_arg0)) (m ((c : Thread nD τ).loc main_arg1)) (m ((c : Thread nD τ).loc main_arg2))

theorem zero3 : (![0, 0, 0] : Fin 3 → Nat) = fun _ => 0 := by
  funext a
  match a with | ⟨0, _⟩ => rfl | ⟨1, _⟩ => rfl | ⟨2, _⟩ => rfl

/-- The index of a result's array under an index of point `t`'s block. -/
theorem under (t : Fin cfg0.N) (i : Fin 3 → Nat) (e : ∀ a, i a = ![t.val / 32, t.val % 32, 0] a) (p : Fin 256) (k : Fin 2816)
    (y : S2x8192x2816.Idx) (h0 : (y 0 : Nat) = i 0 * 1 + 1 * 0) (h1 : (y 1 : Nat) = i 1 * 256 + 1 * p.val) (h2 : (y 2 : Nat) = i 2 * 2816 + 1 * k.val) :
    y = ix3 (halfAt t) (rowAt t p) k := by
  have e0 : i 0 = t.val / 32 := e 0
  have e1 : i 1 = t.val % 32 := e 1
  have e2 : i 2 = 0 := e 2
  funext a
  apply Fin.ext
  match a with
  | ⟨0, _⟩ => show (y 0 : Nat) = t.val / 32; omega
  | ⟨1, _⟩ => show (y 1 : Nat) = 256 * (t.val % 32) + p.val; omega
  | ⟨2, _⟩ => show (y 2 : Nat) = k.val; omega

theorem eq_block (j : S1x256x2816.Idx) : ∃ (p : Fin 256) (k : Fin 2816), j = ix3 0 p k := by
  obtain ⟨z, p, k, rfl⟩ : ∃ (z : Fin 1) (p : Fin 256) (k : Fin 2816), j = ix3 z p k := ⟨j 0, j 1, j 2, eq_ix3 j⟩
  obtain rfl : z = 0 := Subsingleton.elim _ _
  exact ⟨p, k, rfl⟩

theorem gates_flushed (t : Fin cfg0.N) (_ : (cfg0.win 3).flush t = true) :
    (dats m 0 c).flushed 3 t = ((cfg0.win 3).blk t).view.read (Elt Ideal) (gates m c) := by
  rw [Value.flushed3]
  funext j
  obtain ⟨p, k, rfl⟩ := eq_block j
  show out0_3 (iblk m c 0 t) (iblk m c 1 t) (iblk m c 2 t) (ix3 0 p k) = _
  unfold out0_3
  rw [View.canon_unit_zero zero3, View.ld_unit_zero (S := S256x2048) hz, View.ld_unit_zero (S := S1x2816x2048) zero3, View.read_apply]
  refine (gates_apply (block_h m t p) (block_gate m t k)).trans ?_
  exact (congrArg (gates m c) (under t (win0_3.index t) (index_at t).2.2.2.1 p k _ rfl rfl rfl)).symm

theorem ups_flushed (t : Fin cfg0.N) (_ : (cfg0.win 4).flush t = true) :
    (dats m 0 c).flushed 4 t = ((cfg0.win 4).blk t).view.read (Elt Ideal) (ups m c) := by
  rw [Value.flushed4]
  funext j
  obtain ⟨p, k, rfl⟩ := eq_block j
  show out0_4 (iblk m c 0 t) (iblk m c 1 t) (iblk m c 2 t) (ix3 0 p k) = _
  unfold out0_4
  rw [View.canon_unit_zero zero3, View.ld_unit_zero (S := S256x2048) hz, View.ld_unit_zero (S := S1x2816x2048) zero3, View.read_apply]
  refine (ups_apply (block_h m t p) (block_up m t k)).trans ?_
  exact (congrArg (ups m c) (under t (win0_4.index t) (index_at t).2.2.2.2.1 p k _ rfl rfl rfl)).symm

theorem acts_flushed (t : Fin cfg0.N) (_ : (cfg0.win 5).flush t = true) :
    (dats m 0 c).flushed 5 t = ((cfg0.win 5).blk t).view.read (Elt Ideal) (acts m c) := by
  rw [Value.flushed5]
  funext j
  obtain ⟨p, k, rfl⟩ := eq_block j
  show out0_5 (iblk m c 0 t) (iblk m c 1 t) (iblk m c 2 t) (ix3 0 p k) = _
  unfold out0_5
  rw [View.canon_unit_zero zero3, View.ld_unit_zero (S := S256x2048) hz, View.ld_unit_zero (S := S1x2816x2048) zero3, View.ld_unit_zero (S := S1x2816x2048) zero3,
    View.read_apply]
  refine (acts_apply (block_h m t p) (block_gate m t k) (block_up m t k)).trans ?_
  exact (congrArg (acts m c) (under t (win0_5.index t) (index_at t).2.2.2.2.2 p k _ rfl rfl rfl)).symm

/-- Every index of a result's array lies between the bounds of some point's block. -/
theorem point_of (i : S2x8192x2816.Idx) : ∃ t : Fin cfg0.N, ∀ e : Fin 3 → Nat, (∀ a, e a = ![t.val / 32, t.val % 32, 0] a) →
    ∀ a : Fin 3, e a * ![1, 256, 2816] a ≤ (i a : Nat) ∧ (i a : Nat) < e a * ![1, 256, 2816] a + ![1, 256, 2816] a := by
  have h0 : (i 0 : Nat) < 2 := (i 0).isLt
  have h1 : (i 1 : Nat) < 8192 := (i 1).isLt
  have h2 : (i 2 : Nat) < 2816 := (i 2).isLt
  have hN : cfg0.N = 64 := N_0
  refine ⟨⟨32 * (i 0 : Nat) + (i 1 : Nat) / 256, by omega⟩, fun e he a => ?_⟩
  have e0 : e 0 = (32 * (i 0 : Nat) + (i 1 : Nat) / 256) / 32 := he 0
  have e1 : e 1 = (32 * (i 0 : Nat) + (i 1 : Nat) / 256) % 32 := he 1
  have e2 : e 2 = 0 := he 2
  match a with
  | ⟨0, _⟩ => show e 0 * 1 ≤ (i 0 : Nat) ∧ (i 0 : Nat) < e 0 * 1 + 1; omega
  | ⟨1, _⟩ => show e 1 * 256 ≤ (i 1 : Nat) ∧ (i 1 : Nat) < e 1 * 256 + 256; omega
  | ⟨2, _⟩ => show e 2 * 2816 ≤ (i 2 : Nat) ∧ (i 2 : Nat) < e 2 * 2816 + 2816; omega

theorem gates_final : (dats m 0 c).arrAt 3 cfg0.N = gates m c :=
  (dats m 0 c).arrAt_eq_of_cover 3 _ (gates_flushed m) fun i => by
    obtain ⟨t, ht⟩ := point_of i
    refine ⟨t, flush0_3 t, ?_⟩
    show i ∈ ((View.whole main_v6_0).slice (win0_3.rect t)).set
    rw [View.set_slice_whole, Rect.mem_set_unit]
    have h := ht (win0_3.index t) (index_at t).2.2.2.1
    intro a
    match a with | ⟨0, _⟩ => exact h 0 | ⟨1, _⟩ => exact h 1 | ⟨2, _⟩ => exact h 2

theorem ups_final : (dats m 0 c).arrAt 4 cfg0.N = ups m c :=
  (dats m 0 c).arrAt_eq_of_cover 4 _ (ups_flushed m) fun i => by
    obtain ⟨t, ht⟩ := point_of i
    refine ⟨t, flush0_4 t, ?_⟩
    show i ∈ ((View.whole main_v6_1).slice (win0_4.rect t)).set
    rw [View.set_slice_whole, Rect.mem_set_unit]
    have h := ht (win0_4.index t) (index_at t).2.2.2.2.1
    intro a
    match a with | ⟨0, _⟩ => exact h 0 | ⟨1, _⟩ => exact h 1 | ⟨2, _⟩ => exact h 2

theorem acts_final : (dats m 0 c).arrAt 5 cfg0.N = acts m c :=
  (dats m 0 c).arrAt_eq_of_cover 5 _ (acts_flushed m) fun i => by
    obtain ⟨t, ht⟩ := point_of i
    refine ⟨t, flush0_5 t, ?_⟩
    show i ∈ ((View.whole main_v6_2).slice (win0_5.rect t)).set
    rw [View.set_slice_whole, Rect.mem_set_unit]
    have h := ht (win0_5.index t) (index_at t).2.2.2.2.2
    intro a
    match a with | ⟨0, _⟩ => exact h 0 | ⟨1, _⟩ => exact h 1 | ⟨2, _⟩ => exact h 2

end Cert.GateFwdValue

end
-- ==== Proof.GateFwdClaim.lean ====
/-
  The claims of the gate's forward call: the reference's frame, and that the two programs' three results are equal over the
  extended reals, whatever the arguments hold.
-/
module

public import proofs.«01_k».proof.Defs
public import proofs.«01_k».proof.Proof.Gen.GateFwd.Frame
public import proofs.«01_k».proof.Proof.Gen.GateFwdRefIdeal.Run
public import proofs.«01_k».proof.Proof.GateFwdArray
public import Idealize.ShloMosaic.Lib.Claim

@[expose] public section

set_option maxRecDepth 16384

noncomputable section

namespace Cert.GateFwdValue

open Idealize.ShloMosaic Idealize.ShloMosaic.TcCoe Idealize.SL.Sem

theorem frame_ref : Cert.quiescent_GateFwdRefIdeal := fun m g _ =>
  (θ_run Cert.GateFwdRefIdeal.defs _ _).mono (fun r h => ⟨fun c => (h c).2.2.2, sem_eq_zero_of_no_sems (by decide) r.2⟩)
    (Cert.GateFwdRefIdeal.Value.run m g)

theorem value : Cert.algebraic_GateFwdIdeal_GateFwdRefIdeal := by
  intro m g m' g' _ hag
  refine ⟨_, _, _, Cert.GateFwdIdeal.Value.run_blocks m g,
    (θ_run Cert.GateFwdRefIdeal.defs _ _).mono (fun r h c => ?_) (Cert.GateFwdRefIdeal.Value.run m' g')⟩
  obtain ⟨hg, hu, hs, ha⟩ := h c
  obtain ⟨e0, e1, e2⟩ := hag c
  refine ⟨hg.trans ?_, hu.trans ?_, hs.trans ?_, ha⟩
  · rw [e0, e1, gates_final m]
    exact Cert.GateFwdRefIdeal.Read.val_main_v4_eq _ _
  · rw [e0, e2, ups_final m]
    exact Cert.GateFwdRefIdeal.Read.val_main_v6_eq _ _
  · rw [e0, e1, e2, acts_final m]
    exact Cert.GateFwdRefIdeal.Read.val_main_v11_eq _ _ _

end Cert.GateFwdValue

end
-- ==== Proof.ProductRuns.lean ====
/-
  A product whose long sum is taken tile by tile: what is accumulated over a run of grid points is the whole sum.
-/
module

public import proofs.«01_k».proof.Proof.RealLift

@[expose] public section

namespace Cert.Product

/-- The rows of the long axis, numbered by tile and row within the tile. -/
theorem sum_tiles {b k M : ℕ} (hM : b * k = M) (row : ℕ → Fin k → Fin M) (hrow : ∀ n r, (row n r : ℕ) = k * (n % b) + r) (f : Fin M → EReal) (q : ℕ) :
    ∑ s ∈ Finset.range b, ∑ r, f (row (b * q + s) r) = ∑ j, f j := by
  subst hM
  rw [Finset.sum_range, ← Fintype.sum_prod_type', ← Equiv.sum_comp (finProdFinEquiv (m := b) (n := k))]
  refine Finset.sum_congr rfl fun p _ => congrArg f (Fin.ext ?_)
  rw [hrow, Nat.mul_add_mod, Nat.mod_eq_of_lt p.1.isLt]
  exact Nat.add_comm _ _

/-- A value that starts a run of `b` points at the first tile's sum, and to which each later point adds its own, is after the
    run's last point the sum over all rows. -/
theorem run_sum {N b k M : ℕ} (hb : 0 < b) (hM : b * k = M) (row : ℕ → Fin k → Fin M) (hrow : ∀ n r, (row n r : ℕ) = k * (n % b) + r)
    (X : (n : ℕ) → n < N → EReal) (f : ℕ → Fin M → EReal) (first : ∀ n h, n % b = 0 → X n h = ∑ r, f (n / b) (row n r))
    (next : ∀ n h, ¬(n + 1) % b = 0 → X (n + 1) h = X n (Nat.lt_of_succ_lt h) + ∑ r, f ((n + 1) / b) (row (n + 1) r)) (n : ℕ) (h : n < N)
    (last : n % b = b - 1) : X n h = ∑ j, f (n / b) j := by
  have upto : ∀ n h, X n h = ∑ s ∈ Finset.range (n % b + 1), ∑ r, f (n / b) (row (b * (n / b) + s) r) := by
    intro n
    induction n with
    | zero =>
      intro h
      rw [first 0 h (Nat.zero_mod b), Nat.zero_mod, Finset.sum_range_one]
      simp
    | succ n ih =>
      intro h
      by_cases h0 : (n + 1) % b = 0
      · rw [first (n + 1) h h0, h0, Finset.sum_range_one]
        have := Nat.div_add_mod (n + 1) b
        rw [h0] at this
        rw [this]
      · have hm : n % b + 1 = (n + 1) % b := by
          rcases Nat.lt_or_ge (n % b + 1) b with hl | hl
          · rw [Nat.add_mod, Nat.mod_eq_of_lt (lt_of_le_of_lt (Nat.succ_le_succ (Nat.zero_le _)) hl : 1 < b), Nat.mod_eq_of_lt hl]
          · have hl' : n % b + 1 = b := le_antisymm (Nat.mod_lt n hb) hl
            exact absurd ((Nat.mod_add_mod n b 1).symm.trans (by rw [hl', Nat.mod_self])) h0
        have hd : n / b = (n + 1) / b := by
          have h1 := Nat.div_add_mod n b
          have h2 := Nat.div_add_mod (n + 1) b
          exact Nat.eq_of_mul_eq_mul_left hb (by omega)
        rw [next n h h0, ih, hm, hd, Finset.sum_range_succ, Nat.div_add_mod]
  rw [upto n h, last, Nat.sub_add_cancel hb]
  exact sum_tiles hM row hrow (f (n / b)) (n / b)

end Cert.Product
-- ==== Proof.WinArray.lean ====
/-
  What the product for the input projection's gradient leaves in its result array: 19 tiles of 384 rows, each summed over
  four tiles of 2048 tokens.
-/
module

public import proofs.«01_k».proof.Proof.Gen.WinIdeal.Value
public import proofs.«01_k».proof.Proof.Gen.WinRefIdeal.Read
public import proofs.«01_k».proof.Proof.ProductRuns
public import proofs.«01_k».proof.Proof.RowNorm
public import Idealize.ShloMosaic.Lib.Pointwise

@[expose] public section

set_option maxRecDepth 16384

noncomputable section

namespace Cert.WinValue

open Idealize.ShloMosaic Idealize.ShloMosaic.TcCoe Idealize.SL.Sem
open Cert.NormValue (hz)
open Cert.WinIdeal Cert.WinIdeal.Gen

section
variable {F : FTy → Type} [FloatOps F] (m : (ℓ : Loc nD τ sig) → Buf (Elt F) ℓ) (c : Dev nD)

/-- What is accumulated before point `t`. -/
abbrev before (t : Fin cfg0.N) : Vec F S384x2048 .f32 := (outsAt0 m c (t.val - 1) (lt_of_le_of_lt (Nat.sub_le _ _) t.isLt)).2

theorem acc_first (t : Fin cfg0.N) (h0 : t.val % 4 = 0) : (outsAt0 m c t.val t.isLt).2 = k0_pay2 (iblk m c 0 t) (iblk m c 1 t) := by
  rw [outsAt0_A m c t h0 (by omega) (by omega)]
  unfold sout0_A_0
  rw [View.read_writes_eq_canon _ _ _ (fun y => scover0_A_0 (y := y) ..)]
  unfold kernelRun0_A
  dsimp only
  sl_unfold_words
  rw [View.canon_unit_zero hz]
  simp only [View.readAt_eq_ld, (hs0_0 _).read_unread, (hs0_1 _).read_unread, View.ld_unit_zero (S := S2048x384) hz, View.ld_unit_zero (S := S2048x2048) hz]

theorem acc_mid (t : Fin cfg0.N) (h0 : ¬t.val % 4 = 0) (h2 : ¬t.val % 4 = 3) :
    (outsAt0 m c t.val t.isLt).2 = k0_pay3 (iblk m c 0 t) (iblk m c 1 t) (before m c t) := by
  rw [outsAt0_B m c t h0 (Nat.pos_of_ne_zero h0) h2]
  unfold sout0_B_0
  rw [View.read_writes_eq_canon _ _ _ (fun y => scover0_B_0 (y := y) ..)]
  unfold kernelRun0_B
  dsimp only
  sl_unfold_words
  rw [View.canon_unit_zero hz]
  simp only [View.readAt_eq_ld, (hs0_0 _).read_unread, (hs0_1 _).read_unread, (Memref.isWhole_whole _).read_unread, View.ld_unit_zero (S := S2048x384) hz,
    View.ld_unit_zero (S := S2048x2048) hz, View.ld_unit_zero (S := S384x2048) hz]

theorem acc_last (t : Fin cfg0.N) (h0 : ¬t.val % 4 = 0) (h2 : t.val % 4 = 3) :
    outsAt0 m c t.val t.isLt = (k0_pay4 (k0_pay3 (iblk m c 0 t) (iblk m c 1 t) (before m c t)), k0_pay3 (iblk m c 0 t) (iblk m c 1 t) (before m c t)) := by
  rw [outsAt0_C m c t h0 (Nat.pos_of_ne_zero h0) h2]
  unfold out0_C_2 sout0_C_0
  rw [View.read_writes_eq_canon _ _ _ (fun y => cover0_C_2 (y := y) ..), View.read_writes_eq_canon _ _ _ (fun y => scover0_C_0 (y := y) ..)]
  unfold kernelRun0_C
  dsimp only
  sl_unfold_words
  rw [View.canon_unit_zero hz, View.canon_unit_zero hz, View.readCov_unit_zero (S := S384x2048) _ hz]
  simp only [View.readAt_eq_ld, (hs0_0 _).read_unread, (hs0_1 _).read_unread, (Memref.isWhole_whole _).read_unread, View.ld_unit_zero (S := S2048x384) hz,
    View.ld_unit_zero (S := S2048x2048) hz, View.ld_unit_zero (S := S384x2048) hz]

theorem acc_next (t : Fin cfg0.N) (h0 : ¬t.val % 4 = 0) :
    (outsAt0 m c t.val t.isLt).2 = k0_pay3 (iblk m c 0 t) (iblk m c 1 t) (before m c t) := by
  by_cases h2 : t.val % 4 = 3
  · rw [acc_last m c t h0 h2]
  · exact acc_mid m c t h0 h2

theorem index_at : ∀ t : Fin cfg0.N, (∀ a, win0_0.index t a = ![t.val % 4, t.val / 4] a) ∧ (∀ a, win0_1.index t a = ![t.val % 4, 0] a)
    ∧ (∀ a, win0_2.index t a = ![t.val / 4, 0] a) :=
  (by decide +kernel : ∀ t : Fin grid0.N, (∀ a, win0_0.index t a = ![t.val % 4, t.val / 4] a) ∧ (∀ a, win0_1.index t a = ![t.val % 4, 0] a)
    ∧ (∀ a, win0_2.index t a = ![t.val / 4, 0] a))

end

/-! ## One grid point -/

section
variable (v0 : Vec Ideal S2048x384 .bf16) (v1 : Vec Ideal S2048x2048 .bf16) (v12 : Vec Ideal S384x2048 .f32) (p : Fin 384) (q : Fin 2048)

theorem part_apply : k0_pay2 (F := Ideal) v0 v1 (ix2 p q) = (∑ r, v0 (ix2 r p) * v1 (ix2 r q) : EReal) := by
  pointwise [k0_pay2, k0_pay1]

theorem add_apply : k0_pay3 (F := Ideal) v0 v1 v12 (ix2 p q) = (v12 (ix2 p q) : EReal) + ∑ r, v0 (ix2 r p) * v1 (ix2 r q) := by
  pointwise [k0_pay3, k0_pay1]

theorem out_apply : k0_pay4 (F := Ideal) v12 (ix2 p q) = v12 (ix2 p q) := by
  pointwise [k0_pay4]

end

/-- The column of the cotangent that is column `p` of the tile of run `n`, and the token that is row `r` of point `n`'s blocks. -/
def colAt (n : ℕ) (p : Fin 384) : Fin 7296 := ⟨384 * (n % 19) + p.val, by omega⟩
def rowAt (n : ℕ) (r : Fin 2048) : Fin 8192 := ⟨2048 * (n % 4) + r.val, by omega⟩

variable (m : (ℓ : Loc nD τ sig) → Buf (Elt Ideal) ℓ) (c : Dev nD)

/-- The arguments. -/
abbrev grad : FVec Ideal S8192x7296 .bf16 := m ((c : Thread nD τ).loc main_arg0)
abbrev input : FVec Ideal S8192x2048 .bf16 := m ((c : Thread nD τ).loc main_arg1)

theorem block_grad (t : Fin cfg0.N) (r : Fin 2048) (p : Fin 384) :
    (iblk m c 0 t : Vec Ideal S2048x384 .bf16) (ix2 r p) = grad m c (ix2 (rowAt t.val r) (colAt (t.val / 4) p)) := by
  unfold iblk
  rw [View.read_apply]
  refine (congrFun (V_main_arg0 m c) _).trans (congrArg (grad m c) (funext fun a => Fin.ext ?_))
  have ht : t.val < 76 := lt_of_lt_of_eq t.isLt N_0
  have e0 : win0_0.index t 0 = t.val % 4 := (index_at t).1 0
  have e1 : win0_0.index t 1 = t.val / 4 := (index_at t).1 1
  match a with
  | ⟨0, _⟩ => show win0_0.index t 0 * 2048 + 1 * r.val = 2048 * (t.val % 4) + r.val; omega
  | ⟨1, _⟩ => show win0_0.index t 1 * 384 + 1 * p.val = 384 * (t.val / 4 % 19) + p.val; omega

theorem block_input (t : Fin cfg0.N) (r q : Fin 2048) :
    (iblk m c 1 t : Vec Ideal S2048x2048 .bf16) (ix2 r q) = input m c (ix2 (rowAt t.val r) q) := by
  unfold iblk
  rw [View.read_apply]
  refine (congrFun (V_main_arg1 m c) _).trans (congrArg (input m c) (funext fun a => Fin.ext ?_))
  have e0 : win0_1.index t 0 = t.val % 4 := (index_at t).2.1 0
  have e1 : win0_1.index t 1 = 0 := (index_at t).2.1 1
  match a with
  | ⟨0, _⟩ => show win0_1.index t 0 * 2048 + 1 * r.val = 2048 * (t.val % 4) + r.val; omega
  | ⟨1, _⟩ => show win0_1.index t 1 * 2048 + 1 * q.val = q.val; omega

/-- One term of the product. -/
def term (p : Fin 384) (q : Fin 2048) (n : ℕ) (j : Fin 8192) : EReal := grad m c (ix2 j (colAt n p)) * input m c (ix2 j q)

theorem part_at (t : Fin cfg0.N) (p : Fin 384) (q : Fin 2048) :
    k0_pay2 (F := Ideal) (iblk m c 0 t) (iblk m c 1 t) (ix2 p q) = ∑ r, term m c p q (t.val / 4) (rowAt t.val r) := by
  refine (part_apply _ _ p q).trans (Finset.sum_congr rfl fun r _ => ?_)
  rw [block_grad, block_input]
  rfl

theorem acc_sum (n : ℕ) (h : n < cfg0.N) (last : n % 4 = 3) (p : Fin 384) (q : Fin 2048) :
    (outsAt0 m c n h).2 (ix2 p q) = ∑ j, term m c p q (n / 4) j :=
  Cert.Product.run_sum (b := 4) (by decide) (by decide) rowAt (fun _ _ => rfl) (fun n h => (outsAt0 m c n h).2 (ix2 p q)) (term m c p q)
    (fun n h h0 => (congrFun (acc_first m c ⟨n, h⟩ h0) _).trans (part_at m c ⟨n, h⟩ p q))
    (fun n h h0 => (congrFun (acc_next m c ⟨n + 1, h⟩ h0) _).trans
      ((add_apply _ _ _ p q).trans (congrArg (_ + ·) ((part_apply _ _ p q).symm.trans (part_at m c ⟨n + 1, h⟩ p q)))))
    n h last

/-! ## The result array -/

/-- The reference's product of the kernel's arguments. -/
abbrev result : FVec Ideal S7296x2048 .bf16 := Cert.WinRefIdeal.Read.val_main_v3 (F := Ideal) (grad m c) (input m c)

theorem result_apply (n : ℕ) (p : Fin 384) (q : Fin 2048) : result m c (ix2 (colAt n p) q) = ∑ j, term m c p q n j := by
  pointwise [Cert.WinRefIdeal.Read.val_main_v3, Cert.WinRefIdeal.Read.val_main_v2, Cert.WinRefIdeal.Read.val_main_v1, Cert.WinRefIdeal.Read.val_main_v0]
  rfl

theorem flushed (t : Fin cfg0.N) (hf : (cfg0.win 2).flush t = true) :
    (dats m 0 c).flushed 2 t = ((cfg0.win 2).blk t).view.read (Elt Ideal) (result m c) := by
  rw [Value.flushed2]
  have last : t.val % 4 = 3 := (flush0_2 t).mp hf
  have ht : t.val < 76 := lt_of_lt_of_eq t.isLt N_0
  funext j
  obtain ⟨p, q, rfl⟩ : ∃ (p : Fin 384) (q : Fin 2048), j = ix2 p q := ⟨j 0, j 1, eq_ix2 j⟩
  show (outsAt0 m c t.val t.isLt).1 (ix2 p q) = _
  have e := acc_last m c t (by omega) last
  rw [show (outsAt0 m c t.val t.isLt).1 = k0_pay4 (outsAt0 m c t.val t.isLt).2 by rw [e], out_apply, acc_sum m c t.val t.isLt last, View.read_apply,
    ← result_apply]
  have e0 : win0_2.index t 0 = t.val / 4 := (index_at t).2.2 0
  have e1 : win0_2.index t 1 = 0 := (index_at t).2.2 1
  refine congrArg (result m c) (funext fun a => Fin.ext ?_)
  match a with
  | ⟨0, _⟩ => show 384 * (t.val / 4 % 19) + p.val = win0_2.index t 0 * 384 + 1 * p.val; omega
  | ⟨1, _⟩ => show q.val = win0_2.index t 1 * 2048 + 1 * q.val; omega

theorem final : (dats m 0 c).arrAt 2 cfg0.N = result m c :=
  (dats m 0 c).arrAt_eq_of_cover 2 _ (flushed m c) fun i => (Value.covered_iff2 i).mpr
    ⟨Nat.zero_le _, (i 0).isLt, Nat.zero_le _, (i 1).isLt⟩

end Cert.WinValue

end
-- ==== Proof.WinClaim.lean ====
/-
  The claims of the product for the input projection's gradient: the reference's frame, and that the two programs' results are
  equal over the extended reals, whatever the arguments hold.
-/
module

public import proofs.«01_k».proof.Defs
public import proofs.«01_k».proof.Proof.Gen.Win.Frame
public import proofs.«01_k».proof.Proof.Gen.WinRefIdeal.Run
public import proofs.«01_k».proof.Proof.WinArray
public import Idealize.ShloMosaic.Lib.Claim

@[expose] public section

set_option maxRecDepth 16384

noncomputable section

namespace Cert.WinValue

open Idealize.ShloMosaic Idealize.ShloMosaic.TcCoe Idealize.SL.Sem

theorem frame_ref : Cert.quiescent_WinRefIdeal := fun m g _ =>
  (θ_run Cert.WinRefIdeal.defs _ _).mono (fun r h => ⟨fun c => (h c).2, sem_eq_zero_of_no_sems (by decide) r.2⟩) (Cert.WinRefIdeal.Value.run m g)

theorem value : Cert.algebraic_WinIdeal_WinRefIdeal := by
  intro m g m' g' _ hag
  refine ⟨_, Cert.WinIdeal.Value.run_blocks m g, (θ_run Cert.WinRefIdeal.defs _ _).mono (fun r h c => ?_) (Cert.WinRefIdeal.Value.run m' g')⟩
  obtain ⟨hr, ha⟩ := h c
  obtain ⟨e0, e1⟩ := hag c
  refine ⟨hr.trans ?_, ha⟩
  rw [e0, e1, final m c]
  exact Cert.WinRefIdeal.Read.val_main_v3_eq _ _

end Cert.WinValue

end
-- ==== Proof.DownArray.lean ====
/-
  What the feed-forward product with the residual leaves in its result array: sixteen tiles, each summed over the two halves of the
  width, in one bank of the weight each, and the residual's tile added at the second.
-/
module

public import proofs.«01_k».proof.Proof.Gen.DownIdeal.Value
public import proofs.«01_k».proof.Proof.Gen.DownRefIdeal.Read
public import proofs.«01_k».proof.Proof.ProductRuns
public import proofs.«01_k».proof.Proof.RowNorm
public import Idealize.ShloMosaic.Lib.Pointwise

@[expose] public section

set_option maxRecDepth 16384

noncomputable section

namespace Cert.DownValue

open Idealize.ShloMosaic Idealize.ShloMosaic.TcCoe Idealize.SL.Sem
open Cert.NormValue (hz)
open Cert.DownIdeal Cert.DownIdeal.Gen

theorem zero3 : (![0, 0, 0] : Fin 3 → Nat) = fun _ => 0 := by
  funext a
  match a with | ⟨0, _⟩ => rfl | ⟨1, _⟩ => rfl | ⟨2, _⟩ => rfl

section
variable {F : FTy → Type} [FloatOps F] (m : (ℓ : Loc nD τ sig) → Buf (Elt F) ℓ) (c : Dev nD)

theorem acc_first (t : Fin cfg0.N) (h0 : t.val % 2 = 0) : (outsAt0 m c t.val t.isLt).2 = k0_pay2 (iblk m c 0 t) (iblk m c 1 t) := by
  rw [outsAt0_A m c t h0 (by omega) (by omega)]
  unfold sout0_A_0
  rw [View.read_writes_eq_canon _ _ _ (fun y => scover0_A_0 (y := y) ..)]
  unfold kernelRun0_A
  dsimp only
  sl_unfold_words
  rw [View.canon_unit_zero hz]
  simp only [View.readAt_eq_ld, (hs0_0 _).read_unread, (hs0_1 _).read_unread, View.ld_unit_zero (S := S1x1024x2816) zero3,
    View.ld_unit_zero (S := S1x2816x1024) zero3]

/-- At the second half the result's tile is what has been accumulated, with the residual added. -/
theorem acc_second (t : Fin cfg0.N) (h1 : t.val % 2 = 1) : (outsAt0 m c t.val t.isLt).1 = k0_pay4 (outsAt0 m c t.val t.isLt).2 (iblk m c 2 t)
    ∧ (outsAt0 m c t.val t.isLt).2 = k0_pay3 (iblk m c 0 t) (iblk m c 1 t) (outsAt0 m c (t.val - 1) (lt_of_le_of_lt (Nat.sub_le _ _) t.isLt)).2 := by
  rw [outsAt0_B m c t (by omega) h1 h1]
  unfold out0_B_3 sout0_B_0
  rw [View.read_writes_eq_canon _ _ _ (fun y => cover0_B_3 (y := y) ..), View.read_writes_eq_canon _ _ _ (fun y => scover0_B_0 (y := y) ..)]
  unfold kernelRun0_B
  dsimp only
  sl_unfold_words
  rw [View.canon_unit_zero hz, View.canon_unit_zero hz, View.readCov_unit_zero (S := S1024x1024) _ hz]
  simp only [View.readAt_eq_ld, (hs0_0 _).read_unread, (hs0_1 _).read_unread, (hs0_2 _).read_unread, (Memref.isWhole_whole _).read_unread,
    View.ld_unit_zero (S := S1x1024x2816) zero3, View.ld_unit_zero (S := S1x2816x1024) zero3, View.ld_unit_zero (S := S1024x1024) hz, and_self]

theorem index_at : ∀ t : Fin cfg0.N, (∀ a, win0_0.index t a = ![t.val % 2, t.val / 4, 0] a) ∧ (∀ a, win0_1.index t a = ![t.val % 2, 0, t.val / 2 % 2] a)
    ∧ (∀ a, win0_2.index t a = ![t.val / 4, t.val / 2 % 2] a) ∧ (∀ a, win0_3.index t a = ![t.val / 4, t.val / 2 % 2] a) :=
  (by decide +kernel : ∀ t : Fin grid0.N, (∀ a, win0_0.index t a = ![t.val % 2, t.val / 4, 0] a)
    ∧ (∀ a, win0_1.index t a = ![t.val % 2, 0, t.val / 2 % 2] a)
    ∧ (∀ a, win0_2.index t a = ![t.val / 4, t.val / 2 % 2] a) ∧ (∀ a, win0_3.index t a = ![t.val / 4, t.val / 2 % 2] a))

end

section
variable (v0 : Vec Ideal S1x1024x2816 .bf16) (v2 : Vec Ideal S1x2816x1024 .bf16) (v14 v15 : Vec Ideal S1024x1024 .f32) (p q : Fin 1024)

theorem part_apply : k0_pay2 (F := Ideal) v0 v2 (ix2 p q) = (∑ r, v0 (ix3 0 p r) * v2 (ix3 0 r q) : EReal) := by
  pointwise [k0_pay2, k0_pay1]

theorem add_apply : k0_pay3 (F := Ideal) v0 v2 v14 (ix2 p q) = (v14 (ix2 p q) : EReal) + ∑ r, v0 (ix3 0 p r) * v2 (ix3 0 r q) := by
  pointwise [k0_pay3, k0_pay1]

theorem out_apply : k0_pay4 (F := Ideal) v14 v15 (ix2 p q) = (v14 (ix2 p q) : EReal) + v15 (ix2 p q) := by
  pointwise [k0_pay4]

end

/-- The row and the column of the result under the tile of run `n`, the place in the width that is column `r` of point `n`'s blocks,
    and the halves of the width and the places in them. -/
def rowAt (n : ℕ) (p : Fin 1024) : Fin 8192 := ⟨1024 * (n / 2 % 8) + p.val, by omega⟩
def colAt (n : ℕ) (q : Fin 1024) : Fin 2048 := ⟨1024 * (n % 2) + q.val, by omega⟩
def unitAt (n : ℕ) (r : Fin 2816) : Fin 5632 := ⟨2816 * (n % 2) + r.val, by omega⟩
def joinAt (s : Fin 2) (k : Fin 2816) : Fin 5632 := ⟨s.val * 2816 + k.val, by omega⟩
def halfOf (j : Fin 5632) : Fin 2 := ⟨j.val / 2816, by omega⟩
def restOf (j : Fin 5632) : Fin 2816 := ⟨j.val % 2816, by omega⟩

variable (m : (ℓ : Loc nD τ sig) → Buf (Elt Ideal) ℓ) (c : Dev nD)

/-- The arguments, and the blocks at a point. -/
abbrev act : FVec Ideal S2x8192x2816 .bf16 := m ((c : Thread nD τ).loc main_arg0)
abbrev weight : FVec Ideal S5632x2048 .f32 := m ((c : Thread nD τ).loc main_arg1)
abbrev residual : FVec Ideal S8192x2048 .f32 := m ((c : Thread nD τ).loc main_arg2)
abbrev actBlock (t : Fin cfg0.N) : FVec Ideal S1x1024x2816 .bf16 := iblk m c 0 t
abbrev weightBlock (t : Fin cfg0.N) : FVec Ideal S1x2816x1024 .bf16 := iblk m c 1 t

theorem V_weight (s : Fin 2) (k : Fin 2816) (j : Fin 2048) :
    V m c main_v1 (ix3 s k j) = weight m c (ix2 (joinAt s k) j) := by
  show StableHlo.after hostOps0 _ (Proc.devRef .tc main_v1) _ = _
  after_results_simp
  pointwise []
  rfl

/-- One term of the product. -/
def term (p q : Fin 1024) (n : ℕ) (j : Fin 5632) : EReal :=
  act m c (ix3 (halfOf j) (rowAt n p) (restOf j)) * weight m c (ix2 j (colAt n q))

theorem term_at (t : Fin cfg0.N) (r : Fin 2816) (p q : Fin 1024) :
    (actBlock m c t (ix3 0 p r) * weightBlock m c t (ix3 0 r q) : EReal) = term m c p q (t.val / 2) (unitAt t.val r) := by
  have ht : t.val < 32 := lt_of_lt_of_eq t.isLt N_0
  unfold actBlock weightBlock iblk
  rw [View.read_apply, View.read_apply]
  have e0 : win0_0.index t 0 = t.val % 2 := (index_at t).1 0
  have e1 : win0_0.index t 1 = t.val / 4 := (index_at t).1 1
  have e2 : win0_0.index t 2 = 0 := (index_at t).1 2
  have f0 : win0_1.index t 0 = t.val % 2 := (index_at t).2.1 0
  have f1 : win0_1.index t 1 = 0 := (index_at t).2.1 1
  have f2 : win0_1.index t 2 = t.val / 2 % 2 := (index_at t).2.1 2
  refine congrArg₂ (fun a b : EReal => a * b) ((congrFun (V_main_arg0 m c) _).trans (congrArg (act m c) (funext fun a => Fin.ext ?_)))
    ((congrArg (V m c main_v1) (funext fun a => Fin.ext ?_)).trans
      ((V_weight m c ⟨t.val % 2, by omega⟩ r (colAt (t.val / 2) q)).trans (congrArg (fun k => weight m c (ix2 k (colAt (t.val / 2) q)))
        (Fin.ext (by show t.val % 2 * 2816 + r.val = 2816 * (t.val % 2) + r.val; omega)))))
  · match a with
    | ⟨0, _⟩ => show win0_0.index t 0 * 1 + 1 * 0 = (2816 * (t.val % 2) + r.val) / 2816; omega
    | ⟨1, _⟩ => show win0_0.index t 1 * 1024 + 1 * p.val = 1024 * (t.val / 2 / 2 % 8) + p.val; omega
    | ⟨2, _⟩ => show win0_0.index t 2 * 2816 + 1 * r.val = (2816 * (t.val % 2) + r.val) % 2816; omega
  · match a with
    | ⟨0, _⟩ => show win0_1.index t 0 * 1 + 1 * 0 = t.val % 2; omega
    | ⟨1, _⟩ => show win0_1.index t 1 * 2816 + 1 * r.val = r.val; omega
    | ⟨2, _⟩ => show win0_1.index t 2 * 1024 + 1 * q.val = 1024 * (t.val / 2 % 2) + q.val; omega

theorem acc_sum (n : ℕ) (h : n < cfg0.N) (last : n % 2 = 1) (p q : Fin 1024) : (outsAt0 m c n h).2 (ix2 p q) = ∑ j, term m c p q (n / 2) j :=
  Cert.Product.run_sum (b := 2) (by decide) (by decide) unitAt (fun _ _ => rfl) (fun n h => (outsAt0 m c n h).2 (ix2 p q)) (term m c p q)
    (fun n h h0 => (congrFun (acc_first m c ⟨n, h⟩ h0) _).trans
      ((part_apply _ _ p q).trans (Finset.sum_congr rfl fun r _ => term_at m c ⟨n, h⟩ r p q)))
    (fun n h h0 => (congrFun (acc_second m c ⟨n + 1, h⟩ (Nat.mod_two_ne_zero.mp h0)).2 _).trans
      ((add_apply _ _ _ p q).trans (congrArg (_ + ·) (Finset.sum_congr rfl fun r _ => term_at m c ⟨n + 1, h⟩ r p q)))) n h last

/-! ## The result array -/

/-- The reference's result of the kernel's arguments. -/
abbrev result : FVec Ideal S8192x2048 .f32 := Cert.DownRefIdeal.Read.val_main_v7 (F := Ideal) (act m c) (weight m c) (residual m c)

theorem joined_apply (i : Fin 8192) (j : Fin 5632) : Cert.DownRefIdeal.Read.val_main_v4 (F := Ideal) (act m c) (ix2 i j) = act m c (ix3 (halfOf j) i (restOf j)) := by
  pointwise [Cert.DownRefIdeal.Read.val_main_v4, Cert.DownRefIdeal.Read.val_main_v3, Cert.DownRefIdeal.Read.val_main_v2, Cert.DownRefIdeal.Read.val_main_v1,
    Cert.DownRefIdeal.Read.val_main_v0]
  split
  · refine congrArg (act m c) (funext fun a => Fin.ext ?_)
    match a with
    | ⟨0, _⟩ => show 0 = j.val / 2816; omega
    | ⟨1, _⟩ => rfl
    | ⟨2, _⟩ => show j.val = j.val % 2816; omega
  · refine congrArg (act m c) (funext fun a => Fin.ext ?_)
    match a with
    | ⟨0, _⟩ => show 1 = j.val / 2816; omega
    | ⟨1, _⟩ => rfl
    | ⟨2, _⟩ => show j.val - 2816 = j.val % 2816; omega

theorem result_apply (n : ℕ) (p q : Fin 1024) :
    result m c (ix2 (rowAt n p) (colAt n q)) = (∑ j, term m c p q n j) + residual m c (ix2 (rowAt n p) (colAt n q)) := by
  have e : Cert.DownRefIdeal.Read.val_main_v6 (F := Ideal) (act m c) (weight m c) (ix2 (rowAt n p) (colAt n q)) = ∑ j, term m c p q n j := by
    refine Eq.trans (b := (∑ j, Cert.DownRefIdeal.Read.val_main_v4 (F := Ideal) (act m c) (ix2 (rowAt n p) j) * weight m c (ix2 j (colAt n q)) : EReal)) ?_
      (Finset.sum_congr rfl fun j _ => by rw [joined_apply]; rfl)
    generalize hj : Cert.DownRefIdeal.Read.val_main_v4 (F := Ideal) (act m c) = y
    pointwise [Cert.DownRefIdeal.Read.val_main_v6, Cert.DownRefIdeal.Read.val_main_v5]
    rw [hj]
  rw [← e]
  exact (add_comm (residual m c (ix2 (rowAt n p) (colAt n q)) : EReal) _)

theorem flushed (t : Fin cfg0.N) (hf : (cfg0.win 3).flush t = true) :
    (dats m 0 c).flushed 3 t = ((cfg0.win 3).blk t).view.read (Elt Ideal) (result m c) := by
  rw [Value.flushed3]
  have last : t.val % 2 = 1 := (flush0_3 t).mp hf
  have ht : t.val < 32 := lt_of_lt_of_eq t.isLt N_0
  have e0 : win0_3.index t 0 = t.val / 4 := (index_at t).2.2.2 0
  have e1 : win0_3.index t 1 = t.val / 2 % 2 := (index_at t).2.2.2 1
  have f0 : win0_2.index t 0 = t.val / 4 := (index_at t).2.2.1 0
  have f1 : win0_2.index t 1 = t.val / 2 % 2 := (index_at t).2.2.1 1
  funext j
  obtain ⟨p, q, rfl⟩ : ∃ p q : Fin 1024, j = ix2 p q := ⟨j 0, j 1, eq_ix2 j⟩
  show (outsAt0 m c t.val t.isLt).1 (ix2 p q) = _
  rw [(acc_second m c t last).1, out_apply, acc_sum m c t.val t.isLt last, View.read_apply]
  have place : ((cfg0.win 3).blk t).view.emb (ix2 p q) = ix2 (rowAt (t.val / 2) p) (colAt (t.val / 2) q) := by
    refine funext fun a => Fin.ext ?_
    match a with
    | ⟨0, _⟩ => show win0_3.index t 0 * 1024 + 1 * p.val = 1024 * (t.val / 2 / 2 % 8) + p.val; omega
    | ⟨1, _⟩ => show win0_3.index t 1 * 1024 + 1 * q.val = 1024 * (t.val / 2 % 2) + q.val; omega
  refine Eq.trans (congrArg (_ + ·) ?_) ((result_apply m c (t.val / 2) p q).symm.trans (congrArg (result m c) place.symm))
  unfold iblk
  rw [View.read_apply]
  refine (congrFun (V_main_arg2 m c) _).trans (congrArg (residual m c) (funext fun a => Fin.ext ?_))
  match a with
  | ⟨0, _⟩ => show win0_2.index t 0 * 1024 + 1 * p.val = 1024 * (t.val / 2 / 2 % 8) + p.val; omega
  | ⟨1, _⟩ => show win0_2.index t 1 * 1024 + 1 * q.val = 1024 * (t.val / 2 % 2) + q.val; omega

theorem final : (dats m 0 c).arrAt 3 cfg0.N = result m c :=
  (dats m 0 c).arrAt_eq_of_cover 3 _ (flushed m c) fun i => (Value.covered_iff3 i).mpr ⟨Nat.zero_le _, (i 0).isLt, Nat.zero_le _, (i 1).isLt⟩

end Cert.DownValue

end
-- ==== Proof.DownClaim.lean ====
/-
  The claims of the feed-forward product with the residual: the reference's frame, and equal results over the extended reals,
  whatever the arguments hold.
-/
module

public import proofs.«01_k».proof.Defs
public import proofs.«01_k».proof.Proof.Gen.Down.Frame
public import proofs.«01_k».proof.Proof.Gen.DownRefIdeal.Run
public import proofs.«01_k».proof.Proof.DownArray
public import Idealize.ShloMosaic.Lib.Claim

@[expose] public section

set_option maxRecDepth 16384

noncomputable section

namespace Cert.DownValue

open Idealize.ShloMosaic Idealize.ShloMosaic.TcCoe Idealize.SL.Sem

theorem frame_ref : Cert.quiescent_DownRefIdeal := fun m g _ =>
  (θ_run Cert.DownRefIdeal.defs _ _).mono (fun r h => ⟨fun c => (h c).2, sem_eq_zero_of_no_sems (by decide) r.2⟩) (Cert.DownRefIdeal.Value.run m g)

theorem value : Cert.algebraic_DownIdeal_DownRefIdeal := by
  intro m g m' g' _ hag
  refine ⟨_, Cert.DownIdeal.Value.run_blocks m g, (θ_run Cert.DownRefIdeal.defs _ _).mono (fun r h c => ?_) (Cert.DownRefIdeal.Value.run m' g')⟩
  obtain ⟨hr, ha⟩ := h c
  obtain ⟨e0, e1, e2⟩ := hag c
  refine ⟨hr.trans ?_, ha⟩
  rw [e0, e1, e2, final m c]
  exact Cert.DownRefIdeal.Read.val_main_v7_eq _ _ _

end Cert.DownValue

end
-- ==== Proof.WideArray.lean ====
/-
  What the product for a feed-forward weight's gradient leaves in its result array: eight tiles, two by two of each of two
  halves, each summed over four tiles of 2048 tokens.
-/
module

public import proofs.«01_k».proof.Proof.Gen.WideIdeal.Value
public import proofs.«01_k».proof.Proof.Gen.WideRefIdeal.Read
public import proofs.«01_k».proof.Proof.ProductRuns
public import proofs.«01_k».proof.Proof.RowNorm
public import Idealize.ShloMosaic.Lib.Pointwise

@[expose] public section

set_option maxRecDepth 16384

noncomputable section

namespace Cert.WideValue

open Idealize.ShloMosaic Idealize.ShloMosaic.TcCoe Idealize.SL.Sem
open Cert.NormValue (hz)
open Cert.WideIdeal Cert.WideIdeal.Gen

theorem zero3 : (![0, 0, 0] : Fin 3 → Nat) = fun _ => 0 := by
  funext a
  match a with | ⟨0, _⟩ => rfl | ⟨1, _⟩ => rfl | ⟨2, _⟩ => rfl

section
variable {F : FTy → Type} [FloatOps F] (m : (ℓ : Loc nD τ sig) → Buf (Elt F) ℓ) (c : Dev nD)

theorem acc_first (t : Fin cfg0.N) (h0 : t.val % 4 = 0) : (outsAt0 m c t.val t.isLt).2 = k0_pay2 (iblk m c 0 t) (iblk m c 1 t) := by
  rw [outsAt0_A m c t h0 (by omega) (by omega)]
  unfold sout0_A_0
  rw [View.read_writes_eq_canon _ _ _ (fun y => scover0_A_0 (y := y) ..)]
  unfold kernelRun0_A
  dsimp only
  sl_unfold_words
  rw [View.canon_unit_zero hz]
  simp only [View.readAt_eq_ld, (hs0_0 _).read_unread, (hs0_1 _).read_unread, View.ld_unit_zero (S := S1x2048x1408) zero3, View.ld_unit_zero (S := S2048x1024) hz]

/-- Between a run's first point and its last. -/
theorem acc_mid (t : Fin cfg0.N) (h0 : ¬t.val % 4 = 0) (h2 : ¬t.val % 4 = 3) : (outsAt0 m c t.val t.isLt).2
    = k0_pay3 (iblk m c 0 t) (iblk m c 1 t) (outsAt0 m c (t.val - 1) (lt_of_le_of_lt (Nat.sub_le _ _) t.isLt)).2 := by
  rw [outsAt0_B m c t h0 (Nat.pos_of_ne_zero h0) h2]
  unfold sout0_B_0
  rw [View.read_writes_eq_canon _ _ _ (fun y => scover0_B_0 (y := y) ..)]
  unfold kernelRun0_B
  dsimp only
  sl_unfold_words
  rw [View.canon_unit_zero hz]
  simp only [View.readAt_eq_ld, (hs0_0 _).read_unread, (hs0_1 _).read_unread, (Memref.isWhole_whole _).read_unread, View.ld_unit_zero (S := S1x2048x1408) zero3,
    View.ld_unit_zero (S := S2048x1024) hz, View.ld_unit_zero (S := S1408x1024) hz]

/-- At a run's last point the result's tile is what has been accumulated. -/
theorem acc_last (t : Fin cfg0.N) (h0 : ¬t.val % 4 = 0) (h2 : t.val % 4 = 3) : (outsAt0 m c t.val t.isLt).1 = k0_pay4 (outsAt0 m c t.val t.isLt).2
    ∧ (outsAt0 m c t.val t.isLt).2 = k0_pay3 (iblk m c 0 t) (iblk m c 1 t) (outsAt0 m c (t.val - 1) (lt_of_le_of_lt (Nat.sub_le _ _) t.isLt)).2 := by
  rw [outsAt0_C m c t h0 (Nat.pos_of_ne_zero h0) h2]
  unfold out0_C_2 sout0_C_0
  rw [View.read_writes_eq_canon _ _ _ (fun y => cover0_C_2 (y := y) ..), View.read_writes_eq_canon _ _ _ (fun y => scover0_C_0 (y := y) ..)]
  unfold kernelRun0_C
  dsimp only
  sl_unfold_words
  rw [View.canon_unit_zero zero3, View.canon_unit_zero hz, View.readCov_unit_zero (S := S1408x1024) _ hz]
  simp only [View.readAt_eq_ld, (hs0_0 _).read_unread, (hs0_1 _).read_unread, (Memref.isWhole_whole _).read_unread, View.ld_unit_zero (S := S1x2048x1408) zero3,
    View.ld_unit_zero (S := S2048x1024) hz, View.ld_unit_zero (S := S1408x1024) hz, and_self]

theorem index_at : ∀ t : Fin cfg0.N, (∀ a, win0_0.index t a = ![t.val / 16, t.val % 4, t.val / 8 % 2] a) ∧ (∀ a, win0_1.index t a = ![t.val % 4, t.val / 4 % 2] a)
    ∧ (∀ a, win0_2.index t a = ![t.val / 16, t.val / 8 % 2, t.val / 4 % 2] a) :=
  (by decide +kernel : ∀ t : Fin grid0.N, (∀ a, win0_0.index t a = ![t.val / 16, t.val % 4, t.val / 8 % 2] a) ∧ (∀ a, win0_1.index t a = ![t.val % 4, t.val / 4 % 2] a)
    ∧ (∀ a, win0_2.index t a = ![t.val / 16, t.val / 8 % 2, t.val / 4 % 2] a))

end

/-! ## One grid point -/

section
variable (v0 : Vec Ideal S1x2048x1408 .bf16) (v2 : Vec Ideal S2048x1024 .bf16) (v13 : Vec Ideal S1408x1024 .f32) (p : Fin 1408) (q : Fin 1024)

theorem part_apply : k0_pay2 (F := Ideal) v0 v2 (ix2 p q) = (∑ r, v0 (ix3 0 r p) * v2 (ix2 r q) : EReal) := by
  pointwise [k0_pay2, k0_pay1]

theorem add_apply : k0_pay3 (F := Ideal) v0 v2 v13 (ix2 p q) = (v13 (ix2 p q) : EReal) + ∑ r, v0 (ix3 0 r p) * v2 (ix2 r q) := by
  pointwise [k0_pay3, k0_pay1]

theorem out_apply : k0_pay4 (F := Ideal) v13 (ix3 0 p q) = v13 (ix2 p q) := by
  pointwise [k0_pay4]

end

/-- The half, the row and the column of the result under the tile of run `n`, and the token that is row `r` of point `n`'s blocks. -/
def halfAt (n : ℕ) : Fin 2 := ⟨n / 4 % 2, by omega⟩
def unitAt (n : ℕ) (p : Fin 1408) : Fin 2816 := ⟨1408 * (n / 2 % 2) + p.val, by omega⟩
def colAt (n : ℕ) (q : Fin 1024) : Fin 2048 := ⟨1024 * (n % 2) + q.val, by omega⟩
def rowAt (n : ℕ) (r : Fin 2048) : Fin 8192 := ⟨2048 * (n % 4) + r.val, by omega⟩

variable (m : (ℓ : Loc nD τ sig) → Buf (Elt Ideal) ℓ) (c : Dev nD)

/-- The arguments. -/
abbrev act : FVec Ideal S2x8192x2816 .bf16 := m ((c : Thread nD τ).loc main_arg0)
abbrev grad : FVec Ideal S8192x2048 .bf16 := m ((c : Thread nD τ).loc main_arg1)

/-- The blocks at a point. -/
abbrev actBlock (t : Fin cfg0.N) : FVec Ideal S1x2048x1408 .bf16 := iblk m c 0 t
abbrev gradBlock (t : Fin cfg0.N) : FVec Ideal S2048x1024 .bf16 := iblk m c 1 t

/-- One term of the product. -/
def term (p : Fin 1408) (q : Fin 1024) (n : ℕ) (j : Fin 8192) : EReal := act m c (ix3 (halfAt n) j (unitAt n p)) * grad m c (ix2 j (colAt n q))

theorem term_at (t : Fin cfg0.N) (r : Fin 2048) (p : Fin 1408) (q : Fin 1024) :
    (actBlock m c t (ix3 0 r p) * gradBlock m c t (ix2 r q) : EReal)
      = term m c p q (t.val / 4) (rowAt t.val r) := by
  have ht : t.val < 32 := lt_of_lt_of_eq t.isLt N_0
  unfold actBlock gradBlock iblk
  rw [View.read_apply, View.read_apply]
  have e0 : win0_0.index t 0 = t.val / 16 := (index_at t).1 0
  have e1 : win0_0.index t 1 = t.val % 4 := (index_at t).1 1
  have e2 : win0_0.index t 2 = t.val / 8 % 2 := (index_at t).1 2
  have f0 : win0_1.index t 0 = t.val % 4 := (index_at t).2.1 0
  have f1 : win0_1.index t 1 = t.val / 4 % 2 := (index_at t).2.1 1
  refine congrArg₂ (fun a b : EReal => a * b) ((congrFun (V_main_arg0 m c) _).trans (congrArg (act m c) (funext fun a => Fin.ext ?_)))
    ((congrFun (V_main_arg1 m c) _).trans (congrArg (grad m c) (funext fun a => Fin.ext ?_)))
  · match a with
    | ⟨0, _⟩ => show win0_0.index t 0 * 1 + 1 * 0 = t.val / 4 / 4 % 2; omega
    | ⟨1, _⟩ => show win0_0.index t 1 * 2048 + 1 * r.val = 2048 * (t.val % 4) + r.val; omega
    | ⟨2, _⟩ => show win0_0.index t 2 * 1408 + 1 * p.val = 1408 * (t.val / 4 / 2 % 2) + p.val; omega
  · match a with
    | ⟨0, _⟩ => show win0_1.index t 0 * 2048 + 1 * r.val = 2048 * (t.val % 4) + r.val; omega
    | ⟨1, _⟩ => show win0_1.index t 1 * 1024 + 1 * q.val = 1024 * (t.val / 4 % 2) + q.val; omega

theorem acc_sum (n : ℕ) (h : n < cfg0.N) (last : n % 4 = 3) (p : Fin 1408) (q : Fin 1024) :
    (outsAt0 m c n h).2 (ix2 p q) = ∑ j, term m c p q (n / 4) j := by
  refine Cert.Product.run_sum (b := 4) (by decide) (by decide) rowAt (fun _ _ => rfl) (fun n h => (outsAt0 m c n h).2 (ix2 p q)) (term m c p q)
    (fun n h h0 => ?_) (fun n h h0 => ?_) n h last
  · refine (congrFun (acc_first m c ⟨n, h⟩ h0) _).trans ((part_apply _ _ p q).trans (Finset.sum_congr rfl fun r _ => term_at m c ⟨n, h⟩ r p q))
  · have e : (outsAt0 m c (n + 1) h).2 = k0_pay3 (iblk m c 0 ⟨n + 1, h⟩) (iblk m c 1 ⟨n + 1, h⟩) (outsAt0 m c n (Nat.lt_of_succ_lt h)).2 := by
      by_cases h2 : (n + 1) % 4 = 3
      · exact (acc_last m c ⟨n + 1, h⟩ h0 h2).2
      · exact acc_mid m c ⟨n + 1, h⟩ h0 h2
    exact (congrFun e _).trans ((add_apply _ _ _ p q).trans (congrArg (_ + ·) (Finset.sum_congr rfl fun r _ => term_at m c ⟨n + 1, h⟩ r p q)))

/-! ## The result array -/

/-- The reference's product of the kernel's arguments. -/
abbrev result : FVec Ideal S2x2816x2048 .bf16 := Cert.WideRefIdeal.Read.val_main_v3 (F := Ideal) (act m c) (grad m c)

theorem result_apply (n : ℕ) (p : Fin 1408) (q : Fin 1024) : result m c (ix3 (halfAt n) (unitAt n p) (colAt n q)) = ∑ j, term m c p q n j := by
  pointwise [Cert.WideRefIdeal.Read.val_main_v3, Cert.WideRefIdeal.Read.val_main_v2, Cert.WideRefIdeal.Read.val_main_v1, Cert.WideRefIdeal.Read.val_main_v0]
  rfl

theorem flushed (t : Fin cfg0.N) (hf : (cfg0.win 2).flush t = true) :
    (dats m 0 c).flushed 2 t = ((cfg0.win 2).blk t).view.read (Elt Ideal) (result m c) := by
  rw [Value.flushed2]
  have last : t.val % 4 = 3 := (flush0_2 t).mp hf
  have ht : t.val < 32 := lt_of_lt_of_eq t.isLt N_0
  funext j
  obtain ⟨z, p, q, rfl⟩ : ∃ (z : Fin 1) (p : Fin 1408) (q : Fin 1024), j = ix3 z p q := ⟨j 0, j 1, j 2, eq_ix3 j⟩
  obtain rfl : z = 0 := Subsingleton.elim _ _
  show (outsAt0 m c t.val t.isLt).1 (ix3 0 p q) = _
  rw [(acc_last m c t (by omega) last).1, out_apply, acc_sum m c t.val t.isLt last, View.read_apply, ← result_apply]
  have e0 : win0_2.index t 0 = t.val / 16 := (index_at t).2.2 0
  have e1 : win0_2.index t 1 = t.val / 8 % 2 := (index_at t).2.2 1
  have e2 : win0_2.index t 2 = t.val / 4 % 2 := (index_at t).2.2 2
  refine congrArg (result m c) (funext fun a => Fin.ext ?_)
  match a with
  | ⟨0, _⟩ => show t.val / 4 / 4 % 2 = win0_2.index t 0 * 1 + 1 * 0; omega
  | ⟨1, _⟩ => show 1408 * (t.val / 4 / 2 % 2) + p.val = win0_2.index t 1 * 1408 + 1 * p.val; omega
  | ⟨2, _⟩ => show 1024 * (t.val / 4 % 2) + q.val = win0_2.index t 2 * 1024 + 1 * q.val; omega

theorem final : (dats m 0 c).arrAt 2 cfg0.N = result m c :=
  (dats m 0 c).arrAt_eq_of_cover 2 _ (flushed m c) fun i => (Value.covered_iff2 i).mpr
    ⟨Nat.zero_le _, (i 0).isLt, Nat.zero_le _, (i 1).isLt, Nat.zero_le _, (i 2).isLt⟩

end Cert.WideValue

end
-- ==== Proof.WideClaim.lean ====
/-
  The claims of the product for a feed-forward weight's gradient: the reference's frame, and equal results over the extended
  reals, whatever the arguments hold.
-/
module

public import proofs.«01_k».proof.Defs
public import proofs.«01_k».proof.Proof.Gen.Wide.Frame
public import proofs.«01_k».proof.Proof.Gen.WideRefIdeal.Run
public import proofs.«01_k».proof.Proof.WideArray
public import Idealize.ShloMosaic.Lib.Claim

@[expose] public section

set_option maxRecDepth 16384

noncomputable section

namespace Cert.WideValue

open Idealize.ShloMosaic Idealize.ShloMosaic.TcCoe Idealize.SL.Sem

theorem frame_ref : Cert.quiescent_WideRefIdeal := fun m g _ =>
  (θ_run Cert.WideRefIdeal.defs _ _).mono (fun r h => ⟨fun c => (h c).2, sem_eq_zero_of_no_sems (by decide) r.2⟩) (Cert.WideRefIdeal.Value.run m g)

theorem value : Cert.algebraic_WideIdeal_WideRefIdeal := by
  intro m g m' g' _ hag
  refine ⟨_, Cert.WideIdeal.Value.run_blocks m g, (θ_run Cert.WideRefIdeal.defs _ _).mono (fun r h c => ?_) (Cert.WideRefIdeal.Value.run m' g')⟩
  obtain ⟨hr, ha⟩ := h c
  obtain ⟨e0, e1⟩ := hag c
  refine ⟨hr.trans ?_, ha⟩
  rw [e0, e1, final m c]
  exact Cert.WideRefIdeal.Read.val_main_v3_eq _ _

end Cert.WideValue

end
-- ==== Proof.GroupArray.lean ====
/-
  What the groups' product leaves in its result array, the gradient of the pool's weights: for each of four groups the sum over
  eight tiles of 1024 tokens, accumulated in the result's block itself.
-/
module

public import proofs.«01_k».proof.Proof.Gen.GroupIdeal.Value
public import proofs.«01_k».proof.Proof.Gen.GroupRefIdeal.Read
public import proofs.«01_k».proof.Proof.ProductRuns
public import proofs.«01_k».proof.Proof.RowNorm
public import Idealize.ShloMosaic.Lib.Pointwise

@[expose] public section

set_option maxRecDepth 16384

noncomputable section

namespace Cert.GroupValue

open Idealize.ShloMosaic Idealize.ShloMosaic.TcCoe Idealize.SL.Sem
open Cert.NormValue (hz)
open Cert.GroupIdeal Cert.GroupIdeal.Gen

theorem zero3 : (![0, 0, 0] : Fin 3 → Nat) = fun _ => 0 := by
  funext a
  match a with | ⟨0, _⟩ => rfl | ⟨1, _⟩ => rfl | ⟨2, _⟩ => rfl

section
variable {F : FTy → Type} [FloatOps F] (m : (ℓ : Loc nD τ sig) → Buf (Elt F) ℓ) (c : Dev nD)

theorem outs_first (t : Fin cfg0.N) (h0 : t.val % 8 = 0) : outsAt0 m c t.val t.isLt = k0_pay2 (iblk m c 0 t) (iblk m c 1 t) := by
  rw [outsAt0_A m c t h0 (by omega)]
  unfold out0_A_2
  rw [View.read_writes_eq_canon _ _ _ (fun y => cover0_A_2 (y := y) ..)]
  unfold kernelRun0_A
  dsimp only
  sl_unfold_words
  rw [View.canon_unit_zero zero3]
  simp only [View.readAt_eq_ld, (hs0_0 _).read_unread, (hs0_1 _).read_unread, View.ld_unit_zero (S := S1024x512) hz]

theorem outs_next (t : Fin cfg0.N) (h0 : ¬t.val % 8 = 0) :
    outsAt0 m c t.val t.isLt = k0_pay3 (iblk m c 0 t) (iblk m c 1 t) (outsAt0 m c (t.val - 1) (lt_of_le_of_lt (Nat.sub_le _ _) t.isLt)) := by
  rw [outsAt0_B m c t h0 (Nat.pos_of_ne_zero h0)]
  unfold out0_B_2
  rw [View.read_writes_eq_canon _ _ _ (fun y => cover0_B_2 (y := y) ..)]
  unfold kernelRun0_B
  dsimp only
  sl_unfold_words
  rw [View.canon_unit_zero zero3]
  simp only [View.readAt_eq_ld, (hs0_0 _).read_unread, (hs0_1 _).read_unread, (hs0_2 _).read_unread, View.ld_unit_zero (S := S1024x512) hz,
    View.ld_unit_zero (S := S1x512x512) zero3]

theorem index_at : ∀ t : Fin cfg0.N, (∀ a, win0_0.index t a = ![t.val % 8, t.val / 8] a) ∧ (∀ a, win0_1.index t a = ![t.val % 8, t.val / 8] a)
    ∧ (∀ a, win0_2.index t a = ![t.val / 8, 0, 0] a) :=
  (by decide +kernel : ∀ t : Fin grid0.N, (∀ a, win0_0.index t a = ![t.val % 8, t.val / 8] a) ∧ (∀ a, win0_1.index t a = ![t.val % 8, t.val / 8] a)
    ∧ (∀ a, win0_2.index t a = ![t.val / 8, 0, 0] a))

end

section
variable (v0 v1 : Vec Ideal S1024x512 .bf16) (v9 : Vec Ideal S1x512x512 .f32) (p q : Fin 512)

theorem part_apply : k0_pay2 (F := Ideal) v0 v1 (ix3 0 p q) = (∑ r, v0 (ix2 r p) * v1 (ix2 r q) : EReal) := by
  pointwise [k0_pay2, k0_pay1]

theorem add_apply : k0_pay3 (F := Ideal) v0 v1 v9 (ix3 0 p q) = (v9 (ix3 0 p q) : EReal) + ∑ r, v0 (ix2 r p) * v1 (ix2 r q) := by
  pointwise [k0_pay3, k0_pay1]

end

/-- The group of run `n`, its column `p`, and the token that is row `r` of point `n`'s blocks. -/
def groupAt (n : ℕ) : Fin 4 := ⟨n % 4, by omega⟩
def colAt (n : ℕ) (p : Fin 512) : Fin 2048 := ⟨n % 4 * 512 + p.val, by omega⟩
def rowAt (n : ℕ) (r : Fin 1024) : Fin 8192 := ⟨1024 * (n % 8) + r.val, by omega⟩

variable (m : (ℓ : Loc nD τ sig) → Buf (Elt Ideal) ℓ) (c : Dev nD)

/-- The arguments. -/
abbrev pooled : FVec Ideal S8192x2048 .bf16 := m ((c : Thread nD τ).loc main_arg0)
abbrev draw : FVec Ideal S8192x2048 .bf16 := m ((c : Thread nD τ).loc main_arg1)

theorem under (t : Fin cfg0.N) (i : Fin 2 → Nat) (e : ∀ a, i a = ![t.val % 8, t.val / 8] a) (r : Fin 1024) (p : Fin 512) (y : S8192x2048.Idx)
    (h0 : (y 0 : Nat) = i 0 * 1024 + 1 * r.val) (h1 : (y 1 : Nat) = i 1 * 512 + 1 * p.val) : y = ix2 (rowAt t.val r) (colAt (t.val / 8) p) := by
  have ht : t.val < 32 := lt_of_lt_of_eq t.isLt N_0
  have e0 : i 0 = t.val % 8 := e 0
  have e1 : i 1 = t.val / 8 := e 1
  funext a
  apply Fin.ext
  match a with
  | ⟨0, _⟩ => show (y 0 : Nat) = 1024 * (t.val % 8) + r.val; omega
  | ⟨1, _⟩ => show (y 1 : Nat) = t.val / 8 % 4 * 512 + p.val; omega

/-- The blocks at a point. -/
abbrev pooledBlock (t : Fin cfg0.N) : FVec Ideal S1024x512 .bf16 := iblk m c 0 t
abbrev drawBlock (t : Fin cfg0.N) : FVec Ideal S1024x512 .bf16 := iblk m c 1 t

/-- One term of the product. -/
def term (p q : Fin 512) (n : ℕ) (j : Fin 8192) : EReal := pooled m c (ix2 j (colAt n p)) * draw m c (ix2 j (colAt n q))

theorem term_at (t : Fin cfg0.N) (r : Fin 1024) (p q : Fin 512) :
    (pooledBlock m c t (ix2 r p) * drawBlock m c t (ix2 r q) : EReal)
      = term m c p q (t.val / 8) (rowAt t.val r) := by
  unfold pooledBlock drawBlock iblk
  rw [View.read_apply, View.read_apply]
  exact congrArg₂ (fun a b : EReal => a * b)
    ((congrFun (V_main_arg0 m c) _).trans (congrArg (pooled m c) (under t (win0_0.index t) (index_at t).1 r p _ rfl rfl)))
    ((congrFun (V_main_arg1 m c) _).trans (congrArg (draw m c) (under t (win0_1.index t) (index_at t).2.1 r q _ rfl rfl)))

theorem outs_sum (n : ℕ) (h : n < cfg0.N) (last : n % 8 = 7) (p q : Fin 512) : outsAt0 m c n h (ix3 0 p q) = ∑ j, term m c p q (n / 8) j :=
  Cert.Product.run_sum (b := 8) (by decide) (by decide) rowAt (fun _ _ => rfl) (fun n h => outsAt0 m c n h (ix3 0 p q)) (term m c p q)
    (fun n h h0 => (congrFun (outs_first m c ⟨n, h⟩ h0) _).trans
      ((part_apply _ _ p q).trans (Finset.sum_congr rfl fun r _ => term_at m c ⟨n, h⟩ r p q)))
    (fun n h h0 => (congrFun (outs_next m c ⟨n + 1, h⟩ h0) _).trans
      ((add_apply _ _ _ p q).trans (congrArg (_ + ·) (Finset.sum_congr rfl fun r _ => term_at m c ⟨n + 1, h⟩ r p q)))) n h last

/-! ## The result array -/

/-- The reference's products of the kernel's arguments. -/
abbrev result : FVec Ideal S4x512x512 .f32 := Cert.GroupRefIdeal.Read.val_main_v4 (F := Ideal) (pooled m c) (draw m c)

theorem result_apply (n : ℕ) (p q : Fin 512) : result m c (ix3 (groupAt n) p q) = ∑ j, term m c p q n j := by
  pointwise [Cert.GroupRefIdeal.Read.val_main_v4, Cert.GroupRefIdeal.Read.val_main_v3, Cert.GroupRefIdeal.Read.val_main_v2, Cert.GroupRefIdeal.Read.val_main_v1,
    Cert.GroupRefIdeal.Read.val_main_v0]
  rfl

theorem flushed (t : Fin cfg0.N) (hf : (cfg0.win 2).flush t = true) :
    (dats m 0 c).flushed 2 t = ((cfg0.win 2).blk t).view.read (Elt Ideal) (result m c) := by
  rw [Value.flushed2]
  have last : t.val % 8 = 7 := (flush0_2 t).mp hf
  have ht : t.val < 32 := lt_of_lt_of_eq t.isLt N_0
  funext j
  obtain ⟨z, p, q, rfl⟩ : ∃ (z : Fin 1) (p q : Fin 512), j = ix3 z p q := ⟨j 0, j 1, j 2, eq_ix3 j⟩
  obtain rfl : z = 0 := Subsingleton.elim _ _
  show outsAt0 m c t.val t.isLt (ix3 0 p q) = _
  rw [outs_sum m c t.val t.isLt last, View.read_apply, ← result_apply]
  have e0 : win0_2.index t 0 = t.val / 8 := (index_at t).2.2 0
  have e1 : win0_2.index t 1 = 0 := (index_at t).2.2 1
  have e2 : win0_2.index t 2 = 0 := (index_at t).2.2 2
  refine congrArg (result m c) (funext fun a => Fin.ext ?_)
  match a with
  | ⟨0, _⟩ => show t.val / 8 % 4 = win0_2.index t 0 * 1 + 1 * 0; omega
  | ⟨1, _⟩ => show p.val = win0_2.index t 1 * 512 + 1 * p.val; omega
  | ⟨2, _⟩ => show q.val = win0_2.index t 2 * 512 + 1 * q.val; omega

theorem final : (dats m 0 c).arrAt 2 cfg0.N = result m c :=
  (dats m 0 c).arrAt_eq_of_cover 2 _ (flushed m c) fun i => by
    have h0 : (i 0 : Nat) < 4 := (i 0).isLt
    have h1 : (i 1 : Nat) < 512 := (i 1).isLt
    have h2 : (i 2 : Nat) < 512 := (i 2).isLt
    have hN : (i 0 : Nat) * 8 + 7 < cfg0.N := lt_of_lt_of_eq (by omega : (i 0 : Nat) * 8 + 7 < 32) N_0.symm
    refine ⟨⟨(i 0 : Nat) * 8 + 7, hN⟩, (flush0_2 _).mpr (by show ((i 0 : Nat) * 8 + 7) % 8 = 7; omega), ?_⟩
    show i ∈ ((View.whole main_v0).slice (win0_2.rect ⟨(i 0 : Nat) * 8 + 7, hN⟩)).set
    have e0 : win0_2.index ⟨(i 0 : Nat) * 8 + 7, hN⟩ 0 = ((i 0 : Nat) * 8 + 7) / 8 := (index_at _).2.2 0
    have e1 : win0_2.index ⟨(i 0 : Nat) * 8 + 7, hN⟩ 1 = 0 := (index_at _).2.2 1
    have e2 : win0_2.index ⟨(i 0 : Nat) * 8 + 7, hN⟩ 2 = 0 := (index_at _).2.2 2
    rw [View.set_slice_whole, Rect.mem_set_unit]
    intro a
    match a with
    | ⟨0, _⟩ => show win0_2.index _ 0 * 1 ≤ (i 0 : Nat) ∧ (i 0 : Nat) < win0_2.index _ 0 * 1 + 1; omega
    | ⟨1, _⟩ => show win0_2.index _ 1 * 512 ≤ (i 1 : Nat) ∧ (i 1 : Nat) < win0_2.index _ 1 * 512 + 512; omega
    | ⟨2, _⟩ => show win0_2.index _ 2 * 512 ≤ (i 2 : Nat) ∧ (i 2 : Nat) < win0_2.index _ 2 * 512 + 512; omega

end Cert.GroupValue

end
-- ==== Proof.GroupClaim.lean ====
/-
  The claims of the groups' products for the gradient of the pool's weights: the reference's frame, and equal results over the
  extended reals, whatever the arguments hold.
-/
module

public import proofs.«01_k».proof.Defs
public import proofs.«01_k».proof.Proof.Gen.Group.Frame
public import proofs.«01_k».proof.Proof.Gen.GroupRefIdeal.Run
public import proofs.«01_k».proof.Proof.GroupArray
public import Idealize.ShloMosaic.Lib.Claim

@[expose] public section

set_option maxRecDepth 16384

noncomputable section

namespace Cert.GroupValue

open Idealize.ShloMosaic Idealize.ShloMosaic.TcCoe Idealize.SL.Sem

theorem frame_ref : Cert.quiescent_GroupRefIdeal := fun m g _ =>
  (θ_run Cert.GroupRefIdeal.defs _ _).mono (fun r h => ⟨fun c => (h c).2, sem_eq_zero_of_no_sems (by decide) r.2⟩) (Cert.GroupRefIdeal.Value.run m g)

theorem value : Cert.algebraic_GroupIdeal_GroupRefIdeal := by
  intro m g m' g' _ hag
  refine ⟨_, Cert.GroupIdeal.Value.run_blocks m g, (θ_run Cert.GroupRefIdeal.defs _ _).mono (fun r h c => ?_) (Cert.GroupRefIdeal.Value.run m' g')⟩
  obtain ⟨hr, ha⟩ := h c
  obtain ⟨e0, e1⟩ := hag c
  refine ⟨hr.trans ?_, ha⟩
  rw [e0, e1, final m c]
  exact Cert.GroupRefIdeal.Read.val_main_v4_eq _ _

end Cert.GroupValue

end
-- ==== Proof.AdamArray.lean ====
/-
  What the optimiser's kernel leaves in its four result arrays: block by block, the reference's gradient, step and two moments of
  the arguments. The two bias corrections, which the reference divides by, are named in the kernel by their exact inverses.
-/
module

public import proofs.«01_k».proof.Proof.Gen.AdamIdeal.Value
public import proofs.«01_k».proof.Proof.Gen.AdamRefIdeal.Read
public import Idealize.ShloMosaic.Lib.Pointwise
public import Idealize.ShloMosaic.Lib.Pipeline.ValueKit.Tiles

@[expose] public section

set_option maxRecDepth 16384

noncomputable section

namespace Cert.AdamValue

open Idealize.ShloMosaic Idealize.ShloMosaic.TcCoe Idealize.SL.Sem
open Cert.AdamIdeal Cert.AdamIdeal.Gen Cert.AdamRefIdeal.Read

/-! ## The two corrections -/

theorem div_first (x : EReal) :
    Ideal.div x (Ideal.ofBits .f32 0x3F26BD02#32) = x * Named.named (F := Ideal) κ "c1" (φ := .f32) 0x3FC48605#32 := by
  have e : Ideal.ofBits .f32 0x3F26BD02#32 = ((5463681 / 8388608 : ℝ) : EReal) := by
    simp [Ideal.ofBits, Ideal.ieee, -EReal.coe_mul]; norm_num
  rw [e, Ideal.div_coe (by norm_num), IdealRules.named_const.ideal_named_scalar κ "c1" _ _ rfl]
  norm_num

theorem div_second (x : EReal) :
    Ideal.div x (Ideal.ofBits .f32 0x3C231ACC#32) = x * Named.named (F := Ideal) κ "c2" (φ := .f32) 0x42C8E6D3#32 := by
  have e : Ideal.ofBits .f32 0x3C231ACC#32 = ((2672307 / 268435456 : ℝ) : EReal) := by
    simp [Ideal.ofBits, Ideal.ieee, -EReal.coe_mul]; norm_num
  rw [e, Ideal.div_coe (by norm_num), IdealRules.named_const.ideal_named_scalar κ "c2" _ _ rfl]
  norm_num

/-! ## One grid point -/

theorem zero3 : (![0, 0, 0] : Fin 3 → Nat) = fun _ => 0 := by
  funext a
  match a with | ⟨0, _⟩ => rfl | ⟨1, _⟩ => rfl | ⟨2, _⟩ => rfl

section
variable {x0 : Vec Ideal S8x176x2048 .bf16} {x1 x2 x3 : Vec Ideal S1x176x2048 .f32} {P : FVec Ideal S8x704x2048 .bf16}
  {W M U : FVec Ideal S1x704x2048 .f32} {p : Fin 176} {k : Fin 2048} {r : Fin 704}

theorem sum_apply (h0 : ∀ s, x0 (ix3 s p k) = P (ix3 s r k)) :
    k0_pay11 (F := Ideal) x0 x1 x2 x3 (ix2 p k) = val_main_v2 (F := Ideal) P (ix3 0 r k) := by
  pointwise [k0_pay11, k0_pay2, val_main_v2, val_main_v1, val_main_v0, val_main_cst]
  simp only [h0, Fin.sum_univ_eight]

theorem stored_sum (h0 : ∀ s, x0 (ix3 s p k) = P (ix3 s r k)) :
    k0_pay5 (F := Ideal) (k0_pay11 x0 x1 x2 x3) (ix3 0 p k) = val_main_v2 (F := Ideal) P (ix3 0 r k) := by
  pointwise [k0_pay5]
  exact sum_apply h0

theorem first_apply (h0 : ∀ s, x0 (ix3 s p k) = P (ix3 s r k)) (h2 : x2 (ix3 0 p k) = M (ix3 0 r k)) :
    k0_pay3 (F := Ideal) (k0_pay11 x0 x1 x2 x3) x2 (ix2 p k) = val_main_v7 (F := Ideal) P M (ix3 0 r k) := by
  pointwise [k0_pay3, val_main_v7, val_main_v6, val_main_v5, val_main_v4, val_main_v3, val_main_cst_0, val_main_cst_1]
  rw [sum_apply h0, h2]

theorem stored_first (h0 : ∀ s, x0 (ix3 s p k) = P (ix3 s r k)) (h2 : x2 (ix3 0 p k) = M (ix3 0 r k)) :
    k0_pay6 (F := Ideal) (k0_pay11 x0 x1 x2 x3) x2 (ix3 0 p k) = val_main_v7 (F := Ideal) P M (ix3 0 r k) := by
  pointwise [k0_pay6]
  exact first_apply h0 h2

theorem second_apply (h0 : ∀ s, x0 (ix3 s p k) = P (ix3 s r k)) (h3 : x3 (ix3 0 p k) = U (ix3 0 r k)) :
    k0_pay4 (F := Ideal) (k0_pay11 x0 x1 x2 x3) x3 (ix2 p k) = val_main_v13 (F := Ideal) P U (ix3 0 r k) := by
  pointwise [k0_pay4, val_main_v13, val_main_v12, val_main_v11, val_main_v10, val_main_v9, val_main_v8, val_main_cst_2, val_main_cst_3]
  rw [sum_apply h0, h3]

theorem stored_second (h0 : ∀ s, x0 (ix3 s p k) = P (ix3 s r k)) (h3 : x3 (ix3 0 p k) = U (ix3 0 r k)) :
    k0_pay7 (F := Ideal) (k0_pay11 x0 x1 x2 x3) x3 (ix3 0 p k) = val_main_v13 (F := Ideal) P U (ix3 0 r k) := by
  pointwise [k0_pay7]
  exact second_apply h0 h3

theorem step_apply (h0 : ∀ s, x0 (ix3 s p k) = P (ix3 s r k)) (h1 : x1 (ix3 0 p k) = W (ix3 0 r k)) (h2 : x2 (ix3 0 p k) = M (ix3 0 r k))
    (h3 : x3 (ix3 0 p k) = U (ix3 0 r k)) :
    k0_pay1 (F := Ideal) (k0_pay8 (k0_pay11 x0 x1 x2 x3) x2 x3) (k0_pay9 x1) k0_pay10 (ix3 0 p k)
      = val_main_v26 (F := Ideal) P W M U (ix3 0 r k) := by
  pointwise [k0_pay1, k0_pay8, k0_pay9, k0_pay10, val_main_v26, val_main_v25, val_main_v24, val_main_v23, val_main_v22, val_main_v21, val_main_v20,
    val_main_v19, val_main_v18, val_main_v17, val_main_v16, val_main_v15, val_main_v14, val_main_cst_4, val_main_cst_5, val_main_cst_6,
    val_main_cst_7, val_main_cst_8]
  rw [first_apply h0 h2, second_apply h0 h3, h1, div_first, div_second]

end

/-! ## The blocks of one grid point -/

variable (m : (ℓ : Loc nD τ sig) → Buf (Elt Ideal) ℓ) {c : Dev nD}

/-- The arguments: the eight devices' parts, the weight and the two moments. -/
abbrev parts (c : Dev nD) : FVec Ideal S8x704x2048 .bf16 := m ((c : Thread nD τ).loc main_arg0)
abbrev weight (c : Dev nD) : FVec Ideal S1x704x2048 .f32 := m ((c : Thread nD τ).loc main_arg1)
abbrev first (c : Dev nD) : FVec Ideal S1x704x2048 .f32 := m ((c : Thread nD τ).loc main_arg2)
abbrev second (c : Dev nD) : FVec Ideal S1x704x2048 .f32 := m ((c : Thread nD τ).loc main_arg3)

theorem index_at : ∀ (t : Fin cfg0.N) (a : Fin 3), win0_0.index t a = ![0, t.val, 0] a ∧ win0_1.index t a = ![0, t.val, 0] a
    ∧ win0_2.index t a = ![0, t.val, 0] a ∧ win0_3.index t a = ![0, t.val, 0] a ∧ win0_4.index t a = ![0, t.val, 0] a
    ∧ win0_5.index t a = ![0, t.val, 0] a ∧ win0_6.index t a = ![0, t.val, 0] a ∧ win0_7.index t a = ![0, t.val, 0] a :=
  (by decide +kernel : ∀ (t : Fin grid0.N) (a : Fin 3), win0_0.index t a = ![0, t.val, 0] a ∧ win0_1.index t a = ![0, t.val, 0] a
    ∧ win0_2.index t a = ![0, t.val, 0] a ∧ win0_3.index t a = ![0, t.val, 0] a ∧ win0_4.index t a = ![0, t.val, 0] a
    ∧ win0_5.index t a = ![0, t.val, 0] a ∧ win0_6.index t a = ![0, t.val, 0] a ∧ win0_7.index t a = ![0, t.val, 0] a)

/-- The array's row that is row `p` of point `t`'s blocks. -/
def rowAt (t : Fin cfg0.N) (p : Fin 176) : Fin 704 := ⟨176 * t.val + p.val, by have := t.isLt; have hN : cfg0.N = 4 := N_0; omega⟩

/-- The index of an array under an index of point `t`'s block, with `n` places in the first axis. -/
theorem under {n : ℕ} (t : Fin cfg0.N) (i : Fin 3 → Nat) (e : ∀ a, i a = ![0, t.val, 0] a) (s : Fin n) (p : Fin 176) (k : Fin 2048)
    (y : (⟨3, ![n, 704, 2048]⟩ : Shape).Idx) (h0 : (y 0 : Nat) = i 0 * n + 1 * s.val) (h1 : (y 1 : Nat) = i 1 * 176 + 1 * p.val)
    (h2 : (y 2 : Nat) = i 2 * 2048 + 1 * k.val) : y = ix3 s (rowAt t p) k := by
  have e0 : i 0 = 0 := e 0
  have e1 : i 1 = t.val := e 1
  have e2 : i 2 = 0 := e 2
  rw [e0] at h0
  funext a
  apply Fin.ext
  match a with
  | ⟨0, _⟩ => show (y 0 : Nat) = s.val; omega
  | ⟨1, _⟩ => show (y 1 : Nat) = 176 * t.val + p.val; omega
  | ⟨2, _⟩ => show (y 2 : Nat) = k.val; omega

theorem block_parts (t : Fin cfg0.N) (s : Fin 8) (p : Fin 176) (k : Fin 2048) :
    (iblk m c 0 t : Vec Ideal S8x176x2048 .bf16) (ix3 s p k) = parts m c (ix3 s (rowAt t p) k) := by
  unfold iblk
  rw [View.read_apply]
  exact (congrFun (V_main_arg0 m c) _).trans (congrArg (parts m c) (under t _ (fun a => (index_at t a).1) s p k _ rfl rfl rfl))

theorem block_weight (t : Fin cfg0.N) (p : Fin 176) (k : Fin 2048) :
    (iblk m c 1 t : Vec Ideal S1x176x2048 .f32) (ix3 0 p k) = weight m c (ix3 0 (rowAt t p) k) := by
  unfold iblk
  rw [View.read_apply]
  exact (congrFun (V_main_arg1 m c) _).trans (congrArg (weight m c) (under t _ (fun a => (index_at t a).2.1) 0 p k _ rfl rfl rfl))

theorem block_first (t : Fin cfg0.N) (p : Fin 176) (k : Fin 2048) :
    (iblk m c 2 t : Vec Ideal S1x176x2048 .f32) (ix3 0 p k) = first m c (ix3 0 (rowAt t p) k) := by
  unfold iblk
  rw [View.read_apply]
  exact (congrFun (V_main_arg2 m c) _).trans (congrArg (first m c) (under t _ (fun a => (index_at t a).2.2.1) 0 p k _ rfl rfl rfl))

theorem block_second (t : Fin cfg0.N) (p : Fin 176) (k : Fin 2048) :
    (iblk m c 3 t : Vec Ideal S1x176x2048 .f32) (ix3 0 p k) = second m c (ix3 0 (rowAt t p) k) := by
  unfold iblk
  rw [View.read_apply]
  exact (congrFun (V_main_arg3 m c) _).trans (congrArg (second m c) (under t _ (fun a => (index_at t a).2.2.2.1) 0 p k _ rfl rfl rfl))

/-! ## The result arrays -/

theorem eq_block (j : S1x176x2048.Idx) : ∃ (p : Fin 176) (k : Fin 2048), j = ix3 0 p k := by
  obtain ⟨z, p, k, rfl⟩ : ∃ (z : Fin 1) (p : Fin 176) (k : Fin 2048), j = ix3 z p k := ⟨j 0, j 1, j 2, eq_ix3 j⟩
  obtain rfl : z = 0 := Subsingleton.elim _ _
  exact ⟨p, k, rfl⟩

/-- Every index of a result's array lies between the bounds of some point's block. -/
theorem point_of (i : S1x704x2048.Idx) : ∃ t : Fin cfg0.N, ∀ e : Fin 3 → Nat, (∀ a, e a = ![0, t.val, 0] a) →
    ∀ a : Fin 3, e a * ![1, 176, 2048] a ≤ (i a : Nat) ∧ (i a : Nat) < e a * ![1, 176, 2048] a + ![1, 176, 2048] a := by
  have h0 : (i 0 : Nat) < 1 := (i 0).isLt
  have h1 : (i 1 : Nat) < 704 := (i 1).isLt
  have h2 : (i 2 : Nat) < 2048 := (i 2).isLt
  have hN : cfg0.N = 4 := N_0
  refine ⟨⟨(i 1 : Nat) / 176, by omega⟩, fun e he a => ?_⟩
  have e0 : e 0 = 0 := he 0
  have e1 : e 1 = (i 1 : Nat) / 176 := he 1
  have e2 : e 2 = 0 := he 2
  match a with
  | ⟨0, _⟩ => show e 0 * 1 ≤ (i 0 : Nat) ∧ (i 0 : Nat) < e 0 * 1 + 1; omega
  | ⟨1, _⟩ => show e 1 * 176 ≤ (i 1 : Nat) ∧ (i 1 : Nat) < e 1 * 176 + 176; omega
  | ⟨2, _⟩ => show e 2 * 2048 ≤ (i 2 : Nat) ∧ (i 2 : Nat) < e 2 * 2048 + 2048; omega

/-- The gradient: the parts' sum. -/
abbrev grad (c : Dev nD) : FVec Ideal S1x704x2048 .f32 := val_main_v2 (F := Ideal) (parts m c)

theorem grad_flushed (t : Fin cfg0.N) (_ : (cfg0.win 4).flush t = true) :
    (dats m 0 c).flushed 4 t = ((cfg0.win 4).blk t).view.read (Elt Ideal) (grad m c) := by
  rw [Value.flushed4]
  funext j
  obtain ⟨p, k, rfl⟩ := eq_block j
  show out0_4 (iblk m c 0 t) (iblk m c 1 t) (iblk m c 2 t) (iblk m c 3 t) (ix3 0 p k) = _
  unfold out0_4
  rw [View.canon_unit_zero zero3, View.read_apply]
  refine Eq.trans ?_ (congrArg (grad m c) (under t (win0_4.index t) (fun a => (index_at t a).2.2.2.2.1) 0 p k _ rfl rfl rfl)).symm
  exact stored_sum fun s => block_parts m t s p k

theorem grad_final : (dats m 0 c).arrAt 4 cfg0.N = grad m c :=
  (dats m 0 c).arrAt_eq_of_cover 4 _ (grad_flushed m) fun i => by
    obtain ⟨t, ht⟩ := point_of i
    refine ⟨t, flush0_4 t, ?_⟩
    show i ∈ ((View.whole main_v0_0).slice (win0_4.rect t)).set
    rw [View.set_slice_whole, Rect.mem_set_unit]
    have h := ht (win0_4.index t) fun a => (index_at t a).2.2.2.2.1
    intro a
    match a with | ⟨0, _⟩ => exact h 0 | ⟨1, _⟩ => exact h 1 | ⟨2, _⟩ => exact h 2

/-- The step. -/
abbrev delta (c : Dev nD) : FVec Ideal S1x704x2048 .f32 := val_main_v26 (F := Ideal) (parts m c) (weight m c) (first m c) (second m c)

theorem delta_flushed (t : Fin cfg0.N) (_ : (cfg0.win 5).flush t = true) :
    (dats m 0 c).flushed 5 t = ((cfg0.win 5).blk t).view.read (Elt Ideal) (delta m c) := by
  rw [Value.flushed5]
  funext j
  obtain ⟨p, k, rfl⟩ := eq_block j
  show out0_5 (iblk m c 0 t) (iblk m c 1 t) (iblk m c 2 t) (iblk m c 3 t) (ix3 0 p k) = _
  unfold out0_5
  rw [View.canon_unit_zero zero3, View.ld_unit_zero (S := S1x176x2048) zero3, View.ld_unit_zero (S := S1x176x2048) zero3, View.ld_unit_zero (S := S1x176x2048) zero3, View.read_apply]
  refine Eq.trans ?_ (congrArg (delta m c) (under t (win0_5.index t) (fun a => (index_at t a).2.2.2.2.2.1) 0 p k _ rfl rfl rfl)).symm
  exact step_apply (fun s => block_parts m t s p k) (block_weight m t p k) (block_first m t p k) (block_second m t p k)

theorem delta_final : (dats m 0 c).arrAt 5 cfg0.N = delta m c :=
  (dats m 0 c).arrAt_eq_of_cover 5 _ (delta_flushed m) fun i => by
    obtain ⟨t, ht⟩ := point_of i
    refine ⟨t, flush0_5 t, ?_⟩
    show i ∈ ((View.whole main_v0_1).slice (win0_5.rect t)).set
    rw [View.set_slice_whole, Rect.mem_set_unit]
    have h := ht (win0_5.index t) fun a => (index_at t a).2.2.2.2.2.1
    intro a
    match a with | ⟨0, _⟩ => exact h 0 | ⟨1, _⟩ => exact h 1 | ⟨2, _⟩ => exact h 2

/-- The first moment. -/
abbrev moment (c : Dev nD) : FVec Ideal S1x704x2048 .f32 := val_main_v7 (F := Ideal) (parts m c) (first m c)

theorem moment_flushed (t : Fin cfg0.N) (_ : (cfg0.win 6).flush t = true) :
    (dats m 0 c).flushed 6 t = ((cfg0.win 6).blk t).view.read (Elt Ideal) (moment m c) := by
  rw [Value.flushed6]
  funext j
  obtain ⟨p, k, rfl⟩ := eq_block j
  show out0_6 (iblk m c 0 t) (iblk m c 1 t) (iblk m c 2 t) (iblk m c 3 t) (ix3 0 p k) = _
  unfold out0_6
  rw [View.canon_unit_zero zero3, View.ld_unit_zero (S := S1x176x2048) zero3, View.read_apply]
  refine Eq.trans ?_ (congrArg (moment m c) (under t (win0_6.index t) (fun a => (index_at t a).2.2.2.2.2.2.1) 0 p k _ rfl rfl rfl)).symm
  exact stored_first (fun s => block_parts m t s p k) (block_first m t p k)

theorem moment_final : (dats m 0 c).arrAt 6 cfg0.N = moment m c :=
  (dats m 0 c).arrAt_eq_of_cover 6 _ (moment_flushed m) fun i => by
    obtain ⟨t, ht⟩ := point_of i
    refine ⟨t, flush0_6 t, ?_⟩
    show i ∈ ((View.whole main_v0_2).slice (win0_6.rect t)).set
    rw [View.set_slice_whole, Rect.mem_set_unit]
    have h := ht (win0_6.index t) fun a => (index_at t a).2.2.2.2.2.2.1
    intro a
    match a with | ⟨0, _⟩ => exact h 0 | ⟨1, _⟩ => exact h 1 | ⟨2, _⟩ => exact h 2

/-- The second moment. -/
abbrev spread (c : Dev nD) : FVec Ideal S1x704x2048 .f32 := val_main_v13 (F := Ideal) (parts m c) (second m c)

theorem spread_flushed (t : Fin cfg0.N) (_ : (cfg0.win 7).flush t = true) :
    (dats m 0 c).flushed 7 t = ((cfg0.win 7).blk t).view.read (Elt Ideal) (spread m c) := by
  rw [Value.flushed7]
  funext j
  obtain ⟨p, k, rfl⟩ := eq_block j
  show out0_7 (iblk m c 0 t) (iblk m c 1 t) (iblk m c 2 t) (iblk m c 3 t) (ix3 0 p k) = _
  unfold out0_7
  rw [View.canon_unit_zero zero3, View.ld_unit_zero (S := S1x176x2048) zero3, View.read_apply]
  refine Eq.trans ?_ (congrArg (spread m c) (under t (win0_7.index t) (fun a => (index_at t a).2.2.2.2.2.2.2) 0 p k _ rfl rfl rfl)).symm
  exact stored_second (fun s => block_parts m t s p k) (block_second m t p k)

theorem spread_final : (dats m 0 c).arrAt 7 cfg0.N = spread m c :=
  (dats m 0 c).arrAt_eq_of_cover 7 _ (spread_flushed m) fun i => by
    obtain ⟨t, ht⟩ := point_of i
    refine ⟨t, flush0_7 t, ?_⟩
    show i ∈ ((View.whole main_v0_3).slice (win0_7.rect t)).set
    rw [View.set_slice_whole, Rect.mem_set_unit]
    have h := ht (win0_7.index t) fun a => (index_at t a).2.2.2.2.2.2.2
    intro a
    match a with | ⟨0, _⟩ => exact h 0 | ⟨1, _⟩ => exact h 1 | ⟨2, _⟩ => exact h 2

end Cert.AdamValue

end
-- ==== Proof.AdamClaim.lean ====
/-
  The claims of the optimiser's call: the reference's frame, the two names of the bias corrections, and that the two programs'
  four results are equal over the extended reals, whatever the arguments hold.
-/
module

public import proofs.«01_k».proof.Defs
public import proofs.«01_k».proof.Proof.Gen.Adam.Frame
public import proofs.«01_k».proof.Proof.Gen.AdamRefIdeal.Run
public import proofs.«01_k».proof.Proof.AdamArray
public import Idealize.ShloMosaic.Lib.Claim

@[expose] public section

set_option maxRecDepth 16384

noncomputable section

namespace Cert.AdamValue

open Idealize.ShloMosaic Idealize.ShloMosaic.TcCoe Idealize.SL.Sem

theorem names : Cert.preserves_Adam_AdamIdeal :=
  ⟨IdealRules.named_const.statement _ _ _ _ _ rfl, IdealRules.named_const.statement _ _ _ _ _ rfl⟩

theorem frame_ref : Cert.quiescent_AdamRefIdeal := fun m g _ =>
  (θ_run Cert.AdamRefIdeal.defs _ _).mono (fun r h => ⟨fun c => (h c).2.2.2.2, sem_eq_zero_of_no_sems (by decide) r.2⟩)
    (Cert.AdamRefIdeal.Value.run m g)

theorem value : Cert.algebraic_AdamIdeal_AdamRefIdeal := by
  intro m g m' g' _ hag
  refine ⟨_, _, _, _, Cert.AdamIdeal.Value.run_blocks m g,
    (θ_run Cert.AdamRefIdeal.defs _ _).mono (fun r h c => ?_) (Cert.AdamRefIdeal.Value.run m' g')⟩
  obtain ⟨hg, hd, hm, hv, ha⟩ := h c
  obtain ⟨e0, e1, e2, e3⟩ := hag c
  refine ⟨hg.trans ?_, hd.trans ?_, hm.trans ?_, hv.trans ?_, ha⟩
  · rw [e0, grad_final m]
    exact Cert.AdamRefIdeal.Read.val_main_v2_eq _
  · rw [e0, e1, e2, e3, delta_final m]
    exact Cert.AdamRefIdeal.Read.val_main_v26_eq _ _ _ _
  · rw [e0, e2, moment_final m]
    exact Cert.AdamRefIdeal.Read.val_main_v7_eq _ _
  · rw [e0, e3, spread_final m]
    exact Cert.AdamRefIdeal.Read.val_main_v13_eq _ _

end Cert.AdamValue

end
-- ==== Proof.HeadsArray.lean ====
/-
  What the kernel that puts the heads' column into the projection's gradient leaves in its result array: in columns 7168 to 7295 the
  entry of every sixty-fourth column, and zeros after the last, what the array held before in the others.
-/
module

public import proofs.«01_k».proof.Proof.Gen.HeadsIdeal.Value
public import proofs.«01_k».proof.Proof.ScanPieces
public import proofs.«01_k».proof.Proof.RowNorm
public import Idealize.ShloMosaic.Lib.Pointwise
public import Idealize.ShloMosaic.Lib.WordCmp
public import Idealize.ShloMosaic.Lib.Pipeline.ValueKit.Tiles
public import Idealize.ShloMosaic.Lib.Pipeline.ValueKit.Partial

@[expose] public section

set_option maxRecDepth 16384

noncomputable section

namespace Cert.HeadsValue

open Idealize.ShloMosaic Idealize.ShloMosaic.TcCoe Idealize.SL.Sem Cert.Lift
open Idealize.ShloMosaic.Pipeline (Dat)
open Cert.NormValue (hz)
open Cert.HeadsIdeal Cert.HeadsIdeal.Gen

/-- Place `k` of a row of `f`'s heads: the head's entry, one in sixty-four columns, or zero after the last head. -/
def headAt (f : Fin 2048 → ℝ) (k : ℕ) : ℝ := if h : 64 * k < 2048 then f ⟨64 * k, h⟩ else 0

theorem headAt_head (f : Fin 2048 → ℝ) {k : ℕ} (h : 64 * k < 2048) : headAt f k = f ⟨64 * k, h⟩ := dif_pos h
theorem headAt_rest (f : Fin 2048 → ℝ) {k : ℕ} (h : ¬64 * k < 2048) : headAt f k = 0 := dif_neg h

/-- The kernel's test of a column against a head's column. -/
theorem test_eq (j : Fin 2048) (k : Fin 128) :
    IntOp.cmpi .eq (BitVec.ofNat 32 j.val) (IntOp.muli (64#32) (BitVec.ofNat 32 k.val)) = BitVec.ofBool (decide (j.val = 64 * k.val)) := by
  rw [show IntOp.muli (64#32) (BitVec.ofNat 32 k.val) = BitVec.ofNat 32 (64 * k.val) from WordCmp.muli_ofNat 64 k.val]
  exact WordCmp.cmpi_eq_ofNat (by omega) (by omega)

/-- The sum that picks one column. -/
theorem pick_sum (f : Fin 2048 → ℝ) (k : Fin 128) :
    ∑ j : Fin 2048, (f j : EReal) * (if j.val = 64 * k.val then (1 : EReal) else 0) = (headAt f k : EReal) := by
  simp only [mul_ite, mul_one, mul_zero]
  by_cases h : 64 * k.val < 2048
  · rw [headAt_head f h, Finset.sum_eq_single (⟨64 * k.val, h⟩ : Fin 2048) (fun b _ hb => if_neg fun e => hb (Fin.ext e)) (fun hb => absurd (Finset.mem_univ _) hb)]
    exact if_pos rfl
  · rw [headAt_rest f h]
    refine (Finset.sum_eq_zero fun j _ => if_neg fun e => h ?_).trans EReal.coe_zero.symm
    have := j.isLt
    omega

theorem picked_apply {v : Vec Ideal S512x2048 .f32} {f : Fin 2048 → ℝ} {p : Fin 512} (hv : ∀ j, v (ix2 p j) = (f j : EReal)) (k : Fin 128) :
    k0_pay1 (F := Ideal) v (ix2 p k) = (headAt f k : EReal) := by
  pointwise [k0_pay1]
  simp only [hv, test_eq, Cert.ScanValue.bit_apply, decide_eq_true_eq, ← EReal.coe_sub, sub_self, EReal.coe_zero, zero_mul, Finset.sum_const_zero, add_zero]
  exact pick_sum f k

section
variable {F : FTy → Type} [FloatOps F] (m : (ℓ : Loc nD τ sig) → Buf (Elt F) ℓ)

theorem index_at : ∀ t : Fin cfg0.N, (∀ a, win0_0.index t a = ![t.val, 0] a) ∧ (∀ a, win0_1.index t a = ![t.val, 56] a) :=
  (by decide +kernel : ∀ t : Fin grid0.N, (∀ a, win0_0.index t a = ![t.val, 0] a) ∧ (∀ a, win0_1.index t a = ![t.val, 56] a))

/-- Row `p` of point `t`'s block, in the array. -/
def rowAt (t : Fin cfg0.N) (p : Fin 512) : Fin 8192 := ⟨512 * t.val + p.val, by have := t.isLt; have hN : cfg0.N = 16 := N_0; omega⟩

/-- A point's block is its rows of the first argument. -/
theorem block_src (c : Dev nD) (t : Fin cfg0.N) (p : Fin 512) (j : Fin 2048) :
    (iblk m c 0 t : Vec F S512x2048 .f32) (ix2 p j) = m ((c : Thread nD τ).loc main_arg0) (ix2 (rowAt t p) j) := by
  unfold iblk
  rw [View.read_apply]
  refine (congrFun (V_main_arg0 m c) _).trans (congrArg _ (funext fun a => Fin.ext ?_))
  have e0 : win0_0.index t 0 = t.val := (index_at t).1 0
  have e1 : win0_0.index t 1 = 0 := (index_at t).1 1
  match a with
  | ⟨0, _⟩ => show win0_0.index t 0 * 512 + 1 * p.val = 512 * t.val + p.val; rw [e0]; omega
  | ⟨1, _⟩ => show win0_0.index t 1 * 2048 + 1 * j.val = j.val; rw [e1]; omega

end

section
variable (m : (ℓ : Loc nD τ sig) → Buf (Elt Ideal) ℓ) {c : Dev nD} {f : Fin 8192 → Fin 2048 → ℝ}

/-- The result array: the heads' entries from column 7168 on, the array's former contents before it. -/
def headsArray (c : Dev nD) (f : Fin 8192 → Fin 2048 → ℝ) : Buf (Elt Ideal) ((c : Thread nD τ).loc main_v0) :=
  fun i : S8192x7296.Idx => if 7168 ≤ (i 1).val then (headAt (f (i 0)) ((i 1).val - 7168) : EReal) else m ((c : Thread nD τ).loc main_arg1) i

variable (hf : ∀ n j, m ((c : Thread nD τ).loc main_arg0) (ix2 n j) = (f n j : EReal))
include hf

/-- What a point leaves in its block: the heads' entries of its rows. -/
theorem point_apply (t : Fin cfg0.N) (p : Fin 512) (k : Fin 128) : outsAt0 m c t (ix2 p k) = (headAt (f (rowAt t p)) k : EReal) := by
  have h0 : ∀ j, (iblk m c 0 t : Vec Ideal S512x2048 .f32) (ix2 p j) = (f (rowAt t p) j : EReal) := fun j => (block_src m c t p j).trans (hf _ j)
  unfold outsAt0 out0_A_1
  rw [View.read_writes_eq_canon _ _ _ (fun y => cover0_A_1 (y := y) ..)]
  unfold kernelRun0_A
  dsimp only
  sl_unfold_words
  rw [View.canon_unit_zero hz]
  simp only [View.readAt_eq_ld, (hs0_0 _).read_unread, View.ld_unit_zero (S := S512x2048) hz]
  exact picked_apply h0 k

/-- After the grid the result array holds the heads' entries in its last columns and its former contents in the others. -/
theorem heads_final : (dats m 0 c).arrAt 1 cfg0.N = headsArray m c f := by
  refine (dats m 0 c).arrAt_eq_of_coversWhere_of_agree 1 _ (fun β => β (1 : Fin 2) = 56) (by decide +kernel) (fun t _ y => ?_) (fun j hj => ?_)
  · obtain ⟨p, k, hx⟩ : ∃ (p : Fin 512) (k : Fin 128), ((cfg0.win 1).xinj (cfg0.grid.coords t) y : S512x128.Idx) = ix2 p k := ⟨_, _, eq_ix2 _⟩
    have hp : (y (0 : Fin 2) : Nat) = p.val := congrArg Fin.val (congrFun hx 0)
    have hk : (y (1 : Fin 2) : Nat) = k.val := congrArg Fin.val (congrFun hx 1)
    have e0 : win0_1.index t 0 = t.val := (index_at t).2 0
    have e1 : win0_1.index t 1 = 56 := (index_at t).2 1
    have h0 : (((cfg0.win 1).blk t).view.emb y : S8192x7296.Idx) 0 = rowAt t p :=
      Fin.ext (by show win0_1.index t 0 * 512 + 1 * (y (0 : Fin 2) : Nat) = 512 * t.val + p.val; rw [e0, hp]; omega)
    have h1 : ((((cfg0.win 1).blk t).view.emb y : S8192x7296.Idx) 1 : Nat) = 7168 + k.val := by
      show win0_1.index t 1 * 128 + 1 * (y (1 : Fin 2) : Nat) = _; rw [e1, hk]; omega
    rw [after0_1]
    refine (cast_eq _ _).trans ?_
    refine (congrArg (outsAt0 m c t) hx).trans ((point_apply m hf t p k).trans ?_)
    unfold headsArray
    rw [if_pos (by omega), h0, h1, Nat.add_sub_cancel_left]
  · have hc : ¬((j (1 : Fin 2) : Nat) / 128 = 56) := hj
    have hl : (j (1 : Fin 2) : Nat) < 7296 := (j (1 : Fin 2)).isLt
    unfold headsArray
    rw [if_neg fun h => hc (by have h' : 7168 ≤ (j (1 : Fin 2) : Nat) := h; omega)]
    refine (congrFun (A_eq m c 1) _).trans ?_
    show StableHlo.after hostOps0 _ (Proc.devRef .tc main_v0) j = _
    after_results_simp
    rfl

end

end Cert.HeadsValue

end
-- ==== Proof.HeadsClaim.lean ====
/-
  The claims of the call that puts the heads' column into the projection's gradient: the reference's frame, and that the two
  programs' results are equal over the extended reals where the column's array is finite.
-/
module

public import proofs.«01_k».proof.Defs
public import proofs.«01_k».proof.Proof.Gen.Heads.Frame
public import proofs.«01_k».proof.Proof.Gen.HeadsRefIdeal.Run
public import proofs.«01_k».proof.Proof.Gen.HeadsRefIdeal.Read
public import proofs.«01_k».proof.Proof.Gen.Pre_heads_finite
public import proofs.«01_k».proof.Proof.HeadsArray
public import Idealize.ShloMosaic.Lib.Claim

@[expose] public section

set_option maxRecDepth 16384

noncomputable section

namespace Cert.HeadsValue

open Idealize.ShloMosaic Idealize.ShloMosaic.TcCoe Idealize.SL.Sem Cert.Lift
open Cert.HeadsRefIdeal Cert.HeadsRefIdeal.Gen Cert.HeadsRefIdeal.Read

/-- Where the precondition holds, the first argument is an array of real numbers. -/
theorem real_of_pre {x : FVec Ideal Cert.HeadsIdeal.S8192x2048 .f32} {b : FVec Ideal Cert.HeadsIdeal.S8192x7296 .bf16}
    (hp : Cert.Pre_heads_finite.fn (F := Ideal) x b = fun _ => 1#1) :
    ∃ f : Fin 8192 → Fin 2048 → ℝ, ∀ n j, x (ix2 n j) = (f n j : EReal) :=
  ⟨fun n j => (x (ix2 n j) : EReal).toReal, fun n j => by
    have hp' := congrFun hp (ix2 n j)
    pointwise [Cert.Pre_heads_finite.fn] at hp'
    exact real_of_test (of_decide_eq_true ((BitVec.ofBool_eq_iff_eq (b' := true)).mp hp'))⟩

theorem frame_ref : Cert.quiescent_HeadsRefIdeal := fun m g _ =>
  (θ_run Cert.HeadsRefIdeal.defs _ _).mono (fun r h => ⟨fun c => (h c).2, sem_eq_zero_of_no_sems (by decide) r.2⟩)
    (Cert.HeadsRefIdeal.Value.run m g)

/-- The reference's result: the kept columns, the heads' entries, and zeros. -/
theorem refArray_apply {f : Fin 8192 → Fin 2048 → ℝ} {x : FVec Ideal S8192x2048 .f32} {b : FVec Ideal S8192x7296 .bf16}
    (hf : ∀ n j, x (ix2 n j) = (f n j : EReal)) (n : Fin 8192) (k : Fin 7296) :
    val_main_v4 (F := Ideal) x b (ix2 n k) = if 7168 ≤ k.val then (headAt (f n) (k.val - 7168) : EReal) else b (ix2 n k) := by
  pointwise [val_main_v4, val_main_v0, val_main_v2, val_main_v1, val_main_v3, val_main_cst]
  by_cases h0 : k.val < 7168
  · rw [dif_pos h0, if_neg (show ¬7168 ≤ k.val by omega)]
  · rw [dif_neg h0, if_pos (show 7168 ≤ k.val by omega)]
    by_cases h1 : k.val - 7168 < 32
    · rw [dif_pos h1, headAt_head (f n) (by omega), ← hf]
    · rw [dif_neg h1, headAt_rest (f n) (by omega)]
      exact EReal.coe_zero.symm

theorem value : Cert.algebraic_HeadsIdeal_HeadsRefIdeal_pre_heads_finite := by
  intro m g m' g' hp hag
  refine ⟨_, Cert.HeadsIdeal.Value.run_blocks m g, (θ_run Cert.HeadsRefIdeal.defs _ _).mono (fun r h c => ?_) (Cert.HeadsRefIdeal.Value.run m' g')⟩
  obtain ⟨hr, ha⟩ := h c
  obtain ⟨f, hf⟩ := real_of_pre (hp c)
  obtain ⟨e0, e1⟩ := hag c
  refine ⟨hr.trans ?_, ha⟩
  refine (val_main_v4_eq _ _).trans ?_
  refine (congrArg₂ (val_main_v4 (F := Ideal)) e0 e1).trans ?_
  rw [heads_final m hf]
  funext i
  obtain ⟨n, k, rfl⟩ : ∃ (n : Fin 8192) (k : Fin 7296), i = ix2 n k := ⟨i 0, i 1, eq_ix2 i⟩
  exact refArray_apply hf n k

end Cert.HeadsValue

end
-- ==== Proof.lean ====
module

public import proofs.«01_k».proof.Defs
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Pre_norm_finite
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.PoolRefIdeal
public import proofs.«01_k».proof.Proof.Gen.Pre_pool_finite
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.ConvRefIdeal
public import proofs.«01_k».proof.Proof.Gen.Pre_conv_finite
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.LossRefIdeal
public import proofs.«01_k».proof.Proof.Gen.Pre_loss_finite
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.GateRefIdeal
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.MixRefIdeal
public import proofs.«01_k».proof.Proof.Gen.Pre_gate_finite
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.ScanIdeal.Value
public import proofs.«01_k».proof.Proof.Gen.ScanRefIdeal.Run
public import proofs.«01_k».proof.Proof.Gen.ScanRefIdeal.Read
public import proofs.«01_k».proof.Proof.Gen.ScanRefIdeal
public import proofs.«01_k».proof.Proof.Gen.Pre_scan_finite
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.PoolFwd
public import proofs.«01_k».proof.Proof.Gen.PoolFwd.Frame
public import proofs.«01_k».proof.Proof.Gen.PoolFwdIdeal
public import proofs.«01_k».proof.Proof.Gen.PoolFwdIdeal.Frame
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.PoolFwdRefIdeal.Read
public import proofs.«01_k».proof.Proof.Gen.Pre_pool_fwd_finite
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.GateFwd
public import proofs.«01_k».proof.Proof.Gen.GateFwd.Frame
public import proofs.«01_k».proof.Proof.Gen.GateFwdIdeal
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.Win
public import proofs.«01_k».proof.Proof.Gen.Win.Frame
public import proofs.«01_k».proof.Proof.Gen.WinIdeal
public import proofs.«01_k».proof.Proof.Gen.WinIdeal.Frame
public import proofs.«01_k».proof.Proof.Gen.WinIdeal.Value
public import proofs.«01_k».proof.Proof.Gen.WinRefIdeal
public import proofs.«01_k».proof.Proof.Gen.WinRefIdeal.Run
public import proofs.«01_k».proof.Proof.Gen.WinRefIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Wide
public import proofs.«01_k».proof.Proof.Gen.Wide.Frame
public import proofs.«01_k».proof.Proof.Gen.WideIdeal
public import proofs.«01_k».proof.Proof.Gen.WideIdeal.Frame
public import proofs.«01_k».proof.Proof.Gen.WideIdeal.Value
public import proofs.«01_k».proof.Proof.Gen.WideRefIdeal
public import proofs.«01_k».proof.Proof.Gen.WideRefIdeal.Run
public import proofs.«01_k».proof.Proof.Gen.WideRefIdeal.Read
public import proofs.«01_k».proof.Proof.Gen.Group
public import proofs.«01_k».proof.Proof.Gen.Group.Frame
public import proofs.«01_k».proof.Proof.Gen.GroupIdeal
public import proofs.«01_k».proof.Proof.Gen.GroupIdeal.Frame
public import proofs.«01_k».proof.Proof.Gen.GroupIdeal.Value
public import proofs.«01_k».proof.Proof.Gen.GroupRefIdeal
public import proofs.«01_k».proof.Proof.Gen.GroupRefIdeal.Run
public import proofs.«01_k».proof.Proof.Gen.GroupRefIdeal.Read
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.Heads
public import proofs.«01_k».proof.Proof.Gen.Heads.Frame
public import proofs.«01_k».proof.Proof.Gen.HeadsIdeal
public import proofs.«01_k».proof.Proof.Gen.HeadsIdeal.Frame
public import proofs.«01_k».proof.Proof.Gen.HeadsIdeal.Value
public import proofs.«01_k».proof.Proof.Gen.HeadsRefIdeal
public import proofs.«01_k».proof.Proof.Gen.HeadsRefIdeal.Run
public import proofs.«01_k».proof.Proof.Gen.HeadsRefIdeal.Read
public import proofs.«01_k».proof.Proof.Gen.Pre_heads_finite
public import proofs.«01_k».proof.Proof.NormClaim
public import proofs.«01_k».proof.Proof.PoolClaim
public import proofs.«01_k».proof.Proof.ConvClaim
public import proofs.«01_k».proof.Proof.LossClaim
public import proofs.«01_k».proof.Proof.GateClaim
public import proofs.«01_k».proof.Proof.MixClaim
public import proofs.«01_k».proof.Proof.ScanClaim
public import proofs.«01_k».proof.Proof.NormFwdClaim
public import proofs.«01_k».proof.Proof.ConvFwdClaim
public import proofs.«01_k».proof.Proof.PoolFwdClaim
public import proofs.«01_k».proof.Proof.MixFwdClaim
public import proofs.«01_k».proof.Proof.GateFwdClaim
public import proofs.«01_k».proof.Proof.WinClaim
public import proofs.«01_k».proof.Proof.DownClaim
public import proofs.«01_k».proof.Proof.WideClaim
public import proofs.«01_k».proof.Proof.GroupClaim
public import proofs.«01_k».proof.Proof.AdamClaim
public import proofs.«01_k».proof.Proof.HeadsClaim
public import Idealize.ShloMosaic.Adequacy
public import Idealize.ShloMosaic.Init

@[expose] public section

noncomputable section

namespace Cert.Proof

open Idealize.ShloMosaic Idealize.SL.Sem

theorem claim : Cert.Claim := ⟨
  Cert.Norm.Gen.facts, Cert.NormIdeal.Gen.facts, Cert.NormRefIdeal.Gen.facts, Cert.Pool.Gen.facts, Cert.PoolIdeal.Gen.facts,
  Cert.PoolRefIdeal.Gen.facts, Cert.Conv.Gen.facts, Cert.ConvIdeal.Gen.facts, Cert.ConvRefIdeal.Gen.facts, Cert.Loss.Gen.facts,
  Cert.LossIdeal.Gen.facts, Cert.LossRefIdeal.Gen.facts, Cert.Gate.Gen.facts, Cert.GateIdeal.Gen.facts, Cert.GateRefIdeal.Gen.facts,
  Cert.Mix.Gen.facts, Cert.MixIdeal.Gen.facts, Cert.MixRefIdeal.Gen.facts,
  Cert.Scan.Gen.facts, Cert.ScanIdeal.Gen.facts, Cert.ScanRefIdeal.Gen.facts,
  Cert.NormFwd.Gen.facts, Cert.NormFwdIdeal.Gen.facts, Cert.NormFwdRefIdeal.Gen.facts,
  Cert.ConvFwd.Gen.facts, Cert.ConvFwdIdeal.Gen.facts, Cert.ConvFwdRefIdeal.Gen.facts,
  Cert.PoolFwd.Gen.facts, Cert.PoolFwdIdeal.Gen.facts, Cert.PoolFwdRefIdeal.Gen.facts,
  Cert.MixFwd.Gen.facts, Cert.MixFwdIdeal.Gen.facts, Cert.MixFwdRefIdeal.Gen.facts,
  Cert.GateFwd.Gen.facts, Cert.GateFwdIdeal.Gen.facts, Cert.GateFwdRefIdeal.Gen.facts,
  Cert.Win.Gen.facts, Cert.WinIdeal.Gen.facts, Cert.WinRefIdeal.Gen.facts,
  Cert.Down.Gen.facts, Cert.DownIdeal.Gen.facts, Cert.DownRefIdeal.Gen.facts,
  Cert.Wide.Gen.facts, Cert.WideIdeal.Gen.facts, Cert.WideRefIdeal.Gen.facts,
  Cert.Group.Gen.facts, Cert.GroupIdeal.Gen.facts, Cert.GroupRefIdeal.Gen.facts,
  Cert.Adam.Gen.facts, Cert.AdamIdeal.Gen.facts, Cert.AdamRefIdeal.Gen.facts,
  Cert.Heads.Gen.facts, Cert.HeadsIdeal.Gen.facts, Cert.HeadsRefIdeal.Gen.facts,
  Cert.Pre_norm_finite.Gen.facts, Cert.Pre_pool_finite.Gen.facts,
  Cert.Pre_conv_finite.Gen.facts, Cert.Pre_loss_finite.Gen.facts, Cert.Pre_gate_finite.Gen.facts, Cert.Pre_scan_finite.Gen.facts, Cert.Pre_pool_fwd_finite.Gen.facts, Cert.Pre_heads_finite.Gen.facts,
  fun m g _ => Cert.Norm.Gen.frame m g, fun m g _ => Cert.NormIdeal.Gen.frame m g, fun m g _ => Cert.NormIdeal.Gen.frame m g,
  Cert.NormValue.frame_ref, fun m g _ => Cert.NormValue.frame_ref m g trivial,
  fun m g _ => Cert.Pool.Gen.frame m g, fun m g _ => Cert.PoolIdeal.Gen.frame m g, fun m g _ => Cert.PoolIdeal.Gen.frame m g,
  Cert.PoolValue.frame_ref, fun m g _ => Cert.PoolValue.frame_ref m g trivial,
  fun m g _ => Cert.Conv.Gen.frame m g, fun m g _ => Cert.ConvIdeal.Gen.frame m g, fun m g _ => Cert.ConvIdeal.Gen.frame m g,
  Cert.ConvValue.frame_ref, fun m g _ => Cert.ConvValue.frame_ref m g trivial,
  fun m g _ => Cert.Loss.Gen.frame m g, fun m g _ => Cert.LossIdeal.Gen.frame m g, fun m g _ => Cert.LossIdeal.Gen.frame m g,
  Cert.LossValue.frame_ref, fun m g _ => Cert.LossValue.frame_ref m g trivial,
  fun m g _ => Cert.Gate.Gen.frame m g, fun m g _ => Cert.GateIdeal.Gen.frame m g, fun m g _ => Cert.GateIdeal.Gen.frame m g,
  Cert.GateValue.frame_ref, fun m g _ => Cert.GateValue.frame_ref m g trivial,
  fun m g _ => Cert.Mix.Gen.frame m g, fun m g _ => Cert.MixIdeal.Gen.frame m g, Cert.MixValue.frame_ref,
  fun m g _ => Cert.Scan.Gen.frame m g, fun m g _ => Cert.ScanIdeal.Gen.frame m g, fun m g _ => Cert.ScanIdeal.Gen.frame m g,
  Cert.ScanValue.frame_ref, fun m g _ => Cert.ScanValue.frame_ref m g trivial,
  fun m g _ => Cert.NormFwd.Gen.frame m g, fun m g _ => Cert.NormFwdIdeal.Gen.frame m g, Cert.NormFwdValue.frame_ref,
  fun m g _ => Cert.ConvFwd.Gen.frame m g, fun m g _ => Cert.ConvFwdIdeal.Gen.frame m g, Cert.ConvFwdValue.frame_ref,
  fun m g _ => Cert.PoolFwd.Gen.frame m g, fun m g _ => Cert.PoolFwdIdeal.Gen.frame m g, fun m g _ => Cert.PoolFwdIdeal.Gen.frame m g,
  Cert.PoolFwdValue.frame_ref, fun m g _ => Cert.PoolFwdValue.frame_ref m g trivial,
  fun m g _ => Cert.MixFwd.Gen.frame m g, fun m g _ => Cert.MixFwdIdeal.Gen.frame m g, Cert.MixFwdValue.frame_ref,
  fun m g _ => Cert.GateFwd.Gen.frame m g, fun m g _ => Cert.GateFwdIdeal.Gen.frame m g, Cert.GateFwdValue.frame_ref,
  fun m g _ => Cert.Win.Gen.frame m g, fun m g _ => Cert.WinIdeal.Gen.frame m g, Cert.WinValue.frame_ref,
  fun m g _ => Cert.Down.Gen.frame m g, fun m g _ => Cert.DownIdeal.Gen.frame m g, Cert.DownValue.frame_ref,
  fun m g _ => Cert.Wide.Gen.frame m g, fun m g _ => Cert.WideIdeal.Gen.frame m g, Cert.WideValue.frame_ref,
  fun m g _ => Cert.Group.Gen.frame m g, fun m g _ => Cert.GroupIdeal.Gen.frame m g, Cert.GroupValue.frame_ref,
  fun m g _ => Cert.Adam.Gen.frame m g, fun m g _ => Cert.AdamIdeal.Gen.frame m g, Cert.AdamValue.frame_ref,
  fun m g _ => Cert.Heads.Gen.frame m g, fun m g _ => Cert.HeadsIdeal.Gen.frame m g, fun m g _ => Cert.HeadsIdeal.Gen.frame m g,
  Cert.HeadsValue.frame_ref, fun m g _ => Cert.HeadsValue.frame_ref m g trivial,
  trivial, Cert.NormValue.value, trivial, Cert.PoolValue.value, trivial, Cert.ConvValue.value, trivial, Cert.LossValue.value,
  trivial, Cert.GateValue.value, trivial, Cert.MixValue.value,
  IdealRules.named_const.statement Cert.ScanIdeal.κ "mask" .f32 0xF149F2CA#32 ⊥ rfl, Cert.ScanValue.value,
  trivial, Cert.NormFwdValue.value, trivial, Cert.ConvFwdValue.value, trivial, Cert.PoolFwdValue.value,
  trivial, Cert.MixFwdValue.value, trivial, Cert.GateFwdValue.value, trivial, Cert.WinValue.value,
  trivial, Cert.DownValue.value, trivial, Cert.WideValue.value, trivial, Cert.GroupValue.value,
  Cert.AdamValue.names, Cert.AdamValue.value, trivial, Cert.HeadsValue.value⟩

end Cert.Proof

end
